-- ==== Defs.lean ====
def Pre_Kernel [hPre_slots_are_one_to_one : Cert.Pre_slots_are_one_to_one.Facts] (m : (ℓ : Loc Cert.Kernel.nD Cert.Kernel.τ Cert.Kernel.sig) → Buf (Elt Bits) ℓ) : Prop :=
  ∀ c : Dev Cert.Kernel.nD,
    (Cert.Pre_slots_are_one_to_one.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).1 = (fun _ => 1#1)
    ∧ (Cert.Pre_slots_are_one_to_one.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).2.1 = (fun _ => 1#1)
    ∧ (Cert.Pre_slots_are_one_to_one.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).2.2.1 = (fun _ => 1#1)
    ∧ (Cert.Pre_slots_are_one_to_one.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).2.2.2.1 = (fun _ => 1#1)
    ∧ (Cert.Pre_slots_are_one_to_one.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).2.2.2.2.1 = (fun _ => 1#1)
    ∧ (Cert.Pre_slots_are_one_to_one.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).2.2.2.2.2.1 = (fun _ => 1#1)
    ∧ (Cert.Pre_slots_are_one_to_one.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).2.2.2.2.2.2 = (fun _ => 1#1)

def Pre_KernelIdeal [hPre_slots_are_one_to_one : Cert.Pre_slots_are_one_to_one.Facts] (m : (ℓ : Loc Cert.KernelIdeal.nD Cert.KernelIdeal.τ Cert.KernelIdeal.sig) → Buf (Elt Ideal) ℓ) : Prop :=
  ∀ c : Dev Cert.KernelIdeal.nD,
    (Cert.Pre_slots_are_one_to_one.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_slots_are_one_to_one.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_slots_are_one_to_one.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 = (fun _ => 1#1)
    ∧ (Cert.Pre_slots_are_one_to_one.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.1 = (fun _ => 1#1)
    ∧ (Cert.Pre_slots_are_one_to_one.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2.1 = (fun _ => 1#1)
    ∧ (Cert.Pre_slots_are_one_to_one.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2.2.1 = (fun _ => 1#1)
    ∧ (Cert.Pre_slots_are_one_to_one.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_slots_are_one_to_one [hPre_slots_are_one_to_one : Cert.Pre_slots_are_one_to_one.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_slots_are_one_to_one.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_slots_are_one_to_one.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_slots_are_one_to_one.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.1 = (fun _ => 1#1)
    ∧ (Cert.Pre_slots_are_one_to_one.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.1 = (fun _ => 1#1)
    ∧ (Cert.Pre_slots_are_one_to_one.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.2.1 = (fun _ => 1#1)
    ∧ (Cert.Pre_slots_are_one_to_one.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.2.2.1 = (fun _ => 1#1)
    ∧ (Cert.Pre_slots_are_one_to_one.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.2.2.2 = (fun _ => 1#1)

def Pre_Reference [hPre_slots_are_one_to_one : Cert.Pre_slots_are_one_to_one.Facts] (m : (ℓ : Loc Cert.Reference.nD Cert.Reference.τ Cert.Reference.sig) → Buf (Elt Bits) ℓ) : Prop :=
  ∀ c : Dev Cert.Reference.nD,
    (Cert.Pre_slots_are_one_to_one.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))).1 = (fun _ => 1#1)
    ∧ (Cert.Pre_slots_are_one_to_one.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))).2.1 = (fun _ => 1#1)
    ∧ (Cert.Pre_slots_are_one_to_one.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))).2.2.1 = (fun _ => 1#1)
    ∧ (Cert.Pre_slots_are_one_to_one.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))).2.2.2.1 = (fun _ => 1#1)
    ∧ (Cert.Pre_slots_are_one_to_one.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))).2.2.2.2.1 = (fun _ => 1#1)
    ∧ (Cert.Pre_slots_are_one_to_one.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))).2.2.2.2.2.1 = (fun _ => 1#1)
    ∧ (Cert.Pre_slots_are_one_to_one.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))).2.2.2.2.2.2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Experts [hPre_blocks_have_experts : Cert.Pre_blocks_have_experts.Facts] (m : (ℓ : Loc Cert.Experts.nD Cert.Experts.τ Cert.Experts.sig) → Buf (Elt Bits) ℓ) : Prop :=
  ∀ c : Dev Cert.Experts.nD,
    (Cert.Pre_blocks_have_experts.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_blocks_have_experts : Cert.Pre_blocks_have_experts.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_blocks_have_experts.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_blocks_have_experts [hPre_blocks_have_experts : Cert.Pre_blocks_have_experts.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_blocks_have_experts.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6))) = (fun _ => 1#1)

def Pre_Memkv (m : (ℓ : Loc Cert.Memkv.nD Cert.Memkv.τ Cert.Memkv.sig) → Buf (Elt Bits) ℓ) : Prop :=
  True

def Pre_MemkvIdeal (m : (ℓ : Loc Cert.MemkvIdeal.nD Cert.MemkvIdeal.τ Cert.MemkvIdeal.sig) → Buf (Elt Ideal) ℓ) : Prop :=
  True

def Pre_MemkvReferenceIdeal (m : (ℓ : Loc Cert.MemkvReferenceIdeal.nD Cert.MemkvReferenceIdeal.τ Cert.MemkvReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def quiescent_Kernel [hKernel : Cert.Kernel.Facts] [hPre_slots_are_one_to_one : Cert.Pre_slots_are_one_to_one.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_slots_are_one_to_one : Cert.Pre_slots_are_one_to_one.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_slots_are_one_to_one [hReferenceIdeal : Cert.ReferenceIdeal.Facts] [hPre_slots_are_one_to_one : Cert.Pre_slots_are_one_to_one.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_slots_are_one_to_one m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] [hPre_slots_are_one_to_one : Cert.Pre_slots_are_one_to_one.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14)
      ∧ r.2.mem ((c.tc : Thread Cert.Merge.nD Cert.Merge.τ).loc Cert.Merge.main_arg15) = m ((c.tc : Thread Cert.Merge.nD Cert.Merge.τ).loc Cert.Merge.main_arg15))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12)
      ∧ r.2.mem ((c.tc : Thread Cert.MergeReferenceIdeal.nD Cert.MergeReferenceIdeal.τ).loc Cert.MergeReferenceIdeal.main_arg13) = m ((c.tc : Thread Cert.MergeReferenceIdeal.nD Cert.MergeReferenceIdeal.τ).loc Cert.MergeReferenceIdeal.main_arg13)
      ∧ r.2.mem ((c.tc : Thread Cert.MergeReferenceIdeal.nD Cert.MergeReferenceIdeal.τ).loc Cert.MergeReferenceIdeal.main_arg14) = m ((c.tc : Thread Cert.MergeReferenceIdeal.nD Cert.MergeReferenceIdeal.τ).loc Cert.MergeReferenceIdeal.main_arg14)
      ∧ r.2.mem ((c.tc : Thread Cert.MergeReferenceIdeal.nD Cert.MergeReferenceIdeal.τ).loc Cert.MergeReferenceIdeal.main_arg15) = m ((c.tc : Thread Cert.MergeReferenceIdeal.nD Cert.MergeReferenceIdeal.τ).loc Cert.MergeReferenceIdeal.main_arg15))
      ∧ r.2.sem = fun _ => 0)

def quiescent_Experts [hExperts : Cert.Experts.Facts] [hPre_blocks_have_experts : Cert.Pre_blocks_have_experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_blocks_have_experts : Cert.Pre_blocks_have_experts.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_ExpertsReferenceIdeal_pre_blocks_have_experts [hExpertsReferenceIdeal : Cert.ExpertsReferenceIdeal.Facts] [hPre_blocks_have_experts : Cert.Pre_blocks_have_experts.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_blocks_have_experts m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_Memkv [hMemkv : Cert.Memkv.Facts] : Prop :=
  ∀ (m : (ℓ : Loc Cert.Memkv.nD Cert.Memkv.τ Cert.Memkv.sig) → Buf (Elt Bits) ℓ) (g : Dev Cert.Memkv.nD → PrngReg), Pre_Memkv m →
    θ_run (Cert.Memkv.defs (F := Bits)) (onTc (τ := Cert.Memkv.τ) (Cert.Memkv.main (F := Bits))) ⟨m, fun _ => 0, g⟩ (fun r => (∀ c : Dev Cert.Memkv.nD,
      r.2.mem ((c.tc : Thread Cert.Memkv.nD Cert.Memkv.τ).loc Cert.Memkv.main_arg0) = m ((c.tc : Thread Cert.Memkv.nD Cert.Memkv.τ).loc Cert.Memkv.main_arg0)
      ∧ r.2.mem ((c.tc : Thread Cert.Memkv.nD Cert.Memkv.τ).loc Cert.Memkv.main_arg1) = m ((c.tc : Thread Cert.Memkv.nD Cert.Memkv.τ).loc Cert.Memkv.main_arg1)
      ∧ r.2.mem ((c.tc : Thread Cert.Memkv.nD Cert.Memkv.τ).loc Cert.Memkv.main_arg2) = m ((c.tc : Thread Cert.Memkv.nD Cert.Memkv.τ).loc Cert.Memkv.main_arg2))
      ∧ r.2.sem = fun _ => 0)

def quiescent_MemkvIdeal [hMemkvIdeal : Cert.MemkvIdeal.Facts] : Prop :=
  ∀ (m : (ℓ : Loc Cert.MemkvIdeal.nD Cert.MemkvIdeal.τ Cert.MemkvIdeal.sig) → Buf (Elt Ideal) ℓ) (g : Dev Cert.MemkvIdeal.nD → PrngReg), Pre_MemkvIdeal m →
    θ_run (Cert.MemkvIdeal.defs (F := Ideal)) (onTc (τ := Cert.MemkvIdeal.τ) (Cert.MemkvIdeal.main (F := Ideal))) ⟨m, fun _ => 0, g⟩ (fun r => (∀ c : Dev Cert.MemkvIdeal.nD,
      r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
      ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
      ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2))
      ∧ r.2.sem = fun _ => 0)

def quiescent_MemkvReferenceIdeal [hMemkvReferenceIdeal : Cert.MemkvReferenceIdeal.Facts] : Prop :=
  ∀ (m : (ℓ : Loc Cert.MemkvReferenceIdeal.nD Cert.MemkvReferenceIdeal.τ Cert.MemkvReferenceIdeal.sig) → Buf (Elt Ideal) ℓ) (g : Dev Cert.MemkvReferenceIdeal.nD → PrngReg), Pre_MemkvReferenceIdeal m →
    θ_run (Cert.MemkvReferenceIdeal.defs (F := Ideal)) (onTc (τ := Cert.MemkvReferenceIdeal.τ) (Cert.MemkvReferenceIdeal.main (F := Ideal))) ⟨m, fun _ => 0, g⟩ (fun r => (∀ c : Dev Cert.MemkvReferenceIdeal.nD,
      r.2.mem ((c.tc : Thread Cert.MemkvReferenceIdeal.nD Cert.MemkvReferenceIdeal.τ).loc Cert.MemkvReferenceIdeal.main_arg0) = m ((c.tc : Thread Cert.MemkvReferenceIdeal.nD Cert.MemkvReferenceIdeal.τ).loc Cert.MemkvReferenceIdeal.main_arg0)
      ∧ r.2.mem ((c.tc : Thread Cert.MemkvReferenceIdeal.nD Cert.MemkvReferenceIdeal.τ).loc Cert.MemkvReferenceIdeal.main_arg1) = m ((c.tc : Thread Cert.MemkvReferenceIdeal.nD Cert.MemkvReferenceIdeal.τ).loc Cert.MemkvReferenceIdeal.main_arg1)
      ∧ r.2.mem ((c.tc : Thread Cert.MemkvReferenceIdeal.nD Cert.MemkvReferenceIdeal.τ).loc Cert.MemkvReferenceIdeal.main_arg2) = m ((c.tc : Thread Cert.MemkvReferenceIdeal.nD Cert.MemkvReferenceIdeal.τ).loc Cert.MemkvReferenceIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_slots_are_one_to_one : Cert.Pre_slots_are_one_to_one.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def bitexact_Kernel_Reference [hKernel : Cert.Kernel.Facts] [hReference : Cert.Reference.Facts] [hPre_slots_are_one_to_one : Cert.Pre_slots_are_one_to_one.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v21) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)
      ∧ m' ((c.tc : Thread Cert.MergeReferenceIdeal.nD Cert.MergeReferenceIdeal.τ).loc Cert.MergeReferenceIdeal.main_arg12) = m ((c.tc : Thread Cert.MergeIdeal.nD Cert.MergeIdeal.τ).loc Cert.MergeIdeal.main_arg12)
      ∧ m' ((c.tc : Thread Cert.MergeReferenceIdeal.nD Cert.MergeReferenceIdeal.τ).loc Cert.MergeReferenceIdeal.main_arg13) = m ((c.tc : Thread Cert.MergeIdeal.nD Cert.MergeIdeal.τ).loc Cert.MergeIdeal.main_arg13)
      ∧ m' ((c.tc : Thread Cert.MergeReferenceIdeal.nD Cert.MergeReferenceIdeal.τ).loc Cert.MergeReferenceIdeal.main_arg14) = m ((c.tc : Thread Cert.MergeIdeal.nD Cert.MergeIdeal.τ).loc Cert.MergeIdeal.main_arg14)
      ∧ m' ((c.tc : Thread Cert.MergeReferenceIdeal.nD Cert.MergeReferenceIdeal.τ).loc Cert.MergeReferenceIdeal.main_arg15) = m ((c.tc : Thread Cert.MergeIdeal.nD Cert.MergeIdeal.τ).loc Cert.MergeIdeal.main_arg15)) →
    ∃ (v0 : (c : Dev Cert.MergeIdeal.nD) → Buf (Elt Ideal) ((c.tc : Thread Cert.MergeIdeal.nD Cert.MergeIdeal.τ).loc Cert.MergeIdeal.main_v22_0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v22_0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
          ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v82) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11)
          ∧ r.2.mem ((c.tc : Thread Cert.MergeReferenceIdeal.nD Cert.MergeReferenceIdeal.τ).loc Cert.MergeReferenceIdeal.main_arg12) = m' ((c.tc : Thread Cert.MergeReferenceIdeal.nD Cert.MergeReferenceIdeal.τ).loc Cert.MergeReferenceIdeal.main_arg12)
          ∧ r.2.mem ((c.tc : Thread Cert.MergeReferenceIdeal.nD Cert.MergeReferenceIdeal.τ).loc Cert.MergeReferenceIdeal.main_arg13) = m' ((c.tc : Thread Cert.MergeReferenceIdeal.nD Cert.MergeReferenceIdeal.τ).loc Cert.MergeReferenceIdeal.main_arg13)
          ∧ r.2.mem ((c.tc : Thread Cert.MergeReferenceIdeal.nD Cert.MergeReferenceIdeal.τ).loc Cert.MergeReferenceIdeal.main_arg14) = m' ((c.tc : Thread Cert.MergeReferenceIdeal.nD Cert.MergeReferenceIdeal.τ).loc Cert.MergeReferenceIdeal.main_arg14)
          ∧ r.2.mem ((c.tc : Thread Cert.MergeReferenceIdeal.nD Cert.MergeReferenceIdeal.τ).loc Cert.MergeReferenceIdeal.main_arg15) = m' ((c.tc : Thread Cert.MergeReferenceIdeal.nD Cert.MergeReferenceIdeal.τ).loc Cert.MergeReferenceIdeal.main_arg15))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_blocks_have_experts : Cert.Pre_blocks_have_experts.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v8)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v8) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v50) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6))

def preserves_Memkv_MemkvIdeal : Prop :=
  True

def algebraic_MemkvIdeal_MemkvReferenceIdeal [hMemkvIdeal : Cert.MemkvIdeal.Facts] [hMemkvReferenceIdeal : Cert.MemkvReferenceIdeal.Facts] : Prop :=
  ∀ (m : (ℓ : Loc Cert.MemkvIdeal.nD Cert.MemkvIdeal.τ Cert.MemkvIdeal.sig) → Buf (Elt Ideal) ℓ) (g : Dev Cert.MemkvIdeal.nD → PrngReg)
    (m' : (ℓ : Loc Cert.MemkvReferenceIdeal.nD Cert.MemkvReferenceIdeal.τ Cert.MemkvReferenceIdeal.sig) → Buf (Elt Ideal) ℓ) (g' : Dev Cert.MemkvReferenceIdeal.nD → PrngReg), Pre_MemkvIdeal m →
    (∀ c : Dev Cert.MemkvIdeal.nD,
      m' ((c.tc : Thread Cert.MemkvReferenceIdeal.nD Cert.MemkvReferenceIdeal.τ).loc Cert.MemkvReferenceIdeal.main_arg0) = m ((c.tc : Thread Cert.MemkvIdeal.nD Cert.MemkvIdeal.τ).loc Cert.MemkvIdeal.main_arg0)
      ∧ m' ((c.tc : Thread Cert.MemkvReferenceIdeal.nD Cert.MemkvReferenceIdeal.τ).loc Cert.MemkvReferenceIdeal.main_arg1) = m ((c.tc : Thread Cert.MemkvIdeal.nD Cert.MemkvIdeal.τ).loc Cert.MemkvIdeal.main_arg1)
      ∧ m' ((c.tc : Thread Cert.MemkvReferenceIdeal.nD Cert.MemkvReferenceIdeal.τ).loc Cert.MemkvReferenceIdeal.main_arg2) = m ((c.tc : Thread Cert.MemkvIdeal.nD Cert.MemkvIdeal.τ).loc Cert.MemkvIdeal.main_arg2)) →
    ∃ (v0 : (c : Dev Cert.MemkvIdeal.nD) → Buf (Elt Ideal) ((c.tc : Thread Cert.MemkvIdeal.nD Cert.MemkvIdeal.τ).loc Cert.MemkvIdeal.main_v5)),
      θ_run (Cert.MemkvIdeal.defs (F := Ideal)) (onTc (τ := Cert.MemkvIdeal.τ) (Cert.MemkvIdeal.main (F := Ideal))) ⟨m, fun _ => 0, g⟩ (fun r => ∀ c : Dev Cert.MemkvIdeal.nD,
          r.2.mem ((c.tc : Thread Cert.MemkvIdeal.nD Cert.MemkvIdeal.τ).loc Cert.MemkvIdeal.main_v5) = v0 c
          ∧ r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
          ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
          ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2))
      ∧ θ_run (Cert.MemkvReferenceIdeal.defs (F := Ideal)) (onTc (τ := Cert.MemkvReferenceIdeal.τ) (Cert.MemkvReferenceIdeal.main (F := Ideal))) ⟨m', fun _ => 0, g'⟩ (fun r => ∀ c : Dev Cert.MemkvReferenceIdeal.nD,
          r.2.mem ((c.tc : Thread Cert.MemkvReferenceIdeal.nD Cert.MemkvReferenceIdeal.τ).loc Cert.MemkvReferenceIdeal.main_v17) = v0 c
          ∧ r.2.mem ((c.tc : Thread Cert.MemkvReferenceIdeal.nD Cert.MemkvReferenceIdeal.τ).loc Cert.MemkvReferenceIdeal.main_arg0) = m' ((c.tc : Thread Cert.MemkvReferenceIdeal.nD Cert.MemkvReferenceIdeal.τ).loc Cert.MemkvReferenceIdeal.main_arg0)
          ∧ r.2.mem ((c.tc : Thread Cert.MemkvReferenceIdeal.nD Cert.MemkvReferenceIdeal.τ).loc Cert.MemkvReferenceIdeal.main_arg1) = m' ((c.tc : Thread Cert.MemkvReferenceIdeal.nD Cert.MemkvReferenceIdeal.τ).loc Cert.MemkvReferenceIdeal.main_arg1)
          ∧ r.2.mem ((c.tc : Thread Cert.MemkvReferenceIdeal.nD Cert.MemkvReferenceIdeal.τ).loc Cert.MemkvReferenceIdeal.main_arg2) = m' ((c.tc : Thread Cert.MemkvReferenceIdeal.nD Cert.MemkvReferenceIdeal.τ).loc Cert.MemkvReferenceIdeal.main_arg2))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v25_0)) (v1 : (c : Dev Cert.ProjIdeal.nD) → Buf (Elt Ideal) ((c.tc : Thread Cert.ProjIdeal.nD Cert.ProjIdeal.τ).loc Cert.ProjIdeal.main_v25_1)) (v2 : (c : Dev Cert.ProjIdeal.nD) → Buf (Elt Ideal) ((c.tc : Thread Cert.ProjIdeal.nD Cert.ProjIdeal.τ).loc Cert.ProjIdeal.main_v25_2)) (v3 : (c : Dev Cert.ProjIdeal.nD) → Buf (Elt Ideal) ((c.tc : Thread Cert.ProjIdeal.nD Cert.ProjIdeal.τ).loc Cert.ProjIdeal.main_v25_3)) (v4 : (c : Dev Cert.ProjIdeal.nD) → Buf (Elt Ideal) ((c.tc : Thread Cert.ProjIdeal.nD Cert.ProjIdeal.τ).loc Cert.ProjIdeal.main_v25_4)) (v5 : (c : Dev Cert.ProjIdeal.nD) → Buf (Elt Ideal) ((c.tc : Thread Cert.ProjIdeal.nD Cert.ProjIdeal.τ).loc Cert.ProjIdeal.main_v25_5)) (v6 : (c : Dev Cert.ProjIdeal.nD) → Buf (Elt Ideal) ((c.tc : Thread Cert.ProjIdeal.nD Cert.ProjIdeal.τ).loc Cert.ProjIdeal.main_v25_6)) (v7 : (c : Dev Cert.ProjIdeal.nD) → Buf (Elt Ideal) ((c.tc : Thread Cert.ProjIdeal.nD Cert.ProjIdeal.τ).loc Cert.ProjIdeal.main_v25_7)) (v8 : (c : Dev Cert.ProjIdeal.nD) → Buf (Elt Ideal) ((c.tc : Thread Cert.ProjIdeal.nD Cert.ProjIdeal.τ).loc Cert.ProjIdeal.main_v25_8)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v25_0) = v0 c
          ∧ r.2.mem ((c.tc : Thread Cert.ProjIdeal.nD Cert.ProjIdeal.τ).loc Cert.ProjIdeal.main_v25_1) = v1 c
          ∧ r.2.mem ((c.tc : Thread Cert.ProjIdeal.nD Cert.ProjIdeal.τ).loc Cert.ProjIdeal.main_v25_2) = v2 c
          ∧ r.2.mem ((c.tc : Thread Cert.ProjIdeal.nD Cert.ProjIdeal.τ).loc Cert.ProjIdeal.main_v25_3) = v3 c
          ∧ r.2.mem ((c.tc : Thread Cert.ProjIdeal.nD Cert.ProjIdeal.τ).loc Cert.ProjIdeal.main_v25_4) = v4 c
          ∧ r.2.mem ((c.tc : Thread Cert.ProjIdeal.nD Cert.ProjIdeal.τ).loc Cert.ProjIdeal.main_v25_5) = v5 c
          ∧ r.2.mem ((c.tc : Thread Cert.ProjIdeal.nD Cert.ProjIdeal.τ).loc Cert.ProjIdeal.main_v25_6) = v6 c
          ∧ r.2.mem ((c.tc : Thread Cert.ProjIdeal.nD Cert.ProjIdeal.τ).loc Cert.ProjIdeal.main_v25_7) = v7 c
          ∧ r.2.mem ((c.tc : Thread Cert.ProjIdeal.nD Cert.ProjIdeal.τ).loc Cert.ProjIdeal.main_v25_8) = v8 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v26) = v0 c
          ∧ r.2.mem ((c.tc : Thread Cert.ProjReferenceIdeal.nD Cert.ProjReferenceIdeal.τ).loc Cert.ProjReferenceIdeal.main_v28) = v1 c
          ∧ r.2.mem ((c.tc : Thread Cert.ProjReferenceIdeal.nD Cert.ProjReferenceIdeal.τ).loc Cert.ProjReferenceIdeal.main_v30) = v2 c
          ∧ r.2.mem ((c.tc : Thread Cert.ProjReferenceIdeal.nD Cert.ProjReferenceIdeal.τ).loc Cert.ProjReferenceIdeal.main_v35) = v3 c
          ∧ r.2.mem ((c.tc : Thread Cert.ProjReferenceIdeal.nD Cert.ProjReferenceIdeal.τ).loc Cert.ProjReferenceIdeal.main_v40) = v4 c
          ∧ r.2.mem ((c.tc : Thread Cert.ProjReferenceIdeal.nD Cert.ProjReferenceIdeal.τ).loc Cert.ProjReferenceIdeal.main_v43) = v5 c
          ∧ r.2.mem ((c.tc : Thread Cert.ProjReferenceIdeal.nD Cert.ProjReferenceIdeal.τ).loc Cert.ProjReferenceIdeal.main_v46) = v6 c
          ∧ r.2.mem ((c.tc : Thread Cert.ProjReferenceIdeal.nD Cert.ProjReferenceIdeal.τ).loc Cert.ProjReferenceIdeal.main_v49) = v7 c
          ∧ r.2.mem ((c.tc : Thread Cert.ProjReferenceIdeal.nD Cert.ProjReferenceIdeal.τ).loc Cert.ProjReferenceIdeal.main_v53) = v8 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def Claim : Prop :=
  ∃ (hKernel : Cert.Kernel.Facts) (hKernelIdeal : Cert.KernelIdeal.Facts) (hReferenceIdeal : Cert.ReferenceIdeal.Facts) (hReference : Cert.Reference.Facts) (hMerge : Cert.Merge.Facts) (hMergeIdeal : Cert.MergeIdeal.Facts) (hMergeReferenceIdeal : Cert.MergeReferenceIdeal.Facts) (hExperts : Cert.Experts.Facts) (hExpertsIdeal : Cert.ExpertsIdeal.Facts) (hExpertsReferenceIdeal : Cert.ExpertsReferenceIdeal.Facts) (hMemkv : Cert.Memkv.Facts) (hMemkvIdeal : Cert.MemkvIdeal.Facts) (hMemkvReferenceIdeal : Cert.MemkvReferenceIdeal.Facts) (hProj : Cert.Proj.Facts) (hProjIdeal : Cert.ProjIdeal.Facts) (hProjReferenceIdeal : Cert.ProjReferenceIdeal.Facts) (hPre_slots_are_one_to_one : Cert.Pre_slots_are_one_to_one.Facts) (hPre_blocks_have_experts : Cert.Pre_blocks_have_experts.Facts),
    quiescent_Kernel (hKernel := hKernel) (hPre_slots_are_one_to_one := hPre_slots_are_one_to_one)
    ∧ quiescent_KernelIdeal (hKernelIdeal := hKernelIdeal) (hPre_slots_are_one_to_one := hPre_slots_are_one_to_one)
    ∧ quiescent_ReferenceIdeal (hReferenceIdeal := hReferenceIdeal)
    ∧ quiescent_ReferenceIdeal_pre_slots_are_one_to_one (hReferenceIdeal := hReferenceIdeal) (hPre_slots_are_one_to_one := hPre_slots_are_one_to_one)
    ∧ quiescent_Reference (hReference := hReference) (hPre_slots_are_one_to_one := hPre_slots_are_one_to_one)
    ∧ quiescent_Merge (hMerge := hMerge)
    ∧ quiescent_MergeIdeal (hMergeIdeal := hMergeIdeal)
    ∧ quiescent_MergeReferenceIdeal (hMergeReferenceIdeal := hMergeReferenceIdeal)
    ∧ quiescent_Experts (hExperts := hExperts) (hPre_blocks_have_experts := hPre_blocks_have_experts)
    ∧ quiescent_ExpertsIdeal (hExpertsIdeal := hExpertsIdeal) (hPre_blocks_have_experts := hPre_blocks_have_experts)
    ∧ quiescent_ExpertsReferenceIdeal (hExpertsReferenceIdeal := hExpertsReferenceIdeal)
    ∧ quiescent_ExpertsReferenceIdeal_pre_blocks_have_experts (hExpertsReferenceIdeal := hExpertsReferenceIdeal) (hPre_blocks_have_experts := hPre_blocks_have_experts)
    ∧ quiescent_Memkv (hMemkv := hMemkv)
    ∧ quiescent_MemkvIdeal (hMemkvIdeal := hMemkvIdeal)
    ∧ quiescent_MemkvReferenceIdeal (hMemkvReferenceIdeal := hMemkvReferenceIdeal)
    ∧ quiescent_Proj (hProj := hProj)
    ∧ quiescent_ProjIdeal (hProjIdeal := hProjIdeal)
    ∧ quiescent_ProjReferenceIdeal (hProjReferenceIdeal := hProjReferenceIdeal)
    ∧ preserves_Kernel_KernelIdeal
    ∧ algebraic_KernelIdeal_ReferenceIdeal (hKernelIdeal := hKernelIdeal) (hReferenceIdeal := hReferenceIdeal) (hPre_slots_are_one_to_one := hPre_slots_are_one_to_one)
    ∧ bitexact_Kernel_Reference (hKernel := hKernel) (hReference := hReference) (hPre_slots_are_one_to_one := hPre_slots_are_one_to_one)
    ∧ preserves_Merge_MergeIdeal
    ∧ algebraic_MergeIdeal_MergeReferenceIdeal (hMergeIdeal := hMergeIdeal) (hMergeReferenceIdeal := hMergeReferenceIdeal)
    ∧ preserves_Experts_ExpertsIdeal
    ∧ algebraic_ExpertsIdeal_ExpertsReferenceIdeal (hExpertsIdeal := hExpertsIdeal) (hExpertsReferenceIdeal := hExpertsReferenceIdeal) (hPre_blocks_have_experts := hPre_blocks_have_experts)
    ∧ preserves_Memkv_MemkvIdeal
    ∧ algebraic_MemkvIdeal_MemkvReferenceIdeal (hMemkvIdeal := hMemkvIdeal) (hMemkvReferenceIdeal := hMemkvReferenceIdeal)
    ∧ preserves_Proj_ProjIdeal
    ∧ algebraic_ProjIdeal_ProjReferenceIdeal (hProjIdeal := hProjIdeal) (hProjReferenceIdeal := hProjReferenceIdeal)
-- ==== Pre_blocks_have_experts.lean ====
abbrev S288 : Shape := ⟨1, ![288]⟩
abbrev S1 : Shape := ⟨1, ![1]⟩
abbrev S147456x1024 : Shape := ⟨2, ![147456, 1024]⟩
abbrev S1x1024 : Shape := ⟨2, ![1, 1024]⟩
abbrev S1x32x1024x512 : Shape := ⟨4, ![1, 32, 1024, 512]⟩
abbrev S1x32x512x1024 : Shape := ⟨4, ![1, 32, 512, 1024]⟩
abbrev S_ : Shape := ⟨0, ![]⟩

class Facts : Prop where
  bcast_S_S288 : S_.BroadcastsInDim S288 (![] : Fin 0 → Fin S288.rank)

variable [Facts]

def fn {F : FTy → Type} [FloatOps F] (main_arg0 : IVec S288 32) (main_arg1 : IVec S1 32) (main_arg2 : FVec F S147456x1024 .f32) (main_arg3 : FVec F S1x1024 .f32) (main_arg4 : FVec F S1x32x1024x512 .f32) (main_arg5 : FVec F S1x32x1024x512 .f32) (main_arg6 : FVec F S1x32x512x1024 .f32) : IVec S288 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  main_v4
-- ==== Pre_slots_are_one_to_one.lean ====
abbrev S128x1x1024 : Shape := ⟨3, ![128, 1, 1024]⟩
abbrev S3x33 : Shape := ⟨2, ![3, 33]⟩
abbrev S65536x1024 : Shape := ⟨2, ![65536, 1024]⟩
abbrev S131072 : Shape := ⟨1, ![131072]⟩
abbrev S147456 : Shape := ⟨1, ![147456]⟩
abbrev S_ : Shape := ⟨0, ![]⟩
abbrev S131072x1 : Shape := ⟨2, ![131072, 1]⟩
abbrev S1x32 : Shape := ⟨2, ![1, 32]⟩
abbrev S32 : Shape := ⟨1, ![32]⟩
abbrev S1x1 : Shape := ⟨2, ![1, 1]⟩
abbrev S147456x1 : Shape := ⟨2, ![147456, 1]⟩
abbrev S147456x32 : Shape := ⟨2, ![147456, 32]⟩
abbrev S31 : Shape := ⟨1, ![31]⟩
abbrev S1 : Shape := ⟨1, ![1]⟩

class Facts : Prop where
  shapeCasts_S128x1x1024_S131072 : S128x1x1024.ShapeCasts S131072
  bcast_S_S147456 : S_.BroadcastsInDim S147456 (![] : Fin 0 → Fin S147456.rank)
  bcast_S_S131072 : S_.BroadcastsInDim S131072 (![] : Fin 0 → Fin S131072.rank)
  bcast_S131072_S131072x1_0 : S131072.BroadcastsInDim S131072x1 (![0] : Fin 1 → Fin S131072x1.rank)
  slices_S3x33_S1x32_0_0 : S3x33.Slices ![0, 0] S1x32
  shapeCasts_S1x32_S32 : S1x32.ShapeCasts S32
  slices_S3x33_S1x32_1_0 : S3x33.Slices ![1, 0] S1x32
  slices_S3x33_S1x32_2_0 : S3x33.Slices ![2, 0] S1x32
  slices_S3x33_S1x1_0_32 : S3x33.Slices ![0, 32] S1x1
  shapeCasts_S1x1_S_ : S1x1.ShapeCasts S_
  slices_S3x33_S1x1_1_32 : S3x33.Slices ![1, 32] S1x1
  bcast_S32_S1x32_1 : S32.BroadcastsInDim S1x32 (![1] : Fin 1 → Fin S1x32.rank)
  bcast_S147456_S147456x1_0 : S147456.BroadcastsInDim S147456x1 (![0] : Fin 1 → Fin S147456x1.rank)
  bcast_S1x32_S147456x32_0_1 : S1x32.BroadcastsInDim S147456x32 (![0, 1] : Fin 2 → Fin S147456x32.rank)
  bcast_S147456x1_S147456x32_0_1 : S147456x1.BroadcastsInDim S147456x32 (![0, 1] : Fin 2 → Fin S147456x32.rank)
  reducesTo_S147456x32_S147456_d1 : S147456x32.ReducesTo [1] S147456
  h_S_ : 0 < S_.numel
  bcast_S_S32 : S_.BroadcastsInDim S32 (![] : Fin 0 → Fin S32.rank)
  slices_S32_S31_0 : S32.Slices ![0] S31
  slices_S32_S31_1 : S32.Slices ![1] S31
  slices_S32_S1_31 : S32.Slices ![31] S1
  shapeCasts_S1_S_ : S1.ShapeCasts S_
  scatter_S147456_S131072x1_S131072_n_0_0_1_wf : ScatterDims.WF S147456 S131072x1 S131072 [] [0] [0] 1
  gather_S147456_S131072x1_S131072_n_0_n_n_0_1_1_wf : GatherDims.WF S147456 S131072x1 S131072 [] [0] [] [0] [] 1 ![1]
  gather_S131072_S147456x1_S147456_n_0_n_n_0_1_1_wf : GatherDims.WF S131072 S147456x1 S147456 [] [0] [] [0] [] 1 ![1]

variable [Facts]

def scatter_S147456_S131072x1_S131072_n_0_0_1 : ScatterDims S147456 S131072x1 S131072 where
  updateWindowDims := []
  insertedWindowDims := [0]
  scatterDimsToOperandDims := [0]
  indexVectorDim := 1
  wf := scatter_S147456_S131072x1_S131072_n_0_0_1_wf
def gather_S147456_S131072x1_S131072_n_0_n_n_0_1_1 : GatherDims S147456 S131072x1 S131072 where
  offsetDims := []
  collapsedSliceDims := [0]
  operandBatchingDims := []
  startIndicesBatchingDims := []
  startIndexMap := [0]
  indexVectorDim := 1
  sliceSizes := ![1]
  wf := gather_S147456_S131072x1_S131072_n_0_n_n_0_1_1_wf
def gather_S131072_S147456x1_S147456_n_0_n_n_0_1_1 : GatherDims S131072 S147456x1 S147456 where
  offsetDims := []
  collapsedSliceDims := [0]
  operandBatchingDims := []
  startIndicesBatchingDims := []
  startIndexMap := [0]
  indexVectorDim := 1
  sliceSizes := ![1]
  wf := gather_S131072_S147456x1_S147456_n_0_n_n_0_1_1_wf
def fn_part4 {F : FTy → Type} [FloatOps F] (main_v0 : IVec S131072 32) (main_v2 : IVec S147456 32) (main_v10 : IVec S147456 32) (main_v16 : IVec S32 32) (main_v18 : IVec S_ 32) (main_v36 : IVec S147456 1) (main_v41 : IVec S131072 1) (main_v49 : IVec S131072 1) (main_v56 : IVec S32 1) (main_v69 : IVec S32 1) (main_v72 : IVec S31 1) (main_v75 : IVec S_ 1) (main_v77 : IVec S_ 1) : IVec S131072 1 × IVec S131072 1 × IVec S32 1 × IVec S32 1 × IVec S31 1 × IVec S_ 1 × IVec S147456 1 :=
  let main_v78 : IVec S_ 1 := andi main_v75 main_v77
  let main_v79 : IVec S1 32 := (extractStridedSlice S1 ![31] · slices_S32_S1_31) main_v16
  let main_v80 : IVec S_ 32 := shapeCast S_ main_v79 shapeCasts_S1_S_
  let main_c_17 : IVec S_ 32 := constantI S_ 32 512#32
  let main_v81 : IVec S_ 32 := muli main_v18 main_c_17
  let main_v82 : IVec S_ 1 := cmpi .sle main_v80 main_v81
  let main_v83 : IVec S_ 1 := andi main_v78 main_v82
  let main_c_18 : IVec S_ 32 := constantI S_ 32 0#32
  let main_v84 : IVec S147456 32 := broadcastInDim S147456 ![] bcast_S_S147456 main_c_18
  let main_v85 : IVec S147456 1 := cmpi .slt main_v10 main_v84
  let main_c_19 : IVec S_ 32 := constantI S_ 32 131072#32
  let main_v86 : IVec S147456 32 := broadcastInDim S147456 ![] bcast_S_S147456 main_c_19
  let main_v87 : IVec S147456 32 := addi main_v10 main_v86
  let main_v88 : IVec S147456 32 := select main_v85 main_v87 main_v10
  let main_v89 : IVec S147456x1 32 := broadcastInDim S147456x1 ![0] bcast_S147456_S147456x1_0 main_v88
  let main_v90 : IVec S147456 32 := (fun x i => Host.gather gather_S131072_S147456x1_S147456_n_0_n_n_0_1_1 x i) main_v0 main_v89
  let main_v91 : IVec S147456 1 := cmpi .eq main_v90 main_v2
  let main_v92 : IVec S147456 1 := cmpi .ne main_v91 main_v36
  (main_v41, main_v49, main_v56, main_v69, main_v72, main_v83, main_v92)

def fn_part3 {F : FTy → Type} [FloatOps F] (main_v0 : IVec S131072 32) (main_v2 : IVec S147456 32) (main_v10 : IVec S147456 32) (main_v12 : IVec S32 32) (main_v14 : IVec S32 32) (main_v16 : IVec S32 32) (main_v18 : IVec S_ 32) (main_v20 : IVec S_ 32) (main_v36 : IVec S147456 1) (main_v41 : IVec S131072 1) (main_v49 : IVec S131072 1) (main_v56 : IVec S32 1) (main_v58 : IVec S32 1) (main_c_11 : IVec S_ 32) : IVec S131072 1 × IVec S131072 1 × IVec S32 1 × IVec S32 1 × IVec S31 1 × IVec S_ 1 × IVec S147456 1 :=
  let main_v59 : IVec S32 32 := broadcastInDim S32 ![] bcast_S_S32 main_c_11
  let main_v60 : IVec S32 1 := cmpi .slt main_v14 main_v59
  let main_v61 : IVec S32 1 := andi main_v58 main_v60
  let main_v62 : IVec S32 32 := subi main_v16 main_v14
  let main_v63 : IVec S32 1 := cmpi .eq main_v62 main_v12
  let main_v64 : IVec S32 1 := andi main_v61 main_v63
  let main_c_12 : IVec S_ 32 := constantI S_ 32 511#32
  let main_v65 : IVec S32 32 := broadcastInDim S32 ![] bcast_S_S32 main_c_12
  let main_v66 : IVec S32 32 := andi main_v16 main_v65
  let main_c_13 : IVec S_ 32 := constantI S_ 32 0#32
  let main_v67 : IVec S32 32 := broadcastInDim S32 ![] bcast_S_S32 main_c_13
  let main_v68 : IVec S32 1 := cmpi .eq main_v66 main_v67
  let main_v69 : IVec S32 1 := andi main_v64 main_v68
  let main_v70 : IVec S31 32 := (extractStridedSlice S31 ![0] · slices_S32_S31_0) main_v16
  let main_v71 : IVec S31 32 := (extractStridedSlice S31 ![1] · slices_S32_S31_1) main_v12
  let main_v72 : IVec S31 1 := cmpi .sle main_v70 main_v71
  let main_c_14 : IVec S_ 32 := constantI S_ 32 0#32
  let main_v73 : IVec S_ 1 := cmpi .sge main_v18 main_c_14
  let main_c_15 : IVec S_ 32 := constantI S_ 32 288#32
  let main_v74 : IVec S_ 1 := cmpi .sle main_v18 main_c_15
  let main_v75 : IVec S_ 1 := andi main_v73 main_v74
  let main_v76 : IVec S_ 32 := addi main_v18 main_v20
  let main_c_16 : IVec S_ 32 := constantI S_ 32 288#32
  let main_v77 : IVec S_ 1 := cmpi .eq main_v76 main_c_16
  fn_part4 (F := F) main_v0 main_v2 main_v10 main_v16 main_v18 main_v36 main_v41 main_v49 main_v56 main_v69 main_v72 main_v75 main_v77

def fn_part2 {F : FTy → Type} [FloatOps F] (main_v0 : IVec S131072 32) (main_v1 : IVec S131072 32) (main_v2 : IVec S147456 32) (main_v10 : IVec S147456 32) (main_v12 : IVec S32 32) (main_v14 : IVec S32 32) (main_v16 : IVec S32 32) (main_v18 : IVec S_ 32) (main_v20 : IVec S_ 32) (main_v36 : IVec S147456 1) (main_v38 : IVec S131072 1) (main_v40 : IVec S131072 1) : IVec S131072 1 × IVec S131072 1 × IVec S32 1 × IVec S32 1 × IVec S31 1 × IVec S_ 1 × IVec S147456 1 :=
  let main_v41 : IVec S131072 1 := andi main_v38 main_v40
  let main_c_6 : IVec S_ 32 := constantI S_ 32 0#32
  let main_v42 : IVec S131072 32 := broadcastInDim S131072 ![] bcast_S_S131072 main_c_6
  let main_v43 : IVec S131072 1 := cmpi .slt main_v0 main_v42
  let main_c_7 : IVec S_ 32 := constantI S_ 32 147456#32
  let main_v44 : IVec S131072 32 := broadcastInDim S131072 ![] bcast_S_S131072 main_c_7
  let main_v45 : IVec S131072 32 := addi main_v0 main_v44
  let main_v46 : IVec S131072 32 := select main_v43 main_v45 main_v0
  let main_v47 : IVec S131072x1 32 := broadcastInDim S131072x1 ![0] bcast_S131072_S131072x1_0 main_v46
  let main_v48 : IVec S131072 32 := (fun x i => Host.gather gather_S147456_S131072x1_S131072_n_0_n_n_0_1_1 x i) main_v10 main_v47
  let main_v49 : IVec S131072 1 := cmpi .eq main_v48 main_v1
  let main_c_8 : IVec S_ 32 := constantI S_ 32 0#32
  let main_v50 : IVec S32 32 := broadcastInDim S32 ![] bcast_S_S32 main_c_8
  let main_v51 : IVec S32 1 := cmpi .sge main_v12 main_v50
  let main_v52 : IVec S32 1 := cmpi .sle main_v12 main_v16
  let main_v53 : IVec S32 1 := andi main_v51 main_v52
  let main_c_9 : IVec S_ 32 := constantI S_ 32 147456#32
  let main_v54 : IVec S32 32 := broadcastInDim S32 ![] bcast_S_S32 main_c_9
  let main_v55 : IVec S32 1 := cmpi .sle main_v16 main_v54
  let main_v56 : IVec S32 1 := andi main_v53 main_v55
  let main_c_10 : IVec S_ 32 := constantI S_ 32 0#32
  let main_v57 : IVec S32 32 := broadcastInDim S32 ![] bcast_S_S32 main_c_10
  let main_v58 : IVec S32 1 := cmpi .sge main_v14 main_v57
  let main_c_11 : IVec S_ 32 := constantI S_ 32 512#32
  fn_part3 (F := F) main_v0 main_v2 main_v10 main_v12 main_v14 main_v16 main_v18 main_v20 main_v36 main_v41 main_v49 main_v56 main_v58 main_c_11

def fn_part1 {F : FTy → Type} [FloatOps F] (main_v0 : IVec S131072 32) (main_v1 : IVec S131072 32) (main_v2 : IVec S147456 32) (main_v10 : IVec S147456 32) (main_v12 : IVec S32 32) (main_v14 : IVec S32 32) (main_v16 : IVec S32 32) (main_v18 : IVec S_ 32) (main_v20 : IVec S_ 32) : IVec S131072 1 × IVec S131072 1 × IVec S32 1 × IVec S32 1 × IVec S31 1 × IVec S_ 1 × IVec S147456 1 :=
  let main_v21 : IVec S1x32 32 := broadcastInDim S1x32 ![1] bcast_S32_S1x32_1 main_v12
  let main_v22 : IVec S147456x1 32 := broadcastInDim S147456x1 ![0] bcast_S147456_S147456x1_0 main_v2
  let main_v23 : IVec S147456x32 32 := broadcastInDim S147456x32 ![0, 1] bcast_S1x32_S147456x32_0_1 main_v21
  let main_v24 : IVec S147456x32 32 := broadcastInDim S147456x32 ![0, 1] bcast_S147456x1_S147456x32_0_1 main_v22
  let main_v25 : IVec S147456x32 1 := cmpi .sle main_v23 main_v24
  let main_v26 : IVec S147456x1 32 := broadcastInDim S147456x1 ![0] bcast_S147456_S147456x1_0 main_v2
  let main_v27 : IVec S1x32 32 := broadcastInDim S1x32 ![1] bcast_S32_S1x32_1 main_v16
  let main_v28 : IVec S147456x32 32 := broadcastInDim S147456x32 ![0, 1] bcast_S147456x1_S147456x32_0_1 main_v26
  let main_v29 : IVec S147456x32 32 := broadcastInDim S147456x32 ![0, 1] bcast_S1x32_S147456x32_0_1 main_v27
  let main_v30 : IVec S147456x32 1 := cmpi .slt main_v28 main_v29
  let main_v31 : IVec S147456x32 1 := andi main_v25 main_v30
  let main_c_2 : IVec S_ 1 := constantI S_ 1 0#1
  let main_v32 : IVec S147456 1 := (fun x v => Host.reduce IntOp.ori x v reducesTo_S147456x32_S147456_d1 h_S_) main_v31 main_c_2
  let main_c_3 : IVec S_ 32 := constantI S_ 32 512#32
  let main_v33 : IVec S_ 32 := muli main_v18 main_c_3
  let main_v34 : IVec S147456 32 := broadcastInDim S147456 ![] bcast_S_S147456 main_v33
  let main_v35 : IVec S147456 1 := cmpi .sle main_v34 main_v2
  let main_v36 : IVec S147456 1 := ori main_v32 main_v35
  let main_c_4 : IVec S_ 32 := constantI S_ 32 0#32
  let main_v37 : IVec S131072 32 := broadcastInDim S131072 ![] bcast_S_S131072 main_c_4
  let main_v38 : IVec S131072 1 := cmpi .sge main_v0 main_v37
  let main_c_5 : IVec S_ 32 := constantI S_ 32 147456#32
  let main_v39 : IVec S131072 32 := broadcastInDim S131072 ![] bcast_S_S131072 main_c_5
  let main_v40 : IVec S131072 1 := cmpi .slt main_v0 main_v39
  fn_part2 (F := F) main_v0 main_v1 main_v2 main_v10 main_v12 main_v14 main_v16 main_v18 main_v20 main_v36 main_v38 main_v40

def fn {F : FTy → Type} [FloatOps F] (main_arg0 : IVec S128x1x1024 32) (main_arg1 : IVec S3x33 32) (main_arg2 : FVec F S65536x1024 .f32) : IVec S131072 1 × IVec S131072 1 × IVec S32 1 × IVec S32 1 × IVec S31 1 × IVec S_ 1 × IVec S147456 1 :=
  let main_v0 : IVec S131072 32 := shapeCast S131072 main_arg0 shapeCasts_S128x1x1024_S131072
  let main_v1 : IVec S131072 32 := iotaInDim S131072 32 0
  let main_v2 : IVec S147456 32 := iotaInDim S147456 32 0
  let main_c : IVec S_ 32 := constantI S_ 32 0#32
  let main_v3 : IVec S147456 32 := broadcastInDim S147456 ![] bcast_S_S147456 main_c
  let main_c_0 : IVec S_ 32 := constantI S_ 32 0#32
  let main_v4 : IVec S131072 32 := broadcastInDim S131072 ![] bcast_S_S131072 main_c_0
  let main_v5 : IVec S131072 1 := cmpi .slt main_v0 main_v4
  let main_c_1 : IVec S_ 32 := constantI S_ 32 147456#32
  let main_v6 : IVec S131072 32 := broadcastInDim S131072 ![] bcast_S_S131072 main_c_1
  let main_v7 : IVec S131072 32 := addi main_v0 main_v6
  let main_v8 : IVec S131072 32 := select main_v5 main_v7 main_v0
  let main_v9 : IVec S131072x1 32 := broadcastInDim S131072x1 ![0] bcast_S131072_S131072x1_0 main_v8
  let main_v10 : IVec S147456 32 := (fun x i u => Host.scatter scatter_S147456_S131072x1_S131072_n_0_0_1 (fun _ b => b) x i u) main_v3 main_v9 main_v1
  let main_v11 : IVec S1x32 32 := (extractStridedSlice S1x32 ![0, 0] · slices_S3x33_S1x32_0_0) main_arg1
  let main_v12 : IVec S32 32 := shapeCast S32 main_v11 shapeCasts_S1x32_S32
  let main_v13 : IVec S1x32 32 := (extractStridedSlice S1x32 ![1, 0] · slices_S3x33_S1x32_1_0) main_arg1
  let main_v14 : IVec S32 32 := shapeCast S32 main_v13 shapeCasts_S1x32_S32
  let main_v15 : IVec S1x32 32 := (extractStridedSlice S1x32 ![2, 0] · slices_S3x33_S1x32_2_0) main_arg1
  let main_v16 : IVec S32 32 := shapeCast S32 main_v15 shapeCasts_S1x32_S32
  let main_v17 : IVec S1x1 32 := (extractStridedSlice S1x1 ![0, 32] · slices_S3x33_S1x1_0_32) main_arg1
  let main_v18 : IVec S_ 32 := shapeCast S_ main_v17 shapeCasts_S1x1_S_
  let main_v19 : IVec S1x1 32 := (extractStridedSlice S1x1 ![1, 32] · slices_S3x33_S1x1_1_32) main_arg1
  let main_v20 : IVec S_ 32 := shapeCast S_ main_v19 shapeCasts_S1x1_S_
  fn_part1 (F := F) main_v0 main_v1 main_v2 main_v10 main_v12 main_v14 main_v16 main_v18 main_v20
-- ==== Kernel.lean ====
abbrev S128x1x1024 : Shape := ⟨3, ![128, 1, 1024]⟩
abbrev S3x33 : Shape := ⟨2, ![3, 33]⟩
abbrev S65536x1024 : Shape := ⟨2, ![65536, 1024]⟩
abbrev S147456x1024 : Shape := ⟨2, ![147456, 1024]⟩
abbrev S1x1x1024 : Shape := ⟨3, ![1, 1, 1024]⟩
abbrev S512x1024 : Shape := ⟨2, ![512, 1024]⟩
abbrev S_ : Shape := ⟨0, ![]⟩
abbrev S1x1 : Shape := ⟨2, ![1, 1]⟩
abbrev S256x1024 : Shape := ⟨2, ![256, 1024]⟩
abbrev S128x1024 : Shape := ⟨2, ![128, 1024]⟩
abbrev S64x1024 : Shape := ⟨2, ![64, 1024]⟩
abbrev S32x1024 : Shape := ⟨2, ![32, 1024]⟩
abbrev S16x1024 : Shape := ⟨2, ![16, 1024]⟩
abbrev S8x1024 : Shape := ⟨2, ![8, 1024]⟩
abbrev S1x1024 : Shape := ⟨2, ![1, 1024]⟩
abbrev S1x1x1 : Shape := ⟨3, ![1, 1, 1]⟩

abbrev nBuf : Space → Nat
  | .hbm => 4
  | .vmem => 3
  | .smem => 3
  | _ => 0

abbrev bufTy : (tb : Table) → Fin (tcTables nBuf tb) → BufTy
  | .hbm, ⟨0, _⟩ => ⟨S128x1x1024, .i32⟩
  | .hbm, ⟨1, _⟩ => ⟨S3x33, .i32⟩
  | .hbm, ⟨2, _⟩ => ⟨S65536x1024, .f32⟩
  | .hbm, ⟨3, _⟩ => ⟨S147456x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .smem, ⟨0, _⟩ => ⟨S1x1x1024, .i32⟩
  | .local _ .smem, ⟨1, _⟩ => ⟨S1x1x1024, .i32⟩
  | .local _ .smem, ⟨2, _⟩ => ⟨S3x33, .i32⟩
  | _, _ => ⟨S128x1x1024, .i32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg2_0 : Ref sig .tc := ⟨.vmem, 0, rfl⟩
abbrev cc0_stg2_1 : Ref sig .tc := ⟨.vmem, 1, rfl⟩
abbrev cc0_scratch0 : Ref sig .tc := ⟨.vmem, 2, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_7 : BitVec 32 := 0#32
  let c32_i32 : BitVec 32 := 32#32
  let v11 : BitVec 32 := Scalar.addi c0_i32_7 c32_i32
  let c1_i32_8 : BitVec 32 := 1#32
  ⟨c0_i32_7, v11, c1_i32_8⟩
def k0_off1 (k0_t1 : Fin k0_t1_loop.trips) : Fin 2 → Nat :=
  let c0_15 : Index := 0#32
  let c0_i32_7 : BitVec 32 := 0#32
  let c1_i32_8 : BitVec 32 := 1#32
  let arg8 : BitVec 32 := Scf.iv c0_i32_7 c1_i32_8 k0_t1
  let v18 : Index := Scalar.indexCast arg8
  ![0, v18.toNat]
def k0_off2 (k0_t1 : Fin k0_t1_loop.trips) : Fin 2 → Nat :=
  let c1_16 : Index := 1#32
  let c0_i32_7 : BitVec 32 := 0#32
  let c1_i32_8 : BitVec 32 := 1#32
  let arg8 : BitVec 32 := Scf.iv c0_i32_7 c1_i32_8 k0_t1
  let v20 : Index := Scalar.indexCast arg8
  ![1, v20.toNat]
def k0_off3 (k0_t1 : Fin k0_t1_loop.trips) : Fin 2 → Nat :=
  let c2 : Index := 2#32
  let c0_i32_7 : BitVec 32 := 0#32
  let c1_i32_8 : BitVec 32 := 1#32
  let arg8 : BitVec 32 := Scf.iv c0_i32_7 c1_i32_8 k0_t1
  let v22 : Index := Scalar.indexCast arg8
  ![2, v22.toNat]
def k0_mult1 (v21 : BitVec 32) (v23 : BitVec 32) : BitVec 32 :=
  let c256_i32 : BitVec 32 := 256#32
  let v24 : BitVec 32 := Scalar.andi v21 c256_i32
  let c0_i32_17 : BitVec 32 := 0#32
  let v25 : BitVec 1 := Scalar.cmpi .ne v24 c0_i32_17
  let c256_i32_18 : BitVec 32 := 256#32
  let c0_i32_19 : BitVec 32 := 0#32
  let v26 : BitVec 32 := Scalar.select v25 c256_i32_18 c0_i32_19
  let v27 : BitVec 32 := Scalar.subi v23 v26
  v27
def k0_cond2 (v21 : BitVec 32) : BitVec 1 :=
  let c256_i32 : BitVec 32 := 256#32
  let v24 : BitVec 32 := Scalar.andi v21 c256_i32
  let c0_i32_17 : BitVec 32 := 0#32
  let v25 : BitVec 1 := Scalar.cmpi .ne v24 c0_i32_17
  let v28 : BitVec 32 := Scalar.extui v25
  let c0_i32_20 : BitVec 32 := 0#32
  let v29 : BitVec 1 := Scalar.cmpi .ne v28 c0_i32_20
  v29

def k0_off4 (v21 : BitVec 32) (v23 : BitVec 32) : Fin 2 → Nat :=
  let c256_i32 : BitVec 32 := 256#32
  let v24 : BitVec 32 := Scalar.andi v21 c256_i32
  let c0_i32_17 : BitVec 32 := 0#32
  let v25 : BitVec 1 := Scalar.cmpi .ne v24 c0_i32_17
  let c256_i32_18 : BitVec 32 := 256#32
  let c0_i32_19 : BitVec 32 := 0#32
  let v26 : BitVec 32 := Scalar.select v25 c256_i32_18 c0_i32_19
  let v27 : BitVec 32 := Scalar.subi v23 v26
  let v95 : BitVec 32 := v27
  let c0_i32_65 : BitVec 32 := 0#32
  ![v95.toNat, 0]
def k0_mult2 (v21 : BitVec 32) (v23 : BitVec 32) : BitVec 32 :=
  let c256_i32 : BitVec 32 := 256#32
  let v24 : BitVec 32 := Scalar.andi v21 c256_i32
  let c0_i32_17 : BitVec 32 := 0#32
  let v25 : BitVec 1 := Scalar.cmpi .ne v24 c0_i32_17
  let c256_i32_18 : BitVec 32 := 256#32
  let c0_i32_19 : BitVec 32 := 0#32
  let v26 : BitVec 32 := Scalar.select v25 c256_i32_18 c0_i32_19
  let v27 : BitVec 32 := Scalar.subi v23 v26
  let c128_i32 : BitVec 32 := 128#32
  let v30 : BitVec 32 := Scalar.andi v21 c128_i32
  let c0_i32_21 : BitVec 32 := 0#32
  let v31 : BitVec 1 := Scalar.cmpi .ne v30 c0_i32_21
  let c128_i32_22 : BitVec 32 := 128#32
  let c0_i32_23 : BitVec 32 := 0#32
  let v32 : BitVec 32 := Scalar.select v31 c128_i32_22 c0_i32_23
  let v33 : BitVec 32 := Scalar.subi v27 v32
  v33
def k0_cond3 (v21 : BitVec 32) : BitVec 1 :=
  let c128_i32 : BitVec 32 := 128#32
  let v30 : BitVec 32 := Scalar.andi v21 c128_i32
  let c0_i32_21 : BitVec 32 := 0#32
  let v31 : BitVec 1 := Scalar.cmpi .ne v30 c0_i32_21
  let v34 : BitVec 32 := Scalar.extui v31
  let c0_i32_24 : BitVec 32 := 0#32
  let v35 : BitVec 1 := Scalar.cmpi .ne v34 c0_i32_24
  v35

def k0_off5 (v21 : BitVec 32) (v23 : BitVec 32) : Fin 2 → Nat :=
  let c256_i32 : BitVec 32 := 256#32
  let v24 : BitVec 32 := Scalar.andi v21 c256_i32
  let c0_i32_17 : BitVec 32 := 0#32
  let v25 : BitVec 1 := Scalar.cmpi .ne v24 c0_i32_17
  let c256_i32_18 : BitVec 32 := 256#32
  let c0_i32_19 : BitVec 32 := 0#32
  let v26 : BitVec 32 := Scalar.select v25 c256_i32_18 c0_i32_19
  let v27 : BitVec 32 := Scalar.subi v23 v26
  let c128_i32 : BitVec 32 := 128#32
  let v30 : BitVec 32 := Scalar.andi v21 c128_i32
  let c0_i32_21 : BitVec 32 := 0#32
  let v31 : BitVec 1 := Scalar.cmpi .ne v30 c0_i32_21
  let c128_i32_22 : BitVec 32 := 128#32
  let c0_i32_23 : BitVec 32 := 0#32
  let v32 : BitVec 32 := Scalar.select v31 c128_i32_22 c0_i32_23
  let v33 : BitVec 32 := Scalar.subi v27 v32
  let v95 : BitVec 32 := v33
  let c0_i32_65 : BitVec 32 := 0#32
  ![v95.toNat, 0]
def k0_mult3 (v21 : BitVec 32) (v23 : BitVec 32) : BitVec 32 :=
  let c256_i32 : BitVec 32 := 256#32
  let v24 : BitVec 32 := Scalar.andi v21 c256_i32
  let c0_i32_17 : BitVec 32 := 0#32
  let v25 : BitVec 1 := Scalar.cmpi .ne v24 c0_i32_17
  let c256_i32_18 : BitVec 32 := 256#32
  let c0_i32_19 : BitVec 32 := 0#32
  let v26 : BitVec 32 := Scalar.select v25 c256_i32_18 c0_i32_19
  let v27 : BitVec 32 := Scalar.subi v23 v26
  let c128_i32 : BitVec 32 := 128#32
  let v30 : BitVec 32 := Scalar.andi v21 c128_i32
  let c0_i32_21 : BitVec 32 := 0#32
  let v31 : BitVec 1 := Scalar.cmpi .ne v30 c0_i32_21
  let c128_i32_22 : BitVec 32 := 128#32
  let c0_i32_23 : BitVec 32 := 0#32
  let v32 : BitVec 32 := Scalar.select v31 c128_i32_22 c0_i32_23
  let v33 : BitVec 32 := Scalar.subi v27 v32
  let c64_i32_25 : BitVec 32 := 64#32
  let v36 : BitVec 32 := Scalar.andi v21 c64_i32_25
  let c0_i32_26 : BitVec 32 := 0#32
  let v37 : BitVec 1 := Scalar.cmpi .ne v36 c0_i32_26
  let c64_i32_27 : BitVec 32 := 64#32
  let c0_i32_28 : BitVec 32 := 0#32
  let v38 : BitVec 32 := Scalar.select v37 c64_i32_27 c0_i32_28
  let v39 : BitVec 32 := Scalar.subi v33 v38
  v39
def k0_cond4 (v21 : BitVec 32) : BitVec 1 :=
  let c64_i32_25 : BitVec 32 := 64#32
  let v36 : BitVec 32 := Scalar.andi v21 c64_i32_25
  let c0_i32_26 : BitVec 32 := 0#32
  let v37 : BitVec 1 := Scalar.cmpi .ne v36 c0_i32_26
  let v40 : BitVec 32 := Scalar.extui v37
  let c0_i32_29 : BitVec 32 := 0#32
  let v41 : BitVec 1 := Scalar.cmpi .ne v40 c0_i32_29
  v41

def k0_off6 (v21 : BitVec 32) (v23 : BitVec 32) : Fin 2 → Nat :=
  let c256_i32 : BitVec 32 := 256#32
  let v24 : BitVec 32 := Scalar.andi v21 c256_i32
  let c0_i32_17 : BitVec 32 := 0#32
  let v25 : BitVec 1 := Scalar.cmpi .ne v24 c0_i32_17
  let c256_i32_18 : BitVec 32 := 256#32
  let c0_i32_19 : BitVec 32 := 0#32
  let v26 : BitVec 32 := Scalar.select v25 c256_i32_18 c0_i32_19
  let v27 : BitVec 32 := Scalar.subi v23 v26
  let c128_i32 : BitVec 32 := 128#32
  let v30 : BitVec 32 := Scalar.andi v21 c128_i32
  let c0_i32_21 : BitVec 32 := 0#32
  let v31 : BitVec 1 := Scalar.cmpi .ne v30 c0_i32_21
  let c128_i32_22 : BitVec 32 := 128#32
  let c0_i32_23 : BitVec 32 := 0#32
  let v32 : BitVec 32 := Scalar.select v31 c128_i32_22 c0_i32_23
  let v33 : BitVec 32 := Scalar.subi v27 v32
  let c64_i32_25 : BitVec 32 := 64#32
  let v36 : BitVec 32 := Scalar.andi v21 c64_i32_25
  let c0_i32_26 : BitVec 32 := 0#32
  let v37 : BitVec 1 := Scalar.cmpi .ne v36 c0_i32_26
  let c64_i32_27 : BitVec 32 := 64#32
  let c0_i32_28 : BitVec 32 := 0#32
  let v38 : BitVec 32 := Scalar.select v37 c64_i32_27 c0_i32_28
  let v39 : BitVec 32 := Scalar.subi v33 v38
  let v95 : BitVec 32 := v39
  let c0_i32_65 : BitVec 32 := 0#32
  ![v95.toNat, 0]
def k0_mult4 (v21 : BitVec 32) (v23 : BitVec 32) : BitVec 32 :=
  let c256_i32 : BitVec 32 := 256#32
  let v24 : BitVec 32 := Scalar.andi v21 c256_i32
  let c0_i32_17 : BitVec 32 := 0#32
  let v25 : BitVec 1 := Scalar.cmpi .ne v24 c0_i32_17
  let c256_i32_18 : BitVec 32 := 256#32
  let c0_i32_19 : BitVec 32 := 0#32
  let v26 : BitVec 32 := Scalar.select v25 c256_i32_18 c0_i32_19
  let v27 : BitVec 32 := Scalar.subi v23 v26
  let c128_i32 : BitVec 32 := 128#32
  let v30 : BitVec 32 := Scalar.andi v21 c128_i32
  let c0_i32_21 : BitVec 32 := 0#32
  let v31 : BitVec 1 := Scalar.cmpi .ne v30 c0_i32_21
  let c128_i32_22 : BitVec 32 := 128#32
  let c0_i32_23 : BitVec 32 := 0#32
  let v32 : BitVec 32 := Scalar.select v31 c128_i32_22 c0_i32_23
  let v33 : BitVec 32 := Scalar.subi v27 v32
  let c64_i32_25 : BitVec 32 := 64#32
  let v36 : BitVec 32 := Scalar.andi v21 c64_i32_25
  let c0_i32_26 : BitVec 32 := 0#32
  let v37 : BitVec 1 := Scalar.cmpi .ne v36 c0_i32_26
  let c64_i32_27 : BitVec 32 := 64#32
  let c0_i32_28 : BitVec 32 := 0#32
  let v38 : BitVec 32 := Scalar.select v37 c64_i32_27 c0_i32_28
  let v39 : BitVec 32 := Scalar.subi v33 v38
  let c32_i32_30 : BitVec 32 := 32#32
  let v42 : BitVec 32 := Scalar.andi v21 c32_i32_30
  let c0_i32_31 : BitVec 32 := 0#32
  let v43 : BitVec 1 := Scalar.cmpi .ne v42 c0_i32_31
  let c32_i32_32 : BitVec 32 := 32#32
  let c0_i32_33 : BitVec 32 := 0#32
  let v44 : BitVec 32 := Scalar.select v43 c32_i32_32 c0_i32_33
  let v45 : BitVec 32 := Scalar.subi v39 v44
  v45
def k0_cond5 (v21 : BitVec 32) : BitVec 1 :=
  let c32_i32_30 : BitVec 32 := 32#32
  let v42 : BitVec 32 := Scalar.andi v21 c32_i32_30
  let c0_i32_31 : BitVec 32 := 0#32
  let v43 : BitVec 1 := Scalar.cmpi .ne v42 c0_i32_31
  let v46 : BitVec 32 := Scalar.extui v43
  let c0_i32_34 : BitVec 32 := 0#32
  let v47 : BitVec 1 := Scalar.cmpi .ne v46 c0_i32_34
  v47

def k0_off7 (v21 : BitVec 32) (v23 : BitVec 32) : Fin 2 → Nat :=
  let c256_i32 : BitVec 32 := 256#32
  let v24 : BitVec 32 := Scalar.andi v21 c256_i32
  let c0_i32_17 : BitVec 32 := 0#32
  let v25 : BitVec 1 := Scalar.cmpi .ne v24 c0_i32_17
  let c256_i32_18 : BitVec 32 := 256#32
  let c0_i32_19 : BitVec 32 := 0#32
  let v26 : BitVec 32 := Scalar.select v25 c256_i32_18 c0_i32_19
  let v27 : BitVec 32 := Scalar.subi v23 v26
  let c128_i32 : BitVec 32 := 128#32
  let v30 : BitVec 32 := Scalar.andi v21 c128_i32
  let c0_i32_21 : BitVec 32 := 0#32
  let v31 : BitVec 1 := Scalar.cmpi .ne v30 c0_i32_21
  let c128_i32_22 : BitVec 32 := 128#32
  let c0_i32_23 : BitVec 32 := 0#32
  let v32 : BitVec 32 := Scalar.select v31 c128_i32_22 c0_i32_23
  let v33 : BitVec 32 := Scalar.subi v27 v32
  let c64_i32_25 : BitVec 32 := 64#32
  let v36 : BitVec 32 := Scalar.andi v21 c64_i32_25
  let c0_i32_26 : BitVec 32 := 0#32
  let v37 : BitVec 1 := Scalar.cmpi .ne v36 c0_i32_26
  let c64_i32_27 : BitVec 32 := 64#32
  let c0_i32_28 : BitVec 32 := 0#32
  let v38 : BitVec 32 := Scalar.select v37 c64_i32_27 c0_i32_28
  let v39 : BitVec 32 := Scalar.subi v33 v38
  let c32_i32_30 : BitVec 32 := 32#32
  let v42 : BitVec 32 := Scalar.andi v21 c32_i32_30
  let c0_i32_31 : BitVec 32 := 0#32
  let v43 : BitVec 1 := Scalar.cmpi .ne v42 c0_i32_31
  let c32_i32_32 : BitVec 32 := 32#32
  let c0_i32_33 : BitVec 32 := 0#32
  let v44 : BitVec 32 := Scalar.select v43 c32_i32_32 c0_i32_33
  let v45 : BitVec 32 := Scalar.subi v39 v44
  let v95 : BitVec 32 := v45
  let c0_i32_65 : BitVec 32 := 0#32
  ![v95.toNat, 0]
def k0_mult5 (v21 : BitVec 32) (v23 : BitVec 32) : BitVec 32 :=
  let c256_i32 : BitVec 32 := 256#32
  let v24 : BitVec 32 := Scalar.andi v21 c256_i32
  let c0_i32_17 : BitVec 32 := 0#32
  let v25 : BitVec 1 := Scalar.cmpi .ne v24 c0_i32_17
  let c256_i32_18 : BitVec 32 := 256#32
  let c0_i32_19 : BitVec 32 := 0#32
  let v26 : BitVec 32 := Scalar.select v25 c256_i32_18 c0_i32_19
  let v27 : BitVec 32 := Scalar.subi v23 v26
  let c128_i32 : BitVec 32 := 128#32
  let v30 : BitVec 32 := Scalar.andi v21 c128_i32
  let c0_i32_21 : BitVec 32 := 0#32
  let v31 : BitVec 1 := Scalar.cmpi .ne v30 c0_i32_21
  let c128_i32_22 : BitVec 32 := 128#32
  let c0_i32_23 : BitVec 32 := 0#32
  let v32 : BitVec 32 := Scalar.select v31 c128_i32_22 c0_i32_23
  let v33 : BitVec 32 := Scalar.subi v27 v32
  let c64_i32_25 : BitVec 32 := 64#32
  let v36 : BitVec 32 := Scalar.andi v21 c64_i32_25
  let c0_i32_26 : BitVec 32 := 0#32
  let v37 : BitVec 1 := Scalar.cmpi .ne v36 c0_i32_26
  let c64_i32_27 : BitVec 32 := 64#32
  let c0_i32_28 : BitVec 32 := 0#32
  let v38 : BitVec 32 := Scalar.select v37 c64_i32_27 c0_i32_28
  let v39 : BitVec 32 := Scalar.subi v33 v38
  let c32_i32_30 : BitVec 32 := 32#32
  let v42 : BitVec 32 := Scalar.andi v21 c32_i32_30
  let c0_i32_31 : BitVec 32 := 0#32
  let v43 : BitVec 1 := Scalar.cmpi .ne v42 c0_i32_31
  let c32_i32_32 : BitVec 32 := 32#32
  let c0_i32_33 : BitVec 32 := 0#32
  let v44 : BitVec 32 := Scalar.select v43 c32_i32_32 c0_i32_33
  let v45 : BitVec 32 := Scalar.subi v39 v44
  let c16_i32 : BitVec 32 := 16#32
  let v48 : BitVec 32 := Scalar.andi v21 c16_i32
  let c0_i32_35 : BitVec 32 := 0#32
  let v49 : BitVec 1 := Scalar.cmpi .ne v48 c0_i32_35
  let c16_i32_36 : BitVec 32 := 16#32
  let c0_i32_37 : BitVec 32 := 0#32
  let v50 : BitVec 32 := Scalar.select v49 c16_i32_36 c0_i32_37
  let v51 : BitVec 32 := Scalar.subi v45 v50
  v51
def k0_cond6 (v21 : BitVec 32) : BitVec 1 :=
  let c16_i32 : BitVec 32 := 16#32
  let v48 : BitVec 32 := Scalar.andi v21 c16_i32
  let c0_i32_35 : BitVec 32 := 0#32
  let v49 : BitVec 1 := Scalar.cmpi .ne v48 c0_i32_35
  let v52 : BitVec 32 := Scalar.extui v49
  let c0_i32_38 : BitVec 32 := 0#32
  let v53 : BitVec 1 := Scalar.cmpi .ne v52 c0_i32_38
  v53

def k0_off8 (v21 : BitVec 32) (v23 : BitVec 32) : Fin 2 → Nat :=
  let c256_i32 : BitVec 32 := 256#32
  let v24 : BitVec 32 := Scalar.andi v21 c256_i32
  let c0_i32_17 : BitVec 32 := 0#32
  let v25 : BitVec 1 := Scalar.cmpi .ne v24 c0_i32_17
  let c256_i32_18 : BitVec 32 := 256#32
  let c0_i32_19 : BitVec 32 := 0#32
  let v26 : BitVec 32 := Scalar.select v25 c256_i32_18 c0_i32_19
  let v27 : BitVec 32 := Scalar.subi v23 v26
  let c128_i32 : BitVec 32 := 128#32
  let v30 : BitVec 32 := Scalar.andi v21 c128_i32
  let c0_i32_21 : BitVec 32 := 0#32
  let v31 : BitVec 1 := Scalar.cmpi .ne v30 c0_i32_21
  let c128_i32_22 : BitVec 32 := 128#32
  let c0_i32_23 : BitVec 32 := 0#32
  let v32 : BitVec 32 := Scalar.select v31 c128_i32_22 c0_i32_23
  let v33 : BitVec 32 := Scalar.subi v27 v32
  let c64_i32_25 : BitVec 32 := 64#32
  let v36 : BitVec 32 := Scalar.andi v21 c64_i32_25
  let c0_i32_26 : BitVec 32 := 0#32
  let v37 : BitVec 1 := Scalar.cmpi .ne v36 c0_i32_26
  let c64_i32_27 : BitVec 32 := 64#32
  let c0_i32_28 : BitVec 32 := 0#32
  let v38 : BitVec 32 := Scalar.select v37 c64_i32_27 c0_i32_28
  let v39 : BitVec 32 := Scalar.subi v33 v38
  let c32_i32_30 : BitVec 32 := 32#32
  let v42 : BitVec 32 := Scalar.andi v21 c32_i32_30
  let c0_i32_31 : BitVec 32 := 0#32
  let v43 : BitVec 1 := Scalar.cmpi .ne v42 c0_i32_31
  let c32_i32_32 : BitVec 32 := 32#32
  let c0_i32_33 : BitVec 32 := 0#32
  let v44 : BitVec 32 := Scalar.select v43 c32_i32_32 c0_i32_33
  let v45 : BitVec 32 := Scalar.subi v39 v44
  let c16_i32 : BitVec 32 := 16#32
  let v48 : BitVec 32 := Scalar.andi v21 c16_i32
  let c0_i32_35 : BitVec 32 := 0#32
  let v49 : BitVec 1 := Scalar.cmpi .ne v48 c0_i32_35
  let c16_i32_36 : BitVec 32 := 16#32
  let c0_i32_37 : BitVec 32 := 0#32
  let v50 : BitVec 32 := Scalar.select v49 c16_i32_36 c0_i32_37
  let v51 : BitVec 32 := Scalar.subi v45 v50
  let v95 : BitVec 32 := v51
  let c0_i32_65 : BitVec 32 := 0#32
  ![v95.toNat, 0]
def k0_mult6 (v21 : BitVec 32) (v23 : BitVec 32) : BitVec 32 :=
  let c256_i32 : BitVec 32 := 256#32
  let v24 : BitVec 32 := Scalar.andi v21 c256_i32
  let c0_i32_17 : BitVec 32 := 0#32
  let v25 : BitVec 1 := Scalar.cmpi .ne v24 c0_i32_17
  let c256_i32_18 : BitVec 32 := 256#32
  let c0_i32_19 : BitVec 32 := 0#32
  let v26 : BitVec 32 := Scalar.select v25 c256_i32_18 c0_i32_19
  let v27 : BitVec 32 := Scalar.subi v23 v26
  let c128_i32 : BitVec 32 := 128#32
  let v30 : BitVec 32 := Scalar.andi v21 c128_i32
  let c0_i32_21 : BitVec 32 := 0#32
  let v31 : BitVec 1 := Scalar.cmpi .ne v30 c0_i32_21
  let c128_i32_22 : BitVec 32 := 128#32
  let c0_i32_23 : BitVec 32 := 0#32
  let v32 : BitVec 32 := Scalar.select v31 c128_i32_22 c0_i32_23
  let v33 : BitVec 32 := Scalar.subi v27 v32
  let c64_i32_25 : BitVec 32 := 64#32
  let v36 : BitVec 32 := Scalar.andi v21 c64_i32_25
  let c0_i32_26 : BitVec 32 := 0#32
  let v37 : BitVec 1 := Scalar.cmpi .ne v36 c0_i32_26
  let c64_i32_27 : BitVec 32 := 64#32
  let c0_i32_28 : BitVec 32 := 0#32
  let v38 : BitVec 32 := Scalar.select v37 c64_i32_27 c0_i32_28
  let v39 : BitVec 32 := Scalar.subi v33 v38
  let c32_i32_30 : BitVec 32 := 32#32
  let v42 : BitVec 32 := Scalar.andi v21 c32_i32_30
  let c0_i32_31 : BitVec 32 := 0#32
  let v43 : BitVec 1 := Scalar.cmpi .ne v42 c0_i32_31
  let c32_i32_32 : BitVec 32 := 32#32
  let c0_i32_33 : BitVec 32 := 0#32
  let v44 : BitVec 32 := Scalar.select v43 c32_i32_32 c0_i32_33
  let v45 : BitVec 32 := Scalar.subi v39 v44
  let c16_i32 : BitVec 32 := 16#32
  let v48 : BitVec 32 := Scalar.andi v21 c16_i32
  let c0_i32_35 : BitVec 32 := 0#32
  let v49 : BitVec 1 := Scalar.cmpi .ne v48 c0_i32_35
  let c16_i32_36 : BitVec 32 := 16#32
  let c0_i32_37 : BitVec 32 := 0#32
  let v50 : BitVec 32 := Scalar.select v49 c16_i32_36 c0_i32_37
  let v51 : BitVec 32 := Scalar.subi v45 v50
  let c8_i32 : BitVec 32 := 8#32
  let v54 : BitVec 32 := Scalar.andi v21 c8_i32
  let c0_i32_39 : BitVec 32 := 0#32
  let v55 : BitVec 1 := Scalar.cmpi .ne v54 c0_i32_39
  let c8_i32_40 : BitVec 32 := 8#32
  let c0_i32_41 : BitVec 32 := 0#32
  let v56 : BitVec 32 := Scalar.select v55 c8_i32_40 c0_i32_41
  let v57 : BitVec 32 := Scalar.subi v51 v56
  v57
def k0_cond7 (v21 : BitVec 32) : BitVec 1 :=
  let c8_i32 : BitVec 32 := 8#32
  let v54 : BitVec 32 := Scalar.andi v21 c8_i32
  let c0_i32_39 : BitVec 32 := 0#32
  let v55 : BitVec 1 := Scalar.cmpi .ne v54 c0_i32_39
  let v58 : BitVec 32 := Scalar.extui v55
  let c0_i32_42 : BitVec 32 := 0#32
  let v59 : BitVec 1 := Scalar.cmpi .ne v58 c0_i32_42
  v59

def k0_off9 (v21 : BitVec 32) (v23 : BitVec 32) : Fin 2 → Nat :=
  let c256_i32 : BitVec 32 := 256#32
  let v24 : BitVec 32 := Scalar.andi v21 c256_i32
  let c0_i32_17 : BitVec 32 := 0#32
  let v25 : BitVec 1 := Scalar.cmpi .ne v24 c0_i32_17
  let c256_i32_18 : BitVec 32 := 256#32
  let c0_i32_19 : BitVec 32 := 0#32
  let v26 : BitVec 32 := Scalar.select v25 c256_i32_18 c0_i32_19
  let v27 : BitVec 32 := Scalar.subi v23 v26
  let c128_i32 : BitVec 32 := 128#32
  let v30 : BitVec 32 := Scalar.andi v21 c128_i32
  let c0_i32_21 : BitVec 32 := 0#32
  let v31 : BitVec 1 := Scalar.cmpi .ne v30 c0_i32_21
  let c128_i32_22 : BitVec 32 := 128#32
  let c0_i32_23 : BitVec 32 := 0#32
  let v32 : BitVec 32 := Scalar.select v31 c128_i32_22 c0_i32_23
  let v33 : BitVec 32 := Scalar.subi v27 v32
  let c64_i32_25 : BitVec 32 := 64#32
  let v36 : BitVec 32 := Scalar.andi v21 c64_i32_25
  let c0_i32_26 : BitVec 32 := 0#32
  let v37 : BitVec 1 := Scalar.cmpi .ne v36 c0_i32_26
  let c64_i32_27 : BitVec 32 := 64#32
  let c0_i32_28 : BitVec 32 := 0#32
  let v38 : BitVec 32 := Scalar.select v37 c64_i32_27 c0_i32_28
  let v39 : BitVec 32 := Scalar.subi v33 v38
  let c32_i32_30 : BitVec 32 := 32#32
  let v42 : BitVec 32 := Scalar.andi v21 c32_i32_30
  let c0_i32_31 : BitVec 32 := 0#32
  let v43 : BitVec 1 := Scalar.cmpi .ne v42 c0_i32_31
  let c32_i32_32 : BitVec 32 := 32#32
  let c0_i32_33 : BitVec 32 := 0#32
  let v44 : BitVec 32 := Scalar.select v43 c32_i32_32 c0_i32_33
  let v45 : BitVec 32 := Scalar.subi v39 v44
  let c16_i32 : BitVec 32 := 16#32
  let v48 : BitVec 32 := Scalar.andi v21 c16_i32
  let c0_i32_35 : BitVec 32 := 0#32
  let v49 : BitVec 1 := Scalar.cmpi .ne v48 c0_i32_35
  let c16_i32_36 : BitVec 32 := 16#32
  let c0_i32_37 : BitVec 32 := 0#32
  let v50 : BitVec 32 := Scalar.select v49 c16_i32_36 c0_i32_37
  let v51 : BitVec 32 := Scalar.subi v45 v50
  let c8_i32 : BitVec 32 := 8#32
  let v54 : BitVec 32 := Scalar.andi v21 c8_i32
  let c0_i32_39 : BitVec 32 := 0#32
  let v55 : BitVec 1 := Scalar.cmpi .ne v54 c0_i32_39
  let c8_i32_40 : BitVec 32 := 8#32
  let c0_i32_41 : BitVec 32 := 0#32
  let v56 : BitVec 32 := Scalar.select v55 c8_i32_40 c0_i32_41
  let v57 : BitVec 32 := Scalar.subi v51 v56
  let v95 : BitVec 32 := v57
  let c0_i32_65 : BitVec 32 := 0#32
  ![v95.toNat, 0]

def k0_chk1 (i : grid0.Coords) (v21 : BitVec 32) (v23 : BitVec 32) : Prop :=
  (∀ (k0_h1 : k0_cond1 i = 1#1), ∀ (k0_h2 : k0_cond2 v21 = 1#1), 8 ∣ (k0_mult1 v21 v23).toNat) ∧
  (∀ (k0_h1 : k0_cond1 i = 1#1), ∀ (k0_h2 : k0_cond2 v21 = 1#1), ∀ a, (k0_off4 v21 v23) a + S256x1024.size a ≤ S147456x1024.size a) ∧
  (∀ (k0_h1 : k0_cond1 i = 1#1), ∀ (k0_h3 : k0_cond3 v21 = 1#1), 8 ∣ (k0_mult2 v21 v23).toNat) ∧
  (∀ (k0_h1 : k0_cond1 i = 1#1), ∀ (k0_h3 : k0_cond3 v21 = 1#1), ∀ a, (k0_off5 v21 v23) a + S128x1024.size a ≤ S147456x1024.size a) ∧
  (∀ (k0_h1 : k0_cond1 i = 1#1), ∀ (k0_h4 : k0_cond4 v21 = 1#1), 8 ∣ (k0_mult3 v21 v23).toNat) ∧
  (∀ (k0_h1 : k0_cond1 i = 1#1), ∀ (k0_h4 : k0_cond4 v21 = 1#1), ∀ a, (k0_off6 v21 v23) a + S64x1024.size a ≤ S147456x1024.size a) ∧
  (∀ (k0_h1 : k0_cond1 i = 1#1), ∀ (k0_h5 : k0_cond5 v21 = 1#1), 8 ∣ (k0_mult4 v21 v23).toNat) ∧
  (∀ (k0_h1 : k0_cond1 i = 1#1), ∀ (k0_h5 : k0_cond5 v21 = 1#1), ∀ a, (k0_off7 v21 v23) a + S32x1024.size a ≤ S147456x1024.size a) ∧
  (∀ (k0_h1 : k0_cond1 i = 1#1), ∀ (k0_h6 : k0_cond6 v21 = 1#1), 8 ∣ (k0_mult5 v21 v23).toNat) ∧
  (∀ (k0_h1 : k0_cond1 i = 1#1), ∀ (k0_h6 : k0_cond6 v21 = 1#1), ∀ a, (k0_off8 v21 v23) a + S16x1024.size a ≤ S147456x1024.size a) ∧
  (∀ (k0_h1 : k0_cond1 i = 1#1), ∀ (k0_h7 : k0_cond7 v21 = 1#1), 8 ∣ (k0_mult6 v21 v23).toNat) ∧
  (∀ (k0_h1 : k0_cond1 i = 1#1), ∀ (k0_h7 : k0_cond7 v21 = 1#1), ∀ a, (k0_off9 v21 v23) a + S8x1024.size a ≤ S147456x1024.size a)
theorem k0_mult1_dvd : ∀ (i : grid0.Coords) (v21 : BitVec 32) (v23 : BitVec 32) (k0_hw1 : k0_chk1 i v21 v23), ∀ (k0_h1 : k0_cond1 i = 1#1), ∀ (k0_h2 : k0_cond2 v21 = 1#1), 8 ∣ (k0_mult1 v21 v23).toNat := fun i v21 v23 k0_hw1 k0_h1 k0_h2 => k0_hw1.1 k0_h1 k0_h2
theorem k0_off4_inb : ∀ (i : grid0.Coords) (v21 : BitVec 32) (v23 : BitVec 32) (k0_hw1 : k0_chk1 i v21 v23), ∀ (k0_h1 : k0_cond1 i = 1#1), ∀ (k0_h2 : k0_cond2 v21 = 1#1), ∀ a, (k0_off4 v21 v23) a + S256x1024.size a ≤ S147456x1024.size a := fun i v21 v23 k0_hw1 k0_h1 k0_h2 => k0_hw1.2.1 k0_h1 k0_h2
theorem k0_mult2_dvd : ∀ (i : grid0.Coords) (v21 : BitVec 32) (v23 : BitVec 32) (k0_hw1 : k0_chk1 i v21 v23), ∀ (k0_h1 : k0_cond1 i = 1#1), ∀ (k0_h3 : k0_cond3 v21 = 1#1), 8 ∣ (k0_mult2 v21 v23).toNat := fun i v21 v23 k0_hw1 k0_h1 k0_h3 => k0_hw1.2.2.1 k0_h1 k0_h3
theorem k0_off5_inb : ∀ (i : grid0.Coords) (v21 : BitVec 32) (v23 : BitVec 32) (k0_hw1 : k0_chk1 i v21 v23), ∀ (k0_h1 : k0_cond1 i = 1#1), ∀ (k0_h3 : k0_cond3 v21 = 1#1), ∀ a, (k0_off5 v21 v23) a + S128x1024.size a ≤ S147456x1024.size a := fun i v21 v23 k0_hw1 k0_h1 k0_h3 => k0_hw1.2.2.2.1 k0_h1 k0_h3
theorem k0_mult3_dvd : ∀ (i : grid0.Coords) (v21 : BitVec 32) (v23 : BitVec 32) (k0_hw1 : k0_chk1 i v21 v23), ∀ (k0_h1 : k0_cond1 i = 1#1), ∀ (k0_h4 : k0_cond4 v21 = 1#1), 8 ∣ (k0_mult3 v21 v23).toNat := fun i v21 v23 k0_hw1 k0_h1 k0_h4 => k0_hw1.2.2.2.2.1 k0_h1 k0_h4
theorem k0_off6_inb : ∀ (i : grid0.Coords) (v21 : BitVec 32) (v23 : BitVec 32) (k0_hw1 : k0_chk1 i v21 v23), ∀ (k0_h1 : k0_cond1 i = 1#1), ∀ (k0_h4 : k0_cond4 v21 = 1#1), ∀ a, (k0_off6 v21 v23) a + S64x1024.size a ≤ S147456x1024.size a := fun i v21 v23 k0_hw1 k0_h1 k0_h4 => k0_hw1.2.2.2.2.2.1 k0_h1 k0_h4
theorem k0_mult4_dvd : ∀ (i : grid0.Coords) (v21 : BitVec 32) (v23 : BitVec 32) (k0_hw1 : k0_chk1 i v21 v23), ∀ (k0_h1 : k0_cond1 i = 1#1), ∀ (k0_h5 : k0_cond5 v21 = 1#1), 8 ∣ (k0_mult4 v21 v23).toNat := fun i v21 v23 k0_hw1 k0_h1 k0_h5 => k0_hw1.2.2.2.2.2.2.1 k0_h1 k0_h5
theorem k0_off7_inb : ∀ (i : grid0.Coords) (v21 : BitVec 32) (v23 : BitVec 32) (k0_hw1 : k0_chk1 i v21 v23), ∀ (k0_h1 : k0_cond1 i = 1#1), ∀ (k0_h5 : k0_cond5 v21 = 1#1), ∀ a, (k0_off7 v21 v23) a + S32x1024.size a ≤ S147456x1024.size a := fun i v21 v23 k0_hw1 k0_h1 k0_h5 => k0_hw1.2.2.2.2.2.2.2.1 k0_h1 k0_h5
theorem k0_mult5_dvd : ∀ (i : grid0.Coords) (v21 : BitVec 32) (v23 : BitVec 32) (k0_hw1 : k0_chk1 i v21 v23), ∀ (k0_h1 : k0_cond1 i = 1#1), ∀ (k0_h6 : k0_cond6 v21 = 1#1), 8 ∣ (k0_mult5 v21 v23).toNat := fun i v21 v23 k0_hw1 k0_h1 k0_h6 => k0_hw1.2.2.2.2.2.2.2.2.1 k0_h1 k0_h6
theorem k0_off8_inb : ∀ (i : grid0.Coords) (v21 : BitVec 32) (v23 : BitVec 32) (k0_hw1 : k0_chk1 i v21 v23), ∀ (k0_h1 : k0_cond1 i = 1#1), ∀ (k0_h6 : k0_cond6 v21 = 1#1), ∀ a, (k0_off8 v21 v23) a + S16x1024.size a ≤ S147456x1024.size a := fun i v21 v23 k0_hw1 k0_h1 k0_h6 => k0_hw1.2.2.2.2.2.2.2.2.2.1 k0_h1 k0_h6
theorem k0_mult6_dvd : ∀ (i : grid0.Coords) (v21 : BitVec 32) (v23 : BitVec 32) (k0_hw1 : k0_chk1 i v21 v23), ∀ (k0_h1 : k0_cond1 i = 1#1), ∀ (k0_h7 : k0_cond7 v21 = 1#1), 8 ∣ (k0_mult6 v21 v23).toNat := fun i v21 v23 k0_hw1 k0_h1 k0_h7 => k0_hw1.2.2.2.2.2.2.2.2.2.2.1 k0_h1 k0_h7
theorem k0_off9_inb : ∀ (i : grid0.Coords) (v21 : BitVec 32) (v23 : BitVec 32) (k0_hw1 : k0_chk1 i v21 v23), ∀ (k0_h1 : k0_cond1 i = 1#1), ∀ (k0_h7 : k0_cond7 v21 = 1#1), ∀ a, (k0_off9 v21 v23) a + S8x1024.size a ≤ S147456x1024.size a := fun i v21 v23 k0_hw1 k0_h1 k0_h7 => k0_hw1.2.2.2.2.2.2.2.2.2.2.2 k0_h1 k0_h7

def k0_off10 (v19 : BitVec 32) : Fin 2 → Nat :=
  let c0_i32_44 : BitVec 32 := 0#32
  let v62 : BitVec 32 := Scalar.addi v19 c0_i32_44
  let c0_i32_65 : BitVec 32 := 0#32
  ![v62.toNat, 0]
def k0_cond8 (v21 : BitVec 32) : BitVec 1 :=
  let c7_i32 : BitVec 32 := 7#32
  let v60 : BitVec 32 := Scalar.andi v21 c7_i32
  let c0_i32_43 : BitVec 32 := 0#32
  let v61 : BitVec 1 := Scalar.cmpi .sgt v60 c0_i32_43
  let v63 : BitVec 32 := Scalar.extui v61
  let c0_i32_45 : BitVec 32 := 0#32
  let v64 : BitVec 1 := Scalar.cmpi .ne v63 c0_i32_45
  v64

def k0_off11 (v19 : BitVec 32) : Fin 2 → Nat :=
  let c1_i32_48 : BitVec 32 := 1#32
  let v67 : BitVec 32 := Scalar.addi v19 c1_i32_48
  let c0_i32_65 : BitVec 32 := 0#32
  ![v67.toNat, 0]
def k0_cond9 (v21 : BitVec 32) : BitVec 1 :=
  let c7_i32_46 : BitVec 32 := 7#32
  let v65 : BitVec 32 := Scalar.andi v21 c7_i32_46
  let c1_i32_47 : BitVec 32 := 1#32
  let v66 : BitVec 1 := Scalar.cmpi .sgt v65 c1_i32_47
  let v68 : BitVec 32 := Scalar.extui v66
  let c0_i32_49 : BitVec 32 := 0#32
  let v69 : BitVec 1 := Scalar.cmpi .ne v68 c0_i32_49
  v69

def k0_off12 (v19 : BitVec 32) : Fin 2 → Nat :=
  let c2_i32_51 : BitVec 32 := 2#32
  let v72 : BitVec 32 := Scalar.addi v19 c2_i32_51
  let c0_i32_65 : BitVec 32 := 0#32
  ![v72.toNat, 0]
def k0_cond10 (v21 : BitVec 32) : BitVec 1 :=
  let c7_i32_50 : BitVec 32 := 7#32
  let v70 : BitVec 32 := Scalar.andi v21 c7_i32_50
  let c2_i32 : BitVec 32 := 2#32
  let v71 : BitVec 1 := Scalar.cmpi .sgt v70 c2_i32
  let v73 : BitVec 32 := Scalar.extui v71
  let c0_i32_52 : BitVec 32 := 0#32
  let v74 : BitVec 1 := Scalar.cmpi .ne v73 c0_i32_52
  v74

def k0_off13 (v19 : BitVec 32) : Fin 2 → Nat :=
  let c3_i32_54 : BitVec 32 := 3#32
  let v77 : BitVec 32 := Scalar.addi v19 c3_i32_54
  let c0_i32_65 : BitVec 32 := 0#32
  ![v77.toNat, 0]
def k0_cond11 (v21 : BitVec 32) : BitVec 1 :=
  let c7_i32_53 : BitVec 32 := 7#32
  let v75 : BitVec 32 := Scalar.andi v21 c7_i32_53
  let c3_i32 : BitVec 32 := 3#32
  let v76 : BitVec 1 := Scalar.cmpi .sgt v75 c3_i32
  let v78 : BitVec 32 := Scalar.extui v76
  let c0_i32_55 : BitVec 32 := 0#32
  let v79 : BitVec 1 := Scalar.cmpi .ne v78 c0_i32_55
  v79

def k0_off14 (v19 : BitVec 32) : Fin 2 → Nat :=
  let c4_i32_57 : BitVec 32 := 4#32
  let v82 : BitVec 32 := Scalar.addi v19 c4_i32_57
  let c0_i32_65 : BitVec 32 := 0#32
  ![v82.toNat, 0]
def k0_cond12 (v21 : BitVec 32) : BitVec 1 :=
  let c7_i32_56 : BitVec 32 := 7#32
  let v80 : BitVec 32 := Scalar.andi v21 c7_i32_56
  let c4_i32 : BitVec 32 := 4#32
  let v81 : BitVec 1 := Scalar.cmpi .sgt v80 c4_i32
  let v83 : BitVec 32 := Scalar.extui v81
  let c0_i32_58 : BitVec 32 := 0#32
  let v84 : BitVec 1 := Scalar.cmpi .ne v83 c0_i32_58
  v84

def k0_off15 (v19 : BitVec 32) : Fin 2 → Nat :=
  let c5_i32_60 : BitVec 32 := 5#32
  let v87 : BitVec 32 := Scalar.addi v19 c5_i32_60
  let c0_i32_65 : BitVec 32 := 0#32
  ![v87.toNat, 0]
def k0_cond13 (v21 : BitVec 32) : BitVec 1 :=
  let c7_i32_59 : BitVec 32 := 7#32
  let v85 : BitVec 32 := Scalar.andi v21 c7_i32_59
  let c5_i32 : BitVec 32 := 5#32
  let v86 : BitVec 1 := Scalar.cmpi .sgt v85 c5_i32
  let v88 : BitVec 32 := Scalar.extui v86
  let c0_i32_61 : BitVec 32 := 0#32
  let v89 : BitVec 1 := Scalar.cmpi .ne v88 c0_i32_61
  v89

def k0_off16 (v19 : BitVec 32) : Fin 2 → Nat :=
  let c6_i32_63 : BitVec 32 := 6#32
  let v92 : BitVec 32 := Scalar.addi v19 c6_i32_63
  let c0_i32_65 : BitVec 32 := 0#32
  ![v92.toNat, 0]
def k0_cond14 (v21 : BitVec 32) : BitVec 1 :=
  let c7_i32_62 : BitVec 32 := 7#32
  let v90 : BitVec 32 := Scalar.andi v21 c7_i32_62
  let c6_i32 : BitVec 32 := 6#32
  let v91 : BitVec 1 := Scalar.cmpi .sgt v90 c6_i32
  let v93 : BitVec 32 := Scalar.extui v91
  let c0_i32_64 : BitVec 32 := 0#32
  let v94 : BitVec 1 := Scalar.cmpi .ne v93 c0_i32_64
  v94

def k0_chk2 (i : grid0.Coords) (v19 : BitVec 32) (v21 : BitVec 32) : Prop :=
  (∀ (k0_h1 : k0_cond1 i = 1#1), ∀ (k0_h8 : k0_cond8 v21 = 1#1), ∀ a, (k0_off10 v19) a + S1x1024.size a ≤ S147456x1024.size a) ∧
  (∀ (k0_h1 : k0_cond1 i = 1#1), ∀ (k0_h9 : k0_cond9 v21 = 1#1), ∀ a, (k0_off11 v19) a + S1x1024.size a ≤ S147456x1024.size a) ∧
  (∀ (k0_h1 : k0_cond1 i = 1#1), ∀ (k0_h10 : k0_cond10 v21 = 1#1), ∀ a, (k0_off12 v19) a + S1x1024.size a ≤ S147456x1024.size a) ∧
  (∀ (k0_h1 : k0_cond1 i = 1#1), ∀ (k0_h11 : k0_cond11 v21 = 1#1), ∀ a, (k0_off13 v19) a + S1x1024.size a ≤ S147456x1024.size a) ∧
  (∀ (k0_h1 : k0_cond1 i = 1#1), ∀ (k0_h12 : k0_cond12 v21 = 1#1), ∀ a, (k0_off14 v19) a + S1x1024.size a ≤ S147456x1024.size a) ∧
  (∀ (k0_h1 : k0_cond1 i = 1#1), ∀ (k0_h13 : k0_cond13 v21 = 1#1), ∀ a, (k0_off15 v19) a + S1x1024.size a ≤ S147456x1024.size a) ∧
  (∀ (k0_h1 : k0_cond1 i = 1#1), ∀ (k0_h14 : k0_cond14 v21 = 1#1), ∀ a, (k0_off16 v19) a + S1x1024.size a ≤ S147456x1024.size a)
theorem k0_off10_inb : ∀ (i : grid0.Coords) (v19 : BitVec 32) (v21 : BitVec 32) (k0_hw2 : k0_chk2 i v19 v21), ∀ (k0_h1 : k0_cond1 i = 1#1), ∀ (k0_h8 : k0_cond8 v21 = 1#1), ∀ a, (k0_off10 v19) a + S1x1024.size a ≤ S147456x1024.size a := fun i v19 v21 k0_hw2 k0_h1 k0_h8 => k0_hw2.1 k0_h1 k0_h8
theorem k0_off11_inb : ∀ (i : grid0.Coords) (v19 : BitVec 32) (v21 : BitVec 32) (k0_hw2 : k0_chk2 i v19 v21), ∀ (k0_h1 : k0_cond1 i = 1#1), ∀ (k0_h9 : k0_cond9 v21 = 1#1), ∀ a, (k0_off11 v19) a + S1x1024.size a ≤ S147456x1024.size a := fun i v19 v21 k0_hw2 k0_h1 k0_h9 => k0_hw2.2.1 k0_h1 k0_h9
theorem k0_off12_inb : ∀ (i : grid0.Coords) (v19 : BitVec 32) (v21 : BitVec 32) (k0_hw2 : k0_chk2 i v19 v21), ∀ (k0_h1 : k0_cond1 i = 1#1), ∀ (k0_h10 : k0_cond10 v21 = 1#1), ∀ a, (k0_off12 v19) a + S1x1024.size a ≤ S147456x1024.size a := fun i v19 v21 k0_hw2 k0_h1 k0_h10 => k0_hw2.2.2.1 k0_h1 k0_h10
theorem k0_off13_inb : ∀ (i : grid0.Coords) (v19 : BitVec 32) (v21 : BitVec 32) (k0_hw2 : k0_chk2 i v19 v21), ∀ (k0_h1 : k0_cond1 i = 1#1), ∀ (k0_h11 : k0_cond11 v21 = 1#1), ∀ a, (k0_off13 v19) a + S1x1024.size a ≤ S147456x1024.size a := fun i v19 v21 k0_hw2 k0_h1 k0_h11 => k0_hw2.2.2.2.1 k0_h1 k0_h11
theorem k0_off14_inb : ∀ (i : grid0.Coords) (v19 : BitVec 32) (v21 : BitVec 32) (k0_hw2 : k0_chk2 i v19 v21), ∀ (k0_h1 : k0_cond1 i = 1#1), ∀ (k0_h12 : k0_cond12 v21 = 1#1), ∀ a, (k0_off14 v19) a + S1x1024.size a ≤ S147456x1024.size a := fun i v19 v21 k0_hw2 k0_h1 k0_h12 => k0_hw2.2.2.2.2.1 k0_h1 k0_h12
theorem k0_off15_inb : ∀ (i : grid0.Coords) (v19 : BitVec 32) (v21 : BitVec 32) (k0_hw2 : k0_chk2 i v19 v21), ∀ (k0_h1 : k0_cond1 i = 1#1), ∀ (k0_h13 : k0_cond13 v21 = 1#1), ∀ a, (k0_off15 v19) a + S1x1024.size a ≤ S147456x1024.size a := fun i v19 v21 k0_hw2 k0_h1 k0_h13 => k0_hw2.2.2.2.2.2.1 k0_h1 k0_h13
theorem k0_off16_inb : ∀ (i : grid0.Coords) (v19 : BitVec 32) (v21 : BitVec 32) (k0_hw2 : k0_chk2 i v19 v21), ∀ (k0_h1 : k0_cond1 i = 1#1), ∀ (k0_h14 : k0_cond14 v21 = 1#1), ∀ a, (k0_off16 v19) a + S1x1024.size a ≤ S147456x1024.size a := fun i v19 v21 k0_hw2 k0_h1 k0_h14 => k0_hw2.2.2.2.2.2.2 k0_h1 k0_h14

@[reducible] def k0_t2_loop (v12 : BitVec 32) : Scf.Loop 32 :=
  let c0_i32_11 : BitVec 32 := 0#32
  let v13 : BitVec 32 := Scalar.subi v12 c0_i32_11
  let c1_i32_12 : BitVec 32 := 1#32
  let v15 : BitVec 32 := Scalar.divsi v13 c1_i32_12
  let v16 : BitVec 32 := Scalar.muli v15 c1_i32_12
  let v17 : BitVec 32 := Scalar.addi c0_i32_11 v16
  let c1_i32_13 : BitVec 32 := 1#32
  ⟨c0_i32_11, v17, c1_i32_13⟩

def k0_mult7 (v12 : BitVec 32) (k0_t2 : Fin (k0_t2_loop v12).trips) (v18 : BitVec 32) : BitVec 32 :=
  let c0_i32_11 : BitVec 32 := 0#32
  let c1_i32_13 : BitVec 32 := 1#32
  let arg8 : BitVec 32 := Scf.iv c0_i32_11 c1_i32_13 k0_t2
  let v19 : BitVec 32 := Scalar.addi v18 arg8
  let c512_i32_17 : BitVec 32 := 512#32
  let v20 : BitVec 32 := Scalar.muli v19 c512_i32_17
  v20

def k0_off17 (v12 : BitVec 32) (k0_t2 : Fin (k0_t2_loop v12).trips) (v18 : BitVec 32) : Fin 2 → Nat :=
  let c0_i32_11 : BitVec 32 := 0#32
  let c1_i32_13 : BitVec 32 := 1#32
  let arg8 : BitVec 32 := Scf.iv c0_i32_11 c1_i32_13 k0_t2
  let v19 : BitVec 32 := Scalar.addi v18 arg8
  let c512_i32_17 : BitVec 32 := 512#32
  let v20 : BitVec 32 := Scalar.muli v19 c512_i32_17
  let v21 : BitVec 32 := v20
  let c0_i32_18 : BitVec 32 := 0#32
  ![v21.toNat, 0]

def k0_chk4 (i : grid0.Coords) (v12 : BitVec 32) (k0_t2 : Fin (k0_t2_loop v12).trips) (v18 : BitVec 32) : Prop :=
  (∀ (k0_h1 : k0_cond1 i = 1#1), 512 ∣ (k0_mult7 v12 k0_t2 v18).toNat) ∧
  (∀ (k0_h1 : k0_cond1 i = 1#1), ∀ a, (k0_off17 v12 k0_t2 v18) a + S512x1024.size a ≤ S147456x1024.size a)
theorem k0_mult7_dvd : ∀ (i : grid0.Coords) (v12 : BitVec 32) (k0_t2 : Fin (k0_t2_loop v12).trips) (v18 : BitVec 32) (k0_hw4 : k0_chk4 i v12 k0_t2 v18), ∀ (k0_h1 : k0_cond1 i = 1#1), 512 ∣ (k0_mult7 v12 k0_t2 v18).toNat := fun i v12 k0_t2 v18 k0_hw4 k0_h1 => k0_hw4.1 k0_h1
theorem k0_off17_inb : ∀ (i : grid0.Coords) (v12 : BitVec 32) (k0_t2 : Fin (k0_t2_loop v12).trips) (v18 : BitVec 32) (k0_hw4 : k0_chk4 i v12 k0_t2 v18), ∀ (k0_h1 : k0_cond1 i = 1#1), ∀ a, (k0_off17 v12 k0_t2 v18) a + S512x1024.size a ≤ S147456x1024.size a := fun i v12 k0_t2 v18 k0_hw4 k0_h1 => k0_hw4.2 k0_h1

@[reducible] def k0_t3_loop (v12 : BitVec 32) : Scf.Loop 32 :=
  let c0_i32_11 : BitVec 32 := 0#32
  let v13 : BitVec 32 := Scalar.subi v12 c0_i32_11
  let c1_i32_12 : BitVec 32 := 1#32
  let v15 : BitVec 32 := Scalar.divsi v13 c1_i32_12
  let v16 : BitVec 32 := Scalar.muli v15 c1_i32_12
  let v17 : BitVec 32 := Scalar.addi c0_i32_11 v16
  let v14 : BitVec 32 := Scalar.addi c0_i32_11 v13
  let c1_i32_14 : BitVec 32 := 1#32
  ⟨v17, v14, c1_i32_14⟩

def k0_chk3 (i : grid0.Coords) (v12 : BitVec 32) : Prop :=
  (∀ (k0_h1 : k0_cond1 i = 1#1), (k0_t2_loop v12).OK) ∧
  (∀ (k0_h1 : k0_cond1 i = 1#1), (k0_t3_loop v12).OK)
theorem k0_t2_ok : ∀ (i : grid0.Coords) (v12 : BitVec 32) (k0_hw3 : k0_chk3 i v12), ∀ (k0_h1 : k0_cond1 i = 1#1), (k0_t2_loop v12).OK := fun i v12 k0_hw3 k0_h1 => k0_hw3.1 k0_h1
theorem k0_t3_ok : ∀ (i : grid0.Coords) (v12 : BitVec 32) (k0_hw3 : k0_chk3 i v12), ∀ (k0_h1 : k0_cond1 i = 1#1), (k0_t3_loop v12).OK := fun i v12 k0_hw3 k0_h1 => k0_hw3.2 k0_h1

def k0_mult8 (v12 : BitVec 32) (k0_t3 : Fin (k0_t3_loop v12).trips) (v18 : BitVec 32) : BitVec 32 :=
  let c0_i32_11 : BitVec 32 := 0#32
  let v13 : BitVec 32 := Scalar.subi v12 c0_i32_11
  let c1_i32_12 : BitVec 32 := 1#32
  let v15 : BitVec 32 := Scalar.divsi v13 c1_i32_12
  let v16 : BitVec 32 := Scalar.muli v15 c1_i32_12
  let v17 : BitVec 32 := Scalar.addi c0_i32_11 v16
  let c1_i32_14 : BitVec 32 := 1#32
  let arg8 : BitVec 32 := Scf.iv v17 c1_i32_14 k0_t3
  let v19 : BitVec 32 := Scalar.addi v18 arg8
  let c512_i32_17 : BitVec 32 := 512#32
  let v20 : BitVec 32 := Scalar.muli v19 c512_i32_17
  v20

def k0_off18 (v12 : BitVec 32) (k0_t3 : Fin (k0_t3_loop v12).trips) (v18 : BitVec 32) : Fin 2 → Nat :=
  let c0_i32_11 : BitVec 32 := 0#32
  let v13 : BitVec 32 := Scalar.subi v12 c0_i32_11
  let c1_i32_12 : BitVec 32 := 1#32
  let v15 : BitVec 32 := Scalar.divsi v13 c1_i32_12
  let v16 : BitVec 32 := Scalar.muli v15 c1_i32_12
  let v17 : BitVec 32 := Scalar.addi c0_i32_11 v16
  let c1_i32_14 : BitVec 32 := 1#32
  let arg8 : BitVec 32 := Scf.iv v17 c1_i32_14 k0_t3
  let v19 : BitVec 32 := Scalar.addi v18 arg8
  let c512_i32_17 : BitVec 32 := 512#32
  let v20 : BitVec 32 := Scalar.muli v19 c512_i32_17
  let v21 : BitVec 32 := v20
  let c0_i32_18 : BitVec 32 := 0#32
  ![v21.toNat, 0]

def k0_chk5 (i : grid0.Coords) (v12 : BitVec 32) (k0_t3 : Fin (k0_t3_loop v12).trips) (v18 : BitVec 32) : Prop :=
  (∀ (k0_h1 : k0_cond1 i = 1#1), 512 ∣ (k0_mult8 v12 k0_t3 v18).toNat) ∧
  (∀ (k0_h1 : k0_cond1 i = 1#1), ∀ a, (k0_off18 v12 k0_t3 v18) a + S512x1024.size a ≤ S147456x1024.size a)
theorem k0_mult8_dvd : ∀ (i : grid0.Coords) (v12 : BitVec 32) (k0_t3 : Fin (k0_t3_loop v12).trips) (v18 : BitVec 32) (k0_hw5 : k0_chk5 i v12 k0_t3 v18), ∀ (k0_h1 : k0_cond1 i = 1#1), 512 ∣ (k0_mult8 v12 k0_t3 v18).toNat := fun i v12 k0_t3 v18 k0_hw5 k0_h1 => k0_hw5.1 k0_h1
theorem k0_off18_inb : ∀ (i : grid0.Coords) (v12 : BitVec 32) (k0_t3 : Fin (k0_t3_loop v12).trips) (v18 : BitVec 32) (k0_hw5 : k0_chk5 i v12 k0_t3 v18), ∀ (k0_h1 : k0_cond1 i = 1#1), ∀ a, (k0_off18 v12 k0_t3 v18) a + S512x1024.size a ≤ S147456x1024.size a := fun i v12 k0_t3 v18 k0_hw5 k0_h1 => k0_hw5.2 k0_h1

@[reducible] def k0_t4_loop : Scf.Loop 32 :=
  let c0_i32_1 : BitVec 32 := 0#32
  let c64_i32 : BitVec 32 := 64#32
  let v3 : BitVec 32 := Scalar.addi c0_i32_1 c64_i32
  let c1_i32 : BitVec 32 := 1#32
  ⟨c0_i32_1, v3, c1_i32⟩
def k0_mult9 (k0_t4 : Fin k0_t4_loop.trips) : BitVec 32 :=
  let c0_i32_1 : BitVec 32 := 0#32
  let c1_i32 : BitVec 32 := 1#32
  let arg8 : BitVec 32 := Scf.iv c0_i32_1 c1_i32 k0_t4
  let c8_i32 : BitVec 32 := 8#32
  let v7 : BitVec 32 := Scalar.muli arg8 c8_i32
  v7
def k0_off19 (k0_t4 : Fin k0_t4_loop.trips) : Fin 3 → Nat :=
  let c0 : Index := 0#32
  let c0_8 : Index := 0#32
  let c0_i32_6 : BitVec 32 := 0#32
  let c0_i32_1 : BitVec 32 := 0#32
  let c1_i32 : BitVec 32 := 1#32
  let arg8 : BitVec 32 := Scf.iv c0_i32_1 c1_i32 k0_t4
  let c8_i32 : BitVec 32 := 8#32
  let v7 : BitVec 32 := Scalar.muli arg8 c8_i32
  let v8 : BitVec 32 := v7
  let v9 : BitVec 32 := Scalar.addi c0_i32_6 v8
  let c0_i32_7 : BitVec 32 := 0#32
  let v10 : BitVec 32 := Scalar.addi v9 c0_i32_7
  let v11 : Index := Scalar.indexCast v10
  ![0, 0, v11.toNat]
def k0_off20 (v12 : BitVec 32) : Fin 2 → Nat :=
  let c0_i32_9 : BitVec 32 := 0#32
  ![v12.toNat, 0]

def k0_chk6 (v12 : BitVec 32) : Prop :=
  (∀ a, (k0_off20 v12) a + S1x1024.size a ≤ S147456x1024.size a)
theorem k0_off20_inb : ∀ (v12 : BitVec 32) (k0_hw6 : k0_chk6 v12), ∀ a, (k0_off20 v12) a + S1x1024.size a ≤ S147456x1024.size a := fun v12 k0_hw6 => k0_hw6

def k0_off21 (k0_t4 : Fin k0_t4_loop.trips) : Fin 2 → Nat :=
  let c0_i32_1 : BitVec 32 := 0#32
  let c1_i32 : BitVec 32 := 1#32
  let arg8 : BitVec 32 := Scf.iv c0_i32_1 c1_i32 k0_t4
  let c8_i32 : BitVec 32 := 8#32
  let v7 : BitVec 32 := Scalar.muli arg8 c8_i32
  let v8 : BitVec 32 := v7
  let c0_i32_10 : BitVec 32 := 0#32
  ![v8.toNat, 0]
def k0_off22 (k0_t4 : Fin k0_t4_loop.trips) : Fin 3 → Nat :=
  let c0_15 : Index := 0#32
  let c0_16 : Index := 0#32
  let c512_i32_13 : BitVec 32 := 512#32
  let c0_i32_1 : BitVec 32 := 0#32
  let c1_i32 : BitVec 32 := 1#32
  let arg8 : BitVec 32 := Scf.iv c0_i32_1 c1_i32 k0_t4
  let c8_i32 : BitVec 32 := 8#32
  let v7 : BitVec 32 := Scalar.muli arg8 c8_i32
  let v8 : BitVec 32 := v7
  let v16 : BitVec 32 := Scalar.addi c512_i32_13 v8
  let c0_i32_14 : BitVec 32 := 0#32
  let v17 : BitVec 32 := Scalar.addi v16 c0_i32_14
  let v18 : Index := Scalar.indexCast v17
  ![0, 0, v18.toNat]
def k0_off23 (v19 : BitVec 32) : Fin 2 → Nat :=
  let c0_i32_17 : BitVec 32 := 0#32
  ![v19.toNat, 0]

def k0_chk7 (v19 : BitVec 32) : Prop :=
  (∀ a, (k0_off23 v19) a + S1x1024.size a ≤ S147456x1024.size a)
theorem k0_off23_inb : ∀ (v19 : BitVec 32) (k0_hw7 : k0_chk7 v19), ∀ a, (k0_off23 v19) a + S1x1024.size a ≤ S147456x1024.size a := fun v19 k0_hw7 => k0_hw7

def k0_off24 (k0_t4 : Fin k0_t4_loop.trips) : Fin 2 → Nat :=
  let c0_i32_1 : BitVec 32 := 0#32
  let c1_i32 : BitVec 32 := 1#32
  let arg8 : BitVec 32 := Scf.iv c0_i32_1 c1_i32 k0_t4
  let c8_i32 : BitVec 32 := 8#32
  let v7 : BitVec 32 := Scalar.muli arg8 c8_i32
  let v8 : BitVec 32 := v7
  let c0_i32_18 : BitVec 32 := 0#32
  ![v8.toNat, 0]
def k0_off25 (k0_t4 : Fin k0_t4_loop.trips) : Fin 3 → Nat :=
  let c0_23 : Index := 0#32
  let c0_24 : Index := 0#32
  let c0_i32_21 : BitVec 32 := 0#32
  let c0_i32_1 : BitVec 32 := 0#32
  let c1_i32 : BitVec 32 := 1#32
  let arg8 : BitVec 32 := Scf.iv c0_i32_1 c1_i32 k0_t4
  let c8_i32 : BitVec 32 := 8#32
  let v7 : BitVec 32 := Scalar.muli arg8 c8_i32
  let v8 : BitVec 32 := v7
  let v23 : BitVec 32 := Scalar.addi c0_i32_21 v8
  let c1_i32_22 : BitVec 32 := 1#32
  let v24 : BitVec 32 := Scalar.addi v23 c1_i32_22
  let v25 : Index := Scalar.indexCast v24
  ![0, 0, v25.toNat]
def k0_off26 (v26 : BitVec 32) : Fin 2 → Nat :=
  let c0_i32_25 : BitVec 32 := 0#32
  ![v26.toNat, 0]

def k0_chk8 (v26 : BitVec 32) : Prop :=
  (∀ a, (k0_off26 v26) a + S1x1024.size a ≤ S147456x1024.size a)
theorem k0_off26_inb : ∀ (v26 : BitVec 32) (k0_hw8 : k0_chk8 v26), ∀ a, (k0_off26 v26) a + S1x1024.size a ≤ S147456x1024.size a := fun v26 k0_hw8 => k0_hw8

def k0_off27 (k0_t4 : Fin k0_t4_loop.trips) : Fin 2 → Nat :=
  let c0_i32_1 : BitVec 32 := 0#32
  let c1_i32 : BitVec 32 := 1#32
  let arg8 : BitVec 32 := Scf.iv c0_i32_1 c1_i32 k0_t4
  let c8_i32 : BitVec 32 := 8#32
  let v7 : BitVec 32 := Scalar.muli arg8 c8_i32
  let v8 : BitVec 32 := v7
  let c0_i32_26 : BitVec 32 := 0#32
  ![v8.toNat, 0]
def k0_off28 (k0_t4 : Fin k0_t4_loop.trips) : Fin 3 → Nat :=
  let c0_31 : Index := 0#32
  let c0_32 : Index := 0#32
  let c512_i32_29 : BitVec 32 := 512#32
  let c0_i32_1 : BitVec 32 := 0#32
  let c1_i32 : BitVec 32 := 1#32
  let arg8 : BitVec 32 := Scf.iv c0_i32_1 c1_i32 k0_t4
  let c8_i32 : BitVec 32 := 8#32
  let v7 : BitVec 32 := Scalar.muli arg8 c8_i32
  let v8 : BitVec 32 := v7
  let v30 : BitVec 32 := Scalar.addi c512_i32_29 v8
  let c1_i32_30 : BitVec 32 := 1#32
  let v31 : BitVec 32 := Scalar.addi v30 c1_i32_30
  let v32 : Index := Scalar.indexCast v31
  ![0, 0, v32.toNat]
def k0_off29 (v33 : BitVec 32) : Fin 2 → Nat :=
  let c0_i32_33 : BitVec 32 := 0#32
  ![v33.toNat, 0]

def k0_chk9 (v33 : BitVec 32) : Prop :=
  (∀ a, (k0_off29 v33) a + S1x1024.size a ≤ S147456x1024.size a)
theorem k0_off29_inb : ∀ (v33 : BitVec 32) (k0_hw9 : k0_chk9 v33), ∀ a, (k0_off29 v33) a + S1x1024.size a ≤ S147456x1024.size a := fun v33 k0_hw9 => k0_hw9

def k0_off30 (k0_t4 : Fin k0_t4_loop.trips) : Fin 2 → Nat :=
  let c0_i32_1 : BitVec 32 := 0#32
  let c1_i32 : BitVec 32 := 1#32
  let arg8 : BitVec 32 := Scf.iv c0_i32_1 c1_i32 k0_t4
  let c8_i32 : BitVec 32 := 8#32
  let v7 : BitVec 32 := Scalar.muli arg8 c8_i32
  let v8 : BitVec 32 := v7
  let c0_i32_34 : BitVec 32 := 0#32
  ![v8.toNat, 0]
def k0_off31 (k0_t4 : Fin k0_t4_loop.trips) : Fin 3 → Nat :=
  let c0_38 : Index := 0#32
  let c0_39 : Index := 0#32
  let c0_i32_37 : BitVec 32 := 0#32
  let c0_i32_1 : BitVec 32 := 0#32
  let c1_i32 : BitVec 32 := 1#32
  let arg8 : BitVec 32 := Scf.iv c0_i32_1 c1_i32 k0_t4
  let c8_i32 : BitVec 32 := 8#32
  let v7 : BitVec 32 := Scalar.muli arg8 c8_i32
  let v8 : BitVec 32 := v7
  let v37 : BitVec 32 := Scalar.addi c0_i32_37 v8
  let c2_i32 : BitVec 32 := 2#32
  let v38 : BitVec 32 := Scalar.addi v37 c2_i32
  let v39 : Index := Scalar.indexCast v38
  ![0, 0, v39.toNat]
def k0_off32 (v40 : BitVec 32) : Fin 2 → Nat :=
  let c0_i32_40 : BitVec 32 := 0#32
  ![v40.toNat, 0]

def k0_chk10 (v40 : BitVec 32) : Prop :=
  (∀ a, (k0_off32 v40) a + S1x1024.size a ≤ S147456x1024.size a)
theorem k0_off32_inb : ∀ (v40 : BitVec 32) (k0_hw10 : k0_chk10 v40), ∀ a, (k0_off32 v40) a + S1x1024.size a ≤ S147456x1024.size a := fun v40 k0_hw10 => k0_hw10

def k0_off33 (k0_t4 : Fin k0_t4_loop.trips) : Fin 2 → Nat :=
  let c0_i32_1 : BitVec 32 := 0#32
  let c1_i32 : BitVec 32 := 1#32
  let arg8 : BitVec 32 := Scf.iv c0_i32_1 c1_i32 k0_t4
  let c8_i32 : BitVec 32 := 8#32
  let v7 : BitVec 32 := Scalar.muli arg8 c8_i32
  let v8 : BitVec 32 := v7
  let c0_i32_41 : BitVec 32 := 0#32
  ![v8.toNat, 0]
def k0_off34 (k0_t4 : Fin k0_t4_loop.trips) : Fin 3 → Nat :=
  let c0_46 : Index := 0#32
  let c0_47 : Index := 0#32
  let c512_i32_44 : BitVec 32 := 512#32
  let c0_i32_1 : BitVec 32 := 0#32
  let c1_i32 : BitVec 32 := 1#32
  let arg8 : BitVec 32 := Scf.iv c0_i32_1 c1_i32 k0_t4
  let c8_i32 : BitVec 32 := 8#32
  let v7 : BitVec 32 := Scalar.muli arg8 c8_i32
  let v8 : BitVec 32 := v7
  let v44 : BitVec 32 := Scalar.addi c512_i32_44 v8
  let c2_i32_45 : BitVec 32 := 2#32
  let v45 : BitVec 32 := Scalar.addi v44 c2_i32_45
  let v46 : Index := Scalar.indexCast v45
  ![0, 0, v46.toNat]
def k0_off35 (v47 : BitVec 32) : Fin 2 → Nat :=
  let c0_i32_48 : BitVec 32 := 0#32
  ![v47.toNat, 0]

def k0_chk11 (v47 : BitVec 32) : Prop :=
  (∀ a, (k0_off35 v47) a + S1x1024.size a ≤ S147456x1024.size a)
theorem k0_off35_inb : ∀ (v47 : BitVec 32) (k0_hw11 : k0_chk11 v47), ∀ a, (k0_off35 v47) a + S1x1024.size a ≤ S147456x1024.size a := fun v47 k0_hw11 => k0_hw11

def k0_off36 (k0_t4 : Fin k0_t4_loop.trips) : Fin 2 → Nat :=
  let c0_i32_1 : BitVec 32 := 0#32
  let c1_i32 : BitVec 32 := 1#32
  let arg8 : BitVec 32 := Scf.iv c0_i32_1 c1_i32 k0_t4
  let c8_i32 : BitVec 32 := 8#32
  let v7 : BitVec 32 := Scalar.muli arg8 c8_i32
  let v8 : BitVec 32 := v7
  let c0_i32_49 : BitVec 32 := 0#32
  ![v8.toNat, 0]
def k0_off37 (k0_t4 : Fin k0_t4_loop.trips) : Fin 3 → Nat :=
  let c0_53 : Index := 0#32
  let c0_54 : Index := 0#32
  let c0_i32_52 : BitVec 32 := 0#32
  let c0_i32_1 : BitVec 32 := 0#32
  let c1_i32 : BitVec 32 := 1#32
  let arg8 : BitVec 32 := Scf.iv c0_i32_1 c1_i32 k0_t4
  let c8_i32 : BitVec 32 := 8#32
  let v7 : BitVec 32 := Scalar.muli arg8 c8_i32
  let v8 : BitVec 32 := v7
  let v51 : BitVec 32 := Scalar.addi c0_i32_52 v8
  let c3_i32 : BitVec 32 := 3#32
  let v52 : BitVec 32 := Scalar.addi v51 c3_i32
  let v53 : Index := Scalar.indexCast v52
  ![0, 0, v53.toNat]
def k0_off38 (v54 : BitVec 32) : Fin 2 → Nat :=
  let c0_i32_55 : BitVec 32 := 0#32
  ![v54.toNat, 0]

def k0_chk12 (v54 : BitVec 32) : Prop :=
  (∀ a, (k0_off38 v54) a + S1x1024.size a ≤ S147456x1024.size a)
theorem k0_off38_inb : ∀ (v54 : BitVec 32) (k0_hw12 : k0_chk12 v54), ∀ a, (k0_off38 v54) a + S1x1024.size a ≤ S147456x1024.size a := fun v54 k0_hw12 => k0_hw12

def k0_off39 (k0_t4 : Fin k0_t4_loop.trips) : Fin 2 → Nat :=
  let c0_i32_1 : BitVec 32 := 0#32
  let c1_i32 : BitVec 32 := 1#32
  let arg8 : BitVec 32 := Scf.iv c0_i32_1 c1_i32 k0_t4
  let c8_i32 : BitVec 32 := 8#32
  let v7 : BitVec 32 := Scalar.muli arg8 c8_i32
  let v8 : BitVec 32 := v7
  let c0_i32_56 : BitVec 32 := 0#32
  ![v8.toNat, 0]
def k0_off40 (k0_t4 : Fin k0_t4_loop.trips) : Fin 3 → Nat :=
  let c0_61 : Index := 0#32
  let c0_62 : Index := 0#32
  let c512_i32_59 : BitVec 32 := 512#32
  let c0_i32_1 : BitVec 32 := 0#32
  let c1_i32 : BitVec 32 := 1#32
  let arg8 : BitVec 32 := Scf.iv c0_i32_1 c1_i32 k0_t4
  let c8_i32 : BitVec 32 := 8#32
  let v7 : BitVec 32 := Scalar.muli arg8 c8_i32
  let v8 : BitVec 32 := v7
  let v58 : BitVec 32 := Scalar.addi c512_i32_59 v8
  let c3_i32_60 : BitVec 32 := 3#32
  let v59 : BitVec 32 := Scalar.addi v58 c3_i32_60
  let v60 : Index := Scalar.indexCast v59
  ![0, 0, v60.toNat]
def k0_off41 (v61 : BitVec 32) : Fin 2 → Nat :=
  let c0_i32_63 : BitVec 32 := 0#32
  ![v61.toNat, 0]

def k0_chk13 (v61 : BitVec 32) : Prop :=
  (∀ a, (k0_off41 v61) a + S1x1024.size a ≤ S147456x1024.size a)
theorem k0_off41_inb : ∀ (v61 : BitVec 32) (k0_hw13 : k0_chk13 v61), ∀ a, (k0_off41 v61) a + S1x1024.size a ≤ S147456x1024.size a := fun v61 k0_hw13 => k0_hw13

def k0_off42 (k0_t4 : Fin k0_t4_loop.trips) : Fin 2 → Nat :=
  let c0_i32_1 : BitVec 32 := 0#32
  let c1_i32 : BitVec 32 := 1#32
  let arg8 : BitVec 32 := Scf.iv c0_i32_1 c1_i32 k0_t4
  let c8_i32 : BitVec 32 := 8#32
  let v7 : BitVec 32 := Scalar.muli arg8 c8_i32
  let v8 : BitVec 32 := v7
  let c0_i32_64 : BitVec 32 := 0#32
  ![v8.toNat, 0]
def k0_off43 (k0_t4 : Fin k0_t4_loop.trips) : Fin 3 → Nat :=
  let c0_68 : Index := 0#32
  let c0_69 : Index := 0#32
  let c0_i32_67 : BitVec 32 := 0#32
  let c0_i32_1 : BitVec 32 := 0#32
  let c1_i32 : BitVec 32 := 1#32
  let arg8 : BitVec 32 := Scf.iv c0_i32_1 c1_i32 k0_t4
  let c8_i32 : BitVec 32 := 8#32
  let v7 : BitVec 32 := Scalar.muli arg8 c8_i32
  let v8 : BitVec 32 := v7
  let v65 : BitVec 32 := Scalar.addi c0_i32_67 v8
  let c4_i32 : BitVec 32 := 4#32
  let v66 : BitVec 32 := Scalar.addi v65 c4_i32
  let v67 : Index := Scalar.indexCast v66
  ![0, 0, v67.toNat]
def k0_off44 (v68 : BitVec 32) : Fin 2 → Nat :=
  let c0_i32_70 : BitVec 32 := 0#32
  ![v68.toNat, 0]

def k0_chk14 (v68 : BitVec 32) : Prop :=
  (∀ a, (k0_off44 v68) a + S1x1024.size a ≤ S147456x1024.size a)
theorem k0_off44_inb : ∀ (v68 : BitVec 32) (k0_hw14 : k0_chk14 v68), ∀ a, (k0_off44 v68) a + S1x1024.size a ≤ S147456x1024.size a := fun v68 k0_hw14 => k0_hw14

def k0_off45 (k0_t4 : Fin k0_t4_loop.trips) : Fin 2 → Nat :=
  let c0_i32_1 : BitVec 32 := 0#32
  let c1_i32 : BitVec 32 := 1#32
  let arg8 : BitVec 32 := Scf.iv c0_i32_1 c1_i32 k0_t4
  let c8_i32 : BitVec 32 := 8#32
  let v7 : BitVec 32 := Scalar.muli arg8 c8_i32
  let v8 : BitVec 32 := v7
  let c0_i32_71 : BitVec 32 := 0#32
  ![v8.toNat, 0]
def k0_off46 (k0_t4 : Fin k0_t4_loop.trips) : Fin 3 → Nat :=
  let c0_76 : Index := 0#32
  let c0_77 : Index := 0#32
  let c512_i32_74 : BitVec 32 := 512#32
  let c0_i32_1 : BitVec 32 := 0#32
  let c1_i32 : BitVec 32 := 1#32
  let arg8 : BitVec 32 := Scf.iv c0_i32_1 c1_i32 k0_t4
  let c8_i32 : BitVec 32 := 8#32
  let v7 : BitVec 32 := Scalar.muli arg8 c8_i32
  let v8 : BitVec 32 := v7
  let v72 : BitVec 32 := Scalar.addi c512_i32_74 v8
  let c4_i32_75 : BitVec 32 := 4#32
  let v73 : BitVec 32 := Scalar.addi v72 c4_i32_75
  let v74 : Index := Scalar.indexCast v73
  ![0, 0, v74.toNat]
def k0_off47 (v75 : BitVec 32) : Fin 2 → Nat :=
  let c0_i32_78 : BitVec 32 := 0#32
  ![v75.toNat, 0]

def k0_chk15 (v75 : BitVec 32) : Prop :=
  (∀ a, (k0_off47 v75) a + S1x1024.size a ≤ S147456x1024.size a)
theorem k0_off47_inb : ∀ (v75 : BitVec 32) (k0_hw15 : k0_chk15 v75), ∀ a, (k0_off47 v75) a + S1x1024.size a ≤ S147456x1024.size a := fun v75 k0_hw15 => k0_hw15

def k0_off48 (k0_t4 : Fin k0_t4_loop.trips) : Fin 2 → Nat :=
  let c0_i32_1 : BitVec 32 := 0#32
  let c1_i32 : BitVec 32 := 1#32
  let arg8 : BitVec 32 := Scf.iv c0_i32_1 c1_i32 k0_t4
  let c8_i32 : BitVec 32 := 8#32
  let v7 : BitVec 32 := Scalar.muli arg8 c8_i32
  let v8 : BitVec 32 := v7
  let c0_i32_79 : BitVec 32 := 0#32
  ![v8.toNat, 0]
def k0_off49 (k0_t4 : Fin k0_t4_loop.trips) : Fin 3 → Nat :=
  let c0_83 : Index := 0#32
  let c0_84 : Index := 0#32
  let c0_i32_82 : BitVec 32 := 0#32
  let c0_i32_1 : BitVec 32 := 0#32
  let c1_i32 : BitVec 32 := 1#32
  let arg8 : BitVec 32 := Scf.iv c0_i32_1 c1_i32 k0_t4
  let c8_i32 : BitVec 32 := 8#32
  let v7 : BitVec 32 := Scalar.muli arg8 c8_i32
  let v8 : BitVec 32 := v7
  let v79 : BitVec 32 := Scalar.addi c0_i32_82 v8
  let c5_i32 : BitVec 32 := 5#32
  let v80 : BitVec 32 := Scalar.addi v79 c5_i32
  let v81 : Index := Scalar.indexCast v80
  ![0, 0, v81.toNat]
def k0_off50 (v82 : BitVec 32) : Fin 2 → Nat :=
  let c0_i32_85 : BitVec 32 := 0#32
  ![v82.toNat, 0]

def k0_chk16 (v82 : BitVec 32) : Prop :=
  (∀ a, (k0_off50 v82) a + S1x1024.size a ≤ S147456x1024.size a)
theorem k0_off50_inb : ∀ (v82 : BitVec 32) (k0_hw16 : k0_chk16 v82), ∀ a, (k0_off50 v82) a + S1x1024.size a ≤ S147456x1024.size a := fun v82 k0_hw16 => k0_hw16

def k0_off51 (k0_t4 : Fin k0_t4_loop.trips) : Fin 2 → Nat :=
  let c0_i32_1 : BitVec 32 := 0#32
  let c1_i32 : BitVec 32 := 1#32
  let arg8 : BitVec 32 := Scf.iv c0_i32_1 c1_i32 k0_t4
  let c8_i32 : BitVec 32 := 8#32
  let v7 : BitVec 32 := Scalar.muli arg8 c8_i32
  let v8 : BitVec 32 := v7
  let c0_i32_86 : BitVec 32 := 0#32
  ![v8.toNat, 0]
def k0_off52 (k0_t4 : Fin k0_t4_loop.trips) : Fin 3 → Nat :=
  let c0_91 : Index := 0#32
  let c0_92 : Index := 0#32
  let c512_i32_89 : BitVec 32 := 512#32
  let c0_i32_1 : BitVec 32 := 0#32
  let c1_i32 : BitVec 32 := 1#32
  let arg8 : BitVec 32 := Scf.iv c0_i32_1 c1_i32 k0_t4
  let c8_i32 : BitVec 32 := 8#32
  let v7 : BitVec 32 := Scalar.muli arg8 c8_i32
  let v8 : BitVec 32 := v7
  let v86 : BitVec 32 := Scalar.addi c512_i32_89 v8
  let c5_i32_90 : BitVec 32 := 5#32
  let v87 : BitVec 32 := Scalar.addi v86 c5_i32_90
  let v88 : Index := Scalar.indexCast v87
  ![0, 0, v88.toNat]
def k0_off53 (v89 : BitVec 32) : Fin 2 → Nat :=
  let c0_i32_93 : BitVec 32 := 0#32
  ![v89.toNat, 0]

def k0_chk17 (v89 : BitVec 32) : Prop :=
  (∀ a, (k0_off53 v89) a + S1x1024.size a ≤ S147456x1024.size a)
theorem k0_off53_inb : ∀ (v89 : BitVec 32) (k0_hw17 : k0_chk17 v89), ∀ a, (k0_off53 v89) a + S1x1024.size a ≤ S147456x1024.size a := fun v89 k0_hw17 => k0_hw17

def k0_off54 (k0_t4 : Fin k0_t4_loop.trips) : Fin 2 → Nat :=
  let c0_i32_1 : BitVec 32 := 0#32
  let c1_i32 : BitVec 32 := 1#32
  let arg8 : BitVec 32 := Scf.iv c0_i32_1 c1_i32 k0_t4
  let c8_i32 : BitVec 32 := 8#32
  let v7 : BitVec 32 := Scalar.muli arg8 c8_i32
  let v8 : BitVec 32 := v7
  let c0_i32_94 : BitVec 32 := 0#32
  ![v8.toNat, 0]
def k0_off55 (k0_t4 : Fin k0_t4_loop.trips) : Fin 3 → Nat :=
  let c0_98 : Index := 0#32
  let c0_99 : Index := 0#32
  let c0_i32_97 : BitVec 32 := 0#32
  let c0_i32_1 : BitVec 32 := 0#32
  let c1_i32 : BitVec 32 := 1#32
  let arg8 : BitVec 32 := Scf.iv c0_i32_1 c1_i32 k0_t4
  let c8_i32 : BitVec 32 := 8#32
  let v7 : BitVec 32 := Scalar.muli arg8 c8_i32
  let v8 : BitVec 32 := v7
  let v93 : BitVec 32 := Scalar.addi c0_i32_97 v8
  let c6_i32 : BitVec 32 := 6#32
  let v94 : BitVec 32 := Scalar.addi v93 c6_i32
  let v95 : Index := Scalar.indexCast v94
  ![0, 0, v95.toNat]
def k0_off56 (v96 : BitVec 32) : Fin 2 → Nat :=
  let c0_i32_100 : BitVec 32 := 0#32
  ![v96.toNat, 0]

def k0_chk18 (v96 : BitVec 32) : Prop :=
  (∀ a, (k0_off56 v96) a + S1x1024.size a ≤ S147456x1024.size a)
theorem k0_off56_inb : ∀ (v96 : BitVec 32) (k0_hw18 : k0_chk18 v96), ∀ a, (k0_off56 v96) a + S1x1024.size a ≤ S147456x1024.size a := fun v96 k0_hw18 => k0_hw18

def k0_off57 (k0_t4 : Fin k0_t4_loop.trips) : Fin 2 → Nat :=
  let c0_i32_1 : BitVec 32 := 0#32
  let c1_i32 : BitVec 32 := 1#32
  let arg8 : BitVec 32 := Scf.iv c0_i32_1 c1_i32 k0_t4
  let c8_i32 : BitVec 32 := 8#32
  let v7 : BitVec 32 := Scalar.muli arg8 c8_i32
  let v8 : BitVec 32 := v7
  let c0_i32_101 : BitVec 32 := 0#32
  ![v8.toNat, 0]
def k0_off58 (k0_t4 : Fin k0_t4_loop.trips) : Fin 3 → Nat :=
  let c0_106 : Index := 0#32
  let c0_107 : Index := 0#32
  let c512_i32_104 : BitVec 32 := 512#32
  let c0_i32_1 : BitVec 32 := 0#32
  let c1_i32 : BitVec 32 := 1#32
  let arg8 : BitVec 32 := Scf.iv c0_i32_1 c1_i32 k0_t4
  let c8_i32 : BitVec 32 := 8#32
  let v7 : BitVec 32 := Scalar.muli arg8 c8_i32
  let v8 : BitVec 32 := v7
  let v100 : BitVec 32 := Scalar.addi c512_i32_104 v8
  let c6_i32_105 : BitVec 32 := 6#32
  let v101 : BitVec 32 := Scalar.addi v100 c6_i32_105
  let v102 : Index := Scalar.indexCast v101
  ![0, 0, v102.toNat]
def k0_off59 (v103 : BitVec 32) : Fin 2 → Nat :=
  let c0_i32_108 : BitVec 32 := 0#32
  ![v103.toNat, 0]

def k0_chk19 (v103 : BitVec 32) : Prop :=
  (∀ a, (k0_off59 v103) a + S1x1024.size a ≤ S147456x1024.size a)
theorem k0_off59_inb : ∀ (v103 : BitVec 32) (k0_hw19 : k0_chk19 v103), ∀ a, (k0_off59 v103) a + S1x1024.size a ≤ S147456x1024.size a := fun v103 k0_hw19 => k0_hw19

def k0_off60 (k0_t4 : Fin k0_t4_loop.trips) : Fin 2 → Nat :=
  let c0_i32_1 : BitVec 32 := 0#32
  let c1_i32 : BitVec 32 := 1#32
  let arg8 : BitVec 32 := Scf.iv c0_i32_1 c1_i32 k0_t4
  let c8_i32 : BitVec 32 := 8#32
  let v7 : BitVec 32 := Scalar.muli arg8 c8_i32
  let v8 : BitVec 32 := v7
  let c0_i32_109 : BitVec 32 := 0#32
  ![v8.toNat, 0]
def k0_off61 (k0_t4 : Fin k0_t4_loop.trips) : Fin 3 → Nat :=
  let c0_113 : Index := 0#32
  let c0_114 : Index := 0#32
  let c0_i32_112 : BitVec 32 := 0#32
  let c0_i32_1 : BitVec 32 := 0#32
  let c1_i32 : BitVec 32 := 1#32
  let arg8 : BitVec 32 := Scf.iv c0_i32_1 c1_i32 k0_t4
  let c8_i32 : BitVec 32 := 8#32
  let v7 : BitVec 32 := Scalar.muli arg8 c8_i32
  let v8 : BitVec 32 := v7
  let v107 : BitVec 32 := Scalar.addi c0_i32_112 v8
  let c7_i32 : BitVec 32 := 7#32
  let v108 : BitVec 32 := Scalar.addi v107 c7_i32
  let v109 : Index := Scalar.indexCast v108
  ![0, 0, v109.toNat]
def k0_off62 (v110 : BitVec 32) : Fin 2 → Nat :=
  let c0_i32_115 : BitVec 32 := 0#32
  ![v110.toNat, 0]

def k0_chk20 (v110 : BitVec 32) : Prop :=
  (∀ a, (k0_off62 v110) a + S1x1024.size a ≤ S147456x1024.size a)
theorem k0_off62_inb : ∀ (v110 : BitVec 32) (k0_hw20 : k0_chk20 v110), ∀ a, (k0_off62 v110) a + S1x1024.size a ≤ S147456x1024.size a := fun v110 k0_hw20 => k0_hw20

def k0_off63 (k0_t4 : Fin k0_t4_loop.trips) : Fin 2 → Nat :=
  let c0_i32_1 : BitVec 32 := 0#32
  let c1_i32 : BitVec 32 := 1#32
  let arg8 : BitVec 32 := Scf.iv c0_i32_1 c1_i32 k0_t4
  let c8_i32 : BitVec 32 := 8#32
  let v7 : BitVec 32 := Scalar.muli arg8 c8_i32
  let v8 : BitVec 32 := v7
  let c0_i32_116 : BitVec 32 := 0#32
  ![v8.toNat, 0]
def k0_off64 (k0_t4 : Fin k0_t4_loop.trips) : Fin 3 → Nat :=
  let c0_121 : Index := 0#32
  let c0_122 : Index := 0#32
  let c512_i32_119 : BitVec 32 := 512#32
  let c0_i32_1 : BitVec 32 := 0#32
  let c1_i32 : BitVec 32 := 1#32
  let arg8 : BitVec 32 := Scf.iv c0_i32_1 c1_i32 k0_t4
  let c8_i32 : BitVec 32 := 8#32
  let v7 : BitVec 32 := Scalar.muli arg8 c8_i32
  let v8 : BitVec 32 := v7
  let v114 : BitVec 32 := Scalar.addi c512_i32_119 v8
  let c7_i32_120 : BitVec 32 := 7#32
  let v115 : BitVec 32 := Scalar.addi v114 c7_i32_120
  let v116 : Index := Scalar.indexCast v115
  ![0, 0, v116.toNat]
def k0_off65 (v117 : BitVec 32) : Fin 2 → Nat :=
  let c0_i32_123 : BitVec 32 := 0#32
  ![v117.toNat, 0]

def k0_chk21 (v117 : BitVec 32) : Prop :=
  (∀ a, (k0_off65 v117) a + S1x1024.size a ≤ S147456x1024.size a)
theorem k0_off65_inb : ∀ (v117 : BitVec 32) (k0_hw21 : k0_chk21 v117), ∀ a, (k0_off65 v117) a + S1x1024.size a ≤ S147456x1024.size a := fun v117 k0_hw21 => k0_hw21

def k0_off66 (k0_t4 : Fin k0_t4_loop.trips) : Fin 2 → Nat :=
  let c0_i32_1 : BitVec 32 := 0#32
  let c1_i32 : BitVec 32 := 1#32
  let arg8 : BitVec 32 := Scf.iv c0_i32_1 c1_i32 k0_t4
  let c8_i32 : BitVec 32 := 8#32
  let v7 : BitVec 32 := Scalar.muli arg8 c8_i32
  let v8 : BitVec 32 := v7
  let c0_i32_124 : BitVec 32 := 0#32
  ![v8.toNat, 0]
@[reducible] def k0_t5_loop : Scf.Loop 32 :=
  let c0_i32_3 : BitVec 32 := 0#32
  let c512_i32 : BitVec 32 := 512#32
  let v4 : BitVec 32 := Scalar.addi c0_i32_3 c512_i32
  let c1_i32_4 : BitVec 32 := 1#32
  ⟨c0_i32_3, v4, c1_i32_4⟩
def k0_cond15 (i : grid0.Coords) : BitVec 1 :=
  let arg0 : BitVec 32 := BitVec.ofNat 32 (i 0).val
  let c0_i32 : BitVec 32 := 0#32
  let v0 : BitVec 1 := Scalar.cmpi .eq arg0 c0_i32
  let v5 : BitVec 32 := Scalar.extui v0
  let c0_i32_5 : BitVec 32 := 0#32
  let v6 : BitVec 1 := Scalar.cmpi .ne v5 c0_i32_5
  v6

@[reducible] def k0_t6_loop : Scf.Loop 32 :=
  let c0_i32_6 : BitVec 32 := 0#32
  let c32_i32 : BitVec 32 := 32#32
  let v7 : BitVec 32 := Scalar.addi c0_i32_6 c32_i32
  let c1_i32_7 : BitVec 32 := 1#32
  ⟨c0_i32_6, v7, c1_i32_7⟩
def k0_off67 (k0_t6 : Fin k0_t6_loop.trips) : Fin 2 → Nat :=
  let c0 : Index := 0#32
  let c0_i32_6 : BitVec 32 := 0#32
  let c1_i32_7 : BitVec 32 := 1#32
  let arg8 : BitVec 32 := Scf.iv c0_i32_6 c1_i32_7 k0_t6
  let v14 : Index := Scalar.indexCast arg8
  ![0, v14.toNat]
def k0_off68 (k0_t6 : Fin k0_t6_loop.trips) : Fin 2 → Nat :=
  let c1_14 : Index := 1#32
  let c0_i32_6 : BitVec 32 := 0#32
  let c1_i32_7 : BitVec 32 := 1#32
  let arg8 : BitVec 32 := Scf.iv c0_i32_6 c1_i32_7 k0_t6
  let v16 : Index := Scalar.indexCast arg8
  ![1, v16.toNat]
def k0_off69 (k0_t6 : Fin k0_t6_loop.trips) : Fin 2 → Nat :=
  let c2 : Index := 2#32
  let c0_i32_6 : BitVec 32 := 0#32
  let c1_i32_7 : BitVec 32 := 1#32
  let arg8 : BitVec 32 := Scf.iv c0_i32_6 c1_i32_7 k0_t6
  let v18 : Index := Scalar.indexCast arg8
  ![2, v18.toNat]
def k0_mult10 (v17 : BitVec 32) (v19 : BitVec 32) : BitVec 32 :=
  let c256_i32 : BitVec 32 := 256#32
  let v20 : BitVec 32 := Scalar.andi v17 c256_i32
  let c0_i32_15 : BitVec 32 := 0#32
  let v21 : BitVec 1 := Scalar.cmpi .ne v20 c0_i32_15
  let c256_i32_16 : BitVec 32 := 256#32
  let c0_i32_17 : BitVec 32 := 0#32
  let v22 : BitVec 32 := Scalar.select v21 c256_i32_16 c0_i32_17
  let v23 : BitVec 32 := Scalar.subi v19 v22
  v23
def k0_cond16 (v17 : BitVec 32) : BitVec 1 :=
  let c256_i32 : BitVec 32 := 256#32
  let v20 : BitVec 32 := Scalar.andi v17 c256_i32
  let c0_i32_15 : BitVec 32 := 0#32
  let v21 : BitVec 1 := Scalar.cmpi .ne v20 c0_i32_15
  let v24 : BitVec 32 := Scalar.extui v21
  let c0_i32_18 : BitVec 32 := 0#32
  let v25 : BitVec 1 := Scalar.cmpi .ne v24 c0_i32_18
  v25

def k0_off70 (v17 : BitVec 32) (v19 : BitVec 32) : Fin 2 → Nat :=
  let c256_i32 : BitVec 32 := 256#32
  let v20 : BitVec 32 := Scalar.andi v17 c256_i32
  let c0_i32_15 : BitVec 32 := 0#32
  let v21 : BitVec 1 := Scalar.cmpi .ne v20 c0_i32_15
  let c256_i32_16 : BitVec 32 := 256#32
  let c0_i32_17 : BitVec 32 := 0#32
  let v22 : BitVec 32 := Scalar.select v21 c256_i32_16 c0_i32_17
  let v23 : BitVec 32 := Scalar.subi v19 v22
  let v91 : BitVec 32 := v23
  let c0_i32_63 : BitVec 32 := 0#32
  ![v91.toNat, 0]
def k0_mult11 (v17 : BitVec 32) (v19 : BitVec 32) : BitVec 32 :=
  let c256_i32 : BitVec 32 := 256#32
  let v20 : BitVec 32 := Scalar.andi v17 c256_i32
  let c0_i32_15 : BitVec 32 := 0#32
  let v21 : BitVec 1 := Scalar.cmpi .ne v20 c0_i32_15
  let c256_i32_16 : BitVec 32 := 256#32
  let c0_i32_17 : BitVec 32 := 0#32
  let v22 : BitVec 32 := Scalar.select v21 c256_i32_16 c0_i32_17
  let v23 : BitVec 32 := Scalar.subi v19 v22
  let c128_i32 : BitVec 32 := 128#32
  let v26 : BitVec 32 := Scalar.andi v17 c128_i32
  let c0_i32_19 : BitVec 32 := 0#32
  let v27 : BitVec 1 := Scalar.cmpi .ne v26 c0_i32_19
  let c128_i32_20 : BitVec 32 := 128#32
  let c0_i32_21 : BitVec 32 := 0#32
  let v28 : BitVec 32 := Scalar.select v27 c128_i32_20 c0_i32_21
  let v29 : BitVec 32 := Scalar.subi v23 v28
  v29
def k0_cond17 (v17 : BitVec 32) : BitVec 1 :=
  let c128_i32 : BitVec 32 := 128#32
  let v26 : BitVec 32 := Scalar.andi v17 c128_i32
  let c0_i32_19 : BitVec 32 := 0#32
  let v27 : BitVec 1 := Scalar.cmpi .ne v26 c0_i32_19
  let v30 : BitVec 32 := Scalar.extui v27
  let c0_i32_22 : BitVec 32 := 0#32
  let v31 : BitVec 1 := Scalar.cmpi .ne v30 c0_i32_22
  v31

def k0_off71 (v17 : BitVec 32) (v19 : BitVec 32) : Fin 2 → Nat :=
  let c256_i32 : BitVec 32 := 256#32
  let v20 : BitVec 32 := Scalar.andi v17 c256_i32
  let c0_i32_15 : BitVec 32 := 0#32
  let v21 : BitVec 1 := Scalar.cmpi .ne v20 c0_i32_15
  let c256_i32_16 : BitVec 32 := 256#32
  let c0_i32_17 : BitVec 32 := 0#32
  let v22 : BitVec 32 := Scalar.select v21 c256_i32_16 c0_i32_17
  let v23 : BitVec 32 := Scalar.subi v19 v22
  let c128_i32 : BitVec 32 := 128#32
  let v26 : BitVec 32 := Scalar.andi v17 c128_i32
  let c0_i32_19 : BitVec 32 := 0#32
  let v27 : BitVec 1 := Scalar.cmpi .ne v26 c0_i32_19
  let c128_i32_20 : BitVec 32 := 128#32
  let c0_i32_21 : BitVec 32 := 0#32
  let v28 : BitVec 32 := Scalar.select v27 c128_i32_20 c0_i32_21
  let v29 : BitVec 32 := Scalar.subi v23 v28
  let v91 : BitVec 32 := v29
  let c0_i32_63 : BitVec 32 := 0#32
  ![v91.toNat, 0]
def k0_mult12 (v17 : BitVec 32) (v19 : BitVec 32) : BitVec 32 :=
  let c256_i32 : BitVec 32 := 256#32
  let v20 : BitVec 32 := Scalar.andi v17 c256_i32
  let c0_i32_15 : BitVec 32 := 0#32
  let v21 : BitVec 1 := Scalar.cmpi .ne v20 c0_i32_15
  let c256_i32_16 : BitVec 32 := 256#32
  let c0_i32_17 : BitVec 32 := 0#32
  let v22 : BitVec 32 := Scalar.select v21 c256_i32_16 c0_i32_17
  let v23 : BitVec 32 := Scalar.subi v19 v22
  let c128_i32 : BitVec 32 := 128#32
  let v26 : BitVec 32 := Scalar.andi v17 c128_i32
  let c0_i32_19 : BitVec 32 := 0#32
  let v27 : BitVec 1 := Scalar.cmpi .ne v26 c0_i32_19
  let c128_i32_20 : BitVec 32 := 128#32
  let c0_i32_21 : BitVec 32 := 0#32
  let v28 : BitVec 32 := Scalar.select v27 c128_i32_20 c0_i32_21
  let v29 : BitVec 32 := Scalar.subi v23 v28
  let c64_i32_23 : BitVec 32 := 64#32
  let v32 : BitVec 32 := Scalar.andi v17 c64_i32_23
  let c0_i32_24 : BitVec 32 := 0#32
  let v33 : BitVec 1 := Scalar.cmpi .ne v32 c0_i32_24
  let c64_i32_25 : BitVec 32 := 64#32
  let c0_i32_26 : BitVec 32 := 0#32
  let v34 : BitVec 32 := Scalar.select v33 c64_i32_25 c0_i32_26
  let v35 : BitVec 32 := Scalar.subi v29 v34
  v35
def k0_cond18 (v17 : BitVec 32) : BitVec 1 :=
  let c64_i32_23 : BitVec 32 := 64#32
  let v32 : BitVec 32 := Scalar.andi v17 c64_i32_23
  let c0_i32_24 : BitVec 32 := 0#32
  let v33 : BitVec 1 := Scalar.cmpi .ne v32 c0_i32_24
  let v36 : BitVec 32 := Scalar.extui v33
  let c0_i32_27 : BitVec 32 := 0#32
  let v37 : BitVec 1 := Scalar.cmpi .ne v36 c0_i32_27
  v37

def k0_off72 (v17 : BitVec 32) (v19 : BitVec 32) : Fin 2 → Nat :=
  let c256_i32 : BitVec 32 := 256#32
  let v20 : BitVec 32 := Scalar.andi v17 c256_i32
  let c0_i32_15 : BitVec 32 := 0#32
  let v21 : BitVec 1 := Scalar.cmpi .ne v20 c0_i32_15
  let c256_i32_16 : BitVec 32 := 256#32
  let c0_i32_17 : BitVec 32 := 0#32
  let v22 : BitVec 32 := Scalar.select v21 c256_i32_16 c0_i32_17
  let v23 : BitVec 32 := Scalar.subi v19 v22
  let c128_i32 : BitVec 32 := 128#32
  let v26 : BitVec 32 := Scalar.andi v17 c128_i32
  let c0_i32_19 : BitVec 32 := 0#32
  let v27 : BitVec 1 := Scalar.cmpi .ne v26 c0_i32_19
  let c128_i32_20 : BitVec 32 := 128#32
  let c0_i32_21 : BitVec 32 := 0#32
  let v28 : BitVec 32 := Scalar.select v27 c128_i32_20 c0_i32_21
  let v29 : BitVec 32 := Scalar.subi v23 v28
  let c64_i32_23 : BitVec 32 := 64#32
  let v32 : BitVec 32 := Scalar.andi v17 c64_i32_23
  let c0_i32_24 : BitVec 32 := 0#32
  let v33 : BitVec 1 := Scalar.cmpi .ne v32 c0_i32_24
  let c64_i32_25 : BitVec 32 := 64#32
  let c0_i32_26 : BitVec 32 := 0#32
  let v34 : BitVec 32 := Scalar.select v33 c64_i32_25 c0_i32_26
  let v35 : BitVec 32 := Scalar.subi v29 v34
  let v91 : BitVec 32 := v35
  let c0_i32_63 : BitVec 32 := 0#32
  ![v91.toNat, 0]
def k0_mult13 (v17 : BitVec 32) (v19 : BitVec 32) : BitVec 32 :=
  let c256_i32 : BitVec 32 := 256#32
  let v20 : BitVec 32 := Scalar.andi v17 c256_i32
  let c0_i32_15 : BitVec 32 := 0#32
  let v21 : BitVec 1 := Scalar.cmpi .ne v20 c0_i32_15
  let c256_i32_16 : BitVec 32 := 256#32
  let c0_i32_17 : BitVec 32 := 0#32
  let v22 : BitVec 32 := Scalar.select v21 c256_i32_16 c0_i32_17
  let v23 : BitVec 32 := Scalar.subi v19 v22
  let c128_i32 : BitVec 32 := 128#32
  let v26 : BitVec 32 := Scalar.andi v17 c128_i32
  let c0_i32_19 : BitVec 32 := 0#32
  let v27 : BitVec 1 := Scalar.cmpi .ne v26 c0_i32_19
  let c128_i32_20 : BitVec 32 := 128#32
  let c0_i32_21 : BitVec 32 := 0#32
  let v28 : BitVec 32 := Scalar.select v27 c128_i32_20 c0_i32_21
  let v29 : BitVec 32 := Scalar.subi v23 v28
  let c64_i32_23 : BitVec 32 := 64#32
  let v32 : BitVec 32 := Scalar.andi v17 c64_i32_23
  let c0_i32_24 : BitVec 32 := 0#32
  let v33 : BitVec 1 := Scalar.cmpi .ne v32 c0_i32_24
  let c64_i32_25 : BitVec 32 := 64#32
  let c0_i32_26 : BitVec 32 := 0#32
  let v34 : BitVec 32 := Scalar.select v33 c64_i32_25 c0_i32_26
  let v35 : BitVec 32 := Scalar.subi v29 v34
  let c32_i32_28 : BitVec 32 := 32#32
  let v38 : BitVec 32 := Scalar.andi v17 c32_i32_28
  let c0_i32_29 : BitVec 32 := 0#32
  let v39 : BitVec 1 := Scalar.cmpi .ne v38 c0_i32_29
  let c32_i32_30 : BitVec 32 := 32#32
  let c0_i32_31 : BitVec 32 := 0#32
  let v40 : BitVec 32 := Scalar.select v39 c32_i32_30 c0_i32_31
  let v41 : BitVec 32 := Scalar.subi v35 v40
  v41
def k0_cond19 (v17 : BitVec 32) : BitVec 1 :=
  let c32_i32_28 : BitVec 32 := 32#32
  let v38 : BitVec 32 := Scalar.andi v17 c32_i32_28
  let c0_i32_29 : BitVec 32 := 0#32
  let v39 : BitVec 1 := Scalar.cmpi .ne v38 c0_i32_29
  let v42 : BitVec 32 := Scalar.extui v39
  let c0_i32_32 : BitVec 32 := 0#32
  let v43 : BitVec 1 := Scalar.cmpi .ne v42 c0_i32_32
  v43

def k0_off73 (v17 : BitVec 32) (v19 : BitVec 32) : Fin 2 → Nat :=
  let c256_i32 : BitVec 32 := 256#32
  let v20 : BitVec 32 := Scalar.andi v17 c256_i32
  let c0_i32_15 : BitVec 32 := 0#32
  let v21 : BitVec 1 := Scalar.cmpi .ne v20 c0_i32_15
  let c256_i32_16 : BitVec 32 := 256#32
  let c0_i32_17 : BitVec 32 := 0#32
  let v22 : BitVec 32 := Scalar.select v21 c256_i32_16 c0_i32_17
  let v23 : BitVec 32 := Scalar.subi v19 v22
  let c128_i32 : BitVec 32 := 128#32
  let v26 : BitVec 32 := Scalar.andi v17 c128_i32
  let c0_i32_19 : BitVec 32 := 0#32
  let v27 : BitVec 1 := Scalar.cmpi .ne v26 c0_i32_19
  let c128_i32_20 : BitVec 32 := 128#32
  let c0_i32_21 : BitVec 32 := 0#32
  let v28 : BitVec 32 := Scalar.select v27 c128_i32_20 c0_i32_21
  let v29 : BitVec 32 := Scalar.subi v23 v28
  let c64_i32_23 : BitVec 32 := 64#32
  let v32 : BitVec 32 := Scalar.andi v17 c64_i32_23
  let c0_i32_24 : BitVec 32 := 0#32
  let v33 : BitVec 1 := Scalar.cmpi .ne v32 c0_i32_24
  let c64_i32_25 : BitVec 32 := 64#32
  let c0_i32_26 : BitVec 32 := 0#32
  let v34 : BitVec 32 := Scalar.select v33 c64_i32_25 c0_i32_26
  let v35 : BitVec 32 := Scalar.subi v29 v34
  let c32_i32_28 : BitVec 32 := 32#32
  let v38 : BitVec 32 := Scalar.andi v17 c32_i32_28
  let c0_i32_29 : BitVec 32 := 0#32
  let v39 : BitVec 1 := Scalar.cmpi .ne v38 c0_i32_29
  let c32_i32_30 : BitVec 32 := 32#32
  let c0_i32_31 : BitVec 32 := 0#32
  let v40 : BitVec 32 := Scalar.select v39 c32_i32_30 c0_i32_31
  let v41 : BitVec 32 := Scalar.subi v35 v40
  let v91 : BitVec 32 := v41
  let c0_i32_63 : BitVec 32 := 0#32
  ![v91.toNat, 0]
def k0_mult14 (v17 : BitVec 32) (v19 : BitVec 32) : BitVec 32 :=
  let c256_i32 : BitVec 32 := 256#32
  let v20 : BitVec 32 := Scalar.andi v17 c256_i32
  let c0_i32_15 : BitVec 32 := 0#32
  let v21 : BitVec 1 := Scalar.cmpi .ne v20 c0_i32_15
  let c256_i32_16 : BitVec 32 := 256#32
  let c0_i32_17 : BitVec 32 := 0#32
  let v22 : BitVec 32 := Scalar.select v21 c256_i32_16 c0_i32_17
  let v23 : BitVec 32 := Scalar.subi v19 v22
  let c128_i32 : BitVec 32 := 128#32
  let v26 : BitVec 32 := Scalar.andi v17 c128_i32
  let c0_i32_19 : BitVec 32 := 0#32
  let v27 : BitVec 1 := Scalar.cmpi .ne v26 c0_i32_19
  let c128_i32_20 : BitVec 32 := 128#32
  let c0_i32_21 : BitVec 32 := 0#32
  let v28 : BitVec 32 := Scalar.select v27 c128_i32_20 c0_i32_21
  let v29 : BitVec 32 := Scalar.subi v23 v28
  let c64_i32_23 : BitVec 32 := 64#32
  let v32 : BitVec 32 := Scalar.andi v17 c64_i32_23
  let c0_i32_24 : BitVec 32 := 0#32
  let v33 : BitVec 1 := Scalar.cmpi .ne v32 c0_i32_24
  let c64_i32_25 : BitVec 32 := 64#32
  let c0_i32_26 : BitVec 32 := 0#32
  let v34 : BitVec 32 := Scalar.select v33 c64_i32_25 c0_i32_26
  let v35 : BitVec 32 := Scalar.subi v29 v34
  let c32_i32_28 : BitVec 32 := 32#32
  let v38 : BitVec 32 := Scalar.andi v17 c32_i32_28
  let c0_i32_29 : BitVec 32 := 0#32
  let v39 : BitVec 1 := Scalar.cmpi .ne v38 c0_i32_29
  let c32_i32_30 : BitVec 32 := 32#32
  let c0_i32_31 : BitVec 32 := 0#32
  let v40 : BitVec 32 := Scalar.select v39 c32_i32_30 c0_i32_31
  let v41 : BitVec 32 := Scalar.subi v35 v40
  let c16_i32 : BitVec 32 := 16#32
  let v44 : BitVec 32 := Scalar.andi v17 c16_i32
  let c0_i32_33 : BitVec 32 := 0#32
  let v45 : BitVec 1 := Scalar.cmpi .ne v44 c0_i32_33
  let c16_i32_34 : BitVec 32 := 16#32
  let c0_i32_35 : BitVec 32 := 0#32
  let v46 : BitVec 32 := Scalar.select v45 c16_i32_34 c0_i32_35
  let v47 : BitVec 32 := Scalar.subi v41 v46
  v47
def k0_cond20 (v17 : BitVec 32) : BitVec 1 :=
  let c16_i32 : BitVec 32 := 16#32
  let v44 : BitVec 32 := Scalar.andi v17 c16_i32
  let c0_i32_33 : BitVec 32 := 0#32
  let v45 : BitVec 1 := Scalar.cmpi .ne v44 c0_i32_33
  let v48 : BitVec 32 := Scalar.extui v45
  let c0_i32_36 : BitVec 32 := 0#32
  let v49 : BitVec 1 := Scalar.cmpi .ne v48 c0_i32_36
  v49

def k0_off74 (v17 : BitVec 32) (v19 : BitVec 32) : Fin 2 → Nat :=
  let c256_i32 : BitVec 32 := 256#32
  let v20 : BitVec 32 := Scalar.andi v17 c256_i32
  let c0_i32_15 : BitVec 32 := 0#32
  let v21 : BitVec 1 := Scalar.cmpi .ne v20 c0_i32_15
  let c256_i32_16 : BitVec 32 := 256#32
  let c0_i32_17 : BitVec 32 := 0#32
  let v22 : BitVec 32 := Scalar.select v21 c256_i32_16 c0_i32_17
  let v23 : BitVec 32 := Scalar.subi v19 v22
  let c128_i32 : BitVec 32 := 128#32
  let v26 : BitVec 32 := Scalar.andi v17 c128_i32
  let c0_i32_19 : BitVec 32 := 0#32
  let v27 : BitVec 1 := Scalar.cmpi .ne v26 c0_i32_19
  let c128_i32_20 : BitVec 32 := 128#32
  let c0_i32_21 : BitVec 32 := 0#32
  let v28 : BitVec 32 := Scalar.select v27 c128_i32_20 c0_i32_21
  let v29 : BitVec 32 := Scalar.subi v23 v28
  let c64_i32_23 : BitVec 32 := 64#32
  let v32 : BitVec 32 := Scalar.andi v17 c64_i32_23
  let c0_i32_24 : BitVec 32 := 0#32
  let v33 : BitVec 1 := Scalar.cmpi .ne v32 c0_i32_24
  let c64_i32_25 : BitVec 32 := 64#32
  let c0_i32_26 : BitVec 32 := 0#32
  let v34 : BitVec 32 := Scalar.select v33 c64_i32_25 c0_i32_26
  let v35 : BitVec 32 := Scalar.subi v29 v34
  let c32_i32_28 : BitVec 32 := 32#32
  let v38 : BitVec 32 := Scalar.andi v17 c32_i32_28
  let c0_i32_29 : BitVec 32 := 0#32
  let v39 : BitVec 1 := Scalar.cmpi .ne v38 c0_i32_29
  let c32_i32_30 : BitVec 32 := 32#32
  let c0_i32_31 : BitVec 32 := 0#32
  let v40 : BitVec 32 := Scalar.select v39 c32_i32_30 c0_i32_31
  let v41 : BitVec 32 := Scalar.subi v35 v40
  let c16_i32 : BitVec 32 := 16#32
  let v44 : BitVec 32 := Scalar.andi v17 c16_i32
  let c0_i32_33 : BitVec 32 := 0#32
  let v45 : BitVec 1 := Scalar.cmpi .ne v44 c0_i32_33
  let c16_i32_34 : BitVec 32 := 16#32
  let c0_i32_35 : BitVec 32 := 0#32
  let v46 : BitVec 32 := Scalar.select v45 c16_i32_34 c0_i32_35
  let v47 : BitVec 32 := Scalar.subi v41 v46
  let v91 : BitVec 32 := v47
  let c0_i32_63 : BitVec 32 := 0#32
  ![v91.toNat, 0]
def k0_mult15 (v17 : BitVec 32) (v19 : BitVec 32) : BitVec 32 :=
  let c256_i32 : BitVec 32 := 256#32
  let v20 : BitVec 32 := Scalar.andi v17 c256_i32
  let c0_i32_15 : BitVec 32 := 0#32
  let v21 : BitVec 1 := Scalar.cmpi .ne v20 c0_i32_15
  let c256_i32_16 : BitVec 32 := 256#32
  let c0_i32_17 : BitVec 32 := 0#32
  let v22 : BitVec 32 := Scalar.select v21 c256_i32_16 c0_i32_17
  let v23 : BitVec 32 := Scalar.subi v19 v22
  let c128_i32 : BitVec 32 := 128#32
  let v26 : BitVec 32 := Scalar.andi v17 c128_i32
  let c0_i32_19 : BitVec 32 := 0#32
  let v27 : BitVec 1 := Scalar.cmpi .ne v26 c0_i32_19
  let c128_i32_20 : BitVec 32 := 128#32
  let c0_i32_21 : BitVec 32 := 0#32
  let v28 : BitVec 32 := Scalar.select v27 c128_i32_20 c0_i32_21
  let v29 : BitVec 32 := Scalar.subi v23 v28
  let c64_i32_23 : BitVec 32 := 64#32
  let v32 : BitVec 32 := Scalar.andi v17 c64_i32_23
  let c0_i32_24 : BitVec 32 := 0#32
  let v33 : BitVec 1 := Scalar.cmpi .ne v32 c0_i32_24
  let c64_i32_25 : BitVec 32 := 64#32
  let c0_i32_26 : BitVec 32 := 0#32
  let v34 : BitVec 32 := Scalar.select v33 c64_i32_25 c0_i32_26
  let v35 : BitVec 32 := Scalar.subi v29 v34
  let c32_i32_28 : BitVec 32 := 32#32
  let v38 : BitVec 32 := Scalar.andi v17 c32_i32_28
  let c0_i32_29 : BitVec 32 := 0#32
  let v39 : BitVec 1 := Scalar.cmpi .ne v38 c0_i32_29
  let c32_i32_30 : BitVec 32 := 32#32
  let c0_i32_31 : BitVec 32 := 0#32
  let v40 : BitVec 32 := Scalar.select v39 c32_i32_30 c0_i32_31
  let v41 : BitVec 32 := Scalar.subi v35 v40
  let c16_i32 : BitVec 32 := 16#32
  let v44 : BitVec 32 := Scalar.andi v17 c16_i32
  let c0_i32_33 : BitVec 32 := 0#32
  let v45 : BitVec 1 := Scalar.cmpi .ne v44 c0_i32_33
  let c16_i32_34 : BitVec 32 := 16#32
  let c0_i32_35 : BitVec 32 := 0#32
  let v46 : BitVec 32 := Scalar.select v45 c16_i32_34 c0_i32_35
  let v47 : BitVec 32 := Scalar.subi v41 v46
  let c8_i32 : BitVec 32 := 8#32
  let v50 : BitVec 32 := Scalar.andi v17 c8_i32
  let c0_i32_37 : BitVec 32 := 0#32
  let v51 : BitVec 1 := Scalar.cmpi .ne v50 c0_i32_37
  let c8_i32_38 : BitVec 32 := 8#32
  let c0_i32_39 : BitVec 32 := 0#32
  let v52 : BitVec 32 := Scalar.select v51 c8_i32_38 c0_i32_39
  let v53 : BitVec 32 := Scalar.subi v47 v52
  v53
def k0_cond21 (v17 : BitVec 32) : BitVec 1 :=
  let c8_i32 : BitVec 32 := 8#32
  let v50 : BitVec 32 := Scalar.andi v17 c8_i32
  let c0_i32_37 : BitVec 32 := 0#32
  let v51 : BitVec 1 := Scalar.cmpi .ne v50 c0_i32_37
  let v54 : BitVec 32 := Scalar.extui v51
  let c0_i32_40 : BitVec 32 := 0#32
  let v55 : BitVec 1 := Scalar.cmpi .ne v54 c0_i32_40
  v55

def k0_off75 (v17 : BitVec 32) (v19 : BitVec 32) : Fin 2 → Nat :=
  let c256_i32 : BitVec 32 := 256#32
  let v20 : BitVec 32 := Scalar.andi v17 c256_i32
  let c0_i32_15 : BitVec 32 := 0#32
  let v21 : BitVec 1 := Scalar.cmpi .ne v20 c0_i32_15
  let c256_i32_16 : BitVec 32 := 256#32
  let c0_i32_17 : BitVec 32 := 0#32
  let v22 : BitVec 32 := Scalar.select v21 c256_i32_16 c0_i32_17
  let v23 : BitVec 32 := Scalar.subi v19 v22
  let c128_i32 : BitVec 32 := 128#32
  let v26 : BitVec 32 := Scalar.andi v17 c128_i32
  let c0_i32_19 : BitVec 32 := 0#32
  let v27 : BitVec 1 := Scalar.cmpi .ne v26 c0_i32_19
  let c128_i32_20 : BitVec 32 := 128#32
  let c0_i32_21 : BitVec 32 := 0#32
  let v28 : BitVec 32 := Scalar.select v27 c128_i32_20 c0_i32_21
  let v29 : BitVec 32 := Scalar.subi v23 v28
  let c64_i32_23 : BitVec 32 := 64#32
  let v32 : BitVec 32 := Scalar.andi v17 c64_i32_23
  let c0_i32_24 : BitVec 32 := 0#32
  let v33 : BitVec 1 := Scalar.cmpi .ne v32 c0_i32_24
  let c64_i32_25 : BitVec 32 := 64#32
  let c0_i32_26 : BitVec 32 := 0#32
  let v34 : BitVec 32 := Scalar.select v33 c64_i32_25 c0_i32_26
  let v35 : BitVec 32 := Scalar.subi v29 v34
  let c32_i32_28 : BitVec 32 := 32#32
  let v38 : BitVec 32 := Scalar.andi v17 c32_i32_28
  let c0_i32_29 : BitVec 32 := 0#32
  let v39 : BitVec 1 := Scalar.cmpi .ne v38 c0_i32_29
  let c32_i32_30 : BitVec 32 := 32#32
  let c0_i32_31 : BitVec 32 := 0#32
  let v40 : BitVec 32 := Scalar.select v39 c32_i32_30 c0_i32_31
  let v41 : BitVec 32 := Scalar.subi v35 v40
  let c16_i32 : BitVec 32 := 16#32
  let v44 : BitVec 32 := Scalar.andi v17 c16_i32
  let c0_i32_33 : BitVec 32 := 0#32
  let v45 : BitVec 1 := Scalar.cmpi .ne v44 c0_i32_33
  let c16_i32_34 : BitVec 32 := 16#32
  let c0_i32_35 : BitVec 32 := 0#32
  let v46 : BitVec 32 := Scalar.select v45 c16_i32_34 c0_i32_35
  let v47 : BitVec 32 := Scalar.subi v41 v46
  let c8_i32 : BitVec 32 := 8#32
  let v50 : BitVec 32 := Scalar.andi v17 c8_i32
  let c0_i32_37 : BitVec 32 := 0#32
  let v51 : BitVec 1 := Scalar.cmpi .ne v50 c0_i32_37
  let c8_i32_38 : BitVec 32 := 8#32
  let c0_i32_39 : BitVec 32 := 0#32
  let v52 : BitVec 32 := Scalar.select v51 c8_i32_38 c0_i32_39
  let v53 : BitVec 32 := Scalar.subi v47 v52
  let v91 : BitVec 32 := v53
  let c0_i32_63 : BitVec 32 := 0#32
  ![v91.toNat, 0]

def k0_chk22 (i : grid0.Coords) (v17 : BitVec 32) (v19 : BitVec 32) : Prop :=
  (∀ (k0_h15 : k0_cond15 i = 1#1), ∀ (k0_h16 : k0_cond16 v17 = 1#1), 8 ∣ (k0_mult10 v17 v19).toNat) ∧
  (∀ (k0_h15 : k0_cond15 i = 1#1), ∀ (k0_h16 : k0_cond16 v17 = 1#1), ∀ a, (k0_off70 v17 v19) a + S256x1024.size a ≤ S147456x1024.size a) ∧
  (∀ (k0_h15 : k0_cond15 i = 1#1), ∀ (k0_h17 : k0_cond17 v17 = 1#1), 8 ∣ (k0_mult11 v17 v19).toNat) ∧
  (∀ (k0_h15 : k0_cond15 i = 1#1), ∀ (k0_h17 : k0_cond17 v17 = 1#1), ∀ a, (k0_off71 v17 v19) a + S128x1024.size a ≤ S147456x1024.size a) ∧
  (∀ (k0_h15 : k0_cond15 i = 1#1), ∀ (k0_h18 : k0_cond18 v17 = 1#1), 8 ∣ (k0_mult12 v17 v19).toNat) ∧
  (∀ (k0_h15 : k0_cond15 i = 1#1), ∀ (k0_h18 : k0_cond18 v17 = 1#1), ∀ a, (k0_off72 v17 v19) a + S64x1024.size a ≤ S147456x1024.size a) ∧
  (∀ (k0_h15 : k0_cond15 i = 1#1), ∀ (k0_h19 : k0_cond19 v17 = 1#1), 8 ∣ (k0_mult13 v17 v19).toNat) ∧
  (∀ (k0_h15 : k0_cond15 i = 1#1), ∀ (k0_h19 : k0_cond19 v17 = 1#1), ∀ a, (k0_off73 v17 v19) a + S32x1024.size a ≤ S147456x1024.size a) ∧
  (∀ (k0_h15 : k0_cond15 i = 1#1), ∀ (k0_h20 : k0_cond20 v17 = 1#1), 8 ∣ (k0_mult14 v17 v19).toNat) ∧
  (∀ (k0_h15 : k0_cond15 i = 1#1), ∀ (k0_h20 : k0_cond20 v17 = 1#1), ∀ a, (k0_off74 v17 v19) a + S16x1024.size a ≤ S147456x1024.size a) ∧
  (∀ (k0_h15 : k0_cond15 i = 1#1), ∀ (k0_h21 : k0_cond21 v17 = 1#1), 8 ∣ (k0_mult15 v17 v19).toNat) ∧
  (∀ (k0_h15 : k0_cond15 i = 1#1), ∀ (k0_h21 : k0_cond21 v17 = 1#1), ∀ a, (k0_off75 v17 v19) a + S8x1024.size a ≤ S147456x1024.size a)
theorem k0_mult10_dvd : ∀ (i : grid0.Coords) (v17 : BitVec 32) (v19 : BitVec 32) (k0_hw22 : k0_chk22 i v17 v19), ∀ (k0_h15 : k0_cond15 i = 1#1), ∀ (k0_h16 : k0_cond16 v17 = 1#1), 8 ∣ (k0_mult10 v17 v19).toNat := fun i v17 v19 k0_hw22 k0_h15 k0_h16 => k0_hw22.1 k0_h15 k0_h16
theorem k0_off70_inb : ∀ (i : grid0.Coords) (v17 : BitVec 32) (v19 : BitVec 32) (k0_hw22 : k0_chk22 i v17 v19), ∀ (k0_h15 : k0_cond15 i = 1#1), ∀ (k0_h16 : k0_cond16 v17 = 1#1), ∀ a, (k0_off70 v17 v19) a + S256x1024.size a ≤ S147456x1024.size a := fun i v17 v19 k0_hw22 k0_h15 k0_h16 => k0_hw22.2.1 k0_h15 k0_h16
theorem k0_mult11_dvd : ∀ (i : grid0.Coords) (v17 : BitVec 32) (v19 : BitVec 32) (k0_hw22 : k0_chk22 i v17 v19), ∀ (k0_h15 : k0_cond15 i = 1#1), ∀ (k0_h17 : k0_cond17 v17 = 1#1), 8 ∣ (k0_mult11 v17 v19).toNat := fun i v17 v19 k0_hw22 k0_h15 k0_h17 => k0_hw22.2.2.1 k0_h15 k0_h17
theorem k0_off71_inb : ∀ (i : grid0.Coords) (v17 : BitVec 32) (v19 : BitVec 32) (k0_hw22 : k0_chk22 i v17 v19), ∀ (k0_h15 : k0_cond15 i = 1#1), ∀ (k0_h17 : k0_cond17 v17 = 1#1), ∀ a, (k0_off71 v17 v19) a + S128x1024.size a ≤ S147456x1024.size a := fun i v17 v19 k0_hw22 k0_h15 k0_h17 => k0_hw22.2.2.2.1 k0_h15 k0_h17
theorem k0_mult12_dvd : ∀ (i : grid0.Coords) (v17 : BitVec 32) (v19 : BitVec 32) (k0_hw22 : k0_chk22 i v17 v19), ∀ (k0_h15 : k0_cond15 i = 1#1), ∀ (k0_h18 : k0_cond18 v17 = 1#1), 8 ∣ (k0_mult12 v17 v19).toNat := fun i v17 v19 k0_hw22 k0_h15 k0_h18 => k0_hw22.2.2.2.2.1 k0_h15 k0_h18
theorem k0_off72_inb : ∀ (i : grid0.Coords) (v17 : BitVec 32) (v19 : BitVec 32) (k0_hw22 : k0_chk22 i v17 v19), ∀ (k0_h15 : k0_cond15 i = 1#1), ∀ (k0_h18 : k0_cond18 v17 = 1#1), ∀ a, (k0_off72 v17 v19) a + S64x1024.size a ≤ S147456x1024.size a := fun i v17 v19 k0_hw22 k0_h15 k0_h18 => k0_hw22.2.2.2.2.2.1 k0_h15 k0_h18
theorem k0_mult13_dvd : ∀ (i : grid0.Coords) (v17 : BitVec 32) (v19 : BitVec 32) (k0_hw22 : k0_chk22 i v17 v19), ∀ (k0_h15 : k0_cond15 i = 1#1), ∀ (k0_h19 : k0_cond19 v17 = 1#1), 8 ∣ (k0_mult13 v17 v19).toNat := fun i v17 v19 k0_hw22 k0_h15 k0_h19 => k0_hw22.2.2.2.2.2.2.1 k0_h15 k0_h19
theorem k0_off73_inb : ∀ (i : grid0.Coords) (v17 : BitVec 32) (v19 : BitVec 32) (k0_hw22 : k0_chk22 i v17 v19), ∀ (k0_h15 : k0_cond15 i = 1#1), ∀ (k0_h19 : k0_cond19 v17 = 1#1), ∀ a, (k0_off73 v17 v19) a + S32x1024.size a ≤ S147456x1024.size a := fun i v17 v19 k0_hw22 k0_h15 k0_h19 => k0_hw22.2.2.2.2.2.2.2.1 k0_h15 k0_h19
theorem k0_mult14_dvd : ∀ (i : grid0.Coords) (v17 : BitVec 32) (v19 : BitVec 32) (k0_hw22 : k0_chk22 i v17 v19), ∀ (k0_h15 : k0_cond15 i = 1#1), ∀ (k0_h20 : k0_cond20 v17 = 1#1), 8 ∣ (k0_mult14 v17 v19).toNat := fun i v17 v19 k0_hw22 k0_h15 k0_h20 => k0_hw22.2.2.2.2.2.2.2.2.1 k0_h15 k0_h20
theorem k0_off74_inb : ∀ (i : grid0.Coords) (v17 : BitVec 32) (v19 : BitVec 32) (k0_hw22 : k0_chk22 i v17 v19), ∀ (k0_h15 : k0_cond15 i = 1#1), ∀ (k0_h20 : k0_cond20 v17 = 1#1), ∀ a, (k0_off74 v17 v19) a + S16x1024.size a ≤ S147456x1024.size a := fun i v17 v19 k0_hw22 k0_h15 k0_h20 => k0_hw22.2.2.2.2.2.2.2.2.2.1 k0_h15 k0_h20
theorem k0_mult15_dvd : ∀ (i : grid0.Coords) (v17 : BitVec 32) (v19 : BitVec 32) (k0_hw22 : k0_chk22 i v17 v19), ∀ (k0_h15 : k0_cond15 i = 1#1), ∀ (k0_h21 : k0_cond21 v17 = 1#1), 8 ∣ (k0_mult15 v17 v19).toNat := fun i v17 v19 k0_hw22 k0_h15 k0_h21 => k0_hw22.2.2.2.2.2.2.2.2.2.2.1 k0_h15 k0_h21
theorem k0_off75_inb : ∀ (i : grid0.Coords) (v17 : BitVec 32) (v19 : BitVec 32) (k0_hw22 : k0_chk22 i v17 v19), ∀ (k0_h15 : k0_cond15 i = 1#1), ∀ (k0_h21 : k0_cond21 v17 = 1#1), ∀ a, (k0_off75 v17 v19) a + S8x1024.size a ≤ S147456x1024.size a := fun i v17 v19 k0_hw22 k0_h15 k0_h21 => k0_hw22.2.2.2.2.2.2.2.2.2.2.2 k0_h15 k0_h21

def k0_off76 (v15 : BitVec 32) : Fin 2 → Nat :=
  let c0_i32_42 : BitVec 32 := 0#32
  let v58 : BitVec 32 := Scalar.addi v15 c0_i32_42
  let c0_i32_63 : BitVec 32 := 0#32
  ![v58.toNat, 0]
def k0_cond22 (v17 : BitVec 32) : BitVec 1 :=
  let c7_i32 : BitVec 32 := 7#32
  let v56 : BitVec 32 := Scalar.andi v17 c7_i32
  let c0_i32_41 : BitVec 32 := 0#32
  let v57 : BitVec 1 := Scalar.cmpi .sgt v56 c0_i32_41
  let v59 : BitVec 32 := Scalar.extui v57
  let c0_i32_43 : BitVec 32 := 0#32
  let v60 : BitVec 1 := Scalar.cmpi .ne v59 c0_i32_43
  v60

def k0_off77 (v15 : BitVec 32) : Fin 2 → Nat :=
  let c1_i32_46 : BitVec 32 := 1#32
  let v63 : BitVec 32 := Scalar.addi v15 c1_i32_46
  let c0_i32_63 : BitVec 32 := 0#32
  ![v63.toNat, 0]
def k0_cond23 (v17 : BitVec 32) : BitVec 1 :=
  let c7_i32_44 : BitVec 32 := 7#32
  let v61 : BitVec 32 := Scalar.andi v17 c7_i32_44
  let c1_i32_45 : BitVec 32 := 1#32
  let v62 : BitVec 1 := Scalar.cmpi .sgt v61 c1_i32_45
  let v64 : BitVec 32 := Scalar.extui v62
  let c0_i32_47 : BitVec 32 := 0#32
  let v65 : BitVec 1 := Scalar.cmpi .ne v64 c0_i32_47
  v65

def k0_off78 (v15 : BitVec 32) : Fin 2 → Nat :=
  let c2_i32_49 : BitVec 32 := 2#32
  let v68 : BitVec 32 := Scalar.addi v15 c2_i32_49
  let c0_i32_63 : BitVec 32 := 0#32
  ![v68.toNat, 0]
def k0_cond24 (v17 : BitVec 32) : BitVec 1 :=
  let c7_i32_48 : BitVec 32 := 7#32
  let v66 : BitVec 32 := Scalar.andi v17 c7_i32_48
  let c2_i32 : BitVec 32 := 2#32
  let v67 : BitVec 1 := Scalar.cmpi .sgt v66 c2_i32
  let v69 : BitVec 32 := Scalar.extui v67
  let c0_i32_50 : BitVec 32 := 0#32
  let v70 : BitVec 1 := Scalar.cmpi .ne v69 c0_i32_50
  v70

def k0_off79 (v15 : BitVec 32) : Fin 2 → Nat :=
  let c3_i32_52 : BitVec 32 := 3#32
  let v73 : BitVec 32 := Scalar.addi v15 c3_i32_52
  let c0_i32_63 : BitVec 32 := 0#32
  ![v73.toNat, 0]
def k0_cond25 (v17 : BitVec 32) : BitVec 1 :=
  let c7_i32_51 : BitVec 32 := 7#32
  let v71 : BitVec 32 := Scalar.andi v17 c7_i32_51
  let c3_i32 : BitVec 32 := 3#32
  let v72 : BitVec 1 := Scalar.cmpi .sgt v71 c3_i32
  let v74 : BitVec 32 := Scalar.extui v72
  let c0_i32_53 : BitVec 32 := 0#32
  let v75 : BitVec 1 := Scalar.cmpi .ne v74 c0_i32_53
  v75

def k0_off80 (v15 : BitVec 32) : Fin 2 → Nat :=
  let c4_i32_55 : BitVec 32 := 4#32
  let v78 : BitVec 32 := Scalar.addi v15 c4_i32_55
  let c0_i32_63 : BitVec 32 := 0#32
  ![v78.toNat, 0]
def k0_cond26 (v17 : BitVec 32) : BitVec 1 :=
  let c7_i32_54 : BitVec 32 := 7#32
  let v76 : BitVec 32 := Scalar.andi v17 c7_i32_54
  let c4_i32 : BitVec 32 := 4#32
  let v77 : BitVec 1 := Scalar.cmpi .sgt v76 c4_i32
  let v79 : BitVec 32 := Scalar.extui v77
  let c0_i32_56 : BitVec 32 := 0#32
  let v80 : BitVec 1 := Scalar.cmpi .ne v79 c0_i32_56
  v80

def k0_off81 (v15 : BitVec 32) : Fin 2 → Nat :=
  let c5_i32_58 : BitVec 32 := 5#32
  let v83 : BitVec 32 := Scalar.addi v15 c5_i32_58
  let c0_i32_63 : BitVec 32 := 0#32
  ![v83.toNat, 0]
def k0_cond27 (v17 : BitVec 32) : BitVec 1 :=
  let c7_i32_57 : BitVec 32 := 7#32
  let v81 : BitVec 32 := Scalar.andi v17 c7_i32_57
  let c5_i32 : BitVec 32 := 5#32
  let v82 : BitVec 1 := Scalar.cmpi .sgt v81 c5_i32
  let v84 : BitVec 32 := Scalar.extui v82
  let c0_i32_59 : BitVec 32 := 0#32
  let v85 : BitVec 1 := Scalar.cmpi .ne v84 c0_i32_59
  v85

def k0_off82 (v15 : BitVec 32) : Fin 2 → Nat :=
  let c6_i32_61 : BitVec 32 := 6#32
  let v88 : BitVec 32 := Scalar.addi v15 c6_i32_61
  let c0_i32_63 : BitVec 32 := 0#32
  ![v88.toNat, 0]
def k0_cond28 (v17 : BitVec 32) : BitVec 1 :=
  let c7_i32_60 : BitVec 32 := 7#32
  let v86 : BitVec 32 := Scalar.andi v17 c7_i32_60
  let c6_i32 : BitVec 32 := 6#32
  let v87 : BitVec 1 := Scalar.cmpi .sgt v86 c6_i32
  let v89 : BitVec 32 := Scalar.extui v87
  let c0_i32_62 : BitVec 32 := 0#32
  let v90 : BitVec 1 := Scalar.cmpi .ne v89 c0_i32_62
  v90

def k0_chk23 (i : grid0.Coords) (v15 : BitVec 32) (v17 : BitVec 32) : Prop :=
  (∀ (k0_h15 : k0_cond15 i = 1#1), ∀ (k0_h22 : k0_cond22 v17 = 1#1), ∀ a, (k0_off76 v15) a + S1x1024.size a ≤ S147456x1024.size a) ∧
  (∀ (k0_h15 : k0_cond15 i = 1#1), ∀ (k0_h23 : k0_cond23 v17 = 1#1), ∀ a, (k0_off77 v15) a + S1x1024.size a ≤ S147456x1024.size a) ∧
  (∀ (k0_h15 : k0_cond15 i = 1#1), ∀ (k0_h24 : k0_cond24 v17 = 1#1), ∀ a, (k0_off78 v15) a + S1x1024.size a ≤ S147456x1024.size a) ∧
  (∀ (k0_h15 : k0_cond15 i = 1#1), ∀ (k0_h25 : k0_cond25 v17 = 1#1), ∀ a, (k0_off79 v15) a + S1x1024.size a ≤ S147456x1024.size a) ∧
  (∀ (k0_h15 : k0_cond15 i = 1#1), ∀ (k0_h26 : k0_cond26 v17 = 1#1), ∀ a, (k0_off80 v15) a + S1x1024.size a ≤ S147456x1024.size a) ∧
  (∀ (k0_h15 : k0_cond15 i = 1#1), ∀ (k0_h27 : k0_cond27 v17 = 1#1), ∀ a, (k0_off81 v15) a + S1x1024.size a ≤ S147456x1024.size a) ∧
  (∀ (k0_h15 : k0_cond15 i = 1#1), ∀ (k0_h28 : k0_cond28 v17 = 1#1), ∀ a, (k0_off82 v15) a + S1x1024.size a ≤ S147456x1024.size a)
theorem k0_off76_inb : ∀ (i : grid0.Coords) (v15 : BitVec 32) (v17 : BitVec 32) (k0_hw23 : k0_chk23 i v15 v17), ∀ (k0_h15 : k0_cond15 i = 1#1), ∀ (k0_h22 : k0_cond22 v17 = 1#1), ∀ a, (k0_off76 v15) a + S1x1024.size a ≤ S147456x1024.size a := fun i v15 v17 k0_hw23 k0_h15 k0_h22 => k0_hw23.1 k0_h15 k0_h22
theorem k0_off77_inb : ∀ (i : grid0.Coords) (v15 : BitVec 32) (v17 : BitVec 32) (k0_hw23 : k0_chk23 i v15 v17), ∀ (k0_h15 : k0_cond15 i = 1#1), ∀ (k0_h23 : k0_cond23 v17 = 1#1), ∀ a, (k0_off77 v15) a + S1x1024.size a ≤ S147456x1024.size a := fun i v15 v17 k0_hw23 k0_h15 k0_h23 => k0_hw23.2.1 k0_h15 k0_h23
theorem k0_off78_inb : ∀ (i : grid0.Coords) (v15 : BitVec 32) (v17 : BitVec 32) (k0_hw23 : k0_chk23 i v15 v17), ∀ (k0_h15 : k0_cond15 i = 1#1), ∀ (k0_h24 : k0_cond24 v17 = 1#1), ∀ a, (k0_off78 v15) a + S1x1024.size a ≤ S147456x1024.size a := fun i v15 v17 k0_hw23 k0_h15 k0_h24 => k0_hw23.2.2.1 k0_h15 k0_h24
theorem k0_off79_inb : ∀ (i : grid0.Coords) (v15 : BitVec 32) (v17 : BitVec 32) (k0_hw23 : k0_chk23 i v15 v17), ∀ (k0_h15 : k0_cond15 i = 1#1), ∀ (k0_h25 : k0_cond25 v17 = 1#1), ∀ a, (k0_off79 v15) a + S1x1024.size a ≤ S147456x1024.size a := fun i v15 v17 k0_hw23 k0_h15 k0_h25 => k0_hw23.2.2.2.1 k0_h15 k0_h25
theorem k0_off80_inb : ∀ (i : grid0.Coords) (v15 : BitVec 32) (v17 : BitVec 32) (k0_hw23 : k0_chk23 i v15 v17), ∀ (k0_h15 : k0_cond15 i = 1#1), ∀ (k0_h26 : k0_cond26 v17 = 1#1), ∀ a, (k0_off80 v15) a + S1x1024.size a ≤ S147456x1024.size a := fun i v15 v17 k0_hw23 k0_h15 k0_h26 => k0_hw23.2.2.2.2.1 k0_h15 k0_h26
theorem k0_off81_inb : ∀ (i : grid0.Coords) (v15 : BitVec 32) (v17 : BitVec 32) (k0_hw23 : k0_chk23 i v15 v17), ∀ (k0_h15 : k0_cond15 i = 1#1), ∀ (k0_h27 : k0_cond27 v17 = 1#1), ∀ a, (k0_off81 v15) a + S1x1024.size a ≤ S147456x1024.size a := fun i v15 v17 k0_hw23 k0_h15 k0_h27 => k0_hw23.2.2.2.2.2.1 k0_h15 k0_h27
theorem k0_off82_inb : ∀ (i : grid0.Coords) (v15 : BitVec 32) (v17 : BitVec 32) (k0_hw23 : k0_chk23 i v15 v17), ∀ (k0_h15 : k0_cond15 i = 1#1), ∀ (k0_h28 : k0_cond28 v17 = 1#1), ∀ a, (k0_off82 v15) a + S1x1024.size a ≤ S147456x1024.size a := fun i v15 v17 k0_hw23 k0_h15 k0_h28 => k0_hw23.2.2.2.2.2.2 k0_h15 k0_h28

@[reducible] def k0_t7_loop (v8 : BitVec 32) : Scf.Loop 32 :=
  let c0_i32_10 : BitVec 32 := 0#32
  let v9 : BitVec 32 := Scalar.subi v8 c0_i32_10
  let c1_i32_11 : BitVec 32 := 1#32
  let v11 : BitVec 32 := Scalar.divsi v9 c1_i32_11
  let v12 : BitVec 32 := Scalar.muli v11 c1_i32_11
  let v13 : BitVec 32 := Scalar.addi c0_i32_10 v12
  let c1_i32_12 : BitVec 32 := 1#32
  ⟨c0_i32_10, v13, c1_i32_12⟩

def k0_mult16 (v8 : BitVec 32) (k0_t7 : Fin (k0_t7_loop v8).trips) (v14 : BitVec 32) : BitVec 32 :=
  let c0_i32_10 : BitVec 32 := 0#32
  let c1_i32_12 : BitVec 32 := 1#32
  let arg8 : BitVec 32 := Scf.iv c0_i32_10 c1_i32_12 k0_t7
  let v15 : BitVec 32 := Scalar.addi v14 arg8
  let c512_i32_15 : BitVec 32 := 512#32
  let v16 : BitVec 32 := Scalar.muli v15 c512_i32_15
  v16

def k0_off83 (v8 : BitVec 32) (k0_t7 : Fin (k0_t7_loop v8).trips) (v14 : BitVec 32) : Fin 2 → Nat :=
  let c0_i32_10 : BitVec 32 := 0#32
  let c1_i32_12 : BitVec 32 := 1#32
  let arg8 : BitVec 32 := Scf.iv c0_i32_10 c1_i32_12 k0_t7
  let v15 : BitVec 32 := Scalar.addi v14 arg8
  let c512_i32_15 : BitVec 32 := 512#32
  let v16 : BitVec 32 := Scalar.muli v15 c512_i32_15
  let v17 : BitVec 32 := v16
  let c0_i32_16 : BitVec 32 := 0#32
  ![v17.toNat, 0]

def k0_chk25 (i : grid0.Coords) (v8 : BitVec 32) (k0_t7 : Fin (k0_t7_loop v8).trips) (v14 : BitVec 32) : Prop :=
  (∀ (k0_h15 : k0_cond15 i = 1#1), 512 ∣ (k0_mult16 v8 k0_t7 v14).toNat) ∧
  (∀ (k0_h15 : k0_cond15 i = 1#1), ∀ a, (k0_off83 v8 k0_t7 v14) a + S512x1024.size a ≤ S147456x1024.size a)
theorem k0_mult16_dvd : ∀ (i : grid0.Coords) (v8 : BitVec 32) (k0_t7 : Fin (k0_t7_loop v8).trips) (v14 : BitVec 32) (k0_hw25 : k0_chk25 i v8 k0_t7 v14), ∀ (k0_h15 : k0_cond15 i = 1#1), 512 ∣ (k0_mult16 v8 k0_t7 v14).toNat := fun i v8 k0_t7 v14 k0_hw25 k0_h15 => k0_hw25.1 k0_h15
theorem k0_off83_inb : ∀ (i : grid0.Coords) (v8 : BitVec 32) (k0_t7 : Fin (k0_t7_loop v8).trips) (v14 : BitVec 32) (k0_hw25 : k0_chk25 i v8 k0_t7 v14), ∀ (k0_h15 : k0_cond15 i = 1#1), ∀ a, (k0_off83 v8 k0_t7 v14) a + S512x1024.size a ≤ S147456x1024.size a := fun i v8 k0_t7 v14 k0_hw25 k0_h15 => k0_hw25.2 k0_h15

@[reducible] def k0_t8_loop (v8 : BitVec 32) : Scf.Loop 32 :=
  let c0_i32_10 : BitVec 32 := 0#32
  let v9 : BitVec 32 := Scalar.subi v8 c0_i32_10
  let c1_i32_11 : BitVec 32 := 1#32
  let v11 : BitVec 32 := Scalar.divsi v9 c1_i32_11
  let v12 : BitVec 32 := Scalar.muli v11 c1_i32_11
  let v13 : BitVec 32 := Scalar.addi c0_i32_10 v12
  let v10 : BitVec 32 := Scalar.addi c0_i32_10 v9
  let c1_i32_13 : BitVec 32 := 1#32
  ⟨v13, v10, c1_i32_13⟩

def k0_chk24 (i : grid0.Coords) (v8 : BitVec 32) : Prop :=
  (∀ (k0_h15 : k0_cond15 i = 1#1), (k0_t7_loop v8).OK) ∧
  (∀ (k0_h15 : k0_cond15 i = 1#1), (k0_t8_loop v8).OK)
theorem k0_t7_ok : ∀ (i : grid0.Coords) (v8 : BitVec 32) (k0_hw24 : k0_chk24 i v8), ∀ (k0_h15 : k0_cond15 i = 1#1), (k0_t7_loop v8).OK := fun i v8 k0_hw24 k0_h15 => k0_hw24.1 k0_h15
theorem k0_t8_ok : ∀ (i : grid0.Coords) (v8 : BitVec 32) (k0_hw24 : k0_chk24 i v8), ∀ (k0_h15 : k0_cond15 i = 1#1), (k0_t8_loop v8).OK := fun i v8 k0_hw24 k0_h15 => k0_hw24.2 k0_h15

def k0_mult17 (v8 : BitVec 32) (k0_t8 : Fin (k0_t8_loop v8).trips) (v14 : BitVec 32) : BitVec 32 :=
  let c0_i32_10 : BitVec 32 := 0#32
  let v9 : BitVec 32 := Scalar.subi v8 c0_i32_10
  let c1_i32_11 : BitVec 32 := 1#32
  let v11 : BitVec 32 := Scalar.divsi v9 c1_i32_11
  let v12 : BitVec 32 := Scalar.muli v11 c1_i32_11
  let v13 : BitVec 32 := Scalar.addi c0_i32_10 v12
  let c1_i32_13 : BitVec 32 := 1#32
  let arg8 : BitVec 32 := Scf.iv v13 c1_i32_13 k0_t8
  let v15 : BitVec 32 := Scalar.addi v14 arg8
  let c512_i32_15 : BitVec 32 := 512#32
  let v16 : BitVec 32 := Scalar.muli v15 c512_i32_15
  v16

def k0_off84 (v8 : BitVec 32) (k0_t8 : Fin (k0_t8_loop v8).trips) (v14 : BitVec 32) : Fin 2 → Nat :=
  let c0_i32_10 : BitVec 32 := 0#32
  let v9 : BitVec 32 := Scalar.subi v8 c0_i32_10
  let c1_i32_11 : BitVec 32 := 1#32
  let v11 : BitVec 32 := Scalar.divsi v9 c1_i32_11
  let v12 : BitVec 32 := Scalar.muli v11 c1_i32_11
  let v13 : BitVec 32 := Scalar.addi c0_i32_10 v12
  let c1_i32_13 : BitVec 32 := 1#32
  let arg8 : BitVec 32 := Scf.iv v13 c1_i32_13 k0_t8
  let v15 : BitVec 32 := Scalar.addi v14 arg8
  let c512_i32_15 : BitVec 32 := 512#32
  let v16 : BitVec 32 := Scalar.muli v15 c512_i32_15
  let v17 : BitVec 32 := v16
  let c0_i32_16 : BitVec 32 := 0#32
  ![v17.toNat, 0]

def k0_chk26 (i : grid0.Coords) (v8 : BitVec 32) (k0_t8 : Fin (k0_t8_loop v8).trips) (v14 : BitVec 32) : Prop :=
  (∀ (k0_h15 : k0_cond15 i = 1#1), 512 ∣ (k0_mult17 v8 k0_t8 v14).toNat) ∧
  (∀ (k0_h15 : k0_cond15 i = 1#1), ∀ a, (k0_off84 v8 k0_t8 v14) a + S512x1024.size a ≤ S147456x1024.size a)
theorem k0_mult17_dvd : ∀ (i : grid0.Coords) (v8 : BitVec 32) (k0_t8 : Fin (k0_t8_loop v8).trips) (v14 : BitVec 32) (k0_hw26 : k0_chk26 i v8 k0_t8 v14), ∀ (k0_h15 : k0_cond15 i = 1#1), 512 ∣ (k0_mult17 v8 k0_t8 v14).toNat := fun i v8 k0_t8 v14 k0_hw26 k0_h15 => k0_hw26.1 k0_h15
theorem k0_off84_inb : ∀ (i : grid0.Coords) (v8 : BitVec 32) (k0_t8 : Fin (k0_t8_loop v8).trips) (v14 : BitVec 32) (k0_hw26 : k0_chk26 i v8 k0_t8 v14), ∀ (k0_h15 : k0_cond15 i = 1#1), ∀ a, (k0_off84 v8 k0_t8 v14) a + S512x1024.size a ≤ S147456x1024.size a := fun i v8 k0_t8 v14 k0_hw26 k0_h15 => k0_hw26.2 k0_h15

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .smem S3x33 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference.lean ====
abbrev S128x1x1024 : Shape := ⟨3, ![128, 1, 1024]⟩
abbrev S3x33 : Shape := ⟨2, ![3, 33]⟩
abbrev S65536x1024 : Shape := ⟨2, ![65536, 1024]⟩
abbrev S65536 : Shape := ⟨1, ![65536]⟩
abbrev S128x1x512 : Shape := ⟨3, ![128, 1, 512]⟩
abbrev S_ : Shape := ⟨0, ![]⟩
abbrev S147456 : Shape := ⟨1, ![147456]⟩
abbrev S131072 : Shape := ⟨1, ![131072]⟩
abbrev S131072x1 : Shape := ⟨2, ![131072, 1]⟩
abbrev S1x1024 : Shape := ⟨2, ![1, 1024]⟩
abbrev S65537x1024 : Shape := ⟨2, ![65537, 1024]⟩
abbrev S147456x1 : Shape := ⟨2, ![147456, 1]⟩
abbrev S147456x1024 : Shape := ⟨2, ![147456, 1024]⟩

abbrev nBuf : Space → Nat
  | .hbm => 31
  | .vmem => 0
  | .smem => 0
  | _ => 0

abbrev bufTy : (tb : Table) → Fin (tcTables nBuf tb) → BufTy
  | .hbm, ⟨0, _⟩ => ⟨S128x1x1024, .i32⟩
  | .hbm, ⟨1, _⟩ => ⟨S3x33, .i32⟩
  | .hbm, ⟨2, _⟩ => ⟨S65536x1024, .f32⟩
  | .hbm, ⟨3, _⟩ => ⟨S65536, .i32⟩
  | .hbm, ⟨4, _⟩ => ⟨S128x1x512, .i32⟩
  | .hbm, ⟨5, _⟩ => ⟨S_, .i32⟩
  | .hbm, ⟨6, _⟩ => ⟨S147456, .i32⟩
  | .hbm, ⟨7, _⟩ => ⟨S131072, .i32⟩
  | .hbm, ⟨8, _⟩ => ⟨S128x1x1024, .i32⟩
  | .hbm, ⟨9, _⟩ => ⟨S131072, .i32⟩
  | .hbm, ⟨10, _⟩ => ⟨S_, .i32⟩
  | .hbm, ⟨11, _⟩ => ⟨S131072, .i32⟩
  | .hbm, ⟨12, _⟩ => ⟨S131072, .i1⟩
  | .hbm, ⟨13, _⟩ => ⟨S_, .i32⟩
  | .hbm, ⟨14, _⟩ => ⟨S131072, .i32⟩
  | .hbm, ⟨15, _⟩ => ⟨S131072, .i32⟩
  | .hbm, ⟨16, _⟩ => ⟨S131072, .i32⟩
  | .hbm, ⟨17, _⟩ => ⟨S131072x1, .i32⟩
  | .hbm, ⟨18, _⟩ => ⟨S147456, .i32⟩
  | .hbm, ⟨19, _⟩ => ⟨S_, .f32⟩
  | .hbm, ⟨20, _⟩ => ⟨S1x1024, .f32⟩
  | .hbm, ⟨21, _⟩ => ⟨S65537x1024, .f32⟩
  | .hbm, ⟨22, _⟩ => ⟨S_, .i32⟩
  | .hbm, ⟨23, _⟩ => ⟨S147456, .i32⟩
  | .hbm, ⟨24, _⟩ => ⟨S147456, .i1⟩
  | .hbm, ⟨25, _⟩ => ⟨S_, .i32⟩
  | .hbm, ⟨26, _⟩ => ⟨S147456, .i32⟩
  | .hbm, ⟨27, _⟩ => ⟨S147456, .i32⟩
  | .hbm, ⟨28, _⟩ => ⟨S147456, .i32⟩
  | .hbm, ⟨29, _⟩ => ⟨S147456x1, .i32⟩
  | .hbm, ⟨30, _⟩ => ⟨S147456x1024, .f32⟩
  | _, _ => ⟨S128x1x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_c_2 : Ref sig .tc := ⟨.hbm, 22, rfl⟩
abbrev main_v15 : Ref sig .tc := ⟨.hbm, 23, rfl⟩
abbrev main_v16 : Ref sig .tc := ⟨.hbm, 24, rfl⟩
abbrev main_c_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Merge.lean ====
abbrev S32x2048x1024 : Shape := ⟨3, ![32, 2048, 1024]⟩
abbrev S32x2048x512 : Shape := ⟨3, ![32, 2048, 512]⟩
abbrev S32x256x2048 : Shape := ⟨3, ![32, 256, 2048]⟩
abbrev S1x1024 : Shape := ⟨2, ![1, 1024]⟩
abbrev S1x1024x2048 : Shape := ⟨3, ![1, 1024, 2048]⟩
abbrev S1x2048 : Shape := ⟨2, ![1, 2048]⟩
abbrev S1x512x1024 : Shape := ⟨3, ![1, 512, 1024]⟩
abbrev S1x1024x1024 : Shape := ⟨3, ![1, 1024, 1024]⟩
abbrev S128x1024 : Shape := ⟨2, ![128, 1024]⟩
abbrev S1024 : Shape := ⟨1, ![1024]⟩
abbrev S1024x2048 : Shape := ⟨2, ![1024, 2048]⟩
abbrev S2048 : Shape := ⟨1, ![2048]⟩
abbrev S512x1024 : Shape := ⟨2, ![512, 1024]⟩
abbrev S1024x1024 : Shape := ⟨2, ![1024, 1024]⟩
abbrev S_ : Shape := ⟨0, ![]⟩
abbrev S128x65536 : Shape := ⟨2, ![128, 65536]⟩
abbrev S1x512x512 : Shape := ⟨3, ![1, 512, 512]⟩
abbrev S1x256x2048 : Shape := ⟨3, ![1, 256, 2048]⟩
abbrev S128x512 : Shape := ⟨2, ![128, 512]⟩
abbrev S512 : Shape := ⟨1, ![512]⟩
abbrev S512x1 : Shape := ⟨2, ![512, 1]⟩
abbrev S512x2048 : Shape := ⟨2, ![512, 2048]⟩
abbrev S512x512 : Shape := ⟨2, ![512, 512]⟩
abbrev S1x256x256 : Shape := ⟨3, ![1, 256, 256]⟩
abbrev S256x256 : Shape := ⟨2, ![256, 256]⟩
abbrev S512x256 : Shape := ⟨2, ![512, 256]⟩

abbrev nBuf : Space → Nat
  | .hbm => 41
  | .vmem => 24
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .bf16⟩
  | .hbm, ⟨2, _⟩ => ⟨S32x2048x512, .bf16⟩
  | .hbm, ⟨3, _⟩ => ⟨S32x256x2048, .bf16⟩
  | .hbm, ⟨4, _⟩ => ⟨S1x1024, .f32⟩
  | .hbm, ⟨5, _⟩ => ⟨S1x1024x2048, .f32⟩
  | .hbm, ⟨6, _⟩ => ⟨S1x2048, .f32⟩
  | .hbm, ⟨7, _⟩ => ⟨S1x512x1024, .f32⟩
  | .hbm, ⟨8, _⟩ => ⟨S1x512x1024, .f32⟩
  | .hbm, ⟨9, _⟩ => ⟨S1x1024x1024, .f32⟩
  | .hbm, ⟨10, _⟩ => ⟨S1x1024, .f32⟩
  | .hbm, ⟨11, _⟩ => ⟨S1x1024x1024, .f32⟩
  | .hbm, ⟨12, _⟩ => ⟨S1x1024x1024, .f32⟩
  | .hbm, ⟨13, _⟩ => ⟨S1x1024, .f32⟩
  | .hbm, ⟨14, _⟩ => ⟨S128x1024, .bf16⟩
  | .hbm, ⟨15, _⟩ => ⟨S128x1024, .bf16⟩
  | .hbm, ⟨16, _⟩ => ⟨S1024, .f32⟩
  | .hbm, ⟨17, _⟩ => ⟨S1x1024, .f32⟩
  | .hbm, ⟨18, _⟩ => ⟨S1024x2048, .f32⟩
  | .hbm, ⟨19, _⟩ => ⟨S1024x2048, .bf16⟩
  | .hbm, ⟨20, _⟩ => ⟨S2048, .f32⟩
  | .hbm, ⟨21, _⟩ => ⟨S1x2048, .f32⟩
  | .hbm, ⟨22, _⟩ => ⟨S512x1024, .f32⟩
  | .hbm, ⟨23, _⟩ => ⟨S512x1024, .bf16⟩
  | .hbm, ⟨24, _⟩ => ⟨S512x1024, .f32⟩
  | .hbm, ⟨25, _⟩ => ⟨S512x1024, .bf16⟩
  | .hbm, ⟨26, _⟩ => ⟨S1024x1024, .f32⟩
  | .hbm, ⟨27, _⟩ => ⟨S1024x1024, .bf16⟩
  | .hbm, ⟨28, _⟩ => ⟨S1024, .f32⟩
  | .hbm, ⟨29, _⟩ => ⟨S1x1024, .f32⟩
  | .hbm, ⟨30, _⟩ => ⟨S1024x1024, .f32⟩
  | .hbm, ⟨31, _⟩ => ⟨S_, .f32⟩
  | .hbm, ⟨32, _⟩ => ⟨S1024x1024, .f32⟩
  | .hbm, ⟨33, _⟩ => ⟨S1024x1024, .f32⟩
  | .hbm, ⟨34, _⟩ => ⟨S1024x1024, .bf16⟩
  | .hbm, ⟨35, _⟩ => ⟨S1024x1024, .f32⟩
  | .hbm, ⟨36, _⟩ => ⟨S1024x1024, .bf16⟩
  | .hbm, ⟨37, _⟩ => ⟨S1024, .f32⟩
  | .hbm, ⟨38, _⟩ => ⟨S1x1024, .f32⟩
  | .hbm, ⟨39, _⟩ => ⟨S32x2048x1024, .f32⟩
  | .hbm, ⟨40, _⟩ => ⟨S128x65536, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x256x2048, .bf16⟩
  | .local _ .vmem, ⟨7, _⟩ => ⟨S1x256x2048, .bf16⟩
  | .local _ .vmem, ⟨8, _⟩ => ⟨S1x1024, .f32⟩
  | .local _ .vmem, ⟨9, _⟩ => ⟨S1024x2048, .bf16⟩
  | .local _ .vmem, ⟨10, _⟩ => ⟨S1x2048, .f32⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S1x1024, .f32⟩
  | .local _ .vmem, ⟨15, _⟩ => ⟨S1024x1024, .bf16⟩
  | .local _ .vmem, ⟨16, _⟩ => ⟨S1024x1024, .bf16⟩
  | .local _ .vmem, ⟨17, _⟩ => ⟨S1x1024, .f32⟩
  | .local _ .vmem, ⟨18, _⟩ => ⟨S128x1024, .bf16⟩
  | .local _ .vmem, ⟨19, _⟩ => ⟨S128x1024, .bf16⟩
  | .local _ .vmem, ⟨20, _⟩ => ⟨S1x512x1024, .f32⟩
  | .local _ .vmem, ⟨21, _⟩ => ⟨S1x512x1024, .f32⟩
  | .local _ .vmem, ⟨22, _⟩ => ⟨S128x512, .f32⟩
  | .local _ .vmem, ⟨23, _⟩ => ⟨S128x512, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22_0 : Ref sig .tc := ⟨.hbm, 39, rfl⟩
abbrev main_v22_1 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem16_1 : DmaSem sig := 21
abbrev cc0_sem17_0 : DmaSem sig := 22
abbrev cc0_sem17_1 : DmaSem sig := 23

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S128x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S128x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S128x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== MergeReferenceIdeal.lean ====
abbrev S32x2048x1024 : Shape := ⟨3, ![32, 2048, 1024]⟩
abbrev S32x2048x512 : Shape := ⟨3, ![32, 2048, 512]⟩
abbrev S32x256x2048 : Shape := ⟨3, ![32, 256, 2048]⟩
abbrev S1x1024 : Shape := ⟨2, ![1, 1024]⟩
abbrev S1x1024x2048 : Shape := ⟨3, ![1, 1024, 2048]⟩
abbrev S1x2048 : Shape := ⟨2, ![1, 2048]⟩
abbrev S1x512x1024 : Shape := ⟨3, ![1, 512, 1024]⟩
abbrev S1x1024x1024 : Shape := ⟨3, ![1, 1024, 1024]⟩
abbrev S128x1024 : Shape := ⟨2, ![128, 1024]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S1024x2048 : Shape := ⟨2, ![1024, 2048]⟩
abbrev S32x2048x2048 : Shape := ⟨3, ![32, 2048, 2048]⟩
abbrev S2048 : Shape := ⟨1, ![2048]⟩
abbrev S1x1x2048 : Shape := ⟨3, ![1, 1, 2048]⟩
abbrev S512x1024 : Shape := ⟨2, ![512, 1024]⟩
abbrev S1024x1024 : Shape := ⟨2, ![1024, 1024]⟩
abbrev S32x2048x4x256 : Shape := ⟨4, ![32, 2048, 4, 256]⟩
abbrev S32x256x2x4x256 : Shape := ⟨5, ![32, 256, 2, 4, 256]⟩
abbrev S32x256x1x4x256 : Shape := ⟨5, ![32, 256, 1, 4, 256]⟩
abbrev S32x256x4x256 : Shape := ⟨4, ![32, 256, 4, 256]⟩
abbrev S32x4x2048x256 : Shape := ⟨4, ![32, 4, 2048, 256]⟩
abbrev S32x4x2048 : Shape := ⟨3, ![32, 4, 2048]⟩
abbrev S32x4x2048x1 : Shape := ⟨4, ![32, 4, 2048, 1]⟩
abbrev S32x4x256x2048 : Shape := ⟨4, ![32, 4, 256, 2048]⟩

abbrev nBuf : Space → Nat
  | .hbm => 111
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .bf16⟩
  | .hbm, ⟨2, _⟩ => ⟨S32x2048x512, .bf16⟩
  | .hbm, ⟨3, _⟩ => ⟨S32x256x2048, .bf16⟩
  | .hbm, ⟨4, _⟩ => ⟨S1x1024, .f32⟩
  | .hbm, ⟨5, _⟩ => ⟨S1x1024x2048, .f32⟩
  | .hbm, ⟨6, _⟩ => ⟨S1x2048, .f32⟩
  | .hbm, ⟨7, _⟩ => ⟨S1x512x1024, .f32⟩
  | .hbm, ⟨8, _⟩ => ⟨S1x512x1024, .f32⟩
  | .hbm, ⟨9, _⟩ => ⟨S1x1024x1024, .f32⟩
  | .hbm, ⟨10, _⟩ => ⟨S1x1024, .f32⟩
  | .hbm, ⟨11, _⟩ => ⟨S1x1024x1024, .f32⟩
  | .hbm, ⟨12, _⟩ => ⟨S1x1024x1024, .f32⟩
  | .hbm, ⟨13, _⟩ => ⟨S1x1024, .f32⟩
  | .hbm, ⟨14, _⟩ => ⟨S128x1024, .bf16⟩
  | .hbm, ⟨15, _⟩ => ⟨S128x1024, .bf16⟩
  | .hbm, ⟨16, _⟩ => ⟨S32x2048x512, .f32⟩
  | .hbm, ⟨17, _⟩ => ⟨S32x2048x512, .f32⟩
  | .hbm, ⟨18, _⟩ => ⟨S32x256x2048, .f32⟩
  | .hbm, ⟨19, _⟩ => ⟨S1024, .f32⟩
  | .hbm, ⟨20, _⟩ => ⟨S32x2048x1024, .f32⟩
  | .hbm, ⟨21, _⟩ => ⟨S_, .f32⟩
  | .hbm, ⟨22, _⟩ => ⟨S32x2048, .f32⟩
  | .hbm, ⟨23, _⟩ => ⟨S32x2048x1, .f32⟩
  | .hbm, ⟨24, _⟩ => ⟨S_, .f32⟩
  | .hbm, ⟨25, _⟩ => ⟨S32x2048x1, .f32⟩
  | .hbm, ⟨26, _⟩ => ⟨S32x2048x1, .f32⟩
  | .hbm, ⟨27, _⟩ => ⟨S_, .f32⟩
  | .hbm, ⟨28, _⟩ => ⟨S32x2048x1, .f32⟩
  | .hbm, ⟨29, _⟩ => ⟨S32x2048x1, .f32⟩
  | .hbm, ⟨30, _⟩ => ⟨S32x2048x1, .f32⟩
  | .hbm, ⟨31, _⟩ => ⟨S32x2048x1024, .f32⟩
  | .hbm, ⟨32, _⟩ => ⟨S32x2048x1024, .f32⟩
  | .hbm, ⟨33, _⟩ => ⟨S1x1x1024, .f32⟩
  | .hbm, ⟨34, _⟩ => ⟨S32x2048x1024, .f32⟩
  | .hbm, ⟨35, _⟩ => ⟨S32x2048x1024, .f32⟩
  | .hbm, ⟨36, _⟩ => ⟨S1024x2048, .f32⟩
  | .hbm, ⟨37, _⟩ => ⟨S32x2048x2048, .f32⟩
  | .hbm, ⟨38, _⟩ => ⟨S2048, .f32⟩
  | .hbm, ⟨39, _⟩ => ⟨S1x1x2048, .f32⟩
  | .hbm, ⟨40, _⟩ => ⟨S32x2048x2048, .f32⟩
  | .hbm, ⟨41, _⟩ => ⟨S32x2048x2048, .f32⟩
  | .hbm, ⟨42, _⟩ => ⟨S32x2048x2048, .f32⟩
  | .hbm, ⟨43, _⟩ => ⟨S32x2048x2048, .f32⟩
  | .hbm, ⟨44, _⟩ => ⟨S_, .f32⟩
  | .hbm, ⟨45, _⟩ => ⟨S32x2048x2048, .f32⟩
  | .hbm, ⟨46, _⟩ => ⟨S32x2048x2048, .f32⟩
  | .hbm, ⟨47, _⟩ => ⟨S_, .f32⟩
  | .hbm, ⟨48, _⟩ => ⟨S32x2048x2048, .f32⟩
  | .hbm, ⟨49, _⟩ => ⟨S32x2048x2048, .f32⟩
  | .hbm, ⟨50, _⟩ => ⟨S32x2048x1024, .f32⟩
  | .hbm, ⟨51, _⟩ => ⟨S32x2048x1024, .f32⟩
  | .hbm, ⟨52, _⟩ => ⟨S512x1024, .f32⟩
  | .hbm, ⟨53, _⟩ => ⟨S32x2048x1024, .f32⟩
  | .hbm, ⟨54, _⟩ => ⟨S32x2048x1024, .f32⟩
  | .hbm, ⟨55, _⟩ => ⟨S512x1024, .f32⟩
  | .hbm, ⟨56, _⟩ => ⟨S32x2048x1024, .f32⟩
  | .hbm, ⟨57, _⟩ => ⟨S32x2048x1024, .f32⟩
  | .hbm, ⟨58, _⟩ => ⟨S32x2048x1024, .f32⟩
  | .hbm, ⟨59, _⟩ => ⟨S1024x1024, .f32⟩
  | .hbm, ⟨60, _⟩ => ⟨S32x2048x1024, .f32⟩
  | .hbm, ⟨61, _⟩ => ⟨S32x2048x1024, .f32⟩
  | .hbm, ⟨62, _⟩ => ⟨S1024, .f32⟩
  | .hbm, ⟨63, _⟩ => ⟨S32x2048x1024, .f32⟩
  | .hbm, ⟨64, _⟩ => ⟨S_, .f32⟩
  | .hbm, ⟨65, _⟩ => ⟨S32x2048, .f32⟩
  | .hbm, ⟨66, _⟩ => ⟨S32x2048x1, .f32⟩
  | .hbm, ⟨67, _⟩ => ⟨S_, .f32⟩
  | .hbm, ⟨68, _⟩ => ⟨S32x2048x1, .f32⟩
  | .hbm, ⟨69, _⟩ => ⟨S32x2048x1, .f32⟩
  | .hbm, ⟨70, _⟩ => ⟨S_, .f32⟩
  | .hbm, ⟨71, _⟩ => ⟨S32x2048x1, .f32⟩
  | .hbm, ⟨72, _⟩ => ⟨S32x2048x1, .f32⟩
  | .hbm, ⟨73, _⟩ => ⟨S32x2048x1, .f32⟩
  | .hbm, ⟨74, _⟩ => ⟨S32x2048x1024, .f32⟩
  | .hbm, ⟨75, _⟩ => ⟨S32x2048x1024, .f32⟩
  | .hbm, ⟨76, _⟩ => ⟨S1x1x1024, .f32⟩
  | .hbm, ⟨77, _⟩ => ⟨S32x2048x1024, .f32⟩
  | .hbm, ⟨78, _⟩ => ⟨S32x2048x1024, .f32⟩
  | .hbm, ⟨79, _⟩ => ⟨S1024x1024, .f32⟩
  | .hbm, ⟨80, _⟩ => ⟨S32x2048x1024, .f32⟩
  | .hbm, ⟨81, _⟩ => ⟨S32x2048x4x256, .f32⟩
  | .hbm, ⟨82, _⟩ => ⟨S32x256x2x4x256, .f32⟩
  | .hbm, ⟨83, _⟩ => ⟨S32x256x1x4x256, .f32⟩
  | .hbm, ⟨84, _⟩ => ⟨S32x256x1x4x256, .f32⟩
  | .hbm, ⟨85, _⟩ => ⟨S32x256x4x256, .f32⟩
  | .hbm, ⟨86, _⟩ => ⟨S32x256x4x256, .f32⟩
  | .hbm, ⟨87, _⟩ => ⟨S32x4x2048x256, .f32⟩
  | .hbm, ⟨88, _⟩ => ⟨S_, .f32⟩
  | .hbm, ⟨89, _⟩ => ⟨S32x4x2048x256, .f32⟩
  | .hbm, ⟨90, _⟩ => ⟨S32x4x2048x256, .f32⟩
  | .hbm, ⟨91, _⟩ => ⟨S_, .f32⟩
  | .hbm, ⟨92, _⟩ => ⟨S32x4x2048, .f32⟩
  | .hbm, ⟨93, _⟩ => ⟨S_, .f32⟩
  | .hbm, ⟨94, _⟩ => ⟨S32x4x2048, .f32⟩
  | .hbm, ⟨95, _⟩ => ⟨S32x4x2048, .f32⟩
  | .hbm, ⟨96, _⟩ => ⟨S32x4x2048x1, .f32⟩
  | .hbm, ⟨97, _⟩ => ⟨S32x4x2048x256, .f32⟩
  | .hbm, ⟨98, _⟩ => ⟨S32x4x2048x256, .f32⟩
  | .hbm, ⟨99, _⟩ => ⟨S32x4x2048x256, .f32⟩
  | .hbm, ⟨100, _⟩ => ⟨S_, .f32⟩
  | .hbm, ⟨101, _⟩ => ⟨S32x4x2048, .f32⟩
  | .hbm, ⟨102, _⟩ => ⟨S32x4x2048x1, .f32⟩
  | .hbm, ⟨103, _⟩ => ⟨S32x4x2048x256, .f32⟩
  | .hbm, ⟨104, _⟩ => ⟨S32x4x2048x256, .f32⟩
  | .hbm, ⟨105, _⟩ => ⟨S32x4x256x2048, .f32⟩
  | .hbm, ⟨106, _⟩ => ⟨S32x2048x4x256, .f32⟩
  | .hbm, ⟨107, _⟩ => ⟨S32x2048x1024, .f32⟩
  | .hbm, ⟨108, _⟩ => ⟨S1024x1024, .f32⟩
  | .hbm, ⟨109, _⟩ => ⟨S32x2048x1024, .f32⟩
  | .hbm, ⟨110, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_2 : Ref sig .tc := ⟨.hbm, 44, rfl⟩
abbrev main_v25 : Ref sig .tc := ⟨.hbm, 45, rfl⟩
abbrev main_v26 : Ref sig .tc := ⟨.hbm, 46, rfl⟩
abbrev main_cst_3 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_4 : Ref sig .tc := ⟨.hbm, 64, rfl⟩
abbrev main_v43 : Ref sig .tc := ⟨.hbm, 65, rfl⟩
abbrev main_v44 : Ref sig .tc := ⟨.hbm, 66, rfl⟩
abbrev main_cst_5 : Ref sig .tc := ⟨.hbm, 67, rfl⟩
abbrev main_v45 : Ref sig .tc := ⟨.hbm, 68, rfl⟩
abbrev main_v46 : Ref sig .tc := ⟨.hbm, 69, rfl⟩
abbrev main_cst_6 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_7 : Ref sig .tc := ⟨.hbm, 88, rfl⟩
abbrev main_v64 : Ref sig .tc := ⟨.hbm, 89, rfl⟩
abbrev main_v65 : Ref sig .tc := ⟨.hbm, 90, rfl⟩
abbrev main_cst_8 : Ref sig .tc := ⟨.hbm, 91, rfl⟩
abbrev main_v66 : Ref sig .tc := ⟨.hbm, 92, rfl⟩
abbrev main_cst_9 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_10 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩

abbrev nD : Nat := 1
abbrev τ : Topo := Topo.v7x

variable {F : FTy → Type} [FloatOps F]
-- ==== Experts.lean ====
abbrev S288 : Shape := ⟨1, ![288]⟩
abbrev S1 : Shape := ⟨1, ![1]⟩
abbrev S147456x1024 : Shape := ⟨2, ![147456, 1024]⟩
abbrev S1x1024 : Shape := ⟨2, ![1, 1024]⟩
abbrev S1x32x1024x512 : Shape := ⟨4, ![1, 32, 1024, 512]⟩
abbrev S1x32x512x1024 : Shape := ⟨4, ![1, 32, 512, 1024]⟩
abbrev S1024 : Shape := ⟨1, ![1024]⟩
abbrev S32x1024x512 : Shape := ⟨3, ![32, 1024, 512]⟩
abbrev S32x512x1024 : Shape := ⟨3, ![32, 512, 1024]⟩
abbrev S512x1024 : Shape := ⟨2, ![512, 1024]⟩
abbrev S1x1024x512 : Shape := ⟨3, ![1, 1024, 512]⟩
abbrev S1x512x1024 : Shape := ⟨3, ![1, 512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 14
  | .vmem => 11
  | .smem => 2
  | _ => 0

abbrev bufTy : (tb : Table) → Fin (tcTables nBuf tb) → BufTy
  | .hbm, ⟨0, _⟩ => ⟨S147456x1024, .f32⟩
  | .hbm, ⟨1, _⟩ => ⟨S1x1024, .f32⟩
  | .hbm, ⟨2, _⟩ => ⟨S1x32x1024x512, .f32⟩
  | .hbm, ⟨3, _⟩ => ⟨S1x32x1024x512, .f32⟩
  | .hbm, ⟨4, _⟩ => ⟨S1x32x512x1024, .f32⟩
  | .hbm, ⟨5, _⟩ => ⟨S1024, .f32⟩
  | .hbm, ⟨6, _⟩ => ⟨S1x1024, .f32⟩
  | .hbm, ⟨7, _⟩ => ⟨S32x1024x512, .f32⟩
  | .hbm, ⟨8, _⟩ => ⟨S32x1024x512, .bf16⟩
  | .hbm, ⟨9, _⟩ => ⟨S32x1024x512, .f32⟩
  | .hbm, ⟨10, _⟩ => ⟨S32x1024x512, .bf16⟩
  | .hbm, ⟨11, _⟩ => ⟨S32x512x1024, .f32⟩
  | .hbm, ⟨12, _⟩ => ⟨S32x512x1024, .bf16⟩
  | .hbm, ⟨13, _⟩ => ⟨S147456x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x512x1024, .bf16⟩
  | .local _ .vmem, ⟨8, _⟩ => ⟨S1x512x1024, .bf16⟩
  | .local _ .vmem, ⟨9, _⟩ => ⟨S512x1024, .f32⟩
  | .local _ .vmem, ⟨10, _⟩ => ⟨S512x1024, .f32⟩
  | .local _ .smem, ⟨0, _⟩ => ⟨S288, .i32⟩
  | .local _ .smem, ⟨1, _⟩ => ⟨S1, .i32⟩
  | _, _ => ⟨S147456x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ExpertsReferenceIdeal.lean ====
abbrev S288 : Shape := ⟨1, ![288]⟩
abbrev S1 : Shape := ⟨1, ![1]⟩
abbrev S147456x1024 : Shape := ⟨2, ![147456, 1024]⟩
abbrev S1x1024 : Shape := ⟨2, ![1, 1024]⟩
abbrev S1x32x1024x512 : Shape := ⟨4, ![1, 32, 1024, 512]⟩
abbrev S1x32x512x1024 : Shape := ⟨4, ![1, 32, 512, 1024]⟩
abbrev S1024 : Shape := ⟨1, ![1024]⟩
abbrev S_ : Shape := ⟨0, ![]⟩
abbrev S147456 : Shape := ⟨1, ![147456]⟩
abbrev S147456x1 : Shape := ⟨2, ![147456, 1]⟩
abbrev S288x512x1024 : Shape := ⟨3, ![288, 512, 1024]⟩
abbrev S32x1024x512 : Shape := ⟨3, ![32, 1024, 512]⟩
abbrev S288x1 : Shape := ⟨2, ![288, 1]⟩
abbrev S288x1024x512 : Shape := ⟨3, ![288, 1024, 512]⟩
abbrev S288x512x512 : Shape := ⟨3, ![288, 512, 512]⟩
abbrev S32x512x1024 : Shape := ⟨3, ![32, 512, 1024]⟩
abbrev S288x1x1 : Shape := ⟨3, ![288, 1, 1]⟩

abbrev nBuf : Space → Nat
  | .hbm => 79
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S147456x1024, .f32⟩
  | .hbm, ⟨3, _⟩ => ⟨S1x1024, .f32⟩
  | .hbm, ⟨4, _⟩ => ⟨S1x32x1024x512, .f32⟩
  | .hbm, ⟨5, _⟩ => ⟨S1x32x1024x512, .f32⟩
  | .hbm, ⟨6, _⟩ => ⟨S1x32x512x1024, .f32⟩
  | .hbm, ⟨7, _⟩ => ⟨S1024, .f32⟩
  | .hbm, ⟨8, _⟩ => ⟨S147456x1024, .f32⟩
  | .hbm, ⟨9, _⟩ => ⟨S_, .f32⟩
  | .hbm, ⟨10, _⟩ => ⟨S147456, .f32⟩
  | .hbm, ⟨11, _⟩ => ⟨S147456x1, .f32⟩
  | .hbm, ⟨12, _⟩ => ⟨S_, .f32⟩
  | .hbm, ⟨13, _⟩ => ⟨S147456x1, .f32⟩
  | .hbm, ⟨14, _⟩ => ⟨S147456x1, .f32⟩
  | .hbm, ⟨15, _⟩ => ⟨S_, .f32⟩
  | .hbm, ⟨16, _⟩ => ⟨S147456x1, .f32⟩
  | .hbm, ⟨17, _⟩ => ⟨S147456x1, .f32⟩
  | .hbm, ⟨18, _⟩ => ⟨S147456x1, .f32⟩
  | .hbm, ⟨19, _⟩ => ⟨S147456x1024, .f32⟩
  | .hbm, ⟨20, _⟩ => ⟨S147456x1024, .f32⟩
  | .hbm, ⟨21, _⟩ => ⟨S1x1024, .f32⟩
  | .hbm, ⟨22, _⟩ => ⟨S147456x1024, .f32⟩
  | .hbm, ⟨23, _⟩ => ⟨S147456x1024, .f32⟩
  | .hbm, ⟨24, _⟩ => ⟨S288x512x1024, .f32⟩
  | .hbm, ⟨25, _⟩ => ⟨S32x1024x512, .f32⟩
  | .hbm, ⟨26, _⟩ => ⟨S_, .i32⟩
  | .hbm, ⟨27, _⟩ => ⟨S288, .i32⟩
  | .hbm, ⟨28, _⟩ => ⟨S288, .i1⟩
  | .hbm, ⟨29, _⟩ => ⟨S_, .i32⟩
  | .hbm, ⟨30, _⟩ => ⟨S288, .i32⟩
  | .hbm, ⟨31, _⟩ => ⟨S288, .i32⟩
  | .hbm, ⟨32, _⟩ => ⟨S288, .i32⟩
  | .hbm, ⟨33, _⟩ => ⟨S288x1, .i32⟩
  | .hbm, ⟨34, _⟩ => ⟨S288x1024x512, .f32⟩
  | .hbm, ⟨35, _⟩ => ⟨S288x512x512, .f32⟩
  | .hbm, ⟨36, _⟩ => ⟨S288x512x512, .f32⟩
  | .hbm, ⟨37, _⟩ => ⟨S288x512x512, .f32⟩
  | .hbm, ⟨38, _⟩ => ⟨S_, .f32⟩
  | .hbm, ⟨39, _⟩ => ⟨S288x512x512, .f32⟩
  | .hbm, ⟨40, _⟩ => ⟨S288x512x512, .f32⟩
  | .hbm, ⟨41, _⟩ => ⟨S_, .f32⟩
  | .hbm, ⟨42, _⟩ => ⟨S288x512x512, .f32⟩
  | .hbm, ⟨43, _⟩ => ⟨S288x512x512, .f32⟩
  | .hbm, ⟨44, _⟩ => ⟨S288x512x512, .f32⟩
  | .hbm, ⟨45, _⟩ => ⟨S32x1024x512, .f32⟩
  | .hbm, ⟨46, _⟩ => ⟨S_, .i32⟩
  | .hbm, ⟨47, _⟩ => ⟨S288, .i32⟩
  | .hbm, ⟨48, _⟩ => ⟨S288, .i1⟩
  | .hbm, ⟨49, _⟩ => ⟨S_, .i32⟩
  | .hbm, ⟨50, _⟩ => ⟨S288, .i32⟩
  | .hbm, ⟨51, _⟩ => ⟨S288, .i32⟩
  | .hbm, ⟨52, _⟩ => ⟨S288, .i32⟩
  | .hbm, ⟨53, _⟩ => ⟨S288x1, .i32⟩
  | .hbm, ⟨54, _⟩ => ⟨S288x1024x512, .f32⟩
  | .hbm, ⟨55, _⟩ => ⟨S288x512x512, .f32⟩
  | .hbm, ⟨56, _⟩ => ⟨S288x512x512, .f32⟩
  | .hbm, ⟨57, _⟩ => ⟨S32x512x1024, .f32⟩
  | .hbm, ⟨58, _⟩ => ⟨S_, .i32⟩
  | .hbm, ⟨59, _⟩ => ⟨S288, .i32⟩
  | .hbm, ⟨60, _⟩ => ⟨S288, .i1⟩
  | .hbm, ⟨61, _⟩ => ⟨S_, .i32⟩
  | .hbm, ⟨62, _⟩ => ⟨S288, .i32⟩
  | .hbm, ⟨63, _⟩ => ⟨S288, .i32⟩
  | .hbm, ⟨64, _⟩ => ⟨S288, .i32⟩
  | .hbm, ⟨65, _⟩ => ⟨S288x1, .i32⟩
  | .hbm, ⟨66, _⟩ => ⟨S288x512x1024, .f32⟩
  | .hbm, ⟨67, _⟩ => ⟨S288x512x1024, .f32⟩
  | .hbm, ⟨68, _⟩ => ⟨S288, .i32⟩
  | .hbm, ⟨69, _⟩ => ⟨S_, .i32⟩
  | .hbm, ⟨70, _⟩ => ⟨S288, .i32⟩
  | .hbm, ⟨71, _⟩ => ⟨S288, .i1⟩
  | .hbm, ⟨72, _⟩ => ⟨S288x1x1, .i1⟩
  | .hbm, ⟨73, _⟩ => ⟨S_, .f32⟩
  | .hbm, ⟨74, _⟩ => ⟨S_, .f32⟩
  | .hbm, ⟨75, _⟩ => ⟨S288x512x1024, .i1⟩
  | .hbm, ⟨76, _⟩ => ⟨S288x512x1024, .f32⟩
  | .hbm, ⟨77, _⟩ => ⟨S288x512x1024, .f32⟩
  | .hbm, ⟨78, _⟩ => ⟨S147456x1024, .f32⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v24 : Ref sig .tc := ⟨.hbm, 44, rfl⟩
abbrev main_v25 : Ref sig .tc := ⟨.hbm, 45, rfl⟩
abbrev main_c_3 : Ref sig .tc := ⟨.hbm, 46, rfl⟩
abbrev main_v26 : Ref sig .tc := ⟨.hbm, 47, rfl⟩
abbrev main_v27 : Ref sig .tc := ⟨.hbm, 48, rfl⟩
abbrev main_c_4 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_5 : Ref sig .tc := ⟨.hbm, 58, rfl⟩
abbrev main_v36 : Ref sig .tc := ⟨.hbm, 59, rfl⟩
abbrev main_v37 : Ref sig .tc := ⟨.hbm, 60, rfl⟩
abbrev main_c_6 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_7 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_v49 : Ref sig .tc := ⟨.hbm, 77, rfl⟩
abbrev main_v50 : Ref sig .tc := ⟨.hbm, 78, rfl⟩

abbrev nD : Nat := 1
abbrev τ : Topo := Topo.v7x

variable {F : FTy → Type} [FloatOps F]
-- ==== Memkv.lean ====
abbrev S32x256x1024 : Shape := ⟨3, ![32, 256, 1024]⟩
abbrev S1x1024 : Shape := ⟨2, ![1, 1024]⟩
abbrev S1x1024x2048 : Shape := ⟨3, ![1, 1024, 2048]⟩
abbrev S8192x1024 : Shape := ⟨2, ![8192, 1024]⟩
abbrev S1024 : Shape := ⟨1, ![1024]⟩
abbrev S1024x2048 : Shape := ⟨2, ![1024, 2048]⟩
abbrev S8192x2048 : Shape := ⟨2, ![8192, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 6
  | .smem => 0
  | _ => 0

abbrev bufTy : (tb : Table) → Fin (tcTables nBuf tb) → BufTy
  | .hbm, ⟨0, _⟩ => ⟨S32x256x1024, .f32⟩
  | .hbm, ⟨1, _⟩ => ⟨S1x1024, .f32⟩
  | .hbm, ⟨2, _⟩ => ⟨S1x1024x2048, .f32⟩
  | .hbm, ⟨3, _⟩ => ⟨S8192x1024, .f32⟩
  | .hbm, ⟨4, _⟩ => ⟨S1024, .f32⟩
  | .hbm, ⟨5, _⟩ => ⟨S1x1024, .f32⟩
  | .hbm, ⟨6, _⟩ => ⟨S1024x2048, .f32⟩
  | .hbm, ⟨7, _⟩ => ⟨S1024x2048, .bf16⟩
  | .hbm, ⟨8, _⟩ => ⟨S8192x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S512x2048, .bf16⟩
  | .local _ .vmem, ⟨5, _⟩ => ⟨S512x2048, .bf16⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MemkvReferenceIdeal.lean ====
abbrev S32x256x1024 : Shape := ⟨3, ![32, 256, 1024]⟩
abbrev S1x1024 : Shape := ⟨2, ![1, 1024]⟩
abbrev S1x1024x2048 : Shape := ⟨3, ![1, 1024, 2048]⟩
abbrev S1024 : Shape := ⟨1, ![1024]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S1024x2048 : Shape := ⟨2, ![1024, 2048]⟩
abbrev S32x256x2048 : Shape := ⟨3, ![32, 256, 2048]⟩
abbrev S8192x2048 : Shape := ⟨2, ![8192, 2048]⟩

abbrev nBuf : Space → Nat
  | .hbm => 24
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S1x1024, .f32⟩
  | .hbm, ⟨2, _⟩ => ⟨S1x1024x2048, .f32⟩
  | .hbm, ⟨3, _⟩ => ⟨S1024, .f32⟩
  | .hbm, ⟨4, _⟩ => ⟨S32x256x1024, .f32⟩
  | .hbm, ⟨5, _⟩ => ⟨S_, .f32⟩
  | .hbm, ⟨6, _⟩ => ⟨S32x256, .f32⟩
  | .hbm, ⟨7, _⟩ => ⟨S32x256x1, .f32⟩
  | .hbm, ⟨8, _⟩ => ⟨S_, .f32⟩
  | .hbm, ⟨9, _⟩ => ⟨S32x256x1, .f32⟩
  | .hbm, ⟨10, _⟩ => ⟨S32x256x1, .f32⟩
  | .hbm, ⟨11, _⟩ => ⟨S_, .f32⟩
  | .hbm, ⟨12, _⟩ => ⟨S32x256x1, .f32⟩
  | .hbm, ⟨13, _⟩ => ⟨S32x256x1, .f32⟩
  | .hbm, ⟨14, _⟩ => ⟨S32x256x1, .f32⟩
  | .hbm, ⟨15, _⟩ => ⟨S32x256x1024, .f32⟩
  | .hbm, ⟨16, _⟩ => ⟨S32x256x1024, .f32⟩
  | .hbm, ⟨17, _⟩ => ⟨S1x1x1024, .f32⟩
  | .hbm, ⟨18, _⟩ => ⟨S32x256x1024, .f32⟩
  | .hbm, ⟨19, _⟩ => ⟨S32x256x1024, .f32⟩
  | .hbm, ⟨20, _⟩ => ⟨S1024x2048, .f32⟩
  | .hbm, ⟨21, _⟩ => ⟨S32x256x2048, .f32⟩
  | .hbm, ⟨22, _⟩ => ⟨S8192x2048, .f32⟩
  | .hbm, ⟨23, _⟩ => ⟨S8192x2048, .bf16⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Proj.lean ====
abbrev S32x2048x1024 : Shape := ⟨3, ![32, 2048, 1024]⟩
abbrev S1x1024 : Shape := ⟨2, ![1, 1024]⟩
abbrev S1x1024x2500 : Shape := ⟨3, ![1, 1024, 2500]⟩
abbrev S1024x2500 : Shape := ⟨2, ![1024, 2500]⟩
abbrev S1024x512 : Shape := ⟨2, ![1024, 512]⟩
abbrev S1024x64 : Shape := ⟨2, ![1024, 64]⟩
abbrev S1024x256 : Shape := ⟨2, ![1024, 256]⟩
abbrev S1024x4 : Shape := ⟨2, ![1024, 4]⟩
abbrev S1024x768 : Shape := ⟨2, ![1024, 768]⟩
abbrev S_ : Shape := ⟨0, ![]⟩
abbrev S1024x12 : Shape := ⟨2, ![1024, 12]⟩
abbrev S1024x1872 : Shape := ⟨2, ![1024, 1872]⟩
abbrev S1872x1024 : Shape := ⟨2, ![1872, 1024]⟩
abbrev S65536x1024 : Shape := ⟨2, ![65536, 1024]⟩
abbrev S1024 : Shape := ⟨1, ![1024]⟩
abbrev S65536x512 : Shape := ⟨2, ![65536, 512]⟩
abbrev S65536x128 : Shape := ⟨2, ![65536, 128]⟩
abbrev S256x512x256 : Shape := ⟨3, ![256, 512, 256]⟩
abbrev S256x256x256 : Shape := ⟨3, ![256, 256, 256]⟩
abbrev S256x64x256 : Shape := ⟨3, ![256, 64, 256]⟩
abbrev S16x65536 : Shape := ⟨2, ![16, 65536]⟩
abbrev S512x1024 : Shape := ⟨2, ![512, 1024]⟩
abbrev S512x512 : Shape := ⟨2, ![512, 512]⟩
abbrev S512x128 : Shape := ⟨2, ![512, 128]⟩
abbrev S2x512x256 : Shape := ⟨3, ![2, 512, 256]⟩
abbrev S2x256x256 : Shape := ⟨3, ![2, 256, 256]⟩
abbrev S2x64x256 : Shape := ⟨3, ![2, 64, 256]⟩
abbrev S16x512 : Shape := ⟨2, ![16, 512]⟩
abbrev S512 : Shape := ⟨1, ![512]⟩
abbrev S512x1 : Shape := ⟨2, ![512, 1]⟩
abbrev S1024x128 : Shape := ⟨2, ![1024, 128]⟩
abbrev S512x256 : Shape := ⟨2, ![512, 256]⟩
abbrev S1x512x256 : Shape := ⟨3, ![1, 512, 256]⟩
abbrev S256x1024 : Shape := ⟨2, ![256, 1024]⟩
abbrev S256x512 : Shape := ⟨2, ![256, 512]⟩
abbrev S256x256 : Shape := ⟨2, ![256, 256]⟩
abbrev S1x256x256 : Shape := ⟨3, ![1, 256, 256]⟩
abbrev S64x1024 : Shape := ⟨2, ![64, 1024]⟩
abbrev S64x512 : Shape := ⟨2, ![64, 512]⟩
abbrev S64x256 : Shape := ⟨2, ![64, 256]⟩
abbrev S1x64x256 : Shape := ⟨3, ![1, 64, 256]⟩
abbrev S16x1024 : Shape := ⟨2, ![16, 1024]⟩

abbrev nBuf : Space → Nat
  | .hbm => 41
  | .vmem => 23
  | .smem => 0
  | _ => 0

abbrev bufTy : (tb : Table) → Fin (tcTables nBuf tb) → BufTy
  | .hbm, ⟨0, _⟩ => ⟨S32x2048x1024, .f32⟩
  | .hbm, ⟨1, _⟩ => ⟨S1x1024, .f32⟩
  | .hbm, ⟨2, _⟩ => ⟨S1x1024x2500, .f32⟩
  | .hbm, ⟨3, _⟩ => ⟨S1024x2500, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x64, .f32⟩
  | .hbm, ⟨9, _⟩ => ⟨S1024x64, .f32⟩
  | .hbm, ⟨10, _⟩ => ⟨S1024x256, .f32⟩
  | .hbm, ⟨11, _⟩ => ⟨S1024x64, .f32⟩
  | .hbm, ⟨12, _⟩ => ⟨S1024x4, .f32⟩
  | .hbm, ⟨13, _⟩ => ⟨S1024x768, .f32⟩
  | .hbm, ⟨14, _⟩ => ⟨S_, .f32⟩
  | .hbm, ⟨15, _⟩ => ⟨S1024x12, .f32⟩
  | .hbm, ⟨16, _⟩ => ⟨S_, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x4, .f32⟩
  | .hbm, ⟨24, _⟩ => ⟨S1024x4, .f32⟩
  | .hbm, ⟨25, _⟩ => ⟨S1024x1872, .f32⟩
  | .hbm, ⟨26, _⟩ => ⟨S1872x1024, .f32⟩
  | .hbm, ⟨27, _⟩ => ⟨S1024x768, .bf16⟩
  | .hbm, ⟨28, _⟩ => ⟨S1872x1024, .bf16⟩
  | .hbm, ⟨29, _⟩ => ⟨S65536x1024, .f32⟩
  | .hbm, ⟨30, _⟩ => ⟨S1024, .f32⟩
  | .hbm, ⟨31, _⟩ => ⟨S1x1024, .f32⟩
  | .hbm, ⟨32, _⟩ => ⟨S65536x512, .bf16⟩
  | .hbm, ⟨33, _⟩ => ⟨S65536x128, .bf16⟩
  | .hbm, ⟨34, _⟩ => ⟨S65536x128, .bf16⟩
  | .hbm, ⟨35, _⟩ => ⟨S256x512x256, .bf16⟩
  | .hbm, ⟨36, _⟩ => ⟨S256x512x256, .bf16⟩
  | .hbm, ⟨37, _⟩ => ⟨S256x256x256, .bf16⟩
  | .hbm, ⟨38, _⟩ => ⟨S256x512x256, .bf16⟩
  | .hbm, ⟨39, _⟩ => ⟨S256x64x256, .bf16⟩
  | .hbm, ⟨40, _⟩ => ⟨S16x65536, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x768, .bf16⟩
  | .local _ .vmem, ⟨4, _⟩ => ⟨S1872x1024, .bf16⟩
  | .local _ .vmem, ⟨5, _⟩ => ⟨S512x512, .bf16⟩
  | .local _ .vmem, ⟨6, _⟩ => ⟨S512x512, .bf16⟩
  | .local _ .vmem, ⟨7, _⟩ => ⟨S512x128, .bf16⟩
  | .local _ .vmem, ⟨8, _⟩ => ⟨S512x128, .bf16⟩
  | .local _ .vmem, ⟨9, _⟩ => ⟨S512x128, .bf16⟩
  | .local _ .vmem, ⟨10, _⟩ => ⟨S512x128, .bf16⟩
  | .local _ .vmem, ⟨11, _⟩ => ⟨S2x512x256, .bf16⟩
  | .local _ .vmem, ⟨12, _⟩ => ⟨S2x512x256, .bf16⟩
  | .local _ .vmem, ⟨13, _⟩ => ⟨S2x512x256, .bf16⟩
  | .local _ .vmem, ⟨14, _⟩ => ⟨S2x512x256, .bf16⟩
  | .local _ .vmem, ⟨15, _⟩ => ⟨S2x256x256, .bf16⟩
  | .local _ .vmem, ⟨16, _⟩ => ⟨S2x256x256, .bf16⟩
  | .local _ .vmem, ⟨17, _⟩ => ⟨S2x512x256, .bf16⟩
  | .local _ .vmem, ⟨18, _⟩ => ⟨S2x512x256, .bf16⟩
  | .local _ .vmem, ⟨19, _⟩ => ⟨S2x64x256, .bf16⟩
  | .local _ .vmem, ⟨20, _⟩ => ⟨S2x64x256, .bf16⟩
  | .local _ .vmem, ⟨21, _⟩ => ⟨S16x512, .f32⟩
  | .local _ .vmem, ⟨22, _⟩ => ⟨S16x512, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25_0 : Ref sig .tc := ⟨.hbm, 32, rfl⟩
abbrev main_v25_1 : Ref sig .tc := ⟨.hbm, 33, rfl⟩
abbrev main_v25_2 : Ref sig .tc := ⟨.hbm, 34, rfl⟩
abbrev main_v25_3 : Ref sig .tc := ⟨.hbm, 35, rfl⟩
abbrev main_v25_4 : Ref sig .tc := ⟨.hbm, 36, rfl⟩
abbrev main_v25_5 : Ref sig .tc := ⟨.hbm, 37, rfl⟩
abbrev main_v25_6 : Ref sig .tc := ⟨.hbm, 38, rfl⟩
abbrev main_v25_7 : Ref sig .tc := ⟨.hbm, 39, rfl⟩
abbrev main_v25_8 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1872x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x64x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ProjReferenceIdeal.lean ====
abbrev S32x2048x1024 : Shape := ⟨3, ![32, 2048, 1024]⟩
abbrev S1x1024 : Shape := ⟨2, ![1, 1024]⟩
abbrev S1x1024x2500 : Shape := ⟨3, ![1, 1024, 2500]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S1024x2500 : Shape := ⟨2, ![1024, 2500]⟩
abbrev S32x2048x2500 : Shape := ⟨3, ![32, 2048, 2500]⟩
abbrev S65536x2500 : Shape := ⟨2, ![65536, 2500]⟩
abbrev S65536x512 : Shape := ⟨2, ![65536, 512]⟩
abbrev S65536x64 : Shape := ⟨2, ![65536, 64]⟩
abbrev S65536x256 : Shape := ⟨2, ![65536, 256]⟩
abbrev S65536x4 : Shape := ⟨2, ![65536, 4]⟩
abbrev S65536x128 : Shape := ⟨2, ![65536, 128]⟩
abbrev S256x256x512 : Shape := ⟨3, ![256, 256, 512]⟩
abbrev S256x512x256 : Shape := ⟨3, ![256, 512, 256]⟩
abbrev S256x256x256 : Shape := ⟨3, ![256, 256, 256]⟩
abbrev S256x256x64 : Shape := ⟨3, ![256, 256, 64]⟩
abbrev S256x64x256 : Shape := ⟨3, ![256, 64, 256]⟩
abbrev S65536x16 : Shape := ⟨2, ![65536, 16]⟩
abbrev S16x65536 : Shape := ⟨2, ![16, 65536]⟩

abbrev nBuf : Space → Nat
  | .hbm => 65
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1x1024, .f32⟩
  | .hbm, ⟨2, _⟩ => ⟨S1x1024x2500, .f32⟩
  | .hbm, ⟨3, _⟩ => ⟨S1024, .f32⟩
  | .hbm, ⟨4, _⟩ => ⟨S32x2048x1024, .f32⟩
  | .hbm, ⟨5, _⟩ => ⟨S_, .f32⟩
  | .hbm, ⟨6, _⟩ => ⟨S32x2048, .f32⟩
  | .hbm, ⟨7, _⟩ => ⟨S32x2048x1, .f32⟩
  | .hbm, ⟨8, _⟩ => ⟨S_, .f32⟩
  | .hbm, ⟨9, _⟩ => ⟨S32x2048x1, .f32⟩
  | .hbm, ⟨10, _⟩ => ⟨S32x2048x1, .f32⟩
  | .hbm, ⟨11, _⟩ => ⟨S_, .f32⟩
  | .hbm, ⟨12, _⟩ => ⟨S32x2048x1, .f32⟩
  | .hbm, ⟨13, _⟩ => ⟨S32x2048x1, .f32⟩
  | .hbm, ⟨14, _⟩ => ⟨S32x2048x1, .f32⟩
  | .hbm, ⟨15, _⟩ => ⟨S32x2048x1024, .f32⟩
  | .hbm, ⟨16, _⟩ => ⟨S32x2048x1024, .f32⟩
  | .hbm, ⟨17, _⟩ => ⟨S1x1x1024, .f32⟩
  | .hbm, ⟨18, _⟩ => ⟨S32x2048x1024, .f32⟩
  | .hbm, ⟨19, _⟩ => ⟨S32x2048x1024, .f32⟩
  | .hbm, ⟨20, _⟩ => ⟨S1024x2500, .f32⟩
  | .hbm, ⟨21, _⟩ => ⟨S32x2048x2500, .f32⟩
  | .hbm, ⟨22, _⟩ => ⟨S65536x2500, .f32⟩
  | .hbm, ⟨23, _⟩ => ⟨S65536x512, .f32⟩
  | .hbm, ⟨24, _⟩ => ⟨S65536x512, .f32⟩
  | .hbm, ⟨25, _⟩ => ⟨S65536x512, .f32⟩
  | .hbm, ⟨26, _⟩ => ⟨S65536x512, .f32⟩
  | .hbm, ⟨27, _⟩ => ⟨S65536x64, .f32⟩
  | .hbm, ⟨28, _⟩ => ⟨S65536x64, .f32⟩
  | .hbm, ⟨29, _⟩ => ⟨S65536x256, .f32⟩
  | .hbm, ⟨30, _⟩ => ⟨S65536x64, .f32⟩
  | .hbm, ⟨31, _⟩ => ⟨S65536x4, .f32⟩
  | .hbm, ⟨32, _⟩ => ⟨S65536x512, .bf16⟩
  | .hbm, ⟨33, _⟩ => ⟨S65536x128, .f32⟩
  | .hbm, ⟨34, _⟩ => ⟨S65536x128, .bf16⟩
  | .hbm, ⟨35, _⟩ => ⟨S65536x128, .f32⟩
  | .hbm, ⟨36, _⟩ => ⟨S65536x128, .bf16⟩
  | .hbm, ⟨37, _⟩ => ⟨S_, .f32⟩
  | .hbm, ⟨38, _⟩ => ⟨S65536x512, .f32⟩
  | .hbm, ⟨39, _⟩ => ⟨S65536x512, .f32⟩
  | .hbm, ⟨40, _⟩ => ⟨S256x256x512, .f32⟩
  | .hbm, ⟨41, _⟩ => ⟨S256x512x256, .f32⟩
  | .hbm, ⟨42, _⟩ => ⟨S256x512x256, .bf16⟩
  | .hbm, ⟨43, _⟩ => ⟨S_, .f32⟩
  | .hbm, ⟨44, _⟩ => ⟨S65536x512, .f32⟩
  | .hbm, ⟨45, _⟩ => ⟨S65536x512, .f32⟩
  | .hbm, ⟨46, _⟩ => ⟨S256x256x512, .f32⟩
  | .hbm, ⟨47, _⟩ => ⟨S256x512x256, .f32⟩
  | .hbm, ⟨48, _⟩ => ⟨S256x512x256, .bf16⟩
  | .hbm, ⟨49, _⟩ => ⟨S256x256x256, .f32⟩
  | .hbm, ⟨50, _⟩ => ⟨S256x256x256, .f32⟩
  | .hbm, ⟨51, _⟩ => ⟨S256x256x256, .bf16⟩
  | .hbm, ⟨52, _⟩ => ⟨S256x256x512, .f32⟩
  | .hbm, ⟨53, _⟩ => ⟨S256x512x256, .f32⟩
  | .hbm, ⟨54, _⟩ => ⟨S256x512x256, .bf16⟩
  | .hbm, ⟨55, _⟩ => ⟨S256x256x64, .f32⟩
  | .hbm, ⟨56, _⟩ => ⟨S256x64x256, .f32⟩
  | .hbm, ⟨57, _⟩ => ⟨S256x64x256, .bf16⟩
  | .hbm, ⟨58, _⟩ => ⟨S_, .f32⟩
  | .hbm, ⟨59, _⟩ => ⟨S65536x4, .f32⟩
  | .hbm, ⟨60, _⟩ => ⟨S65536x4, .f32⟩
  | .hbm, ⟨61, _⟩ => ⟨S_, .i32⟩
  | .hbm, ⟨62, _⟩ => ⟨S_, .f32⟩
  | .hbm, ⟨63, _⟩ => ⟨S65536x16, .f32⟩
  | .hbm, ⟨64, _⟩ => ⟨S16x65536, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_2 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_3 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_cst_4 : Ref sig .tc := ⟨.hbm, 58, rfl⟩
abbrev main_v50 : Ref sig .tc := ⟨.hbm, 59, rfl⟩
abbrev main_v51 : Ref sig .tc := ⟨.hbm, 60, rfl⟩
abbrev main_c : Ref sig .tc := ⟨.hbm, 61, rfl⟩
abbrev main_call0_v0 : Ref sig .tc := ⟨.hbm, 62, rfl⟩
abbrev main_v52 : Ref sig .tc := ⟨.hbm, 63, rfl⟩
abbrev main_v53 : Ref sig .tc := ⟨.hbm, 64, rfl⟩

abbrev nD : Nat := 1
abbrev τ : Topo := Topo.v7x

variable {F : FTy → Type} [FloatOps F]
-- ==== Proof.Plan.lean ====
module

public import Idealize.ShloMosaic.Lib.Pipeline.FrameBody

@[expose] public section

/-! # The copies of zero rows the dispatch starts, in order

The dispatch keeps `131072` slots for the assignments of the tokens and writes zeros into every other slot of its
`147456`. The slots left over are, for each of the `32` experts, the `left` last ones before the expert's end, and
the blocks of `512` past the last used block. Per expert they go out in up to six pieces of 256, 128, …, 8 rows (the
bits of `left`) counted back from the end, and up to seven single rows counted from the start; then the whole blocks
follow. This module lists the pieces on natural numbers, and proves that they are pairwise disjoint and fill exactly
the slots left over. -/

namespace Cert.KernelIdeal.Hand

/-- A list of row ranges `(first, count)` is laid out on the set `S`: the ranges are disjoint and fill `S`. -/
structure Tiles (L : List (ℕ × ℕ)) (S : ℕ → Prop) : Prop where
  apart : L.Pairwise fun p q => ∀ x, ¬ ((p.1 ≤ x ∧ x < p.1 + p.2) ∧ (q.1 ≤ x ∧ x < q.1 + q.2))
  fills : ∀ x, S x ↔ ∃ p ∈ L, p.1 ≤ x ∧ x < p.1 + p.2

theorem Tiles.nil {S : ℕ → Prop} (h : ∀ x, ¬ S x) : Tiles [] S :=
  ⟨List.Pairwise.nil, fun x => by simp [h x]⟩

theorem Tiles.one {S : ℕ → Prop} (r k : ℕ) (h : ∀ x, S x ↔ r ≤ x ∧ x < r + k) : Tiles [(r, k)] S :=
  ⟨by simp, fun x => by simp [h x]⟩

theorem Tiles.append {L L' : List (ℕ × ℕ)} {S S' S'' : ℕ → Prop} (h : Tiles L S) (h' : Tiles L' S')
    (hd : ∀ x, ¬ (S x ∧ S' x)) (hu : ∀ x, S'' x ↔ S x ∨ S' x) : Tiles (L ++ L') S'' := by
  refine ⟨List.pairwise_append.2 ⟨h.apart, h'.apart, fun p hp q hq x hx => hd x ⟨?_, ?_⟩⟩, fun x => ?_⟩
  · exact (h.fills x).2 ⟨p, hp, hx.1⟩
  · exact (h'.fills x).2 ⟨q, hq, hx.2⟩
  · rw [hu, h.fills, h'.fills]; simp only [List.mem_append, or_and_right, exists_or]

theorem Tiles.congr {L : List (ℕ × ℕ)} {S S' : ℕ → Prop} (h : Tiles L S) (hS : ∀ x, S' x ↔ S x) : Tiles L S' :=
  ⟨h.apart, fun x => (hS x).trans (h.fills x)⟩

/-- The pieces of `256`, `128`, … rows, the first `b` of them: each selected by a bit of `l`, counted back from `en`. -/
def bitPart (l en : ℕ) : ℕ → List (ℕ × ℕ)
  | 0 => []
  | b + 1 => bitPart l en b ++ if l / 2 ^ (8 - b) % 2 = 1 then [(en - l / 2 ^ (8 - b) * 2 ^ (8 - b), 2 ^ (8 - b))] else []

/-- The single rows, the first `k` of them. -/
def rowPart (s l : ℕ) : ℕ → List (ℕ × ℕ)
  | 0 => []
  | k + 1 => rowPart s l k ++ if k < l % 8 then [(s + k, 1)] else []

theorem bitPart_tiles (l en : ℕ) (hl : l < 512) (he : l ≤ en) : ∀ b, b ≤ 6 →
    Tiles (bitPart l en b) fun x => en - l / 2 ^ (9 - b) * 2 ^ (9 - b) ≤ x ∧ x < en
  | 0, _ => Tiles.nil fun x => by
      have : l / 2 ^ 9 = 0 := Nat.div_eq_of_lt hl
      simp only [Nat.sub_zero, this]; omega
  | b + 1, hb => by
      have ih := bitPart_tiles l en hl he b (by omega)
      rw [bitPart]
      have e9 : 2 ^ (9 - b) = 2 * 2 ^ (8 - b) := by
        rw [show 9 - b = (8 - b) + 1 by omega, pow_succ, Nat.mul_comm]
      have e8 : 9 - (b + 1) = 8 - b := by omega
      rw [e9] at ih
      rw [e8]
      generalize hw : 2 ^ (8 - b) = w at *
      have hwpos : 0 < w := hw ▸ Nat.two_pow_pos _
      have hdm := Nat.div_add_mod l w
      have h2 : l / (2 * w) = l / w / 2 := by rw [Nat.mul_comm, Nat.div_div_eq_div_mul]
      rw [h2] at ih
      generalize l / w = k at *
      have hk : k * w ≤ l := by rw [Nat.mul_comm]; omega
      have hk2 : k / 2 * (2 * w) + k % 2 * w = k * w := by
        have := Nat.div_add_mod k 2
        calc k / 2 * (2 * w) + k % 2 * w = (2 * (k / 2) + k % 2) * w := by
              rw [Nat.add_mul, Nat.mul_left_comm, Nat.mul_assoc]
          _ = k * w := by rw [this]
      rcases Nat.mod_two_eq_zero_or_one k with h0 | h1
      · rw [if_neg (by omega), List.append_nil]
        rw [h0, Nat.zero_mul, Nat.add_zero] at hk2
        rw [← hk2]; exact ih
      · rw [if_pos h1]
        rw [h1, Nat.one_mul] at hk2
        generalize k / 2 * (2 * w) = A at *
        generalize k * w = B at *
        exact ih.append (Tiles.one (S := fun x => en - B ≤ x ∧ x < en - B + w) _ _ fun _ => Iff.rfl) (fun x => by omega) (fun x => by omega)

theorem rowPart_tiles (s l : ℕ) : ∀ k, Tiles (rowPart s l k) fun x => s ≤ x ∧ x < s + min k (l % 8)
  | 0 => Tiles.nil fun x => by omega
  | k + 1 => by
      have ih := rowPart_tiles s l k
      rw [rowPart]
      by_cases h : k < l % 8
      · rw [if_pos h]
        exact ih.append (Tiles.one (S := fun x => s + k ≤ x ∧ x < s + k + 1) _ _ fun _ => Iff.rfl) (fun x => by omega) (fun x => by omega)
      · rw [if_neg h, List.append_nil]; exact ih.congr fun x => by omega

/-- What the zero copies are made from: each expert's first slot left over, their number, its end, and the used blocks. -/
structure Fill where
  start : ℕ → ℕ
  left : ℕ → ℕ
  stop : ℕ → ℕ
  used : ℕ
  start_le : ∀ e < 32, start e ≤ stop e
  stop_le : ∀ e < 32, stop e ≤ 147456
  left_lt : ∀ e < 32, left e < 512
  left_eq : ∀ e < 32, stop e = start e + left e
  stop_dvd : ∀ e < 32, 512 ∣ stop e
  chain : ∀ e, e + 1 < 32 → stop e ≤ start (e + 1)
  used_le : used ≤ 288
  stop_used : stop 31 ≤ 512 * used

namespace Fill
variable (P : Fill)

/-- The pieces of expert `e`. -/
def ofExpert (e : ℕ) : List (ℕ × ℕ) := bitPart (P.left e) (P.stop e) 6 ++ rowPart (P.start e) (P.left e) 7
/-- The pieces of the first `e` experts. -/
def ofExperts : ℕ → List (ℕ × ℕ)
  | 0 => []
  | e + 1 => ofExperts e ++ P.ofExpert e
/-- The first `n` whole blocks. -/
def ofBlocks : ℕ → List (ℕ × ℕ)
  | 0 => []
  | n + 1 => ofBlocks n ++ [((P.used + n) * 512, 512)]
/-- All the pieces. -/
def all : List (ℕ × ℕ) := P.ofExperts 32 ++ P.ofBlocks (288 - P.used)

/-- The slots left over. -/
def Pad (x : ℕ) : Prop := (∃ e < 32, P.start e ≤ x ∧ x < P.stop e) ∨ (512 * P.used ≤ x ∧ x < 147456)

theorem ofExpert_tiles (e : ℕ) (he : e < 32) : Tiles (P.ofExpert e) fun x => P.start e ≤ x ∧ x < P.stop e := by
  have h1 := P.left_lt e he
  have h2 := P.left_eq e he
  have h3 := Nat.div_add_mod (P.left e) 8
  refine (bitPart_tiles (P.left e) (P.stop e) h1 (by omega) 6 le_rfl).append (rowPart_tiles (P.start e) (P.left e) 7) ?_ ?_
  · intro x; simp only [show 2 ^ (9 - 6) = 8 from rfl]; omega
  · intro x; simp only [show 2 ^ (9 - 6) = 8 from rfl]; omega

theorem stop_le_start {e e' : ℕ} (h : e < e') (h' : e' < 32) : P.stop e ≤ P.start e' := by
  induction e' with
  | zero => omega
  | succ e' ih =>
    have hc := P.chain e' h'
    rcases Nat.lt_succ_iff_lt_or_eq.1 h with h | rfl
    · exact (ih h (by omega)).trans ((P.start_le e' (by omega)).trans hc)
    · exact hc

theorem ofExperts_tiles : ∀ n, n ≤ 32 → Tiles (P.ofExperts n) fun x => ∃ e < n, P.start e ≤ x ∧ x < P.stop e
  | 0, _ => Tiles.nil fun x => by simp
  | n + 1, hn => by
      refine (ofExperts_tiles n (by omega)).append (P.ofExpert_tiles n (by omega)) ?_ ?_
      · rintro x ⟨⟨e, he, h⟩, h'⟩
        have := P.stop_le_start he (by omega)
        omega
      · intro x
        constructor
        · rintro ⟨e, he, h⟩
          rcases Nat.lt_succ_iff_lt_or_eq.1 he with he | rfl
          · exact .inl ⟨e, he, h⟩
          · exact .inr h
        · rintro (⟨e, he, h⟩ | h)
          · exact ⟨e, by omega, h⟩
          · exact ⟨n, by omega, h⟩

theorem ofBlocks_tiles : ∀ n, Tiles (P.ofBlocks n) fun x => 512 * P.used ≤ x ∧ x < 512 * (P.used + n)
  | 0 => Tiles.nil fun x => by omega
  | n + 1 => (ofBlocks_tiles n).append
      (Tiles.one (S := fun x => (P.used + n) * 512 ≤ x ∧ x < (P.used + n) * 512 + 512) _ _ fun _ => Iff.rfl)
      (fun x => by omega) (fun x => by omega)

theorem all_tiles : Tiles P.all P.Pad := by
  have h := P.used_le
  refine (P.ofExperts_tiles 32 le_rfl).append (P.ofBlocks_tiles (288 - P.used)) ?_ ?_
  · rintro x ⟨⟨e, he, hx⟩, h'⟩
    have h31 : P.stop e ≤ P.stop 31 := by
      rcases Nat.lt_or_ge e 31 with h | h
      · exact (P.stop_le_start h (by omega)).trans (P.start_le 31 (by omega))
      · have : e = 31 := by omega
        subst this; exact le_rfl
    have := P.stop_used
    omega
  · intro x
    rw [Pad, show 512 * (P.used + (288 - P.used)) = 147456 by omega]

/-! ## Where a piece stands in the list -/

theorem ofExperts_prefix {e n : ℕ} (h : e ≤ n) : P.ofExperts e <+: P.ofExperts n := by
  induction n with
  | zero => rw [Nat.le_zero.1 h]
  | succ n ih =>
    rcases Nat.lt_or_ge n e with h' | h'
    · rw [show e = n + 1 by omega]
    · exact (ih h').trans ⟨_, rfl⟩

theorem bitPart_prefix (l en : ℕ) {b c : ℕ} (h : b ≤ c) : bitPart l en b <+: bitPart l en c := by
  induction c with
  | zero => rw [Nat.le_zero.1 h]
  | succ n ih =>
    rcases Nat.lt_or_ge n b with h' | h'
    · rw [show b = n + 1 by omega]
    · exact (ih h').trans ⟨_, rfl⟩

theorem rowPart_prefix (l en : ℕ) {b c : ℕ} (h : b ≤ c) : rowPart l en b <+: rowPart l en c := by
  induction c with
  | zero => rw [Nat.le_zero.1 h]
  | succ n ih =>
    rcases Nat.lt_or_ge n b with h' | h'
    · rw [show b = n + 1 by omega]
    · exact (ih h').trans ⟨_, rfl⟩

theorem ofBlocks_prefix {b c : ℕ} (h : b ≤ c) : P.ofBlocks b <+: P.ofBlocks c := by
  induction c with
  | zero => rw [Nat.le_zero.1 h]
  | succ n ih =>
    rcases Nat.lt_or_ge n b with h' | h'
    · rw [show b = n + 1 by omega]
    · exact (ih h').trans ⟨_, rfl⟩

/-- The pieces issued after `b` of expert `e`'s thirteen conditional copies. -/
def upTo (e b : ℕ) : List (ℕ × ℕ) :=
  P.ofExperts e ++ (bitPart (P.left e) (P.stop e) (min b 6) ++ rowPart (P.start e) (P.left e) (b - 6))

theorem upTo_zero (e : ℕ) : P.upTo e 0 = P.ofExperts e := by simp [upTo, bitPart, rowPart]
theorem upTo_end (e : ℕ) : P.upTo e 13 = P.ofExperts (e + 1) := by simp [upTo, ofExperts, ofExpert]

theorem upTo_bit (e b : ℕ) (hb : b < 6) : P.upTo e (b + 1) = P.upTo e b ++
    if P.left e / 2 ^ (8 - b) % 2 = 1 then [(P.stop e - P.left e / 2 ^ (8 - b) * 2 ^ (8 - b), 2 ^ (8 - b))] else [] := by
  unfold upTo
  rw [show min (b + 1) 6 = b + 1 by omega, show min b 6 = b by omega, show b + 1 - 6 = 0 by omega,
    show b - 6 = 0 by omega, bitPart]
  simp only [rowPart, List.append_nil, List.append_assoc]

theorem upTo_row (e k : ℕ) : P.upTo e (6 + k + 1) = P.upTo e (6 + k) ++
    if k < P.left e % 8 then [(P.start e + k, 1)] else [] := by
  unfold upTo
  rw [show min (6 + k + 1) 6 = 6 by omega, show min (6 + k) 6 = 6 by omega, show 6 + k + 1 - 6 = k + 1 by omega,
    show 6 + k - 6 = k by omega, rowPart]
  simp only [List.append_assoc]

theorem upTo_prefix {e b : ℕ} (he : e < 32) (hb : b ≤ 13) : P.upTo e b <+: P.all := by
  refine List.IsPrefix.trans ?_ ((P.ofExperts_prefix (show e + 1 ≤ 32 by omega)).trans ⟨_, rfl⟩)
  rw [upTo, ofExperts, ofExpert, List.prefix_append_right_inj]
  rcases Nat.lt_or_ge 6 b with h | h
  · rw [show min b 6 = 6 by omega, List.prefix_append_right_inj]
    exact rowPart_prefix _ _ (by omega)
  · rw [show min b 6 = b by omega, show b - 6 = 0 by omega, rowPart, List.append_nil]
    exact (bitPart_prefix _ _ h).trans ⟨_, rfl⟩

theorem blocks_prefix {n : ℕ} (hn : n ≤ 288 - P.used) : P.ofExperts 32 ++ P.ofBlocks n <+: P.all := by
  rw [all, List.prefix_append_right_inj]
  exact P.ofBlocks_prefix hn

theorem bitPart_pos (l en : ℕ) : ∀ b, ∀ p ∈ bitPart l en b, 0 < p.2
  | 0 => fun p hp => by simp [bitPart] at hp
  | b + 1 => fun p hp => by
      rw [bitPart, List.mem_append] at hp
      rcases hp with hp | hp
      · exact bitPart_pos l en b p hp
      · split at hp
        · rw [List.mem_singleton] at hp; subst hp; exact Nat.two_pow_pos _
        · simp at hp

theorem rowPart_pos (s l : ℕ) : ∀ k, ∀ p ∈ rowPart s l k, 0 < p.2
  | 0 => fun p hp => by simp [rowPart] at hp
  | k + 1 => fun p hp => by
      rw [rowPart, List.mem_append] at hp
      rcases hp with hp | hp
      · exact rowPart_pos s l k p hp
      · split at hp
        · rw [List.mem_singleton] at hp; subst hp; exact Nat.one_pos
        · simp at hp

theorem ofExperts_pos : ∀ e, ∀ p ∈ P.ofExperts e, 0 < p.2
  | 0 => fun p hp => by simp [ofExperts] at hp
  | e + 1 => fun p hp => by
      rw [ofExperts, ofExpert, List.mem_append, List.mem_append] at hp
      rcases hp with hp | hp | hp
      · exact ofExperts_pos e p hp
      · exact bitPart_pos _ _ _ p hp
      · exact rowPart_pos _ _ _ p hp

theorem ofBlocks_pos : ∀ n, ∀ p ∈ P.ofBlocks n, 0 < p.2
  | 0 => fun p hp => by simp [ofBlocks] at hp
  | n + 1 => fun p hp => by
      rw [ofBlocks, List.mem_append, List.mem_singleton] at hp
      rcases hp with hp | hp
      · exact ofBlocks_pos n p hp
      · subst hp; exact Nat.succ_pos _

/-- No piece is empty. -/
theorem all_pos : ∀ p ∈ P.all, 0 < p.2 := fun p hp =>
  (List.mem_append.1 hp).elim (P.ofExperts_pos 32 p) (P.ofBlocks_pos _ p)

/-- The piece after a prefix of the list. -/
theorem get_of_prefix {L L' : List (ℕ × ℕ)} {p : ℕ × ℕ} (h : L' ++ [p] <+: L) :
    ∃ hk : L'.length < L.length, L[L'.length] = p := by
  obtain ⟨t, rfl⟩ := h
  exact ⟨by simp, by simp⟩

end Fill

end Cert.KernelIdeal.Hand

end
-- ==== Proof.Rows.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Plan
public import Idealize.ShloMosaic.Lib.Pipeline.FrameBody
public import Idealize.ShloMosaic.Lib.Pipeline.FrameValue
public import Idealize.ShloMosaic.Lib.MixedBatch
public import Idealize.ShloMosaic.Lib.Ring
public import Idealize.ShloMosaic.Lib.Tactic
public import Idealize.ShloMosaic.Lib.WordCmp

@[expose] public section

/-! # Rows of the arrays, and the copies between them

The result array and the zero scratch are held by rows: a set of row numbers gives the elements in those rows. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The ghost counters' embedding. -/
abbrev EC : UEmb Counters 𝕄 := countersEmb (U := Pipeline.UD sig nD τ)

/-- The result array and the zero scratch, on device `c`. -/
abbrev outLoc (c : Dev nD) : Loc nD τ sig := (c : Thread nD τ).loc main_v0
abbrev zbufLoc (c : Dev nD) : Loc nD τ sig := (c : Thread nD τ).loc cc0_scratch0

/-- The elements of an `N × 1024` array whose row satisfies `S`. -/
def rowsOf {N : ℕ} (S : ℕ → Prop) : Finset (⟨2, ![N, 1024]⟩ : Shape).Idx :=
  by classical exact Finset.univ.filter fun x => S (x 0).val

theorem mem_rowsOf {N : ℕ} {S : ℕ → Prop} {x : (⟨2, ![N, 1024]⟩ : Shape).Idx} : x ∈ rowsOf S ↔ S (x 0).val := by
  unfold rowsOf; simp

theorem rowsOf_disjoint {N : ℕ} {S S' : ℕ → Prop} (h : ∀ x, ¬ (S x ∧ S' x)) :
    Disjoint (rowsOf (N := N) S) (rowsOf S') :=
  Finset.disjoint_left.2 fun x hx hx' => h _ ⟨mem_rowsOf.1 hx, mem_rowsOf.1 hx'⟩

/-- Rows `r` to `r + n`. -/
abbrev rowsAt {N : ℕ} (r n : ℕ) : Finset (⟨2, ![N, 1024]⟩ : Shape).Idx := rowsOf fun x => r ≤ x ∧ x < r + n

theorem set_rows {N n r : ℕ} {off : Fin 2 → ℕ} (hoff : off = ![r, 0]) (inb) :
    (Rect.unit (s := ⟨2, ![N, 1024]⟩) off ![n, 1024] inb).set = rowsAt r n := by
  subst hoff
  ext x
  rw [Rect.mem_set_unit, mem_rowsOf, Fin.forall_fin_two]
  have h1 : (x 1 : ℕ) < 1024 := (x 1).isLt
  simp only [Matrix.cons_val_zero, Matrix.cons_val_one]
  omega

/-- What a transfer of `n` rows into the result array credits. -/
def credit (n : ℕ) : ℕ := sig.dmaCredit .tc (Kind.tc.table .hbm) 3 ⟨2, ![n, 1024]⟩ .f32

theorem credit_pos {n : ℕ} (h : 0 < n) : 0 < credit n := by
  refine sig.dmaCredit_pos _ _ _ _ _ ?_
  rw [Shape.numel, Fin.prod_univ_two]
  exact Nat.mul_pos h (show 0 < 1024 by omega)

/-- The next of the pieces not yet taken. -/
theorem pending_take {n k : ℕ} (hk : k < n) {D : Fin n → sProp 𝕄} :
    bigSep (Transfers.pending k) D ⊢ iprop(D ⟨k, hk⟩ ∗ bigSep (Transfers.pending (k + 1)) D) :=
  Entails.of_eq (by rw [Transfers.pending_succ hk, bigSep_insert (Transfers.not_mem_pending_succ hk)]; rfl)

/-! ## The zero copies -/

section Zero

variable (c : Dev nD) (L : List (ℕ × ℕ)) (f₀ G : Buf (Elt F) (outLoc c)) (z : Buf (Elt F) (zbufLoc c))

/-- What the `t`-th zero copy is issued with: its rows of the result, and a reading share of the scratch's. -/
def zPiece (t : Fin L.length) : sProp 𝕄 :=
  iprop((outLoc c ↦[rowsAt (N := 147456) L[t].1 L[t].2]{fullShare} f₀)
    ∗ (zbufLoc c ↦[rowsAt (N := 512) 0 L[t].2]{Transfers.shareTokN fullShare t.val} z))
/-- What it delivers: the same rows at their final contents. -/
def zDone (t : Fin L.length) : sProp 𝕄 :=
  iprop((outLoc c ↦[rowsAt (N := 147456) L[t].1 L[t].2]{fullShare} G)
    ∗ (zbufLoc c ↦[rowsAt (N := 512) 0 L[t].2]{Transfers.shareTokN fullShare t.val} z))
instance (t : Fin L.length) : Storable (upEmb : UEmb _ 𝕄) (zDone c L G z t) := by unfold zDone; infer_instance
def zAmt (t : Fin L.length) : ℕ := credit L[t].2

/-- `k` of the zero copies issued. -/
def zState (k : ℕ) : sProp 𝕄 :=
  iprop(bigSep (Transfers.pending k) (zPiece c L f₀ z) ∗ Transfers.MixedBatch EC (c : Thread nD τ) (SemLoc.dma 6) () (zAmt L) (zDone c L G z) k 0)

variable {c L f₀ G z}

theorem issue_zero {k r n : ℕ} (hk : ∃ h : k < L.length, L[k] = (r, n))
    (hG : ∀ (x : (⟨2, ![147456, 1024]⟩ : Shape).Idx) (y), x ∈ rowsAt (N := 147456) r n → G x = z y)
    {off : Fin 2 → ℕ} (hoff : off = ![r, 0]) {i5 i5' i4 i4' h1 h2 h3} :
    zState c L f₀ G z k ⊢ wp (frame) (wpE (defs₀ (F := F)) Variants.none (c : Thread nD τ) none) Set.univ
      (Prog.lift (TpuEff.enqueueDma ((Memref.whole cc0_scratch0).slice (Rect.unit ![0, 0] ![n, 1024] i5) i5')
        (DmaTarget.here ((Memref.whole main_v0).slice (Rect.unit off ![n, 1024] i4) i4'))
        (SemLoc.dma (SemArray.sem cc0_scratch2)) h1 h2 h3)) fun _ => zState c L f₀ G z (k + 1) := by
  obtain ⟨hk, hL⟩ := hk
  unfold zState
  iintro ⟨HP, HB⟩
  ihave HP := (pending_take hk) $$ HP
  icases HP with ⟨HP, HR⟩
  ihave HP := (show zPiece c L f₀ z ⟨k, hk⟩ ⊢ _ from Entails.of_eq (by unfold zPiece; rfl)) $$ HP
  icases HP with ⟨H4, H5⟩
  have e4 : ((Memref.whole main_v0).slice (Rect.unit off ![n, 1024] i4) i4').view.set = rowsAt (N := 147456) r n := by
    refine (View.set_slice _ _).trans ?_
    rw [set_rows hoff]; exact Finset.map_refl
  have e5 : ((Memref.whole cc0_scratch0).slice (Rect.unit ![0, 0] ![n, 1024] i5) i5').view.set = rowsAt (N := 512) 0 n := by
    refine (View.set_slice _ _).trans ?_
    rw [set_rows rfl]; exact Finset.map_refl
  have hL1 : L[(⟨k, hk⟩ : Fin L.length)] = (r, n) := hL
  rw [hL1]
  iapply (Transfers.wp_dmaMixedBatch (EC (F := F)) Variants.none (c : Thread nD τ) none () (zAmt L)
    (src := (Memref.whole cc0_scratch0).slice (Rect.unit ![0, 0] ![n, 1024] i5) i5') (via := .same)
    (dst := (Memref.whole main_v0).slice (Rect.unit off ![n, 1024] i4) i4') (sm := SemLoc.dma 6)
    (Sd := rowsAt (N := 147456) r n) (q := Transfers.shareTokN fullShare k) (fs := z) (fd := f₀) (u := 0) (j := k)
    (D := zDone c L G z) e4.subset hk ?_ (Nat.zero_le _) ?_) $$ [H4 H5 HB]
  · unfold zAmt; rw [hL1]; rfl
  · unfold zDone
    rw [hL1]
    refine Laws.sep_mono (Entails.of_eq (pointsTo_congr fun x hx => ?_)) (Entails.of_eq ?_)
    · have hx' : x ∈ ((Memref.whole main_v0).slice (Rect.unit off ![n, 1024] i4) i4').view.set := e4 ▸ hx
      obtain ⟨y, -, rfl⟩ := Finset.mem_map.1 hx'
      rw [View.write_emb_of_mem _ _ (Finset.mem_univ y)]
      exact (hG _ _ hx).symm
    · rw [e5]
  · rw [e5]
    isplitl [H5]; · iexact H5
    isplitl [H4]; · iexact H4
    iexact HB
  iintro HB
  rw [wp_ret]
  imodintro
  isplitl [HR]; · iexact HR
  iexact HB

end Zero

end Cert.KernelIdeal.Hand

end

end
-- ==== Proof.Words.lean ====
module

public import proofs.«01_k».proof.Proof.Gen.KernelIdeal.Skeleton
public import proofs.«01_k».proof.Proof.Plan

@[expose] public section

/-! # The kernel's words as numbers

The offsets, conditions and trip counts the kernel computes on 32-bit words, read as natural numbers. -/

namespace Cert.KernelIdeal.Hand

open Cert.KernelIdeal
open Idealize.ShloMosaic

theorem ofNat_toNat (v : BitVec 32) : v = BitVec.ofNat 32 v.toNat := by simp

/-- A statement on words below `n` decided on their numbers. -/
theorem word_cases {p : BitVec 32 → Prop} {n : ℕ} (h : ∀ k < n, p (BitVec.ofNat 32 k)) {v : BitVec 32} (hv : v.toNat < n) : p v := by
  rw [ofNat_toNat v]; exact h _ hv

/-! ## The conditions -/

theorem cond_bits : ∀ k < 512,
    (k0_cond2 (BitVec.ofNat 32 k) = 1#1 ↔ k / 2 ^ 8 % 2 = 1) ∧ (k0_cond3 (BitVec.ofNat 32 k) = 1#1 ↔ k / 2 ^ 7 % 2 = 1)
    ∧ (k0_cond4 (BitVec.ofNat 32 k) = 1#1 ↔ k / 2 ^ 6 % 2 = 1) ∧ (k0_cond5 (BitVec.ofNat 32 k) = 1#1 ↔ k / 2 ^ 5 % 2 = 1)
    ∧ (k0_cond6 (BitVec.ofNat 32 k) = 1#1 ↔ k / 2 ^ 4 % 2 = 1) ∧ (k0_cond7 (BitVec.ofNat 32 k) = 1#1 ↔ k / 2 ^ 3 % 2 = 1) := by
  decide +kernel

theorem cond_rows : ∀ k < 512,
    (k0_cond8 (BitVec.ofNat 32 k) = 1#1 ↔ 0 < k % 8) ∧ (k0_cond9 (BitVec.ofNat 32 k) = 1#1 ↔ 1 < k % 8)
    ∧ (k0_cond10 (BitVec.ofNat 32 k) = 1#1 ↔ 2 < k % 8) ∧ (k0_cond11 (BitVec.ofNat 32 k) = 1#1 ↔ 3 < k % 8)
    ∧ (k0_cond12 (BitVec.ofNat 32 k) = 1#1 ↔ 4 < k % 8) ∧ (k0_cond13 (BitVec.ofNat 32 k) = 1#1 ↔ 5 < k % 8)
    ∧ (k0_cond14 (BitVec.ofNat 32 k) = 1#1 ↔ 6 < k % 8) := by
  decide +kernel

/-! ## The offsets of the pieces -/

/-- `cur` less `w` if `l` has the bit `w`. -/
def takeBit (w cur l : BitVec 32) : BitVec 32 :=
  Scalar.subi cur (Scalar.select (Scalar.cmpi .ne (Scalar.andi l w) 0#32) w 0#32)

theorem bit_select : ∀ k < 512, ∀ b < 6,
    (Scalar.select (Scalar.cmpi .ne (Scalar.andi (BitVec.ofNat 32 k) (BitVec.ofNat 32 (2 ^ (8 - b)))) 0#32) (BitVec.ofNat 32 (2 ^ (8 - b))) 0#32).toNat
      = k / 2 ^ (8 - b) % 2 * 2 ^ (8 - b) := by
  decide +kernel

theorem takeBit_toNat {cur l : BitVec 32} (hl : l.toNat < 512) {b en : ℕ} (hb : b < 6) (hen : l.toNat ≤ en)
    (hc : cur.toNat = en - l.toNat / 2 ^ (9 - b) * 2 ^ (9 - b)) :
    (takeBit (BitVec.ofNat 32 (2 ^ (8 - b))) cur l).toNat = en - l.toNat / 2 ^ (8 - b) * 2 ^ (8 - b) := by
  have hs := bit_select l.toNat hl b hb
  rw [← ofNat_toNat] at hs
  have e9 : 2 ^ (9 - b) = 2 * 2 ^ (8 - b) := by
    rw [show 9 - b = (8 - b) + 1 by omega, pow_succ, Nat.mul_comm]
  rw [e9, Nat.mul_comm 2, ← Nat.div_div_eq_div_mul] at hc
  have hmul : l.toNat / 2 ^ (8 - b) * 2 ^ (8 - b) ≤ l.toNat := Nat.div_mul_le_self _ _
  unfold takeBit Scalar.subi
  generalize Scalar.select _ _ _ = s at *
  generalize l.toNat / 2 ^ (8 - b) = k at *
  generalize BitVec.ofNat 32 (2 ^ (8 - b)) = w at *
  generalize 2 ^ (8 - b) = p at *
  have hk : k / 2 * (p * 2) + k % 2 * p = k * p := by
    have := Nat.div_add_mod k 2
    calc k / 2 * (p * 2) + k % 2 * p = (2 * (k / 2) + k % 2) * p := by
          rw [Nat.add_mul, Nat.mul_comm 2, Nat.mul_comm p, Nat.mul_assoc]
      _ = k * p := by rw [this]
  have hle : s.toNat ≤ cur.toNat := by rw [hs, hc]; omega
  show (cur - s).toNat = _
  rw [BitVec.toNat_sub_of_le hle, hs, hc]
  omega

/-- The six offsets, one after the other. -/
def bitOff (l en : BitVec 32) : ℕ → BitVec 32
  | 0 => en
  | b + 1 => takeBit (BitVec.ofNat 32 (2 ^ (8 - b))) (bitOff l en b) l

theorem bitOff_toNat {l en : BitVec 32} (hl : l.toNat < 512) (hen : l.toNat ≤ en.toNat) : ∀ b, b ≤ 6 →
    (bitOff l en b).toNat = en.toNat - l.toNat / 2 ^ (9 - b) * 2 ^ (9 - b)
  | 0, _ => by
      have : l.toNat / 2 ^ 9 = 0 := Nat.div_eq_of_lt hl
      simp only [bitOff, Nat.sub_zero, this]; omega
  | b + 1, hb => by
      rw [show 9 - (b + 1) = 8 - b by omega]
      exact takeBit_toNat hl (by omega) hen (bitOff_toNat hl hen b (by omega))

theorem off_bits (l en : BitVec 32) :
    k0_off4 l en = ![(bitOff l en 1).toNat, 0] ∧ k0_off5 l en = ![(bitOff l en 2).toNat, 0] ∧ k0_off6 l en = ![(bitOff l en 3).toNat, 0]
    ∧ k0_off7 l en = ![(bitOff l en 4).toNat, 0] ∧ k0_off8 l en = ![(bitOff l en 5).toNat, 0] ∧ k0_off9 l en = ![(bitOff l en 6).toNat, 0] :=
  ⟨rfl, rfl, rfl, rfl, rfl, rfl⟩

theorem mult_bits (l en : BitVec 32) :
    k0_mult1 l en = bitOff l en 1 ∧ k0_mult2 l en = bitOff l en 2 ∧ k0_mult3 l en = bitOff l en 3
    ∧ k0_mult4 l en = bitOff l en 4 ∧ k0_mult5 l en = bitOff l en 5 ∧ k0_mult6 l en = bitOff l en 6 :=
  ⟨rfl, rfl, rfl, rfl, rfl, rfl⟩

theorem off_row {v : BitVec 32} (k : ℕ) (hk : k < 8) (hv : v.toNat ≤ 147456) : (Scalar.addi v (BitVec.ofNat 32 k)).toNat = v.toNat + k := by
  show (v + BitVec.ofNat 32 k).toNat = _
  rw [BitVec.toNat_add, BitVec.toNat_ofNat]; omega

theorem off_rows {v : BitVec 32} (hv : v.toNat ≤ 147456) :
    k0_off10 v = ![v.toNat + 0, 0] ∧ k0_off11 v = ![v.toNat + 1, 0] ∧ k0_off12 v = ![v.toNat + 2, 0] ∧ k0_off13 v = ![v.toNat + 3, 0]
    ∧ k0_off14 v = ![v.toNat + 4, 0] ∧ k0_off15 v = ![v.toNat + 5, 0] ∧ k0_off16 v = ![v.toNat + 6, 0] := by
  refine ⟨?_, ?_, ?_, ?_, ?_, ?_, ?_⟩
  all_goals rw [← off_row _ (by omega) hv]; rfl

/-! ## The checks on one expert's words -/

theorem inb_rows {r n : ℕ} {off : Fin 2 → ℕ} (h : off = ![r, 0]) (hr : r + n ≤ 147456) :
    ∀ a, off a + (![n, 1024] : Fin 2 → ℕ) a ≤ S147456x1024.size a := by
  subst h
  exact Fin.forall_fin_two.2 ⟨hr, Nat.le_refl 1024⟩

/-- One expert's piece of `2 ^ (8 - b)` rows: its offset is a multiple of 8 and the rows are in range. -/
theorem bit_ok {l en : BitVec 32} (hl : l.toNat < 512) (hen : l.toNat ≤ en.toNat) (hle : en.toNat ≤ 147456) (hd : 512 ∣ en.toNat)
    {b : ℕ} (hb : b < 6) (hbit : l.toNat / 2 ^ (8 - b) % 2 = 1) :
    8 ∣ (bitOff l en (b + 1)).toNat ∧ (bitOff l en (b + 1)).toNat + 2 ^ (8 - b) ≤ 147456 := by
  rw [bitOff_toNat hl hen (b + 1) (by omega), show 9 - (b + 1) = 8 - b by omega]
  have hp : 8 ∣ 2 ^ (8 - b) := by
    rw [show 8 - b = 3 + (5 - b) by omega, pow_add]; exact Nat.dvd_mul_right _ _
  constructor
  · exact Nat.dvd_sub (Nat.dvd_trans (by decide) hd) (Nat.dvd_mul_left_of_dvd hp _)
  · have hmul : l.toNat / 2 ^ (8 - b) * 2 ^ (8 - b) ≤ l.toNat := Nat.div_mul_le_self _ _
    have h1 : 1 ≤ l.toNat / 2 ^ (8 - b) := by generalize l.toNat / 2 ^ (8 - b) = k at *; omega
    have h2 : 1 * 2 ^ (8 - b) ≤ l.toNat / 2 ^ (8 - b) * 2 ^ (8 - b) := Nat.mul_le_mul_right _ h1
    omega

theorem chk1_ok (i : grid0.Coords) {l en : BitVec 32} (hl : l.toNat < 512) (hen : l.toNat ≤ en.toNat) (hle : en.toNat ≤ 147456)
    (hd : 512 ∣ en.toNat) : k0_chk1 i l en := by
  have hc := word_cases (p := fun v => (k0_cond2 v = 1#1 ↔ v.toNat / 2 ^ 8 % 2 = 1) ∧ (k0_cond3 v = 1#1 ↔ v.toNat / 2 ^ 7 % 2 = 1)
    ∧ (k0_cond4 v = 1#1 ↔ v.toNat / 2 ^ 6 % 2 = 1) ∧ (k0_cond5 v = 1#1 ↔ v.toNat / 2 ^ 5 % 2 = 1)
    ∧ (k0_cond6 v = 1#1 ↔ v.toNat / 2 ^ 4 % 2 = 1) ∧ (k0_cond7 v = 1#1 ↔ v.toNat / 2 ^ 3 % 2 = 1)) (n := 512)
    (fun k hk => by
      have := cond_bits k hk
      rwa [BitVec.toNat_ofNat, Nat.mod_eq_of_lt (by omega : k < 2 ^ 32)]) hl
  obtain ⟨c0, c1, c2, c3, c4, c5⟩ := hc
  obtain ⟨o0, o1, o2, o3, o4, o5⟩ := off_bits l en
  have ok := fun {b} => bit_ok (b := b) hl hen hle hd
  exact ⟨fun _ h => (ok (b := 0) (by omega) (c0.1 h)).1, fun _ h => inb_rows o0 (ok (b := 0) (by omega) (c0.1 h)).2,
    fun _ h => (ok (b := 1) (by omega) (c1.1 h)).1, fun _ h => inb_rows o1 (ok (b := 1) (by omega) (c1.1 h)).2,
    fun _ h => (ok (b := 2) (by omega) (c2.1 h)).1, fun _ h => inb_rows o2 (ok (b := 2) (by omega) (c2.1 h)).2,
    fun _ h => (ok (b := 3) (by omega) (c3.1 h)).1, fun _ h => inb_rows o3 (ok (b := 3) (by omega) (c3.1 h)).2,
    fun _ h => (ok (b := 4) (by omega) (c4.1 h)).1, fun _ h => inb_rows o4 (ok (b := 4) (by omega) (c4.1 h)).2,
    fun _ h => (ok (b := 5) (by omega) (c5.1 h)).1, fun _ h => inb_rows o5 (ok (b := 5) (by omega) (c5.1 h)).2⟩

theorem rows_cond {l : BitVec 32} (hl : l.toNat < 512) :
    (k0_cond8 l = 1#1 ↔ 0 < l.toNat % 8) ∧ (k0_cond9 l = 1#1 ↔ 1 < l.toNat % 8)
    ∧ (k0_cond10 l = 1#1 ↔ 2 < l.toNat % 8) ∧ (k0_cond11 l = 1#1 ↔ 3 < l.toNat % 8)
    ∧ (k0_cond12 l = 1#1 ↔ 4 < l.toNat % 8) ∧ (k0_cond13 l = 1#1 ↔ 5 < l.toNat % 8)
    ∧ (k0_cond14 l = 1#1 ↔ 6 < l.toNat % 8) :=
  word_cases (p := fun l => (k0_cond8 l = 1#1 ↔ 0 < l.toNat % 8) ∧ (k0_cond9 l = 1#1 ↔ 1 < l.toNat % 8)
    ∧ (k0_cond10 l = 1#1 ↔ 2 < l.toNat % 8) ∧ (k0_cond11 l = 1#1 ↔ 3 < l.toNat % 8)
    ∧ (k0_cond12 l = 1#1 ↔ 4 < l.toNat % 8) ∧ (k0_cond13 l = 1#1 ↔ 5 < l.toNat % 8)
    ∧ (k0_cond14 l = 1#1 ↔ 6 < l.toNat % 8)) (n := 512)
    (fun k hk => by
      have := cond_rows k hk
      rwa [BitVec.toNat_ofNat, Nat.mod_eq_of_lt (by omega : k < 2 ^ 32)]) hl

theorem bits_cond {l : BitVec 32} (hl : l.toNat < 512) :
    (k0_cond2 l = 1#1 ↔ l.toNat / 2 ^ 8 % 2 = 1) ∧ (k0_cond3 l = 1#1 ↔ l.toNat / 2 ^ 7 % 2 = 1)
    ∧ (k0_cond4 l = 1#1 ↔ l.toNat / 2 ^ 6 % 2 = 1) ∧ (k0_cond5 l = 1#1 ↔ l.toNat / 2 ^ 5 % 2 = 1)
    ∧ (k0_cond6 l = 1#1 ↔ l.toNat / 2 ^ 4 % 2 = 1) ∧ (k0_cond7 l = 1#1 ↔ l.toNat / 2 ^ 3 % 2 = 1) :=
  word_cases (p := fun v => (k0_cond2 v = 1#1 ↔ v.toNat / 2 ^ 8 % 2 = 1) ∧ (k0_cond3 v = 1#1 ↔ v.toNat / 2 ^ 7 % 2 = 1)
    ∧ (k0_cond4 v = 1#1 ↔ v.toNat / 2 ^ 6 % 2 = 1) ∧ (k0_cond5 v = 1#1 ↔ v.toNat / 2 ^ 5 % 2 = 1)
    ∧ (k0_cond6 v = 1#1 ↔ v.toNat / 2 ^ 4 % 2 = 1) ∧ (k0_cond7 v = 1#1 ↔ v.toNat / 2 ^ 3 % 2 = 1)) (n := 512)
    (fun k hk => by
      have := cond_bits k hk
      rwa [BitVec.toNat_ofNat, Nat.mod_eq_of_lt (by omega : k < 2 ^ 32)]) hl

theorem chk2_ok (i : grid0.Coords) {s l : BitVec 32} (hl : l.toNat < 512) (hs : s.toNat + l.toNat ≤ 147456) : k0_chk2 i s l := by
  obtain ⟨c0, c1, c2, c3, c4, c5, c6⟩ := rows_cond hl
  obtain ⟨o0, o1, o2, o3, o4, o5, o6⟩ := off_rows (v := s) (by omega)
  exact ⟨fun _ h => inb_rows o0 (by have := c0.1 h; omega), fun _ h => inb_rows o1 (by have := c1.1 h; omega),
    fun _ h => inb_rows o2 (by have := c2.1 h; omega), fun _ h => inb_rows o3 (by have := c3.1 h; omega),
    fun _ h => inb_rows o4 (by have := c4.1 h; omega), fun _ h => inb_rows o5 (by have := c5.1 h; omega),
    fun _ h => inb_rows o6 (by have := c6.1 h; omega)⟩

/-! ## The whole blocks -/

theorem loops_ok : ∀ k < 289, ((k0_t2_loop (BitVec.ofNat 32 k)).OK ∧ (k0_t2_loop (BitVec.ofNat 32 k)).trips = k)
    ∧ (k0_t3_loop (BitVec.ofNat 32 k)).OK ∧ (k0_t3_loop (BitVec.ofNat 32 k)).trips = 0 := by
  decide +kernel

theorem loops_of {v : BitVec 32} (hv : v.toNat < 289) : ((k0_t2_loop v).OK ∧ (k0_t2_loop v).trips = v.toNat)
    ∧ (k0_t3_loop v).OK ∧ (k0_t3_loop v).trips = 0 :=
  word_cases (p := fun v => ((k0_t2_loop v).OK ∧ (k0_t2_loop v).trips = v.toNat) ∧ (k0_t3_loop v).OK ∧ (k0_t3_loop v).trips = 0) (n := 289)
    (fun k hk => by
      have := loops_ok k hk
      rwa [BitVec.toNat_ofNat, Nat.mod_eq_of_lt (by omega : k < 2 ^ 32)]) hv

theorem chk3_ok (i : grid0.Coords) {v : BitVec 32} (hv : v.toNat < 289) : k0_chk3 i v :=
  ⟨fun _ => (loops_of hv).1.1, fun _ => (loops_of hv).2.1⟩

theorem block_off {u : BitVec 32} {t : ℕ} (h : u.toNat + t < 288) :
    (Scalar.muli (Scalar.addi u (Scf.iv 0#32 1#32 t)) 512#32).toNat = (u.toNat + t) * 512 := by
  show ((u + (0#32 + BitVec.ofNat 32 t * 1#32)) * 512#32).toNat = _
  simp only [BitVec.toNat_mul, BitVec.toNat_add, BitVec.toNat_ofNat]
  omega

theorem off17_eq {v u : BitVec 32} {t : Fin (k0_t2_loop v).trips} (h : u.toNat + t.val < 288) :
    k0_off17 v t u = ![(u.toNat + t.val) * 512, 0] := by
  rw [← block_off h]; rfl

theorem chk4_ok (i : grid0.Coords) {v u : BitVec 32} {t : Fin (k0_t2_loop v).trips} (h : u.toNat + t.val < 288) : k0_chk4 i v t u :=
  ⟨fun _ => by
    rw [show (k0_mult7 v t u).toNat = (u.toNat + t.val) * 512 from block_off h]; exact Nat.dvd_mul_left _ _,
   fun _ => inb_rows (n := 512) (off17_eq h) (by omega)⟩

/-! ## The second half's conditions and offsets are the first half's -/

theorem chk22_ok (i : grid0.Coords) {l en : BitVec 32} (hl : l.toNat < 512) (hen : l.toNat ≤ en.toNat) (hle : en.toNat ≤ 147456)
    (hd : 512 ∣ en.toNat) : k0_chk22 i l en := by
  obtain ⟨c0, c1, c2, c3, c4, c5⟩ := bits_cond hl
  obtain ⟨o0, o1, o2, o3, o4, o5⟩ := off_bits l en
  have ok := fun {b} => bit_ok (b := b) hl hen hle hd
  exact ⟨fun _ h => (ok (b := 0) (by omega) (c0.1 h)).1, fun _ h => inb_rows o0 (ok (b := 0) (by omega) (c0.1 h)).2,
    fun _ h => (ok (b := 1) (by omega) (c1.1 h)).1, fun _ h => inb_rows o1 (ok (b := 1) (by omega) (c1.1 h)).2,
    fun _ h => (ok (b := 2) (by omega) (c2.1 h)).1, fun _ h => inb_rows o2 (ok (b := 2) (by omega) (c2.1 h)).2,
    fun _ h => (ok (b := 3) (by omega) (c3.1 h)).1, fun _ h => inb_rows o3 (ok (b := 3) (by omega) (c3.1 h)).2,
    fun _ h => (ok (b := 4) (by omega) (c4.1 h)).1, fun _ h => inb_rows o4 (ok (b := 4) (by omega) (c4.1 h)).2,
    fun _ h => (ok (b := 5) (by omega) (c5.1 h)).1, fun _ h => inb_rows o5 (ok (b := 5) (by omega) (c5.1 h)).2⟩

theorem chk23_ok (i : grid0.Coords) {s l : BitVec 32} (hl : l.toNat < 512) (hs : s.toNat + l.toNat ≤ 147456) : k0_chk23 i s l := by
  obtain ⟨c0, c1, c2, c3, c4, c5, c6⟩ := rows_cond hl
  obtain ⟨o0, o1, o2, o3, o4, o5, o6⟩ := off_rows (v := s) (by omega)
  exact ⟨fun _ h => inb_rows o0 (by have := c0.1 h; omega), fun _ h => inb_rows o1 (by have := c1.1 h; omega),
    fun _ h => inb_rows o2 (by have := c2.1 h; omega), fun _ h => inb_rows o3 (by have := c3.1 h; omega),
    fun _ h => inb_rows o4 (by have := c4.1 h; omega), fun _ h => inb_rows o5 (by have := c5.1 h; omega),
    fun _ h => inb_rows o6 (by have := c6.1 h; omega)⟩

theorem chk24_ok (i : grid0.Coords) {v : BitVec 32} (hv : v.toNat < 289) : k0_chk24 i v :=
  ⟨fun _ => (loops_of hv).1.1, fun _ => (loops_of hv).2.1⟩

theorem chk25_ok (i : grid0.Coords) {v u : BitVec 32} {t : Fin (k0_t7_loop v).trips} (h : u.toNat + t.val < 288) : k0_chk25 i v t u :=
  ⟨fun _ => by
    rw [show (k0_mult16 v t u).toNat = (u.toNat + t.val) * 512 from block_off h]; exact Nat.dvd_mul_left _ _,
   fun _ => inb_rows (n := 512) (show k0_off83 v t u = _ from off17_eq h) (by omega)⟩

/-! ## The offsets of the scalar reads -/

theorem iv_toNat {t : ℕ} (ht : t < 64) : (Scf.iv 0#32 1#32 t).toNat = t := by
  show (0#32 + BitVec.ofNat 32 t * 1#32).toNat = t
  simp only [BitVec.toNat_mul, BitVec.toNat_add, BitVec.toNat_ofNat]; omega

theorem off_fill (t : Fin k0_t1_loop.trips) : k0_off1 t = ![0, t.val] ∧ k0_off2 t = ![1, t.val] ∧ k0_off3 t = ![2, t.val] := by
  have ht : t.val < 32 := t.isLt
  have h := iv_toNat (t := t.val) (by omega)
  exact ⟨(congrArg (fun n => ![0, n]) h :), (congrArg (fun n => ![1, n]) h :), (congrArg (fun n => ![2, n]) h :)⟩

theorem dest_toNat {t : ℕ} (ht : t < 64) (b p : ℕ) (hb : b ≤ 512) (hp : p < 8) :
    (Scalar.addi (Scalar.addi (BitVec.ofNat 32 b) (Scalar.muli (Scf.iv 0#32 1#32 t) 8#32)) (BitVec.ofNat 32 p)).toNat = b + 8 * t + p := by
  have h := iv_toNat ht
  show (BitVec.ofNat 32 b + Scf.iv 0#32 1#32 t * 8#32 + BitVec.ofNat 32 p).toNat = _
  simp only [BitVec.toNat_mul, BitVec.toNat_add, BitVec.toNat_ofNat, h]; omega

theorem off_src (t : Fin k0_t4_loop.trips) : k0_off21 t = ![8 * t.val, 0] := by
  have ht : t.val < 64 := t.isLt
  have h : (Scalar.muli (Scf.iv 0#32 1#32 t.val) 8#32).toNat = 8 * t.val := by
    have h := iv_toNat ht
    show (Scf.iv 0#32 1#32 t.val * 8#32).toNat = _
    simp only [BitVec.toNat_mul, BitVec.toNat_ofNat, h]; omega
  exact (congrArg (fun n => ![n, 0]) h :)

/-- The row check of a destination word. -/
theorem dest_ok {v : BitVec 32} (h : v.toNat < 147456) : k0_chk6 v := inb_rows (n := 1) (r := v.toNat) rfl (by omega)

theorem cond_first (i : grid0.Coords) : k0_cond1 i = 1#1 ↔ (i 0).val = 0 := by
  have h : ∀ n : Fin 128, Scalar.cmpi .ne (Scalar.extui (Scalar.cmpi .eq (BitVec.ofNat 32 n.val) 0#32) : BitVec 32) 0#32 = 1#1 ↔ n.val = 0 := by decide +kernel
  exact h (i 0)

theorem cond_again (i : grid0.Coords) : k0_cond15 i = 1#1 ↔ (i 0).val = 0 := cond_first i

end Cert.KernelIdeal.Hand

end
-- ==== Proof.Steps.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Rows
public import proofs.«01_k».proof.Proof.Words
public import Idealize.ShloMosaic.Lib.Pipeline.FrameBody
public import Idealize.ShloMosaic.Lib.Pipeline.FrameValue
public import Idealize.ShloMosaic.Lib.MixedBatch
public import Idealize.ShloMosaic.Lib.Ring
public import Idealize.ShloMosaic.Lib.Tactic
public import Idealize.ShloMosaic.Lib.WordCmp
public import Idealize.ShloMosaic.Lib.ValueIdxCore

@[expose] public section

/-! # The kernel's steps as entailments

Each operation of the kernel takes what is held before it to what is held after; the lemmas here state that for the
scalar reads, the conditional copies, the copies of the tokens' rows and the waits. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## Sequencing -/

section Seq

variable {c : Dev nD} {α β : Type}

/-- Running a program of the kernel on device `c`. -/
abbrev run (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

theorem run_then {P P' : sProp 𝕄} {op : Prog (TpuEff nD τ sig (Elt F) Λ₀ .tc) α} {k : α → Prog (TpuEff nD τ sig (Elt F) Λ₀ .tc) β} {Q : β → sProp 𝕄}
    (h : P ⊢ run c op fun _ => P') (hk : ∀ a, P' ⊢ run c (k a) Q) : P ⊢ run c (op >>= k) Q := by
  unfold run; rw [wp_bind]
  exact h.trans (wp_mono _ _ _ hk)

theorem run_ret {c : Dev nD} {α : Type} {P : sProp 𝕄} (a : α) (Q : α → sProp 𝕄) (h : BIBase.Entails P (Q a)) :
    P ⊢ run c (Prog.ret a) Q :=
  h.trans (Entails.trans fupd_intro (Entails.of_eq (wp_ret ..).symm))

theorem run_bind {P : sProp 𝕄} {op : Prog (TpuEff nD τ sig (Elt F) Λ₀ .tc) α} {k : α → Prog (TpuEff nD τ sig (Elt F) Λ₀ .tc) β} {Q : β → sProp 𝕄}
    (h : P ⊢ run c op fun a => run c (k a) Q) : P ⊢ run c (op >>= k) Q := by
  unfold run; rw [wp_bind]
  exact h

theorem run_assume {P : sProp 𝕄} {C : Prop} {d : Decidable C} {k : PLift C → Prog (TpuEff nD τ sig (Elt F) Λ₀ .tc) β} {Q : β → sProp 𝕄}
    (hC : C) (h : P ⊢ run c (k ⟨hC⟩) Q) : P ⊢ run c (Prog.lift (TpuEff.assume C d) >>= k) Q :=
  h.trans (wp_assume _ _ _ _ hC)

/-- A conditional operation followed by the rest of the program. -/
theorem run_cond {P : sProp 𝕄} {C : Prop} {_ : Decidable C} {op : C → Prog (TpuEff nD τ sig (Elt F) Λ₀ .tc) PUnit}
    {k : PUnit → Prog (TpuEff nD τ sig (Elt F) Λ₀ .tc) β} {Q : β → sProp 𝕄} (P' : sProp 𝕄)
    (hyes : ∀ h, P ⊢ run c (op h) fun _ => P') (hno : ¬ C → P ⊢ P') (hk : P' ⊢ run c (k ⟨⟩) Q) :
    P ⊢ run c (if h : C then (op h >>= fun _ => k ⟨⟩) else k ⟨⟩) Q := by
  by_cases h : C
  · rw [dif_pos h]; exact run_then (hyes h) fun _ => hk
  · rw [dif_neg h]; exact (hno h).trans hk

theorem run_frame {P : sProp 𝕄} {op : Prog (TpuEff nD τ sig (Elt F) Λ₀ .tc) α} {R : sProp 𝕄} {Q : α → sProp 𝕄} (h : P ⊢ run c op Q) :
    iprop(R ∗ P) ⊢ run c op fun a => iprop(R ∗ Q a) :=
  (Laws.sep_mono .rfl h).trans (wp_frame_l _ _ _)

/-- A scalar read. -/
theorem run_read {s : Shape} {m : Memref sig .tc .smem s .i32} {r : Rect s} {h1 : r.shape.numel = 1} {hp : EltTy.i32.packing = 1}
    {q : PosShare TreeShare} {X : s.Idx → Elt F .i32} {R : sProp 𝕄} {k : Elt F .i32 → Prog (TpuEff nD τ sig (Elt F) Λ₀ .tc) β} {Q : β → sProp 𝕄}
    (v : Elt F .i32) (hv : X (r.idx (Shape.Idx.first (h1.symm ▸ Nat.one_pos))) = v)
    (h : iprop(owns (c : Thread nD τ) m q X ∗ R) ⊢ run c (k v) Q) :
    iprop(owns (c : Thread nD τ) m q X ∗ R) ⊢ run c (smemLoad m r h1 hp >>= k) Q := by
  subst hv
  unfold run; rw [wp_bind]
  unfold owns smemLoad
  iintro ⟨⟨%f, %hf, H⟩, HR⟩
  iapply (wp_smemLoadElt Variants.none (c : Thread nD τ) none Set.univ (View.set_slice_subset m.view r)) $$ H
  iintro H
  rw [wp_ret]
  imodintro
  subst hf
  iapply h
  isplitl [H]
  · unfold owns
    iexists f
    isplitr; · ipureintro; rfl
    iexact H
  iexact HR

end Seq

/-! ## The zero copies, as a list so far issued, and so far waited for -/

section Zero

variable {c : Dev nD} {L : List (ℕ × ℕ)} {f₀ G : Buf (Elt F) (outLoc c)} {z : Buf (Elt F) (zbufLoc c)}

variable (c L f₀ G z) in
/-- The pieces of `L'` issued. -/
def issued (L' : List (ℕ × ℕ)) : sProp 𝕄 := zState c L f₀ G z L'.length

theorem issue_next {L' L'' : List (ℕ × ℕ)} {r n : ℕ} (hL : L'' = L' ++ [(r, n)]) (hp : L'' <+: L)
    (hG : ∀ p ∈ L, ∀ (x : (⟨2, ![147456, 1024]⟩ : Shape).Idx) (y), x ∈ rowsAt (N := 147456) p.1 p.2 → G x = z y)
    {off : Fin 2 → ℕ} (hoff : off = ![r, 0]) {i5 i5' i4 i4' h1 h2 h3} :
    issued c L f₀ G z L' ⊢ run c
      (Prog.lift (TpuEff.enqueueDma ((Memref.whole cc0_scratch0).slice (Rect.unit ![0, 0] ![n, 1024] i5) i5')
        (DmaTarget.here ((Memref.whole main_v0).slice (Rect.unit off ![n, 1024] i4) i4'))
        (SemLoc.dma (SemArray.sem cc0_scratch2)) h1 h2 h3)) fun _ => issued c L f₀ G z L'' := by
  subst hL
  unfold issued
  rw [List.length_append]
  have hk := Fill.get_of_prefix hp
  have hm : (r, n) ∈ L := by obtain ⟨h, e⟩ := hk; exact e ▸ List.getElem_mem h
  exact issue_zero (r := r) (n := n) hk (fun x y hx => hG (r, n) hm x y hx) hoff

/-- The credits of the pieces of a list. -/
def credits (L : List (ℕ × ℕ)) : ℕ := (L.map fun p => credit p.2).sum

theorem credits_append (L L' : List (ℕ × ℕ)) : credits (L ++ L') = credits L + credits L' := by
  simp [credits]

theorem sumTo_credits : ∀ (k : ℕ), k ≤ L.length → Transfers.sumTo (zAmt L) k = credits (L.take k)
  | 0, _ => by simp [credits, Transfers.sumTo_zero]
  | k + 1, hk => by
      rw [Transfers.sumTo_succ _ (by omega : k < L.length), sumTo_credits k (by omega), List.take_succ_eq_append_getElem (by omega : k < L.length),
        credits_append]
      simp [credits, zAmt]

variable (c L G z) in
/-- Every piece issued, those of `L'` waited for. -/
def waited (L' : List (ℕ × ℕ)) : sProp 𝕄 :=
  iprop(Transfers.MixedBatch EC (c : Thread nD τ) (SemLoc.dma 6) () (zAmt L) (zDone c L G z) L.length (credits L')
    ∗ ∃ W, owes (c : Thread nD τ) 0 W)

theorem wait_next {L' L'' : List (ℕ × ℕ)} {r n : ℕ} (hL : L'' = L' ++ [(r, n)]) (hp : L'' <+: L)
    {off : Fin 2 → ℕ} {i5 i5' i4 i4' h1 h2} :
    waited c L G z L' ⊢ run c
      (Prog.lift (TpuEff.waitDma2 (SemArray.sem cc0_scratch2) ((Memref.whole cc0_scratch0).slice (Rect.unit ![0, 0] ![n, 1024] i5) i5')
        ((Memref.whole main_v0).slice (Rect.unit off ![n, 1024] i4) i4') h1 h2)) fun _ => waited c L G z L'' := by
  subst hL
  have hu : credits L' + credit n ≤ Transfers.sumTo (zAmt L) L.length := by
    rw [sumTo_credits _ le_rfl, List.take_length]
    obtain ⟨t, rfl⟩ := hp
    rw [credits_append, credits_append]
    simp [credits]
  unfold waited
  iintro ⟨HB, %W, HO⟩
  iapply (Transfers.wp_waitMixedBatch (EC (F := F)) Variants.none (c : Thread nD τ) none () (A := zAmt L) (D := zDone c L G z)
    (J := credit n) (srcw := (Memref.whole cc0_scratch0).slice (Rect.unit ![0, 0] ![n, 1024] i5) i5')
    (dstw := (Memref.whole main_v0).slice (Rect.unit off ![n, 1024] i4) i4') rfl hu) $$ [HB HO]
  · isplitl [HB]; · iexact HB
    iexact HO
  iintro ⟨HB, HO⟩
  rw [wp_ret]
  imodintro
  isplitl [HB]
  · rw [credits_append, show credits [(r, n)] = credit n by simp [credits]]; iexact HB
  iexists _
  iexact HO

end Zero

/-! ## The copies of the tokens' rows -/

/-- The token row and the column of the `q`-th copy of a step: eight rows at a time, each row first to its first slot, then
to its second. -/
def rowOf (q : ℕ) : ℕ := 8 * (q / 16) + q % 16 / 2
def colOf (q : ℕ) : ℕ := rowOf q + 512 * (q % 2)

section Rows

variable (c : Dev nD) (m : Memref sig .tc .vmem S512x1024 .f32) (d : Fin 1024 → ℕ)
  (f₀ G : Buf (Elt F) (outLoc c)) (f : Buf (Elt F) (m.view.loc (c : Thread nD τ)))

/-- A row of the token block. -/
abbrev srcSet (r : ℕ) : Finset (Idx (m.view.loc (c : Thread nD τ))) := (rowsAt (N := 512) r 1).map m.view.emb

def rPiece (q : Fin 1024) : sProp 𝕄 :=
  iprop((outLoc c ↦[rowsAt (N := 147456) (d q) 1]{fullShare} f₀)
    ∗ (m.view.loc (c : Thread nD τ) ↦[srcSet c m (rowOf q)]{Transfers.shareTokN fullShare q.val} f))
def rDone (q : Fin 1024) : sProp 𝕄 :=
  iprop((outLoc c ↦[rowsAt (N := 147456) (d q) 1]{fullShare} G)
    ∗ (m.view.loc (c : Thread nD τ) ↦[srcSet c m (rowOf q)]{Transfers.shareTokN fullShare q.val} f))
instance (q : Fin 1024) : Storable (upEmb : UEmb _ 𝕄) (rDone c m d G f q) := by unfold rDone; infer_instance

/-- `k` of the copies issued. -/
def rState (k : ℕ) : sProp 𝕄 :=
  iprop(bigSep (Transfers.pending k) (rPiece c m d f₀ f)
    ∗ Transfers.MixedBatch EC (c : Thread nD τ) (SemLoc.dma 5) () (fun _ => credit 1) (rDone c m d G f) k 0)

variable {c m d f₀ G f}

theorem slice_idx {t p : ℕ} {off : Fin 2 → ℕ} (hoff : off = ![8 * t, 0]) {i8} {i1} (y : (⟨2, ![1, 1024]⟩ : Shape).Idx) (hr : 8 * t + p < 512) :
    (Rect.unit (s := S512x1024) off ![8, 1024] i8).idx ((Rect.unit (s := ⟨2, ![8, 1024]⟩) ![p, 0] ![1, 1024] i1).idx y)
      = ValueIdx.ix2 (⟨8 * t + p, hr⟩ : Fin 512) (y 1) := by
  subst hoff
  have hy : (y 0 : ℕ) < 1 := (y 0).isLt
  funext a
  refine Fin.ext ?_
  match a with
  | ⟨0, _⟩ => show 8 * t + 1 * (p + 1 * (y 0 : ℕ)) = 8 * t + p; omega
  | ⟨1, _⟩ => show 0 + 1 * (0 + 1 * (y 1 : ℕ)) = (y 1 : ℕ); omega

theorem set_src {t p : ℕ} (hr : 8 * t + p < 512) {off : Fin 2 → ℕ} (hoff : off = ![8 * t, 0]) {i8 i8' i1 i1'} :
    (((m.slice (Rect.unit (s := S512x1024) off ![8, 1024] i8) i8').slice (Rect.unit (s := ⟨2, ![8, 1024]⟩) ![p, 0] ![1, 1024] i1) i1').view.set)
      = (rowsAt (N := 512) (8 * t + p) 1).map m.view.emb := by
  ext x
  constructor
  · intro hx
    obtain ⟨y, -, rfl⟩ := Finset.mem_map.1 hx
    refine Finset.mem_map.2 ⟨_, mem_rowsOf.2 ?_, congrArg m.view.emb (slice_idx (i8 := i8) (i1 := i1) hoff y hr).symm⟩
    exact ⟨Nat.le_refl (8 * t + p), Nat.lt_succ_self (8 * t + p)⟩
  · intro hx
    obtain ⟨y, hy, rfl⟩ := Finset.mem_map.1 hx
    have h0 := mem_rowsOf.1 hy
    refine Finset.mem_map.2 ⟨ValueIdx.ix2 (⟨0, by omega⟩ : Fin 1) (y 1), Finset.mem_univ _, ?_⟩
    refine congrArg m.view.emb ((slice_idx (i8 := i8) (i1 := i1) hoff _ hr).trans ?_)
    rw [ValueIdx.eq_ix2 y]
    congr 1
    exact Fin.ext (show 8 * t + p = (y 0 : ℕ) by omega)

theorem issue_row {q t p : ℕ} (hq : q < 1024) (hrow : rowOf q = 8 * t + p) (hr : 8 * t + p < 512)
    (hG : ∀ (x : (⟨2, ![147456, 1024]⟩ : Shape).Idx), x ∈ rowsAt (N := 147456) (d ⟨q, hq⟩) 1 →
      G x = m.view.read (Elt F) f (ValueIdx.ix2 (⟨8 * t + p, hr⟩ : Fin 512) (x 1)))
    {off8 : Fin 2 → ℕ} (hoff8 : off8 = ![8 * t, 0])
    {off : Fin 2 → ℕ} (hoff : off = ![d ⟨q, hq⟩, 0]) {i8 i8' i1 i1' i4 i4' h1 h2 h3} :
    rState c m d f₀ G f q ⊢ run c
      (Prog.lift (TpuEff.enqueueDma ((m.slice (Rect.unit (s := S512x1024) off8 ![8, 1024] i8) i8').slice (Rect.unit (s := ⟨2, ![8, 1024]⟩) ![p, 0] ![1, 1024] i1) i1')
        (DmaTarget.here ((Memref.whole main_v0).slice (Rect.unit off ![1, 1024] i4) i4'))
        (SemLoc.dma (SemArray.sem cc0_scratch1)) h1 h2 h3)) fun _ => rState c m d f₀ G f (q + 1) := by
  unfold rState
  iintro ⟨HP, HB⟩
  ihave HP := (pending_take hq) $$ HP
  icases HP with ⟨HP, HR⟩
  ihave HP := (show rPiece c m d f₀ f ⟨q, hq⟩ ⊢ _ from Entails.of_eq (by unfold rPiece; rfl)) $$ HP
  icases HP with ⟨H4, H3⟩
  have e4 : ((Memref.whole main_v0).slice (Rect.unit off ![1, 1024] i4) i4').view.set = rowsAt (N := 147456) (d ⟨q, hq⟩) 1 := by
    refine (View.set_slice _ _).trans ?_
    rw [set_rows hoff]; exact Finset.map_refl
  have e3 := set_src (m := m) (p := p) hr hoff8 (i8 := i8) (i8' := i8') (i1 := i1) (i1' := i1')
  rw [← hrow] at e3
  iapply (Transfers.wp_dmaMixedBatch (EC (F := F)) Variants.none (c : Thread nD τ) none () (fun _ => credit 1)
    (src := (m.slice (Rect.unit (s := S512x1024) off8 ![8, 1024] i8) i8').slice (Rect.unit (s := ⟨2, ![8, 1024]⟩) ![p, 0] ![1, 1024] i1) i1') (via := .same)
    (dst := (Memref.whole main_v0).slice (Rect.unit off ![1, 1024] i4) i4') (sm := SemLoc.dma 5)
    (Sd := rowsAt (N := 147456) (d ⟨q, hq⟩) 1) (q := Transfers.shareTokN fullShare q) (fs := f) (fd := f₀) (u := 0) (j := q)
    (D := rDone c m d G f) e4.subset hq rfl (Nat.zero_le _) ?_) $$ [H4 H3 HB]
  · unfold rDone
    refine Laws.sep_mono (Entails.of_eq (pointsTo_congr fun x hx => ?_)) (Entails.of_eq ?_)
    · have hx' : x ∈ ((Memref.whole main_v0).slice (Rect.unit off ![1, 1024] i4) i4').view.set := e4 ▸ hx
      obtain ⟨y, -, rfl⟩ := Finset.mem_map.1 hx'
      rw [View.write_emb_of_mem _ _ (Finset.mem_univ y)]
      refine Eq.trans ?_ (hG _ hx).symm
      have h2 : (((Memref.whole main_v0).slice (Rect.unit off ![1, 1024] i4) i4').view.emb y) 1 = y 1 :=
        Fin.ext (show off 1 + 1 * (y 1 : ℕ) = y 1 by subst hoff; show 0 + 1 * (y 1 : ℕ) = y 1; omega)
      refine Eq.trans ?_ (congrArg (fun j => m.view.read (Elt F) f (ValueIdx.ix2 (⟨8 * t + p, hr⟩ : Fin 512) j)) h2).symm
      exact congrArg (m.view.read (Elt F) f) (slice_idx (i8 := i8) (i1 := i1) hoff8 y hr)
    · rw [e3]
  · rw [e3]
    isplitl [H3]; · iexact H3
    isplitl [H4]; · iexact H4
    iexact HB
  iintro HB
  rw [wp_ret]
  imodintro
  isplitl [HR]; · iexact HR
  iexact HB

variable (c m d G f) in
/-- Every row copy issued, `k` waited for. -/
def rWaited (k : ℕ) : sProp 𝕄 :=
  iprop(Transfers.MixedBatch EC (c : Thread nD τ) (SemLoc.dma 5) () (fun _ => credit 1) (rDone c m d G f) 1024 (k * credit 1)
    ∗ ∃ W, owes (c : Thread nD τ) 0 W)

theorem wait_row {k : ℕ} (hk : k < 1024) {src : Memref sig .tc .vmem S1x1024 .f32}
    {off : Fin 2 → ℕ} {i4 i4' h1 h2} :
    rWaited c m d G f k ⊢ run c
      (Prog.lift (TpuEff.waitDma2 (SemArray.sem cc0_scratch1) src
        ((Memref.whole main_v0).slice (Rect.unit off ![1, 1024] i4) i4') h1 h2)) fun _ => rWaited c m d G f (k + 1) := by
  have hu : k * credit 1 + credit 1 ≤ Transfers.sumTo (fun _ : Fin 1024 => credit 1) 1024 := by
    rw [Transfers.sumTo_const _ le_rfl, ← Nat.succ_mul]
    exact Nat.mul_le_mul_right _ hk
  unfold rWaited
  iintro ⟨HB, %W, HO⟩
  iapply (Transfers.wp_waitMixedBatch (EC (F := F)) Variants.none (c : Thread nD τ) none () (A := fun _ => credit 1) (D := rDone c m d G f)
    (J := credit 1) (srcw := src)
    (dstw := (Memref.whole main_v0).slice (Rect.unit off ![1, 1024] i4) i4') rfl hu) $$ [HB HO]
  · isplitl [HB]; · iexact HB
    iexact HO
  iintro ⟨HB, HO⟩
  rw [wp_ret]
  imodintro
  isplitl [HB]
  · rw [Nat.succ_mul]; iexact HB
  iexists _
  iexact HO

end Rows

end Cert.KernelIdeal.Hand

end

end
-- ==== Proof.Loops.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Steps
public import Idealize.ShloMosaic.Lib.Pipeline.FrameBody
public import Idealize.ShloMosaic.Lib.Pipeline.FrameValue
public import Idealize.ShloMosaic.Lib.MixedBatch
public import Idealize.ShloMosaic.Lib.Ring
public import Idealize.ShloMosaic.Lib.Tactic
public import Idealize.ShloMosaic.Lib.WordCmp
public import Idealize.ShloMosaic.Lib.ValueIdxCore

@[expose] public section

/-! # The loops of the zero copies

The first step writes zeros to every padding row: per expert its left rows, then the blocks past the last expert's. The
loops that issue the copies and the ones that wait for them follow the same list. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section Helpers

variable {c : Dev nD} {α β : Type}

/-- One conditional operation: a further piece of the list when the condition holds. -/
theorem run_step {R : sProp 𝕄} {St : List (ℕ × ℕ) → sProp 𝕄} {L' L'' : List (ℕ × ℕ)} {p : ℕ × ℕ} {C c' : Prop} {_ : Decidable C} {_ : Decidable c'}
    {op : C → Prog (TpuEff nD τ sig (Elt F) Λ₀ .tc) PUnit} (k : PUnit → Prog (TpuEff nD τ sig (Elt F) Λ₀ .tc) β) {Q : β → sProp 𝕄}
    (hC : C ↔ c') (hL : L'' = L' ++ if c' then [p] else [])
    (hop : ∀ h : C, L'' = L' ++ [p] → St L' ⊢ run c (op h) fun _ => St L'')
    (hk : iprop(R ∗ St L'') ⊢ run c (k ⟨⟩) Q) :
    iprop(R ∗ St L') ⊢ run c (if h : C then (op h >>= fun _ => k ⟨⟩) else k ⟨⟩) Q := by
  by_cases h : C
  · have hL' : L'' = L' ++ [p] := by rw [hL, if_pos (hC.1 h)]
    rw [dif_pos h]
    exact run_then (run_frame (R := R) (hop h hL')) fun _ => hk
  · have hL' : L'' = L' := by rw [hL, if_neg fun h' => h (hC.2 h'), List.append_nil]
    rw [hL'] at hk
    rw [dif_neg h]; exact hk

/-- A counted loop carrying nothing. -/
theorem run_for {l : Scf.Loop 32} {ok : l.OK} {body : Fin l.trips → Unit → Prog (TpuEff nD τ sig (Elt F) Λ₀ .tc) Unit}
    {k : Unit → Prog (TpuEff nD τ sig (Elt F) Λ₀ .tc) β} {Q : β → sProp 𝕄} (I : ℕ → sProp 𝕄)
    (hb : ∀ t : Fin l.trips, I t.val ⊢ run c (body t ()) fun _ => I (t.val + 1)) (hk : I l.trips ⊢ run c (k ()) Q) :
    I 0 ⊢ run c (Scf.Loop.for l ok () body >>= k) Q := by
  have h : I 0 ⊢ run c (Scf.Loop.for l ok () body) fun _ => I l.trips := by
    refine BIBase.Entails.trans ?_ (Scf.wp_for frame (wpE (defs₀ (F := F)) Variants.none (c : Thread nD τ) none) Set.univ
      l.lb l.ub l.st ok () body (fun n _ => I n) (fun t _ => hb t))
    iintro H
    isplitl [H]; · iexact H
    iintro %acc H
    iexact H
  exact run_then h fun _ => hk

end Helpers

/-! ## The fill words -/

theorem upTo_piece (P : Fill) (e b : ℕ) (hb : b < 6) (n : ℕ) (hn : n = 2 ^ (8 - b)) : P.upTo e (b + 1) = P.upTo e b ++
    if P.left e / n % 2 = 1 then [(P.stop e - P.left e / n * n, n)] else [] := hn ▸ P.upTo_bit e b hb

/-- The word at row `r`, column `e` of the fill words. -/
def word (X : S3x33.Idx → Elt F .i32) (r : Fin 3) (e : ℕ) : BitVec 32 := X (ValueIdx.ix2 r (Fin.ofNat 33 e))

theorem read_fill (X : S3x33.Idx → Elt F .i32) {off : Fin 2 → ℕ} {r : Fin 3} {e : ℕ} (hoff : off = ![r.val, e]) (he : e < 33) {inb h} :
    X ((Rect.unit (s := S3x33) off S1x1.size inb).idx (Shape.Idx.first h)) = word X r e := by
  subst hoff
  refine congrArg X ?_
  funext a
  refine Fin.ext ?_
  match a with
  | ⟨0, _⟩ => show r.val + 1 * 0 = r.val; omega
  | ⟨1, _⟩ => show e + 1 * 0 = e % 33; omega

/-- The plan whose numbers the fill words hold. -/
structure Words (X : S3x33.Idx → Elt F .i32) (P : Fill) : Prop where
  start : ∀ e < 32, (word X 0 e).toNat = P.start e
  left : ∀ e < 32, (word X 1 e).toNat = P.left e
  stop : ∀ e < 32, (word X 2 e).toNat = P.stop e
  used : (word X 0 32).toNat = P.used
  unused : (word X 1 32).toNat = 288 - P.used

section One

variable {X : S3x33.Idx → Elt F .i32} {P : Fill} (hX : Words X P) {e : ℕ} (he : e < 32)
include hX he

theorem Words.lt : (word X 1 e).toNat < 512 := hX.left e he ▸ P.left_lt e he
theorem Words.le : (word X 1 e).toNat ≤ (word X 2 e).toNat := by
  have := P.left_eq e he
  rw [hX.left e he, hX.stop e he]; omega
theorem Words.stop_le : (word X 2 e).toNat ≤ 147456 := hX.stop e he ▸ P.stop_le e he
theorem Words.dvd : 512 ∣ (word X 2 e).toNat := hX.stop e he ▸ P.stop_dvd e he
theorem Words.room : (word X 0 e).toNat + (word X 1 e).toNat ≤ 147456 := by
  have := P.left_eq e he; have := P.stop_le e he
  rw [hX.start e he, hX.left e he]; omega

/-- The offset of the `b`-th of an expert's pieces. -/
theorem Words.bit (b : ℕ) (hb : b < 6) (n : ℕ) (hn : n = 2 ^ (8 - b)) {off : Fin 2 → ℕ} (hoff : off = ![(bitOff (word X 1 e) (word X 2 e) (b + 1)).toNat, 0]) :
    off = ![P.stop e - P.left e / n * n, 0] := by
  subst hn
  rw [hoff, bitOff_toNat (hX.lt he) (hX.le he) (b + 1) (by omega), show 9 - (b + 1) = 8 - b by omega, hX.left e he, hX.stop e he]

theorem Words.row (k : ℕ) {off : Fin 2 → ℕ} (hoff : off = ![(word X 0 e).toNat + k, 0]) : off = ![P.start e + k, 0] := by
  rw [hoff, hX.start e he]

end One

section Trips

variable {c : Dev nD} {i : grid0.Coords} {arg1 : Memref sig .tc .smem S1x1x1024 .i32} {harg1 : arg1.IsWhole}
  {arg2 : Memref sig .tc .smem S3x33 .i32} {harg2 : arg2.IsWhole} {arg3 : Memref sig .tc .vmem S512x1024 .f32} {harg3 : arg3.IsWhole}
  {harg4 : (Memref.whole main_v0).IsWhole} {harg5 : (Memref.whole cc0_scratch0).IsWhole}
  {q : PosShare TreeShare} {X : S3x33.Idx → Elt F .i32} {P : Fill} (hX : Words X P)
  {f₀ G : Buf (Elt F) (outLoc c)} {z : Buf (Elt F) (zbufLoc c)}

include hX

set_option maxHeartbeats 400000 in
/-- The first part of a trip, over one expert: it reads the expert's words and issues its copies of 256 to 32 rows. -/
theorem t1_first (h1 : k0_cond1 i = 1#1) (t : Fin k0_t1_loop.trips) (he : t.val < 32)
    (hG : ∀ p ∈ P.all, ∀ (x : (⟨2, ![147456, 1024]⟩ : Shape).Idx) (y), x ∈ rowsAt (N := 147456) p.1 p.2 → G x = z y) {Q}
    (h : ∀ w1 w2 w, iprop(owns (c : Thread nD τ) arg2 q X ∗ issued c P.all f₀ G z (P.upTo t.val 4)) ⊢ Q ⟨word X 0 t.val, word X 1 t.val, w1, word X 2 t.val, w2, w⟩) :
    iprop(owns (c : Thread nD τ) arg2 q X ∗ issued c P.all f₀ G z (P.upTo t.val 0)) ⊢ run c (k0_part1 i arg1 harg1 arg2 harg2 arg3 harg3 (Memref.whole main_v0) harg4 (Memref.whole cc0_scratch0) harg5 cc0_scratch1 cc0_scratch2 h1 0#32 1#32 t) Q := by
  have hb := bits_cond (hX.lt he)
  have hr := rows_cond (hX.lt he)
  rw [hX.left t.val he] at hb hr
  have ob := off_bits (word X 1 t.val) (word X 2 t.val)
  have oR := off_rows (v := word X 0 t.val) (by have := hX.room he; omega)
  rw [k0_part1_eq_skeleton]; unfold k0_part1_skel
  refine run_read (word X 0 t.val) (read_fill X (r := 0) (off_fill t).1 (by omega)) ?_
  refine run_read (word X 1 t.val) (read_fill X (r := 1) (off_fill t).2.1 (by omega)) ?_
  refine run_assume (chk2_ok i (hX.lt he) (hX.room he)) ?_
  refine run_read (word X 2 t.val) (read_fill X (r := 2) (off_fill t).2.2 (by omega)) ?_
  refine run_assume (chk1_ok i (hX.lt he) (hX.le he) (hX.stop_le he) (hX.dvd he)) ?_
  extract_lets -lift -underBinder +onlyGivenNames w1 v1 v2 v3 v4 jp
  clear_value (hjp : jp = _)
  refine run_step jp (St := issued c P.all f₀ G z) (hC := hb.1) (upTo_piece P t.val 0 (by decide) 256 rfl) (fun _ h' => issue_next h' (P.upTo_prefix he (by decide)) hG (hX.bit he 0 (by decide) 256 rfl ob.1)) ?_
  subst hjp; beta_reduce
  extract_lets -lift -underBinder +onlyGivenNames v1 v2 v3 v4 jp
  clear_value (hjp : jp = _)
  refine run_step jp (St := issued c P.all f₀ G z) (hC := hb.2.1) (upTo_piece P t.val 1 (by decide) 128 rfl) (fun _ h' => issue_next h' (P.upTo_prefix he (by decide)) hG (hX.bit he 1 (by decide) 128 rfl ob.2.1)) ?_
  subst hjp; beta_reduce
  extract_lets -lift -underBinder +onlyGivenNames v1 v2 v3 v4 jp
  clear_value (hjp : jp = _)
  refine run_step jp (St := issued c P.all f₀ G z) (hC := hb.2.2.1) (upTo_piece P t.val 2 (by decide) 64 rfl) (fun _ h' => issue_next h' (P.upTo_prefix he (by decide)) hG (hX.bit he 2 (by decide) 64 rfl ob.2.2.1)) ?_
  subst hjp; beta_reduce
  extract_lets -lift -underBinder +onlyGivenNames v1 v2 v3 v4 jp
  clear_value (hjp : jp = _)
  refine run_step jp (St := issued c P.all f₀ G z) (hC := hb.2.2.2.1) (upTo_piece P t.val 3 (by decide) 32 rfl) (fun _ h' => issue_next h' (P.upTo_prefix he (by decide)) hG (hX.bit he 3 (by decide) 32 rfl ob.2.2.2.1)) ?_
  subst hjp; beta_reduce
  exact run_ret _ _ (h _ _ _)

set_option maxHeartbeats 400000 in
/-- The second part: the copies of 16 and 8 rows and the first three single rows. -/
theorem t1_second (h1 : k0_cond1 i = 1#1) {e : ℕ} (he : e < 32) {w1 w2 w}
    (hG : ∀ p ∈ P.all, ∀ (x : (⟨2, ![147456, 1024]⟩ : Shape).Idx) (y), x ∈ rowsAt (N := 147456) p.1 p.2 → G x = z y) {Q}
    (h : ∀ b, iprop(owns (c : Thread nD τ) arg2 q X ∗ issued c P.all f₀ G z (P.upTo e 9)) ⊢ Q b) :
    iprop(owns (c : Thread nD τ) arg2 q X ∗ issued c P.all f₀ G z (P.upTo e 4)) ⊢ run c
      (k0_part2 i arg1 harg1 arg2 harg2 arg3 harg3 (Memref.whole main_v0) harg4 (Memref.whole cc0_scratch0) harg5 cc0_scratch1 cc0_scratch2 h1 (word X 0 e) (word X 1 e) w1 (word X 2 e) w2 w) Q := by
  have hb := bits_cond (hX.lt he)
  have hr := rows_cond (hX.lt he)
  rw [hX.left e he] at hb hr
  have ob := off_bits (word X 1 e) (word X 2 e)
  have oR := off_rows (v := word X 0 e) (by have := hX.room he; omega)
  rw [k0_part2_eq_skeleton]; unfold k0_part2_skel
  extract_lets -lift -underBinder +onlyGivenNames jp
  clear_value (hjp : jp = _)
  refine run_step jp (St := issued c P.all f₀ G z) (hC := hb.2.2.2.2.1) (upTo_piece P e 4 (by decide) 16 rfl) (fun _ h' => issue_next h' (P.upTo_prefix he (by decide)) hG (hX.bit he 4 (by decide) 16 rfl ob.2.2.2.2.1)) ?_
  subst hjp; beta_reduce
  extract_lets -lift -underBinder +onlyGivenNames jp
  clear_value (hjp : jp = _)
  refine run_step jp (St := issued c P.all f₀ G z) (hC := hb.2.2.2.2.2) (upTo_piece P e 5 (by decide) 8 rfl) (fun _ h' => issue_next h' (P.upTo_prefix he (by decide)) hG (hX.bit he 5 (by decide) 8 rfl ob.2.2.2.2.2)) ?_
  subst hjp; beta_reduce
  extract_lets -lift -underBinder +onlyGivenNames jp
  clear_value (hjp : jp = _)
  refine run_step jp (St := issued c P.all f₀ G z) (hC := hr.1) (P.upTo_row e 0) (fun _ h' => issue_next h' (P.upTo_prefix he (by decide)) hG (hX.row he 0 oR.1)) ?_
  subst hjp; beta_reduce
  extract_lets -lift -underBinder +onlyGivenNames jp
  clear_value (hjp : jp = _)
  refine run_step jp (St := issued c P.all f₀ G z) (hC := hr.2.1) (P.upTo_row e 1) (fun _ h' => issue_next h' (P.upTo_prefix he (by decide)) hG (hX.row he 1 oR.2.1)) ?_
  subst hjp; beta_reduce
  extract_lets -lift -underBinder +onlyGivenNames jp
  clear_value (hjp : jp = _)
  refine run_step jp (St := issued c P.all f₀ G z) (hC := hr.2.2.1) (P.upTo_row e 2) (fun _ h' => issue_next h' (P.upTo_prefix he (by decide)) hG (hX.row he 2 oR.2.2.1)) ?_
  subst hjp; beta_reduce
  exact run_ret _ _ (h _)

set_option maxHeartbeats 400000 in
/-- One trip: the copies of one expert's left rows. -/
theorem t1_trip (h1 : k0_cond1 i = 1#1) (t : Fin k0_t1_loop.trips)
    (hG : ∀ p ∈ P.all, ∀ (x : (⟨2, ![147456, 1024]⟩ : Shape).Idx) (y), x ∈ rowsAt (N := 147456) p.1 p.2 → G x = z y) :
    iprop(owns (c : Thread nD τ) arg2 q X ∗ issued c P.all f₀ G z (P.ofExperts t.val)) ⊢ run c
      (k0_t1_body i arg1 harg1 arg2 harg2 arg3 harg3 (Memref.whole main_v0) harg4 (Memref.whole cc0_scratch0) harg5 cc0_scratch1 cc0_scratch2 h1 t ())
      fun _ => iprop(owns (c : Thread nD τ) arg2 q X ∗ issued c P.all f₀ G z (P.ofExperts (t.val + 1))) := by
  have he : t.val < 32 := t.isLt
  rw [← P.upTo_zero, ← P.upTo_end]
  have hb := bits_cond (hX.lt he)
  have hr := rows_cond (hX.lt he)
  rw [hX.left t.val he] at hb hr
  have ob := off_bits (word X 1 t.val) (word X 2 t.val)
  have oR := off_rows (v := word X 0 t.val) (by have := hX.room he; omega)
  unfold k0_t1_body
  refine run_bind (t1_first hX h1 t he hG fun w1 w2 w => ?_)
  refine run_bind (t1_second hX h1 he hG fun b => ?_)
  extract_lets -lift -underBinder +onlyGivenNames jp
  clear_value (hjp : jp = _)
  refine run_step jp (St := issued c P.all f₀ G z) (hC := hr.2.2.2.1) (P.upTo_row t.val 3) (fun _ h' => issue_next h' (P.upTo_prefix he (by decide)) hG (hX.row he 3 oR.2.2.2.1)) ?_
  subst hjp; beta_reduce
  extract_lets -lift -underBinder +onlyGivenNames jp
  clear_value (hjp : jp = _)
  refine run_step jp (St := issued c P.all f₀ G z) (hC := hr.2.2.2.2.1) (P.upTo_row t.val 4) (fun _ h' => issue_next h' (P.upTo_prefix he (by decide)) hG (hX.row he 4 oR.2.2.2.2.1)) ?_
  subst hjp; beta_reduce
  extract_lets -lift -underBinder +onlyGivenNames jp
  clear_value (hjp : jp = _)
  refine run_step jp (St := issued c P.all f₀ G z) (hC := hr.2.2.2.2.2.1) (P.upTo_row t.val 5) (fun _ h' => issue_next h' (P.upTo_prefix he (by decide)) hG (hX.row he 5 oR.2.2.2.2.2.1)) ?_
  subst hjp; beta_reduce
  extract_lets -lift -underBinder +onlyGivenNames jp
  clear_value (hjp : jp = _)
  refine run_step jp (St := issued c P.all f₀ G z) (hC := hr.2.2.2.2.2.2) (P.upTo_row t.val 6) (fun _ h' => issue_next h' (P.upTo_prefix he (by decide)) hG (hX.row he 6 oR.2.2.2.2.2.2)) ?_
  subst hjp; beta_reduce
  exact run_ret _ _ .rfl

set_option maxHeartbeats 400000 in
/-- The first part of a trip, over one expert: it reads the expert's words and waits for its copies of 256 to 32 rows. -/
theorem t6_first (h15 : k0_cond15 i = 1#1) (t : Fin k0_t6_loop.trips) (he : t.val < 32) {Q}
    (h : ∀ w1 w2 w, iprop(owns (c : Thread nD τ) arg2 q X ∗ waited c P.all G z (P.upTo t.val 4)) ⊢ Q ⟨word X 0 t.val, word X 1 t.val, w1, word X 2 t.val, w2, w⟩) :
    iprop(owns (c : Thread nD τ) arg2 q X ∗ waited c P.all G z (P.upTo t.val 0)) ⊢ run c (k0_part7 i arg1 harg1 arg2 harg2 arg3 harg3 (Memref.whole main_v0) harg4 (Memref.whole cc0_scratch0) harg5 cc0_scratch1 cc0_scratch2 h15 0#32 1#32 t) Q := by
  have hb := bits_cond (hX.lt he)
  have hr := rows_cond (hX.lt he)
  rw [hX.left t.val he] at hb hr
  rw [k0_part7_eq_skeleton]; unfold k0_part7_skel
  refine run_read (word X 0 t.val) (read_fill X (r := 0) (off_fill t).1 (by omega)) ?_
  refine run_read (word X 1 t.val) (read_fill X (r := 1) (off_fill t).2.1 (by omega)) ?_
  refine run_assume (chk23_ok i (hX.lt he) (hX.room he)) ?_
  refine run_read (word X 2 t.val) (read_fill X (r := 2) (off_fill t).2.2 (by omega)) ?_
  refine run_assume (chk22_ok i (hX.lt he) (hX.le he) (hX.stop_le he) (hX.dvd he)) ?_
  extract_lets -lift -underBinder +onlyGivenNames w1 v1 v2 v3 v4 jp
  clear_value (hjp : jp = _)
  refine run_step jp (St := waited c P.all G z) (hC := hb.1) (upTo_piece P t.val 0 (by decide) 256 rfl) (fun _ h' => wait_next h' (P.upTo_prefix he (by decide))) ?_
  subst hjp; beta_reduce
  extract_lets -lift -underBinder +onlyGivenNames v1 v2 v3 v4 jp
  clear_value (hjp : jp = _)
  refine run_step jp (St := waited c P.all G z) (hC := hb.2.1) (upTo_piece P t.val 1 (by decide) 128 rfl) (fun _ h' => wait_next h' (P.upTo_prefix he (by decide))) ?_
  subst hjp; beta_reduce
  extract_lets -lift -underBinder +onlyGivenNames v1 v2 v3 v4 jp
  clear_value (hjp : jp = _)
  refine run_step jp (St := waited c P.all G z) (hC := hb.2.2.1) (upTo_piece P t.val 2 (by decide) 64 rfl) (fun _ h' => wait_next h' (P.upTo_prefix he (by decide))) ?_
  subst hjp; beta_reduce
  extract_lets -lift -underBinder +onlyGivenNames v1 v2 v3 v4 jp
  clear_value (hjp : jp = _)
  refine run_step jp (St := waited c P.all G z) (hC := hb.2.2.2.1) (upTo_piece P t.val 3 (by decide) 32 rfl) (fun _ h' => wait_next h' (P.upTo_prefix he (by decide))) ?_
  subst hjp; beta_reduce
  exact run_ret _ _ (h _ _ _)

set_option maxHeartbeats 400000 in
/-- The second part: the copies of 16 and 8 rows and the first three single rows. -/
theorem t6_second (h15 : k0_cond15 i = 1#1) {e : ℕ} (he : e < 32) {w1 w2 w} {Q}
    (h : ∀ b, iprop(owns (c : Thread nD τ) arg2 q X ∗ waited c P.all G z (P.upTo e 9)) ⊢ Q b) :
    iprop(owns (c : Thread nD τ) arg2 q X ∗ waited c P.all G z (P.upTo e 4)) ⊢ run c
      (k0_part8 i arg1 harg1 arg2 harg2 arg3 harg3 (Memref.whole main_v0) harg4 (Memref.whole cc0_scratch0) harg5 cc0_scratch1 cc0_scratch2 h15 (word X 0 e) (word X 1 e) w1 (word X 2 e) w2 w) Q := by
  have hb := bits_cond (hX.lt he)
  have hr := rows_cond (hX.lt he)
  rw [hX.left e he] at hb hr
  rw [k0_part8_eq_skeleton]; unfold k0_part8_skel
  extract_lets -lift -underBinder +onlyGivenNames jp
  clear_value (hjp : jp = _)
  refine run_step jp (St := waited c P.all G z) (hC := hb.2.2.2.2.1) (upTo_piece P e 4 (by decide) 16 rfl) (fun _ h' => wait_next h' (P.upTo_prefix he (by decide))) ?_
  subst hjp; beta_reduce
  extract_lets -lift -underBinder +onlyGivenNames jp
  clear_value (hjp : jp = _)
  refine run_step jp (St := waited c P.all G z) (hC := hb.2.2.2.2.2) (upTo_piece P e 5 (by decide) 8 rfl) (fun _ h' => wait_next h' (P.upTo_prefix he (by decide))) ?_
  subst hjp; beta_reduce
  extract_lets -lift -underBinder +onlyGivenNames jp
  clear_value (hjp : jp = _)
  refine run_step jp (St := waited c P.all G z) (hC := hr.1) (P.upTo_row e 0) (fun _ h' => wait_next h' (P.upTo_prefix he (by decide))) ?_
  subst hjp; beta_reduce
  extract_lets -lift -underBinder +onlyGivenNames jp
  clear_value (hjp : jp = _)
  refine run_step jp (St := waited c P.all G z) (hC := hr.2.1) (P.upTo_row e 1) (fun _ h' => wait_next h' (P.upTo_prefix he (by decide))) ?_
  subst hjp; beta_reduce
  extract_lets -lift -underBinder +onlyGivenNames jp
  clear_value (hjp : jp = _)
  refine run_step jp (St := waited c P.all G z) (hC := hr.2.2.1) (P.upTo_row e 2) (fun _ h' => wait_next h' (P.upTo_prefix he (by decide))) ?_
  subst hjp; beta_reduce
  exact run_ret _ _ (h _)

set_option maxHeartbeats 400000 in
/-- One trip: the copies of one expert's left rows. -/
theorem t6_trip (h15 : k0_cond15 i = 1#1) (t : Fin k0_t6_loop.trips) :
    iprop(owns (c : Thread nD τ) arg2 q X ∗ waited c P.all G z (P.ofExperts t.val)) ⊢ run c
      (k0_t6_body i arg1 harg1 arg2 harg2 arg3 harg3 (Memref.whole main_v0) harg4 (Memref.whole cc0_scratch0) harg5 cc0_scratch1 cc0_scratch2 h15 t ())
      fun _ => iprop(owns (c : Thread nD τ) arg2 q X ∗ waited c P.all G z (P.ofExperts (t.val + 1))) := by
  have he : t.val < 32 := t.isLt
  rw [← P.upTo_zero, ← P.upTo_end]
  have hb := bits_cond (hX.lt he)
  have hr := rows_cond (hX.lt he)
  rw [hX.left t.val he] at hb hr
  unfold k0_t6_body
  refine run_bind (t6_first hX h15 t he fun w1 w2 w => ?_)
  refine run_bind (t6_second hX h15 he fun b => ?_)
  extract_lets -lift -underBinder +onlyGivenNames jp
  clear_value (hjp : jp = _)
  refine run_step jp (St := waited c P.all G z) (hC := hr.2.2.2.1) (P.upTo_row t.val 3) (fun _ h' => wait_next h' (P.upTo_prefix he (by decide))) ?_
  subst hjp; beta_reduce
  extract_lets -lift -underBinder +onlyGivenNames jp
  clear_value (hjp : jp = _)
  refine run_step jp (St := waited c P.all G z) (hC := hr.2.2.2.2.1) (P.upTo_row t.val 4) (fun _ h' => wait_next h' (P.upTo_prefix he (by decide))) ?_
  subst hjp; beta_reduce
  extract_lets -lift -underBinder +onlyGivenNames jp
  clear_value (hjp : jp = _)
  refine run_step jp (St := waited c P.all G z) (hC := hr.2.2.2.2.2.1) (P.upTo_row t.val 5) (fun _ h' => wait_next h' (P.upTo_prefix he (by decide))) ?_
  subst hjp; beta_reduce
  extract_lets -lift -underBinder +onlyGivenNames jp
  clear_value (hjp : jp = _)
  refine run_step jp (St := waited c P.all G z) (hC := hr.2.2.2.2.2.2) (P.upTo_row t.val 6) (fun _ h' => wait_next h' (P.upTo_prefix he (by decide))) ?_
  subst hjp; beta_reduce
  exact run_ret _ _ .rfl

end Trips

end Cert.KernelIdeal.Hand

end

end
-- ==== Proof.Batch.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Steps
public import Idealize.ShloMosaic.Lib.Pipeline.FrameBody
public import Idealize.ShloMosaic.Lib.Pipeline.FrameValue
public import Idealize.ShloMosaic.Lib.MixedBatch
public import Idealize.ShloMosaic.Lib.Ring
public import Idealize.ShloMosaic.Lib.Tactic
public import Idealize.ShloMosaic.Lib.WordCmp
public import Idealize.ShloMosaic.Lib.ValueIdxCore

@[expose] public section

/-! # Starting and finishing the two batches of copies

What a batch is issued with is taken out of the arrays when it starts, and given back when it is finished. A source read by
many copies at once is held in shares, one per copy. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- What an update makes of what is held, a run may start from. -/
theorem run_upd {α : Type} {P P' : sProp 𝕄} {c : Dev nD} {p : Prog (TpuEff nD τ sig (Elt F) Λ₀ .tc) α} {Q : α → sProp 𝕄}
    (h : P ⊢ |={Set.univ}=> P') (hk : P' ⊢ run c p Q) : P ⊢ run c p Q :=
  (h.trans (fupd_mono hk)).trans (fupd_wp _ _ _ _ _)

/-! ## A source dealt into shares -/

section Toks

variable {ℓ : Loc nD τ sig} {n : ℕ} (S : Finset (Idx ℓ)) (K : Fin n → Finset (Idx ℓ)) (f : Buf (Elt F) ℓ)

/-- What is left of the source when each copy holds its share of its own elements. -/
def toksRest : sProp 𝕄 :=
  iprop((ℓ ↦[S]{Transfers.shareDrop fullShare n} f) ∗ bigSep Finset.univ fun t : Fin n => ℓ ↦[S \ K t]{Transfers.shareTokN fullShare t.val} f)

theorem toks_eq (hK : ∀ t, K t ⊆ S) :
    (ℓ ↦[S]{fullShare} f : sProp 𝕄) ⊣⊢ iprop(toksRest S K f ∗ bigSep Finset.univ fun t : Fin n => ℓ ↦[K t]{Transfers.shareTokN fullShare t.val} f) := by
  have e : bigSep Finset.univ (fun t : Fin n => (ℓ ↦[S]{Transfers.shareTokN fullShare t.val} f : sProp 𝕄))
      = iprop((bigSep Finset.univ fun t : Fin n => ℓ ↦[K t]{Transfers.shareTokN fullShare t.val} f)
        ∗ bigSep Finset.univ fun t : Fin n => ℓ ↦[S \ K t]{Transfers.shareTokN fullShare t.val} f) := by
    rw [← bigSep_sep']
    exact congrArg _ (funext fun t => equiv_iff.mp ⟨(pointsTo_split_subset (hK t)).1, (pointsTo_split_subset (hK t)).2⟩)
  have h : (ℓ ↦[S]{fullShare} f : sProp 𝕄) ⊣⊢ iprop((ℓ ↦[S]{Transfers.shareDrop fullShare n} f)
      ∗ bigSep Finset.univ fun i : Fin n => ℓ ↦[S]{Transfers.shareTok fullShare n i} f) := Transfers.pointsTo_toks fullShare n
  unfold toksRest
  constructor
  · refine h.1.trans ?_
    rw [show (fun i : Fin n => (ℓ ↦[S]{Transfers.shareTok fullShare n i} f : sProp 𝕄)) = fun t : Fin n => ℓ ↦[S]{Transfers.shareTokN fullShare t.val} f from rfl, e]
    iintro ⟨HD, HK, HS⟩
    isplitl [HD HS]
    · isplitl [HD]; · iexact HD
      iexact HS
    iexact HK
  · refine BIBase.Entails.trans ?_ h.2
    rw [show (fun i : Fin n => (ℓ ↦[S]{Transfers.shareTok fullShare n i} f : sProp 𝕄)) = fun t : Fin n => ℓ ↦[S]{Transfers.shareTokN fullShare t.val} f from rfl, e]
    iintro ⟨⟨HD, HS⟩, HK⟩
    isplitl [HD]; · iexact HD
    isplitl [HK]; · iexact HK
    iexact HS

end Toks

/-! ## The zero copies -/

section Zero

variable {c : Dev nD} {L : List (ℕ × ℕ)} {S : ℕ → Prop} {f₀ G : Buf (Elt F) (outLoc c)} {z : Buf (Elt F) (zbufLoc c)}

/-- The rows of the pieces of a list are the rows it covers. -/
theorem rows_pieces (hS : Tiles L S) (g : Buf (Elt F) (outLoc c)) :
    (outLoc c ↦[rowsOf (N := 147456) S]{fullShare} g : sProp 𝕄)
      = bigSep Finset.univ fun t : Fin L.length => outLoc c ↦[rowsAt (N := 147456) L[t].1 L[t].2]{fullShare} g := by
  rw [← pointsTo_biUnion]
  · congr 1
    ext x
    simp only [Finset.mem_biUnion, Finset.mem_univ, true_and]
    rw [mem_rowsOf, hS.fills]
    constructor
    · rintro ⟨p, hp, h⟩
      obtain ⟨k, hk, rfl⟩ := List.getElem_of_mem hp
      exact ⟨⟨k, hk⟩, mem_rowsOf.2 h⟩
    · rintro ⟨t, h⟩
      exact ⟨L[t], List.getElem_mem t.isLt, mem_rowsOf.1 h⟩
  · intro t _ t' _ hne
    have hp := List.pairwise_iff_getElem.1 hS.apart
    rcases Nat.lt_or_gt_of_ne (fun h => hne (Fin.ext h)) with h | h
    · exact rowsOf_disjoint fun x hx => hp t.val t'.val t.isLt t'.isLt h x hx
    · exact rowsOf_disjoint fun x hx => hp t'.val t.val t'.isLt t.isLt h x ⟨hx.2, hx.1⟩

variable (c L z) in
/-- The scratch but for the shares of the copies. -/
abbrev zRest : sProp 𝕄 := toksRest (ℓ := zbufLoc c) Finset.univ (fun t : Fin L.length => rowsAt (N := 512) 0 L[t].2) z

theorem zero_start (hS : Tiles L S) :
    iprop((zbufLoc c ↦{fullShare} z) ∗ (outLoc c ↦[rowsOf (N := 147456) S]{fullShare} f₀) ∗ semVal ((c : Thread nD τ), SemLoc.dma 6) 0)
      ⊢ |={Set.univ}=> iprop(zRest c L z ∗ issued c L f₀ G z []) := by
  iintro ⟨HZ, HO, Hq⟩
  imod (Transfers.mixedBatch_alloc' (Lvl := ℕ) (EC (F := F)) (c : Thread nD τ) () (zAmt L) (zDone c L G z) (sm := SemLoc.dma 6) (E := Set.univ)) $$ Hq with HB
  imodintro
  ihave HZ := (toks_eq (ℓ := zbufLoc c) Finset.univ (fun t : Fin L.length => rowsAt (N := 512) 0 L[t].2) z (fun _ => Finset.subset_univ _)).1 $$ HZ
  icases HZ with ⟨HR, HZ⟩
  isplitl [HR]; · iexact HR
  unfold issued zState
  isplitr [HB]
  · rw [show ([] : List (ℕ × ℕ)).length = 0 from rfl, Transfers.pending_zero]
    ihave HO := (Entails.of_eq (rows_pieces (c := c) hS f₀)) $$ HO
    unfold zPiece
    iapply (Entails.of_eq (bigSep_sep' _ _ _).symm)
    isplitl [HO]; · iexact HO
    iexact HZ
  iexact HB

theorem zero_turn :
    iprop(issued c L f₀ G z L ∗ ∃ W, owes (c : Thread nD τ) 0 W) ⊢ waited c L G z [] := by
  unfold issued zState waited
  iintro ⟨⟨-, HB⟩, HO⟩
  isplitl [HB]; · iexact HB
  iexact HO

theorem zero_finish (hS : Tiles L S) (hpos : ∀ t : Fin L.length, 0 < zAmt L t) :
    iprop(zRest c L z ∗ waited c L G z L)
      ⊢ |={Set.univ}=> iprop((zbufLoc c ↦{fullShare} z) ∗ (outLoc c ↦[rowsOf (N := 147456) S]{fullShare} G)
        ∗ semVal ((c : Thread nD τ), SemLoc.dma 6) 0 ∗ ∃ W, owes (c : Thread nD τ) 0 W) := by
  unfold waited
  have e : credits L = Transfers.sumTo (zAmt L) L.length := by rw [sumTo_credits _ le_rfl, List.take_length]
  rw [e]
  iintro ⟨HR, HB, HO⟩
  imod (Transfers.mixedBatch_collect' (EC (F := F)) (c : Thread nD τ) hpos) $$ HB with ⟨HD, Hq⟩
  imodintro
  unfold zDone
  ihave HD := (Entails.of_eq (bigSep_sep' _ _ _)) $$ HD
  icases HD with ⟨HG, HZ⟩
  isplitl [HR HZ]
  · iapply (toks_eq (ℓ := zbufLoc c) Finset.univ (fun t : Fin L.length => rowsAt (N := 512) 0 L[t].2) z (fun _ => Finset.subset_univ _)).2
    isplitl [HR]; · iexact HR
    iexact HZ
  isplitl [HG]
  · iapply (Entails.of_eq (rows_pieces (c := c) hS G).symm)
    iexact HG
  isplitl [Hq]; · iexact Hq
  iexact HO

end Zero

/-! ## The row copies -/

section Rows

variable {c : Dev nD} {m : Memref sig .tc .vmem S512x1024 .f32} {d : Fin 1024 → ℕ}
  {f₀ G : Buf (Elt F) (outLoc c)} {f : Buf (Elt F) (m.view.loc (c : Thread nD τ))}

variable (c d) in
/-- The rows of the result the copies of a step write, at the contents `g`. -/
def slots (g : Buf (Elt F) (outLoc c)) : sProp 𝕄 :=
  bigSep Finset.univ fun q : Fin 1024 => outLoc c ↦[rowsAt (N := 147456) (d q) 1]{fullShare} g

variable (c m f) in
/-- The token block but for the shares of the copies. -/
abbrev rRest : sProp 𝕄 :=
  toksRest (ℓ := m.view.loc (c : Thread nD τ)) m.view.set (fun q : Fin 1024 => srcSet c m (rowOf q.val)) f

theorem src_sub (q : Fin 1024) : srcSet c m (rowOf q.val) ⊆ m.view.set := Finset.map_subset_map.2 (Finset.subset_univ _)

theorem rows_start :
    iprop((m.view.loc (c : Thread nD τ) ↦[m.view.set]{fullShare} f) ∗ slots c d f₀ ∗ semVal ((c : Thread nD τ), SemLoc.dma 5) 0)
      ⊢ |={Set.univ}=> iprop(rRest c m f ∗ rState c m d f₀ G f 0) := by
  iintro ⟨HZ, HO, Hq⟩
  imod (Transfers.mixedBatch_alloc' (Lvl := ℕ) (EC (F := F)) (c : Thread nD τ) () (fun _ => credit 1) (rDone c m d G f) (sm := SemLoc.dma 5) (E := Set.univ)) $$ Hq with HB
  imodintro
  ihave HZ := (toks_eq (ℓ := m.view.loc (c : Thread nD τ)) m.view.set (fun q : Fin 1024 => srcSet c m (rowOf q.val)) f src_sub).1 $$ HZ
  icases HZ with ⟨HR, HZ⟩
  isplitl [HR]; · iexact HR
  unfold rState slots
  isplitr [HB]
  · rw [Transfers.pending_zero]
    unfold rPiece
    iapply (Entails.of_eq (bigSep_sep' _ _ _).symm)
    isplitl [HO]; · iexact HO
    iexact HZ
  iexact HB

theorem rows_turn :
    iprop(rState c m d f₀ G f 1024 ∗ ∃ W, owes (c : Thread nD τ) 0 W) ⊢ rWaited c m d G f 0 := by
  unfold rState rWaited
  iintro ⟨⟨-, HB⟩, HO⟩
  rw [Nat.zero_mul]
  isplitl [HB]; · iexact HB
  iexact HO

theorem rows_finish :
    iprop(rRest c m f ∗ rWaited c m d G f 1024)
      ⊢ |={Set.univ}=> iprop((m.view.loc (c : Thread nD τ) ↦[m.view.set]{fullShare} f) ∗ slots c d G
        ∗ semVal ((c : Thread nD τ), SemLoc.dma 5) 0 ∗ ∃ W, owes (c : Thread nD τ) 0 W) := by
  unfold rWaited
  rw [← Transfers.sumTo_const (n := 1024) (credit 1) le_rfl]
  iintro ⟨HR, HB, HO⟩
  imod (Transfers.mixedBatch_collect' (EC (F := F)) (c : Thread nD τ) fun _ => credit_pos (by decide)) $$ HB with ⟨HD, Hq⟩
  imodintro
  unfold rDone slots
  ihave HD := (Entails.of_eq (bigSep_sep' _ _ _)) $$ HD
  icases HD with ⟨HG, HZ⟩
  isplitl [HR HZ]
  · iapply (toks_eq (ℓ := m.view.loc (c : Thread nD τ)) m.view.set (fun q : Fin 1024 => srcSet c m (rowOf q.val)) f src_sub).2
    isplitl [HR]; · iexact HR
    iexact HZ
  isplitl [HG]; · iexact HG
  isplitl [Hq]; · iexact Hq
  iexact HO

end Rows

end Cert.KernelIdeal.Hand

end

end
-- ==== Proof.Copies.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Loops
public import proofs.«01_k».proof.Proof.Batch
public import Idealize.ShloMosaic.Lib.Pipeline.FrameBody
public import Idealize.ShloMosaic.Lib.Pipeline.FrameValue
public import Idealize.ShloMosaic.Lib.MixedBatch
public import Idealize.ShloMosaic.Lib.Ring
public import Idealize.ShloMosaic.Lib.Tactic
public import Idealize.ShloMosaic.Lib.WordCmp
public import Idealize.ShloMosaic.Lib.ValueIdxCore

@[expose] public section

/-! # The copies of the tokens' rows

A step sends each of its 512 token rows to the two slots its destination words name: 1024 one-row copies issued, sixteen to
a trip, then waited for. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The `k`-th destination word of a step. -/
def dword (X : S1x1x1024.Idx → Elt F .i32) (k : ℕ) : BitVec 32 := X (ValueIdx.ix3 (0 : Fin 1) (0 : Fin 1) (Fin.ofNat 1024 k))

theorem read_dest (X : S1x1x1024.Idx → Elt F .i32) {off : Fin 3 → ℕ} {k : ℕ} (hoff : off = ![0, 0, k]) (hk : k < 1024) {inb h} :
    X ((Rect.unit (s := S1x1x1024) off S1x1x1.size inb).idx (Shape.Idx.first h)) = dword X k := by
  subst hoff
  refine congrArg X ?_
  funext a
  refine Fin.ext ?_
  match a with
  | ⟨0, _⟩ => rfl
  | ⟨1, _⟩ => rfl
  | ⟨2, _⟩ => show k + 1 * 0 = k % 1024; omega

theorem off_dest {t : ℕ} (ht : t < 64) (b p : ℕ) (hb : b ≤ 512) (hp : p < 8) {off : Fin 3 → ℕ}
    (hoff : off = ![0, 0, (Scalar.addi (Scalar.addi (BitVec.ofNat 32 b) (Scalar.muli (Scf.iv 0#32 1#32 t) 8#32)) (BitVec.ofNat 32 p)).toNat]) :
    off = ![0, 0, b + 8 * t + p] := hoff.trans (congrArg (fun n => ![0, 0, n]) (dest_toNat ht b p hb hp))

section Trips

variable {c : Dev nD} {i : grid0.Coords} {arg1 : Memref sig .tc .smem S1x1x1024 .i32} {harg1 : arg1.IsWhole}
  {arg2 : Memref sig .tc .smem S3x33 .i32} {harg2 : arg2.IsWhole} {arg3 : Memref sig .tc .vmem S512x1024 .f32} {harg3 : arg3.IsWhole}
  {harg4 : (Memref.whole main_v0).IsWhole} {harg5 : (Memref.whole cc0_scratch0).IsWhole}
  {q : PosShare TreeShare} {X : S1x1x1024.Idx → Elt F .i32} {f₀ G : Buf (Elt F) (outLoc c)} {f : Buf (Elt F) (arg3.view.loc (c : Thread nD τ))}

/-- The slot of the `q`-th copy. -/
abbrev slotAt (X : S1x1x1024.Idx → Elt F .i32) (q : Fin 1024) : ℕ := (dword X (colOf q.val)).toNat

/-- What the rows written hold: each slot its token's row. -/
def Sends (arg3 : Memref sig .tc .vmem S512x1024 .f32) (X : S1x1x1024.Idx → Elt F .i32) (G : Buf (Elt F) (outLoc c)) (f : Buf (Elt F) (arg3.view.loc (c : Thread nD τ))) : Prop :=
  ∀ (q : Fin 1024) (r : Fin 512), r.val = rowOf q.val → ∀ x : (⟨2, ![147456, 1024]⟩ : Shape).Idx,
    x ∈ rowsAt (N := 147456) (slotAt X q) 1 → G x = arg3.view.read (Elt F) f (ValueIdx.ix2 r (x 1))

variable (hX : ∀ k, (dword X k).toNat < 147456) (hG : Sends arg3 X G f)

include hG in
theorem put_row {t : ℕ} (ht : t < 64) (j p h : ℕ) (hj : j = 2 * p + h) (hp : p < 8) (hh : h < 2)
    {off8 : Fin 2 → ℕ} (hoff8 : off8 = ![8 * t, 0]) {off : Fin 2 → ℕ} (hoff : off = ![(dword X (512 * h + 8 * t + p)).toNat, 0])
    {i8 i8' i1 i1' i4 i4' h1 h2 h3} :
    iprop(owns (c : Thread nD τ) arg1 q X ∗ rState c arg3 (slotAt X) f₀ G f (16 * t + j)) ⊢ run c
      (Prog.lift (TpuEff.enqueueDma ((arg3.slice (Rect.unit (s := S512x1024) off8 ![8, 1024] i8) i8').slice (Rect.unit (s := ⟨2, ![8, 1024]⟩) ![p, 0] ![1, 1024] i1) i1')
        (DmaTarget.here ((Memref.whole main_v0).slice (Rect.unit off ![1, 1024] i4) i4'))
        (SemLoc.dma (SemArray.sem cc0_scratch1)) h1 h2 h3))
      fun _ => iprop(owns (c : Thread nD τ) arg1 q X ∗ rState c arg3 (slotAt X) f₀ G f (16 * t + (j + 1))) := by
  subst hj
  have hq : 16 * t + (2 * p + h) < 1024 := by omega
  have hrow : rowOf (16 * t + (2 * p + h)) = 8 * t + p := by unfold rowOf; omega
  have hcol : colOf (16 * t + (2 * p + h)) = 512 * h + 8 * t + p := by unfold colOf; rw [hrow]; omega
  refine run_frame (issue_row (q := 16 * t + (2 * p + h)) hq hrow (by omega) (fun x hx => ?_) hoff8 ?_)
  · exact hG ⟨_, hq⟩ ⟨8 * t + p, by omega⟩ hrow.symm x hx
  · rw [hoff, ← hcol]

include hX hG
set_option maxHeartbeats 400000 in
theorem rows_a (t : Fin k0_t4_loop.trips) {Q}
    (h : ∀ w, iprop(owns (c : Thread nD τ) arg1 q X ∗ rState c arg3 (slotAt X) f₀ G f (16 * t.val + 3)) ⊢ Q w) :
    iprop(owns (c : Thread nD τ) arg1 q X ∗ rState c arg3 (slotAt X) f₀ G f (16 * t.val + 0)) ⊢ run c (k0_part3 i arg1 harg1 arg2 harg2 arg3 harg3 (Memref.whole main_v0) harg4 (Memref.whole cc0_scratch0) harg5 cc0_scratch1 cc0_scratch2 0#32 1#32 t) Q := by
  have ht : t.val < 64 := t.isLt
  rw [k0_part3_eq_skeleton]; unfold k0_part3_skel
  refine run_read (dword X (0 + 8 * t.val + 0)) (read_dest X (off_dest ht 0 0 (by decide) (by decide) rfl) (by omega)) ?_
  refine run_assume (dest_ok (hX _)) ?_
  refine run_then (put_row hG ht 0 0 0 rfl (by decide) (by decide) (off_src t) rfl) fun _ => ?_
  refine run_read (dword X (512 + 8 * t.val + 0)) (read_dest X (off_dest ht 512 0 (by decide) (by decide) rfl) (by omega)) ?_
  refine run_assume (dest_ok (hX _)) ?_
  refine run_then (put_row hG ht 1 0 1 rfl (by decide) (by decide) (off_src t) rfl) fun _ => ?_
  refine run_read (dword X (0 + 8 * t.val + 1)) (read_dest X (off_dest ht 0 1 (by decide) (by decide) rfl) (by omega)) ?_
  refine run_assume (dest_ok (hX _)) ?_
  refine run_then (put_row hG ht 2 1 0 rfl (by decide) (by decide) (off_src t) rfl) fun _ => ?_
  exact run_ret _ _ (h _)

set_option maxHeartbeats 400000 in
theorem rows_b (t : Fin k0_t4_loop.trips) {v w Q}
    (h : ∀ w, iprop(owns (c : Thread nD τ) arg1 q X ∗ rState c arg3 (slotAt X) f₀ G f (16 * t.val + 6)) ⊢ Q ⟨(dword X (0 + 8 * t.val + 3)), w⟩) :
    iprop(owns (c : Thread nD τ) arg1 q X ∗ rState c arg3 (slotAt X) f₀ G f (16 * t.val + 3)) ⊢ run c (k0_part4 i arg1 harg1 arg2 harg2 arg3 harg3 (Memref.whole main_v0) harg4 (Memref.whole cc0_scratch0) harg5 cc0_scratch1 cc0_scratch2 t v w) Q := by
  have ht : t.val < 64 := t.isLt
  rw [k0_part4_eq_skeleton]; unfold k0_part4_skel
  refine run_read (dword X (512 + 8 * t.val + 1)) (read_dest X (off_dest ht 512 1 (by decide) (by decide) rfl) (by omega)) ?_
  refine run_assume (dest_ok (hX _)) ?_
  refine run_then (put_row hG ht 3 1 1 rfl (by decide) (by decide) (off_src t) rfl) fun _ => ?_
  refine run_read (dword X (0 + 8 * t.val + 2)) (read_dest X (off_dest ht 0 2 (by decide) (by decide) rfl) (by omega)) ?_
  refine run_assume (dest_ok (hX _)) ?_
  refine run_then (put_row hG ht 4 2 0 rfl (by decide) (by decide) (off_src t) rfl) fun _ => ?_
  refine run_read (dword X (512 + 8 * t.val + 2)) (read_dest X (off_dest ht 512 2 (by decide) (by decide) rfl) (by omega)) ?_
  refine run_assume (dest_ok (hX _)) ?_
  refine run_then (put_row hG ht 5 2 1 rfl (by decide) (by decide) (off_src t) rfl) fun _ => ?_
  refine run_read (dword X (0 + 8 * t.val + 3)) (read_dest X (off_dest ht 0 3 (by decide) (by decide) rfl) (by omega)) ?_
  refine run_assume (dest_ok (hX _)) ?_
  exact run_ret _ _ (h _)

set_option maxHeartbeats 400000 in
theorem rows_c (t : Fin k0_t4_loop.trips) {v w Q}
    (h : ∀ w, iprop(owns (c : Thread nD τ) arg1 q X ∗ rState c arg3 (slotAt X) f₀ G f (16 * t.val + 10)) ⊢ Q w) :
    iprop(owns (c : Thread nD τ) arg1 q X ∗ rState c arg3 (slotAt X) f₀ G f (16 * t.val + 6)) ⊢ run c (k0_part5 i arg1 harg1 arg2 harg2 arg3 harg3 (Memref.whole main_v0) harg4 (Memref.whole cc0_scratch0) harg5 cc0_scratch1 cc0_scratch2 t v (dword X (0 + 8 * t.val + 3)) w) Q := by
  have ht : t.val < 64 := t.isLt
  rw [k0_part5_eq_skeleton]; unfold k0_part5_skel
  refine run_then (put_row hG ht 6 3 0 rfl (by decide) (by decide) (off_src t) rfl) fun _ => ?_
  refine run_read (dword X (512 + 8 * t.val + 3)) (read_dest X (off_dest ht 512 3 (by decide) (by decide) rfl) (by omega)) ?_
  refine run_assume (dest_ok (hX _)) ?_
  refine run_then (put_row hG ht 7 3 1 rfl (by decide) (by decide) (off_src t) rfl) fun _ => ?_
  refine run_read (dword X (0 + 8 * t.val + 4)) (read_dest X (off_dest ht 0 4 (by decide) (by decide) rfl) (by omega)) ?_
  refine run_assume (dest_ok (hX _)) ?_
  refine run_then (put_row hG ht 8 4 0 rfl (by decide) (by decide) (off_src t) rfl) fun _ => ?_
  refine run_read (dword X (512 + 8 * t.val + 4)) (read_dest X (off_dest ht 512 4 (by decide) (by decide) rfl) (by omega)) ?_
  refine run_assume (dest_ok (hX _)) ?_
  refine run_then (put_row hG ht 9 4 1 rfl (by decide) (by decide) (off_src t) rfl) fun _ => ?_
  exact run_ret _ _ (h _)

set_option maxHeartbeats 400000 in
theorem rows_d (t : Fin k0_t4_loop.trips) {v w Q}
    (h : ∀ w, iprop(owns (c : Thread nD τ) arg1 q X ∗ rState c arg3 (slotAt X) f₀ G f (16 * t.val + 13)) ⊢ Q ⟨(dword X (512 + 8 * t.val + 6)), w⟩) :
    iprop(owns (c : Thread nD τ) arg1 q X ∗ rState c arg3 (slotAt X) f₀ G f (16 * t.val + 10)) ⊢ run c (k0_part6 i arg1 harg1 arg2 harg2 arg3 harg3 (Memref.whole main_v0) harg4 (Memref.whole cc0_scratch0) harg5 cc0_scratch1 cc0_scratch2 t v w) Q := by
  have ht : t.val < 64 := t.isLt
  rw [k0_part6_eq_skeleton]; unfold k0_part6_skel
  refine run_read (dword X (0 + 8 * t.val + 5)) (read_dest X (off_dest ht 0 5 (by decide) (by decide) rfl) (by omega)) ?_
  refine run_assume (dest_ok (hX _)) ?_
  refine run_then (put_row hG ht 10 5 0 rfl (by decide) (by decide) (off_src t) rfl) fun _ => ?_
  refine run_read (dword X (512 + 8 * t.val + 5)) (read_dest X (off_dest ht 512 5 (by decide) (by decide) rfl) (by omega)) ?_
  refine run_assume (dest_ok (hX _)) ?_
  refine run_then (put_row hG ht 11 5 1 rfl (by decide) (by decide) (off_src t) rfl) fun _ => ?_
  refine run_read (dword X (0 + 8 * t.val + 6)) (read_dest X (off_dest ht 0 6 (by decide) (by decide) rfl) (by omega)) ?_
  refine run_assume (dest_ok (hX _)) ?_
  refine run_then (put_row hG ht 12 6 0 rfl (by decide) (by decide) (off_src t) rfl) fun _ => ?_
  refine run_read (dword X (512 + 8 * t.val + 6)) (read_dest X (off_dest ht 512 6 (by decide) (by decide) rfl) (by omega)) ?_
  refine run_assume (dest_ok (hX _)) ?_
  exact run_ret _ _ (h _)

set_option maxHeartbeats 400000 in
/-- One trip of the issuing loop: the copies of eight token rows. -/
theorem t4_trip (t : Fin k0_t4_loop.trips) :
    iprop(owns (c : Thread nD τ) arg1 q X ∗ rState c arg3 (slotAt X) f₀ G f (16 * t.val)) ⊢ run c (k0_t4_body i arg1 harg1 arg2 harg2 arg3 harg3 (Memref.whole main_v0) harg4 (Memref.whole cc0_scratch0) harg5 cc0_scratch1 cc0_scratch2 t ())
      fun _ => iprop(owns (c : Thread nD τ) arg1 q X ∗ rState c arg3 (slotAt X) f₀ G f (16 * (t.val + 1))) := by
  have ht : t.val < 64 := t.isLt
  unfold k0_t4_body
  refine run_bind (rows_a hX hG t fun w => ?_)
  refine run_bind (rows_b hX hG t fun w => ?_)
  refine run_bind (rows_c hX hG t fun w => ?_)
  refine run_bind (rows_d hX hG t fun w => ?_)
  refine run_then (put_row hG ht 13 6 1 rfl (by decide) (by decide) (off_src t) rfl) fun _ => ?_
  refine run_read (dword X (0 + 8 * t.val + 7)) (read_dest X (off_dest ht 0 7 (by decide) (by decide) rfl) (by omega)) ?_
  refine run_assume (dest_ok (hX _)) ?_
  refine run_then (put_row hG ht 14 7 0 rfl (by decide) (by decide) (off_src t) rfl) fun _ => ?_
  refine run_read (dword X (512 + 8 * t.val + 7)) (read_dest X (off_dest ht 512 7 (by decide) (by decide) rfl) (by omega)) ?_
  refine run_assume (dest_ok (hX _)) ?_
  refine run_then (put_row hG ht 15 7 1 rfl (by decide) (by decide) (off_src t) rfl) fun _ => ?_
  exact run_ret _ _ .rfl

omit hX hG in
set_option maxHeartbeats 400000 in
/-- One trip of the waiting loop: two of the copies. -/
theorem t5_trip (t : Fin k0_t5_loop.trips) :
    rWaited c arg3 (slotAt X) G f (2 * t.val) ⊢ run c (k0_t5_body i arg1 harg1 arg2 harg2 arg3 harg3 (Memref.whole main_v0) harg4 (Memref.whole cc0_scratch0) harg5 cc0_scratch1 cc0_scratch2 t ())
      fun _ => rWaited c arg3 (slotAt X) G f (2 * (t.val + 1)) := by
  have ht : t.val < 512 := t.isLt
  unfold k0_t5_body
  refine run_then (wait_row (k := 2 * t.val) (by omega)) fun _ => ?_
  refine run_then (wait_row (k := 2 * t.val + 1) (by omega)) fun _ => ?_
  exact run_ret _ _ .rfl

/-- The row copies of a step, issued and waited for. -/
theorem rows_run {β : Type} {R : sProp 𝕄} {k : Unit → Prog (TpuEff nD τ sig (Elt F) Λ₀ .tc) β} {Q : β → sProp 𝕄} {ok4 ok5}
    (hk : iprop(R ∗ owns (c : Thread nD τ) arg1 q X ∗ (arg3.view.loc (c : Thread nD τ) ↦[arg3.view.set]{fullShare} f) ∗ slots c (slotAt X) G
      ∗ semVal ((c : Thread nD τ), SemLoc.dma 5) 0 ∗ ∃ W, owes (c : Thread nD τ) 0 W) ⊢ run c (k ()) Q) :
    iprop(R ∗ owns (c : Thread nD τ) arg1 q X ∗ (arg3.view.loc (c : Thread nD τ) ↦[arg3.view.set]{fullShare} f) ∗ slots c (slotAt X) f₀
      ∗ semVal ((c : Thread nD τ), SemLoc.dma 5) 0 ∗ ∃ W, owes (c : Thread nD τ) 0 W) ⊢ run c
      (Scf.Loop.for k0_t4_loop ok4 () (k0_t4_body i arg1 harg1 arg2 harg2 arg3 harg3 (Memref.whole main_v0) harg4 (Memref.whole cc0_scratch0) harg5 cc0_scratch1 cc0_scratch2) >>= fun _ =>
        Scf.Loop.for k0_t5_loop ok5 () (k0_t5_body i arg1 harg1 arg2 harg2 arg3 harg3 (Memref.whole main_v0) harg4 (Memref.whole cc0_scratch0) harg5 cc0_scratch1 cc0_scratch2) >>= k) Q := by
  have mid : iprop((R ∗ (∃ W, owes (c : Thread nD τ) 0 W) ∗ rRest c arg3 f) ∗ owns (c : Thread nD τ) arg1 q X ∗ rState c arg3 (slotAt X) f₀ G f (16 * 0))
      ⊢ run c (Scf.Loop.for k0_t4_loop ok4 () (k0_t4_body i arg1 harg1 arg2 harg2 arg3 harg3 (Memref.whole main_v0) harg4 (Memref.whole cc0_scratch0) harg5 cc0_scratch1 cc0_scratch2) >>= fun _ =>
        Scf.Loop.for k0_t5_loop ok5 () (k0_t5_body i arg1 harg1 arg2 harg2 arg3 harg3 (Memref.whole main_v0) harg4 (Memref.whole cc0_scratch0) harg5 cc0_scratch1 cc0_scratch2) >>= k) Q := by
    refine run_for (fun t => iprop((R ∗ (∃ W, owes (c : Thread nD τ) 0 W) ∗ rRest c arg3 f) ∗ owns (c : Thread nD τ) arg1 q X ∗ rState c arg3 (slotAt X) f₀ G f (16 * t)))
      (fun t => run_frame (t4_trip hX hG t)) ?_
    refine BIBase.Entails.trans (Q := iprop((R ∗ owns (c : Thread nD τ) arg1 q X ∗ rRest c arg3 f) ∗ rWaited c arg3 (slotAt X) G f (2 * 0))) ?_ ?_
    · iintro ⟨⟨HR, HO, HT⟩, HA, HS⟩
      isplitl [HR HA HT]
      · isplitl [HR]; · iexact HR
        isplitl [HA]; · iexact HA
        iexact HT
      iapply rows_turn
      isplitl [HS]; · iexact HS
      iexact HO
    refine run_for (fun t => iprop((R ∗ owns (c : Thread nD τ) arg1 q X ∗ rRest c arg3 f) ∗ rWaited c arg3 (slotAt X) G f (2 * t)))
      (fun t => run_frame (t5_trip t)) ?_
    refine run_upd ?_ hk
    iintro ⟨⟨HR, HA, HT⟩, HW⟩
    imod rows_finish $$ [HT HW] with ⟨HM, HS, Hq, HO⟩
    · isplitl [HT]; · iexact HT
      iexact HW
    imodintro
    isplitl [HR]; · iexact HR
    isplitl [HA]; · iexact HA
    isplitl [HM]; · iexact HM
    isplitl [HS]; · iexact HS
    isplitl [Hq]; · iexact Hq
    iexact HO
  refine run_upd ?_ mid
  iintro ⟨HR, HA, HM, HS, Hq, HO⟩
  imod rows_start $$ [HM HS Hq] with ⟨HT, HS⟩
  · isplitl [HM]; · iexact HM
    isplitl [HS]; · iexact HS
    iexact Hq
  imodintro
  isplitl [HR HO HT]
  · isplitl [HR]; · iexact HR
    isplitl [HO]; · iexact HO
    iexact HT
  isplitl [HA]; · iexact HA
  iexact HS

end Trips

end Cert.KernelIdeal.Hand

end

end
-- ==== Proof.Body.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Copies
public import Idealize.ShloMosaic.Lib.Pipeline.FrameBody
public import Idealize.ShloMosaic.Lib.Pipeline.FrameValue
public import Idealize.ShloMosaic.Lib.MixedBatch
public import Idealize.ShloMosaic.Lib.Ring
public import Idealize.ShloMosaic.Lib.Tactic
public import Idealize.ShloMosaic.Lib.WordCmp
public import Idealize.ShloMosaic.Lib.ValueIdxCore

@[expose] public section

/-! # The kernel's body

One step of the grid: the first step zeroes the scratch and issues the copies of the zeros, every step copies its tokens'
rows, and the first step then waits for the copies of the zeros. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The scratch's contents once zeroed. -/
def zeros (c : Dev nD) : Buf (Elt F) (zbufLoc c) := fun _ => Scalar.ofBits .f32 0#32

section Blocks

variable {c : Dev nD} {i : grid0.Coords} {arg1 : Memref sig .tc .smem S1x1x1024 .i32} {harg1 : arg1.IsWhole}
  {arg2 : Memref sig .tc .smem S3x33 .i32} {harg2 : arg2.IsWhole} {arg3 : Memref sig .tc .vmem S512x1024 .f32} {harg3 : arg3.IsWhole}
  {harg4 : (Memref.whole main_v0).IsWhole} {harg5 : (Memref.whole cc0_scratch0).IsWhole}
  {q : PosShare TreeShare} {X : S3x33.Idx → Elt F .i32} {P : Fill}
  {f₀ G : Buf (Elt F) (outLoc c)} {z : Buf (Elt F) (zbufLoc c)}

theorem zero_load {inb hl} :
    (iprop(∃ z : Buf (Elt F) (zbufLoc c), zbufLoc c ↦{fullShare} z) : sProp 𝕄) ⊢ run c
      (Prog.lift (.load (Memref.whole cc0_scratch0) (Rect.unit (s := S512x1024) ![0, 0] S512x1024.size inb).toLoadRect hl))
      fun _ => iprop(∃ z : Buf (Elt F) (zbufLoc c), zbufLoc c ↦{fullShare} z) := by
  iintro ⟨%z, HZ⟩
  iapply (wp_load Variants.none (c : Thread nD τ) none Set.univ (m := Memref.whole cc0_scratch0) (S := Finset.univ) (f := z) (Finset.subset_univ _)) $$ HZ
  iintro HZ
  iapply (run_ret _ _ .rfl)
  iexists z; iexact HZ

theorem zero_store {inb hx hm} :
    (iprop(∃ z : Buf (Elt F) (zbufLoc c), zbufLoc c ↦{fullShare} z) : sProp 𝕄) ⊢ run c
      (Prog.lift (.store (Memref.whole cc0_scratch0) (Rect.unit (s := S512x1024) ![0, 0] S512x1024.size inb) (k0_pay1 (F := F)) Finset.univ hx hm))
      fun _ => (zbufLoc c ↦{fullShare} zeros c) := by
  iintro ⟨%z, HZ⟩
  have e : ((Memref.whole cc0_scratch0).access (Rect.unit (s := S512x1024) ![0, 0] S512x1024.size inb)).write (Elt F) z (k0_pay1 (F := F)) Finset.univ = zeros c :=
    (Memref.write_access_unit_zero_univ (Elt F) cc0_scratch0 (funext fun a => by fin_cases a <;> rfl) inb z _).trans rfl
  iapply (wp_store Variants.none (c : Thread nD τ) none Set.univ (m := Memref.whole cc0_scratch0) (r := Rect.unit (s := S512x1024) ![0, 0] S512x1024.size inb) (S := Finset.univ) (f := z) (Finset.subset_univ _)) $$ HZ
  iintro HZ
  rw [e]
  iapply (run_ret _ _ .rfl)
  iexact HZ

variable (hX : Words X P)
include hX

theorem t2_trip (h1 : k0_cond1 i = 1#1) {v : BitVec 32} (hv : v.toNat = 288 - P.used) (hw : k0_chk3 i v) (t : Fin (k0_t2_loop v).trips)
    (hG : ∀ p ∈ P.all, ∀ (x : (⟨2, ![147456, 1024]⟩ : Shape).Idx) (y), x ∈ rowsAt (N := 147456) p.1 p.2 → G x = z y) :
    iprop(owns (c : Thread nD τ) arg2 q X ∗ issued c P.all f₀ G z (P.ofExperts 32 ++ P.ofBlocks t.val)) ⊢ run c (k0_t2_body i arg1 harg1 arg2 harg2 arg3 harg3 (Memref.whole main_v0) harg4 (Memref.whole cc0_scratch0) harg5 cc0_scratch1 cc0_scratch2 h1 v hw t ())
      fun _ => iprop(owns (c : Thread nD τ) arg2 q X ∗ issued c P.all f₀ G z (P.ofExperts 32 ++ P.ofBlocks (t.val + 1))) := by
  have ht : t.val < 288 - P.used := by
    have h := t.isLt
    have e := (loops_of (v := v) (by omega)).1.2
    omega
  have hu : (word X 0 32).toNat + t.val < 288 := by rw [hX.used]; omega
  unfold k0_t2_body
  refine run_read (word X 0 32) (read_fill X (r := 0) rfl (by omega)) ?_
  refine run_assume (chk4_ok i hu) ?_
  refine run_then (run_frame (issue_next (r := (P.used + t.val) * 512) (n := 512) (by rw [Fill.ofBlocks, List.append_assoc]) (P.blocks_prefix ht) hG
    (by rw [← hX.used]; exact off17_eq hu))) fun _ => ?_
  exact run_ret _ _ .rfl

theorem t7_trip (h15 : k0_cond15 i = 1#1) {v : BitVec 32} (hv : v.toNat = 288 - P.used) (hw : k0_chk24 i v) (t : Fin (k0_t7_loop v).trips) :
    iprop(owns (c : Thread nD τ) arg2 q X ∗ waited c P.all G z (P.ofExperts 32 ++ P.ofBlocks t.val)) ⊢ run c (k0_t7_body i arg1 harg1 arg2 harg2 arg3 harg3 (Memref.whole main_v0) harg4 (Memref.whole cc0_scratch0) harg5 cc0_scratch1 cc0_scratch2 h15 v hw t ())
      fun _ => iprop(owns (c : Thread nD τ) arg2 q X ∗ waited c P.all G z (P.ofExperts 32 ++ P.ofBlocks (t.val + 1))) := by
  have ht : t.val < 288 - P.used := by
    have h : t.val < (k0_t2_loop v).trips := t.isLt
    have e := (loops_of (v := v) (by omega)).1.2
    omega
  have hu : (word X 0 32).toNat + t.val < 288 := by rw [hX.used]; omega
  unfold k0_t7_body
  refine run_read (word X 0 32) (read_fill X (r := 0) rfl (by omega)) ?_
  refine run_assume (chk25_ok i hu) ?_
  refine run_then (run_frame (wait_next (r := (P.used + t.val) * 512) (n := 512) (by rw [Fill.ofBlocks, List.append_assoc]) (P.blocks_prefix ht))) fun _ => ?_
  exact run_ret _ _ .rfl

variable {q₁ : PosShare TreeShare} {X₁ : S1x1x1024.Idx → Elt F .i32} {f : Buf (Elt F) (arg3.view.loc (c : Thread nD τ))}

omit hX in
/-- A slot of a piece is one left over. -/
theorem pad_of_piece (hZ : ∀ x, P.Pad (x 0).val → G x = Scalar.ofBits .f32 0#32) :
    ∀ p ∈ P.all, ∀ (x : (⟨2, ![147456, 1024]⟩ : Shape).Idx) (y), x ∈ rowsAt (N := 147456) p.1 p.2 → G x = zeros (F := F) c y :=
  fun p hp x _ hx => hZ x ((P.all_tiles.fills _).2 ⟨p, hp, mem_rowsOf.1 hx⟩)

omit hX in
theorem piece_pos (t : Fin P.all.length) : 0 < zAmt P.all t := credit_pos (P.all_pos _ (List.getElem_mem t.isLt))

/-- What a step starts with, the first one the slots left over as they were; -/
def bodyRest (c : Dev nD) (P : Fill) (g : Buf (Elt F) (outLoc c)) : sProp 𝕄 :=
  iprop((∃ z, zbufLoc c ↦{fullShare} z) ∗ (outLoc c ↦[rowsOf (N := 147456) P.Pad]{fullShare} g) ∗ semVal ((c : Thread nD τ), SemLoc.dma 6) 0)

/-- What a step holds of its windows and of the rows it writes. -/
def own (c : Dev nD) (arg1 : Memref sig .tc .smem S1x1x1024 .i32) (arg3 : Memref sig .tc .vmem S512x1024 .f32) (q₁ : PosShare TreeShare)
    (X₁ : S1x1x1024.Idx → Elt F .i32) (f : Buf (Elt F) (arg3.view.loc (c : Thread nD τ))) (g : Buf (Elt F) (outLoc c)) : sProp 𝕄 :=
  iprop(owns (c : Thread nD τ) arg1 q₁ X₁ ∗ (arg3.view.loc (c : Thread nD τ) ↦[arg3.view.set]{fullShare} f) ∗ slots c (slotAt X₁) g ∗ semVal ((c : Thread nD τ), SemLoc.dma 5) 0)

omit hX in
theorem rows_run' (hX₁ : ∀ k, (dword X₁ k).toNat < 147456) (hG : Sends arg3 X₁ G f)
    {β : Type} {R : sProp 𝕄} {k : Unit → Prog (TpuEff nD τ sig (Elt F) Λ₀ .tc) β} {Q : β → sProp 𝕄} {ok4 ok5}
    (hk : iprop(R ∗ own c arg1 arg3 q₁ X₁ f G ∗ (∃ W, owes (c : Thread nD τ) 0 W)) ⊢ run c (k ()) Q) :
    iprop(R ∗ own c arg1 arg3 q₁ X₁ f f₀ ∗ (∃ W, owes (c : Thread nD τ) 0 W)) ⊢ run c
      (Scf.Loop.for k0_t4_loop ok4 () (k0_t4_body i arg1 harg1 arg2 harg2 arg3 harg3 (Memref.whole main_v0) harg4 (Memref.whole cc0_scratch0) harg5 cc0_scratch1 cc0_scratch2) >>= fun _ =>
        Scf.Loop.for k0_t5_loop ok5 () (k0_t5_body i arg1 harg1 arg2 harg2 arg3 harg3 (Memref.whole main_v0) harg4 (Memref.whole cc0_scratch0) harg5 cc0_scratch1 cc0_scratch2) >>= k) Q := by
  refine BIBase.Entails.trans ?_ (rows_run (arg2 := arg2) (q := q₁) (R := R) (f₀ := f₀) hX₁ hG (BIBase.Entails.trans ?_ hk))
  · unfold own
    iintro ⟨HR, ⟨HA, HM, HS, Hq⟩, HW⟩
    isplitl [HR]
    · iexact HR
    isplitl [HA]
    · iexact HA
    isplitl [HM]
    · iexact HM
    isplitl [HS]
    · iexact HS
    isplitl [Hq]
    · iexact Hq
    iexact HW
  · unfold own
    iintro ⟨HR, HA, HM, HS, Hq, HW⟩
    isplitl [HR]
    · iexact HR
    isplitl [HA HM HS Hq]
    · isplitl [HA]
      · iexact HA
      isplitl [HM]
      · iexact HM
      isplitl [HS]
      · iexact HS
      iexact Hq
    iexact HW

/-- The body of a step: the slots of its tokens' rows come to hold them, and the slots left over hold zeros once the first
    step has run. -/
theorem body_run (hX₁ : ∀ k, (dword X₁ k).toNat < 147456) (hG : Sends arg3 X₁ G f) (hZ : ∀ x, P.Pad (x 0).val → G x = Scalar.ofBits .f32 0#32) :
    iprop((own c arg1 arg3 q₁ X₁ f f₀ ∗ (∃ W, owes (c : Thread nD τ) 0 W)) ∗ owns (c : Thread nD τ) arg2 q X ∗ bodyRest c P (if (i 0).val = 0 then f₀ else G)) ⊢ run c
      (cc0_dispatch (F := F) i arg1 harg1 arg2 harg2 arg3 harg3 (Memref.whole main_v0) harg4 (Memref.whole cc0_scratch0) harg5 cc0_scratch1 cc0_scratch2)
      fun _ => iprop((own c arg1 arg3 q₁ X₁ f G ∗ (∃ W, owes (c : Thread nD τ) 0 W)) ∗ owns (c : Thread nD τ) arg2 q X ∗ bodyRest c P G) := by
  rw [cc0_dispatch_eq_skeleton]; unfold cc0_dispatch_skel
  by_cases h0 : (i 0).val = 0
  · have h1 := (cond_first i).2 h0
    have h15 := (cond_again i).2 h0
    have hv : (word X 1 32).toNat < 289 := by rw [hX.unused]; omega
    have hGz := pad_of_piece (F := F) (P := P) hZ
    simp only [dif_pos h1, dif_pos h15]
    rw [if_pos h0]
    unfold bodyRest
    refine BIBase.Entails.trans (Q := iprop((own c arg1 arg3 q₁ X₁ f f₀ ∗ (∃ W, owes (c : Thread nD τ) 0 W) ∗ owns (c : Thread nD τ) arg2 q X ∗ (outLoc c ↦[rowsOf (N := 147456) P.Pad]{fullShare} f₀) ∗ semVal ((c : Thread nD τ), SemLoc.dma 6) 0) ∗ ∃ z, zbufLoc c ↦{fullShare} z)) ?_ ?_
    · iintro ⟨⟨HA, HW⟩, HO, HZ, HP, Hq⟩
      isplitl [HA HW HO HP Hq]
      · isplitl [HA]
        · iexact HA
        isplitl [HW]
        · iexact HW
        isplitl [HO]
        · iexact HO
        isplitl [HP]
        · iexact HP
        iexact Hq
      iexact HZ
    refine run_then (run_frame zero_load) fun _ => ?_
    refine run_then (run_frame zero_store) fun _ => ?_
    refine run_upd (P' := iprop((own c arg1 arg3 q₁ X₁ f f₀ ∗ (∃ W, owes (c : Thread nD τ) 0 W) ∗ zRest c P.all (zeros c)) ∗ owns (c : Thread nD τ) arg2 q X ∗ issued c P.all f₀ G (zeros c) (P.ofExperts 0))) ?_ ?_
    · iintro ⟨⟨HA, HW, HO, HP, Hq⟩, HZ⟩
      imod (zero_start (G := G) P.all_tiles) $$ [HZ HP Hq] with ⟨HR, HI⟩
      · isplitl [HZ]; · iexact HZ
        isplitl [HP]; · iexact HP
        iexact Hq
      imodintro
      isplitl [HA HW HR]
      · isplitl [HA]
        · iexact HA
        isplitl [HW]
        · iexact HW
        iexact HR
      isplitl [HO]
      · iexact HO
      iexact HI
    refine run_for (fun t => iprop((own c arg1 arg3 q₁ X₁ f f₀ ∗ (∃ W, owes (c : Thread nD τ) 0 W) ∗ zRest c P.all (zeros c)) ∗ owns (c : Thread nD τ) arg2 q X ∗ issued c P.all f₀ G (zeros c) (P.ofExperts t))) (fun t => run_frame (t1_trip hX h1 t hGz)) ?_
    refine BIBase.Entails.trans (Q := iprop(owns (c : Thread nD τ) arg2 q X ∗ (own c arg1 arg3 q₁ X₁ f f₀ ∗ (∃ W, owes (c : Thread nD τ) 0 W) ∗ zRest c P.all (zeros c)) ∗ issued c P.all f₀ G (zeros c) (P.ofExperts 32))) ?_ ?_
    · iintro ⟨HF, HO, HI⟩
      isplitl [HO]
      · iexact HO
      isplitl [HF]
      · iexact HF
      iexact HI
    refine run_read (word X 1 32) (read_fill X (r := 1) rfl (by omega)) ?_
    refine run_assume (chk3_ok i hv) ?_
    refine BIBase.Entails.trans (Q := iprop((own c arg1 arg3 q₁ X₁ f f₀ ∗ (∃ W, owes (c : Thread nD τ) 0 W) ∗ zRest c P.all (zeros c)) ∗ owns (c : Thread nD τ) arg2 q X ∗ issued c P.all f₀ G (zeros c) (P.ofExperts 32 ++ P.ofBlocks 0))) ?_ ?_
    · rw [show P.ofExperts 32 ++ P.ofBlocks 0 = P.ofExperts 32 from List.append_nil _]
      iintro ⟨HO, HF, HI⟩
      isplitl [HF]
      · iexact HF
      isplitl [HO]
      · iexact HO
      iexact HI
    refine run_for (fun t => iprop((own c arg1 arg3 q₁ X₁ f f₀ ∗ (∃ W, owes (c : Thread nD τ) 0 W) ∗ zRest c P.all (zeros c)) ∗ owns (c : Thread nD τ) arg2 q X ∗ issued c P.all f₀ G (zeros c) (P.ofExperts 32 ++ P.ofBlocks t))) (fun t => run_frame (t2_trip hX h1 hX.unused _ t hGz)) ?_
    rw [(loops_of hv).1.2, hX.unused, ← Fill.all]
    refine run_for (fun _ => iprop((own c arg1 arg3 q₁ X₁ f f₀ ∗ (∃ W, owes (c : Thread nD τ) 0 W) ∗ zRest c P.all (zeros c)) ∗ owns (c : Thread nD τ) arg2 q X ∗ issued c P.all f₀ G (zeros c) (P.all))) (fun t => absurd t.isLt (by have e := (loops_of hv).2.2; omega)) ?_
    refine BIBase.Entails.trans (Q := iprop((zRest c P.all (zeros c) ∗ owns (c : Thread nD τ) arg2 q X ∗ issued c P.all f₀ G (zeros c) (P.all)) ∗ own c arg1 arg3 q₁ X₁ f f₀ ∗ (∃ W, owes (c : Thread nD τ) 0 W))) ?_ ?_
    · iintro ⟨⟨HA, HW, HR⟩, HO, HI⟩
      isplitl [HR HO HI]
      · isplitl [HR]
        · iexact HR
        isplitl [HO]
        · iexact HO
        iexact HI
      isplitl [HA]
      · iexact HA
      iexact HW
    refine rows_run' hX₁ hG ?_
    refine BIBase.Entails.trans (Q := iprop((own c arg1 arg3 q₁ X₁ f G ∗ zRest c P.all (zeros c)) ∗ owns (c : Thread nD τ) arg2 q X ∗ waited c P.all G (zeros c) (P.ofExperts 0))) ?_ ?_
    · iintro ⟨⟨HR, HO, HI⟩, HA, HW⟩
      isplitl [HA HR]
      · isplitl [HA]
        · iexact HA
        iexact HR
      isplitl [HO]
      · iexact HO
      iapply zero_turn
      isplitl [HI]
      · iexact HI
      iexact HW
    refine run_for (fun t => iprop((own c arg1 arg3 q₁ X₁ f G ∗ zRest c P.all (zeros c)) ∗ owns (c : Thread nD τ) arg2 q X ∗ waited c P.all G (zeros c) (P.ofExperts t))) (fun t => run_frame (t6_trip hX h15 t)) ?_
    refine BIBase.Entails.trans (Q := iprop(owns (c : Thread nD τ) arg2 q X ∗ (own c arg1 arg3 q₁ X₁ f G ∗ zRest c P.all (zeros c)) ∗ waited c P.all G (zeros c) (P.ofExperts 32))) ?_ ?_
    · iintro ⟨HF, HO, HI⟩
      isplitl [HO]
      · iexact HO
      isplitl [HF]
      · iexact HF
      iexact HI
    refine run_read (word X 1 32) (read_fill X (r := 1) rfl (by omega)) ?_
    refine run_assume (chk24_ok i hv) ?_
    refine BIBase.Entails.trans (Q := iprop((own c arg1 arg3 q₁ X₁ f G ∗ zRest c P.all (zeros c)) ∗ owns (c : Thread nD τ) arg2 q X ∗ waited c P.all G (zeros c) (P.ofExperts 32 ++ P.ofBlocks 0))) ?_ ?_
    · rw [show P.ofExperts 32 ++ P.ofBlocks 0 = P.ofExperts 32 from List.append_nil _]
      iintro ⟨HO, HF, HI⟩
      isplitl [HF]
      · iexact HF
      isplitl [HO]
      · iexact HO
      iexact HI
    refine run_for (fun t => iprop((own c arg1 arg3 q₁ X₁ f G ∗ zRest c P.all (zeros c)) ∗ owns (c : Thread nD τ) arg2 q X ∗ waited c P.all G (zeros c) (P.ofExperts 32 ++ P.ofBlocks t))) (fun t => run_frame (t7_trip hX h15 hX.unused _ t)) ?_
    rw [show (k0_t7_loop (word X 1 32)).trips = 288 - P.used from (loops_of hv).1.2.trans hX.unused, ← Fill.all]
    refine run_for (fun _ => iprop((own c arg1 arg3 q₁ X₁ f G ∗ zRest c P.all (zeros c)) ∗ owns (c : Thread nD τ) arg2 q X ∗ waited c P.all G (zeros c) (P.all))) (fun t => absurd t.isLt (by have e : (k0_t8_loop (word X 1 32)).trips = 0 := (loops_of hv).2.2; omega)) ?_
    refine run_upd (P' := iprop((own c arg1 arg3 q₁ X₁ f G ∗ (∃ W, owes (c : Thread nD τ) 0 W)) ∗ owns (c : Thread nD τ) arg2 q X ∗ (∃ z, zbufLoc c ↦{fullShare} z) ∗ (outLoc c ↦[rowsOf (N := 147456) P.Pad]{fullShare} G) ∗ semVal ((c : Thread nD τ), SemLoc.dma 6) 0)) ?_ (run_ret _ _ .rfl)
    iintro ⟨⟨HA, HR⟩, HO, HI⟩
    imod (zero_finish P.all_tiles piece_pos) $$ [HR HI] with ⟨HZ, HP, Hq, HW⟩
    · isplitl [HR]; · iexact HR
      iexact HI
    imodintro
    isplitl [HA HW]
    · isplitl [HA]
      · iexact HA
      iexact HW
    isplitl [HO]
    · iexact HO
    isplitl [HZ]
    · iexists _; iexact HZ
    isplitl [HP]
    · iexact HP
    iexact Hq
  · have h1 := mt (cond_first i).1 h0
    have h15 := mt (cond_again i).1 h0
    simp only [dif_neg h1, dif_neg h15]
    rw [if_neg h0]
    refine BIBase.Entails.trans (Q := iprop((owns (c : Thread nD τ) arg2 q X ∗ bodyRest c P G) ∗ own c arg1 arg3 q₁ X₁ f f₀ ∗ (∃ W, owes (c : Thread nD τ) 0 W))) ?_ ?_
    · iintro ⟨⟨HA, HW⟩, HO, HB⟩
      isplitl [HO HB]
      · isplitl [HO]
        · iexact HO
        iexact HB
      isplitl [HA]
      · iexact HA
      iexact HW
    refine rows_run' hX₁ hG (run_ret _ _ ?_)
    iintro ⟨⟨HO, HB⟩, HA, HW⟩
    isplitl [HA HW]
    · isplitl [HA]
      · iexact HA
      iexact HW
    isplitl [HO]
    · iexact HO
    iexact HB

end Blocks

end Cert.KernelIdeal.Hand

end

end
-- ==== Proof.Target.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Body
public import Idealize.ShloMosaic.Lib.Pipeline.FrameBody
public import Idealize.ShloMosaic.Lib.Pipeline.FrameValue
public import Idealize.ShloMosaic.Lib.MixedBatch
public import Idealize.ShloMosaic.Lib.Ring
public import Idealize.ShloMosaic.Lib.Tactic
public import Idealize.ShloMosaic.Lib.WordCmp
public import Idealize.ShloMosaic.Lib.ValueIdxCore

@[expose] public section

/-! # The array the kernel is to leave

Row by row: a slot some assignment names holds that assignment's token row, any other slot zeros. The rows of the array
fall into the slots of each step and the slots left over. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The slot of step `i`'s `k`-th assignment. -/
def slotOf (D : S128x1x1024.Idx → Elt F .i32) (i : Fin 128) (k : Fin 1024) : ℕ := BitVec.toNat (w := 32) (D (ValueIdx.ix3 i (0 : Fin 1) k))

/-- What is asked of the two arrays of words: the slots are one to one, and the ranges the fill words name are the slots left over. -/
structure Ready (D : S128x1x1024.Idx → Elt F .i32) (W : S3x33.Idx → Elt F .i32) (P : Fill) : Prop where
  words : Words W P
  lt : ∀ i k, slotOf D i k < 147456
  inj : ∀ i k i' k', slotOf D i k = slotOf D i' k' → i = i' ∧ k = k'
  pad : ∀ s < 147456, P.Pad s ↔ ∀ i k, slotOf D i k ≠ s

/-- The token row of step `i`'s `k`-th assignment. -/
def tokenOf (i : Fin 128) (k : Fin 1024) : Fin 65536 := ⟨512 * i.val + k.val % 512, by omega⟩

open Classical in
/-- The array. -/
def target (D : S128x1x1024.Idx → Elt F .i32) (H : S65536x1024.Idx → Elt F .f32) : S147456x1024.Idx → Elt F .f32 := fun x =>
  if h : ∃ p : Fin 128 × Fin 1024, slotOf D p.1 p.2 = (x 0).val then H (ValueIdx.ix2 (tokenOf h.choose.1 h.choose.2) (x 1))
  else Scalar.ofBits .f32 0#32

section

variable {D : S128x1x1024.Idx → Elt F .i32} {W : S3x33.Idx → Elt F .i32} {P : Fill} (hR : Ready D W P)
include hR

theorem target_hit (H : S65536x1024.Idx → Elt F .f32) {i : Fin 128} {k : Fin 1024} {x : S147456x1024.Idx} (hx : slotOf D i k = (x 0).val) :
    target D H x = H (ValueIdx.ix2 (tokenOf i k) (x 1)) := by
  have h : ∃ p : Fin 128 × Fin 1024, slotOf D p.1 p.2 = (x 0).val := ⟨(i, k), hx⟩
  obtain ⟨e1, e2⟩ := hR.inj _ _ _ _ (h.choose_spec.trans hx.symm)
  unfold target
  rw [dif_pos h, e1, e2]

omit hR in
theorem target_none (H : S65536x1024.Idx → Elt F .f32) {x : S147456x1024.Idx} (hx : ∀ i k, slotOf D i k ≠ (x 0).val) :
    target D H x = Scalar.ofBits .f32 0#32 := dif_neg fun ⟨p, hp⟩ => hx p.1 p.2 hp

theorem target_pad (H : S65536x1024.Idx → Elt F .f32) (x : S147456x1024.Idx) (hx : P.Pad (x 0).val) :
    target D H x = Scalar.ofBits .f32 0#32 := target_none H ((hR.pad _ (x 0).isLt).1 hx)

end

theorem colOf_lt (q : Fin 1024) : colOf q.val < 1024 := by unfold colOf rowOf; omega
/-- The assignment of the `q`-th copy. -/
def col (q : Fin 1024) : Fin 1024 := ⟨colOf q.val, colOf_lt q⟩
/-- The copy of an assignment. -/
def colInv (k : Fin 1024) : Fin 1024 := ⟨16 * (k.val % 512 / 8) + 2 * (k.val % 8) + k.val / 512, by omega⟩
theorem colInv_col : ∀ q : Fin 1024, colInv (col q) = q := by decide +kernel
theorem col_colInv : ∀ k : Fin 1024, col (colInv k) = k := by decide +kernel
theorem col_inj {q q' : Fin 1024} (h : col q = col q') : q = q' := by rw [← colInv_col q, h, colInv_col]
theorem col_surj (k : Fin 1024) : ∃ q, col q = k := ⟨_, col_colInv k⟩

/-- The slots of step `i`'s copies. -/
abbrev stepSlots (D : S128x1x1024.Idx → Elt F .i32) (i : Fin 128) : Fin 1024 → ℕ := fun q => slotOf D i (col q)

/-- The rows they name. -/
abbrev stepRows (D : S128x1x1024.Idx → Elt F .i32) (i : Fin 128) : Finset (⟨2, ![147456, 1024]⟩ : Shape).Idx :=
  rowsOf fun s => ∃ q, stepSlots D i q = s

section

variable {D : S128x1x1024.Idx → Elt F .i32} {W : S3x33.Idx → Elt F .i32} {P : Fill} (hR : Ready D W P) {c : Dev nD} (g : Buf (Elt F) (outLoc c))
include hR

/-- The rows of a step, together. -/
theorem slots_eq (i : Fin 128) : (outLoc c ↦[stepRows D i]{fullShare} g : sProp 𝕄) = slots c (stepSlots D i) g := by
  unfold slots
  rw [← pointsTo_biUnion]
  · refine congrArg (fun K => (outLoc c ↦[K]{fullShare} g : sProp 𝕄)) (Finset.ext fun x => ?_)
    rw [mem_rowsOf, Finset.mem_biUnion]
    constructor
    · rintro ⟨q, h⟩
      exact ⟨q, Finset.mem_univ _, mem_rowsOf.2 (by omega)⟩
    · rintro ⟨q, -, h⟩
      have := mem_rowsOf.1 h
      exact ⟨q, by omega⟩
  · intro q _ q' _ hne
    refine rowsOf_disjoint fun x hx => hne (col_inj (hR.inj i _ i _ ?_).2)
    have h1 := hx.1; have h2 := hx.2
    show stepSlots D i q = stepSlots D i q'
    omega

theorem steps_eq : (outLoc c ↦[rowsOf (N := 147456) fun s => ¬ P.Pad s]{fullShare} g : sProp 𝕄) = bigSep Finset.univ fun i => slots c (stepSlots D i) g := by
  rw [show (bigSep Finset.univ fun i => slots c (stepSlots D i) g) = bigSep Finset.univ fun i : Fin 128 => (outLoc c ↦[stepRows D i]{fullShare} g : sProp 𝕄) from
    BI.bigSep_congr fun i _ => (slots_eq hR g i).symm]
  rw [← pointsTo_biUnion]
  · refine congrArg (fun K => (outLoc c ↦[K]{fullShare} g : sProp 𝕄)) (Finset.ext fun x => ?_)
    rw [mem_rowsOf, Finset.mem_biUnion, hR.pad _ (x 0).isLt]
    constructor
    · intro h
      have : ∃ i k, slotOf D i k = (x 0).val := by by_contra hc; exact h fun i k e => hc ⟨i, k, e⟩
      obtain ⟨i, k, hk⟩ := this
      obtain ⟨q, rfl⟩ := col_surj k
      exact ⟨i, Finset.mem_univ _, mem_rowsOf.2 ⟨q, hk⟩⟩
    · rintro ⟨i, -, h⟩
      obtain ⟨q, hq⟩ := mem_rowsOf.1 h
      exact fun hn => hn i (col q) hq
  · intro i _ j _ hne
    refine rowsOf_disjoint fun x hx => ?_
    obtain ⟨⟨q, hq⟩, q', hq'⟩ := hx
    exact hne (hR.inj i (col q) j (col q') (hq.trans hq'.symm)).1

/-- The whole array: the slots of each step, and those left over. -/
theorem out_split :
    (outLoc c ↦{fullShare} g : sProp 𝕄) ⊣⊢ iprop((bigSep Finset.univ fun i => slots c (stepSlots D i) g) ∗ outLoc c ↦[rowsOf (N := 147456) P.Pad]{fullShare} g) := by
  have e : (bigSep Finset.univ fun i => slots c (stepSlots D i) g)
      = (outLoc c ↦[(Finset.univ : Finset (Idx (outLoc c))) \ rowsOf (N := 147456) P.Pad]{fullShare} g : sProp 𝕄) := by
    rw [← steps_eq hR g]
    refine congrArg (fun K => (outLoc c ↦[K]{fullShare} g : sProp 𝕄)) (Finset.ext fun x => ?_)
    rw [Finset.mem_sdiff, mem_rowsOf, mem_rowsOf]
    exact ⟨fun h => ⟨Finset.mem_univ _, h⟩, fun h => h.2⟩
  rw [e]
  have h : (outLoc c ↦[Finset.univ]{fullShare} g : sProp 𝕄) ⊣⊢ iprop((outLoc c ↦[rowsOf (N := 147456) P.Pad]{fullShare} g)
      ∗ outLoc c ↦[Finset.univ \ rowsOf (N := 147456) P.Pad]{fullShare} g) := pointsTo_split_subset (Finset.subset_univ _)
  constructor
  · refine BIBase.Entails.trans h.1 ?_
    iintro ⟨HP, HS⟩
    isplitl [HS]; · iexact HS
    iexact HP
  · refine BIBase.Entails.trans ?_ h.2
    iintro ⟨HS, HP⟩
    isplitl [HP]; · iexact HP
    iexact HS

/-- One step's slots out of all of them, those of the steps before done; -/
theorem steps_take (f₀ : Buf (Elt F) (outLoc c)) (t : Fin 128) :
    (bigSep Finset.univ fun i : Fin 128 => slots c (stepSlots D i) (if i.val < t.val then g else f₀))
      ⊢ iprop(slots c (stepSlots D t) f₀ ∗ bigSep (Finset.univ.erase t) fun i : Fin 128 => slots c (stepSlots D i) (if i.val < t.val then g else f₀)) := by
  refine Entails.of_eq ((BI.bigSep_univ_split t).trans ?_)
  rw [if_neg (Nat.lt_irrefl _)]
  rfl

/-- and put back. -/
theorem steps_put (f₀ : Buf (Elt F) (outLoc c)) (t : Fin 128) :
    iprop(slots c (stepSlots D t) g ∗ bigSep (Finset.univ.erase t) fun i : Fin 128 => slots c (stepSlots D i) (if i.val < t.val then g else f₀))
      ⊢ bigSep Finset.univ fun i : Fin 128 => slots c (stepSlots D i) (if i.val < t.val + 1 then g else f₀) := by
  refine Entails.of_eq (Eq.trans ?_ (BI.bigSep_univ_split t).symm)
  rw [if_pos (Nat.lt_succ_self _)]
  rw [show (bigSep (Finset.univ.erase t) fun i : Fin 128 => slots c (stepSlots D i) (if i.val < t.val + 1 then g else f₀))
      = bigSep (Finset.univ.erase t) fun i : Fin 128 => slots c (stepSlots D i) (if i.val < t.val then g else f₀) from
    BI.bigSep_congr fun i hi => by
      have hne : i.val ≠ t.val := fun h => (Finset.mem_erase.1 hi).1 (Fin.ext h)
      by_cases h : i.val < t.val
      · rw [if_pos h, if_pos (by omega)]
      · rw [if_neg h, if_neg (by omega)]]
  rfl

end

end Cert.KernelIdeal.Hand

end

end
-- ==== Proof.Ref.lean ====
module

public import proofs.«01_k».proof.Proof.Target
public import proofs.«01_k».proof.Proof.Gen.ReferenceIdeal.Run
public import Idealize.ShloMosaic.Lib.Routing.OpsPair
public import Idealize.ShloMosaic.Lib.Routing.OpsSet

@[expose] public section

/-! # The reference's result

Read at a slot: the slot vector holds the token of the assignment that has the slot, or the number of the zero row. -/

set_option maxRecDepth 16384

noncomputable section

namespace Cert.KernelIdeal.Hand

open Idealize.ShloMosaic Idealize.ShloMosaic.TcCoe Idealize.ShloMosaic.ValueIdx Idealize.ShloMosaic.Routing Idealize.SL.Sem

/-- Update `i` of a scatter of scalars into a vector lands at `x` exactly when its index word is `x`. -/
theorem lands {N M : ℕ} (d : ScatterDims (shape1 M) (shape2 N 1) (shape1 N)) (hiw : d.insertedWindowDims = [0])
    (hsd : d.scatterDimsToOperandDims = [0]) (hivd : d.indexVectorDim = 1) (idx : IVec (shape2 N 1) 32) (i : Fin N) (x : Fin M) :
    d.resultIdx? (ix1 i) idx = some (ix1 x) ↔ (idx (ix2 i (0 : Fin 1))).toInt = (x.val : Int) := by
  have hm : (0 : Fin 1) ∈ d.scatterDimsToOperandDims := by rw [hsd]; exact List.mem_singleton.2 rfl
  rw [resultIdx?_ix1]
  have hw : d.window (ix1 i) 0 = 0 := dif_neg fun h => (of_decide_eq_true (List.mem_filter.1 h).2) (by rw [hiw]; exact List.mem_singleton.2 rfl)
  have hs : d.start (ix1 i) idx 0 = (idx (ix2 i (0 : Fin 1))).toInt := by
    unfold ScatterDims.start
    rw [dif_pos hm]
    refine congrArg (fun j => (idx j).toInt) (funext fun b => Fin.ext ?_)
    unfold ScatterDims.siIdx
    match b with
    | ⟨0, _⟩ =>
      rw [dif_neg (by rw [hivd]; exact Nat.zero_ne_one)]
      exact congrArg (fun X : Fin 1 => (ix1 i X).val) (Subsingleton.elim _ (0 : Fin 1))
    | ⟨1, _⟩ =>
      rw [dif_pos (by rw [hivd])]
      show List.idxOf (0 : Fin 1) d.scatterDimsToOperandDims = 0
      rw [hsd]; simp
  rw [hs, hw]
  simp

/-- A box of rows of one line, flattened. -/
theorem flat {α : Type} {a c n : ℕ} (x : (shape3 a 1 c).Idx → α) (h : (shape3 a 1 c).ShapeCasts (shape1 n)) (i : Fin a) (l : Fin c)
    (p : Fin n) (hp : p.val = i.val * c + l.val) : shapeCast (shape1 n) x h (ix1 p) = x (ix3 i (0 : Fin 1) l) := by
  refine shapeCast_apply x h _ _ ?_
  rw [Shape.rowMajor_val_three, Shape.rowMajor_val_one]
  show (i.val * 1 + 0) * c + l.val = p.val
  rw [hp, Nat.mul_one, Nat.add_zero]

/-- A word below two to the thirty-first is not negative: an index that counts from the end when negative is itself. -/
theorem plain (v n : BitVec 32) (h : v.toNat < 2 ^ 31) : Scalar.select (IntOp.cmpi .slt v 0#32) n v = v := by
  have h0 : BitVec.slt v 0#32 = false := by
    rw [BitVec.slt, StableHlo.Predicate.toInt_eq_toNat_of_lt h]
    exact decide_eq_false (by show ¬ (_ : ℤ) < 0; omega)
  show Scalar.select (BitVec.ofBool (BitVec.slt v 0#32)) n v = v
  rw [h0]
  rfl

variable {F : FTy → Type} [FloatOps F]

section
open Cert.ReferenceIdeal Cert.ReferenceIdeal.Gen

variable (D : S128x1x1024.Idx → Elt F .i32) (H : S65536x1024.Idx → Elt F .f32)

/-- The slot vector: for each slot the row it takes. -/
def slotTok : IVec S147456 32 :=
  Host.scatter scatter_S147456_S131072x1_S131072_n_0_0_1 (fun _ b => b) (broadcastInDim S147456 ![] bcast_S_S147456 (constantI S_ 32 65536#32))
    (broadcastInDim S131072x1 ![0] bcast_S131072_S131072x1_0 (select (cmpi .slt (shapeCast S131072 D shapeCasts_S128x1x1024_S131072) (broadcastInDim S131072 ![] bcast_S_S131072 (constantI S_ 32 0#32)))
      (addi (shapeCast S131072 D shapeCasts_S128x1x1024_S131072) (broadcastInDim S131072 ![] bcast_S_S131072 (constantI S_ 32 147456#32))) (shapeCast S131072 D shapeCasts_S128x1x1024_S131072)))
    (shapeCast S131072 (concatenate S128x1x1024 2 [⟨S128x1x512, shapeCast S128x1x512 (iotaInDim S65536 32 0) shapeCasts_S65536_S128x1x512⟩, ⟨S128x1x512, shapeCast S128x1x512 (iotaInDim S65536 32 0) shapeCasts_S65536_S128x1x512⟩]
      concatenates_S128x1x512_S128x1x512_S128x1x1024_d2) shapeCasts_S128x1x1024_S131072)

/-- The reference's result. -/
def refOut : S147456x1024.Idx → Elt F .f32 :=
  Host.gather gather_S65537x1024_S147456x1_S147456x1024_1_0_n_n_0_1_11024
    (concatenate S65537x1024 0 [⟨S65536x1024, H⟩, ⟨S1x1024, (broadcastInDim S1x1024 ![] bcast_S_S1x1024 (constant S_ .f32 0x00000000#32))⟩] concatenates_S65536x1024_S1x1024_S65537x1024_d0)
    (broadcastInDim S147456x1 ![0] bcast_S147456_S147456x1_0 (select (cmpi .slt (slotTok D) (broadcastInDim S147456 ![] bcast_S_S147456 (constantI S_ 32 0#32)))
      (addi (slotTok D) (broadcastInDim S147456 ![] bcast_S_S147456 (constantI S_ 32 65537#32))) (slotTok D)))

theorem run_ref (m : (ℓ : Loc Cert.ReferenceIdeal.nD Cert.ReferenceIdeal.τ Cert.ReferenceIdeal.sig) → Buf (Elt F) ℓ) (ρ : Dev Cert.ReferenceIdeal.nD → PrngReg) :
    θ_run Cert.ReferenceIdeal.defs (onTc (τ := Cert.ReferenceIdeal.τ) (Cert.ReferenceIdeal.main (F := F))) ⟨m, fun _ => 0, ρ⟩ fun r => ∀ c : Dev Cert.ReferenceIdeal.nD,
      r.2.mem ((c.tc : Thread Cert.ReferenceIdeal.nD Cert.ReferenceIdeal.τ).loc Cert.ReferenceIdeal.main_v21) = refOut (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2) := Cert.ReferenceIdeal.Value.run m ρ

theorem word_flat (i : Fin 128) (k : Fin 1024) (p : Fin 131072) (hp : p.val = i.val * 1024 + k.val) :
    shapeCast S131072 D shapeCasts_S128x1x1024_S131072 (ix1 p) = D (ix3 i (0 : Fin 1) k) := flat D _ i k p hp

theorem tok_flat (i : Fin 128) (k : Fin 1024) (p : Fin 131072) (hp : p.val = i.val * 1024 + k.val) :
    (shapeCast S131072 (concatenate S128x1x1024 2 [⟨S128x1x512, shapeCast S128x1x512 (iotaInDim S65536 32 0) shapeCasts_S65536_S128x1x512⟩, ⟨S128x1x512, shapeCast S128x1x512 (iotaInDim S65536 32 0) shapeCasts_S65536_S128x1x512⟩]
      concatenates_S128x1x512_S128x1x512_S128x1x1024_d2) shapeCasts_S128x1x1024_S131072) (ix1 p) = BitVec.ofNat 32 (tokenOf i k).val := by
  refine (flat _ _ i k p hp).trans ?_
  have hk : ∀ l : Fin 512, shapeCast S128x1x512 (iotaInDim S65536 32 0) shapeCasts_S65536_S128x1x512 (ix3 i (0 : Fin 1) l) = BitVec.ofNat 32 (512 * i.val + l.val) := fun l => by
    refine (cast13 (iotaInDim S65536 32 0) _ i (0 : Fin 1) l (⟨512 * i.val + l.val, by omega⟩ : Fin 65536) ?_).trans rfl
    show 512 * i.val + l.val = (i.val * 1 + 0) * 512 + l.val
    omega
  by_cases hlt : k.val < 512
  · refine (concatenate_pair_apply_left (t := S128x1x1024) (s₁ := S128x1x512) (s₂ := S128x1x512) 2 _ _ _ (ix3 i (0 : Fin 1) k) rfl (ix3 i (0 : Fin 1) (⟨k.val, hlt⟩ : Fin 512)) fun b => ?_).trans ((hk _).trans ?_)
    · match b with
      | ⟨0, _⟩ => rfl
      | ⟨1, _⟩ => rfl
      | ⟨2, _⟩ => rfl
    · show _ = BitVec.ofNat 32 (512 * i.val + k.val % 512)
      rw [Nat.mod_eq_of_lt hlt]
  · have hk2 := k.isLt
    refine (concatenate_pair_apply_right (t := S128x1x1024) (s₁ := S128x1x512) (s₂ := S128x1x512) 2 _ _ _ (ix3 i (0 : Fin 1) k) rfl rfl (ix3 i (0 : Fin 1) (⟨k.val - 512, by omega⟩ : Fin 512)) (fun b hb => ?_) ?_).trans ((hk _).trans ?_)
    · match b with
      | ⟨0, _⟩ => rfl
      | ⟨1, _⟩ => rfl
      | ⟨2, _⟩ => exact absurd rfl hb
    · show k.val - 512 + 512 = k.val
      omega
    · show _ = BitVec.ofNat 32 (512 * i.val + k.val % 512)
      rw [show k.val % 512 = k.val - 512 by omega]

variable {D} {W : S3x33.Idx → Elt F .i32} {P : Fill}

theorem idx_read (hlt : ∀ i k, slotOf D i k < 147456) (i : Fin 128) (k : Fin 1024) (p : Fin 131072) (hp : p.val = i.val * 1024 + k.val) :
    (broadcastInDim S131072x1 ![0] bcast_S131072_S131072x1_0 (select (cmpi .slt (shapeCast S131072 D shapeCasts_S128x1x1024_S131072) (broadcastInDim S131072 ![] bcast_S_S131072 (constantI S_ 32 0#32)))
      (addi (shapeCast S131072 D shapeCasts_S128x1x1024_S131072) (broadcastInDim S131072 ![] bcast_S_S131072 (constantI S_ 32 147456#32))) (shapeCast S131072 D shapeCasts_S128x1x1024_S131072))) (ix2 p (0 : Fin 1))
      = D (ix3 i (0 : Fin 1) k) := by
  refine (bcCol _ _ p).trans ((plain _ _ ?_).trans (word_flat D i k p hp))
  rw [word_flat D i k p hp]
  have := hlt i k
  show slotOf D i k < _
  omega

/-- Update `p` writes slot `s` when its assignment's slot is `s`. -/
theorem lands_at (hlt : ∀ i k, slotOf D i k < 147456) (i : Fin 128) (k : Fin 1024) (p : Fin 131072) (hp : p.val = i.val * 1024 + k.val) (s : Fin 147456) :
    scatter_S147456_S131072x1_S131072_n_0_0_1.resultIdx? (ix1 p) (broadcastInDim S131072x1 ![0] bcast_S131072_S131072x1_0 (select (cmpi .slt (shapeCast S131072 D shapeCasts_S128x1x1024_S131072) (broadcastInDim S131072 ![] bcast_S_S131072 (constantI S_ 32 0#32)))
      (addi (shapeCast S131072 D shapeCasts_S128x1x1024_S131072) (broadcastInDim S131072 ![] bcast_S_S131072 (constantI S_ 32 147456#32))) (shapeCast S131072 D shapeCasts_S128x1x1024_S131072))) = some (ix1 s)
      ↔ slotOf D i k = s.val := by
  have h := hlt i k
  refine (lands scatter_S147456_S131072x1_S131072_n_0_0_1 rfl rfl rfl _ p s).trans ?_
  rw [idx_read hlt i k p hp, StableHlo.Predicate.toInt_eq_toNat_of_lt (by show slotOf D i k < _; omega)]
  show (slotOf D i k : ℤ) = _ ↔ _
  omega

/-- The assignment of an update. -/
theorem pair_of (p : Fin 131072) : ∃ (i : Fin 128) (k : Fin 1024), p.val = i.val * 1024 + k.val :=
  ⟨⟨p.val / 1024, by omega⟩, ⟨p.val % 1024, by omega⟩, by show p.val = p.val / 1024 * 1024 + p.val % 1024; omega⟩

theorem ix1_of (j : (shape1 131072).Idx) : j = ix1 (j 0) := funext fun a => by
  obtain rfl : a = 0 := Subsingleton.elim _ _
  rfl

theorem slotTok_hit (hlt : ∀ i k, slotOf D i k < 147456) (hinj : ∀ i k i' k', slotOf D i k = slotOf D i' k' → i = i' ∧ k = k')
    (i : Fin 128) (k : Fin 1024) (s : Fin 147456) (hs : slotOf D i k = s.val) : slotTok D (ix1 s) = BitVec.ofNat 32 (tokenOf i k).val := by
  refine scatter_set_hit _ _ _ _ (ix1 s) _ (fun j hj => ?_) (ix1 (⟨i.val * 1024 + k.val, by omega⟩ : Fin 131072)) ((lands_at hlt i k _ rfl s).2 hs)
  obtain ⟨i', k', hp⟩ := pair_of (j 0)
  rw [ix1_of j] at hj ⊢
  obtain ⟨rfl, rfl⟩ := hinj i k i' k' (hs.trans ((lands_at hlt i' k' _ hp s).1 hj).symm)
  exact tok_flat i k _ hp

theorem slotTok_miss (hlt : ∀ i k, slotOf D i k < 147456) (s : Fin 147456) (hs : ∀ i k, slotOf D i k ≠ s.val) : slotTok D (ix1 s) = 65536#32 := by
  refine (scatter_set_miss _ _ _ _ (ix1 s) fun j hj => ?_).trans rfl
  obtain ⟨i', k', hp⟩ := pair_of (j 0)
  rw [ix1_of j] at hj
  exact hs i' k' ((lands_at hlt i' k' _ hp s).1 hj)

/-- The result's row at a slot whose entry in the slot vector is `b`. -/
theorem refOut_row (s : Fin 147456) (y : Fin 1024) (b : Fin 65537) (hb : slotTok D (ix1 s) = BitVec.ofNat 32 b.val) :
    refOut D H (ix2 s y) = (concatenate S65537x1024 0 [⟨S65536x1024, H⟩, ⟨S1x1024, (broadcastInDim S1x1024 ![] bcast_S_S1x1024 (constant S_ .f32 0x00000000#32))⟩] concatenates_S65536x1024_S1x1024_S65537x1024_d0) (ix2 b y) := by
  refine gather_row gather_S65537x1024_S147456x1_S147456x1024_1_0_n_n_0_1_11024 rfl rfl rfl rfl rfl _ _ s y b ?_ (by omega)
  refine (bcCol _ _ s).trans ((plain _ _ ?_).trans hb)
  rw [hb, BitVec.toNat_ofNat]
  omega

theorem refOut_eq (hR : Ready D W P) : refOut D H = target D H := by
  funext x
  obtain ⟨s, y, rfl⟩ : ∃ (s : Fin 147456) (y : Fin 1024), x = ix2 s y := ⟨x 0, x 1, funext fun a => by
    match a with
    | ⟨0, _⟩ => rfl
    | ⟨1, _⟩ => rfl⟩
  by_cases h : ∃ i k, slotOf D i k = s.val
  · obtain ⟨i, k, h⟩ := h
    have hT := slotTok_hit hR.lt hR.inj i k s h
    refine (refOut_row H s y (⟨(tokenOf i k).val, by omega⟩ : Fin 65537) hT).trans (Eq.trans ?_ (target_hit hR H (x := ix2 s y) h).symm)
    refine concatenate_pair_apply_left (t := S65537x1024) (s₁ := S65536x1024) (s₂ := S1x1024) 0 _ _ _ _ rfl (ix2 (tokenOf i k) y) fun b => ?_
    match b with
    | ⟨0, _⟩ => rfl
    | ⟨1, _⟩ => rfl
  · have h' : ∀ i k, slotOf D i k ≠ s.val := fun i k e => h ⟨i, k, e⟩
    refine (refOut_row H s y (⟨65536, by omega⟩ : Fin 65537) (slotTok_miss hR.lt s h')).trans (Eq.trans ?_ (target_none H (x := ix2 s y) h').symm)
    refine (concatenate_pair_apply_right (t := S65537x1024) (s₁ := S65536x1024) (s₂ := S1x1024) 0 _ _ _ _ rfl rfl (ix2 (0 : Fin 1) y) (fun b hb => ?_) rfl).trans (bc0 _ _ _)
    match b with
    | ⟨0, _⟩ => exact absurd rfl hb
    | ⟨1, _⟩ => rfl

end

end Cert.KernelIdeal.Hand

end

end
-- ==== Proof.Pre.lean ====
module

public import proofs.«01_k».proof.Proof.Ref
public import proofs.«01_k».proof.Pre_slots_are_one_to_one
public import Idealize.ShloMosaic.Lib.Routing.OpsOrder
public import Idealize.ShloMosaic.Lib.Routing.BitFacts

@[expose] public section

/-! # What the precondition gives

Its seven arrays of bits, read element by element, say that the slots are one to one and that the fill words name the
slots left over. -/

set_option maxRecDepth 16384

noncomputable section

namespace Cert.KernelIdeal.Hand

open Idealize.ShloMosaic Idealize.ShloMosaic.TcCoe Idealize.ShloMosaic.ValueIdx Idealize.ShloMosaic.Routing
open Idealize.ShloMosaic.StableHlo.Predicate (sle_iff_toNat slt_iff_toNat cmpi_eq_iff ofBool_eq_one_iff)

/-! ## Words -/

theorem and_bits : ∀ a b : BitVec 1, IntOp.andi a b = 1#1 ↔ a = 1#1 ∧ b = 1#1 := by decide
theorem or_bits : ∀ a b : BitVec 1, IntOp.ori a b = 1#1 ↔ a = 1#1 ∨ b = 1#1 := by decide
theorem ne_bits : ∀ a b : BitVec 1, IntOp.cmpi .ne a b = 1#1 ↔ (b = 1#1 ↔ ¬ a = 1#1) := by decide

theorem nonneg {v : BitVec 32} (h : IntOp.cmpi .sge v 0#32 = 1#1) : v.toNat < 2 ^ 31 := by
  refine toNat_lt_of_toInt_nonneg v ?_
  have h' : BitVec.sle 0#32 v = true := (ofBool_eq_one_iff _).1 h
  exact of_decide_eq_true h'

theorem le_up {a b : BitVec 32} (ha : a.toNat < 2 ^ 31) (h : IntOp.cmpi .sle a b = 1#1) : b.toNat < 2 ^ 31 ∧ a.toNat ≤ b.toNat := by
  have h' : a.toInt ≤ b.toInt := of_decide_eq_true ((ofBool_eq_one_iff (BitVec.sle a b)).1 h)
  have hb : b.toNat < 2 ^ 31 := toNat_lt_of_toInt_nonneg b (by rw [StableHlo.Predicate.toInt_eq_toNat_of_lt ha] at h'; omega)
  exact ⟨hb, (sle_iff_toNat ha hb).1 h⟩

theorem whole_blocks {v : BitVec 32} (h : v &&& 511#32 = 0#32) : 512 ∣ v.toNat := by
  have e := congrArg BitVec.toNat h
  rw [BitVec.toNat_and] at e
  have e' : v.toNat &&& (2 ^ 9 - 1) = 0 := e
  rw [Nat.and_two_pow_sub_one_eq_mod] at e'
  exact Nat.dvd_of_mod_eq_zero e'

/-! ## Reads -/

theorem row_read {α : Type} (r : Fin 3) (X : (shape2 3 33).Idx → α) (h : (shape2 3 33).Slices ![r.val, 0] (shape2 1 32)) (h' : (shape2 1 32).ShapeCasts (shape1 32)) (e : Fin 32) :
    shapeCast (shape1 32) (extractStridedSlice (shape2 1 32) ![r.val, 0] X h) h' (ix1 e) = X (ix2 r (Fin.ofNat 33 e.val)) := by
  refine (cast21 _ h' (0 : Fin 1) e e (by simp)).trans (congrArg X (funext fun a => Fin.ext ?_))
  match a with
  | ⟨0, _⟩ => rfl
  | ⟨1, _⟩ =>
    show 0 + e.val = e.val % 33
    omega

theorem cell_read {α : Type} (r : Fin 3) (X : (shape2 3 33).Idx → α) (h : (shape2 3 33).Slices ![r.val, 32] (shape2 1 1)) (h' : (shape2 1 1).ShapeCasts shape0) :
    shapeCast shape0 (extractStridedSlice (shape2 1 1) ![r.val, 32] X h) h' ix0 = X (ix2 r (Fin.ofNat 33 32)) := by
  refine (shapeCast_apply _ h' _ (ix2 (0 : Fin 1) (0 : Fin 1)) ?_).trans (congrArg X (funext fun a => Fin.ext ?_))
  · exact Nat.lt_one_iff.1 (Fin.isLt _) |>.trans (Nat.lt_one_iff.1 (Fin.isLt _)).symm
  · match a with
    | ⟨0, _⟩ => rfl
    | ⟨1, _⟩ => rfl

/-- A row of bits is met somewhere. -/
theorem any_row {n m : ℕ} (mask : IVec (shape2 n m) 1) (h : (shape2 n m).ReducesTo [1] (shape1 n)) {u : Shape} (hu : 0 < u.numel) (j : Fin n) :
    Host.reduce IntOp.ori mask (constantI u 1 0#1) h hu (ix1 j) = 1#1 ↔ ∃ q : Fin m, mask (ix2 j q) = 1#1 := by
  classical
  rw [Host.reduce_eq_fold]
  refine (fold_ori _ _).trans ⟨fun ⟨x, hx, hm⟩ => ⟨x 1, ?_⟩, fun ⟨q, hm⟩ => ⟨ix2 j q, ?_, hm⟩⟩
  · have e := (Finset.mem_filter.1 hx).2
    have e0 : x 0 = j := Fin.ext ((Shape.ReducesTo.drop_apply_val h x 0).symm.trans (congrArg (fun y : (shape1 n).Idx => (y 0).val) e))
    rw [← hm]
    refine congrArg mask (funext fun a => ?_)
    match a with
    | ⟨0, _⟩ => exact e0.symm
    | ⟨1, _⟩ => rfl
  · refine Finset.mem_filter.2 ⟨Finset.mem_univ _, funext fun a => ?_⟩
    obtain rfl : a = 0 := Subsingleton.elim _ _
    exact Fin.ext (Shape.ReducesTo.drop_apply_val h (ix2 j q) 0)

variable {F : FTy → Type} [FloatOps F] [Cert.Pre_slots_are_one_to_one.Facts]

section
open Cert.Pre_slots_are_one_to_one Cert.Pre_slots_are_one_to_one.Facts

variable (D : IVec S128x1x1024 32) (W : IVec S3x33 32)

/-- The words in a row. -/
abbrev slotV : IVec S131072 32 := shapeCast S131072 D shapeCasts_S128x1x1024_S131072
/-- Which assignment a slot holds. -/
def heldV : IVec S147456 32 :=
  Host.scatter scatter_S147456_S131072x1_S131072_n_0_0_1 (fun _ b => b) (broadcastInDim S147456 ![] bcast_S_S147456 (constantI S_ 32 0#32))
    (broadcastInDim S131072x1 ![0] bcast_S131072_S131072x1_0 (select (cmpi .slt (slotV D) (broadcastInDim S131072 ![] bcast_S_S131072 (constantI S_ 32 0#32)))
      (addi (slotV D) (broadcastInDim S131072 ![] bcast_S_S131072 (constantI S_ 32 147456#32))) (slotV D))) (iotaInDim S131072 32 0)
/-- The assignment at each assignment's slot. -/
def backV : IVec S131072 32 :=
  Host.gather gather_S147456_S131072x1_S131072_n_0_n_n_0_1_1 (heldV D)
    (broadcastInDim S131072x1 ![0] bcast_S131072_S131072x1_0 (select (cmpi .slt (slotV D) (broadcastInDim S131072 ![] bcast_S_S131072 (constantI S_ 32 0#32)))
      (addi (slotV D) (broadcastInDim S131072 ![] bcast_S_S131072 (constantI S_ 32 147456#32))) (slotV D)))
/-- The slot of the assignment a slot holds. -/
def hereV : IVec S147456 32 :=
  Host.gather gather_S131072_S147456x1_S147456_n_0_n_n_0_1_1 (slotV D)
    (broadcastInDim S147456x1 ![0] bcast_S147456_S147456x1_0 (select (cmpi .slt (heldV D) (broadcastInDim S147456 ![] bcast_S_S147456 (constantI S_ 32 0#32)))
      (addi (heldV D) (broadcastInDim S147456 ![] bcast_S_S147456 (constantI S_ 32 131072#32))) (heldV D)))
/-- Row `r` of the fill words. -/
def startV : IVec S32 32 := shapeCast S32 (extractStridedSlice S1x32 ![0, 0] W slices_S3x33_S1x32_0_0) shapeCasts_S1x32_S32
def leftV : IVec S32 32 := shapeCast S32 (extractStridedSlice S1x32 ![1, 0] W slices_S3x33_S1x32_1_0) shapeCasts_S1x32_S32
def stopV : IVec S32 32 := shapeCast S32 (extractStridedSlice S1x32 ![2, 0] W slices_S3x33_S1x32_2_0) shapeCasts_S1x32_S32
def usedV : IVec S_ 32 := shapeCast S_ (extractStridedSlice S1x1 ![0, 32] W slices_S3x33_S1x1_0_32) shapeCasts_S1x1_S_
def unusedV : IVec S_ 32 := shapeCast S_ (extractStridedSlice S1x1 ![1, 32] W slices_S3x33_S1x1_1_32) shapeCasts_S1x1_S_
/-- Inside which expert's range a slot is. -/
def insideV : IVec S147456x32 1 :=
  andi (cmpi .sle (broadcastInDim S147456x32 ![0, 1] bcast_S1x32_S147456x32_0_1 (broadcastInDim S1x32 ![1] bcast_S32_S1x32_1 (startV W)))
      (broadcastInDim S147456x32 ![0, 1] bcast_S147456x1_S147456x32_0_1 (broadcastInDim S147456x1 ![0] bcast_S147456_S147456x1_0 (iotaInDim S147456 32 0))))
    (cmpi .slt (broadcastInDim S147456x32 ![0, 1] bcast_S147456x1_S147456x32_0_1 (broadcastInDim S147456x1 ![0] bcast_S147456_S147456x1_0 (iotaInDim S147456 32 0)))
      (broadcastInDim S147456x32 ![0, 1] bcast_S1x32_S147456x32_0_1 (broadcastInDim S1x32 ![1] bcast_S32_S1x32_1 (stopV W))))
/-- Which slots are padding. -/
def padV : IVec S147456 1 :=
  ori (Host.reduce IntOp.ori (insideV W) (constantI S_ 1 0#1) reducesTo_S147456x32_S147456_d1 h_S_)
    (cmpi .sle (broadcastInDim S147456 ![] bcast_S_S147456 (muli (usedV W) (constantI S_ 32 512#32))) (iotaInDim S147456 32 0))

/-- The bits, element by element. -/
structure Bitwise : Prop where
  range : ∀ p : Fin 131072, IntOp.andi (IntOp.cmpi .sge (slotV D (ix1 p)) 0#32) (IntOp.cmpi .slt (slotV D (ix1 p)) 147456#32) = 1#1
  back : ∀ p : Fin 131072, IntOp.cmpi .eq (backV D (ix1 p)) (BitVec.ofNat 32 p.val) = 1#1
  bounds : ∀ e : Fin 32, IntOp.andi (IntOp.andi (IntOp.cmpi .sge (startV W (ix1 e)) 0#32) (IntOp.cmpi .sle (startV W (ix1 e)) (stopV W (ix1 e)))) (IntOp.cmpi .sle (stopV W (ix1 e)) 147456#32) = 1#1
  ends : ∀ e : Fin 32, IntOp.andi (IntOp.andi (IntOp.andi (IntOp.cmpi .sge (leftV W (ix1 e)) 0#32) (IntOp.cmpi .slt (leftV W (ix1 e)) 512#32))
    (IntOp.cmpi .eq (IntOp.subi (stopV W (ix1 e)) (leftV W (ix1 e))) (startV W (ix1 e)))) (IntOp.cmpi .eq (IntOp.andi (stopV W (ix1 e)) 511#32) 0#32) = 1#1
  chain : ∀ e : Fin 31, IntOp.cmpi .sle (stopV W (ix1 (⟨0 + e.val, by omega⟩ : Fin 32))) (startV W (ix1 (⟨1 + e.val, by omega⟩ : Fin 32))) = 1#1
  blocks : IntOp.andi (IntOp.andi (IntOp.andi (IntOp.cmpi .sge (usedV W ix0) 0#32) (IntOp.cmpi .sle (usedV W ix0) 288#32)) (IntOp.cmpi .eq (IntOp.addi (usedV W ix0) (unusedV W ix0)) 288#32))
    (IntOp.cmpi .sle (stopV W (ix1 (31 : Fin 32))) (IntOp.muli (usedV W ix0) 512#32)) = 1#1
  either : ∀ s : Fin 147456, IntOp.cmpi .ne (IntOp.cmpi .eq (hereV D (ix1 s)) (BitVec.ofNat 32 s.val)) (padV W (ix1 s)) = 1#1

theorem bitwise (H : FVec F S65536x1024 .f32) (h1 : (fn (F := F) D W H).1 = fun _ => 1#1) (h2 : (fn (F := F) D W H).2.1 = fun _ => 1#1) (h3 : (fn (F := F) D W H).2.2.1 = fun _ => 1#1)
    (h4 : (fn (F := F) D W H).2.2.2.1 = fun _ => 1#1) (h5 : (fn (F := F) D W H).2.2.2.2.1 = fun _ => 1#1) (h6 : (fn (F := F) D W H).2.2.2.2.2.1 = fun _ => 1#1)
    (h7 : (fn (F := F) D W H).2.2.2.2.2.2 = fun _ => 1#1) : Bitwise D W where
  range p := by
    have h := congrFun h1 (ix1 p)
    exact h
  back p := by
    have e : (fn (F := F) D W H).2.1 = cmpi .eq (backV D) (iotaInDim S131072 32 0) := by
      unfold fn fn_part1 fn_part2 fn_part3 fn_part4 backV heldV slotV
      with_reducible rfl
    exact congrFun (e.symm.trans h2) (ix1 p)
  bounds e := by
    have h := congrFun h3 (ix1 e)
    exact h
  ends e := by
    have h := congrFun h4 (ix1 e)
    exact h
  chain e := by
    have h := congrFun h5 (ix1 e)
    change IntOp.cmpi .sle (extractStridedSlice S31 ![0] (stopV W) slices_S32_S31_0 (ix1 e)) (extractStridedSlice S31 ![1] (startV W) slices_S32_S31_1 (ix1 e)) = 1#1 at h
    rwa [slice1 0 (stopV W) slices_S32_S31_0 e (by omega), slice1 1 (startV W) slices_S32_S31_1 e (by omega)] at h
  blocks := by
    have h := congrFun h6 ix0
    have e : shapeCast S_ (extractStridedSlice S1 ![31] (stopV W) slices_S32_S1_31) shapeCasts_S1_S_ ix0 = stopV W (ix1 (31 : Fin 32)) := by
      refine (shapeCast_apply _ shapeCasts_S1_S_ _ (ix1 (0 : Fin 1)) ?_).trans (slice1 31 (stopV W) slices_S32_S1_31 (0 : Fin 1) (by decide))
      exact Nat.lt_one_iff.1 (Fin.isLt _) |>.trans (Nat.lt_one_iff.1 (Fin.isLt _)).symm
    rw [← e]
    exact h
  either s := by
    have e : (fn (F := F) D W H).2.2.2.2.2.2 = cmpi .ne (cmpi .eq (hereV D) (iotaInDim S147456 32 0)) (padV W) := rfl
    exact congrFun (e.symm.trans h7) (ix1 s)

variable {D W}

theorem slot_read (hb : Bitwise D W) (p : Fin 131072) : (slotV D (ix1 p)).toNat < 147456 := by
  obtain ⟨h0, h1⟩ := (and_bits _ _).1 (hb.range p)
  exact (slt_iff_toNat (nonneg h0) (by decide)).1 h1

/-- An assignment's slot holds it. -/
theorem held_back (hb : Bitwise D W) (p : Fin 131072) (s : Fin 147456) (hs : (slotV D (ix1 p)).toNat = s.val) :
    heldV D (ix1 s) = BitVec.ofNat 32 p.val := by
  refine Eq.trans ?_ (cmpi_eq_iff.1 (hb.back p))
  refine (gather_take1 gather_S147456_S131072x1_S131072_n_0_n_n_0_1_1 rfl rfl rfl rfl (heldV D) _ p s ?_ (by decide)).symm
  refine (bcCol _ _ p).trans ((plain _ _ ?_).trans ?_)
  · have := slot_read hb p
    show (slotV D (ix1 p)).toNat < _
    omega
  · show slotV D (ix1 p) = _
    rw [← hs, BitVec.ofNat_toNat, BitVec.setWidth_eq]

theorem slots_inj (hb : Bitwise D W) (p q : Fin 131072) (h : (slotV D (ix1 p)).toNat = (slotV D (ix1 q)).toNat) : p = q := by
  have hp := held_back hb p ⟨_, slot_read hb p⟩ rfl
  have hq := held_back hb q ⟨_, slot_read hb p⟩ h.symm
  have e := congrArg BitVec.toNat (hp.symm.trans hq)
  rw [BitVec.toNat_ofNat, BitVec.toNat_ofNat] at e
  exact Fin.ext (by have := p.isLt; have := q.isLt; omega)

/-- The slot of the assignment held at `s` is `s` just where an assignment has that slot. -/
theorem here_iff (hb : Bitwise D W) (s : Fin 147456) :
    IntOp.cmpi .eq (hereV D (ix1 s)) (BitVec.ofNat 32 s.val) = 1#1 ↔ ∃ p : Fin 131072, (slotV D (ix1 p)).toNat = s.val := by
  have hsl := s.isLt
  rw [cmpi_eq_iff]
  constructor
  · intro h
    unfold hereV at h
    rw [← ofFin_eq_ix1 s, StableHlo.Predicate.gather_take gather_S131072_S147456x1_S147456_n_0_n_n_0_1_1 rfl rfl rfl rfl (slotV D) _ s (by decide), ofFin_eq_ix1] at h
    refine ⟨_, (congrArg BitVec.toNat h).trans ?_⟩
    rw [BitVec.toNat_ofNat]
    omega
  · rintro ⟨p, hp⟩
    have hpl := p.isLt
    have e := held_back hb p s hp
    refine (gather_take1 gather_S131072_S147456x1_S147456_n_0_n_n_0_1_1 rfl rfl rfl rfl (slotV D) _ s p ?_ (by decide)).trans ?_
    · refine (bcCol _ _ s).trans ((plain _ _ ?_).trans e)
      show (heldV D (ix1 s)).toNat < _
      rw [e, BitVec.toNat_ofNat]
      omega
    · rw [← hp, BitVec.ofNat_toNat, BitVec.setWidth_eq]

theorem start_read (e : Fin 32) : startV W (ix1 e) = W (ix2 (0 : Fin 3) (Fin.ofNat 33 e.val)) := row_read 0 W _ _ e
theorem left_read (e : Fin 32) : leftV W (ix1 e) = W (ix2 (1 : Fin 3) (Fin.ofNat 33 e.val)) := row_read 1 W _ _ e
theorem stop_read (e : Fin 32) : stopV W (ix1 e) = W (ix2 (2 : Fin 3) (Fin.ofNat 33 e.val)) := row_read 2 W _ _ e
theorem used_read : usedV W ix0 = W (ix2 (0 : Fin 3) (Fin.ofNat 33 32)) := cell_read 0 W _ _
theorem unused_read : unusedV W ix0 = W (ix2 (1 : Fin 3) (Fin.ofNat 33 32)) := cell_read 1 W _ _

theorem bounds_read (hb : Bitwise D W) (e : Fin 32) : (startV W (ix1 e)).toNat ≤ (stopV W (ix1 e)).toNat ∧ (stopV W (ix1 e)).toNat ≤ 147456 := by
  obtain ⟨h01, h2⟩ := (and_bits _ _).1 (hb.bounds e)
  obtain ⟨h0, h1⟩ := (and_bits _ _).1 h01
  have a := le_up (nonneg h0) h1
  exact ⟨a.2, (le_up a.1 h2).2⟩

theorem ends_read (hb : Bitwise D W) (e : Fin 32) :
    (leftV W (ix1 e)).toNat < 512 ∧ (stopV W (ix1 e)).toNat = (startV W (ix1 e)).toNat + (leftV W (ix1 e)).toNat ∧ 512 ∣ (stopV W (ix1 e)).toNat := by
  obtain ⟨h012, h3⟩ := (and_bits _ _).1 (hb.ends e)
  obtain ⟨h01, h2⟩ := (and_bits _ _).1 h012
  obtain ⟨h0, h1⟩ := (and_bits _ _).1 h01
  have hl : (leftV W (ix1 e)).toNat < 512 := (slt_iff_toNat (nonneg h0) (by decide)).1 h1
  have hb' := bounds_read hb e
  have hs := congrArg BitVec.toNat (cmpi_eq_iff.1 h2)
  change (stopV W (ix1 e) - leftV W (ix1 e)).toNat = _ at hs
  rw [BitVec.toNat_sub] at hs
  exact ⟨hl, by omega, whole_blocks (cmpi_eq_iff.1 h3)⟩

theorem chain_read (hb : Bitwise D W) (e : ℕ) (h0 : e < 32) (h1 : e + 1 < 32) : (stopV W (ix1 (⟨e, h0⟩ : Fin 32))).toNat ≤ (startV W (ix1 (⟨e + 1, h1⟩ : Fin 32))).toNat := by
  have h := hb.chain ⟨e, by omega⟩
  have e0 : (⟨0 + e, by omega⟩ : Fin 32) = ⟨e, h0⟩ := Fin.ext (Nat.zero_add e)
  have e1 : (⟨1 + e, by omega⟩ : Fin 32) = ⟨e + 1, h1⟩ := Fin.ext (Nat.add_comm 1 e)
  change IntOp.cmpi .sle (stopV W (ix1 (⟨0 + e, by omega⟩ : Fin 32))) (startV W (ix1 (⟨1 + e, by omega⟩ : Fin 32))) = 1#1 at h
  rw [e0, e1] at h
  refine (le_up ?_ h).2
  have := (bounds_read hb ⟨e, h0⟩).2
  omega

theorem blocks_read (hb : Bitwise D W) : (usedV W ix0).toNat ≤ 288 ∧ (unusedV W ix0).toNat = 288 - (usedV W ix0).toNat ∧ (stopV W (ix1 (31 : Fin 32))).toNat ≤ 512 * (usedV W ix0).toNat := by
  obtain ⟨h012, h3⟩ := (and_bits _ _).1 hb.blocks
  obtain ⟨h01, h2⟩ := (and_bits _ _).1 h012
  obtain ⟨h0, h1⟩ := (and_bits _ _).1 h01
  have hu : (usedV W ix0).toNat ≤ 288 := (le_up (nonneg h0) h1).2
  have hs := congrArg BitVec.toNat (cmpi_eq_iff.1 h2)
  change (usedV W ix0 + unusedV W ix0).toNat = 288 at hs
  rw [BitVec.toNat_add] at hs
  have hun := (unusedV W ix0).isLt
  have hst := (bounds_read hb 31).2
  have h3' := (le_up (by omega) h3).2
  change _ ≤ (usedV W ix0 * 512#32).toNat at h3'
  rw [BitVec.toNat_mul] at h3'
  have e512 : (512#32).toNat = 512 := rfl
  rw [e512] at h3'
  exact ⟨hu, by omega, by omega⟩

/-- The ranges and blocks the fill words name. -/
def fillPlan (hb : Bitwise D W) : Fill where
  start e := (startV W (ix1 (Fin.ofNat 32 e))).toNat
  left e := (leftV W (ix1 (Fin.ofNat 32 e))).toNat
  stop e := (stopV W (ix1 (Fin.ofNat 32 e))).toNat
  used := (usedV W ix0).toNat
  start_le e _ := (bounds_read hb _).1
  stop_le e _ := (bounds_read hb _).2
  left_lt e _ := (ends_read hb _).1
  left_eq e _ := (ends_read hb _).2.1
  stop_dvd e _ := (ends_read hb _).2.2
  chain e he := by
    have e0 : Fin.ofNat 32 e = ⟨e, by omega⟩ := Fin.ext (Nat.mod_eq_of_lt (by omega))
    have e1 : Fin.ofNat 32 (e + 1) = ⟨e + 1, he⟩ := Fin.ext (Nat.mod_eq_of_lt he)
    rw [e0, e1]
    exact chain_read hb e _ he
  used_le := (blocks_read hb).1
  stop_used := (blocks_read hb).2.2

theorem fin_row {e : ℕ} (he : e < 32) : Fin.ofNat 33 (Fin.ofNat 32 e).val = Fin.ofNat 33 e :=
  congrArg (Fin.ofNat 33) (Nat.mod_eq_of_lt he)

theorem plan_words (hb : Bitwise D W) : Words (F := F) W (fillPlan hb) where
  start e he := congrArg BitVec.toNat (((start_read _).trans (congrArg (fun c => W (ix2 (0 : Fin 3) c)) (fin_row he))).symm)
  left e he := congrArg BitVec.toNat (((left_read _).trans (congrArg (fun c => W (ix2 (1 : Fin 3) c)) (fin_row he))).symm)
  stop e he := congrArg BitVec.toNat (((stop_read _).trans (congrArg (fun c => W (ix2 (2 : Fin 3) c)) (fin_row he))).symm)
  used := congrArg BitVec.toNat used_read.symm
  unused := (congrArg BitVec.toNat unused_read.symm).trans (blocks_read hb).2.1

theorem inside_iff (hb : Bitwise D W) (s : Fin 147456) (e : Fin 32) :
    insideV W (ix2 s e) = 1#1 ↔ (startV W (ix1 e)).toNat ≤ s.val ∧ s.val < (stopV W (ix1 e)).toNat := by
  have hs := s.isLt
  have hbd := bounds_read hb e
  have es : (BitVec.ofNat 32 s.val).toNat = s.val := by rw [BitVec.toNat_ofNat]; omega
  have r0 := bcCols bcast_S32_S1x32_1 bcast_S1x32_S147456x32_0_1 (startV W) s e
  have r1 := bcRows bcast_S147456_S147456x1_0 bcast_S147456x1_S147456x32_0_1 (iotaInDim S147456 32 0) s e
  have r2 := bcCols bcast_S32_S1x32_1 bcast_S1x32_S147456x32_0_1 (stopV W) s e
  refine (and_bits _ _).trans (and_congr ?_ ?_)
  · refine (iff_of_eq (congrArg (· = 1#1) (congrArg₂ (IntOp.cmpi .sle) r0 r1))).trans ?_
    refine (sle_iff_toNat (by omega) (by show (BitVec.ofNat 32 s.val).toNat < _; omega)).trans ?_
    show _ ≤ (BitVec.ofNat 32 s.val).toNat ↔ _
    rw [es]
  · refine (iff_of_eq (congrArg (· = 1#1) (congrArg₂ (IntOp.cmpi .slt) r1 r2))).trans ?_
    refine (slt_iff_toNat (by show (BitVec.ofNat 32 s.val).toNat < _; omega) (by omega)).trans ?_
    show (BitVec.ofNat 32 s.val).toNat < _ ↔ _
    rw [es]

theorem pad_iff (hb : Bitwise D W) (s : Fin 147456) : padV W (ix1 s) = 1#1 ↔ (fillPlan hb).Pad s.val := by
  have hs := s.isLt
  have es : (BitVec.ofNat 32 s.val).toNat = s.val := by rw [BitVec.toNat_ofNat]; omega
  have hu := (blocks_read hb).1
  refine (or_bits _ _).trans (or_congr ?_ ?_)
  · refine (any_row (insideV W) reducesTo_S147456x32_S147456_d1 h_S_ s).trans ⟨?_, ?_⟩
    · rintro ⟨e, he⟩
      have e0 : Fin.ofNat 32 e.val = e := Fin.ext (Nat.mod_eq_of_lt e.isLt)
      refine ⟨e.val, e.isLt, ?_⟩
      show (startV W (ix1 (Fin.ofNat 32 e.val))).toNat ≤ _ ∧ _ < (stopV W (ix1 (Fin.ofNat 32 e.val))).toNat
      rw [e0]
      exact (inside_iff hb s e).1 he
    · rintro ⟨e, _, h⟩
      exact ⟨Fin.ofNat 32 e, (inside_iff hb s _).2 h⟩
  · refine (iff_of_eq (congrArg (· = 1#1) (congrArg₂ (IntOp.cmpi .sle) (bc0 bcast_S_S147456 (muli (usedV W) (constantI S_ 32 512#32)) (ix1 s)) rfl))).trans ?_
    have em : (muli (usedV W) (constantI S_ 32 512#32) ix0).toNat = 512 * (usedV W ix0).toNat := by
      change (usedV W ix0 * 512#32).toNat = _
      rw [BitVec.toNat_mul]
      show (usedV W ix0).toNat * 512 % 2 ^ 32 = _
      omega
    refine (sle_iff_toNat (by omega) (by show (BitVec.ofNat 32 s.val).toNat < _; omega)).trans ?_
    show _ ≤ (BitVec.ofNat 32 s.val).toNat ↔ 512 * (usedV W ix0).toNat ≤ s.val ∧ s.val < 147456
    rw [es, em]
    exact ⟨fun h => ⟨h, hs⟩, fun h => h.1⟩

theorem plan_ready (hb : Bitwise D W) : Ready (F := F) D W (fillPlan hb) where
  words := plan_words hb
  lt i k := by
    have h := slot_read hb ⟨i.val * 1024 + k.val, by omega⟩
    rwa [slotV, word_flat (F := F) D i k _ rfl] at h
  inj i k i' k' h := by
    have e := slots_inj hb ⟨i.val * 1024 + k.val, by omega⟩ ⟨i'.val * 1024 + k'.val, by omega⟩ (by
      rw [slotV, word_flat (F := F) D i k _ rfl, word_flat (F := F) D i' k' _ rfl]
      exact h)
    have e' : i.val * 1024 + k.val = i'.val * 1024 + k'.val := congrArg Fin.val e
    exact ⟨Fin.ext (by omega), Fin.ext (by omega)⟩
  pad s hs := by
    have h := (ne_bits _ _).1 (hb.either ⟨s, hs⟩)
    rw [here_iff hb, pad_iff hb] at h
    refine h.trans ⟨fun hn i k e => hn ⟨⟨i.val * 1024 + k.val, by omega⟩, ?_⟩, fun hn hp => ?_⟩
    · rw [slotV, word_flat (F := F) D i k _ rfl]
      exact e
    · obtain ⟨p, hp⟩ := hp
      obtain ⟨i, k, e⟩ := pair_of p
      refine hn i k ?_
      rw [slotV, word_flat (F := F) D i k p e] at hp
      exact hp

end

end Cert.KernelIdeal.Hand

end

end
-- ==== Proof.Launch.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Target
public import proofs.«01_k».proof.Proof.Gen.KernelIdeal.Frame
public import Idealize.ShloMosaic.Lib.Pipeline.FrameValue
public import Idealize.ShloMosaic.Lib.Pipeline.Value
public import Idealize.ShloMosaic.Lib.Pipeline.FrameBody
public import Idealize.ShloMosaic.Lib.Pipeline.FrameValue
public import Idealize.ShloMosaic.Lib.Pipeline.Value
public import Idealize.ShloMosaic.Lib.MixedBatch
public import Idealize.ShloMosaic.Lib.Ring
public import Idealize.ShloMosaic.Lib.Tactic
public import Idealize.ShloMosaic.Lib.WordCmp
public import Idealize.ShloMosaic.Lib.ValueIdxCore

@[expose] public section

/-! # The run

The body at each point of the grid, put together: from arrays of words as `Ready` asks, the kernel runs, its arguments and
its semaphores are as they were, and its result is `target`. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (P : Dev nD → Fill)

/-- The three arguments as launched. -/
abbrev destOf (c : Dev nD) : S128x1x1024.Idx → Elt F .i32 := m ((c : Thread nD τ).loc main_arg0)
abbrev fillOf (c : Dev nD) : S3x33.Idx → Elt F .i32 := m ((c : Thread nD τ).loc main_arg1)
abbrev rowsIn (c : Dev nD) : S65536x1024.Idx → Elt F .f32 := m ((c : Thread nD τ).loc main_arg2)
/-- The result as launched, and as it is to be left. -/
abbrev before (c : Dev nD) : Buf (Elt F) (outLoc c) := m (outLoc c)
abbrev result (c : Dev nD) : Buf (Elt F) (outLoc c) := target (destOf m c) (rowsIn m c)

theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The copies' two semaphores. -/
abbrev osem0 : Fin 2 → SemLoc sig := fun j => (![SemLoc.dma 5, SemLoc.dma 6] : Fin 2 → SemLoc sig) j
theorem ownSemFacts0 : Pipeline.OwnSemFacts spec0 osem0 := by decide
theorem ownSems_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 5) 0 ∗ semVal ((c : Thread nD τ), SemLoc.dma 6) 0) := by
  rw [Pipeline.ownSems0_eq_of_list c osem0 [0, 1] (by decide) (by decide)]; rfl

/-- The result is what the body writes itself. -/
def R0 : Finset (Ref sig .tc) := {main_v0}
theorem R0_sub : R0 ⊆ Pipeline.restRefs sig spec0 \ ∅ := by decide
theorem routed_eq (c : Dev nD) (W : (b : Ref sig .tc) → Buf (Elt F) ((c : Thread nD τ).loc b)) :
    (Pipeline.routed R0 c W : sProp 𝕄) = (outLoc c ↦{fullShare} W main_v0) := by
  unfold Pipeline.routed; rw [BI.bigSep_eq_bigSepL_of_eq [main_v0] (by decide) (by decide)]; rfl

/-- What the kernel holds between points: the slots of the steps done hold their rows, those left over zeros after the first. -/
def inv (c : Dev nD) (t : ℕ) : sProp 𝕄 :=
  iprop((∃ r, prngReg c r) ∗ (bigSep Finset.univ fun i : Fin 128 => slots c (stepSlots (destOf m c) i) (if i.val < t then result m c else before m c))
    ∗ semVal ((c : Thread nD τ), SemLoc.dma 5) 0 ∗ bodyRest c (P c) (if t = 0 then before m c else result m c))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
  Φ t := inv m P c t.val
  q _ := fullShare
  owed _ := 0

theorem A_eq (c : Dev nD) (w : Fin cfg0.W) : (dats m P 0 c).A w = V m c (Pipeline.arrRef spec0 w) := by dsimp only [dats]

/-- Each window's buffer is on its block when the body runs. -/
theorem before_0 (c : Dev nD) (t : Fin cfg0.N) (d) : (dats m P 0 c).before 0 t d = iblk m c 0 t :=
  (dats m P 0 c).before_in_eq_fetched 0 rfl (fun _ => rfl) (fun _ _ _ => rfl) (fun _ => rfl) t d

theorem before_1 (c : Dev nD) (t : Fin cfg0.N) (d) : (dats m P 0 c).before 1 t d = iblk m c 1 t :=
  (dats m P 0 c).before_in_eq_fetched 1 rfl (fun _ => rfl) (fun _ _ _ => rfl) (fun _ => rfl) t d

theorem before_2 (c : Dev nD) (t : Fin cfg0.N) (d) : (dats m P 0 c).before 2 t d = iblk m c 2 t :=
  (dats m P 0 c).before_in_eq_fetched 2 rfl (fun _ => rfl) (fun _ _ _ => rfl) (fun _ => rfl) t d

theorem point (t : Fin cfg0.N) : (grid0.coords t 0).val = t.val := by
  rw [Pipeline.Grid.coords_val t 0 (S := 1) (B := 128) (by decide) rfl]
  have : t.val < 128 := t.isLt
  omega

theorem block_dest (c : Dev nD) (t : Fin cfg0.N) (k : ℕ) :
    dword (F := F) (iblk m c 0 t) k = destOf m c (ValueIdx.ix3 (⟨t.val, t.isLt⟩ : Fin 128) (0 : Fin 1) (Fin.ofNat 1024 k)) := by
  have ht : t.val < 128 := t.isLt
  refine congrArg (destOf m c) (funext fun a => Fin.ext ?_)
  refine (Pipeline.Window.rect_emb_val win0_0 t _ a).trans ?_
  have h0 : (BitVec.ofNat 32 (grid0.coords t 0).val).toNat = t.val := by rw [point t, BitVec.toNat_ofNat]; omega
  match a with
  | ⟨0, _⟩ => show (BitVec.ofNat 32 (grid0.coords t 0).val).toNat * 1 + 0 = t.val; omega
  | ⟨1, _⟩ => rfl
  | ⟨2, _⟩ => show 0 * 1024 + _ = _; rw [Nat.zero_mul, Nat.zero_add]

theorem block_rows (c : Dev nD) (t : Fin cfg0.N) (r : Fin 512) (y : Fin 1024) :
    (iblk m c 2 t : S512x1024.Idx → Elt F .f32) (ValueIdx.ix2 r y)
      = rowsIn m c (ValueIdx.ix2 (⟨512 * t.val + r.val, by have : t.val < 128 := t.isLt; omega⟩ : Fin 65536) y) := by
  have ht : t.val < 128 := t.isLt
  refine congrArg (rowsIn m c) (funext fun a => Fin.ext ?_)
  refine (Pipeline.Window.rect_emb_val win0_2 t _ a).trans ?_
  have h0 : (BitVec.ofNat 32 (grid0.coords t 0).val).toNat = t.val := by rw [point t, BitVec.toNat_ofNat]; omega
  match a with
  | ⟨0, _⟩ => show (BitVec.ofNat 32 (grid0.coords t 0).val).toNat * 512 + r.val = 512 * t.val + r.val; omega
  | ⟨1, _⟩ => show 0 * 1024 + y.val = y.val; omega

theorem block_fill (c : Dev nD) (t : Fin cfg0.N) : (iblk m c 1 t : S3x33.Idx → Elt F .i32) = fillOf m c := by
  funext x
  refine congrArg (fillOf m c) (funext fun a => Fin.ext ?_)
  refine (Pipeline.Window.rect_emb_val win0_1 t _ a).trans ?_
  match a with
  | ⟨0, _⟩ => show 0 * 3 + (x 0).val = (x 0).val; omega
  | ⟨1, _⟩ => show 0 * 33 + (x 1).val = (x 1).val; omega

variable (hR : ∀ c, Ready (destOf m c) (fillOf m c) (P c))
include hR

theorem block_lt (c : Dev nD) (t : Fin cfg0.N) (k : ℕ) : (dword (F := F) (iblk m c 0 t) k).toNat < 147456 := by
  rw [block_dest]; exact (hR c).lt _ _

omit hR in
theorem block_slots (c : Dev nD) (t : Fin cfg0.N) : slotAt (F := F) (iblk m c 0 t) = stepSlots (destOf m c) (⟨t.val, t.isLt⟩ : Fin 128) := by
  funext q
  show (dword (F := F) (iblk m c 0 t) (colOf q.val)).toNat = _
  rw [block_dest]
  show BitVec.toNat (w := 32) _ = BitVec.toNat (w := 32) _
  refine congrArg _ (congrArg (destOf m c) (congrArg (ValueIdx.ix3 _ _) (Fin.ext ?_)))
  exact Nat.mod_eq_of_lt (colOf_lt q)

theorem block_sends (c : Dev nD) (t : Fin cfg0.N) (f : Buf (Elt F) ((st0_2 t).view.loc (c : Thread nD τ))) (hf : (st0_2 t).view.read (Elt F) f = iblk m c 2 t) :
    Sends (c := c) (st0_2 t) (iblk m c 0 t) (result m c) f := by
  intro q r hr x hx
  have hx := mem_rowsOf.1 hx
  rw [show slotAt (F := F) (iblk m c 0 t) q = stepSlots (destOf m c) (⟨t.val, t.isLt⟩ : Fin 128) q from congrFun (block_slots m c t) q] at hx
  refine (target_hit (hR c) (rowsIn m c) (i := ⟨t.val, t.isLt⟩) (k := col q) (x := x) ?_).trans ?_
  · show stepSlots (destOf m c) (⟨t.val, t.isLt⟩ : Fin 128) q = _
    omega
  · rw [hf]
    refine Eq.trans ?_ (block_rows m c t r (x 1)).symm
    refine congrArg (rowsIn m c) (congrArg (fun n => ValueIdx.ix2 n (x 1)) (Fin.ext ?_))
    show 512 * t.val + colOf q.val % 512 = 512 * t.val + r.val
    rw [hr]
    unfold colOf rowOf
    omega

def bodyPre (c : Dev nD) (t : Fin cfg0.N) : sProp 𝕄 :=
  iprop((dats m P 0 c).Φ t.castSucc ∗ (dats m P 0 c).owesAt () t.castSucc
    ∗ (∃ d, owns (c : Thread nD τ) (st0_0 t) fullShare ((dats m P 0 c).before 0 t d))
    ∗ (∃ d, owns (c : Thread nD τ) (st0_1 t) fullShare ((dats m P 0 c).before 1 t d))
    ∗ (∃ d, owns (c : Thread nD τ) (st0_2 t) fullShare ((dats m P 0 c).before 2 t d)))
def bodyPost (c : Dev nD) (t : Fin cfg0.N) : sProp 𝕄 :=
  iprop((dats m P 0 c).Φ t.succ ∗ (dats m P 0 c).owesAt () t.succ
    ∗ owns (c : Thread nD τ) (st0_0 t) fullShare ((dats m P 0 c).after 0 t)
    ∗ owns (c : Thread nD τ) (st0_1 t) fullShare ((dats m P 0 c).after 1 t)
    ∗ owns (c : Thread nD τ) (st0_2 t) fullShare ((dats m P 0 c).after 2 t))

omit hR in
theorem of_owns (c : Dev nD) (t : Fin cfg0.N) (Y : S512x1024.Idx → Elt F .f32) :
    (owns (c : Thread nD τ) (st0_2 t) fullShare Y : sProp 𝕄) ⊢ iprop(∃ f : Buf (Elt F) ((st0_2 t).view.loc (c : Thread nD τ)),
      ⌜(st0_2 t).view.read (Elt F) f = Y⌝ ∗ (st0_2 t).view.loc (c : Thread nD τ) ↦[(st0_2 t).view.set]{fullShare} f) := .rfl

omit hR in
theorem owns_of (c : Dev nD) (t : Fin cfg0.N) (f : Buf (Elt F) ((st0_2 t).view.loc (c : Thread nD τ))) {Y : S512x1024.Idx → Elt F .f32}
    (hf : (st0_2 t).view.read (Elt F) f = Y) :
    ((st0_2 t).view.loc (c : Thread nD τ) ↦[(st0_2 t).view.set]{fullShare} f : sProp 𝕄) ⊢ owns (c : Thread nD τ) (st0_2 t) fullShare Y := by
  unfold owns
  iintro H; iexists f; isplitr; · ipureintro; exact hf
  iexact H

theorem sound_body (c : Dev nD) (t : Fin cfg0.N) :
    bodyPre m P c t ⊢ wp frame (wpE (defs₀ (F := F)) Variants.none c none) Set.univ (bodyAt0 t) (fun _ => bodyPost m P c t) := by
  unfold bodyPre bodyPost bodyAt0
  rw [show (dats m P 0 c).Φ t.castSucc = inv m P c t.val from rfl, show (dats m P 0 c).Φ t.succ = inv m P c (t.val + 1) from rfl]
  rw [show (dats m P 0 c).after 0 t = iblk m c 0 t from rfl, show (dats m P 0 c).after 1 t = iblk m c 1 t from rfl, show (dats m P 0 c).after 2 t = iblk m c 2 t from rfl]
  unfold Dat.owesAt Pipeline.owesWithin inv
  rw [show (dats m P 0 c).owed t.castSucc = 0 from rfl, show (dats m P 0 c).owed t.succ = 0 from rfl, if_neg (Nat.succ_ne_zero _)]
  iintro ⟨⟨Hg, HS, Hq, HB⟩, ⟨%W, -, HW⟩, ⟨%d0, H0⟩, ⟨%d1, H1⟩, ⟨%d2, H2⟩⟩
  rw [before_0 m P c t d0, before_1 m P c t d1, before_2 m P c t d2]
  ihave H2 := (of_owns c t _) $$ H2
  icases H2 with ⟨%f, %hf, H2⟩
  ihave HS := (steps_take (hR c) (result m c) (before m c) (⟨t.val, t.isLt⟩ : Fin 128)) $$ HS
  icases HS with ⟨Hs, HS⟩
  have hw : Words (F := F) (iblk m c 1 t) (P c) := by rw [block_fill]; exact (hR c).words
  have hrun := body_run (c := c) (i := grid0.coords t) (arg1 := st0_0 t) (harg1 := hstage0_0 ((cfg0.slots t 0).cast nbuf0_0))
    (arg2 := st0_1 t) (harg2 := hstage0_1 ((cfg0.slots t 1).cast nbuf0_1)) (arg3 := st0_2 t) (harg3 := hstage0_2 ((cfg0.slots t 2).cast nbuf0_2))
    (harg4 := Memref.isWhole_whole _) (harg5 := Memref.isWhole_whole _) (q := fullShare) (q₁ := fullShare)
    (f₀ := before m c) (G := result m c) hw (block_lt (m := m) (P := P) (hR := hR) (c := c) (t := t)) (block_sends (m := m) (P := P) (hR := hR) (c := c) (t := t) f hf) (target_pad (hR c) (rowsIn m c))
  rw [point t] at hrun
  unfold own at hrun
  rw [block_slots m c t] at hrun
  iapply wp_wand_r
  isplitl [HW HB Hq H0 H1 H2 Hs]
  · iapply hrun
    isplitl [HW Hq H0 H2 Hs]
    · isplitl [Hq H0 H2 Hs]
      · isplitl [H0]; · iexact H0
        isplitl [H2]; · iexact H2
        isplitl [Hs]; · iexact Hs
        iexact Hq
      iexists _; iexact HW
    isplitl [H1]; · iexact H1
    iexact HB
  iintro %a ⟨⟨⟨H0, H2, Hs, Hq⟩, ⟨%W', HW⟩⟩, H1, HB⟩
  isplitl [Hg HS Hs Hq HB]
  · isplitl [Hg]; · iexact Hg
    isplitl [HS Hs]
    · iapply (steps_put (hR c) (result m c) (before m c) (⟨t.val, t.isLt⟩ : Fin 128))
      isplitl [Hs]; · iexact Hs
      iexact HS
    isplitl [Hq]; · iexact Hq
    iexact HB
  isplitl [HW]
  · iexists W'
    isplitr; · ipureintro; exact fun _ _ => Or.inl trivial
    iexact HW
  isplitl [H0]; · iexact H0
  isplitl [H1]; · iexact H1
  iapply (owns_of c t f hf)
  iexact H2

omit hR in
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m P 0 c) (defs₀ (F := F)) Variants.none () Set.univ := fun t => by
  rw [bigSep_W0, bigSep_W0, defs₀_row]
  exact triple_restated (sound_body (m := m) (P := P) (hR := hR) (c := c) (t := t)) rfl .rfl fun _ => .rfl

/-- The result's contents beside the arguments'. -/
def leaves (c : Dev nD) : (b : Ref sig .tc) → Buf (Elt F) ((c : Thread nD τ).loc b) := Function.update (V m c) main_v0 (result m c)

theorem start (c : Dev nD) : (Pipeline.ΦDRG osem0 spec0 ∅ R0 (V m) (V m) c : sProp 𝕄) ⊢ (dats m P 0 c).Φ 0 := by
  rw [Pipeline.ΦDRG_eq, scopedRest0_eq, ownSems_eq, routed_eq, show (dats m P 0 c).Φ 0 = inv m P c 0 from rfl]
  unfold inv bodyRest
  rw [if_pos rfl]
  iintro ⟨HZ, Hg, ⟨H5, H6⟩, -, HO⟩
  ihave HO := (out_split (hR c) (before m c)).1 $$ HO
  icases HO with ⟨HS, HP⟩
  isplitl [Hg]; · iexact Hg
  isplitl [HS]; · iexact HS
  isplitl [H5]; · iexact H5
  isplitl [HZ]; · iexact HZ
  isplitl [HP]; · iexact HP
  iexact H6

theorem finish (c : Dev nD) : (dats m P 0 c).Φ (Fin.last cfg0.N) ⊢ (Pipeline.ΦDRG osem0 spec0 ∅ R0 (V m) (leaves m) c : sProp 𝕄) := by
  rw [Pipeline.ΦDRG_eq, scopedRest0_eq, ownSems_eq, routed_eq, show (dats m P 0 c).Φ (Fin.last cfg0.N) = inv m P c 128 from rfl]
  unfold inv bodyRest
  rw [if_neg (by decide), BI.bigSep_empty, show leaves m c main_v0 = result m c from Function.update_self _ _ _,
    show (fun i : Fin 128 => (slots c (stepSlots (destOf m c) i) (if i.val < 128 then result m c else before m c) : sProp 𝕄)) = fun i => slots c (stepSlots (destOf m c) i) (result m c) from
      funext fun i => by rw [if_pos i.isLt]]
  iintro ⟨Hg, HS, H5, HZ, HP, H6⟩
  isplitl [HZ]; · iexact HZ
  isplitl [Hg]; · iexact Hg
  isplitl [H5 H6]
  · isplitl [H5]; · iexact H5
    iexact H6
  isplitr; · iempintro
  iapply (out_split (hR c) (result m c)).2
  isplitl [HS]; · iexact HS
  iexact HP

set_option backward.isDefEq.respectTransparency.types false in
theorem run_launch : θ_run defs (onTc (τ := τ) (main (F := F))) (s₀ m ρ)
    (fun r => Pipeline.FramePostRG cfgs (dats m P) 0 R0 (V m) (leaves m) r ∧ r.2.sem = fun _ => 0) :=
  Pipeline.θ_run_frame_dmaRG (Q' := _) cfgs (dats m P) (0 : Fin 1) launch0 osem0 defs₀ Variants.none ownSemFacts0 ∅ R0 (Finset.empty_subset _) R0_sub m ρ main
    (hbody := fun c => (body_obligation (m := m) (P := P) (hR := hR) c).loose) (hshare := fun c => (dats m P 0 c).share_full fun _ => rfl)
    (howed := fun _ _ => rfl) (V := V m) (hmain := hmain m Variants.none) (hA := A_eq m P) (G := leaves m)
    (hin := start m P hR) (hout := finish m P hR)

/-- The run: the arguments and the semaphores as they were, the result `target` of the arguments. -/
theorem run_main : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.mem ((c.tc : Thread nD τ).loc main_v0) = result m c)
      ∧ r.2.sem = fun _ => 0) :=
  (θ_run defs _ _).mono (fun _ h => ⟨fun c => ⟨⟨((h.1.toR c).1 0).trans (((dats m P 0 c).arrAt_in 0 rfl _).trans (A_eq m P c 0)),
      ((h.1.toR c).1 1).trans (((dats m P 0 c).arrAt_in 1 rfl _).trans (A_eq m P c 1)),
      ((h.1.toR c).1 2).trans (((dats m P 0 c).arrAt_in 2 rfl _).trans (A_eq m P c 2))⟩,
      (h.1.written c (b := main_v0) (by decide)).trans (Function.update_self _ _ _)⟩, h.2⟩) (run_launch m ρ P hR)

end Cert.KernelIdeal.Hand

end

end
-- ==== Proof.Dispatch.lean ====
module

public import proofs.«01_k».proof.Defs
public import proofs.«01_k».proof.Proof.Pre
public import proofs.«01_k».proof.Proof.Launch
public import proofs.«01_k».proof.Proof.Gen.Pre_slots_are_one_to_one
public import proofs.«01_k».proof.Proof.Gen.Kernel
public import proofs.«01_k».proof.Proof.Gen.KernelIdeal
public import proofs.«01_k».proof.Proof.Gen.Reference
public import proofs.«01_k».proof.Proof.Gen.Reference.Run
public import proofs.«01_k».proof.Proof.Gen.ReferenceIdeal
public import proofs.«01_k».proof.Proof.Gen.ReferenceIdeal.Run

@[expose] public section

/-! # The dispatch's claims -/

set_option maxRecDepth 16384

noncomputable section

namespace Cert.KernelIdeal.Hand

open Idealize.ShloMosaic Idealize.ShloMosaic.TcCoe Idealize.SL.Sem

section
open Cert.KernelIdeal

variable {F : FTy → Type} [FloatOps F]

/-- On every core the arguments are ready. -/
theorem all_ready (m : (ℓ : Loc nD τ sig) → Buf (Elt F) ℓ) (hb : ∀ c : Dev nD, Bitwise (destOf m c) (fillOf m c)) :
    ∃ P : Dev nD → Fill, ∀ c, Ready (destOf m c) (fillOf m c) (P c) :=
  ⟨fun c => fillPlan (hb c), fun c => plan_ready (hb c)⟩

/-- The kernel's run, of ready arguments. -/
theorem kernel_run (m : (ℓ : Loc nD τ sig) → Buf (Elt F) ℓ) (ρ : Dev nD → PrngReg) (hb : ∀ c : Dev nD, Bitwise (destOf m c) (fillOf m c)) :
    θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.mem ((c.tc : Thread nD τ).loc main_v0) = result m c)
      ∧ r.2.sem = fun _ => 0) := by
  obtain ⟨P, hP⟩ := all_ready m hb
  exact run_main m ρ P hP

/-- The reference's result, of ready arguments, is the kernel's. -/
theorem reference_value (m : (ℓ : Loc nD τ sig) → Buf (Elt F) ℓ) (hb : ∀ c : Dev nD, Bitwise (destOf m c) (fillOf m c)) (c : Dev nD) :
    refOut (destOf m c) (rowsIn m c) = result m c := by
  obtain ⟨P, hP⟩ := all_ready m hb
  exact refOut_eq _ (hP c)

end

theorem pre_bits (m : (ℓ : Loc Cert.Kernel.nD Cert.Kernel.τ Cert.Kernel.sig) → Buf (Elt Bits) ℓ) (h : Cert.Pre_Kernel m) (c : Dev Cert.KernelIdeal.nD) :
    Bitwise (destOf (F := Bits) m c) (fillOf (F := Bits) m c) :=
  have ⟨h1, h2, h3, h4, h5, h6, h7⟩ := h c
  bitwise (F := Bits) _ _ (rowsIn (F := Bits) m c) h1 h2 h3 h4 h5 h6 h7

theorem pre_ideal (m : (ℓ : Loc Cert.KernelIdeal.nD Cert.KernelIdeal.τ Cert.KernelIdeal.sig) → Buf (Elt Ideal) ℓ) (h : Cert.Pre_KernelIdeal m) (c : Dev Cert.KernelIdeal.nD) :
    Bitwise (destOf (F := Ideal) m c) (fillOf (F := Ideal) m c) :=
  have ⟨h1, h2, h3, h4, h5, h6, h7⟩ := h c
  bitwise (F := Ideal) _ _ (rowsIn (F := Ideal) m c) h1 h2 h3 h4 h5 h6 h7

section
variable {F : FTy → Type} [FloatOps F]

/-! The two programs have one text: piece by piece they are the same. -/

theorem body_eq : Cert.Kernel.cc0_dispatch (F := F) = Cert.KernelIdeal.cc0_dispatch (F := F) := rfl

theorem bodies_eq : Cert.Kernel.defs₀ (F := F) = Cert.KernelIdeal.defs₀ (F := F) := by
  unfold Cert.Kernel.defs₀ Cert.KernelIdeal.defs₀
  rw [body_eq]
  refine congrArg Defs.onTc (funext fun l => funext fun a => ?_)
  match l, a with
  | 0, (t, s) => rfl

theorem defs_eq : Cert.Kernel.defs (F := F) = Cert.KernelIdeal.defs (F := F) :=
  congrArg (Pipeline.defs Cert.KernelIdeal.pcfgs) bodies_eq

theorem run_kernel (m : (ℓ : Loc Cert.KernelIdeal.nD Cert.KernelIdeal.τ Cert.KernelIdeal.sig) → Buf (Elt F) ℓ) (ρ : Dev Cert.KernelIdeal.nD → PrngReg)
    (hb : ∀ c : Dev Cert.KernelIdeal.nD, Bitwise (destOf m c) (fillOf m c)) :
    θ_run (Cert.Kernel.defs (F := F)) (onTc (τ := Cert.Kernel.τ) (Cert.Kernel.main (F := F))) ⟨m, fun _ => 0, ρ⟩ (fun r => (∀ c : Dev Cert.KernelIdeal.nD,
      (r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.mem ((c.tc : Thread Cert.Kernel.nD Cert.Kernel.τ).loc Cert.Kernel.main_v0) = result m c)
      ∧ r.2.sem = fun _ => 0) := by
  have h := kernel_run m ρ hb
  rw [← defs_eq] at h
  exact h

end

theorem frame_kernel : Cert.quiescent_Kernel := fun m ρ hpre =>
  (θ_run Cert.Kernel.defs _ _).mono (fun _ h => ⟨fun c => (h.1 c).1, h.2⟩) (run_kernel (F := Bits) m ρ (pre_bits m hpre))

theorem frame_kernelIdeal : Cert.quiescent_KernelIdeal := fun m ρ hpre =>
  (θ_run Cert.KernelIdeal.defs _ _).mono (fun _ h => ⟨fun c => (h.1 c).1, h.2⟩) (kernel_run (F := Ideal) m ρ (pre_ideal m hpre))

theorem frame_referenceIdeal : Cert.quiescent_ReferenceIdeal := fun m ρ _ =>
  (θ_run Cert.ReferenceIdeal.defs _ _).mono (fun r h => ⟨fun c => (h c).2, sem_eq_zero_of_no_sems (by decide) r.2⟩) (run_ref (F := Ideal) m ρ)

theorem frame_referenceIdeal_pre : Cert.quiescent_ReferenceIdeal_pre_slots_are_one_to_one := fun m ρ _ =>
  frame_referenceIdeal m ρ trivial

theorem frame_reference : Cert.quiescent_Reference := fun m ρ _ =>
  (θ_run Cert.Reference.defs _ _).mono (fun r h => ⟨fun c => (h c).2, sem_eq_zero_of_no_sems (by decide) r.2⟩) (Cert.Reference.Value.run (F := Bits) m ρ)

theorem algebraic : Cert.algebraic_KernelIdeal_ReferenceIdeal := fun m ρ m' ρ' hpre hag => by
  refine ⟨fun c => result m c, (θ_run Cert.KernelIdeal.defs _ _).mono (fun _ h c => ⟨(h.1 c).2, (h.1 c).1⟩) (kernel_run (F := Ideal) m ρ (pre_ideal m hpre)),
    (θ_run Cert.ReferenceIdeal.defs _ _).mono (fun _ h c => ⟨(h c).1.trans ?_, (h c).2⟩) (run_ref (F := Ideal) m' ρ')⟩
  exact (congrArg₂ (refOut (F := Ideal)) (hag c).1 (hag c).2.2).trans (reference_value m (pre_ideal m hpre) c)

theorem bitexact : Cert.bitexact_Kernel_Reference := fun m ρ m' ρ' hpre hag => by
  refine ⟨fun c => result (F := Bits) m c, (θ_run Cert.Kernel.defs _ _).mono (fun _ h c => ⟨(h.1 c).2, (h.1 c).1⟩) (run_kernel (F := Bits) m ρ (pre_bits m hpre)),
    (θ_run Cert.Reference.defs _ _).mono (fun _ h c => ⟨(h c).1.trans ?_, (h c).2⟩) (Cert.Reference.Value.run (F := Bits) m' ρ')⟩
  exact (congrArg₂ (refOut (F := Bits)) (hag c).1 (hag c).2.2).trans (reference_value (F := Bits) m (pre_bits m hpre) c)

end Cert.KernelIdeal.Hand

end

end
-- ==== Proof.MergeRow.lean ====
module

public import Idealize.ShloMosaic.Lib.ValueIdx
public import Idealize.ShloMosaic.Lib.Pipeline.Value
public import Idealize.ShloMosaic.PureOps.Ideal.Laws

@[expose] public section

/-! # One token's row through the merge

The merge works token by token: a row of the result depends on one row of the stream and of the two mixers' outputs,
on one batch's memory keys and values, and on the weights. These are its steps over the extended reals, as functions
of the row; `scaled_score` is the one identity the kernel's order of work needs. -/

noncomputable section

namespace Cert.MergeRow

open Idealize.ShloMosaic

/-- The row's length, as the divisor of a mean. -/
abbrev len : EReal := Ideal.ofBits .f32 0x44800000#32
/-- The mean's guard. -/
abbrev eps : EReal := Ideal.ofBits .f32 0x358637BD#32
/-- Where a maximum starts. -/
abbrev low : EReal := Ideal.ofBits .f32 0xFF800000#32
/-- The scores' scale, one sixteenth. -/
abbrev sixteenth : EReal := Ideal.ofBits .f32 0x3D800000#32

/-- A row times a matrix. -/
def vm {k n : ℕ} (v : Fin k → EReal) (w : Fin k → Fin n → EReal) (c : Fin n) : EReal := ∑ j, v j * w j c

/-- A row over its root mean square, times the gains. -/
def norm (x g : Fin 1024 → EReal) (c : Fin 1024) : EReal :=
  x c * Ideal.rsqrt (Ideal.div (∑ j, x j * x j) len + eps) * g c

/-- Column `c` of the first half of the gates, and of the second. -/
abbrev lo (c : Fin 1024) : Fin 2048 := ⟨c.val, by have := c.isLt; omega⟩
abbrev hi (c : Fin 1024) : Fin 2048 := ⟨1024 + c.val, by have := c.isLt; omega⟩

/-- The gates of the row. -/
def gate (x g : Fin 1024 → EReal) (w : Fin 1024 → Fin 2048 → EReal) (b : Fin 2048 → EReal) (c : Fin 2048) : EReal :=
  Ideal.logistic (vm (norm x g) w c + b c)

/-- The two mixers' outputs through their matrices, gated and added. -/
def mixed (gt : Fin 2048 → EReal) (ya yb : Fin 512 → EReal) (wa wb : Fin 512 → Fin 1024 → EReal) (c : Fin 1024) : EReal :=
  gt (lo c) * vm ya wa c + gt (hi c) * vm yb wb c

/-- The stream after the mixers. -/
def stream (x : Fin 1024 → EReal) (mx : Fin 1024 → EReal) (wo : Fin 1024 → Fin 1024 → EReal) (c : Fin 1024) : EReal :=
  x c + vm mx wo c

/-- Feature `e` of head `h`. -/
abbrev hd (h : Fin 4) (e : Fin 256) : Fin 1024 := ⟨256 * h.val + e.val, by have := h.isLt; have := e.isLt; omega⟩

/-- Head `h`'s score of memory row `i`. -/
def score (q : Fin 1024 → EReal) (ks : Fin 256 → Fin 1024 → EReal) (h : Fin 4) (i : Fin 256) : EReal :=
  ∑ e : Fin 256, q (hd h e) * ks i (hd h e)

/-- The greatest score. -/
def top (s : Fin 256 → EReal) : EReal := (Finset.univ : Finset (Fin 256)).fold max low s

/-- A score's exponential from the greatest. -/
def ex (s : Fin 256 → EReal) (i : Fin 256) : EReal := Ideal.exp (s i - top s)

/-- The softmax of the scores. -/
def soft (s : Fin 256 → EReal) (i : Fin 256) : EReal := Ideal.div (ex s i) (∑ j, ex s j)

/-- Feature `e` of one head's attention to the memory. -/
def att (s : Fin 256 → EReal) (vs : Fin 256 → Fin 1024 → EReal) (h : Fin 4) (e : Fin 256) : EReal :=
  ∑ i, soft s i * vs i (hd h e)

/-- A feature's head, and its place in the head. -/
abbrev hq (k : Fin 1024) : Fin 4 := ⟨k.val / 256, by have := k.isLt; omega⟩
abbrev hr (k : Fin 1024) : Fin 256 := ⟨k.val % 256, Nat.mod_lt _ (by decide)⟩

/-- The heads side by side. -/
def heads (s : Fin 4 → Fin 256 → EReal) (vs : Fin 256 → Fin 1024 → EReal) (k : Fin 1024) : EReal :=
  att (s (hq k)) vs (hq k) (hr k)

theorem hd_hq_hr (k : Fin 1024) : hd (hq k) (hr k) = k :=
  Fin.ext (by show 256 * (k.val / 256) + k.val % 256 = k.val; omega)

/-! ## The scale, in the query's matrix or on the scores -/

theorem sixteenth_eq : sixteenth = ((1 / 16 : ℝ) : EReal) := by
  simp [sixteenth, Ideal.ofBits, Ideal.ieee]
  rw [← EReal.coe_mul]
  norm_num

theorem sixteenth_nonneg : 0 ≤ sixteenth := by
  rw [sixteenth_eq]; exact EReal.coe_nonneg.2 (by norm_num)

theorem sixteenth_ne_top : sixteenth ≠ ⊤ := by rw [sixteenth_eq]; exact EReal.coe_ne_top _

/-- A factor that is not negative and not infinite comes out of a sum. -/
theorem sum_mul_const {n : ℕ} (f : Fin n → EReal) (r : EReal) (h0 : 0 ≤ r) (ht : r ≠ ⊤) :
    ∑ j, f j * r = (∑ j, f j) * r := by
  classical
  refine Finset.induction_on (Finset.univ : Finset (Fin n)) (by simp) ?_
  intro a s ha ih
  rw [Finset.sum_insert ha, Finset.sum_insert ha, ih, EReal.right_distrib_of_nonneg_of_ne_top h0 ht]

/-- Scaling the query's matrix scales the scores. -/
theorem scaled_score (x : Fin 1024 → EReal) (w : Fin 1024 → Fin 1024 → EReal) (ks : Fin 256 → Fin 1024 → EReal)
    (h : Fin 4) (i : Fin 256) :
    score (vm x fun k c => w k c * sixteenth) ks h i = score (vm x w) ks h i * sixteenth := by
  have e : ∀ c, vm x (fun k c => w k c * sixteenth) c = vm x w c * sixteenth := fun c => by
    unfold vm
    rw [← sum_mul_const _ _ sixteenth_nonneg sixteenth_ne_top]
    exact Finset.sum_congr rfl fun k _ => (mul_assoc _ _ _).symm
  unfold score
  rw [← sum_mul_const _ _ sixteenth_nonneg sixteenth_ne_top]
  refine Finset.sum_congr rfl fun k _ => ?_
  rw [e, mul_assoc, mul_assoc, mul_comm sixteenth]

/-- Starting a maximum twice is starting it once. -/
theorem max_low_top (s : Fin 256 → EReal) : max low (top s) = top s :=
  max_eq_right ((Finset.le_fold_max low).2 (.inl le_rfl))

/-! ## Sums over a contracted axis -/

/-- A product's sum over its one contracted axis, by the coordinate on it. -/
theorem sum_contr {sl sr so : Shape} (d : DotDims sl sr so) (n : ℕ) (hr : d.contr.rank = 1)
    (hs : d.contr.size ⟨0, by omega⟩ = n) (L : d.contr.Idx → EReal) (g : Fin n → EReal)
    (h : ∀ k : d.contr.Idx, L k = g ((k ⟨0, by omega⟩).cast hs)) : ∑ k, L k = ∑ k, g k :=
  ((Finset.sum_congr rfl fun k _ => h k).trans (Equiv.sum_comp (ValueIdx.contrEquiv1 d n hr hs) g))

/-! ## The whole arrays -/

/-- The arrays the merge reads. -/
structure Args where
  x : (⟨3, ![32, 2048, 1024]⟩ : Shape).Idx → EReal
  ya : (⟨3, ![32, 2048, 512]⟩ : Shape).Idx → EReal
  yb : (⟨3, ![32, 2048, 512]⟩ : Shape).Idx → EReal
  mem : (⟨3, ![32, 256, 2048]⟩ : Shape).Idx → EReal
  g1 : (⟨2, ![1, 1024]⟩ : Shape).Idx → EReal
  wg : (⟨3, ![1, 1024, 2048]⟩ : Shape).Idx → EReal
  bg : (⟨2, ![1, 2048]⟩ : Shape).Idx → EReal
  wa : (⟨3, ![1, 512, 1024]⟩ : Shape).Idx → EReal
  wb : (⟨3, ![1, 512, 1024]⟩ : Shape).Idx → EReal
  wo : (⟨3, ![1, 1024, 1024]⟩ : Shape).Idx → EReal
  g2 : (⟨2, ![1, 1024]⟩ : Shape).Idx → EReal
  wq : (⟨3, ![1, 1024, 1024]⟩ : Shape).Idx → EReal
  wc : (⟨3, ![1, 1024, 1024]⟩ : Shape).Idx → EReal

open ValueIdx in
/-- Token `(b, s)`'s gates. -/
def Args.gates (A : Args) (b : Fin 32) (s : Fin 2048) : Fin 2048 → EReal :=
  gate (fun k => A.x (ix3 b s k)) (fun k => A.g1 (ix2 (0 : Fin 1) k)) (fun k c => A.wg (ix3 (0 : Fin 1) k c))
    (fun c => A.bg (ix2 (0 : Fin 1) c))

open ValueIdx in
/-- Token `(b, s)`'s stream after the mixers. -/
def Args.stream (A : Args) (b : Fin 32) (s : Fin 2048) : Fin 1024 → EReal :=
  MergeRow.stream (fun k => A.x (ix3 b s k))
    (mixed (A.gates b s) (fun k => A.ya (ix3 b s k)) (fun k => A.yb (ix3 b s k))
      (fun k c => A.wa (ix3 (0 : Fin 1) k c)) (fun k c => A.wb (ix3 (0 : Fin 1) k c)))
    (fun k c => A.wo (ix3 (0 : Fin 1) k c))

open ValueIdx in
/-- Token `(b, s)`'s query. -/
def Args.query (A : Args) (b : Fin 32) (s : Fin 2048) : Fin 1024 → EReal :=
  vm (norm (A.stream b s) fun k => A.g2 (ix2 (0 : Fin 1) k)) fun k c => A.wq (ix3 (0 : Fin 1) k c)

open ValueIdx in
/-- Token `(b, s)`'s scaled scores. -/
def Args.scores (A : Args) (b : Fin 32) (s : Fin 2048) (h : Fin 4) (i : Fin 256) : EReal :=
  score (A.query b s) (fun i k => A.mem (ix3 b i (lo k))) h i * sixteenth

open ValueIdx in
/-- The merge's result. -/
def Args.out (A : Args) (j : (⟨3, ![32, 2048, 1024]⟩ : Shape).Idx) : EReal :=
  MergeRow.stream (A.stream (j 0) (j 1)) (heads (A.scores (j 0) (j 1)) fun i k => A.mem (ix3 (j 0) i (hi k)))
    (fun k c => A.wc (ix3 (0 : Fin 1) k c)) (j 2)

end Cert.MergeRow

end

end
-- ==== Proof.MergeTile.lean ====
module

public import proofs.«01_k».proof.Proof.MergeRow
public import proofs.«01_k».proof.Proof.Gen.MergeIdeal.Skeleton

@[expose] public section

/-! # The merge kernel's tile, entry by entry

One visit of the grid computes 512 rows of one batch. Each lemma reads one of the body's vectors at row `r` as a step of
`Cert.MergeRow` on that row. -/

set_option maxRecDepth 16384

noncomputable section

namespace Cert.MergeIdeal.Hand

open Cert.MergeIdeal Cert.MergeIdeal.Gen Cert.MergeRow Idealize.ShloMosaic Idealize.ShloMosaic.ValueIdx

/-! ## Products -/

theorem mm_gate (l : FVec Ideal S512x1024 .bf16) (r : FVec Ideal S1024x2048 .bf16) (i : Fin 512) (j : Fin 2048) :
    matmul dot_S512x1024_S1024x2048_S512x2048_1_0_0_1_n_n none l r (constant S512x2048 .f32 0x00000000#32) (ix2 i j)
      = vm (fun k => l (ix2 i k)) (fun k c => r (ix2 k c)) j :=
  (Ideal.matmul_constant_zero_apply _ none l r _).trans
    (sum_contr _ 1024 rfl rfl _ (fun k => l (ix2 i k) * r (ix2 k j)) fun k =>
      congrArg₂ (· * ·)
        (congrArg l (funext fun a => match a with | ⟨0, _⟩ => Fin.ext rfl | ⟨1, _⟩ => Fin.ext rfl))
        (congrArg r (funext fun a => match a with | ⟨0, _⟩ => Fin.ext rfl | ⟨1, _⟩ => Fin.ext rfl)))

theorem mm_branch (l : FVec Ideal S512x512 .bf16) (r : FVec Ideal S512x1024 .bf16) (i : Fin 512) (j : Fin 1024) :
    matmul dot_S512x512_S512x1024_S512x1024_1_0_0_1_n_n none l r (constant S512x1024 .f32 0x00000000#32) (ix2 i j)
      = vm (fun k => l (ix2 i k)) (fun k c => r (ix2 k c)) j :=
  (Ideal.matmul_constant_zero_apply _ none l r _).trans
    (sum_contr _ 512 rfl rfl _ (fun k => l (ix2 i k) * r (ix2 k j)) fun k =>
      congrArg₂ (· * ·)
        (congrArg l (funext fun a => match a with | ⟨0, _⟩ => Fin.ext rfl | ⟨1, _⟩ => Fin.ext rfl))
        (congrArg r (funext fun a => match a with | ⟨0, _⟩ => Fin.ext rfl | ⟨1, _⟩ => Fin.ext rfl)))

theorem mm_square (l : FVec Ideal S512x1024 .bf16) (r : FVec Ideal S1024x1024 .bf16) (i : Fin 512) (j : Fin 1024) :
    matmul dot_S512x1024_S1024x1024_S512x1024_1_0_0_1_n_n none l r (constant S512x1024 .f32 0x00000000#32) (ix2 i j)
      = vm (fun k => l (ix2 i k)) (fun k c => r (ix2 k c)) j :=
  (Ideal.matmul_constant_zero_apply _ none l r _).trans
    (sum_contr _ 1024 rfl rfl _ (fun k => l (ix2 i k) * r (ix2 k j)) fun k =>
      congrArg₂ (· * ·)
        (congrArg l (funext fun a => match a with | ⟨0, _⟩ => Fin.ext rfl | ⟨1, _⟩ => Fin.ext rfl))
        (congrArg r (funext fun a => match a with | ⟨0, _⟩ => Fin.ext rfl | ⟨1, _⟩ => Fin.ext rfl)))

theorem mm_score (l : FVec Ideal S512x256 .bf16) (r : FVec Ideal S256x256 .bf16) (i : Fin 512) (j : Fin 256) :
    matmul dot_S512x256_S256x256_S512x256_1_1_0_0_n_n none l r (constant S512x256 .f32 0x00000000#32) (ix2 i j)
      = ∑ e : Fin 256, l (ix2 i e) * r (ix2 j e) :=
  (Ideal.matmul_constant_zero_apply _ none l r _).trans
    (sum_contr _ 256 rfl rfl _ (fun k => l (ix2 i k) * r (ix2 j k)) fun k =>
      congrArg₂ (· * ·)
        (congrArg l (funext fun a => match a with | ⟨0, _⟩ => Fin.ext rfl | ⟨1, _⟩ => Fin.ext rfl))
        (congrArg r (funext fun a => match a with | ⟨0, _⟩ => Fin.ext rfl | ⟨1, _⟩ => Fin.ext rfl)))

theorem mm_value (l : FVec Ideal S512x256 .bf16) (r : FVec Ideal S256x256 .bf16) (i : Fin 512) (j : Fin 256) :
    matmul dot_S512x256_S256x256_S512x256_1_0_0_1_n_n none l r (constant S512x256 .f32 0x00000000#32) (ix2 i j)
      = ∑ e : Fin 256, l (ix2 i e) * r (ix2 e j) :=
  (Ideal.matmul_constant_zero_apply _ none l r _).trans
    (sum_contr _ 256 rfl rfl _ (fun k => l (ix2 i k) * r (ix2 k j)) fun k =>
      congrArg₂ (· * ·)
        (congrArg l (funext fun a => match a with | ⟨0, _⟩ => Fin.ext rfl | ⟨1, _⟩ => Fin.ext rfl))
        (congrArg r (funext fun a => match a with | ⟨0, _⟩ => Fin.ext rfl | ⟨1, _⟩ => Fin.ext rfl)))

/-! ## Layout -/

variable {α : Type}

theorem spread_apply (v : S512x1.Idx → α) (i : Fin 512) (j : Fin 1024) :
    broadcastTo S512x1024 v broadcasts_S512x1_S512x1024 (ix2 i j) = v (ix2 i (0 : Fin 1)) :=
  broadcastTo_apply _ _ _ (ix2 i (0 : Fin 1)) fun a => match a with | ⟨0, _⟩ => rfl | ⟨1, _⟩ => rfl

theorem spread256_apply (v : S512x1.Idx → α) (i : Fin 512) (j : Fin 256) :
    broadcastTo S512x256 v broadcasts_S512x1_S512x256 (ix2 i j) = v (ix2 i (0 : Fin 1)) :=
  broadcastTo_apply _ _ _ (ix2 i (0 : Fin 1)) fun a => match a with | ⟨0, _⟩ => rfl | ⟨1, _⟩ => rfl

theorem unrow_apply (v : S512.Idx → α) (i : Fin 512) :
    shapeCast S512x1 v shapeCasts_S512_S512x1 (ix2 i (0 : Fin 1)) = v (ix1 i) :=
  shapeCast_apply _ _ _ (ix1 i) (by rw [Shape.rowMajor_val_two, Shape.rowMajor_val_one]; show i.val = i.val * 1 + 0; omega)

theorem gain_apply (v : S1x1024.Idx → α) (i : Fin 512) (j : Fin 1024) :
    broadcastTo S512x1024 v broadcasts_S1x1024_S512x1024 (ix2 i j) = v (ix2 (0 : Fin 1) j) :=
  broadcastTo_apply _ _ _ (ix2 (0 : Fin 1) j) fun a => match a with | ⟨0, _⟩ => rfl | ⟨1, _⟩ => rfl

theorem bias_apply (v : S1x2048.Idx → α) (i : Fin 512) (j : Fin 2048) :
    broadcastTo S512x2048 v broadcasts_S1x2048_S512x2048 (ix2 i j) = v (ix2 (0 : Fin 1) j) :=
  broadcastTo_apply _ _ _ (ix2 (0 : Fin 1) j) fun a => match a with | ⟨0, _⟩ => rfl | ⟨1, _⟩ => rfl

/-- A cast to the same shape changes nothing. -/
theorem same_cast {s : Shape} (v : s.Idx → α) (h : s.ShapeCasts s) : shapeCast s v h = v :=
  funext fun j => shapeCast_apply _ _ _ j rfl

theorem drop_x (v : S1x512x1024.Idx → α) (i : Fin 512) (j : Fin 1024) :
    shapeCast S512x1024 v shapeCasts_S1x512x1024_S512x1024 (ix2 i j) = v (ix3 (0 : Fin 1) i j) :=
  shapeCast_apply _ _ _ _ (by rw [Shape.rowMajor_val_two, Shape.rowMajor_val_three]; show (0 * 512 + i.val) * 1024 + j.val = i.val * 1024 + j.val; omega)

theorem drop_y (v : S1x512x512.Idx → α) (i : Fin 512) (j : Fin 512) :
    shapeCast S512x512 v shapeCasts_S1x512x512_S512x512 (ix2 i j) = v (ix3 (0 : Fin 1) i j) :=
  shapeCast_apply _ _ _ _ (by rw [Shape.rowMajor_val_two, Shape.rowMajor_val_three]; show (0 * 512 + i.val) * 512 + j.val = i.val * 512 + j.val; omega)

theorem drop_m (v : S1x256x256.Idx → α) (i : Fin 256) (j : Fin 256) :
    shapeCast S256x256 v shapeCasts_S1x256x256_S256x256 (ix2 i j) = v (ix3 (0 : Fin 1) i j) :=
  shapeCast_apply _ _ _ _ (by rw [Shape.rowMajor_val_two, Shape.rowMajor_val_three]; show (0 * 256 + i.val) * 256 + j.val = i.val * 256 + j.val; omega)

theorem lo_apply (v : S512x2048.Idx → α) (i : Fin 512) (j : Fin 1024) :
    extractStridedSlice S512x1024 ![0, 0] v slices_S512x2048_o0_0_S512x1024 (ix2 i j) = v (ix2 i (lo j)) :=
  extractStridedSlice_apply _ _ _ _ _ fun a => match a with
    | ⟨0, _⟩ => (Nat.zero_add _).symm
    | ⟨1, _⟩ => (Nat.zero_add _).symm

theorem hi_apply (v : S512x2048.Idx → α) (i : Fin 512) (j : Fin 1024) :
    extractStridedSlice S512x1024 ![0, 1024] v slices_S512x2048_o0_1024_S512x1024 (ix2 i j) = v (ix2 i (hi j)) :=
  extractStridedSlice_apply _ _ _ _ _ fun a => match a with
    | ⟨0, _⟩ => (Nat.zero_add _).symm
    | ⟨1, _⟩ => rfl

/-! ## Reductions -/

theorem rowsum_apply (v : FVec Ideal S512x1024 .f32) (i : Fin 512) :
    multiReduction .add [1] S512 v 0x00000000#32 reduces_S512x1024_S512 (.inl rfl) rfl (ix1 i) = ∑ k : Fin 1024, v (ix2 i k) :=
  (Ideal.multiReduction_add_single v _ _ _ _ _).trans
    (Finset.sum_congr rfl fun k _ => congrArg v (funext fun a => match a with | ⟨0, _⟩ => Fin.ext rfl | ⟨1, _⟩ => Fin.ext rfl))

theorem rowsum256_apply (v : FVec Ideal S512x256 .f32) (i : Fin 512) :
    multiReduction .add [1] S512 v 0x00000000#32 reduces_S512x256_S512 (.inl rfl) rfl (ix1 i) = ∑ k : Fin 256, v (ix2 i k) :=
  (Ideal.multiReduction_add_single v _ _ _ _ _).trans
    (Finset.sum_congr rfl fun k _ => congrArg v (funext fun a => match a with | ⟨0, _⟩ => Fin.ext rfl | ⟨1, _⟩ => Fin.ext rfl))

theorem rowmax_apply (v : FVec Ideal S512x256 .f32) (i : Fin 512) :
    multiReduction .maximumf [1] S512 v 0xFF800000#32 reduces_S512x256_S512 (.inl rfl) rfl (ix1 i) = top fun k => v (ix2 i k) :=
  (Ideal.multiReduction_maximumf_single v _ _ _ _ _).trans
    (congrArg (Finset.fold max low · _) (funext fun k => congrArg v (funext fun a => match a with | ⟨0, _⟩ => Fin.ext rfl | ⟨1, _⟩ => Fin.ext rfl)))

end Cert.MergeIdeal.Hand

end

end
-- ==== Proof.MergeBody.lean ====
module

public import proofs.«01_k».proof.Proof.MergeTile
public import proofs.«01_k».proof.Proof.Gen.MergeIdeal.Value

@[expose] public section

/-! # What one visit of the merge writes

The tile's result at a row and a column is the row's result by the steps of `Cert.MergeRow`: `tile_apply`. -/

set_option maxRecDepth 16384

noncomputable section

namespace Cert.MergeIdeal.Hand

open Cert.MergeIdeal Cert.MergeIdeal.Gen Cert.MergeRow Idealize.ShloMosaic Idealize.ShloMosaic.ValueIdx

/-! ## The steps, on a tile -/

/-- A tile's rows over their root mean squares, times the gains. -/
def normV (v : FVec Ideal S512x1024 .f32) (g : FVec Ideal S1x1024 .f32) : FVec Ideal S512x1024 .f32 :=
  mulf (mulf v (broadcastTo S512x1024
    (rsqrt (addf (divf (shapeCast S512x1 (multiReduction .add [1] S512 (mulf v v) 0x00000000#32 reduces_S512x1024_S512 (.inl rfl) rfl)
        shapeCasts_S512_S512x1) (broadcast S512x1 (Scalar.ofBits .f32 0x44800000#32)))
      (broadcast S512x1 (Scalar.ofBits .f32 0x358637BD#32)))) broadcasts_S512x1_S512x1024))
    (broadcastTo S512x1024 (shapeCast S1x1024 g shapeCasts_S1x1024_S1x1024) broadcasts_S1x1024_S512x1024)

theorem normV_apply (v : FVec Ideal S512x1024 .f32) (g : FVec Ideal S1x1024 .f32) (i : Fin 512) (j : Fin 1024) :
    normV v g (ix2 i j) = norm (fun k => v (ix2 i k)) (fun k => g (ix2 (0 : Fin 1) k)) j := by
  unfold normV
  rw [mulf_apply, mulf_apply, spread_apply, gain_apply, same_cast]
  show v (ix2 i j) * Ideal.rsqrt (Ideal.div (shapeCast S512x1 _ shapeCasts_S512_S512x1 (ix2 i (0 : Fin 1))) len + eps) * _ = _
  rw [unrow_apply, rowsum_apply]
  rfl

/-- The exponentials of a tile's scores from their rows' maxima. -/
def exV (s : FVec Ideal S512x256 .f32) : FVec Ideal S512x256 .f32 :=
  exp (subf s (broadcastTo S512x256 (shapeCast S512x1
    (multiReduction .maximumf [1] S512 s 0xFF800000#32 reduces_S512x256_S512 (.inl rfl) rfl) shapeCasts_S512_S512x1)
    broadcasts_S512x1_S512x256))

theorem exV_apply (s : FVec Ideal S512x256 .f32) (i : Fin 512) (j : Fin 256) :
    exV s (ix2 i j) = ex (fun k => s (ix2 i k)) j := by
  show Ideal.exp (s (ix2 i j) - broadcastTo S512x256 _ broadcasts_S512x1_S512x256 (ix2 i j)) = _
  rw [spread256_apply, unrow_apply, rowmax_apply]
  rfl

/-- One head's attention from the exponentials and the values. -/
def attV (x : FVec Ideal S512x256 .f32) (vs : FVec Ideal S256x256 .bf16) : FVec Ideal S512x256 .bf16 :=
  truncf .bf16 (matmul dot_S512x256_S256x256_S512x256_1_0_0_1_n_n none
    (truncf .bf16 (divf x (broadcastTo S512x256 (shapeCast S512x1
      (multiReduction .add [1] S512 x 0x00000000#32 reduces_S512x256_S512 (.inl rfl) rfl) shapeCasts_S512_S512x1)
      broadcasts_S512x1_S512x256)) bitsLt_bf16_f32) vs (constant S512x256 .f32 0x00000000#32)) bitsLt_bf16_f32

theorem attV_apply (x : FVec Ideal S512x256 .f32) (vs : FVec Ideal S256x256 .bf16) (i : Fin 512) (e : Fin 256) :
    attV x vs (ix2 i e) = ∑ m : Fin 256, Ideal.div (x (ix2 i m)) (∑ k : Fin 256, x (ix2 i k)) * vs (ix2 m e) := by
  unfold attV
  rw [truncf_apply, mm_value]
  refine Finset.sum_congr rfl fun m _ => congrArg (· * _) ?_
  show Ideal.div (x (ix2 i m)) (broadcastTo S512x256 _ broadcasts_S512x1_S512x256 (ix2 i m)) = _
  rw [spread256_apply, unrow_apply, rowsum256_apply]

/-- One head's scores, from the query's columns at `o`. -/
def scoreV (o : ℕ) (h : S512x1024.Slices ![0, o] S512x256) (q : FVec Ideal S512x1024 .bf16) (ks : FVec Ideal S1x256x256 .bf16) :
    FVec Ideal S512x256 .f32 :=
  matmul dot_S512x256_S256x256_S512x256_1_1_0_0_n_n none (extractStridedSlice S512x256 ![0, o] q h)
    (shapeCast S256x256 ks shapeCasts_S1x256x256_S256x256) (constant S512x256 .f32 0x00000000#32)

theorem scoreV_apply (n : Fin 4) (o : ℕ) (ho : o = 256 * n.val) (h : S512x1024.Slices ![0, o] S512x256)
    (q : FVec Ideal S512x1024 .bf16) (kb : FVec Ideal S1x256x256 .bf16) (ks : Fin 256 → Fin 1024 → EReal)
    (hk : ∀ m e, kb (ix3 (0 : Fin 1) m e) = ks m (hd n e)) (i : Fin 512) (m : Fin 256) :
    scoreV o h q kb (ix2 i m) = score (fun k => q (ix2 i k)) ks n m := by
  unfold scoreV
  rw [mm_score]
  refine Finset.sum_congr rfl fun e _ => ?_
  rw [drop_m, hk]
  refine congrArg (· * _) ?_
  refine extractStridedSlice_apply _ _ _ _ (ix2 i (hd n e)) fun a => match a with
    | ⟨0, _⟩ => (Nat.zero_add _).symm
    | ⟨1, _⟩ => ?_
  show 256 * n.val + e.val = o + e.val
  rw [ho]

/-- One head's attention, whole. -/
theorem head_apply (n : Fin 4) (o : ℕ) (ho : o = 256 * n.val) (h : S512x1024.Slices ![0, o] S512x256)
    (q : FVec Ideal S512x1024 .bf16) (kb vb : FVec Ideal S1x256x256 .bf16) (ks vs : Fin 256 → Fin 1024 → EReal)
    (hk : ∀ m e, kb (ix3 (0 : Fin 1) m e) = ks m (hd n e)) (hv : ∀ m e, vb (ix3 (0 : Fin 1) m e) = vs m (hd n e))
    (i : Fin 512) (e : Fin 256) :
    attV (exV (scoreV o h q kb)) (shapeCast S256x256 vb shapeCasts_S1x256x256_S256x256) (ix2 i e)
      = att (score (fun k => q (ix2 i k)) ks n) vs n e := by
  rw [attV_apply]
  have hs : (fun k => scoreV o h q kb (ix2 i k)) = score (fun k => q (ix2 i k)) ks n :=
    funext fun m => scoreV_apply n o ho h q kb ks hk i m
  refine Finset.sum_congr rfl fun m _ => ?_
  rw [drop_m, hv]
  simp only [exV_apply, hs]
  rfl

/-! ## The body's vectors -/

/-- The four heads side by side. -/
theorem concat_apply (a b c d : FVec Ideal S512x256 .bf16) (f : Fin 4 → Fin 256 → EReal) (i : Fin 512)
    (ha : ∀ e, a (ix2 i e) = f 0 e) (hb : ∀ e, b (ix2 i e) = f 1 e) (hc : ∀ e, c (ix2 i e) = f 2 e)
    (hd' : ∀ e, d (ix2 i e) = f 3 e) (k : Fin 1024) :
    concatenate S512x1024 1 [⟨S512x256, a⟩, ⟨S512x256, b⟩, ⟨S512x256, c⟩, ⟨S512x256, d⟩]
      concatenates_S512x256_S512x256_S512x256_S512x256_S512x1024_d1 (ix2 i k) = f (hq k) (hr k) := by
  have hk := k.isLt
  have off : ∀ bb : Fin S512x256.rank, bb.cast (rfl : S512x256.rank = S512x1024.rank) ≠ (1 : Fin S512x1024.rank) →
      ((ix2 i (hr k) : S512x256.Idx) bb).val = ((ix2 i k : S512x1024.Idx) (bb.cast rfl)).val := fun bb hne =>
    match bb, hne with
    | ⟨0, _⟩, _ => rfl
    | ⟨1, _⟩, h => absurd rfl h
  have cases : k.val / 256 = 0 ∨ k.val / 256 = 1 ∨ k.val / 256 = 2 ∨ k.val / 256 = 3 := by omega
  rcases cases with e | e | e | e
  · have hh : hq k = 0 := Fin.ext e
    rw [hh, ← ha]
    exact concatenate_apply_piece (t := S512x1024) 1 [⟨S512x256, a⟩, ⟨S512x256, b⟩, ⟨S512x256, c⟩, ⟨S512x256, d⟩] _ (ix2 i k) 0 (show 0 < 4 by decide) S512x256 a rfl rfl 0 rfl (ix2 i (hr k)) off
      (by show 0 + k.val % 256 = k.val; omega)
  · have hh : hq k = 1 := Fin.ext e
    rw [hh, ← hb]
    exact concatenate_apply_piece (t := S512x1024) 1 [⟨S512x256, a⟩, ⟨S512x256, b⟩, ⟨S512x256, c⟩, ⟨S512x256, d⟩] _ (ix2 i k) 1 (show 1 < 4 by decide) S512x256 b rfl rfl 256 rfl (ix2 i (hr k)) off
      (by show 256 + k.val % 256 = k.val; omega)
  · have hh : hq k = 2 := Fin.ext e
    rw [hh, ← hc]
    exact concatenate_apply_piece (t := S512x1024) 1 [⟨S512x256, a⟩, ⟨S512x256, b⟩, ⟨S512x256, c⟩, ⟨S512x256, d⟩] _ (ix2 i k) 2 (show 2 < 4 by decide) S512x256 c rfl rfl 512 rfl (ix2 i (hr k)) off
      (by show 512 + k.val % 256 = k.val; omega)
  · have hh : hq k = 3 := Fin.ext e
    rw [hh, ← hd']
    exact concatenate_apply_piece (t := S512x1024) 1 [⟨S512x256, a⟩, ⟨S512x256, b⟩, ⟨S512x256, c⟩, ⟨S512x256, d⟩] _ (ix2 i k) 3 (show 3 < 4 by decide) S512x256 d rfl rfl 768 rfl (ix2 i (hr k)) off
      (by show 768 + k.val % 256 = k.val; omega)

/-- The gates. -/
theorem pay3_apply (P0 : Vec Ideal S1x512x1024 .f32) (P1 : Vec Ideal S1x1024 .f32) (P2 : Vec Ideal S1024x2048 .bf16)
    (P3 : Vec Ideal S1x2048 .f32) (i : Fin 512) (j : Fin 2048) :
    k0_pay3 P0 P1 P2 P3 (ix2 i j)
      = gate (fun k => P0 (ix3 (0 : Fin 1) i k)) (fun k => P1 (ix2 (0 : Fin 1) k)) (fun k c => P2 (ix2 k c))
          (fun c => P3 (ix2 (0 : Fin 1) c)) j := by
  show Ideal.logistic (matmul dot_S512x1024_S1024x2048_S512x2048_1_0_0_1_n_n none
      (truncf .bf16 (normV (k0_pay2 P0) P1) bitsLt_bf16_f32) (shapeCast S1024x2048 P2 shapeCasts_S1024x2048_S1024x2048)
      (constant S512x2048 .f32 0x00000000#32) (ix2 i j)
    + broadcastTo S512x2048 (shapeCast S1x2048 P3 shapeCasts_S1x2048_S1x2048) broadcasts_S1x2048_S512x2048 (ix2 i j)) = _
  rw [mm_gate, bias_apply, same_cast, same_cast]
  simp only [truncf_apply, normV_apply]
  have e : (fun k => k0_pay2 P0 (ix2 i k)) = fun k => P0 (ix3 (0 : Fin 1) i k) := funext fun k => drop_x P0 i k
  rw [e]
  rfl

/-- The stream after the mixers. -/
theorem pay7_apply (P0 : Vec Ideal S1x512x1024 .f32) (P1 : Vec Ideal S1x1024 .f32) (P2 : Vec Ideal S1024x2048 .bf16)
    (P3 : Vec Ideal S1x2048 .f32) (P4 : Vec Ideal S1x512x512 .bf16) (P5 : Vec Ideal S512x1024 .bf16)
    (P6 : Vec Ideal S1x512x512 .bf16) (P7 : Vec Ideal S512x1024 .bf16) (P8 : Vec Ideal S1024x1024 .bf16)
    (i : Fin 512) (j : Fin 1024) :
    k0_pay7 (k0_pay2 P0) (k0_pay4 P0 P1 P2 P3 P4 P5) (k0_pay5 P0 P1 P2 P3) (k0_pay6 P6) P7 P8 (ix2 i j)
      = stream (fun k => P0 (ix3 (0 : Fin 1) i k))
          (mixed (gate (fun k => P0 (ix3 (0 : Fin 1) i k)) (fun k => P1 (ix2 (0 : Fin 1) k)) (fun k c => P2 (ix2 k c))
              (fun c => P3 (ix2 (0 : Fin 1) c)))
            (fun k => P4 (ix3 (0 : Fin 1) i k)) (fun k => P6 (ix3 (0 : Fin 1) i k)) (fun k c => P5 (ix2 k c)) (fun k c => P7 (ix2 k c)))
          (fun k c => P8 (ix2 k c)) j := by
  have e4 : ∀ k, k0_pay4 P0 P1 P2 P3 P4 P5 (ix2 i k) = k0_pay3 P0 P1 P2 P3 (ix2 i (lo k))
      * vm (fun k => P4 (ix3 (0 : Fin 1) i k)) (fun k c => P5 (ix2 k c)) k := fun k => by
    show extractStridedSlice S512x1024 ![0, 0] (k0_pay3 P0 P1 P2 P3) slices_S512x2048_o0_0_S512x1024 (ix2 i k)
      * matmul dot_S512x512_S512x1024_S512x1024_1_0_0_1_n_n none (shapeCast S512x512 P4 shapeCasts_S1x512x512_S512x512)
          (shapeCast S512x1024 P5 shapeCasts_S512x1024_S512x1024) (constant S512x1024 .f32 0x00000000#32) (ix2 i k) = _
    rw [lo_apply, mm_branch, same_cast]
    simp only [drop_y]
  have e5 : ∀ k, mulf (k0_pay5 P0 P1 P2 P3) (matmul dot_S512x512_S512x1024_S512x1024_1_0_0_1_n_n none (k0_pay6 P6)
      (shapeCast S512x1024 P7 shapeCasts_S512x1024_S512x1024) (constant S512x1024 .f32 0x00000000#32)) (ix2 i k)
      = k0_pay3 P0 P1 P2 P3 (ix2 i (hi k)) * vm (fun k => P6 (ix3 (0 : Fin 1) i k)) (fun k c => P7 (ix2 k c)) k := fun k => by
    show extractStridedSlice S512x1024 ![0, 1024] (k0_pay3 P0 P1 P2 P3) slices_S512x2048_o0_1024_S512x1024 (ix2 i k)
      * matmul dot_S512x512_S512x1024_S512x1024_1_0_0_1_n_n none (shapeCast S512x512 P6 shapeCasts_S1x512x512_S512x512)
          (shapeCast S512x1024 P7 shapeCasts_S512x1024_S512x1024) (constant S512x1024 .f32 0x00000000#32) (ix2 i k) = _
    rw [hi_apply, mm_branch, same_cast]
    simp only [drop_y]
  show shapeCast S512x1024 P0 shapeCasts_S1x512x1024_S512x1024 (ix2 i j)
    + matmul dot_S512x1024_S1024x1024_S512x1024_1_0_0_1_n_n none
        (truncf .bf16 (addf (k0_pay4 P0 P1 P2 P3 P4 P5) (mulf (k0_pay5 P0 P1 P2 P3)
          (matmul dot_S512x512_S512x1024_S512x1024_1_0_0_1_n_n none (k0_pay6 P6)
            (shapeCast S512x1024 P7 shapeCasts_S512x1024_S512x1024) (constant S512x1024 .f32 0x00000000#32)))) bitsLt_bf16_f32)
        (shapeCast S1024x1024 P8 shapeCasts_S1024x1024_S1024x1024) (constant S512x1024 .f32 0x00000000#32) (ix2 i j) = _
  rw [mm_square, drop_x, same_cast P8]
  simp only [truncf_apply, addf_apply, e4, e5, pay3_apply]
  rfl

/-- The query. -/
theorem pay8_apply (v1 v31 v32 : FVec Ideal S512x1024 .f32) (v34 : FVec Ideal S512x512 .bf16) (P7 : Vec Ideal S512x1024 .bf16)
    (P8 : Vec Ideal S1024x1024 .bf16) (P9 : Vec Ideal S1x1024 .f32) (P10 : Vec Ideal S1024x1024 .bf16) (i : Fin 512) (j : Fin 1024) :
    k0_pay8 v1 v31 v32 v34 P7 P8 P9 P10 (ix2 i j)
      = vm (norm (fun k => k0_pay7 v1 v31 v32 v34 P7 P8 (ix2 i k)) (fun k => P9 (ix2 (0 : Fin 1) k))) (fun k c => P10 (ix2 k c)) j := by
  show matmul dot_S512x1024_S1024x1024_S512x1024_1_0_0_1_n_n none
      (truncf .bf16 (normV (k0_pay7 v1 v31 v32 v34 P7 P8) P9) bitsLt_bf16_f32)
      (shapeCast S1024x1024 P10 shapeCasts_S1024x1024_S1024x1024) (constant S512x1024 .f32 0x00000000#32) (ix2 i j) = _
  rw [mm_square, same_cast]
  simp only [truncf_apply, normV_apply]

/-- The result, from the stream, the query and the memory. -/
theorem pay16_apply (h : FVec Ideal S512x1024 .f32) (q : FVec Ideal S512x1024 .bf16) (K0 V0 K1 V1 K2 V2 K3 V3 : Vec Ideal S1x256x256 .bf16)
    (w : Vec Ideal S1024x1024 .bf16) (ks vs : Fin 256 → Fin 1024 → EReal)
    (hk0 : ∀ m e, K0 (ix3 (0 : Fin 1) m e) = ks m (hd 0 e)) (hv0 : ∀ m e, V0 (ix3 (0 : Fin 1) m e) = vs m (hd 0 e))
    (hk1 : ∀ m e, K1 (ix3 (0 : Fin 1) m e) = ks m (hd 1 e)) (hv1 : ∀ m e, V1 (ix3 (0 : Fin 1) m e) = vs m (hd 1 e))
    (hk2 : ∀ m e, K2 (ix3 (0 : Fin 1) m e) = ks m (hd 2 e)) (hv2 : ∀ m e, V2 (ix3 (0 : Fin 1) m e) = vs m (hd 2 e))
    (hk3 : ∀ m e, K3 (ix3 (0 : Fin 1) m e) = ks m (hd 3 e)) (hv3 : ∀ m e, V3 (ix3 (0 : Fin 1) m e) = vs m (hd 3 e))
    (i : Fin 512) (j : Fin 1024) :
    k0_pay16 h q (attV (exV (scoreV 0 slices_S512x1024_o0_0_S512x256 q K0)) (shapeCast S256x256 V0 shapeCasts_S1x256x256_S256x256))
        (k0_pay12 q K1 V1) (k0_pay13 V2) (k0_pay14 q K2) (k0_pay15 q K2) K3 V3 w (ix2 i j)
      = stream (fun k => h (ix2 i k)) (heads (score (fun k => q (ix2 i k)) ks) vs) (fun k c => w (ix2 k c)) j := by
  show h (ix2 i j) + matmul dot_S512x1024_S1024x1024_S512x1024_1_0_0_1_n_n none
      (concatenate S512x1024 1 [⟨S512x256, attV (exV (scoreV 0 slices_S512x1024_o0_0_S512x256 q K0)) (shapeCast S256x256 V0 shapeCasts_S1x256x256_S256x256)⟩,
        ⟨S512x256, attV (exV (scoreV 256 slices_S512x1024_o0_256_S512x256 q K1)) (shapeCast S256x256 V1 shapeCasts_S1x256x256_S256x256)⟩,
        ⟨S512x256, attV (exV (scoreV 512 slices_S512x1024_o0_512_S512x256 q K2)) (shapeCast S256x256 V2 shapeCasts_S1x256x256_S256x256)⟩,
        ⟨S512x256, attV (exV (scoreV 768 slices_S512x1024_o0_768_S512x256 q K3)) (shapeCast S256x256 V3 shapeCasts_S1x256x256_S256x256)⟩]
        concatenates_S512x256_S512x256_S512x256_S512x256_S512x1024_d1 : FVec Ideal S512x1024 .bf16)
      (shapeCast S1024x1024 w shapeCasts_S1024x1024_S1024x1024) (constant S512x1024 .f32 0x00000000#32) (ix2 i j) = _
  rw [mm_square, same_cast]
  refine congrArg (h (ix2 i j) + ·) (Finset.sum_congr rfl fun k _ => congrArg (· * _) ?_)
  exact concat_apply _ _ _ _ (fun n e => att (score (fun k => q (ix2 i k)) ks n) vs n e) i
    (head_apply 0 0 rfl _ q K0 V0 ks vs hk0 hv0 i) (head_apply 1 256 rfl _ q K1 V1 ks vs hk1 hv1 i)
    (head_apply 2 512 rfl _ q K2 V2 ks vs hk2 hv2 i) (head_apply 3 768 rfl _ q K3 V3 ks vs hk3 hv3 i) k

/-- The tile's result, from the blocks and the loads. -/
theorem tile_apply (P0 : Vec Ideal S1x512x1024 .f32) (P1 : Vec Ideal S1x1024 .f32) (P2 : Vec Ideal S1024x2048 .bf16)
    (P3 : Vec Ideal S1x2048 .f32) (P4 : Vec Ideal S1x512x512 .bf16) (P5 : Vec Ideal S512x1024 .bf16)
    (P6 : Vec Ideal S1x512x512 .bf16) (P7 : Vec Ideal S512x1024 .bf16) (P8 : Vec Ideal S1024x1024 .bf16)
    (P9 : Vec Ideal S1x1024 .f32) (P10 : Vec Ideal S1024x1024 .bf16) (V0 K0 K1 V1 V2 K2 K3 V3 : Vec Ideal S1x256x256 .bf16)
    (P19 : Vec Ideal S1024x1024 .bf16) (ks vs : Fin 256 → Fin 1024 → EReal)
    (hk0 : ∀ m e, K0 (ix3 (0 : Fin 1) m e) = ks m (hd 0 e)) (hv0 : ∀ m e, V0 (ix3 (0 : Fin 1) m e) = vs m (hd 0 e))
    (hk1 : ∀ m e, K1 (ix3 (0 : Fin 1) m e) = ks m (hd 1 e)) (hv1 : ∀ m e, V1 (ix3 (0 : Fin 1) m e) = vs m (hd 1 e))
    (hk2 : ∀ m e, K2 (ix3 (0 : Fin 1) m e) = ks m (hd 2 e)) (hv2 : ∀ m e, V2 (ix3 (0 : Fin 1) m e) = vs m (hd 2 e))
    (hk3 : ∀ m e, K3 (ix3 (0 : Fin 1) m e) = ks m (hd 3 e)) (hv3 : ∀ m e, V3 (ix3 (0 : Fin 1) m e) = vs m (hd 3 e))
    (H : Fin 1024 → EReal) (i : Fin 512)
    (hH : H = stream (fun k => P0 (ix3 (0 : Fin 1) i k))
          (mixed (gate (fun k => P0 (ix3 (0 : Fin 1) i k)) (fun k => P1 (ix2 (0 : Fin 1) k)) (fun k c => P2 (ix2 k c))
              (fun c => P3 (ix2 (0 : Fin 1) c)))
            (fun k => P4 (ix3 (0 : Fin 1) i k)) (fun k => P6 (ix3 (0 : Fin 1) i k)) (fun k c => P5 (ix2 k c)) (fun k c => P7 (ix2 k c)))
          (fun k c => P8 (ix2 k c))) (y : S1x512x1024.Idx) (hy : y 1 = i) :
    Cert.MergeIdeal.Value.E16 P0 P1 P2 P3 P4 P5 P6 P7 P8 P9 P10 V0 K0 K1 V1 V2 K2 K3 V3 P19 y
      = stream H (heads (score (vm (norm H fun k => P9 (ix2 (0 : Fin 1) k)) fun k c => P10 (ix2 k c)) ks) vs)
          (fun k c => P19 (ix2 k c)) (y 2) := by
  subst hy
  have e : Cert.MergeIdeal.Value.ix16_0 y = ix2 (y 1) (y 2) := funext fun a => match a with | ⟨0, _⟩ => rfl | ⟨1, _⟩ => rfl
  have hh : (fun k => k0_pay7 (k0_pay2 P0) (k0_pay4 P0 P1 P2 P3 P4 P5) (k0_pay5 P0 P1 P2 P3) (k0_pay6 P6) P7 P8 (ix2 (y 1) k)) = H :=
    (funext fun k => pay7_apply P0 P1 P2 P3 P4 P5 P6 P7 P8 (y 1) k).trans hH.symm
  have hq : (fun k => k0_pay8 (k0_pay2 P0) (k0_pay4 P0 P1 P2 P3 P4 P5) (k0_pay5 P0 P1 P2 P3) (k0_pay6 P6) P7 P8 P9 P10 (ix2 (y 1) k))
      = vm (norm H fun k => P9 (ix2 (0 : Fin 1) k)) fun k c => P10 (ix2 k c) :=
    funext fun k => (pay8_apply _ _ _ _ P7 P8 P9 P10 (y 1) k).trans (by rw [hh])
  have main := pay16_apply (k0_pay7 (k0_pay2 P0) (k0_pay4 P0 P1 P2 P3 P4 P5) (k0_pay5 P0 P1 P2 P3) (k0_pay6 P6) P7 P8)
    (k0_pay8 (k0_pay2 P0) (k0_pay4 P0 P1 P2 P3 P4 P5) (k0_pay5 P0 P1 P2 P3) (k0_pay6 P6) P7 P8 P9 P10) K0 V0 K1 V1 K2 V2 K3 V3 P19 ks vs
    hk0 hv0 hk1 hv1 hk2 hv2 hk3 hv3 (y 1) (y 2)
  rw [hh, hq] at main
  refine Eq.trans ?_ main
  show k0_pay16 _ _ _ _ _ _ _ _ _ _ (Cert.MergeIdeal.Value.ix16_0 y) = _
  rw [e]
  rfl

end Cert.MergeIdeal.Hand

end

end
-- ==== Proof.MergeKernel.lean ====
module

public import proofs.«01_k».proof.Proof.MergeBody
public import Idealize.ShloMosaic.Lib.Pipeline.ValueKit
public import Idealize.ShloMosaic.Lib.Claim
public import Idealize.ShloMosaic.Lib.Pointwise

@[expose] public section

/-! # The merge kernel's result -/

set_option maxRecDepth 16384

noncomputable section

namespace Cert.MergeIdeal.Hand

open Cert.MergeIdeal Cert.MergeIdeal.Gen Cert.MergeRow Idealize.ShloMosaic.TcCoe Idealize.ShloMosaic.ValueIdx
open Idealize.ShloMosaic hiding ix1 ix2 ix3
open Idealize.SL.Sem Idealize.ShloMosaic.Pipeline

variable (m : (ℓ : Loc nD τ sig) → Buf (Elt Ideal) ℓ)

/-- The arrays the program is launched on. -/
def args (c : Dev nD) : Args where
  x := m ((c.tc : Thread nD τ).loc main_arg0)
  ya := m ((c.tc : Thread nD τ).loc main_arg1)
  yb := m ((c.tc : Thread nD τ).loc main_arg2)
  mem := m ((c.tc : Thread nD τ).loc main_arg3)
  g1 := m ((c.tc : Thread nD τ).loc main_arg4)
  wg := m ((c.tc : Thread nD τ).loc main_arg5)
  bg := m ((c.tc : Thread nD τ).loc main_arg6)
  wa := m ((c.tc : Thread nD τ).loc main_arg7)
  wb := m ((c.tc : Thread nD τ).loc main_arg8)
  wo := m ((c.tc : Thread nD τ).loc main_arg9)
  g2 := m ((c.tc : Thread nD τ).loc main_arg10)
  wq := m ((c.tc : Thread nD τ).loc main_arg11)
  wc := m ((c.tc : Thread nD τ).loc main_arg12)

/-- The batch and the first token of visit `t`. -/
theorem idx0 : ∀ t : Fin cfg0.N, win0_0.index t = ![(grid0.coords t 0).val, (grid0.coords t 1).val, 0] :=
  (by decide +kernel : ∀ t : Fin grid0.N, win0_0.index t = ![(grid0.coords t 0).val, (grid0.coords t 1).val, 0])
theorem idx1 : ∀ t : Fin cfg0.N, win0_1.index t = ![(grid0.coords t 0).val, (grid0.coords t 1).val, 0] :=
  (by decide +kernel : ∀ t : Fin grid0.N, win0_1.index t = ![(grid0.coords t 0).val, (grid0.coords t 1).val, 0])
theorem idx2 : ∀ t : Fin cfg0.N, win0_2.index t = ![(grid0.coords t 0).val, (grid0.coords t 1).val, 0] :=
  (by decide +kernel : ∀ t : Fin grid0.N, win0_2.index t = ![(grid0.coords t 0).val, (grid0.coords t 1).val, 0])
theorem idx3 : ∀ t : Fin cfg0.N, win0_3.index t = ![(grid0.coords t 0).val, 0, 0] :=
  (by decide +kernel : ∀ t : Fin grid0.N, win0_3.index t = ![(grid0.coords t 0).val, 0, 0])
theorem idx4 : ∀ t : Fin cfg0.N, win0_4.index t = ![0, 0] :=
  (by decide +kernel : ∀ t : Fin grid0.N, win0_4.index t = ![0, 0])
theorem idx5 : ∀ t : Fin cfg0.N, win0_5.index t = ![0, 0] :=
  (by decide +kernel : ∀ t : Fin grid0.N, win0_5.index t = ![0, 0])
theorem idx6 : ∀ t : Fin cfg0.N, win0_6.index t = ![0, 0] :=
  (by decide +kernel : ∀ t : Fin grid0.N, win0_6.index t = ![0, 0])
theorem idx7 : ∀ t : Fin cfg0.N, win0_7.index t = ![0, 0] :=
  (by decide +kernel : ∀ t : Fin grid0.N, win0_7.index t = ![0, 0])
theorem idx8 : ∀ t : Fin cfg0.N, win0_8.index t = ![0, 0] :=
  (by decide +kernel : ∀ t : Fin grid0.N, win0_8.index t = ![0, 0])
theorem idx9 : ∀ t : Fin cfg0.N, win0_9.index t = ![0, 0] :=
  (by decide +kernel : ∀ t : Fin grid0.N, win0_9.index t = ![0, 0])
theorem idx10 : ∀ t : Fin cfg0.N, win0_10.index t = ![0, 0] :=
  (by decide +kernel : ∀ t : Fin grid0.N, win0_10.index t = ![0, 0])
theorem idx11 : ∀ t : Fin cfg0.N, win0_11.index t = ![0, 0] :=
  (by decide +kernel : ∀ t : Fin grid0.N, win0_11.index t = ![0, 0])
theorem idx12 : ∀ t : Fin cfg0.N, win0_12.index t = ![0, 0] :=
  (by decide +kernel : ∀ t : Fin grid0.N, win0_12.index t = ![0, 0])
theorem idx16 : ∀ t : Fin cfg0.N, win0_16.index t = ![(grid0.coords t 0).val, (grid0.coords t 1).val, 0] :=
  (by decide +kernel : ∀ t : Fin grid0.N, win0_16.index t = ![(grid0.coords t 0).val, (grid0.coords t 1).val, 0])

abbrev bt (t : Fin cfg0.N) : Fin 32 := ⟨(grid0.coords t 0).val, (grid0.coords t 0).isLt⟩
abbrev tok (t : Fin cfg0.N) (i : Fin 512) : Fin 2048 :=
  ⟨(grid0.coords t 1).val * 512 + i.val, by have h : (grid0.coords t 1).val < 4 := (grid0.coords t 1).isLt; have := i.isLt; omega⟩

/-! ## Loads of whole blocks, and of the memory's columns -/

theorem ld0 (x : Vec Ideal S1x512x1024 .f32) : View.ld x r0_0 = x :=
  funext fun j => congrArg x (funext fun a => match a with
    | ⟨0, _⟩ => Fin.ext (by show 0 + 1 * (j 0).val = (j 0).val; omega)
    | ⟨1, _⟩ => Fin.ext (by show 0 + 1 * (j 1).val = (j 1).val; omega)
    | ⟨2, _⟩ => Fin.ext (by show 0 + 1 * (j 2).val = (j 2).val; omega))

theorem ld1 (x : Vec Ideal S1x1024 .f32) : View.ld x r0_1 = x :=
  funext fun j => congrArg x (funext fun a => match a with
    | ⟨0, _⟩ => Fin.ext (by show 0 + 1 * (j 0).val = (j 0).val; omega)
    | ⟨1, _⟩ => Fin.ext (by show 0 + 1 * (j 1).val = (j 1).val; omega))

theorem ld2 (x : Vec Ideal S1024x2048 .bf16) : View.ld x r0_2 = x :=
  funext fun j => congrArg x (funext fun a => match a with
    | ⟨0, _⟩ => Fin.ext (by show 0 + 1 * (j 0).val = (j 0).val; omega)
    | ⟨1, _⟩ => Fin.ext (by show 0 + 1 * (j 1).val = (j 1).val; omega))

theorem ld3 (x : Vec Ideal S1x2048 .f32) : View.ld x r0_3 = x :=
  funext fun j => congrArg x (funext fun a => match a with
    | ⟨0, _⟩ => Fin.ext (by show 0 + 1 * (j 0).val = (j 0).val; omega)
    | ⟨1, _⟩ => Fin.ext (by show 0 + 1 * (j 1).val = (j 1).val; omega))

theorem ld4 (x : Vec Ideal S1x512x512 .bf16) : View.ld x r0_4 = x :=
  funext fun j => congrArg x (funext fun a => match a with
    | ⟨0, _⟩ => Fin.ext (by show 0 + 1 * (j 0).val = (j 0).val; omega)
    | ⟨1, _⟩ => Fin.ext (by show 0 + 1 * (j 1).val = (j 1).val; omega)
    | ⟨2, _⟩ => Fin.ext (by show 0 + 1 * (j 2).val = (j 2).val; omega))

theorem ld5 (x : Vec Ideal S512x1024 .bf16) : View.ld x r0_5 = x :=
  funext fun j => congrArg x (funext fun a => match a with
    | ⟨0, _⟩ => Fin.ext (by show 0 + 1 * (j 0).val = (j 0).val; omega)
    | ⟨1, _⟩ => Fin.ext (by show 0 + 1 * (j 1).val = (j 1).val; omega))

theorem ld6 (x : Vec Ideal S1024x1024 .bf16) : View.ld x r0_6 = x :=
  funext fun j => congrArg x (funext fun a => match a with
    | ⟨0, _⟩ => Fin.ext (by show 0 + 1 * (j 0).val = (j 0).val; omega)
    | ⟨1, _⟩ => Fin.ext (by show 0 + 1 * (j 1).val = (j 1).val; omega))

theorem ld7 (x : Vec Ideal S1x256x2048 .bf16) (i e : Fin 256) :
    View.ld x r0_7 (ix3 (0 : Fin 1) i e) = x (ix3 (0 : Fin 1) i (lo (hd 0 e))) :=
  congrArg x (funext fun a => match a with
    | ⟨0, _⟩ => Fin.ext rfl
    | ⟨1, _⟩ => Fin.ext (by show 0 + 1 * i.val = i.val; omega)
    | ⟨2, _⟩ => Fin.ext (by show 0 + 1 * e.val = (0 + e.val); omega))

theorem ld8 (x : Vec Ideal S1x256x2048 .bf16) (i e : Fin 256) :
    View.ld x r0_8 (ix3 (0 : Fin 1) i e) = x (ix3 (0 : Fin 1) i (hi (hd 0 e))) :=
  congrArg x (funext fun a => match a with
    | ⟨0, _⟩ => Fin.ext rfl
    | ⟨1, _⟩ => Fin.ext (by show 0 + 1 * i.val = i.val; omega)
    | ⟨2, _⟩ => Fin.ext (by show 1024 + 1 * e.val = 1024 + (0 + e.val); omega))

theorem ld9 (x : Vec Ideal S1x256x2048 .bf16) (i e : Fin 256) :
    View.ld x r0_9 (ix3 (0 : Fin 1) i e) = x (ix3 (0 : Fin 1) i (lo (hd 1 e))) :=
  congrArg x (funext fun a => match a with
    | ⟨0, _⟩ => Fin.ext rfl
    | ⟨1, _⟩ => Fin.ext (by show 0 + 1 * i.val = i.val; omega)
    | ⟨2, _⟩ => Fin.ext (by show 256 + 1 * e.val = (256 + e.val); omega))

theorem ld10 (x : Vec Ideal S1x256x2048 .bf16) (i e : Fin 256) :
    View.ld x r0_10 (ix3 (0 : Fin 1) i e) = x (ix3 (0 : Fin 1) i (hi (hd 1 e))) :=
  congrArg x (funext fun a => match a with
    | ⟨0, _⟩ => Fin.ext rfl
    | ⟨1, _⟩ => Fin.ext (by show 0 + 1 * i.val = i.val; omega)
    | ⟨2, _⟩ => Fin.ext (by show 1280 + 1 * e.val = 1024 + (256 + e.val); omega))

theorem ld11 (x : Vec Ideal S1x256x2048 .bf16) (i e : Fin 256) :
    View.ld x r0_11 (ix3 (0 : Fin 1) i e) = x (ix3 (0 : Fin 1) i (lo (hd 2 e))) :=
  congrArg x (funext fun a => match a with
    | ⟨0, _⟩ => Fin.ext rfl
    | ⟨1, _⟩ => Fin.ext (by show 0 + 1 * i.val = i.val; omega)
    | ⟨2, _⟩ => Fin.ext (by show 512 + 1 * e.val = (512 + e.val); omega))

theorem ld12 (x : Vec Ideal S1x256x2048 .bf16) (i e : Fin 256) :
    View.ld x r0_12 (ix3 (0 : Fin 1) i e) = x (ix3 (0 : Fin 1) i (hi (hd 2 e))) :=
  congrArg x (funext fun a => match a with
    | ⟨0, _⟩ => Fin.ext rfl
    | ⟨1, _⟩ => Fin.ext (by show 0 + 1 * i.val = i.val; omega)
    | ⟨2, _⟩ => Fin.ext (by show 1536 + 1 * e.val = 1024 + (512 + e.val); omega))

theorem ld13 (x : Vec Ideal S1x256x2048 .bf16) (i e : Fin 256) :
    View.ld x r0_13 (ix3 (0 : Fin 1) i e) = x (ix3 (0 : Fin 1) i (lo (hd 3 e))) :=
  congrArg x (funext fun a => match a with
    | ⟨0, _⟩ => Fin.ext rfl
    | ⟨1, _⟩ => Fin.ext (by show 0 + 1 * i.val = i.val; omega)
    | ⟨2, _⟩ => Fin.ext (by show 768 + 1 * e.val = (768 + e.val); omega))

theorem ld14 (x : Vec Ideal S1x256x2048 .bf16) (i e : Fin 256) :
    View.ld x r0_14 (ix3 (0 : Fin 1) i e) = x (ix3 (0 : Fin 1) i (hi (hd 3 e))) :=
  congrArg x (funext fun a => match a with
    | ⟨0, _⟩ => Fin.ext rfl
    | ⟨1, _⟩ => Fin.ext (by show 0 + 1 * i.val = i.val; omega)
    | ⟨2, _⟩ => Fin.ext (by show 1792 + 1 * e.val = 1024 + (768 + e.val); omega))

/-! ## The blocks -/

theorem blk_x (c : Dev nD) (t : Fin cfg0.N) (i : Fin 512) (k : Fin 1024) :
    iblk m c 0 t (ix3 (0 : Fin 1) i k) = (args m c).x (ix3 (bt t) (tok t i) k) := by
  show iblk m c 0 t _ = m ((c.tc : Thread nD τ).loc main_arg0) _
  blk_ext [iblk, V, idx0 t]

theorem blk_ya (c : Dev nD) (t : Fin cfg0.N) (i : Fin 512) (k : Fin 512) :
    iblk m c 1 t (ix3 (0 : Fin 1) i k) = (args m c).ya (ix3 (bt t) (tok t i) k) := by
  show iblk m c 1 t _ = m ((c.tc : Thread nD τ).loc main_arg1) _
  blk_ext [iblk, V, idx1 t]

theorem blk_yb (c : Dev nD) (t : Fin cfg0.N) (i : Fin 512) (k : Fin 512) :
    iblk m c 2 t (ix3 (0 : Fin 1) i k) = (args m c).yb (ix3 (bt t) (tok t i) k) := by
  show iblk m c 2 t _ = m ((c.tc : Thread nD τ).loc main_arg2) _
  blk_ext [iblk, V, idx2 t]

theorem blk_mem (c : Dev nD) (t : Fin cfg0.N) (i : Fin 256) (k : Fin 2048) :
    iblk m c 3 t (ix3 (0 : Fin 1) i k) = (args m c).mem (ix3 (bt t) i k) := by
  show iblk m c 3 t _ = m ((c.tc : Thread nD τ).loc main_arg3) _
  blk_ext [iblk, V, idx3 t]

theorem blk_g1 (c : Dev nD) (t : Fin cfg0.N) (k : Fin 1024) :
    iblk m c 4 t (ix2 (0 : Fin 1) k) = (args m c).g1 (ix2 (0 : Fin 1) k) := by
  show iblk m c 4 t _ = m ((c.tc : Thread nD τ).loc main_arg4) _
  blk_ext! [iblk, V, idx4 t]

theorem blk_wg (c : Dev nD) (t : Fin cfg0.N) (i : Fin 1024) (k : Fin 2048) :
    iblk m c 5 t (ix2 i k) = (args m c).wg (ix3 (0 : Fin 1) i k) := by
  show iblk m c 5 t _ = m ((c.tc : Thread nD τ).loc main_arg5) _
  blk_ext! [iblk, V, idx5 t]

theorem blk_bg (c : Dev nD) (t : Fin cfg0.N) (k : Fin 2048) :
    iblk m c 6 t (ix2 (0 : Fin 1) k) = (args m c).bg (ix2 (0 : Fin 1) k) := by
  show iblk m c 6 t _ = m ((c.tc : Thread nD τ).loc main_arg6) _
  blk_ext! [iblk, V, idx6 t]

theorem blk_wa (c : Dev nD) (t : Fin cfg0.N) (i : Fin 512) (k : Fin 1024) :
    iblk m c 7 t (ix2 i k) = (args m c).wa (ix3 (0 : Fin 1) i k) := by
  show iblk m c 7 t _ = m ((c.tc : Thread nD τ).loc main_arg7) _
  blk_ext! [iblk, V, idx7 t]

theorem blk_wb (c : Dev nD) (t : Fin cfg0.N) (i : Fin 512) (k : Fin 1024) :
    iblk m c 8 t (ix2 i k) = (args m c).wb (ix3 (0 : Fin 1) i k) := by
  show iblk m c 8 t _ = m ((c.tc : Thread nD τ).loc main_arg8) _
  blk_ext! [iblk, V, idx8 t]

theorem blk_wo (c : Dev nD) (t : Fin cfg0.N) (i : Fin 1024) (k : Fin 1024) :
    iblk m c 9 t (ix2 i k) = (args m c).wo (ix3 (0 : Fin 1) i k) := by
  show iblk m c 9 t _ = m ((c.tc : Thread nD τ).loc main_arg9) _
  blk_ext! [iblk, V, idx9 t]

theorem blk_g2 (c : Dev nD) (t : Fin cfg0.N) (k : Fin 1024) :
    iblk m c 10 t (ix2 (0 : Fin 1) k) = (args m c).g2 (ix2 (0 : Fin 1) k) := by
  show iblk m c 10 t _ = m ((c.tc : Thread nD τ).loc main_arg10) _
  blk_ext! [iblk, V, idx10 t]

theorem blk_wc (c : Dev nD) (t : Fin cfg0.N) (i : Fin 1024) (k : Fin 1024) :
    iblk m c 12 t (ix2 i k) = (args m c).wc (ix3 (0 : Fin 1) i k) := by
  show iblk m c 12 t _ = m ((c.tc : Thread nD τ).loc main_arg12) _
  blk_ext! [iblk, V, idx12 t]

theorem entry_wq (c : Dev nD) (i : Fin 1024) (k : Fin 1024) :
    (Gen.V m c main_v17 (ix2 i k) : EReal) = (args m c).wq (ix3 (0 : Fin 1) i k) * sixteenth := by
  entry_read
  pointwise
  show HMul.hMul (α := EReal) (β := EReal) (m ((c.tc : Thread nD τ).loc main_arg11) _) _ = HMul.hMul (α := EReal) (β := EReal) (m ((c.tc : Thread nD τ).loc main_arg11) _) _
  congr 1
  blk_ext

theorem blk_wq (c : Dev nD) (t : Fin cfg0.N) (i : Fin 1024) (k : Fin 1024) :
    iblk m c 11 t (ix2 i k) = (args m c).wq (ix3 (0 : Fin 1) i k) * sixteenth := by
  refine Eq.trans ?_ (entry_wq m c i k)
  show iblk m c 11 t _ = Gen.V m c main_v17 _
  blk_ext [iblk, idx11 t]

/-- A tile of the result, from the blocks that visit `t` reads. -/
theorem tile (c : Dev nD) (t : Fin cfg0.N) (y : S1x512x1024.Idx) :
    Cert.MergeIdeal.Value.E16 (iblk m c 0 t) (iblk m c 4 t) (iblk m c 5 t) (iblk m c 6 t) (iblk m c 1 t) (iblk m c 7 t)
        (iblk m c 2 t) (iblk m c 8 t) (iblk m c 9 t) (iblk m c 10 t) (iblk m c 11 t) (View.ld (iblk m c 3 t) r0_8)
        (View.ld (iblk m c 3 t) r0_7) (View.ld (iblk m c 3 t) r0_9) (View.ld (iblk m c 3 t) r0_10)
        (View.ld (iblk m c 3 t) r0_12) (View.ld (iblk m c 3 t) r0_11) (View.ld (iblk m c 3 t) r0_13)
        (View.ld (iblk m c 3 t) r0_14) (iblk m c 12 t) y
      = (args m c).out (ix3 (bt t) (tok t (y 1)) (y 2)) := by
  obtain ⟨i, hy⟩ : ∃ i : Fin 512, y 1 = i := ⟨y 1, rfl⟩
  rw [hy]
  refine (tile_apply _ _ _ _ _ _ _ _ _ _ _ _ _ _ _ _ _ _ _ _
    (fun i k => (args m c).mem (ix3 (bt t) i (lo k))) (fun i k => (args m c).mem (ix3 (bt t) i (hi k)))
    (fun i e => (ld7 _ i e).trans (blk_mem m c t i _)) (fun i e => (ld8 _ i e).trans (blk_mem m c t i _))
    (fun i e => (ld9 _ i e).trans (blk_mem m c t i _)) (fun i e => (ld10 _ i e).trans (blk_mem m c t i _))
    (fun i e => (ld11 _ i e).trans (blk_mem m c t i _)) (fun i e => (ld12 _ i e).trans (blk_mem m c t i _))
    (fun i e => (ld13 _ i e).trans (blk_mem m c t i _)) (fun i e => (ld14 _ i e).trans (blk_mem m c t i _))
    ((args m c).stream (bt t) (tok t i)) i ?_ y hy).trans ?_
  · simp only [blk_x, blk_ya, blk_yb, blk_g1, blk_wg, blk_bg, blk_wa, blk_wb, blk_wo]
    rfl
  · simp only [blk_g2, blk_wq, blk_wc]
    refine (congrArg (fun s => stream _ (heads s _) _ (y 2)) (funext fun h => funext fun i => scaled_score _ _ _ h i)).trans ?_
    rfl

/-- What the run leaves in the result. -/
theorem result (c : Dev nD) : (dats m 0 c).arrAt 16 cfg0.N = fun j => (args m c).out j := by
  refine (dats m 0 c).arrAt_eq_of_covers 16 _ (by decide +kernel) fun t hf y => ?_
  blk_simp
  rw [after0_16]
  unfold_out out0_16
  simp only [ld0, ld1, ld2, ld3, ld4, ld5, ld6]
  refine (Cert.MergeIdeal.Value.canon16_eq (iblk m c 0 t) (iblk m c 4 t) (iblk m c 5 t) (iblk m c 6 t) (iblk m c 1 t) (iblk m c 7 t)
        (iblk m c 2 t) (iblk m c 8 t) (iblk m c 9 t) (iblk m c 10 t) (iblk m c 11 t) (View.ld (iblk m c 3 t) r0_8)
        (View.ld (iblk m c 3 t) r0_7) (View.ld (iblk m c 3 t) r0_9) (View.ld (iblk m c 3 t) r0_10)
        (View.ld (iblk m c 3 t) r0_12) (View.ld (iblk m c 3 t) r0_11) (View.ld (iblk m c 3 t) r0_13)
        (View.ld (iblk m c 3 t) r0_14) (iblk m c 12 t) y).trans ?_
  refine (tile m c t y).trans (congrArg (args m c).out ?_)
  blk_ext [idx16 t]

end Cert.MergeIdeal.Hand

end

end
-- ==== Proof.MergeRef.lean ====
module

public import proofs.«01_k».proof.Proof.MergeRow
public import proofs.«01_k».proof.Proof.Gen.MergeReferenceIdeal.Run
public import Idealize.ShloMosaic.Lib.IdealHost
public import Idealize.ShloMosaic.Lib.Pipeline.Value
public import Idealize.ShloMosaic.Lib.Pointwise

@[expose] public section

/-! # The merge's reference, entry by entry

The reference's result is cut into the stages of the mathematics, and each stage read at a token as a step of
`Cert.MergeRow` on that token's row. -/

set_option maxRecDepth 16384

noncomputable section

namespace Cert.MergeReferenceIdeal.Hand

open Cert.MergeReferenceIdeal Cert.MergeReferenceIdeal.Gen Cert.MergeRow Idealize.ShloMosaic.TcCoe Idealize.ShloMosaic.ValueIdx
open Idealize.ShloMosaic hiding ix0 ix1 ix2 ix3 ix4 ix5
open Idealize.SL.Sem

/-! ## Products -/

theorem dg_gate (l : FVec Ideal S32x2048x1024 .f32) (r : FVec Ideal S1024x2048 .f32) (b : Fin 32) (s : Fin 2048) (c : Fin 2048) :
    Host.dotGeneral dot_S32x2048x1024_S1024x2048_S32x2048x2048_2_0_01_1_n_n none l r (ix3 b s c) = vm (fun k => l (ix3 b s k)) (fun k c => r (ix2 k c)) c := by
  simp only [Host.dotGeneral]
  exact (Ideal.dotGeneral_apply _ none _ l r _).trans
    (sum_contr _ 1024 rfl rfl _ (fun k => l (ix3 b s k) * r (ix2 k c)) fun k =>
      congrArg₂ (· * ·)
        (congrArg l (funext fun a => match a with | ⟨0, _⟩ => Fin.ext rfl | ⟨1, _⟩ => Fin.ext rfl | ⟨2, _⟩ => Fin.ext rfl))
        (congrArg r (funext fun a => match a with | ⟨0, _⟩ => Fin.ext rfl | ⟨1, _⟩ => Fin.ext rfl)))

theorem dg_square (l : FVec Ideal S32x2048x1024 .f32) (r : FVec Ideal S1024x1024 .f32) (b : Fin 32) (s : Fin 2048) (c : Fin 1024) :
    Host.dotGeneral dot_S32x2048x1024_S1024x1024_S32x2048x1024_2_0_01_1_n_n none l r (ix3 b s c) = vm (fun k => l (ix3 b s k)) (fun k c => r (ix2 k c)) c := by
  simp only [Host.dotGeneral]
  exact (Ideal.dotGeneral_apply _ none _ l r _).trans
    (sum_contr _ 1024 rfl rfl _ (fun k => l (ix3 b s k) * r (ix2 k c)) fun k =>
      congrArg₂ (· * ·)
        (congrArg l (funext fun a => match a with | ⟨0, _⟩ => Fin.ext rfl | ⟨1, _⟩ => Fin.ext rfl | ⟨2, _⟩ => Fin.ext rfl))
        (congrArg r (funext fun a => match a with | ⟨0, _⟩ => Fin.ext rfl | ⟨1, _⟩ => Fin.ext rfl)))

theorem dg_branch (l : FVec Ideal S32x2048x512 .f32) (r : FVec Ideal S512x1024 .f32) (b : Fin 32) (s : Fin 2048) (c : Fin 1024) :
    Host.dotGeneral dot_S32x2048x512_S512x1024_S32x2048x1024_2_0_01_1_n_n none l r (ix3 b s c) = vm (fun k => l (ix3 b s k)) (fun k c => r (ix2 k c)) c := by
  simp only [Host.dotGeneral]
  exact (Ideal.dotGeneral_apply _ none _ l r _).trans
    (sum_contr _ 512 rfl rfl _ (fun k => l (ix3 b s k) * r (ix2 k c)) fun k =>
      congrArg₂ (· * ·)
        (congrArg l (funext fun a => match a with | ⟨0, _⟩ => Fin.ext rfl | ⟨1, _⟩ => Fin.ext rfl | ⟨2, _⟩ => Fin.ext rfl))
        (congrArg r (funext fun a => match a with | ⟨0, _⟩ => Fin.ext rfl | ⟨1, _⟩ => Fin.ext rfl)))

theorem dg_score (l : FVec Ideal S32x2048x4x256 .f32) (r : FVec Ideal S32x256x4x256 .f32) (b : Fin 32) (s : Fin 2048) (h : Fin 4) (i : Fin 256) :
    Host.dotGeneral dot_S32x2048x4x256_S32x256x4x256_S32x4x2048x256_3_3_1_1_02_02 none l r (ix4 b h s i) = ∑ e : Fin 256, l (ix4 b s h e) * r (ix4 b i h e) := by
  simp only [Host.dotGeneral]
  exact (Ideal.dotGeneral_apply _ none _ l r _).trans
    (sum_contr _ 256 rfl rfl _ (fun k => l (ix4 b s h k) * r (ix4 b i h k)) fun k =>
      congrArg₂ (· * ·)
        (congrArg l (funext fun a => match a with | ⟨0, _⟩ => Fin.ext rfl | ⟨1, _⟩ => Fin.ext rfl | ⟨2, _⟩ => Fin.ext rfl | ⟨3, _⟩ => Fin.ext rfl))
        (congrArg r (funext fun a => match a with | ⟨0, _⟩ => Fin.ext rfl | ⟨1, _⟩ => Fin.ext rfl | ⟨2, _⟩ => Fin.ext rfl | ⟨3, _⟩ => Fin.ext rfl)))

theorem dg_value (l : FVec Ideal S32x256x4x256 .f32) (r : FVec Ideal S32x4x2048x256 .f32) (b : Fin 32) (s : Fin 2048) (h : Fin 4) (e : Fin 256) :
    Host.dotGeneral dot_S32x256x4x256_S32x4x2048x256_S32x4x256x2048_1_3_3_2_02_01 none l r (ix4 b h e s) = ∑ i : Fin 256, l (ix4 b i h e) * r (ix4 b h s i) := by
  simp only [Host.dotGeneral]
  exact (Ideal.dotGeneral_apply _ none _ l r _).trans
    (sum_contr _ 256 rfl rfl _ (fun k => l (ix4 b k h e) * r (ix4 b h s k)) fun k =>
      congrArg₂ (· * ·)
        (congrArg l (funext fun a => match a with | ⟨0, _⟩ => Fin.ext rfl | ⟨1, _⟩ => Fin.ext rfl | ⟨2, _⟩ => Fin.ext rfl | ⟨3, _⟩ => Fin.ext rfl))
        (congrArg r (funext fun a => match a with | ⟨0, _⟩ => Fin.ext rfl | ⟨1, _⟩ => Fin.ext rfl | ⟨2, _⟩ => Fin.ext rfl | ⟨3, _⟩ => Fin.ext rfl)))

/-! ## Layout -/

variable {α : Type}

theorem gain_apply (v : S1x1024.Idx → α) (b : Fin 32) (s : Fin 2048) (c : Fin 1024) :
    broadcastInDim S32x2048x1024 ![0, 1, 2] bcast_S1x1x1024_S32x2048x1024_0_1_2
      (broadcastInDim S1x1x1024 ![2] bcast_S1024_S1x1x1024_2 (shapeCast S1024 v shapeCasts_S1x1024_S1024)) (ix3 b s c) = v (ix2 (0 : Fin 1) c) := by
  refine (broadcastInDim_apply _ _ _ _ (ix3 (0 : Fin 1) (0 : Fin 1) c) fun a => match a with | ⟨0, _⟩ => rfl | ⟨1, _⟩ => rfl | ⟨2, _⟩ => rfl).trans ?_
  refine (broadcastInDim_apply _ _ _ _ (ix1 c) fun a => match a with | ⟨0, _⟩ => rfl).trans ?_
  exact shapeCast_apply _ _ _ _ (by rw [Shape.rowMajor_val_two, Shape.rowMajor_val_one]; show 0 * 1024 + c.val = c.val; omega)

theorem bias_apply (v : S1x2048.Idx → α) (b : Fin 32) (s : Fin 2048) (c : Fin 2048) :
    broadcastInDim S32x2048x2048 ![0, 1, 2] bcast_S1x1x2048_S32x2048x2048_0_1_2
      (broadcastInDim S1x1x2048 ![2] bcast_S2048_S1x1x2048_2 (shapeCast S2048 v shapeCasts_S1x2048_S2048)) (ix3 b s c) = v (ix2 (0 : Fin 1) c) := by
  refine (broadcastInDim_apply _ _ _ _ (ix3 (0 : Fin 1) (0 : Fin 1) c) fun a => match a with | ⟨0, _⟩ => rfl | ⟨1, _⟩ => rfl | ⟨2, _⟩ => rfl).trans ?_
  refine (broadcastInDim_apply _ _ _ _ (ix1 c) fun a => match a with | ⟨0, _⟩ => rfl).trans ?_
  exact shapeCast_apply _ _ _ _ (by rw [Shape.rowMajor_val_two, Shape.rowMajor_val_one]; show 0 * 2048 + c.val = c.val; omega)

theorem sheet1024x2048_apply (v : S1x1024x2048.Idx → α) (i : Fin 1024) (j : Fin 2048) :
    shapeCast S1024x2048 v shapeCasts_S1x1024x2048_S1024x2048 (ix2 i j) = v (ix3 (0 : Fin 1) i j) :=
  shapeCast_apply _ _ _ _ (by rw [Shape.rowMajor_val_two, Shape.rowMajor_val_three]; show (0 * 1024 + i.val) * 2048 + j.val = i.val * 2048 + j.val; omega)

theorem sheet512x1024_apply (v : S1x512x1024.Idx → α) (i : Fin 512) (j : Fin 1024) :
    shapeCast S512x1024 v shapeCasts_S1x512x1024_S512x1024 (ix2 i j) = v (ix3 (0 : Fin 1) i j) :=
  shapeCast_apply _ _ _ _ (by rw [Shape.rowMajor_val_two, Shape.rowMajor_val_three]; show (0 * 512 + i.val) * 1024 + j.val = i.val * 1024 + j.val; omega)

theorem sheet1024x1024_apply (v : S1x1024x1024.Idx → α) (i : Fin 1024) (j : Fin 1024) :
    shapeCast S1024x1024 v shapeCasts_S1x1024x1024_S1024x1024 (ix2 i j) = v (ix3 (0 : Fin 1) i j) :=
  shapeCast_apply _ _ _ _ (by rw [Shape.rowMajor_val_two, Shape.rowMajor_val_three]; show (0 * 1024 + i.val) * 1024 + j.val = i.val * 1024 + j.val; omega)

theorem spread_apply (v : S32x2048x1.Idx → α) (b : Fin 32) (s : Fin 2048) (c : Fin 1024) :
    broadcastInDim S32x2048x1024 ![0, 1, 2] bcast_S32x2048x1_S32x2048x1024_0_1_2 v (ix3 b s c) = v (ix3 b s (0 : Fin 1)) :=
  broadcastInDim_apply _ _ _ _ _ fun a => match a with | ⟨0, _⟩ => rfl | ⟨1, _⟩ => rfl | ⟨2, _⟩ => rfl

theorem unrow_apply (v : S32x2048.Idx → α) (b : Fin 32) (s : Fin 2048) :
    broadcastInDim S32x2048x1 ![0, 1] bcast_S32x2048_S32x2048x1_0_1 v (ix3 b s (0 : Fin 1)) = v (ix2 b s) :=
  broadcastInDim_apply _ _ _ _ _ fun a => match a with | ⟨0, _⟩ => rfl | ⟨1, _⟩ => rfl

theorem spread4_apply (v : S32x4x2048.Idx → α) (b : Fin 32) (h : Fin 4) (s : Fin 2048) (i : Fin 256) :
    broadcastInDim S32x4x2048x256 ![0, 1, 2, 3] bcast_S32x4x2048x1_S32x4x2048x256_0_1_2_3
      (broadcastInDim S32x4x2048x1 ![0, 1, 2] bcast_S32x4x2048_S32x4x2048x1_0_1_2 v) (ix4 b h s i) = v (ix3 b h s) := by
  refine (broadcastInDim_apply _ _ _ _ (ix4 b h s (0 : Fin 1)) fun a => match a with | ⟨0, _⟩ => rfl | ⟨1, _⟩ => rfl | ⟨2, _⟩ => rfl | ⟨3, _⟩ => rfl).trans ?_
  exact broadcastInDim_apply _ _ _ _ _ fun a => match a with | ⟨0, _⟩ => rfl | ⟨1, _⟩ => rfl | ⟨2, _⟩ => rfl

theorem lo_apply (v : S32x2048x2048.Idx → α) (b : Fin 32) (s : Fin 2048) (c : Fin 1024) :
    extractStridedSlice S32x2048x1024 ![0, 0, 0] v slices_S32x2048x2048_S32x2048x1024_0_0_0 (ix3 b s c) = v (ix3 b s (lo c)) :=
  extractStridedSlice_apply _ _ _ _ _ fun a => match a with
    | ⟨0, _⟩ => (Nat.zero_add _).symm
    | ⟨1, _⟩ => (Nat.zero_add _).symm
    | ⟨2, _⟩ => (Nat.zero_add _).symm

theorem hi_apply (v : S32x2048x2048.Idx → α) (b : Fin 32) (s : Fin 2048) (c : Fin 1024) :
    extractStridedSlice S32x2048x1024 ![0, 0, 1024] v slices_S32x2048x2048_S32x2048x1024_0_0_1024 (ix3 b s c) = v (ix3 b s (hi c)) :=
  extractStridedSlice_apply _ _ _ _ _ fun a => match a with
    | ⟨0, _⟩ => (Nat.zero_add _).symm
    | ⟨1, _⟩ => (Nat.zero_add _).symm
    | ⟨2, _⟩ => rfl

/-- A row of features by heads. -/
theorem split_apply (v : S32x2048x1024.Idx → α) (b : Fin 32) (s : Fin 2048) (h : Fin 4) (e : Fin 256) :
    shapeCast S32x2048x4x256 v shapeCasts_S32x2048x1024_S32x2048x4x256 (ix4 b s h e) = v (ix3 b s (hd h e)) :=
  shapeCast_apply _ _ _ _ (by
    rw [Shape.rowMajor_val_four, Shape.rowMajor_val_three]
    show (b.val * 2048 + s.val) * 1024 + (256 * h.val + e.val) = ((b.val * 2048 + s.val) * 4 + h.val) * 256 + e.val
    omega)

/-- The heads of a row joined. -/
theorem join_apply (v : S32x2048x4x256.Idx → α) (b : Fin 32) (s : Fin 2048) (k : Fin 1024) :
    shapeCast S32x2048x1024 v shapeCasts_S32x2048x4x256_S32x2048x1024 (ix3 b s k) = v (ix4 b s (hq k) (hr k)) :=
  shapeCast_apply _ _ _ _ (by
    rw [Shape.rowMajor_val_four, Shape.rowMajor_val_three]
    show ((b.val * 2048 + s.val) * 4 + k.val / 256) * 256 + k.val % 256 = (b.val * 2048 + s.val) * 1024 + k.val
    omega)

theorem turn_apply (v : S32x4x256x2048.Idx → α) (b : Fin 32) (s : Fin 2048) (h : Fin 4) (e : Fin 256) :
    transpose S32x2048x4x256 [0, 3, 1, 2] v transposes_S32x4x256x2048_S32x2048x4x256_0_3_1_2 (ix4 b s h e) = v (ix4 b h e s) :=
  transpose_apply _ _ _ _ _ fun a => match a with | ⟨0, _⟩ => rfl | ⟨1, _⟩ => rfl | ⟨2, _⟩ => rfl | ⟨3, _⟩ => rfl

theorem keys_apply (v : S32x256x2048.Idx → α) (b : Fin 32) (i : Fin 256) (h : Fin 4) (e : Fin 256) :
    shapeCast S32x256x4x256 (extractStridedSlice S32x256x1x4x256 ![0, 0, 0, 0, 0]
      (shapeCast S32x256x2x4x256 v shapeCasts_S32x256x2048_S32x256x2x4x256) slices_S32x256x2x4x256_S32x256x1x4x256_0_0_0_0_0)
      shapeCasts_S32x256x1x4x256_S32x256x4x256 (ix4 b i h e) = v (ix3 b i (lo (hd h e))) := by
  refine (shapeCast_apply _ _ _ (ix5 b i (0 : Fin 1) h e) (by
    rw [Shape.rowMajor_val_five, Shape.rowMajor_val_four]
    show (((b.val * 256 + i.val) * 1 + 0) * 4 + h.val) * 256 + e.val = ((b.val * 256 + i.val) * 4 + h.val) * 256 + e.val
    omega)).trans ?_
  refine (extractStridedSlice_apply _ _ _ _ (ix5 b i (0 : Fin 2) h e) fun a => match a with
    | ⟨0, _⟩ => (Nat.zero_add _).symm
    | ⟨1, _⟩ => (Nat.zero_add _).symm
    | ⟨2, _⟩ => rfl
    | ⟨3, _⟩ => (Nat.zero_add _).symm
    | ⟨4, _⟩ => (Nat.zero_add _).symm).trans ?_
  exact shapeCast_apply _ _ _ _ (by
    rw [Shape.rowMajor_val_five, Shape.rowMajor_val_three]
    show (b.val * 256 + i.val) * 2048 + (256 * h.val + e.val) = (((b.val * 256 + i.val) * 2 + 0) * 4 + h.val) * 256 + e.val
    omega)

theorem values_apply (v : S32x256x2048.Idx → α) (b : Fin 32) (i : Fin 256) (h : Fin 4) (e : Fin 256) :
    shapeCast S32x256x4x256 (extractStridedSlice S32x256x1x4x256 ![0, 0, 1, 0, 0]
      (shapeCast S32x256x2x4x256 v shapeCasts_S32x256x2048_S32x256x2x4x256) slices_S32x256x2x4x256_S32x256x1x4x256_0_0_1_0_0)
      shapeCasts_S32x256x1x4x256_S32x256x4x256 (ix4 b i h e) = v (ix3 b i (hi (hd h e))) := by
  refine (shapeCast_apply _ _ _ (ix5 b i (0 : Fin 1) h e) (by
    rw [Shape.rowMajor_val_five, Shape.rowMajor_val_four]
    show (((b.val * 256 + i.val) * 1 + 0) * 4 + h.val) * 256 + e.val = ((b.val * 256 + i.val) * 4 + h.val) * 256 + e.val
    omega)).trans ?_
  refine (extractStridedSlice_apply _ _ _ _ (ix5 b i (1 : Fin 2) h e) fun a => match a with
    | ⟨0, _⟩ => (Nat.zero_add _).symm
    | ⟨1, _⟩ => (Nat.zero_add _).symm
    | ⟨2, _⟩ => rfl
    | ⟨3, _⟩ => (Nat.zero_add _).symm
    | ⟨4, _⟩ => (Nat.zero_add _).symm).trans ?_
  exact shapeCast_apply _ _ _ _ (by
    rw [Shape.rowMajor_val_five, Shape.rowMajor_val_three]
    show (b.val * 256 + i.val) * 2048 + (1024 + (256 * h.val + e.val)) = (((b.val * 256 + i.val) * 2 + 1) * 4 + h.val) * 256 + e.val
    omega)

/-! ## Reductions -/

theorem rowsum_apply (v : FVec Ideal S32x2048x1024 .f32) (b : Fin 32) (s : Fin 2048) :
    Host.reduceAdd v (constant S_ .f32 0x00000000#32) reducesTo_S32x2048x1024_S32x2048_d2 h_S_ (ix2 b s) = ∑ k : Fin 1024, v (ix3 b s k) := by
  have hr : S32x2048x1024.Reduces [2] S32x2048 := by decide
  rw [hostReduceAdd_apply, Ideal.hostReduceAdd_single _ hr]
  refine (congrArg (· + _) Ideal.ofBits_zero_f32).trans ((zero_add _).trans (Finset.sum_congr rfl fun k _ => congrArg v (funext fun a => match a with | ⟨0, _⟩ => Fin.ext rfl | ⟨1, _⟩ => Fin.ext rfl | ⟨2, _⟩ => Fin.ext rfl)))

theorem rowsum256_apply (v : FVec Ideal S32x4x2048x256 .f32) (b : Fin 32) (h : Fin 4) (s : Fin 2048) :
    Host.reduceAdd v (constant S_ .f32 0x00000000#32) reducesTo_S32x4x2048x256_S32x4x2048_d3 h_S_ (ix3 b h s) = ∑ k : Fin 256, v (ix4 b h s k) := by
  have hr : S32x4x2048x256.Reduces [3] S32x4x2048 := by decide
  rw [hostReduceAdd_apply, Ideal.hostReduceAdd_single _ hr]
  refine (congrArg (· + _) Ideal.ofBits_zero_f32).trans ((zero_add _).trans (Finset.sum_congr rfl fun k _ => congrArg v (funext fun a => match a with | ⟨0, _⟩ => Fin.ext rfl | ⟨1, _⟩ => Fin.ext rfl | ⟨2, _⟩ => Fin.ext rfl | ⟨3, _⟩ => Fin.ext rfl)))

theorem rowmax_apply (v : FVec Ideal S32x4x2048x256 .f32) (b : Fin 32) (h : Fin 4) (s : Fin 2048) :
    Host.reduce FloatOps.maximumf v (constant S_ .f32 0xFF800000#32) reducesTo_S32x4x2048x256_S32x4x2048_d3 h_S_ (ix3 b h s) = top fun k => v (ix4 b h s k) := by
  have hr : S32x4x2048x256.Reduces [3] S32x4x2048 := by decide
  refine (Host.reduce_eq_fold_single (max : EReal → EReal → EReal) v _ _ hr h_S_ _).trans ?_
  exact congrArg (Finset.fold max low · _) (funext fun k => congrArg v (funext fun a => match a with | ⟨0, _⟩ => Fin.ext rfl | ⟨1, _⟩ => Fin.ext rfl | ⟨2, _⟩ => Fin.ext rfl | ⟨3, _⟩ => Fin.ext rfl))

/-! ## The stages -/

/-- The stream over its root mean square, times the gains. -/
def normR (x : FVec Ideal S32x2048x1024 .f32) (g : FVec Ideal S1x1024 .f32) : FVec Ideal S32x2048x1024 .f32 :=
  mulf (mulf x (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf x x) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![2] bcast_S1024_S1x1x1024_2 (shapeCast _ g shapeCasts_S1x1024_S1024)))

theorem normR_apply (x : FVec Ideal S32x2048x1024 .f32) (g : FVec Ideal S1x1024 .f32) (b : Fin 32) (s : Fin 2048) (c : Fin 1024) :
    normR x g (ix3 b s c) = norm (fun k => x (ix3 b s k)) (fun k => g (ix2 (0 : Fin 1) k)) c := by
  refine congrArg₂ (α := EReal) (β := EReal) (· * ·) (congrArg (x (ix3 b s c) * ·) ?_) (gain_apply g b s c)
  refine (spread_apply _ b s c).trans (congrArg Ideal.rsqrt (congrArg₂ (α := EReal) (β := EReal) (· + ·)
    (congrArg₂ Ideal.div ((unrow_apply _ b s).trans (rowsum_apply _ b s)) ?_) ?_))
  · exact broadcastInDim_scalar_apply _ _ _
  · exact broadcastInDim_scalar_apply _ _ _

/-- The gates. -/
def gatesR (x : FVec Ideal S32x2048x1024 .f32) (g : FVec Ideal S1x1024 .f32) (w : FVec Ideal S1x1024x2048 .f32) (bs : FVec Ideal S1x2048 .f32) :
    FVec Ideal S32x2048x2048 .f32 :=
  Host.divf (broadcastInDim S32x2048x2048 ![] bcast_S_S32x2048x2048 (constant S_ .f32 0x3F800000#32)) (addf (broadcastInDim S32x2048x2048 ![] bcast_S_S32x2048x2048 (constant S_ .f32 0x3F800000#32)) (Host.exp (Host.negf (addf (Host.dotGeneral dot_S32x2048x1024_S1024x2048_S32x2048x2048_2_0_01_1_n_n none (normR x g) (shapeCast _ w shapeCasts_S1x1024x2048_S1024x2048)) (broadcastInDim S32x2048x2048 ![0, 1, 2] bcast_S1x1x2048_S32x2048x2048_0_1_2 (broadcastInDim S1x1x2048 ![2] bcast_S2048_S1x1x2048_2 (shapeCast _ bs shapeCasts_S1x2048_S2048)))))))

theorem gatesR_apply (x : FVec Ideal S32x2048x1024 .f32) (g : FVec Ideal S1x1024 .f32) (w : FVec Ideal S1x1024x2048 .f32)
    (bs : FVec Ideal S1x2048 .f32) (b : Fin 32) (s : Fin 2048) (c : Fin 2048) :
    gatesR x g w bs (ix3 b s c) = gate (fun k => x (ix3 b s k)) (fun k => g (ix2 (0 : Fin 1) k))
      (fun k c => w (ix3 (0 : Fin 1) k c)) (fun c => bs (ix2 (0 : Fin 1) c)) c := by
  have one : ∀ j, broadcastInDim S32x2048x2048 ![] bcast_S_S32x2048x2048 (constant (F := Ideal) S_ .f32 0x3F800000#32) j = (1 : EReal) :=
    fun j => (broadcastInDim_scalar_apply _ _ _).trans Ideal.ofBits_one_f32
  have z : Host.dotGeneral dot_S32x2048x1024_S1024x2048_S32x2048x2048_2_0_01_1_n_n none (normR x g)
      (shapeCast _ w shapeCasts_S1x1024x2048_S1024x2048) (ix3 b s c)
      = vm (norm (fun k => x (ix3 b s k)) (fun k => g (ix2 (0 : Fin 1) k))) (fun k c => w (ix3 (0 : Fin 1) k c)) c := by
    rw [dg_gate]
    simp only [normR_apply, sheet1024x2048_apply]
  show Ideal.div _ (_ + Ideal.exp (-(_ + _))) = _
  rw [z, one, bias_apply bs b s c]
  rfl

/-- The stream after the mixers. -/
def streamR (x : FVec Ideal S32x2048x1024 .f32) (gt : FVec Ideal S32x2048x2048 .f32) (ya yb : FVec Ideal S32x2048x512 .f32)
    (wa wb : FVec Ideal S1x512x1024 .f32) (wo : FVec Ideal S1x1024x1024 .f32) : FVec Ideal S32x2048x1024 .f32 :=
  addf x (Host.dotGeneral dot_S32x2048x1024_S1024x1024_S32x2048x1024_2_0_01_1_n_n none (addf (mulf (extractStridedSlice S32x2048x1024 ![0, 0, 0] gt slices_S32x2048x2048_S32x2048x1024_0_0_0) (Host.dotGeneral dot_S32x2048x512_S512x1024_S32x2048x1024_2_0_01_1_n_n none ya (shapeCast _ wa shapeCasts_S1x512x1024_S512x1024))) (mulf (extractStridedSlice S32x2048x1024 ![0, 0, 1024] gt slices_S32x2048x2048_S32x2048x1024_0_0_1024) (Host.dotGeneral dot_S32x2048x512_S512x1024_S32x2048x1024_2_0_01_1_n_n none yb (shapeCast _ wb shapeCasts_S1x512x1024_S512x1024)))) (shapeCast _ wo shapeCasts_S1x1024x1024_S1024x1024))

theorem streamR_apply (x : FVec Ideal S32x2048x1024 .f32) (gt : FVec Ideal S32x2048x2048 .f32) (ya yb : FVec Ideal S32x2048x512 .f32)
    (wa wb : FVec Ideal S1x512x1024 .f32) (wo : FVec Ideal S1x1024x1024 .f32) (b : Fin 32) (s : Fin 2048) (c : Fin 1024) :
    streamR x gt ya yb wa wb wo (ix3 b s c) = stream (fun k => x (ix3 b s k))
      (mixed (fun c => gt (ix3 b s c)) (fun k => ya (ix3 b s k)) (fun k => yb (ix3 b s k)) (fun k c => wa (ix3 (0 : Fin 1) k c))
        (fun k c => wb (ix3 (0 : Fin 1) k c))) (fun k c => wo (ix3 (0 : Fin 1) k c)) c := by
  refine congrArg (x (ix3 b s c) + ·) ((dg_square _ _ b s c).trans ?_)
  refine congrArg₂ (vm · · c) (funext fun k => ?_) (funext fun k => funext fun c => sheet1024x1024_apply wo k c)
  refine congrArg₂ (α := EReal) (β := EReal) (· + ·)
    (congrArg₂ (α := EReal) (β := EReal) (· * ·) (lo_apply gt b s k) ((dg_branch _ _ b s k).trans ?_))
    (congrArg₂ (α := EReal) (β := EReal) (· * ·) (hi_apply gt b s k) ((dg_branch _ _ b s k).trans ?_))
  · exact congrArg (vm _ · k) (funext fun k => funext fun c => sheet512x1024_apply wa k c)
  · exact congrArg (vm _ · k) (funext fun k => funext fun c => sheet512x1024_apply wb k c)

/-- The scaled scores. -/
def scoresR (h : FVec Ideal S32x2048x1024 .f32) (g : FVec Ideal S1x1024 .f32) (w : FVec Ideal S1x1024x1024 .f32)
    (mem : FVec Ideal S32x256x2048 .f32) : FVec Ideal S32x4x2048x256 .f32 :=
  mulf (Host.dotGeneral dot_S32x2048x4x256_S32x256x4x256_S32x4x2048x256_3_3_1_1_02_02 none (shapeCast _ (Host.dotGeneral dot_S32x2048x1024_S1024x1024_S32x2048x1024_2_0_01_1_n_n none (normR h g) (shapeCast _ w shapeCasts_S1x1024x1024_S1024x1024)) shapeCasts_S32x2048x1024_S32x2048x4x256) (shapeCast _ (extractStridedSlice S32x256x1x4x256 ![0, 0, 0, 0, 0] (shapeCast _ mem shapeCasts_S32x256x2048_S32x256x2x4x256) slices_S32x256x2x4x256_S32x256x1x4x256_0_0_0_0_0) shapeCasts_S32x256x1x4x256_S32x256x4x256)) (broadcastInDim S32x4x2048x256 ![] bcast_S_S32x4x2048x256 (constant S_ .f32 0x3D800000#32))

theorem scoresR_apply (hs : FVec Ideal S32x2048x1024 .f32) (g : FVec Ideal S1x1024 .f32) (w : FVec Ideal S1x1024x1024 .f32)
    (mem : FVec Ideal S32x256x2048 .f32) (b : Fin 32) (h : Fin 4) (s : Fin 2048) (i : Fin 256) :
    scoresR hs g w mem (ix4 b h s i) = score (vm (norm (fun k => hs (ix3 b s k)) fun k => g (ix2 (0 : Fin 1) k))
      fun k c => w (ix3 (0 : Fin 1) k c)) (fun i k => mem (ix3 b i (lo k))) h i * sixteenth := by
  refine congrArg₂ (α := EReal) (β := EReal) (· * ·) ((dg_score _ _ b s h i).trans (Finset.sum_congr rfl fun e _ => ?_))
    (broadcastInDim_scalar_apply _ _ _)
  refine congrArg₂ (α := EReal) (β := EReal) (· * ·) ((split_apply _ b s h e).trans ((dg_square _ _ b s _).trans ?_)) (keys_apply mem b i h e)
  exact congrArg₂ (vm · · _) (funext fun k => normR_apply hs g b s k) (funext fun k => funext fun c => sheet1024x1024_apply w k c)

/-- The scores' exponentials from the greatest. -/
def exR (s : FVec Ideal S32x4x2048x256 .f32) : FVec Ideal S32x4x2048x256 .f32 :=
  Host.exp (subf s (broadcastInDim S32x4x2048x256 ![0, 1, 2, 3] bcast_S32x4x2048x1_S32x4x2048x256_0_1_2_3 (broadcastInDim S32x4x2048x1 ![0, 1, 2] bcast_S32x4x2048_S32x4x2048x1_0_1_2 (maximumf (broadcastInDim S32x4x2048 ![] bcast_S_S32x4x2048 (constant S_ .f32 0xFF800000#32)) (Host.reduce FloatOps.maximumf s (constant S_ .f32 0xFF800000#32) reducesTo_S32x4x2048x256_S32x4x2048_d3 h_S_)))))

theorem max_apply {s : Shape} (u v : FVec Ideal s .f32) (j : s.Idx) : maximumf u v j = max (α := EReal) (u j) (v j) := rfl

theorem expsub_apply {s : Shape} (u v : FVec Ideal s .f32) (j : s.Idx) : Host.exp (subf u v) j = Ideal.exp ((u j : EReal) - v j) := rfl

theorem exR_apply (sc : FVec Ideal S32x4x2048x256 .f32) (b : Fin 32) (h : Fin 4) (s : Fin 2048) (i : Fin 256) :
    exR sc (ix4 b h s i) = ex (fun i => sc (ix4 b h s i)) i := by
  have e : broadcastInDim S32x4x2048x256 ![0, 1, 2, 3] bcast_S32x4x2048x1_S32x4x2048x256_0_1_2_3 (broadcastInDim S32x4x2048x1 ![0, 1, 2] bcast_S32x4x2048_S32x4x2048x1_0_1_2 (maximumf (broadcastInDim S32x4x2048 ![] bcast_S_S32x4x2048 (constant (F := Ideal) S_ .f32 0xFF800000#32)) (Host.reduce FloatOps.maximumf sc (constant S_ .f32 0xFF800000#32) reducesTo_S32x4x2048x256_S32x4x2048_d3 h_S_))) (ix4 b h s i)
      = top fun i => sc (ix4 b h s i) := by
    rw [spread4_apply]
    rw [max_apply, broadcastInDim_scalar_apply, rowmax_apply]
    exact max_low_top _
  unfold exR ex
  rw [expsub_apply, e]

/-- The softmax of the scores. -/
def softR (s : FVec Ideal S32x4x2048x256 .f32) : FVec Ideal S32x4x2048x256 .f32 :=
  Host.divf (exR s) (broadcastInDim S32x4x2048x256 ![0, 1, 2, 3] bcast_S32x4x2048x1_S32x4x2048x256_0_1_2_3 (broadcastInDim S32x4x2048x1 ![0, 1, 2] bcast_S32x4x2048_S32x4x2048x1_0_1_2 (Host.reduceAdd (exR s) (constant S_ .f32 0x00000000#32) reducesTo_S32x4x2048x256_S32x4x2048_d3 h_S_)))

theorem softR_apply (sc : FVec Ideal S32x4x2048x256 .f32) (b : Fin 32) (h : Fin 4) (s : Fin 2048) (i : Fin 256) :
    softR sc (ix4 b h s i) = soft (fun i => sc (ix4 b h s i)) i :=
  congrArg₂ Ideal.div (exR_apply sc b h s i) ((spread4_apply _ b h s i).trans ((rowsum256_apply _ b h s).trans
    (Finset.sum_congr rfl fun k _ => exR_apply sc b h s k)))

/-- The stream after the memory. -/
def outR (h : FVec Ideal S32x2048x1024 .f32) (sc : FVec Ideal S32x4x2048x256 .f32) (mem : FVec Ideal S32x256x2048 .f32)
    (w : FVec Ideal S1x1024x1024 .f32) : FVec Ideal S32x2048x1024 .f32 :=
  addf h (Host.dotGeneral dot_S32x2048x1024_S1024x1024_S32x2048x1024_2_0_01_1_n_n none (shapeCast _ (transpose S32x2048x4x256 [0, 3, 1, 2] (Host.dotGeneral dot_S32x256x4x256_S32x4x2048x256_S32x4x256x2048_1_3_3_2_02_01 none (shapeCast _ (extractStridedSlice S32x256x1x4x256 ![0, 0, 1, 0, 0] (shapeCast _ mem shapeCasts_S32x256x2048_S32x256x2x4x256) slices_S32x256x2x4x256_S32x256x1x4x256_0_0_1_0_0) shapeCasts_S32x256x1x4x256_S32x256x4x256) (softR sc)) transposes_S32x4x256x2048_S32x2048x4x256_0_3_1_2) shapeCasts_S32x2048x4x256_S32x2048x1024) (shapeCast _ w shapeCasts_S1x1024x1024_S1024x1024))

theorem outR_apply (hs : FVec Ideal S32x2048x1024 .f32) (sc : FVec Ideal S32x4x2048x256 .f32) (mem : FVec Ideal S32x256x2048 .f32)
    (w : FVec Ideal S1x1024x1024 .f32) (b : Fin 32) (s : Fin 2048) (c : Fin 1024) :
    outR hs sc mem w (ix3 b s c) = stream (fun k => hs (ix3 b s k))
      (heads (fun h i => sc (ix4 b h s i)) fun i k => mem (ix3 b i (hi k))) (fun k c => w (ix3 (0 : Fin 1) k c)) c := by
  refine congrArg (hs (ix3 b s c) + ·) ((dg_square _ _ b s c).trans ?_)
  refine congrArg₂ (vm · · c) (funext fun k => ?_) (funext fun k => funext fun c => sheet1024x1024_apply w k c)
  refine (join_apply _ b s k).trans ((turn_apply _ b s _ _).trans ((dg_value _ _ b s _ _).trans ?_))
  unfold heads att
  refine Finset.sum_congr rfl fun i _ => ?_
  exact (congrArg₂ (α := EReal) (β := EReal) (· * ·) (values_apply mem b i _ _) (softR_apply sc b _ s i)).trans (mul_comm _ _)

/-! ## The result -/

variable (m : (ℓ : Loc nD τ sig) → Buf (Elt Ideal) ℓ)

/-- The arrays the program is launched on. -/
def args (c : Dev nD) : Args where
  x := m ((c.tc : Thread nD τ).loc main_arg0)
  ya := m ((c.tc : Thread nD τ).loc main_arg1)
  yb := m ((c.tc : Thread nD τ).loc main_arg2)
  mem := m ((c.tc : Thread nD τ).loc main_arg3)
  g1 := m ((c.tc : Thread nD τ).loc main_arg4)
  wg := m ((c.tc : Thread nD τ).loc main_arg5)
  bg := m ((c.tc : Thread nD τ).loc main_arg6)
  wa := m ((c.tc : Thread nD τ).loc main_arg7)
  wb := m ((c.tc : Thread nD τ).loc main_arg8)
  wo := m ((c.tc : Thread nD τ).loc main_arg9)
  g2 := m ((c.tc : Thread nD τ).loc main_arg10)
  wq := m ((c.tc : Thread nD τ).loc main_arg11)
  wc := m ((c.tc : Thread nD τ).loc main_arg12)

/-- The stream after the mixers, of the arguments. -/
def streamA (c : Dev nD) : FVec Ideal S32x2048x1024 .f32 :=
  streamR (m ((c.tc : Thread nD τ).loc main_arg0)) (gatesR (m ((c.tc : Thread nD τ).loc main_arg0)) (m ((c.tc : Thread nD τ).loc main_arg4)) (m ((c.tc : Thread nD τ).loc main_arg5)) (m ((c.tc : Thread nD τ).loc main_arg6)))
    (extf .f32 (m ((c.tc : Thread nD τ).loc main_arg1)) bitsLt_bf16_f32) (extf .f32 (m ((c.tc : Thread nD τ).loc main_arg2)) bitsLt_bf16_f32)
    (m ((c.tc : Thread nD τ).loc main_arg7)) (m ((c.tc : Thread nD τ).loc main_arg8)) (m ((c.tc : Thread nD τ).loc main_arg9))

theorem streamA_apply (c : Dev nD) (b : Fin 32) (s : Fin 2048) (k : Fin 1024) :
    streamA m c (ix3 b s k) = (args m c).stream b s k := by
  refine (streamR_apply _ _ _ _ _ _ _ b s k).trans ?_
  exact congrArg (fun g => stream _ (mixed g _ _ _ _) _ k) (funext fun c => gatesR_apply _ _ _ _ b s c)

theorem res_eq (c : Dev nD) : Value.res_main_v82 m c
    = outR (streamA m c) (scoresR (streamA m c) (m ((c.tc : Thread nD τ).loc main_arg10)) (m ((c.tc : Thread nD τ).loc main_arg11)) (extf .f32 (m ((c.tc : Thread nD τ).loc main_arg3)) bitsLt_bf16_f32)) (extf .f32 (m ((c.tc : Thread nD τ).loc main_arg3)) bitsLt_bf16_f32) (m ((c.tc : Thread nD τ).loc main_arg12)) := by
  unfold Value.res_main_v82 outR softR exR scoresR streamA streamR gatesR normR
  with_reducible rfl

theorem result (c : Dev nD) : Value.res_main_v82 m c = fun j => (args m c).out j := by
  funext j
  obtain ⟨b, s, k, rfl⟩ : ∃ (b : Fin 32) (s : Fin 2048) (k : Fin 1024), j = ix3 b s k :=
    ⟨j 0, j 1, j 2, funext fun a => match a with | ⟨0, _⟩ => rfl | ⟨1, _⟩ => rfl | ⟨2, _⟩ => rfl⟩
  rw [res_eq]
  refine (outR_apply _ _ _ _ b s k).trans ?_
  refine congrArg₂ (fun h sc => stream h (heads sc _) _ k) (funext fun k => streamA_apply m c b s k) (funext fun h => funext fun i => ?_)
  refine (scoresR_apply _ _ _ _ b h s i).trans ?_
  exact congrArg (fun u => score (vm (norm u _) _) _ h i * sixteenth) (funext fun k => streamA_apply m c b s k)

end Cert.MergeReferenceIdeal.Hand

end

end
-- ==== Proof.MergeClaims.lean ====
module

public import proofs.«01_k».proof.Defs
public import proofs.«01_k».proof.Proof.MergeKernel
public import proofs.«01_k».proof.Proof.MergeRef
public import proofs.«01_k».proof.Proof.Gen.Merge.Frame

@[expose] public section

/-! # The merge's claims -/

noncomputable section

namespace Cert.MergeIdeal.Hand

open Idealize.ShloMosaic Idealize.ShloMosaic.TcCoe Idealize.SL.Sem

theorem frame_merge : Cert.quiescent_Merge := fun m ρ _ => Cert.Merge.Gen.frame m ρ

theorem frame_mergeIdeal : Cert.quiescent_MergeIdeal := fun m ρ _ => Cert.MergeIdeal.Gen.frame m ρ

theorem frame_mergeReferenceIdeal : Cert.quiescent_MergeReferenceIdeal := fun m ρ _ =>
  (θ_run Cert.MergeReferenceIdeal.defs _ _).mono (fun r h => ⟨fun c => (h c).2, sem_eq_zero_of_no_sems (by decide) r.2⟩)
    (Cert.MergeReferenceIdeal.Value.run (F := Ideal) m ρ)

/-- The reference's result, when its arrays are the kernel's. -/
theorem value_eq (m : (ℓ : Loc Cert.MergeIdeal.nD Cert.MergeIdeal.τ Cert.MergeIdeal.sig) → Buf (Elt Ideal) ℓ)
    (m' : (ℓ : Loc Cert.MergeReferenceIdeal.nD Cert.MergeReferenceIdeal.τ Cert.MergeReferenceIdeal.sig) → Buf (Elt Ideal) ℓ)
    (c : Dev Cert.MergeIdeal.nD)
    (h : Cert.MergeReferenceIdeal.Hand.args m' c = args m c) :
    Cert.MergeReferenceIdeal.Value.res_main_v82 m' c = fun j => (args m c).out j :=
  (Cert.MergeReferenceIdeal.Hand.result m' c).trans (congrArg (fun A : Cert.MergeRow.Args => fun j => A.out j) h)

theorem algebraic_merge : Cert.algebraic_MergeIdeal_MergeReferenceIdeal := fun m ρ m' ρ' _ hag => by
  refine ⟨fun c => fun j => (args m c).out j,
    (θ_run Cert.MergeIdeal.defs _ _).mono (fun _ h c => ⟨(h c).1.trans (result m c), (h c).2.2⟩)
      (Cert.MergeIdeal.Value.run_blocks (F := Ideal) m ρ),
    (θ_run Cert.MergeReferenceIdeal.defs _ _).mono (fun _ h c => ⟨(h c).1.trans (value_eq m m' c ?_), (h c).2⟩)
      (Cert.MergeReferenceIdeal.Value.run (F := Ideal) m' ρ')⟩
  obtain ⟨h0, h1, h2, h3, h4, h5, h6, h7, h8, h9, h10, h11, h12, _⟩ := hag c
  exact (Cert.MergeRow.Args.mk.injEq ..).mpr ⟨h0, h1, h2, h3, h4, h5, h6, h7, h8, h9, h10, h11, h12⟩

end Cert.MergeIdeal.Hand

end

end
-- ==== Proof.ExpertsRow.lean ====
module

public import proofs.«01_k».proof.Proof.MergeRow

@[expose] public section

/-! # One slot's row through its expert

A row of the result depends on one row of the slots, on the gains and on the weights of the expert its block names. These
are its steps over the extended reals; a block from the number of used blocks on is zero. -/

noncomputable section

namespace Cert.ExpertsRow

open Idealize.ShloMosaic Cert.MergeRow

/-- The gated features of a row. -/
def hidden (u : Fin 1024 → EReal) (w1 w3 : Fin 1024 → Fin 512 → EReal) (f : Fin 512) : EReal :=
  vm u w1 f * Ideal.logistic (vm u w1 f) * vm u w3 f

/-- The expert's output. -/
def expert (x g : Fin 1024 → EReal) (w1 w3 : Fin 1024 → Fin 512 → EReal) (w2 : Fin 512 → Fin 1024 → EReal) (c : Fin 1024) : EReal :=
  vm (hidden (norm x g) w1 w3) w2 c

/-- Slot `r` of block `i`. -/
abbrev slot (i : Fin 288) (r : Fin 512) : Fin 147456 := ⟨512 * i.val + r.val, by have := i.isLt; have := r.isLt; omega⟩

/-- A slot's block, and its place in the block. -/
abbrev blockOf (s : Fin 147456) : Fin 288 := ⟨s.val / 512, by have := s.isLt; omega⟩
abbrev placeOf (s : Fin 147456) : Fin 512 := ⟨s.val % 512, Nat.mod_lt _ (by decide)⟩

theorem slot_block (s : Fin 147456) : slot (blockOf s) (placeOf s) = s :=
  Fin.ext (by show 512 * (s.val / 512) + s.val % 512 = s.val; omega)

theorem blockOf_slot (i : Fin 288) (r : Fin 512) : blockOf (slot i r) = i :=
  Fin.ext (by show (512 * i.val + r.val) / 512 = i.val; have := r.isLt; omega)

theorem placeOf_slot (i : Fin 288) (r : Fin 512) : placeOf (slot i r) = r :=
  Fin.ext (by show (512 * i.val + r.val) % 512 = r.val; have := r.isLt; omega)

/-- The arrays the experts read. -/
structure Args where
  be : (⟨1, ![288]⟩ : Shape).Idx → BitVec 32
  nu : (⟨1, ![1]⟩ : Shape).Idx → BitVec 32
  x : (⟨2, ![147456, 1024]⟩ : Shape).Idx → EReal
  g : (⟨2, ![1, 1024]⟩ : Shape).Idx → EReal
  w1 : (⟨4, ![1, 32, 1024, 512]⟩ : Shape).Idx → EReal
  w3 : (⟨4, ![1, 32, 1024, 512]⟩ : Shape).Idx → EReal
  w2 : (⟨4, ![1, 32, 512, 1024]⟩ : Shape).Idx → EReal

open ValueIdx in
/-- Every block names one of the experts. -/
def Args.Named (A : Args) : Prop := ∀ i : Fin 288, (A.be (ix1 i)).toNat < 32

open ValueIdx in
/-- The expert block `i` names. -/
def Args.who (A : Args) (i : Fin 288) : Fin 32 := ⟨(A.be (ix1 i)).toNat % 32, Nat.mod_lt _ (by decide)⟩

open ValueIdx in
theorem Args.who_val (A : Args) (h : A.Named) (i : Fin 288) : (A.who i).val = (A.be (ix1 i)).toNat :=
  Nat.mod_eq_of_lt (h i)

open ValueIdx in
/-- Block `i` is in use. -/
def Args.used (A : Args) (i : Fin 288) : Prop := (BitVec.ofNat 32 i.val).slt (A.nu (ix1 (0 : Fin 1))) = true

instance (A : Args) (i : Fin 288) : Decidable (A.used i) := by unfold Args.used; infer_instance

open ValueIdx in
/-- Slot `r` of block `i`, through the block's expert. -/
def Args.row (A : Args) (i : Fin 288) (r : Fin 512) : Fin 1024 → EReal :=
  expert (fun k => A.x (ix2 (slot i r) k)) (fun k => A.g (ix2 (0 : Fin 1) k))
    (fun k f => A.w1 (ix4 (0 : Fin 1) (A.who i) k f)) (fun k f => A.w3 (ix4 (0 : Fin 1) (A.who i) k f))
    (fun f c => A.w2 (ix4 (0 : Fin 1) (A.who i) f c))

/-- What slot `r` of block `i` comes to. -/
def Args.cell (A : Args) (i : Fin 288) (r : Fin 512) (c : Fin 1024) : EReal := if A.used i then A.row i r c else 0

/-- The experts' result. -/
def Args.out (A : Args) (j : (⟨2, ![147456, 1024]⟩ : Shape).Idx) : EReal := A.cell (blockOf (j 0)) (placeOf (j 0)) (j 1)

end Cert.ExpertsRow

end

end
-- ==== Proof.ExpertsLaunch.lean ====
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.VecWindow

@[expose] public section

/-! # The experts' region: what it finds, and its body at a grid point

The body reads the number of used blocks from the second table. Below it the block is the expert's product, from it on
it is zero: one of the two stores always runs. -/

set_option maxRecDepth 16384

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The algebra the assertions range over. -/
abbrev MM (F : FTy → Type) [FloatOps F] := MT nD τ sig Unit (Elt F) ℕ (UR sig nD τ) ℕ

/-! ## The two conditions -/

theorem bit_ext {b : BitVec 1} : (Scalar.cmpi .ne (Scalar.extui b : BitVec 32) 0#32 = 1#1) ↔ b = 1#1 := by
  revert b; decide

theorem cond1_iff (i : grid0.Coords) (v : BitVec 32) : k0_cond1 i v = 1#1 ↔ (BitVec.ofNat 32 (i 0).val).slt v = true := by
  refine bit_ext.trans ?_
  show (bif (BitVec.ofNat 32 (i 0).val).slt v then 1#1 else 0#1) = 1#1 ↔ _
  cases (BitVec.ofNat 32 (i 0).val).slt v <;> decide

theorem cond2_iff (i : grid0.Coords) (v : BitVec 32) : k0_cond2 i v = 1#1 ↔ ¬ k0_cond1 i v = 1#1 := by
  rw [cond1_iff]
  refine bit_ext.trans ?_
  show (bif v.sle (BitVec.ofNat 32 (i 0).val) then 1#1 else 0#1) = 1#1 ↔ _
  rw [BitVec.sle_eq_not_slt]
  cases (BitVec.ofNat 32 (i 0).val).slt v <;> decide

/-! ## The tables as the body holds them -/

abbrev T0 : Memref sig .tc .smem S288 .i32 := Memref.whole main_arg0
abbrev T1 : Memref sig .tc .smem S1 .i32 := Memref.whole main_arg1

/-- A table's contents on a device, and the half of it the body holds. -/
abbrev Tab (F : FTy → Type) [FloatOps F] (c : Dev nD) {S : Shape} (M : Memref sig .tc .smem S .i32) : Type :=
  Buf (Elt F) (M.view.loc (c : Thread nD τ))
abbrev tab (c : Dev nD) {S : Shape} (M : Memref sig .tc .smem S .i32) (f : Tab F c M) : sProp (MM F) :=
  M.view.loc (c : Thread nD τ) ↦{fullShare.right} f

/-- The number of used blocks. -/
abbrev used {c : Dev nD} (f1 : Tab F c T1) : BitVec 32 := f1 ((Rect.unit (s := S1) ![0] S1.size inb_S1_S1_0).point numel1_S1)

/-- What the body leaves in the output block. -/
def outB (i : grid0.Coords) (n : BitVec 32) (x0 : Vec F S512x1024 .f32) (x1 : Vec F S1x1024 .f32) (x2 x3 : Vec F S1x1024x512 .bf16)
    (x4 : Vec F S1x512x1024 .bf16) : Vec F S512x1024 .f32 :=
  if k0_cond1 i n = 1#1 then k0_pay1 x0 x1 x2 x3 x4 else k0_pay2

theorem outB_read (i : grid0.Coords) {n n' : BitVec 32} {x0 y0 : Vec F S512x1024 .f32} {x1 y1 : Vec F S1x1024 .f32} {x2 y2 x3 y3 : Vec F S1x1024x512 .bf16}
    {x4 y4 : Vec F S1x512x1024 .bf16} (h : n = n') (h0 : x0 = y0) (h1 : x1 = y1) (h2 : x2 = y2) (h3 : x3 = y3) (h4 : x4 = y4) :
    (if k0_cond1 i n = 1#1 then k0_pay1 x0 x1 x2 x3 x4 else k0_pay2) = outB i n' y0 y1 y2 y3 y4 := by
  subst h h0 h1 h2 h3 h4; rfl

theorem stored {M : Memref sig .tc .vmem S512x1024 .f32} {f : M.view.ty.Contents (Elt F)} {C1 C2 : Prop} {_ : Decidable C1} {_ : Decidable C2}
    (h : C2 ↔ ¬ C1) (u w : Vec F S512x1024 .f32) :
    M.view.read (Elt F)
      (if hc : C2 then
        M.view.writes (Elt F)
          (if hc : C1 then M.view.writes (Elt F) f [⟨Rect.unit (s := S512x1024) ![0, 0] S512x1024.size inb_S512x1024_S512x1024_0_0, u⟩] else f)
          [⟨Rect.unit (s := S512x1024) ![0, 0] S512x1024.size inb_S512x1024_S512x1024_0_0, w⟩]
      else if hc : C1 then M.view.writes (Elt F) f [⟨Rect.unit (s := S512x1024) ![0, 0] S512x1024.size inb_S512x1024_S512x1024_0_0, u⟩] else f)
      = if C1 then u else w := by
  by_cases h1 : C1
  · rw [dif_neg (fun h2 => h.1 h2 h1), dif_pos h1, if_pos h1, View.read_writes_full]
  · rw [dif_pos (h.2 h1), if_neg h1, View.read_writes_full]

set_option maxHeartbeats 1000000 in
/-- The body on whole blocks. -/
theorem body_run (c : Dev nD) (i : grid0.Coords)
    (arg3 : Memref sig .tc .vmem S512x1024 .f32) (harg3 : arg3.IsWhole) (arg4 : Memref sig .tc .vmem S1x1024 .f32) (harg4 : arg4.IsWhole)
    (arg5 : Memref sig .tc .vmem S1x1024x512 .bf16) (harg5 : arg5.IsWhole) (arg6 : Memref sig .tc .vmem S1x1024x512 .bf16) (harg6 : arg6.IsWhole)
    (arg7 : Memref sig .tc .vmem S1x512x1024 .bf16) (harg7 : arg7.IsWhole) (arg8 : Memref sig .tc .vmem S512x1024 .f32) (harg8 : arg8.IsWhole)
    (x0 : Vec F S512x1024 .f32) (x1 : Vec F S1x1024 .f32) (x2 x3 : Vec F S1x1024x512 .bf16) (x4 : Vec F S1x512x1024 .bf16)
    (f0 : Tab F c T0) (f1 : Tab F c T1) (E : Set ℕ) (K : PUnit → sProp (MM F)) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ (∃ d, owns (c : Thread nD τ) arg8 fullShare d)
        ∗ tab c T0 f0 ∗ tab c T1 f1
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (outB i (used f1) x0 x1 x2 x3 x4) ∗ tab c T0 f0 ∗ tab c T1 f1) -∗ K ⟨⟩))
      ⊢ wp frame (wpE (defs₀ (F := F)) Variants.none c none) E
          (cc0_experts i T0 (Memref.isWhole_whole _) T1 (Memref.isWhole_whole _) arg3 harg3 arg4 harg4 arg5 harg5 arg6 harg6 arg7 harg7 arg8 harg8) K := by
  simp only [cc0_experts_eq_skeleton]; unfold cc0_experts_skel
  unfold owns
  iintro ⟨⟨%g0, %hf0, H0⟩, ⟨%g1, %hf1, H1⟩, ⟨%g2, %hf2, H2⟩, ⟨%g3, %hf3, H3⟩, ⟨%g4, %hf4, H4⟩, ⟨%d5, %f5, -, H5⟩, HT0, HT1, Hk⟩
  obtain rfl := harg3.eq_unread hf0; obtain rfl := harg4.eq_unread hf1; obtain rfl := harg5.eq_unread hf2
  obtain rfl := harg6.eq_unread hf3; obtain rfl := harg7.eq_unread hf4
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    rw [stored (cond2_iff i _)]
    exact outB_read i rfl ((View.readAt_full _ _ _).trans hf0) ((View.readAt_full _ _ _).trans hf1) ((View.readAt_full _ _ _).trans hf2)
      ((View.readAt_full _ _ _).trans hf3) ((View.readAt_full _ _ _).trans hf4)
  isplitl [HT0]; · iexact HT0
  iexact HT1

/-! ## What the region finds -/

variable (m : (ℓ : Loc nD τ sig) → Buf (Elt F) ℓ) (ρ : Dev nD → PrngReg)

/-- A device's buffers when the region is entered: the host operations have run. -/
abbrev V (c : Dev nD) (b : Ref sig .tc) : Buf (Elt F) ((c : Thread nD τ).loc b) := StableHlo.after hostOps0 (fun b => m (c, b)) b

theorem ops_fresh : (hostOps0 : List (HloOp τ sig (Elt F))).Forall fun op => op.fresh = ∅ := by
  simp only [List.Forall]; repeat' constructor

set_option maxHeartbeats 800000 in
theorem prefix_run : Pipeline.HMainP (Ix := Unit) (Name := ℕ) (U := UR sig nD τ) (Lvl := ℕ) pcfgs 0 defs₀ Variants.none m (main (F := F)) (V m) :=
  Pipeline.hmainP_prefix pcfgs 0 defs₀ Variants.none m main hostOps0 hostOps0_sub ops_fresh main_chain

/-- The host operations leave a buffer that none of them writes. -/
theorem kept (c : Dev nD) (b : Ref sig .tc) (h1 : b ≠ main_v0) (h2 : b ≠ main_v1) (h3 : b ≠ main_v2) (h4 : b ≠ main_v3)
    (h5 : b ≠ main_v4) (h6 : b ≠ main_v5) (h7 : b ≠ main_v6) (h8 : b ≠ main_v7) : V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h1, StableHlo.devRef_ne_of_ne h2, StableHlo.devRef_ne_of_ne h3, StableHlo.devRef_ne_of_ne h4,
      StableHlo.devRef_ne_of_ne h5, StableHlo.devRef_ne_of_ne h6, StableHlo.devRef_ne_of_ne h7, StableHlo.devRef_ne_of_ne h8⟩))

theorem kept0 (c : Dev nD) : V m c main_arg0 = m ((c : Thread nD τ).loc main_arg0) := kept m c _ (by decide) (by decide) (by decide) (by decide) (by decide) (by decide) (by decide) (by decide)
theorem kept1 (c : Dev nD) : V m c main_arg1 = m ((c : Thread nD τ).loc main_arg1) := kept m c _ (by decide) (by decide) (by decide) (by decide) (by decide) (by decide) (by decide) (by decide)
theorem kept2 (c : Dev nD) : V m c main_arg2 = m ((c : Thread nD τ).loc main_arg2) := kept m c _ (by decide) (by decide) (by decide) (by decide) (by decide) (by decide) (by decide) (by decide)
theorem kept3 (c : Dev nD) : V m c main_arg3 = m ((c : Thread nD τ).loc main_arg3) := kept m c _ (by decide) (by decide) (by decide) (by decide) (by decide) (by decide) (by decide) (by decide)
theorem kept4 (c : Dev nD) : V m c main_arg4 = m ((c : Thread nD τ).loc main_arg4) := kept m c _ (by decide) (by decide) (by decide) (by decide) (by decide) (by decide) (by decide) (by decide)
theorem kept5 (c : Dev nD) : V m c main_arg5 = m ((c : Thread nD τ).loc main_arg5) := kept m c _ (by decide) (by decide) (by decide) (by decide) (by decide) (by decide) (by decide) (by decide)
theorem kept6 (c : Dev nD) : V m c main_arg6 = m ((c : Thread nD τ).loc main_arg6) := kept m c _ (by decide) (by decide) (by decide) (by decide) (by decide) (by decide) (by decide) (by decide)

/-- The tables' contents when the region is entered. -/
def tbl : pre0.Contents (Elt F) := fun j => V m (0 : Dev nD) (pre0.ref j)

theorem tbl_all (c : Dev nD) (j : Fin 2) : V m c (pre0.ref j) = tbl m j := by
  obtain rfl : c = 0 := Subsingleton.elim _ _; rfl

/-- The experts the blocks name exist. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

theorem tabs_eq (c : Dev nD) : (Pipeline.ΦT pre0 (tbl m) c : sProp (MM F)) = iprop(tab c T0 (tbl m 0) ∗ tab c T1 (tbl m 1)) := by
  unfold Pipeline.ΦT Pipeline.prefHeld
  rw [show (Finset.univ : Finset (Fin 2)) = insert (0 : Fin 2) {(1 : Fin 2)} from by decide, bigSep_insert (by decide), bigSep_singleton]
  rfl

/-- A window's block at a point, of its array as the region finds it. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- The output block after the body at a point. -/
def outAt (hO : Ok m) (c : Dev nD) (t : Fin (cfgM m hO).N) : Vec F S512x1024 .f32 :=
  outB (grid0.coords t) (used (c := 0) (tbl m 1)) (iblk m hO c 0 t) (iblk m hO c 1 t) (iblk m hO c 2 t) (iblk m hO c 3 t) (iblk m hO c 4 t)

/-- The pipeline's data. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outAt m hO c t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; rfl
theorem after_1 (hO : Ok m) (c : Dev nD) (t : Fin (cfgM m hO).N) : (dats m hO 0 c).after 1 t = iblk m hO c 1 t := by dsimp only [dats]; rfl
theorem after_2 (hO : Ok m) (c : Dev nD) (t : Fin (cfgM m hO).N) : (dats m hO 0 c).after 2 t = iblk m hO c 2 t := by dsimp only [dats]; rfl
theorem after_3 (hO : Ok m) (c : Dev nD) (t : Fin (cfgM m hO).N) : (dats m hO 0 c).after 3 t = iblk m hO c 3 t := by dsimp only [dats]; rfl
theorem after_4 (hO : Ok m) (c : Dev nD) (t : Fin (cfgM m hO).N) : (dats m hO 0 c).after 4 t = iblk m hO c 4 t := by dsimp only [dats]; rfl
theorem after_5 (hO : Ok m) (c : Dev nD) (t : Fin (cfgM m hO).N) : (dats m hO 0 c).after 5 t = outAt m hO c t := by dsimp only [dats]; rfl

theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl)
    (fun t => by rw [after_0]; unfold Dat.blockOf iblk; rw [A_eq]) t d).trans (by unfold Dat.fetched Dat.blockOf iblk; rw [A_eq]; rfl)
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl)
    (fun t => by rw [after_1]; unfold Dat.blockOf iblk; rw [A_eq]) t d).trans (by unfold Dat.fetched Dat.blockOf iblk; rw [A_eq]; rfl)
theorem before_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl)
    (fun t => by rw [after_2]; unfold Dat.blockOf iblk; rw [A_eq]) t d).trans (by unfold Dat.fetched Dat.blockOf iblk; rw [A_eq]; rfl)
theorem before_3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl)
    (fun t => by rw [after_3]; unfold Dat.blockOf iblk; rw [A_eq]) t d).trans (by unfold Dat.fetched Dat.blockOf iblk; rw [A_eq]; rfl)
theorem before_4 (hO : Ok m) (c : Dev nD) (t : Fin (cfgM m hO).N) (d) : (dats m hO 0 c).before 4 t d = iblk m hO c 4 t :=
  ((dats m hO 0 c).before_in_eq_fetched 4 rfl (fun _ => rfl) (fun _ _ _ => rfl)
    (fun t => by rw [after_4]; unfold Dat.blockOf iblk; rw [A_eq]) t d).trans (by unfold Dat.fetched Dat.blockOf iblk; rw [A_eq]; rfl)

/-- At every point the output block is stored. -/
theorem idle_out (pf : pre0.Contents (Elt F)) (i : grid0.Coords) : idle0 pf 5 i = false := by
  show (!(k0_cond1 i (pf.atD 1 ![0]) == 1#1) && !(k0_cond2 i (pf.atD 1 ![0]) == 1#1)) = false
  by_cases h : k0_cond1 i (pf.atD 1 ![0]) = 1#1
  · simp [h]
  · simp [(cond2_iff i _).2 h]

theorem idle_cfg (a : (pcfg0 (F := F)).Adm) (w : Fin 6) (i : grid0.Coords) : (cfg0 a).idle w i = idle0 a.1 w i := rfl

theorem idle_adm (a : (pcfg0 (F := F)).Adm) (i : grid0.Coords) : (cfg0 a).idle (5 : Fin 6) i = false :=
  (idle_cfg a 5 i).trans (idle_out a.1 i)

theorem idle_at (hO : Ok m) (t : Fin (cfgM m hO).N) : (cfgM m hO).idle (5 : Fin 6) ((cfgM m hO).grid.coords t) = false :=
  idle_adm (adm m hO) ((cfgM m hO).grid.coords t)

/-! ## The body obligation -/

/-- The body at a point, on the blocks' current buffers. -/
abbrev bodyAt (a : (pcfg0 (F := F)).Adm) (t : Fin (cfg0 a).N) : Prog (TpuEff nD τ sig (Elt F) Λ₀ .tc) PUnit :=
  cc0_experts (grid0.coords t) T0 (Memref.isWhole_whole _) T1 (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))
    (spec0_4.stage ((cfg0 a).slots t 4)) (hstage0_4 (((cfg0 a).slots t 4).cast nbuf0_4))
    (spec0_5.stage ((cfg0 a).slots t 5)) (hstage0_5 (((cfg0 a).slots t 5).cast nbuf0_5))

def bodyPre (hO : Ok m) (c : Dev nD) (t : Fin (cfgM m hO).N) : sProp (MM F) :=
  iprop((dats m hO 0 c).Φ t.castSucc ∗ (dats m hO 0 c).owesAt () t.castSucc
    ∗ (∃ d, owns (c : Thread nD τ) (spec0_0.stage ((cfgM m hO).slots t 0)) fullShare ((dats m hO 0 c).before 0 t d))
    ∗ (∃ d, owns (c : Thread nD τ) (spec0_1.stage ((cfgM m hO).slots t 1)) fullShare ((dats m hO 0 c).before 1 t d))
    ∗ (∃ d, owns (c : Thread nD τ) (spec0_2.stage ((cfgM m hO).slots t 2)) fullShare ((dats m hO 0 c).before 2 t d))
    ∗ (∃ d, owns (c : Thread nD τ) (spec0_3.stage ((cfgM m hO).slots t 3)) fullShare ((dats m hO 0 c).before 3 t d))
    ∗ (∃ d, owns (c : Thread nD τ) (spec0_4.stage ((cfgM m hO).slots t 4)) fullShare ((dats m hO 0 c).before 4 t d))
    ∗ (∃ d, owns (c : Thread nD τ) (spec0_5.stage ((cfgM m hO).slots t 5)) fullShare ((dats m hO 0 c).before 5 t d)))

def bodyPost (hO : Ok m) (c : Dev nD) (t : Fin (cfgM m hO).N) : sProp (MM F) :=
  iprop((dats m hO 0 c).Φ t.succ ∗ (dats m hO 0 c).owesAt () t.succ
    ∗ owns (c : Thread nD τ) (spec0_0.stage ((cfgM m hO).slots t 0)) fullShare ((dats m hO 0 c).after 0 t)
    ∗ owns (c : Thread nD τ) (spec0_1.stage ((cfgM m hO).slots t 1)) fullShare ((dats m hO 0 c).after 1 t)
    ∗ owns (c : Thread nD τ) (spec0_2.stage ((cfgM m hO).slots t 2)) fullShare ((dats m hO 0 c).after 2 t)
    ∗ owns (c : Thread nD τ) (spec0_3.stage ((cfgM m hO).slots t 3)) fullShare ((dats m hO 0 c).after 3 t)
    ∗ owns (c : Thread nD τ) (spec0_4.stage ((cfgM m hO).slots t 4)) fullShare ((dats m hO 0 c).after 4 t)
    ∗ owns (c : Thread nD τ) (spec0_5.stage ((cfgM m hO).slots t 5)) fullShare ((dats m hO 0 c).after 5 t))

theorem body_sound (hO : Ok m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost bodyAt
  simp only [before_0, before_1, before_2, before_3, before_4]
  rw [show (dats m hO 0 c).Φ t.succ = (dats m hO 0 c).Φ t.castSucc from rfl,
    show (dats m hO 0 c).owesAt () t.succ = (dats m hO 0 c).owesAt () t.castSucc from rfl,
    after_0, after_1, after_2, after_3, after_4, after_5]
  rw [show (dats m hO 0 c).Φ t.castSucc = iprop(Pipeline.ΦA spec0 c ∗ Pipeline.ΦT pre0 (tbl m) c) from rfl, tabs_eq]
  unfold outAt
  iintro ⟨⟨HΦ, ⟨HT0, HT1⟩⟩, Ho, ⟨%d0, H0⟩, ⟨%d1, H1⟩, ⟨%d2, H2⟩, ⟨%d3, H3⟩, ⟨%d4, H4⟩, ⟨%d5, H5⟩⟩
  iapply (body_run c (grid0.coords t) _ _ _ _ _ _ _ _ _ _ _ _ (iblk m hO c 0 t) (iblk m hO c 1 t) (iblk m hO c 2 t) (iblk m hO c 3 t)
    (iblk m hO c 4 t) (tbl m 0) (tbl m 1) Set.univ _)
  isplitl [H0]; · iexact H0
  isplitl [H1]; · iexact H1
  isplitl [H2]; · iexact H2
  isplitl [H3]; · iexact H3
  isplitl [H4]; · iexact H4
  isplitl [H5]; · iexists _; iexact H5
  isplitl [HT0]; · iexact HT0
  isplitl [HT1]; · iexact HT1
  iintro ⟨H0, H1, H2, H3, H4, H5, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexact H5

theorem row_eq (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

theorem body_obl (hO : Ok m) (c : Dev nD) : BodyObligation (dats (F := F) m hO 0 c) (defs₀ (F := F)) Variants.none () Set.univ := fun t => by
  rw [bigSep_W0, bigSep_W0, row_eq m hO]
  rw [idle_at m hO]
  exact triple_restated (body_sound m hO c t) rfl .rfl fun _ => .rfl

/-! ## The run -/

set_option backward.isDefEq.respectTransparency.types false in
theorem run_all (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obl m hO c).loose) (hshare := fun c => (dats m hO 0 c).share_full fun _ => rfl)
    (howed := fun _ _ => rfl) (V := V m) (hmain := prefix_run m) (hA := A_eq m hO) (hpf := tbl_all m)
    (hΦ := fun _ _ => rfl)

/-- The arguments end as they were, the output array as the pipeline writes it, the counters at zero. -/
theorem run_exact (hO : Ok m) : θ_run defs (onTc (τ := τ) (main (F := F))) ⟨m, fun _ => 0, ρ⟩ (fun r =>
    (∀ c : Dev nD, r.2.mem ((c.tc : Thread nD τ).loc main_v8) = (dats m hO 0 c).arrAt 5 (cfgM m hO).N)
    ∧ (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
    ∧ r.2.sem = fun _ => 0) :=
  (θ_run defs _ _).mono (fun _ h => ⟨fun c => (h.1 c).1 5, fun c =>
    ⟨((h.1 c).2 main_arg0 (by decide : main_arg0 ∈ Pipeline.restRefs sig spec0)).trans (kept0 m c),
      ((h.1 c).2 main_arg1 (by decide : main_arg1 ∈ Pipeline.restRefs sig spec0)).trans (kept1 m c),
      ((h.1 c).1 0).trans (((dats m hO 0 c).arrAt_in 0 rfl _).trans ((A_eq m hO c 0).trans (kept2 m c))),
      ((h.1 c).2 main_arg3 (by decide : main_arg3 ∈ Pipeline.restRefs sig spec0)).trans (kept3 m c),
      ((h.1 c).2 main_arg4 (by decide : main_arg4 ∈ Pipeline.restRefs sig spec0)).trans (kept4 m c),
      ((h.1 c).2 main_arg5 (by decide : main_arg5 ∈ Pipeline.restRefs sig spec0)).trans (kept5 m c),
      ((h.1 c).2 main_arg6 (by decide : main_arg6 ∈ Pipeline.restRefs sig spec0)).trans (kept6 m c)⟩, h.2⟩) (run_all m ρ hO)

end Cert.ExpertsIdeal.Hand

end
-- ==== Proof.ExpertsTile.lean ====
module

public import proofs.«01_k».proof.Proof.ExpertsRow
public import proofs.«01_k».proof.Proof.MergeBody
public import proofs.«01_k».proof.Proof.ExpertsLaunch

@[expose] public section

/-! # The experts' kernel's block, entry by entry -/

set_option maxRecDepth 16384

noncomputable section

namespace Cert.ExpertsIdeal.Hand

open Cert.ExpertsIdeal Cert.ExpertsIdeal.Gen Cert.ExpertsRow Idealize.ShloMosaic Idealize.ShloMosaic.ValueIdx
open Cert.MergeRow (vm norm sum_contr len eps)
open Cert.MergeIdeal.Hand (normV normV_apply)

theorem mm_in (l : FVec Ideal S512x1024 .bf16) (r : FVec Ideal S1024x512 .bf16) (i : Fin 512) (j : Fin 512) :
    matmul dot_S512x1024_S1024x512_S512x512_1_0_0_1_n_n none l r (constant S512x512 .f32 0x00000000#32) (ix2 i j)
      = vm (fun k => l (ix2 i k)) (fun k c => r (ix2 k c)) j :=
  (Ideal.matmul_constant_zero_apply _ none l r _).trans
    (sum_contr _ 1024 rfl rfl _ (fun k => l (ix2 i k) * r (ix2 k j)) fun k =>
      congrArg₂ (· * ·)
        (congrArg l (funext fun a => match a with | ⟨0, _⟩ => Fin.ext rfl | ⟨1, _⟩ => Fin.ext rfl))
        (congrArg r (funext fun a => match a with | ⟨0, _⟩ => Fin.ext rfl | ⟨1, _⟩ => Fin.ext rfl)))

theorem mm_out (l : FVec Ideal S512x512 .bf16) (r : FVec Ideal S512x1024 .bf16) (i : Fin 512) (j : Fin 1024) :
    matmul dot_S512x512_S512x1024_S512x1024_1_0_0_1_n_n none l r (constant S512x1024 .f32 0x00000000#32) (ix2 i j)
      = vm (fun k => l (ix2 i k)) (fun k c => r (ix2 k c)) j :=
  (Ideal.matmul_constant_zero_apply _ none l r _).trans
    (sum_contr _ 512 rfl rfl _ (fun k => l (ix2 i k) * r (ix2 k j)) fun k =>
      congrArg₂ (· * ·)
        (congrArg l (funext fun a => match a with | ⟨0, _⟩ => Fin.ext rfl | ⟨1, _⟩ => Fin.ext rfl))
        (congrArg r (funext fun a => match a with | ⟨0, _⟩ => Fin.ext rfl | ⟨1, _⟩ => Fin.ext rfl)))

variable {α : Type}

theorem drop_in (v : S1x1024x512.Idx → α) (i : Fin 1024) (j : Fin 512) :
    shapeCast S1024x512 v shapeCasts_S1x1024x512_S1024x512 (ix2 i j) = v (ix3 (0 : Fin 1) i j) :=
  shapeCast_apply _ _ _ _ (by rw [Shape.rowMajor_val_two, Shape.rowMajor_val_three]; show (0 * 1024 + i.val) * 512 + j.val = i.val * 512 + j.val; omega)

theorem drop_out (v : S1x512x1024.Idx → α) (i : Fin 512) (j : Fin 1024) :
    shapeCast S512x1024 v shapeCasts_S1x512x1024_S512x1024 (ix2 i j) = v (ix3 (0 : Fin 1) i j) :=
  shapeCast_apply _ _ _ _ (by rw [Shape.rowMajor_val_two, Shape.rowMajor_val_three]; show (0 * 512 + i.val) * 1024 + j.val = i.val * 1024 + j.val; omega)

/-- A block in use, at a slot and a feature. -/
theorem pay1_apply (P0 : Vec Ideal S512x1024 .f32) (P1 : Vec Ideal S1x1024 .f32) (P2 P3 : Vec Ideal S1x1024x512 .bf16)
    (P4 : Vec Ideal S1x512x1024 .bf16) (i : Fin 512) (j : Fin 1024) :
    k0_pay1 P0 P1 P2 P3 P4 (ix2 i j)
      = expert (fun k => P0 (ix2 i k)) (fun k => P1 (ix2 (0 : Fin 1) k)) (fun k f => P2 (ix3 (0 : Fin 1) k f))
          (fun k f => P3 (ix3 (0 : Fin 1) k f)) (fun f c => P4 (ix3 (0 : Fin 1) f c)) j := by
  have ea : ∀ (w : Vec Ideal S1x1024x512 .bf16) (f : Fin 512),
      matmul dot_S512x1024_S1024x512_S512x512_1_0_0_1_n_n none (truncf .bf16 (normV P0 P1) bitsLt_bf16_f32)
        (shapeCast S1024x512 w shapeCasts_S1x1024x512_S1024x512) (constant S512x512 .f32 0x00000000#32) (ix2 i f)
      = vm (norm (fun k => P0 (ix2 i k)) (fun k => P1 (ix2 (0 : Fin 1) k))) (fun k f => w (ix3 (0 : Fin 1) k f)) f := fun w f => by
    rw [mm_in]
    simp only [truncf_apply, normV_apply, drop_in]
  show matmul dot_S512x512_S512x1024_S512x1024_1_0_0_1_n_n none
    (truncf .bf16 (mulf (mulf
        (matmul dot_S512x1024_S1024x512_S512x512_1_0_0_1_n_n none (truncf .bf16 (normV P0 P1) bitsLt_bf16_f32)
          (shapeCast S1024x512 P2 shapeCasts_S1x1024x512_S1024x512) (constant S512x512 .f32 0x00000000#32))
        (logistic (matmul dot_S512x1024_S1024x512_S512x512_1_0_0_1_n_n none (truncf .bf16 (normV P0 P1) bitsLt_bf16_f32)
          (shapeCast S1024x512 P2 shapeCasts_S1x1024x512_S1024x512) (constant S512x512 .f32 0x00000000#32))))
        (matmul dot_S512x1024_S1024x512_S512x512_1_0_0_1_n_n none (truncf .bf16 (normV P0 P1) bitsLt_bf16_f32)
          (shapeCast S1024x512 P3 shapeCasts_S1x1024x512_S1024x512) (constant S512x512 .f32 0x00000000#32))) bitsLt_bf16_f32)
    (shapeCast S512x1024 P4 shapeCasts_S1x512x1024_S512x1024) (constant S512x1024 .f32 0x00000000#32) (ix2 i j) = _
  rw [mm_out]
  refine congrArg₂ (vm · · j) (funext fun f => ?_) (funext fun f => funext fun c => drop_out P4 f c)
  rw [truncf_apply, mulf_apply, mulf_apply]
  refine congrArg₂ (α := EReal) (β := EReal) (· * ·) (congrArg₂ (α := EReal) (β := EReal) (· * ·) (ea P2 f) (congrArg Ideal.logistic (ea P2 f))) (ea P3 f)

/-- A block past the used ones is zero. -/
theorem pay2_apply (j : S512x1024.Idx) : (k0_pay2 (F := Ideal) j : EReal) = 0 := Ideal.ofBits_zero_f32

end Cert.ExpertsIdeal.Hand

end

end
-- ==== Proof.ExpertsKernel.lean ====
module

public import proofs.«01_k».proof.Proof.ExpertsTile
public import Idealize.ShloMosaic.Lib.Pipeline.ValueKit
public import Idealize.ShloMosaic.Lib.StableHlo.ReadAt
public import Idealize.ShloMosaic.Lib.Pointwise

@[expose] public section

/-! # The experts' kernel's result

The tables name, block by block, the expert whose weights are brought in: where every name is below 32 the blocks lie in
the weights, and the result is read off the body's block at each visit. -/

set_option maxRecDepth 16384

noncomputable section

namespace Cert.ExpertsIdeal.Hand

open Cert.ExpertsIdeal Cert.ExpertsIdeal.Gen Cert.ExpertsRow
open Cert.MergeRow (vm norm)
open Idealize.ShloMosaic.TcCoe Idealize.ShloMosaic.ValueIdx
open Idealize.ShloMosaic hiding ix1 ix2 ix3 ix4
open Idealize.SL.Sem Idealize.ShloMosaic.Pipeline

/-! ## The index maps -/

section Maps

variable {F : FTy → Type} [FloatOps F]

theorem word_val (i : grid0.Coords) : (BitVec.ofNat 32 (i 0).val).toNat = (i 0).val := by
  have h : (i 0).val < 288 := (i 0).isLt
  rw [BitVec.toNat_ofNat]
  exact Nat.mod_eq_of_lt (by omega)

theorem map0 (i : grid0.Coords) : cc0_transform_0 i = ![(i 0).val, 0] := by
  show ![(BitVec.ofNat 32 (i 0).val).toNat, 0] = _
  rw [word_val]
theorem map1 (i : grid0.Coords) : cc0_transform_1 i = ![0, 0] := rfl
theorem map5 (i : grid0.Coords) : cc0_transform_5 i = ![(i 0).val, 0] := by
  show ![(BitVec.ofNat 32 (i 0).val).toNat, 0] = _
  rw [word_val]

/-- The expert's number at a block. -/
abbrev named (pf : pre0.Contents (Elt F)) (i : Fin 288) : ℕ := BitVec.toNat (w := 32) (pf 0 (ix1 i))

theorem read_at (pf : pre0.Contents (Elt F)) (i : grid0.Coords) :
    BitVec.toNat (w := 32) (pf.at 0 (Rect.unit (s := S288) (k0_off1 i) S1.size (k0_off1_inb i)) numel1_S1) = named pf (i 0) := by
  refine congrArg (fun j => BitVec.toNat (w := 32) (pf 0 j)) (funext fun a => Fin.ext ?_)
  match a with
  | ⟨0, _⟩ =>
    show k0_off1 i 0 + 0 * 1 = (i 0).val
    rw [k0_off1_eq]
    rfl

theorem map2 (pf : pre0.Contents (Elt F)) (i : grid0.Coords) : cc0_transform_2 k0_off1_inb numel1_S1 pf i = ![named pf (i 0), 0, 0] := by
  rw [← read_at]; rfl
theorem map3 (pf : pre0.Contents (Elt F)) (i : grid0.Coords) : cc0_transform_3 k0_off1_inb numel1_S1 pf i = ![named pf (i 0), 0, 0] := by
  rw [← read_at]; rfl
theorem map4 (pf : pre0.Contents (Elt F)) (i : grid0.Coords) : cc0_transform_4 k0_off1_inb numel1_S1 pf i = ![named pf (i 0), 0, 0] := by
  rw [← read_at]; rfl

theorem fits_in (v : Fin 3 → ℕ) (e : Fin 32) (hv : v = ![e.val, 0, 0]) :
    ∃ h : (∀ a, (v a + 1) * S1x1024x512.size a ≤ S32x1024x512.size a), EltTy.bits .bf16 = 32 ∨ (Rect.block (s := S32x1024x512) S1x1024x512.size v h).WholeWords (EltTy.packing .bf16) := by
  subst hv
  exact ⟨by revert e; decide, .inr (.inr ⟨by decide, rfl, rfl, rfl⟩)⟩

theorem fits_out (v : Fin 3 → ℕ) (e : Fin 32) (hv : v = ![e.val, 0, 0]) :
    ∃ h : (∀ a, (v a + 1) * S1x512x1024.size a ≤ S32x512x1024.size a), EltTy.bits .bf16 = 32 ∨ (Rect.block (s := S32x512x1024) S1x512x1024.size v h).WholeWords (EltTy.packing .bf16) := by
  subst hv
  exact ⟨by revert e; decide, .inr (.inr ⟨by decide, rfl, rfl, rfl⟩)⟩

/-- Where every block names an expert, the blocks of the weights are in the weights. -/
theorem ok_of_named (pf : pre0.Contents (Elt F)) (h : ∀ i : Fin 288, named pf i < 32) : ok0 pf := by
  unfold ok0
  exact ⟨fun i => fits_in _ ⟨_, h (i 0)⟩ (map2 pf i), fun i => fits_in _ ⟨_, h (i 0)⟩ (map3 pf i), fun i => fits_out _ ⟨_, h (i 0)⟩ (map4 pf i)⟩

theorem ok_of (m : (ℓ : Loc nD τ sig) → Buf (Elt F) ℓ)
    (h : ∀ i : Fin 288, BitVec.toNat (w := 32) (m (((0 : Dev nD).tc : Thread nD τ).loc main_arg0) (ix1 i)) < 32) : Ok m := by
  refine ok_of_named _ fun i => ?_
  have e : tbl m 0 = m (((0 : Dev nD).tc : Thread nD τ).loc main_arg0) := kept0 m 0
  show BitVec.toNat (w := 32) (tbl m 0 (ix1 i)) < 32
  rw [e]
  exact h i

theorem coord_val : ∀ t : Fin grid0.N, (grid0.coords t 0).val = t.val := by decide +kernel

theorem index0 (a : (pcfg0 (F := F)).Adm) (t : Fin (cfg0 a).N) : ((cfg0 a).win 0).index t = ![(grid0.coords t 0).val, 0] := map0 _
theorem index1 (a : (pcfg0 (F := F)).Adm) (t : Fin (cfg0 a).N) : ((cfg0 a).win 1).index t = ![0, 0] := map1 (grid0.coords t)
theorem index2 (a : (pcfg0 (F := F)).Adm) (t : Fin (cfg0 a).N) : ((cfg0 a).win 2).index t = ![named a.1 (grid0.coords t 0), 0, 0] := map2 _ _
theorem index3 (a : (pcfg0 (F := F)).Adm) (t : Fin (cfg0 a).N) : ((cfg0 a).win 3).index t = ![named a.1 (grid0.coords t 0), 0, 0] := map3 _ _
theorem index4 (a : (pcfg0 (F := F)).Adm) (t : Fin (cfg0 a).N) : ((cfg0 a).win 4).index t = ![named a.1 (grid0.coords t 0), 0, 0] := map4 _ _
theorem index5 (a : (pcfg0 (F := F)).Adm) (t : Fin (cfg0 a).N) : ((cfg0 a).win 5).index t = ![(grid0.coords t 0).val, 0] := map5 _

theorem flush5 (a : (pcfg0 (F := F)).Adm) (t : Fin (cfg0 a).N) : ((cfg0 a).win 5).flush t = true :=
  ((Pipeline.Window.flushOf_reads cc0_transform_5 reads0_5 hreads0_5 0 (by decide) (by decide)
    (Pipeline.Window.sep_of_coord cc0_transform_5 0 0 (fun _ => rfl) (by decide)) (P := 1) (m := 0) (by decide) rfl t).mpr (Nat.mod_one _)
    : Pipeline.Window.flushOf grid0 true cc0_transform_5 t = true)

theorem covers5 (a : (pcfg0 (F := F)).Adm) : ((cfg0 a).win 5).Covers := by
  refine ⟨fun x => ?_, fun β => ?_⟩
  · match x with
    | ⟨0, _⟩ => exact (by decide : 0 < 512)
    | ⟨1, _⟩ => exact (by decide : 0 < 1024)
  · have h0 : (β (0 : Fin 2)).val < 288 := lt_of_lt_of_eq (β (0 : Fin 2)).isLt (by decide : (147456 + 512 - 1) / 512 = 288)
    have h1 : (β (1 : Fin 2)).val < 1 := lt_of_lt_of_eq (β (1 : Fin 2)).isLt (by decide : (1024 + 1024 - 1) / 1024 = 1)
    have hN : (β (0 : Fin 2)).val < grid0.N := lt_of_lt_of_eq h0 N_0.symm
    refine ⟨⟨(β (0 : Fin 2)).val, hN⟩, flush5 a _, fun x => ⟨?_, .inl rfl⟩⟩
    rw [index5]
    match x with
    | ⟨0, _⟩ => exact coord_val _
    | ⟨1, _⟩ => exact (Nat.lt_one_iff.1 h1).symm

/-! ## Reading an array at a block -/

theorem emb0 (a : (pcfg0 (F := F)).Adm) (t : Fin (cfg0 a).N) (i : Fin 512) (k : Fin 1024) :
    (((cfg0 a).win 0).blk t).view.emb (ix2 i k) = ix2 (slot (grid0.coords t 0) i) k := by
  refine funext fun x => Fin.ext ((((cfg0 a).win 0).rect_emb_val t (ix2 i k) x).trans ?_)
  rw [index0]
  match x with
  | ⟨0, _⟩ => show (grid0.coords t 0).val * 512 + i.val = 512 * (grid0.coords t 0).val + i.val; omega
  | ⟨1, _⟩ => show 0 * 1024 + k.val = k.val; omega

theorem emb1 (a : (pcfg0 (F := F)).Adm) (t : Fin (cfg0 a).N) (k : Fin 1024) :
    (((cfg0 a).win 1).blk t).view.emb (ix2 (0 : Fin 1) k) = ix2 (0 : Fin 1) k := by
  refine funext fun x => Fin.ext ((((cfg0 a).win 1).rect_emb_val t (ix2 (0 : Fin 1) k) x).trans ?_)
  rw [index1]
  match x with
  | ⟨0, _⟩ => rfl
  | ⟨1, _⟩ => show 0 * 1024 + k.val = k.val; omega

theorem emb2 (a : (pcfg0 (F := F)).Adm) (t : Fin (cfg0 a).N) (e : Fin 32) (he : named a.1 (grid0.coords t 0) = e.val) (k : Fin 1024) (f : Fin 512) :
    (((cfg0 a).win 2).blk t).view.emb (ix3 (0 : Fin 1) k f) = ix3 e k f := by
  refine funext fun x => Fin.ext ((((cfg0 a).win 2).rect_emb_val t (ix3 (0 : Fin 1) k f) x).trans ?_)
  rw [index2, he]
  match x with
  | ⟨0, _⟩ => show e.val * 1 + 0 = e.val; omega
  | ⟨1, _⟩ => show 0 * 1024 + k.val = k.val; omega
  | ⟨2, _⟩ => show 0 * 512 + f.val = f.val; omega

theorem emb3 (a : (pcfg0 (F := F)).Adm) (t : Fin (cfg0 a).N) (e : Fin 32) (he : named a.1 (grid0.coords t 0) = e.val) (k : Fin 1024) (f : Fin 512) :
    (((cfg0 a).win 3).blk t).view.emb (ix3 (0 : Fin 1) k f) = ix3 e k f := by
  refine funext fun x => Fin.ext ((((cfg0 a).win 3).rect_emb_val t (ix3 (0 : Fin 1) k f) x).trans ?_)
  rw [index3, he]
  match x with
  | ⟨0, _⟩ => show e.val * 1 + 0 = e.val; omega
  | ⟨1, _⟩ => show 0 * 1024 + k.val = k.val; omega
  | ⟨2, _⟩ => show 0 * 512 + f.val = f.val; omega

theorem emb4 (a : (pcfg0 (F := F)).Adm) (t : Fin (cfg0 a).N) (e : Fin 32) (he : named a.1 (grid0.coords t 0) = e.val) (f : Fin 512) (k : Fin 1024) :
    (((cfg0 a).win 4).blk t).view.emb (ix3 (0 : Fin 1) f k) = ix3 e f k := by
  refine funext fun x => Fin.ext ((((cfg0 a).win 4).rect_emb_val t (ix3 (0 : Fin 1) f k) x).trans ?_)
  rw [index4, he]
  match x with
  | ⟨0, _⟩ => show e.val * 1 + 0 = e.val; omega
  | ⟨1, _⟩ => show 0 * 512 + f.val = f.val; omega
  | ⟨2, _⟩ => show 0 * 1024 + k.val = k.val; omega

theorem emb5 (a : (pcfg0 (F := F)).Adm) (t : Fin (cfg0 a).N) (i : Fin 512) (k : Fin 1024) :
    (((cfg0 a).win 5).blk t).view.emb (ix2 i k) = ix2 (slot (grid0.coords t 0) i) k := by
  refine funext fun x => Fin.ext ((((cfg0 a).win 5).rect_emb_val t (ix2 i k) x).trans ?_)
  rw [index5]
  match x with
  | ⟨0, _⟩ => show (grid0.coords t 0).val * 512 + i.val = 512 * (grid0.coords t 0).val + i.val; omega
  | ⟨1, _⟩ => show 0 * 1024 + k.val = k.val; omega

end Maps

/-! ## The blocks -/

variable (m : (ℓ : Loc nD τ sig) → Buf (Elt Ideal) ℓ)

/-- The arrays the program is launched on. -/
def args (c : Dev nD) : Args where
  be := m ((c.tc : Thread nD τ).loc main_arg0)
  nu := m ((c.tc : Thread nD τ).loc main_arg1)
  x := m ((c.tc : Thread nD τ).loc main_arg2)
  g := m ((c.tc : Thread nD τ).loc main_arg3)
  w1 := m ((c.tc : Thread nD τ).loc main_arg4)
  w3 := m ((c.tc : Thread nD τ).loc main_arg5)
  w2 := m ((c.tc : Thread nD τ).loc main_arg6)

theorem entry_g (c : Dev nD) (k : Fin 1024) : V m c main_v1 (ix2 (0 : Fin 1) k) = (args m c).g (ix2 (0 : Fin 1) k) := by
  entry_read
  pointwise
  show m ((c.tc : Thread nD τ).loc main_arg3) _ = m ((c.tc : Thread nD τ).loc main_arg3) _
  blk_ext

theorem entry_w1 (c : Dev nD) (e : Fin 32) (k : Fin 1024) (f : Fin 512) : (V m c main_v3 (ix3 e k f) : EReal) = (args m c).w1 (ix4 (0 : Fin 1) e k f) := by
  entry_read
  pointwise
  show m ((c.tc : Thread nD τ).loc main_arg4) _ = m ((c.tc : Thread nD τ).loc main_arg4) _
  blk_ext

theorem entry_w3 (c : Dev nD) (e : Fin 32) (k : Fin 1024) (f : Fin 512) : (V m c main_v5 (ix3 e k f) : EReal) = (args m c).w3 (ix4 (0 : Fin 1) e k f) := by
  entry_read
  pointwise
  show m ((c.tc : Thread nD τ).loc main_arg5) _ = m ((c.tc : Thread nD τ).loc main_arg5) _
  blk_ext

theorem entry_w2 (c : Dev nD) (e : Fin 32) (f : Fin 512) (k : Fin 1024) : (V m c main_v7 (ix3 e f k) : EReal) = (args m c).w2 (ix4 (0 : Fin 1) e f k) := by
  entry_read
  pointwise
  show m ((c.tc : Thread nD τ).loc main_arg6) _ = m ((c.tc : Thread nD τ).loc main_arg6) _
  blk_ext

variable (hO : Ok m)

theorem named_who (c : Dev nD) (h : (args m c).Named) (i : Fin 288) : named (tbl m) i = ((args m c).who i).val := by
  obtain rfl : c = 0 := Subsingleton.elim _ _
  rw [Args.who_val _ h]
  have e : tbl m 0 = m (((0 : Dev nD).tc : Thread nD τ).loc main_arg0) := kept0 m 0
  show BitVec.toNat (w := 32) (tbl m 0 (ix1 i)) = _
  rw [e]
  rfl

theorem used_nu (c : Dev nD) : used (c := 0) (tbl m 1) = (args m c).nu (ix1 (0 : Fin 1)) := by
  obtain rfl : c = 0 := Subsingleton.elim _ _
  have e : tbl m 1 = m (((0 : Dev nD).tc : Thread nD τ).loc main_arg1) := kept1 m 0
  rw [e]
  exact congrArg (m (((0 : Dev nD).tc : Thread nD τ).loc main_arg1)) (funext fun a => match a with | ⟨0, _⟩ => Fin.ext rfl)

theorem blk_x (c : Dev nD) (t : Fin grid0.N) (i : Fin 512) (k : Fin 1024) :
    iblk m hO c 0 t (ix2 i k) = (args m c).x (ix2 (slot (grid0.coords t 0) i) k) :=
  (congrArg (V m c main_arg2) (emb0 (adm m hO) t i k)).trans (congrFun (kept2 m c) _)

theorem blk_g (c : Dev nD) (t : Fin grid0.N) (k : Fin 1024) :
    iblk m hO c 1 t (ix2 (0 : Fin 1) k) = (args m c).g (ix2 (0 : Fin 1) k) :=
  (congrArg (V m c main_v1) (emb1 (adm m hO) t k)).trans (entry_g m c k)

theorem blk_w1 (c : Dev nD) (h : (args m c).Named) (t : Fin grid0.N) (k : Fin 1024) (f : Fin 512) :
    (iblk m hO c 2 t (ix3 (0 : Fin 1) k f) : EReal) = (args m c).w1 (ix4 (0 : Fin 1) ((args m c).who (grid0.coords t 0)) k f) :=
  (congrArg (V m c main_v3) (emb2 (adm m hO) t _ (named_who m c h _) k f)).trans (entry_w1 m c _ k f)

theorem blk_w3 (c : Dev nD) (h : (args m c).Named) (t : Fin grid0.N) (k : Fin 1024) (f : Fin 512) :
    (iblk m hO c 3 t (ix3 (0 : Fin 1) k f) : EReal) = (args m c).w3 (ix4 (0 : Fin 1) ((args m c).who (grid0.coords t 0)) k f) :=
  (congrArg (V m c main_v5) (emb3 (adm m hO) t _ (named_who m c h _) k f)).trans (entry_w3 m c _ k f)

theorem blk_w2 (c : Dev nD) (h : (args m c).Named) (t : Fin grid0.N) (f : Fin 512) (k : Fin 1024) :
    (iblk m hO c 4 t (ix3 (0 : Fin 1) f k) : EReal) = (args m c).w2 (ix4 (0 : Fin 1) ((args m c).who (grid0.coords t 0)) f k) :=
  (congrArg (V m c main_v7) (emb4 (adm m hO) t _ (named_who m c h _) f k)).trans (entry_w2 m c _ f k)

/-! ## The result -/

/-- A block in use is its slots' rows, when the body's blocks are the arrays'. -/
theorem row_of (A : Args) (b : Fin 288) (i : Fin 512) (P0 : Vec Ideal S512x1024 .f32) (P1 : Vec Ideal S1x1024 .f32)
    (P2 P3 : Vec Ideal S1x1024x512 .bf16) (P4 : Vec Ideal S1x512x1024 .bf16)
    (h0 : ∀ k : Fin 1024, P0 (ix2 i k) = A.x (ix2 (slot b i) k)) (h1 : ∀ k : Fin 1024, P1 (ix2 (0 : Fin 1) k) = A.g (ix2 (0 : Fin 1) k))
    (h2 : ∀ (k : Fin 1024) (f : Fin 512), P2 (ix3 (0 : Fin 1) k f) = A.w1 (ix4 (0 : Fin 1) (A.who b) k f))
    (h3 : ∀ (k : Fin 1024) (f : Fin 512), P3 (ix3 (0 : Fin 1) k f) = A.w3 (ix4 (0 : Fin 1) (A.who b) k f))
    (h4 : ∀ (f : Fin 512) (k : Fin 1024), P4 (ix3 (0 : Fin 1) f k) = A.w2 (ix4 (0 : Fin 1) (A.who b) f k)) (k : Fin 1024) :
    k0_pay1 P0 P1 P2 P3 P4 (ix2 i k) = A.row b i k := by
  rw [pay1_apply]
  simp only [h0, h1, h2, h3, h4]
  rfl

/-- The output block after a visit, at a slot and a feature. -/
theorem out_cell (c : Dev nD) (h : (args m c).Named) (t : Fin grid0.N) (i : Fin 512) (k : Fin 1024) :
    outAt m hO c t (ix2 i k) = (args m c).cell (grid0.coords t 0) i k := by
  unfold outAt outB Args.cell
  rw [used_nu m c]
  by_cases hu : (args m c).used (grid0.coords t 0)
  · rw [if_pos ((cond1_iff _ _).2 hu), if_pos hu]
    exact row_of (args m c) (grid0.coords t 0) i _ _ _ _ _ (blk_x m hO c t i) (blk_g m hO c t) (blk_w1 m hO c h t)
      (blk_w3 m hO c h t) (blk_w2 m hO c h t) k
  · rw [if_neg fun hc => hu ((cond1_iff _ _).1 hc), if_neg hu]
    exact pay2_apply _

theorem out_slot (A : Args) (b : Fin 288) (i : Fin 512) (k : Fin 1024) : A.out (ix2 (slot b i) k) = A.cell b i k := by
  show A.cell (blockOf (slot b i)) (placeOf (slot b i)) k = _
  rw [blockOf_slot, placeOf_slot]

/-- What the run leaves in the result. -/
theorem result (c : Dev nD) (h : (args m c).Named) : (dats m hO 0 c).arrAt 5 (cfgM m hO).N = fun j => (args m c).out j := by
  refine (dats m hO 0 c).arrAt_eq_of_covers 5 _ (covers5 (adm m hO)) fun t _ y => ?_
  obtain ⟨i, k, rfl⟩ : ∃ (i : Fin 512) (k : Fin 1024), y = ix2 i k :=
    ⟨y (0 : Fin 2), y (1 : Fin 2), funext fun a => match a with | ⟨0, _⟩ => rfl | ⟨1, _⟩ => rfl⟩
  rw [after_5]
  refine Eq.trans ?_ (congrArg (args m c).out (emb5 (adm m hO) t i k)).symm
  refine (cast_eq _ _).trans ?_
  show outAt m hO c t (ix2 i k) = _
  exact (out_cell m hO c h t i k).trans (out_slot (args m c) (grid0.coords t 0) i k).symm

end Cert.ExpertsIdeal.Hand

end

end
-- ==== Proof.ExpertsRef.lean ====
module

public import proofs.«01_k».proof.Proof.ExpertsRow
public import proofs.«01_k».proof.Proof.Gen.ExpertsReferenceIdeal.Run
public import Idealize.ShloMosaic.Lib.IdealHost
public import Idealize.ShloMosaic.Lib.Pipeline.Value
public import Idealize.ShloMosaic.Lib.Pointwise
public import Idealize.ShloMosaic.Lib.StableHlo.Predicate

@[expose] public section

/-! # The experts' reference, entry by entry

The reference's result is cut into the stages of the mathematics, and each stage read at a slot as a step of
`Cert.ExpertsRow` on that slot's row. -/

set_option maxRecDepth 16384

noncomputable section

namespace Cert.ExpertsReferenceIdeal.Hand

open Cert.ExpertsReferenceIdeal Cert.ExpertsReferenceIdeal.Gen Cert.ExpertsRow
open Cert.MergeRow (vm norm sum_contr len eps)
open Idealize.ShloMosaic.TcCoe Idealize.ShloMosaic.ValueIdx
open Idealize.ShloMosaic hiding ix0 ix1 ix2 ix3 ix4 ix5
open Idealize.SL.Sem

/-! ## Products -/

theorem dg_in (l : FVec Ideal S288x512x1024 .f32) (r : FVec Ideal S288x1024x512 .f32) (i : Fin 288) (p : Fin 512) (f : Fin 512) :
    Host.dotGeneral dot_S288x512x1024_S288x1024x512_S288x512x512_2_1_1_2_0_0 none l r (ix3 i p f)
      = vm (fun k => l (ix3 i p k)) (fun k f => r (ix3 i k f)) f := by
  simp only [Host.dotGeneral]
  exact (Ideal.dotGeneral_apply _ none _ l r _).trans
    (sum_contr _ 1024 rfl rfl _ (fun k => l (ix3 i p k) * r (ix3 i k f)) fun k =>
      congrArg₂ (· * ·)
        (congrArg l (funext fun a => match a with | ⟨0, _⟩ => Fin.ext rfl | ⟨1, _⟩ => Fin.ext rfl | ⟨2, _⟩ => Fin.ext rfl))
        (congrArg r (funext fun a => match a with | ⟨0, _⟩ => Fin.ext rfl | ⟨1, _⟩ => Fin.ext rfl | ⟨2, _⟩ => Fin.ext rfl)))

theorem dg_out (l : FVec Ideal S288x512x512 .f32) (r : FVec Ideal S288x512x1024 .f32) (i : Fin 288) (p : Fin 512) (c : Fin 1024) :
    Host.dotGeneral dot_S288x512x512_S288x512x1024_S288x512x1024_2_1_1_2_0_0 none l r (ix3 i p c)
      = vm (fun k => l (ix3 i p k)) (fun k c => r (ix3 i k c)) c := by
  simp only [Host.dotGeneral]
  exact (Ideal.dotGeneral_apply _ none _ l r _).trans
    (sum_contr _ 512 rfl rfl _ (fun k => l (ix3 i p k) * r (ix3 i k c)) fun k =>
      congrArg₂ (· * ·)
        (congrArg l (funext fun a => match a with | ⟨0, _⟩ => Fin.ext rfl | ⟨1, _⟩ => Fin.ext rfl | ⟨2, _⟩ => Fin.ext rfl))
        (congrArg r (funext fun a => match a with | ⟨0, _⟩ => Fin.ext rfl | ⟨1, _⟩ => Fin.ext rfl | ⟨2, _⟩ => Fin.ext rfl)))

/-! ## Layout -/

variable {α : Type}

theorem gain_apply (v : S1x1024.Idx → α) (s : Fin 147456) (c : Fin 1024) :
    broadcastInDim S147456x1024 ![0, 1] bcast_S1x1024_S147456x1024_0_1
      (broadcastInDim S1x1024 ![1] bcast_S1024_S1x1024_1 (shapeCast S1024 v shapeCasts_S1x1024_S1024)) (ix2 s c) = v (ix2 (0 : Fin 1) c) := by
  refine (broadcastInDim_apply _ _ _ _ (ix2 (0 : Fin 1) c) fun a => match a with | ⟨0, _⟩ => rfl | ⟨1, _⟩ => rfl).trans ?_
  refine (broadcastInDim_apply _ _ _ _ (ix1 c) fun a => match a with | ⟨0, _⟩ => rfl).trans ?_
  exact shapeCast_apply _ _ _ _ (by rw [Shape.rowMajor_val_two, Shape.rowMajor_val_one]; show 0 * 1024 + c.val = c.val; omega)

theorem spread_apply (v : S147456x1.Idx → α) (s : Fin 147456) (c : Fin 1024) :
    broadcastInDim S147456x1024 ![0, 1] bcast_S147456x1_S147456x1024_0_1 v (ix2 s c) = v (ix2 s (0 : Fin 1)) :=
  broadcastInDim_apply _ _ _ _ _ fun a => match a with | ⟨0, _⟩ => rfl | ⟨1, _⟩ => rfl

theorem unrow_apply (v : S147456.Idx → α) (s : Fin 147456) :
    broadcastInDim S147456x1 ![0] bcast_S147456_S147456x1_0 v (ix2 s (0 : Fin 1)) = v (ix1 s) :=
  broadcastInDim_apply _ _ _ _ _ fun a => match a with | ⟨0, _⟩ => rfl

theorem split_apply (v : S147456x1024.Idx → α) (i : Fin 288) (p : Fin 512) (c : Fin 1024) :
    shapeCast S288x512x1024 v shapeCasts_S147456x1024_S288x512x1024 (ix3 i p c) = v (ix2 (slot i p) c) :=
  shapeCast_apply _ _ _ _ (by
    rw [Shape.rowMajor_val_two, Shape.rowMajor_val_three]
    show (512 * i.val + p.val) * 1024 + c.val = (i.val * 512 + p.val) * 1024 + c.val
    omega)

theorem join_apply (v : S288x512x1024.Idx → α) (i : Fin 288) (p : Fin 512) (c : Fin 1024) :
    shapeCast S147456x1024 v shapeCasts_S288x512x1024_S147456x1024 (ix2 (slot i p) c) = v (ix3 i p c) :=
  shapeCast_apply _ _ _ _ (by
    rw [Shape.rowMajor_val_two, Shape.rowMajor_val_three]
    show (i.val * 512 + p.val) * 1024 + c.val = (512 * i.val + p.val) * 1024 + c.val
    omega)

theorem in_apply (v : S1x32x1024x512.Idx → α) (e : Fin 32) (k : Fin 1024) (f : Fin 512) :
    shapeCast S32x1024x512 v shapeCasts_S1x32x1024x512_S32x1024x512 (ix3 e k f) = v (ix4 (0 : Fin 1) e k f) :=
  shapeCast_apply _ _ _ _ (by
    rw [Shape.rowMajor_val_four, Shape.rowMajor_val_three]
    show ((0 * 32 + e.val) * 1024 + k.val) * 512 + f.val = (e.val * 1024 + k.val) * 512 + f.val
    omega)

theorem out_apply (v : S1x32x512x1024.Idx → α) (e : Fin 32) (f : Fin 512) (c : Fin 1024) :
    shapeCast S32x512x1024 v shapeCasts_S1x32x512x1024_S32x512x1024 (ix3 e f c) = v (ix4 (0 : Fin 1) e f c) :=
  shapeCast_apply _ _ _ _ (by
    rw [Shape.rowMajor_val_four, Shape.rowMajor_val_three]
    show ((0 * 32 + e.val) * 512 + f.val) * 1024 + c.val = (e.val * 512 + f.val) * 1024 + c.val
    omega)

/-! ## A table's sheets -/

/-- Whole sheets of a table of 32, one per block. -/
abbrev sheetDims (A B : ℕ) (wf : GatherDims.WF ⟨3, ![32, A, B]⟩ ⟨2, ![288, 1]⟩ ⟨3, ![288, A, B]⟩ [1, 2] [0] [] [0] [] 1 ![1, A, B]) :
    GatherDims ⟨3, ![32, A, B]⟩ ⟨2, ![288, 1]⟩ ⟨3, ![288, A, B]⟩ where
  offsetDims := [1, 2]
  collapsedSliceDims := [0]
  operandBatchingDims := []
  startIndicesBatchingDims := []
  startIndexMap := [0]
  indexVectorDim := 1
  sliceSizes := ![1, A, B]
  wf := wf

theorem sheet_apply (A B : ℕ) (wf : GatherDims.WF ⟨3, ![32, A, B]⟩ ⟨2, ![288, 1]⟩ ⟨3, ![288, A, B]⟩ [1, 2] [0] [] [0] [] 1 ![1, A, B])
    (x : (⟨3, ![32, A, B]⟩ : Shape).Idx → α) (idx : IVec ⟨2, ![288, 1]⟩ 32) (i : Fin 288) (a : Fin A) (b : Fin B) (e : Fin 32)
    (he : (idx (ix2 i (0 : Fin 1))).toInt.toNat = e.val) :
    Host.gather (sheetDims A B wf) x idx (ix3 i a b) = x (ix3 e a b) := by
  unfold Host.gather
  refine congrArg x (funext fun q => Fin.ext ?_)
  show (sheetDims A B wf).start (ix3 i a b) idx q + (sheetDims A B wf).batchCoord (ix3 i a b) q
      + (sheetDims A B wf).offCoord (ix3 i a b) q = _
  rw [GatherDims.batchCoord_eq_zero _ _ _ List.not_mem_nil, Nat.add_zero]
  have cases : q = 0 ∨ q = 1 ∨ q = 2 := by
    match q with
    | ⟨0, _⟩ => exact .inl rfl
    | ⟨1, _⟩ => exact .inr (.inl rfl)
    | ⟨2, _⟩ => exact .inr (.inr rfl)
  rcases cases with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ (sheetDims A B wf).startIndexMap from List.mem_singleton.mpr rfl)]
    have hsi : (sheetDims A B wf).siIdx (ix3 i a b) ⟨List.idxOf (0 : Fin 3) (sheetDims A B wf).startIndexMap,
        List.idxOf_lt_length_iff.2 (List.mem_singleton.mpr rfl)⟩ = ix2 i (0 : Fin 1) := by
      funext d; refine Fin.ext ?_
      match d with
      | ⟨0, _⟩ => rfl
      | ⟨1, _⟩ => rfl
    show min (idx _).toInt.toNat (32 - 1) = e.val
    rw [hsi, he]
    have := e.isLt
    omega
  · unfold GatherDims.start GatherDims.offCoord
    rw [dif_neg (show (1 : Fin 3) ∉ ([0] : List (Fin 3)) from by decide),
      dif_pos ((GatherDims.mem_sKept _ _).2 ⟨show (1 : Fin 3) ∉ ([0] : List (Fin 3)) from by decide, List.not_mem_nil⟩), Nat.zero_add]
    rfl
  · unfold GatherDims.start GatherDims.offCoord
    rw [dif_neg (show (2 : Fin 3) ∉ ([0] : List (Fin 3)) from by decide),
      dif_pos ((GatherDims.mem_sKept _ _).2 ⟨show (2 : Fin 3) ∉ ([0] : List (Fin 3)) from by decide, List.not_mem_nil⟩), Nat.zero_add]
    rfl

/-! ## Reductions -/

theorem rowsum_apply (v : FVec Ideal S147456x1024 .f32) (s : Fin 147456) :
    Host.reduceAdd v (constant S_ .f32 0x00000000#32) reducesTo_S147456x1024_S147456_d1 h_S_ (ix1 s) = ∑ k : Fin 1024, v (ix2 s k) := by
  have hr : S147456x1024.Reduces [1] S147456 := by decide
  rw [hostReduceAdd_apply, Ideal.hostReduceAdd_single _ hr]
  refine (congrArg (· + _) Ideal.ofBits_zero_f32).trans ((zero_add _).trans (Finset.sum_congr rfl fun k _ => congrArg v (funext fun a => match a with | ⟨0, _⟩ => Fin.ext rfl | ⟨1, _⟩ => Fin.ext rfl)))

/-! ## The stages -/

/-- The slots over their root mean squares, times the gains. -/
def normR (x : FVec Ideal S147456x1024 .f32) (g : FVec Ideal S1x1024 .f32) : FVec Ideal S147456x1024 .f32 :=
  mulf (mulf x (broadcastInDim S147456x1024 ![0, 1] bcast_S147456x1_S147456x1024_0_1 (Host.rsqrt (addf (Host.divf (broadcastInDim S147456x1 ![0] bcast_S147456_S147456x1_0 (Host.reduceAdd (mulf x x) (constant S_ .f32 0x00000000#32) reducesTo_S147456x1024_S147456_d1 h_S_)) (broadcastInDim S147456x1 ![] bcast_S_S147456x1 (constant S_ .f32 0x44800000#32))) (broadcastInDim S147456x1 ![] bcast_S_S147456x1 (constant S_ .f32 0x358637BD#32)))))) (broadcastInDim S147456x1024 ![0, 1] bcast_S1x1024_S147456x1024_0_1 (broadcastInDim S1x1024 ![1] bcast_S1024_S1x1024_1 (shapeCast _ g shapeCasts_S1x1024_S1024)))

theorem normR_apply (x : FVec Ideal S147456x1024 .f32) (g : FVec Ideal S1x1024 .f32) (s : Fin 147456) (c : Fin 1024) :
    normR x g (ix2 s c) = norm (fun k => x (ix2 s k)) (fun k => g (ix2 (0 : Fin 1) k)) c := by
  refine congrArg₂ (α := EReal) (β := EReal) (· * ·) (congrArg (x (ix2 s c) * ·) ?_) (gain_apply g s c)
  refine (spread_apply _ s c).trans (congrArg Ideal.rsqrt (congrArg₂ (α := EReal) (β := EReal) (· + ·)
    (congrArg₂ Ideal.div ((unrow_apply _ s).trans (rowsum_apply _ s)) ?_) ?_))
  · exact broadcastInDim_scalar_apply _ _ _
  · exact broadcastInDim_scalar_apply _ _ _

/-- The experts' numbers, a negative one counted from the end. -/
def whoR (be : IVec S288 32) : IVec S288x1 32 :=
  broadcastInDim S288x1 ![0] bcast_S288_S288x1_0 (select (cmpi .slt be (broadcastInDim S288 ![] bcast_S_S288 (constantI S_ 32 0#32))) (addi be (broadcastInDim S288 ![] bcast_S_S288 (constantI S_ 32 32#32))) be)

theorem pick_self {b z : BitVec 32} (h : b.toNat < 32) : Scalar.select (IntOp.cmpi .slt b 0#32) z b = b := by
  have e : IntOp.cmpi .slt b 0#32 = 0#1 := by
    show BitVec.ofBool (b.slt 0#32) = 0#1
    have : b.slt 0#32 = false := by
      rw [BitVec.slt_eq_decide, StableHlo.Predicate.toInt_eq_toNat_of_lt (by omega : b.toNat < 2 ^ 31)]
      simp
    rw [this]; rfl
  rw [e]; rfl

theorem whoR_apply (be : IVec S288 32) (i : Fin 288) (h : (be (ix1 i)).toNat < 32) : whoR be (ix2 i (0 : Fin 1)) = be (ix1 i) :=
  (broadcastInDim_apply _ _ _ _ (ix1 i) fun a => match a with | ⟨0, _⟩ => rfl).trans
    ((congrArg (fun w => Scalar.select (IntOp.cmpi .slt (be (ix1 i)) w) _ (be (ix1 i))) (broadcastInDim_scalar_apply _ _ _)).trans (pick_self h))

theorem whoR_nat (be : IVec S288 32) (i : Fin 288) (h : (be (ix1 i)).toNat < 32) :
    (whoR be (ix2 i (0 : Fin 1))).toInt.toNat = (be (ix1 i)).toNat := by
  rw [whoR_apply be i h, StableHlo.Predicate.toInt_eq_toNat_of_lt (by omega : (be (ix1 i)).toNat < 2 ^ 31)]
  exact Int.toNat_natCast _

/-- The slots through a block's matrix. -/
def inR (u : FVec Ideal S147456x1024 .f32) (w : FVec Ideal S1x32x1024x512 .f32) (be : IVec S288 32) : FVec Ideal S288x512x512 .f32 :=
  Host.dotGeneral dot_S288x512x1024_S288x1024x512_S288x512x512_2_1_1_2_0_0 none (shapeCast _ u shapeCasts_S147456x1024_S288x512x1024) (Host.gather gather_S32x1024x512_S288x1_S288x1024x512_12_0_n_n_0_1_11024512 (shapeCast _ w shapeCasts_S1x32x1024x512_S32x1024x512) (whoR be))

theorem inR_apply (u : FVec Ideal S147456x1024 .f32) (w : FVec Ideal S1x32x1024x512 .f32) (be : IVec S288 32) (i : Fin 288) (p f : Fin 512)
    (e : Fin 32) (h : (be (ix1 i)).toNat < 32) (he : e.val = (be (ix1 i)).toNat) :
    inR u w be (ix3 i p f) = vm (fun k => u (ix2 (slot i p) k)) (fun k f => w (ix4 (0 : Fin 1) e k f)) f := by
  refine (dg_in _ _ i p f).trans (congrArg₂ (vm · · f) (funext fun k => split_apply u i p k) (funext fun k => funext fun f => ?_))
  exact (sheet_apply 1024 512 _ _ _ i k f e ((whoR_nat be i h).trans he.symm)).trans (in_apply w e k f)

/-- The gated features. -/
def hiddenR (a b : FVec Ideal S288x512x512 .f32) : FVec Ideal S288x512x512 .f32 :=
  mulf (mulf a (Host.divf (broadcastInDim S288x512x512 ![] bcast_S_S288x512x512 (constant S_ .f32 0x3F800000#32)) (addf (broadcastInDim S288x512x512 ![] bcast_S_S288x512x512 (constant S_ .f32 0x3F800000#32)) (Host.exp (Host.negf a))))) b

theorem hiddenR_apply (a b : FVec Ideal S288x512x512 .f32) (j : S288x512x512.Idx) :
    hiddenR a b j = (a j : EReal) * Ideal.logistic (a j) * b j := by
  have one : broadcastInDim S288x512x512 ![] bcast_S_S288x512x512 (constant (F := Ideal) S_ .f32 0x3F800000#32) j = (1 : EReal) :=
    (broadcastInDim_scalar_apply _ _ _).trans Ideal.ofBits_one_f32
  show (a j : EReal) * Ideal.div _ (_ + Ideal.exp (-(a j : EReal))) * b j = _
  rw [one]
  rfl

/-- The features through a block's second matrix. -/
def backR (v : FVec Ideal S288x512x512 .f32) (w : FVec Ideal S1x32x512x1024 .f32) (be : IVec S288 32) : FVec Ideal S288x512x1024 .f32 :=
  Host.dotGeneral dot_S288x512x512_S288x512x1024_S288x512x1024_2_1_1_2_0_0 none v (Host.gather gather_S32x512x1024_S288x1_S288x512x1024_12_0_n_n_0_1_15121024 (shapeCast _ w shapeCasts_S1x32x512x1024_S32x512x1024) (whoR be))

theorem backR_apply (v : FVec Ideal S288x512x512 .f32) (w : FVec Ideal S1x32x512x1024 .f32) (be : IVec S288 32) (i : Fin 288) (p : Fin 512)
    (c : Fin 1024) (e : Fin 32) (h : (be (ix1 i)).toNat < 32) (he : e.val = (be (ix1 i)).toNat) :
    backR v w be (ix3 i p c) = vm (fun f => v (ix3 i p f)) (fun f c => w (ix4 (0 : Fin 1) e f c)) c := by
  refine (dg_out _ _ i p c).trans (congrArg (vm _ · c) (funext fun f => funext fun c => ?_))
  exact (sheet_apply 512 1024 _ _ _ i f c e ((whoR_nat be i h).trans he.symm)).trans (out_apply w e f c)

/-- The blocks in use, the others zero, as slots. -/
def maskR (v : FVec Ideal S288x512x1024 .f32) (nu : IVec S1 32) : FVec Ideal S147456x1024 .f32 :=
  shapeCast _ (select (broadcastInDim S288x512x1024 ![0, 1, 2] bcast_S288x1x1_S288x512x1024_0_1_2 (broadcastInDim S288x1x1 ![0] bcast_S288_S288x1x1_0 (cmpi .slt (iotaInDim S288 32 0) (broadcastInDim S288 ![] bcast_S_S288 (shapeCast _ nu shapeCasts_S1_S_))))) v (broadcastInDim S288x512x1024 ![] bcast_S_S288x512x1024 (id (constant S_ .f32 0x00000000#32)))) shapeCasts_S288x512x1024_S147456x1024

theorem pick_if {β : Type} (b : Bool) (x y : β) : Scalar.select (BitVec.ofBool b) x y = if b = true then x else y := by
  cases b <;> rfl

theorem count_apply (nu : IVec S1 32) (j : S288.Idx) :
    broadcastInDim S288 ![] bcast_S_S288 (shapeCast S_ nu shapeCasts_S1_S_) j = nu (ix1 (0 : Fin 1)) := by
  refine (broadcastInDim_apply _ _ _ _ (ix0 : S_.Idx) fun a => a.elim0).trans ?_
  exact shapeCast_apply _ _ _ _ (by
    have h1 := (Shape.rowMajor (s := S1) (ix1 (0 : Fin 1))).isLt
    have h2 := (Shape.rowMajor (s := S_) ix0).isLt
    have e1 : S1.numel = 1 := by decide
    have e2 : S_.numel = 1 := by decide
    omega)

theorem maskR_apply (v : FVec Ideal S288x512x1024 .f32) (nu : IVec S1 32) (i : Fin 288) (p : Fin 512) (c : Fin 1024) :
    maskR v nu (ix2 (slot i p) c)
      = if (BitVec.ofNat 32 i.val).slt (nu (ix1 (0 : Fin 1))) = true then (v (ix3 i p c) : EReal) else 0 := by
  refine (join_apply _ i p c).trans ?_
  have hm : broadcastInDim S288x512x1024 ![0, 1, 2] bcast_S288x1x1_S288x512x1024_0_1_2 (broadcastInDim S288x1x1 ![0] bcast_S288_S288x1x1_0 (cmpi .slt (iotaInDim S288 32 0) (broadcastInDim S288 ![] bcast_S_S288 (shapeCast S_ nu shapeCasts_S1_S_)))) (ix3 i p c)
      = BitVec.ofBool ((BitVec.ofNat 32 i.val).slt (nu (ix1 (0 : Fin 1)))) := by
    refine (broadcastInDim_apply _ _ _ _ (ix3 i (0 : Fin 1) (0 : Fin 1)) fun a => match a with | ⟨0, _⟩ => rfl | ⟨1, _⟩ => rfl | ⟨2, _⟩ => rfl).trans ?_
    refine (broadcastInDim_apply _ _ _ _ (ix1 i) fun a => match a with | ⟨0, _⟩ => rfl).trans ?_
    exact congrArg (fun w => BitVec.ofBool ((BitVec.ofNat 32 i.val).slt w)) (count_apply nu (ix1 i))
  have hz : broadcastInDim S288x512x1024 ![] bcast_S_S288x512x1024 (id (constant (F := Ideal) S_ .f32 0x00000000#32)) (ix3 i p c) = (0 : EReal) :=
    (broadcastInDim_scalar_apply _ _ _).trans Ideal.ofBits_zero_f32
  rw [select_apply, hm, hz]
  exact pick_if _ _ _

/-! ## The result -/

variable (m : (ℓ : Loc nD τ sig) → Buf (Elt Ideal) ℓ)

/-- The arrays the program is launched on. -/
def args (c : Dev nD) : Args where
  be := m ((c.tc : Thread nD τ).loc main_arg0)
  nu := m ((c.tc : Thread nD τ).loc main_arg1)
  x := m ((c.tc : Thread nD τ).loc main_arg2)
  g := m ((c.tc : Thread nD τ).loc main_arg3)
  w1 := m ((c.tc : Thread nD τ).loc main_arg4)
  w3 := m ((c.tc : Thread nD τ).loc main_arg5)
  w2 := m ((c.tc : Thread nD τ).loc main_arg6)

theorem res_eq (c : Dev nD) : Value.res_main_v50 m c
    = maskR (backR (hiddenR
        (inR (normR (m ((c.tc : Thread nD τ).loc main_arg2)) (m ((c.tc : Thread nD τ).loc main_arg3))) (m ((c.tc : Thread nD τ).loc main_arg4)) (m ((c.tc : Thread nD τ).loc main_arg0)))
        (inR (normR (m ((c.tc : Thread nD τ).loc main_arg2)) (m ((c.tc : Thread nD τ).loc main_arg3))) (m ((c.tc : Thread nD τ).loc main_arg5)) (m ((c.tc : Thread nD τ).loc main_arg0))))
        (m ((c.tc : Thread nD τ).loc main_arg6)) (m ((c.tc : Thread nD τ).loc main_arg0)))
      (m ((c.tc : Thread nD τ).loc main_arg1)) := by
  unfold Value.res_main_v50 maskR backR hiddenR inR whoR normR
  refine congrArg (fun z : S288x512x1024.Idx → Elt Ideal .f32 => shapeCast S147456x1024 z shapeCasts_S288x512x1024_S147456x1024) ?_
  with_reducible rfl

theorem cell (c : Dev nD) (h : (args m c).Named) (i : Fin 288) (p : Fin 512) (k : Fin 1024) :
    Value.res_main_v50 m c (ix2 (slot i p) k) = (args m c).cell i p k := by
  have he : ((args m c).who i).val = ((m ((c.tc : Thread nD τ).loc main_arg0) : IVec S288 32) (ix1 i)).toNat := (args m c).who_val h i
  have hi : ((m ((c.tc : Thread nD τ).loc main_arg0) : IVec S288 32) (ix1 i)).toNat < 32 := h i
  rw [res_eq]
  refine (maskR_apply _ _ i p k).trans ?_
  refine congrArg (fun z : EReal => if (BitVec.ofNat 32 i.val).slt ((args m c).nu (ix1 (0 : Fin 1))) = true then z else 0) ?_
  refine (backR_apply _ _ _ i p k ((args m c).who i) hi he).trans ?_
  refine congrArg (vm · _ k) (funext fun f => (hiddenR_apply _ _ _).trans ?_)
  rw [inR_apply _ _ _ i p f ((args m c).who i) hi he, inR_apply _ _ _ i p f ((args m c).who i) hi he]
  simp only [normR_apply]
  rfl

theorem result (c : Dev nD) (h : (args m c).Named) : Value.res_main_v50 m c = fun j => (args m c).out j := by
  funext j
  obtain ⟨s, k, rfl⟩ : ∃ (s : Fin 147456) (k : Fin 1024), j = ix2 s k :=
    ⟨j 0, j 1, funext fun a => match a with | ⟨0, _⟩ => rfl | ⟨1, _⟩ => rfl⟩
  refine Eq.trans ?_ (cell m c h (blockOf s) (placeOf s) k)
  rw [slot_block]

end Cert.ExpertsReferenceIdeal.Hand

end

end
-- ==== Proof.ExpertsClaims.lean ====
module

public import proofs.«01_k».proof.Defs
public import proofs.«01_k».proof.Proof.Pre
public import proofs.«01_k».proof.Proof.ExpertsKernel
public import proofs.«01_k».proof.Proof.ExpertsRef
public import proofs.«01_k».proof.Proof.Gen.Experts
public import proofs.«01_k».proof.Proof.Gen.Experts.Launch
public import proofs.«01_k».proof.Proof.Gen.Pre_blocks_have_experts

@[expose] public section

/-! # The experts' claims -/

set_option maxRecDepth 16384

noncomputable section

namespace Cert.ExpertsIdeal.Hand

open Idealize.ShloMosaic Idealize.ShloMosaic.TcCoe Idealize.SL.Sem
open Idealize.ShloMosaic.StableHlo.Predicate (slt_iff_toNat)

/-! ## The precondition -/

section
variable {F : FTy → Type} [FloatOps F]

/-- Where the precondition's bits are ones, every block's word is below 32. -/
theorem words (be : IVec Cert.Pre_blocks_have_experts.S288 32) (nu : IVec Cert.Pre_blocks_have_experts.S1 32)
    (x : FVec F Cert.Pre_blocks_have_experts.S147456x1024 .f32) (g : FVec F Cert.Pre_blocks_have_experts.S1x1024 .f32)
    (w1 w3 : FVec F Cert.Pre_blocks_have_experts.S1x32x1024x512 .f32) (w2 : FVec F Cert.Pre_blocks_have_experts.S1x32x512x1024 .f32)
    (h : Cert.Pre_blocks_have_experts.fn (F := F) be nu x g w1 w3 w2 = fun _ => 1#1) (j : Cert.Pre_blocks_have_experts.S288.Idx) :
    (be j).toNat < 32 := by
  have hj : IntOp.andi (IntOp.cmpi .sge (be j) 0#32) (IntOp.cmpi .slt (be j) 32#32) = 1#1 := congrFun h j
  obtain ⟨h0, h1⟩ := (Cert.KernelIdeal.Hand.and_bits _ _).1 hj
  exact (slt_iff_toNat (Cert.KernelIdeal.Hand.nonneg h0) (by decide)).1 h1

/-! ## The two programs have one text -/

theorem body_eq : Cert.Experts.cc0_experts (F := F) = Cert.ExpertsIdeal.cc0_experts (F := F) := rfl

theorem bodies_eq : Cert.Experts.defs₀ (F := F) = Cert.ExpertsIdeal.defs₀ (F := F) := by
  unfold Cert.Experts.defs₀ Cert.ExpertsIdeal.defs₀
  rw [body_eq]
  refine congrArg Defs.onTc (funext fun l => funext fun a => ?_)
  match l, a with
  | 0, (t, s) => rfl

theorem ops_eq : Cert.Experts.Gen.hostOps0 (F := F) = Cert.ExpertsIdeal.Gen.hostOps0 (F := F) := rfl

theorem pcfgs_eq : Cert.Experts.pcfgs (F := F) = Cert.ExpertsIdeal.pcfgs (F := F) := rfl

/-- Host operations, then the region. -/
def prog (P : Fin 1 → Pipeline.PCfg Cert.ExpertsIdeal.sig Cert.ExpertsIdeal.Λ₀ (Elt F))
    (ops : List (HloOp Cert.ExpertsIdeal.τ Cert.ExpertsIdeal.sig (Elt F))) :
    Dev Cert.ExpertsIdeal.nD → Prog (TpuEff Cert.ExpertsIdeal.nD Cert.ExpertsIdeal.τ Cert.ExpertsIdeal.sig (Elt F)
      (Pipeline.Sig Cert.ExpertsIdeal.Λ₀ (Fin 1) fun p => (P p).Adm) .tc) PUnit := fun _ =>
  Pipeline.chain [StableHlo.seq ops, Prog.lift (.customCall (Pipeline.entry 0) ())]

theorem main_ideal : Cert.ExpertsIdeal.main (F := F) = prog Cert.ExpertsIdeal.pcfgs Cert.ExpertsIdeal.Gen.hostOps0 :=
  funext fun c => Cert.ExpertsIdeal.Gen.main_chain c

theorem main_kernel : Cert.Experts.main (F := F) = prog Cert.Experts.pcfgs Cert.Experts.Gen.hostOps0 :=
  funext fun c => Cert.Experts.Gen.main_chain c

/-- Programs of equal parts run alike. -/
theorem run_of (P P' : Fin 1 → Pipeline.PCfg Cert.ExpertsIdeal.sig Cert.ExpertsIdeal.Λ₀ (Elt F)) (hP : P = P')
    (ops ops' : List (HloOp Cert.ExpertsIdeal.τ Cert.ExpertsIdeal.sig (Elt F))) (ho : ops = ops')
    (d d' : Defs Cert.ExpertsIdeal.nD Cert.ExpertsIdeal.τ Cert.ExpertsIdeal.sig (Elt F) Cert.ExpertsIdeal.Λ₀) (hd : d = d') (s) (Q)
    (h : θ_run (Pipeline.defs P' d') (onTc (τ := Cert.ExpertsIdeal.τ) (prog P' ops')) s Q) :
    θ_run (Pipeline.defs P d) (onTc (τ := Cert.ExpertsIdeal.τ) (prog P ops)) s Q := by
  subst hP ho hd
  exact h

theorem run_same (m : (ℓ : Loc Cert.ExpertsIdeal.nD Cert.ExpertsIdeal.τ Cert.ExpertsIdeal.sig) → Buf (Elt F) ℓ)
    (ρ : Dev Cert.ExpertsIdeal.nD → PrngReg) (Q)
    (h : θ_run (Cert.ExpertsIdeal.defs (F := F)) (onTc (τ := Cert.ExpertsIdeal.τ) (Cert.ExpertsIdeal.main (F := F))) ⟨m, fun _ => 0, ρ⟩ Q) :
    θ_run (Cert.Experts.defs (F := F)) (onTc (τ := Cert.Experts.τ) (Cert.Experts.main (F := F))) ⟨m, fun _ => 0, ρ⟩ Q := by
  rw [main_ideal] at h
  rw [main_kernel]
  exact run_of _ _ pcfgs_eq _ _ ops_eq _ _ bodies_eq _ _ h

end

/-! ## The frames -/

theorem frame_experts : Cert.quiescent_Experts := fun m ρ hpre =>
  run_same (F := Bits) m ρ _ ((θ_run Cert.ExpertsIdeal.defs _ _).mono (fun _ h => h.2)
    (run_exact (F := Bits) m ρ (ok_of (F := Bits) m fun _ => words (F := Bits) _ _ _ _ _ _ _ (hpre 0) _)))

theorem ok_ideal (m : (ℓ : Loc Cert.ExpertsIdeal.nD Cert.ExpertsIdeal.τ Cert.ExpertsIdeal.sig) → Buf (Elt Ideal) ℓ)
    (hpre : Cert.Pre_ExpertsIdeal m) : Ok m :=
  ok_of (F := Ideal) m fun _ => words (F := Ideal) _ _ _ _ _ _ _ (hpre 0) _

theorem frame_expertsIdeal : Cert.quiescent_ExpertsIdeal := fun m ρ hpre =>
  (θ_run Cert.ExpertsIdeal.defs _ _).mono (fun _ h => h.2) (run_exact (F := Ideal) m ρ (ok_ideal m hpre))

theorem frame_expertsReferenceIdeal : Cert.quiescent_ExpertsReferenceIdeal := fun m ρ _ =>
  (θ_run Cert.ExpertsReferenceIdeal.defs _ _).mono (fun r h => ⟨fun c => (h c).2, sem_eq_zero_of_no_sems (by decide) r.2⟩)
    (Cert.ExpertsReferenceIdeal.Value.run (F := Ideal) m ρ)

theorem frame_expertsReferenceIdeal_pre : Cert.quiescent_ExpertsReferenceIdeal_pre_blocks_have_experts := fun m ρ _ =>
  frame_expertsReferenceIdeal m ρ trivial

/-! ## The value -/

theorem named_ideal (m : (ℓ : Loc Cert.ExpertsIdeal.nD Cert.ExpertsIdeal.τ Cert.ExpertsIdeal.sig) → Buf (Elt Ideal) ℓ)
    (hpre : Cert.Pre_ExpertsIdeal m) (c : Dev Cert.ExpertsIdeal.nD) : (args m c).Named := fun _ =>
  words (F := Ideal) _ _ _ _ _ _ _ (hpre c) _

/-- The reference's result, when its arrays are the kernel's. -/
theorem value_eq (m : (ℓ : Loc Cert.ExpertsIdeal.nD Cert.ExpertsIdeal.τ Cert.ExpertsIdeal.sig) → Buf (Elt Ideal) ℓ)
    (m' : (ℓ : Loc Cert.ExpertsReferenceIdeal.nD Cert.ExpertsReferenceIdeal.τ Cert.ExpertsReferenceIdeal.sig) → Buf (Elt Ideal) ℓ)
    (c : Dev Cert.ExpertsIdeal.nD) (hn : (args m c).Named) (h : Cert.ExpertsReferenceIdeal.Hand.args m' c = args m c) :
    Cert.ExpertsReferenceIdeal.Value.res_main_v50 m' c = fun j => (args m c).out j :=
  (Cert.ExpertsReferenceIdeal.Hand.result m' c (h ▸ hn)).trans (congrArg (fun A : Cert.ExpertsRow.Args => fun j => A.out j) h)

theorem algebraic_experts : Cert.algebraic_ExpertsIdeal_ExpertsReferenceIdeal := fun m ρ m' ρ' hpre hag => by
  refine ⟨fun c => fun j => (args m c).out j,
    (θ_run Cert.ExpertsIdeal.defs _ _).mono
      (fun _ h c => ⟨(h.1 c).trans (result m (ok_ideal m hpre) c (named_ideal m hpre c)), h.2.1 c⟩)
      (run_exact (F := Ideal) m ρ (ok_ideal m hpre)),
    (θ_run Cert.ExpertsReferenceIdeal.defs _ _).mono
      (fun _ h c => ⟨(h c).1.trans (value_eq m m' c (named_ideal m hpre c) ?_), (h c).2⟩)
      (Cert.ExpertsReferenceIdeal.Value.run (F := Ideal) m' ρ')⟩
  obtain ⟨h0, h1, h2, h3, h4, h5, h6⟩ := hag c
  exact (Cert.ExpertsRow.Args.mk.injEq ..).mpr ⟨h0, h1, h2, h3, h4, h5, h6⟩

end Cert.ExpertsIdeal.Hand

end

end
-- ==== Proof.MemkvKernel.lean ====
module

public import proofs.«01_k».proof.Proof.MergeBody
public import proofs.«01_k».proof.Proof.Gen.MemkvIdeal.Value
public import Idealize.ShloMosaic.Lib.Pipeline.ValueKit
public import Idealize.ShloMosaic.Lib.Claim
public import Idealize.ShloMosaic.Lib.Pointwise

@[expose] public section

/-! # The memory's keys and values: the mathematics, and the kernel's result -/

set_option maxRecDepth 16384

noncomputable section

namespace Cert.MemkvRow

open Cert.MergeRow (vm norm)

/-- The arrays the program reads. -/
structure Args where
  mem : (⟨3, ![32, 256, 1024]⟩ : Idealize.ShloMosaic.Shape).Idx → EReal
  g : (⟨2, ![1, 1024]⟩ : Idealize.ShloMosaic.Shape).Idx → EReal
  w : (⟨3, ![1, 1024, 2048]⟩ : Idealize.ShloMosaic.Shape).Idx → EReal

/-- Row `r` of the result belongs to batch `r / 256`, memory row `r % 256`. -/
abbrev bat (r : Fin 8192) : Fin 32 := ⟨r.val / 256, by have := r.isLt; omega⟩
abbrev mrow (r : Fin 8192) : Fin 256 := ⟨r.val % 256, Nat.mod_lt _ (by decide)⟩

open Idealize.ShloMosaic.ValueIdx in
/-- The result. -/
def Args.out (A : Args) (j : (⟨2, ![8192, 2048]⟩ : Idealize.ShloMosaic.Shape).Idx) : EReal :=
  vm (norm (fun k => A.mem (ix3 (bat (j 0)) (mrow (j 0)) k)) (fun k => A.g (ix2 (0 : Fin 1) k)))
    (fun k c => A.w (ix3 (0 : Fin 1) k c)) (j 1)

end Cert.MemkvRow

namespace Cert.MemkvIdeal.Hand

open Cert.MemkvIdeal Cert.MemkvIdeal.Gen Cert.MemkvRow Idealize.ShloMosaic.TcCoe Idealize.ShloMosaic.ValueIdx
open Cert.MergeRow (vm norm)
open Cert.MergeIdeal.Hand (normV normV_apply mm_gate same_cast)
open Idealize.ShloMosaic hiding ix1 ix2 ix3
open Idealize.SL.Sem Idealize.ShloMosaic.Pipeline

/-- The block a visit writes, entry by entry. -/
theorem pay1_apply (P0 : Vec Ideal S512x1024 .f32) (P1 : Vec Ideal S1x1024 .f32) (P2 : Vec Ideal S1024x2048 .bf16) (i : Fin 512) (j : Fin 2048) :
    k0_pay1 P0 P1 P2 (ix2 i j)
      = vm (norm (fun k => P0 (ix2 i k)) (fun k => P1 (ix2 (0 : Fin 1) k))) (fun k c => P2 (ix2 k c)) j := by
  show matmul dot_S512x1024_S1024x2048_S512x2048_1_0_0_1_n_n none
    (truncf .bf16 (normV (shapeCast S512x1024 P0 shapeCasts_S512x1024_S512x1024) P1) bitsLt_bf16_f32)
    (shapeCast S1024x2048 P2 shapeCasts_S1024x2048_S1024x2048) (constant S512x2048 .f32 0x00000000#32) (ix2 i j) = _
  refine (mm_gate _ _ i j).trans ?_
  simp only [truncf_apply, normV_apply, same_cast]

variable (m : (ℓ : Loc nD τ sig) → Buf (Elt Ideal) ℓ)

/-- The arrays the program is launched on. -/
def args (c : Dev nD) : Args where
  mem := m ((c.tc : Thread nD τ).loc main_arg0)
  g := m ((c.tc : Thread nD τ).loc main_arg1)
  w := m ((c.tc : Thread nD τ).loc main_arg2)

theorem idx0 : ∀ t : Fin cfg0.N, win0_0.index t = ![t.val, 0] :=
  (by decide +kernel : ∀ t : Fin grid0.N, win0_0.index t = ![t.val, 0])
theorem idx1 : ∀ t : Fin cfg0.N, win0_1.index t = ![0, 0] :=
  (by decide +kernel : ∀ t : Fin grid0.N, win0_1.index t = ![0, 0])
theorem idx2 : ∀ t : Fin cfg0.N, win0_2.index t = ![0, 0] :=
  (by decide +kernel : ∀ t : Fin grid0.N, win0_2.index t = ![0, 0])
theorem idx3 : ∀ t : Fin cfg0.N, win0_3.index t = ![t.val, 0] :=
  (by decide +kernel : ∀ t : Fin grid0.N, win0_3.index t = ![t.val, 0])

/-- Row `i` of visit `t`'s block. -/
abbrev blkRow (t : Fin cfg0.N) (i : Fin 512) : Fin 8192 :=
  ⟨t.val * 512 + i.val, by have h : t.val < 16 := t.isLt; have := i.isLt; omega⟩

theorem ld0 (x : Vec Ideal S512x1024 .f32) : View.ld x r0_0 = x :=
  funext fun j => congrArg x (funext fun a => match a with
    | ⟨0, _⟩ => Fin.ext (by show 0 + 1 * (j 0).val = (j 0).val; omega)
    | ⟨1, _⟩ => Fin.ext (by show 0 + 1 * (j 1).val = (j 1).val; omega))

theorem ld1 (x : Vec Ideal S1x1024 .f32) : View.ld x r0_1 = x :=
  funext fun j => congrArg x (funext fun a => match a with
    | ⟨0, _⟩ => Fin.ext (by show 0 + 1 * (j 0).val = (j 0).val; omega)
    | ⟨1, _⟩ => Fin.ext (by show 0 + 1 * (j 1).val = (j 1).val; omega))

theorem ld2 (x : Vec Ideal S1024x2048 .bf16) : View.ld x r0_2 = x :=
  funext fun j => congrArg x (funext fun a => match a with
    | ⟨0, _⟩ => Fin.ext (by show 0 + 1 * (j 0).val = (j 0).val; omega)
    | ⟨1, _⟩ => Fin.ext (by show 0 + 1 * (j 1).val = (j 1).val; omega))

theorem entry_mem (c : Dev nD) (r : Fin 8192) (k : Fin 1024) :
    (Gen.V m c main_v0 (ix2 r k) : EReal) = (args m c).mem (ix3 (bat r) (mrow r) k) := by
  entry_read
  refine (shapeCast_apply _ _ _ (ix3 (bat r) (mrow r) k) ?_).trans rfl
  show (Shape.rowMajor (s := S32x256x1024) (ix3 (bat r) (mrow r) k)).val = (Shape.rowMajor (s := S8192x1024) (ix2 r k)).val
  rw [Shape.rowMajor_val_two, Shape.rowMajor_val_three]
  show (r.val / 256 * 256 + r.val % 256) * 1024 + k.val = r.val * 1024 + k.val
  omega

theorem blk_mem (c : Dev nD) (t : Fin cfg0.N) (i : Fin 512) (k : Fin 1024) :
    iblk m c 0 t (ix2 i k) = (args m c).mem (ix3 (bat (blkRow t i)) (mrow (blkRow t i)) k) := by
  refine Eq.trans ?_ (entry_mem m c (blkRow t i) k)
  show iblk m c 0 t _ = Gen.V m c main_v0 _
  blk_ext [iblk, idx0 t]

theorem blk_g (c : Dev nD) (t : Fin cfg0.N) (k : Fin 1024) :
    iblk m c 1 t (ix2 (0 : Fin 1) k) = (args m c).g (ix2 (0 : Fin 1) k) := by
  show iblk m c 1 t _ = m ((c.tc : Thread nD τ).loc main_arg1) _
  blk_ext! [iblk, V, idx1 t]

theorem blk_w (c : Dev nD) (t : Fin cfg0.N) (i : Fin 1024) (k : Fin 2048) :
    iblk m c 2 t (ix2 i k) = (args m c).w (ix3 (0 : Fin 1) i k) := by
  show iblk m c 2 t _ = m ((c.tc : Thread nD τ).loc main_arg2) _
  blk_ext! [iblk, V, idx2 t]

/-- What a visit writes, from the blocks it reads. -/
theorem tile (c : Dev nD) (t : Fin cfg0.N) (i : Fin 512) (j : Fin 2048) :
    k0_pay1 (iblk m c 0 t) (iblk m c 1 t) (iblk m c 2 t) (ix2 i j) = (args m c).out (ix2 (blkRow t i) j) := by
  refine (pay1_apply _ _ _ i j).trans ?_
  simp only [blk_mem, blk_g, blk_w]
  rfl

/-- What the run leaves in the result. -/
theorem result (c : Dev nD) : (dats m 0 c).arrAt 3 cfg0.N = fun j => (args m c).out j := by
  refine (dats m 0 c).arrAt_eq_of_covers 3 _ (by decide +kernel) fun t hf y => ?_
  blk_simp
  rw [after0_3]
  unfold out0_3
  simp only [ld0, ld1, ld2]
  obtain ⟨i, j, hy⟩ : ∃ (i : Fin 512) (j : Fin 2048), y = ix2 i j := ⟨y (0 : Fin 2), y (1 : Fin 2), funext fun a => match a with | ⟨0, _⟩ => rfl | ⟨1, _⟩ => rfl⟩
  subst hy
  refine (congrFun (View.canon_cons_unit_lit _ _ _ (by decide)) _).trans ?_
  refine (tile m c t i j).trans (congrArg (args m c).out ?_)
  blk_ext [idx3 t]

end Cert.MemkvIdeal.Hand

end

end
-- ==== Proof.MemkvClaims.lean ====
module

public import proofs.«01_k».proof.Defs
public import proofs.«01_k».proof.Proof.MemkvKernel
public import proofs.«01_k».proof.Proof.Gen.Memkv.Frame
public import proofs.«01_k».proof.Proof.Gen.MemkvReferenceIdeal.Run
public import Idealize.ShloMosaic.Lib.IdealHost

@[expose] public section

/-! # The memory's keys and values: the reference, and the claims -/

set_option maxRecDepth 16384

noncomputable section

namespace Cert.MemkvReferenceIdeal.Hand

open Cert.MemkvReferenceIdeal Cert.MemkvReferenceIdeal.Gen Cert.MemkvRow Idealize.ShloMosaic.TcCoe Idealize.ShloMosaic.ValueIdx
open Cert.MergeRow (vm norm sum_contr len eps)
open Idealize.ShloMosaic hiding ix0 ix1 ix2 ix3 ix4 ix5
open Idealize.SL.Sem

theorem dg (l : FVec Ideal S32x256x1024 .f32) (r : FVec Ideal S1024x2048 .f32) (b : Fin 32) (s : Fin 256) (c : Fin 2048) :
    Host.dotGeneral dot_S32x256x1024_S1024x2048_S32x256x2048_2_0_01_1_n_n none l r (ix3 b s c) = vm (fun k => l (ix3 b s k)) (fun k c => r (ix2 k c)) c := by
  simp only [Host.dotGeneral]
  exact (Ideal.dotGeneral_apply _ none _ l r _).trans
    (sum_contr _ 1024 rfl rfl _ (fun k => l (ix3 b s k) * r (ix2 k c)) fun k =>
      congrArg₂ (· * ·)
        (congrArg l (funext fun a => match a with | ⟨0, _⟩ => Fin.ext rfl | ⟨1, _⟩ => Fin.ext rfl | ⟨2, _⟩ => Fin.ext rfl))
        (congrArg r (funext fun a => match a with | ⟨0, _⟩ => Fin.ext rfl | ⟨1, _⟩ => Fin.ext rfl)))

variable {α : Type}

theorem gain_apply (v : S1x1024.Idx → α) (b : Fin 32) (s : Fin 256) (c : Fin 1024) :
    broadcastInDim S32x256x1024 ![0, 1, 2] bcast_S1x1x1024_S32x256x1024_0_1_2
      (broadcastInDim S1x1x1024 ![2] bcast_S1024_S1x1x1024_2 (shapeCast S1024 v shapeCasts_S1x1024_S1024)) (ix3 b s c) = v (ix2 (0 : Fin 1) c) := by
  refine (broadcastInDim_apply _ _ _ _ (ix3 (0 : Fin 1) (0 : Fin 1) c) fun a => match a with | ⟨0, _⟩ => rfl | ⟨1, _⟩ => rfl | ⟨2, _⟩ => rfl).trans ?_
  refine (broadcastInDim_apply _ _ _ _ (ix1 c) fun a => match a with | ⟨0, _⟩ => rfl).trans ?_
  exact shapeCast_apply _ _ _ _ (by rw [Shape.rowMajor_val_two, Shape.rowMajor_val_one]; show 0 * 1024 + c.val = c.val; omega)

theorem spread_apply (v : S32x256x1.Idx → α) (b : Fin 32) (s : Fin 256) (c : Fin 1024) :
    broadcastInDim S32x256x1024 ![0, 1, 2] bcast_S32x256x1_S32x256x1024_0_1_2 v (ix3 b s c) = v (ix3 b s (0 : Fin 1)) :=
  broadcastInDim_apply _ _ _ _ _ fun a => match a with | ⟨0, _⟩ => rfl | ⟨1, _⟩ => rfl | ⟨2, _⟩ => rfl

theorem unrow_apply (v : S32x256.Idx → α) (b : Fin 32) (s : Fin 256) :
    broadcastInDim S32x256x1 ![0, 1] bcast_S32x256_S32x256x1_0_1 v (ix3 b s (0 : Fin 1)) = v (ix2 b s) :=
  broadcastInDim_apply _ _ _ _ _ fun a => match a with | ⟨0, _⟩ => rfl | ⟨1, _⟩ => rfl

theorem sheet_apply (v : S1x1024x2048.Idx → α) (i : Fin 1024) (j : Fin 2048) :
    shapeCast S1024x2048 v shapeCasts_S1x1024x2048_S1024x2048 (ix2 i j) = v (ix3 (0 : Fin 1) i j) :=
  shapeCast_apply _ _ _ _ (by rw [Shape.rowMajor_val_two, Shape.rowMajor_val_three]; show (0 * 1024 + i.val) * 2048 + j.val = i.val * 2048 + j.val; omega)

theorem join_apply (v : S32x256x2048.Idx → α) (r : Fin 8192) (c : Fin 2048) :
    shapeCast S8192x2048 v shapeCasts_S32x256x2048_S8192x2048 (ix2 r c) = v (ix3 (bat r) (mrow r) c) :=
  shapeCast_apply _ _ _ _ (by
    rw [Shape.rowMajor_val_two, Shape.rowMajor_val_three]
    show (r.val / 256 * 256 + r.val % 256) * 2048 + c.val = r.val * 2048 + c.val
    omega)

theorem rowsum_apply (v : FVec Ideal S32x256x1024 .f32) (b : Fin 32) (s : Fin 256) :
    Host.reduceAdd v (constant S_ .f32 0x00000000#32) reducesTo_S32x256x1024_S32x256_d2 h_S_ (ix2 b s) = ∑ k : Fin 1024, v (ix3 b s k) := by
  have hr : S32x256x1024.Reduces [2] S32x256 := by decide
  rw [hostReduceAdd_apply, Ideal.hostReduceAdd_single _ hr]
  refine (congrArg (· + _) Ideal.ofBits_zero_f32).trans ((zero_add _).trans (Finset.sum_congr rfl fun k _ => congrArg v (funext fun a => match a with | ⟨0, _⟩ => Fin.ext rfl | ⟨1, _⟩ => Fin.ext rfl | ⟨2, _⟩ => Fin.ext rfl)))

/-- The memory over its root mean squares, times the gains. -/
def normR (x : FVec Ideal S32x256x1024 .f32) (g : FVec Ideal S1x1024 .f32) : FVec Ideal S32x256x1024 .f32 :=
  mulf (mulf x (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf x x) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x358637BD#32)))))) (broadcastInDim S32x256x1024 ![0, 1, 2] bcast_S1x1x1024_S32x256x1024_0_1_2 (broadcastInDim S1x1x1024 ![2] bcast_S1024_S1x1x1024_2 (shapeCast _ g shapeCasts_S1x1024_S1024)))

theorem normR_apply (x : FVec Ideal S32x256x1024 .f32) (g : FVec Ideal S1x1024 .f32) (b : Fin 32) (s : Fin 256) (c : Fin 1024) :
    normR x g (ix3 b s c) = norm (fun k => x (ix3 b s k)) (fun k => g (ix2 (0 : Fin 1) k)) c := by
  refine congrArg₂ (α := EReal) (β := EReal) (· * ·) (congrArg (x (ix3 b s c) * ·) ?_) (gain_apply g b s c)
  refine (spread_apply _ b s c).trans (congrArg Ideal.rsqrt (congrArg₂ (α := EReal) (β := EReal) (· + ·)
    (congrArg₂ Ideal.div ((unrow_apply _ b s).trans (rowsum_apply _ b s)) ?_) ?_))
  · exact broadcastInDim_scalar_apply _ _ _
  · exact broadcastInDim_scalar_apply _ _ _

/-- The reference's result. -/
def outR (x : FVec Ideal S32x256x1024 .f32) (g : FVec Ideal S1x1024 .f32) (w : FVec Ideal S1x1024x2048 .f32) : FVec Ideal S8192x2048 .bf16 :=
  truncf .bf16 (shapeCast _ (Host.dotGeneral dot_S32x256x1024_S1024x2048_S32x256x2048_2_0_01_1_n_n none (normR x g) (shapeCast _ w shapeCasts_S1x1024x2048_S1024x2048)) shapeCasts_S32x256x2048_S8192x2048) bitsLt_bf16_f32

theorem outR_eq (x : FVec Ideal S32x256x1024 .f32) (g : FVec Ideal S1x1024 .f32) (w : FVec Ideal S1x1024x2048 .f32) :
    outR x g w = fun j => (Args.mk x g w).out j := by
  funext y
  obtain ⟨r, c, rfl⟩ : ∃ (r : Fin 8192) (c : Fin 2048), y = ix2 r c :=
    ⟨y 0, y 1, funext fun a => match a with | ⟨0, _⟩ => rfl | ⟨1, _⟩ => rfl⟩
  show (shapeCast S8192x2048 (Host.dotGeneral dot_S32x256x1024_S1024x2048_S32x256x2048_2_0_01_1_n_n none (normR x g) (shapeCast S1024x2048 w shapeCasts_S1x1024x2048_S1024x2048)) shapeCasts_S32x256x2048_S8192x2048 (ix2 r c) : EReal) = _
  refine (join_apply _ r c).trans ((dg _ _ (bat r) (mrow r) c).trans ?_)
  simp only [normR_apply, sheet_apply]
  rfl

end Cert.MemkvReferenceIdeal.Hand

namespace Cert.MemkvIdeal.Hand

open Idealize.ShloMosaic Idealize.ShloMosaic.TcCoe Idealize.SL.Sem

theorem frame_memkv : Cert.quiescent_Memkv := fun m ρ _ => Cert.Memkv.Gen.frame m ρ

theorem frame_memkvIdeal : Cert.quiescent_MemkvIdeal := fun m ρ _ => Cert.MemkvIdeal.Gen.frame m ρ

theorem frame_memkvReferenceIdeal : Cert.quiescent_MemkvReferenceIdeal := fun m ρ _ =>
  (θ_run Cert.MemkvReferenceIdeal.defs _ _).mono (fun r h => ⟨fun c => (h c).2, sem_eq_zero_of_no_sems (by decide) r.2⟩)
    (Cert.MemkvReferenceIdeal.Value.run (F := Ideal) m ρ)

theorem algebraic_memkv : Cert.algebraic_MemkvIdeal_MemkvReferenceIdeal := fun m ρ m' ρ' _ hag => by
  refine ⟨fun c => fun j => (args m c).out j,
    (θ_run Cert.MemkvIdeal.defs _ _).mono (fun _ h c => ⟨(h c).1.trans (result m c), (h c).2⟩)
      (Cert.MemkvIdeal.Value.run_blocks (F := Ideal) m ρ),
    (θ_run Cert.MemkvReferenceIdeal.defs _ _).mono (fun _ h c => ⟨(h c).1.trans ((Cert.MemkvReferenceIdeal.Hand.outR_eq _ _ _).trans ?_), (h c).2⟩)
      (Cert.MemkvReferenceIdeal.Value.run (F := Ideal) m' ρ')⟩
  obtain ⟨h0, h1, h2⟩ := hag c
  refine congrArg (fun A : Cert.MemkvRow.Args => fun j => A.out j) ?_
  exact (Cert.MemkvRow.Args.mk.injEq ..).mpr ⟨h0, h1, h2⟩

end Cert.MemkvIdeal.Hand

end

end
-- ==== Proof.ProjRow.lean ====
module

public import proofs.«01_k».proof.Proof.MergeRow

@[expose] public section

/-! # One token's row through the input projection

Every result of the projection is a choice of columns of one array: the normed rows times the matrix. Some are scaled,
some are laid out by blocks of 256 tokens with the columns first. -/

noncomputable section

namespace Cert.ProjRow

open Cert.MergeRow (vm norm sum_mul_const sixteenth)
open Idealize.ShloMosaic Idealize.ShloMosaic.ValueIdx

/-- The queries' scale, an eighth of the logarithm's base-two factor, as the number that the program holds. -/
abbrev qs : EReal := Ideal.ofBits .f32 0x3E38AA3B#32

theorem qs_eq : qs = ((12102203 / 67108864 : ℝ) : EReal) := by
  simp [qs, Ideal.ofBits, Ideal.ieee]
  rw [← EReal.coe_mul]
  norm_num

theorem qs_nonneg : 0 ≤ qs := by
  rw [qs_eq]; exact EReal.coe_nonneg.2 (by norm_num)

theorem qs_ne_top : qs ≠ ⊤ := by rw [qs_eq]; exact EReal.coe_ne_top _

/-- The arrays the program reads. -/
structure Args where
  x : (⟨3, ![32, 2048, 1024]⟩ : Shape).Idx → EReal
  g : (⟨2, ![1, 1024]⟩ : Shape).Idx → EReal
  w : (⟨3, ![1, 1024, 2500]⟩ : Shape).Idx → EReal

/-- Row `r` of the stream belongs to batch `r / 2048`, token `r % 2048`. -/
abbrev bat (r : Fin 65536) : Fin 32 := ⟨r.val / 2048, by have := r.isLt; omega⟩
abbrev tkn (r : Fin 65536) : Fin 2048 := ⟨r.val % 2048, Nat.mod_lt _ (by decide)⟩

/-- A row of the stream, normed. -/
def Args.row (A : Args) (r : Fin 65536) : Fin 1024 → EReal :=
  norm (fun k => A.x (ix3 (bat r) (tkn r) k)) (fun k => A.g (ix2 (0 : Fin 1) k))

/-- Column `c` of a row's projection. -/
def Args.z (A : Args) (r : Fin 65536) (c : Fin 2500) : EReal := vm (A.row r) (fun k c => A.w (ix3 (0 : Fin 1) k c)) c

/-- Column `o + c`. -/
abbrev col {n : ℕ} (o : ℕ) (h : o + n ≤ 2500) (c : Fin n) : Fin 2500 := ⟨o + c.val, by have := c.isLt; omega⟩
/-- Column `o + c % 64`: 64 columns, twice. -/
abbrev two (o : ℕ) (h : o + 64 ≤ 2500) (c : Fin 128) : Fin 2500 :=
  ⟨o + c.val % 64, by have := Nat.mod_lt c.val (show 0 < 64 by decide); omega⟩
/-- Token `p` of block `b`. -/
abbrev blkTok (b p : Fin 256) : Fin 65536 := ⟨256 * b.val + p.val, by have := b.isLt; have := p.isLt; omega⟩

/-- A choice of columns, by rows. -/
def Args.rows (A : Args) (n : ℕ) (f : Fin n → Fin 2500) (j : (⟨2, ![65536, n]⟩ : Shape).Idx) : EReal := A.z (j 0) (f (j 1))

/-- A choice of columns, by blocks of 256 tokens, each number put through `s`. -/
def Args.cols (A : Args) (n : ℕ) (f : Fin n → Fin 2500) (s : EReal → EReal) (j : (⟨3, ![256, n, 256]⟩ : Shape).Idx) : EReal :=
  s (A.z (blkTok (j 0) (j 2)) (f (j 1)))

/-- The index's weights, four columns as rows, over twelve rows of zeros. -/
def Args.wts (A : Args) (j : (⟨2, ![16, 65536]⟩ : Shape).Idx) : EReal :=
  if h : (j 0).val < 4 then A.z (j 1) (col (n := 4) 2496 (by decide) ⟨(j 0).val, h⟩) * sixteenth else 0

/-- A column of the matrix, and the sum with the row's numbers behind. -/
theorem plain_sum (v w : Fin 1024 → EReal) : ∑ k, w k * v k = ∑ k, v k * w k :=
  Finset.sum_congr rfl fun k _ => mul_comm _ _

/-- A scaled column gives the scaled sum. -/
theorem scaled_sum (v w : Fin 1024 → EReal) (q : EReal) (h0 : 0 ≤ q) (ht : q ≠ ⊤) :
    ∑ k, (w k * q) * v k = (∑ k, v k * w k) * q :=
  (Finset.sum_congr rfl fun k _ => by rw [mul_comm (w k * q), mul_assoc]).trans (sum_mul_const (fun k => v k * w k) q h0 ht)

/-- A column of zeros gives zero. -/
theorem zero_sum (v : Fin 1024 → EReal) : ∑ k : Fin 1024, (0 : EReal) * v k = 0 :=
  Finset.sum_eq_zero fun k _ => zero_mul _

end Cert.ProjRow

end

end
-- ==== Proof.ProjBlocks.lean ====
module

public import proofs.«01_k».proof.Proof.MergeBody
public import proofs.«01_k».proof.Proof.ProjRow
public import proofs.«01_k».proof.Proof.Gen.ProjIdeal.Value
public import Idealize.ShloMosaic.Lib.Pipeline.ValueKit
public import Idealize.ShloMosaic.Lib.Claim
public import Idealize.ShloMosaic.Lib.Pointwise

@[expose] public section

/-! # The input projection: what a visit reads, and its products -/

set_option maxRecDepth 16384

noncomputable section

namespace Cert.ProjIdeal.Hand

open Cert.ProjIdeal Cert.ProjIdeal.Gen Cert.ProjRow Idealize.ShloMosaic.TcCoe Idealize.ShloMosaic.ValueIdx
open Cert.MergeRow (vm norm sum_contr sixteenth)
open Cert.MergeIdeal.Hand (normV normV_apply same_cast)
open Idealize.ShloMosaic hiding ix1 ix2 ix3
open Idealize.SL.Sem Idealize.ShloMosaic.Pipeline

/-! ## Products -/

theorem mm512 (l : FVec Ideal S512x1024 .bf16) (r : FVec Ideal S1024x512 .bf16) (i : Fin 512) (j : Fin 512) :
    matmul dot_S512x1024_S1024x512_S512x512_1_0_0_1_n_n none l r (constant S512x512 .f32 0x00000000#32) (ix2 i j)
      = vm (fun k => l (ix2 i k)) (fun k c => r (ix2 k c)) j :=
  (Ideal.matmul_constant_zero_apply _ none l r _).trans
    (sum_contr _ 1024 rfl rfl _ (fun k => l (ix2 i k) * r (ix2 k j)) fun k =>
      congrArg₂ (· * ·)
        (congrArg l (funext fun a => match a with | ⟨0, _⟩ => Fin.ext rfl | ⟨1, _⟩ => Fin.ext rfl))
        (congrArg r (funext fun a => match a with | ⟨0, _⟩ => Fin.ext rfl | ⟨1, _⟩ => Fin.ext rfl)))

theorem mm128 (l : FVec Ideal S512x1024 .bf16) (r : FVec Ideal S1024x128 .bf16) (i : Fin 512) (j : Fin 128) :
    matmul dot_S512x1024_S1024x128_S512x128_1_0_0_1_n_n none l r (constant S512x128 .f32 0x00000000#32) (ix2 i j)
      = vm (fun k => l (ix2 i k)) (fun k c => r (ix2 k c)) j :=
  (Ideal.matmul_constant_zero_apply _ none l r _).trans
    (sum_contr _ 1024 rfl rfl _ (fun k => l (ix2 i k) * r (ix2 k j)) fun k =>
      congrArg₂ (· * ·)
        (congrArg l (funext fun a => match a with | ⟨0, _⟩ => Fin.ext rfl | ⟨1, _⟩ => Fin.ext rfl))
        (congrArg r (funext fun a => match a with | ⟨0, _⟩ => Fin.ext rfl | ⟨1, _⟩ => Fin.ext rfl)))

theorem nt512 (l : FVec Ideal S512x1024 .bf16) (r : FVec Ideal S512x1024 .bf16) (i : Fin 512) (j : Fin 512) :
    matmul dot_S512x1024_S512x1024_S512x512_1_1_0_0_n_n none l r (constant S512x512 .f32 0x00000000#32) (ix2 i j)
      = ∑ k : Fin 1024, l (ix2 i k) * r (ix2 j k) :=
  (Ideal.matmul_constant_zero_apply _ none l r _).trans
    (sum_contr _ 1024 rfl rfl _ (fun k => l (ix2 i k) * r (ix2 j k)) fun k =>
      congrArg₂ (· * ·)
        (congrArg l (funext fun a => match a with | ⟨0, _⟩ => Fin.ext rfl | ⟨1, _⟩ => Fin.ext rfl))
        (congrArg r (funext fun a => match a with | ⟨0, _⟩ => Fin.ext rfl | ⟨1, _⟩ => Fin.ext rfl)))

theorem nt256 (l : FVec Ideal S256x1024 .bf16) (r : FVec Ideal S512x1024 .bf16) (i : Fin 256) (j : Fin 512) :
    matmul dot_S256x1024_S512x1024_S256x512_1_1_0_0_n_n none l r (constant S256x512 .f32 0x00000000#32) (ix2 i j)
      = ∑ k : Fin 1024, l (ix2 i k) * r (ix2 j k) :=
  (Ideal.matmul_constant_zero_apply _ none l r _).trans
    (sum_contr _ 1024 rfl rfl _ (fun k => l (ix2 i k) * r (ix2 j k)) fun k =>
      congrArg₂ (· * ·)
        (congrArg l (funext fun a => match a with | ⟨0, _⟩ => Fin.ext rfl | ⟨1, _⟩ => Fin.ext rfl))
        (congrArg r (funext fun a => match a with | ⟨0, _⟩ => Fin.ext rfl | ⟨1, _⟩ => Fin.ext rfl)))

theorem nt64 (l : FVec Ideal S64x1024 .bf16) (r : FVec Ideal S512x1024 .bf16) (i : Fin 64) (j : Fin 512) :
    matmul dot_S64x1024_S512x1024_S64x512_1_1_0_0_n_n none l r (constant S64x512 .f32 0x00000000#32) (ix2 i j)
      = ∑ k : Fin 1024, l (ix2 i k) * r (ix2 j k) :=
  (Ideal.matmul_constant_zero_apply _ none l r _).trans
    (sum_contr _ 1024 rfl rfl _ (fun k => l (ix2 i k) * r (ix2 j k)) fun k =>
      congrArg₂ (· * ·)
        (congrArg l (funext fun a => match a with | ⟨0, _⟩ => Fin.ext rfl | ⟨1, _⟩ => Fin.ext rfl))
        (congrArg r (funext fun a => match a with | ⟨0, _⟩ => Fin.ext rfl | ⟨1, _⟩ => Fin.ext rfl)))

theorem nt16 (l : FVec Ideal S16x1024 .bf16) (r : FVec Ideal S512x1024 .bf16) (i : Fin 16) (j : Fin 512) :
    matmul dot_S16x1024_S512x1024_S16x512_1_1_0_0_n_n none l r (constant S16x512 .f32 0x00000000#32) (ix2 i j)
      = ∑ k : Fin 1024, l (ix2 i k) * r (ix2 j k) :=
  (Ideal.matmul_constant_zero_apply _ none l r _).trans
    (sum_contr _ 1024 rfl rfl _ (fun k => l (ix2 i k) * r (ix2 j k)) fun k =>
      congrArg₂ (· * ·)
        (congrArg l (funext fun a => match a with | ⟨0, _⟩ => Fin.ext rfl | ⟨1, _⟩ => Fin.ext rfl))
        (congrArg r (funext fun a => match a with | ⟨0, _⟩ => Fin.ext rfl | ⟨1, _⟩ => Fin.ext rfl)))

/-! ## What a visit reads -/

variable (m : (ℓ : Loc nD τ sig) → Buf (Elt Ideal) ℓ)

/-- The arrays the program is launched on. -/
def args (c : Dev nD) : Args where
  x := m ((c.tc : Thread nD τ).loc main_arg0)
  g := m ((c.tc : Thread nD τ).loc main_arg1)
  w := m ((c.tc : Thread nD τ).loc main_arg2)

theorem idx0 : ∀ t : Fin cfg0.N, win0_0.index t = ![t.val, 0] :=
  (by decide +kernel : ∀ t : Fin grid0.N, win0_0.index t = ![t.val, 0])
theorem idx1 : ∀ t : Fin cfg0.N, win0_1.index t = ![0, 0] :=
  (by decide +kernel : ∀ t : Fin grid0.N, win0_1.index t = ![0, 0])
theorem idx2 : ∀ t : Fin cfg0.N, win0_2.index t = ![0, 0] :=
  (by decide +kernel : ∀ t : Fin grid0.N, win0_2.index t = ![0, 0])
theorem idx3 : ∀ t : Fin cfg0.N, win0_3.index t = ![0, 0] :=
  (by decide +kernel : ∀ t : Fin grid0.N, win0_3.index t = ![0, 0])
theorem idx4 : ∀ t : Fin cfg0.N, win0_4.index t = ![t.val, 0] :=
  (by decide +kernel : ∀ t : Fin grid0.N, win0_4.index t = ![t.val, 0])
theorem idx5 : ∀ t : Fin cfg0.N, win0_5.index t = ![t.val, 0] :=
  (by decide +kernel : ∀ t : Fin grid0.N, win0_5.index t = ![t.val, 0])
theorem idx6 : ∀ t : Fin cfg0.N, win0_6.index t = ![t.val, 0] :=
  (by decide +kernel : ∀ t : Fin grid0.N, win0_6.index t = ![t.val, 0])
theorem idx7 : ∀ t : Fin cfg0.N, win0_7.index t = ![t.val, 0, 0] :=
  (by decide +kernel : ∀ t : Fin grid0.N, win0_7.index t = ![t.val, 0, 0])
theorem idx8 : ∀ t : Fin cfg0.N, win0_8.index t = ![t.val, 0, 0] :=
  (by decide +kernel : ∀ t : Fin grid0.N, win0_8.index t = ![t.val, 0, 0])
theorem idx9 : ∀ t : Fin cfg0.N, win0_9.index t = ![t.val, 0, 0] :=
  (by decide +kernel : ∀ t : Fin grid0.N, win0_9.index t = ![t.val, 0, 0])
theorem idx10 : ∀ t : Fin cfg0.N, win0_10.index t = ![t.val, 0, 0] :=
  (by decide +kernel : ∀ t : Fin grid0.N, win0_10.index t = ![t.val, 0, 0])
theorem idx11 : ∀ t : Fin cfg0.N, win0_11.index t = ![t.val, 0, 0] :=
  (by decide +kernel : ∀ t : Fin grid0.N, win0_11.index t = ![t.val, 0, 0])
theorem idx12 : ∀ t : Fin cfg0.N, win0_12.index t = ![0, t.val] :=
  (by decide +kernel : ∀ t : Fin grid0.N, win0_12.index t = ![0, t.val])

/-- Row `i` of visit `t`'s block. -/
abbrev blkRow (t : Fin cfg0.N) (i : Fin 512) : Fin 65536 :=
  ⟨t.val * 512 + i.val, by have h : t.val < 128 := t.isLt; have := i.isLt; omega⟩

theorem ld0 (x : Vec Ideal S512x1024 .f32) : View.ld x r0_0 = x :=
  funext fun j => congrArg x (funext fun a => match a with
    | ⟨0, _⟩ => Fin.ext (by show 0 + 1 * (j 0).val = (j 0).val; omega)
    | ⟨1, _⟩ => Fin.ext (by show 0 + 1 * (j 1).val = (j 1).val; omega))

theorem ld1 (x : Vec Ideal S1x1024 .f32) : View.ld x r0_1 = x :=
  funext fun j => congrArg x (funext fun a => match a with
    | ⟨0, _⟩ => Fin.ext (by show 0 + 1 * (j 0).val = (j 0).val; omega)
    | ⟨1, _⟩ => Fin.ext (by show 0 + 1 * (j 1).val = (j 1).val; omega))

theorem ld2 (x : Vec Ideal S1024x768 .bf16) (k : Fin 1024) (j : Fin 512) :
    View.ld x r0_2 (ix2 k j) = x (ix2 k (⟨0 + j.val, by have := j.isLt; omega⟩ : Fin 768)) :=
  congrArg x (funext fun a => match a with
    | ⟨0, _⟩ => Fin.ext (by show 0 + 1 * k.val = k.val; omega)
    | ⟨1, _⟩ => Fin.ext (by show 0 + 1 * j.val = 0 + j.val; omega))

theorem ld4 (x : Vec Ideal S1024x768 .bf16) (k : Fin 1024) (j : Fin 128) :
    View.ld x r0_4 (ix2 k j) = x (ix2 k (⟨512 + j.val, by have := j.isLt; omega⟩ : Fin 768)) :=
  congrArg x (funext fun a => match a with
    | ⟨0, _⟩ => Fin.ext (by show 0 + 1 * k.val = k.val; omega)
    | ⟨1, _⟩ => Fin.ext (by show 512 + 1 * j.val = 512 + j.val; omega))

theorem ld6 (x : Vec Ideal S1024x768 .bf16) (k : Fin 1024) (j : Fin 128) :
    View.ld x r0_6 (ix2 k j) = x (ix2 k (⟨640 + j.val, by have := j.isLt; omega⟩ : Fin 768)) :=
  congrArg x (funext fun a => match a with
    | ⟨0, _⟩ => Fin.ext (by show 0 + 1 * k.val = k.val; omega)
    | ⟨1, _⟩ => Fin.ext (by show 640 + 1 * j.val = 640 + j.val; omega))

theorem ld7 (x : Vec Ideal S1872x1024 .bf16) (j : Fin 512) (k : Fin 1024) :
    View.ld x r0_7 (ix2 j k) = x (ix2 (⟨0 + j.val, by have := j.isLt; omega⟩ : Fin 1872) k) :=
  congrArg x (funext fun a => match a with
    | ⟨0, _⟩ => Fin.ext (by show 0 + 1 * j.val = 0 + j.val; omega)
    | ⟨1, _⟩ => Fin.ext (by show 0 + 1 * k.val = k.val; omega))

theorem ld10 (x : Vec Ideal S1872x1024 .bf16) (j : Fin 512) (k : Fin 1024) :
    View.ld x r0_10 (ix2 j k) = x (ix2 (⟨512 + j.val, by have := j.isLt; omega⟩ : Fin 1872) k) :=
  congrArg x (funext fun a => match a with
    | ⟨0, _⟩ => Fin.ext (by show 512 + 1 * j.val = 512 + j.val; omega)
    | ⟨1, _⟩ => Fin.ext (by show 0 + 1 * k.val = k.val; omega))

theorem ld11 (x : Vec Ideal S1872x1024 .bf16) (j : Fin 256) (k : Fin 1024) :
    View.ld x r0_11 (ix2 j k) = x (ix2 (⟨1024 + j.val, by have := j.isLt; omega⟩ : Fin 1872) k) :=
  congrArg x (funext fun a => match a with
    | ⟨0, _⟩ => Fin.ext (by show 1024 + 1 * j.val = 1024 + j.val; omega)
    | ⟨1, _⟩ => Fin.ext (by show 0 + 1 * k.val = k.val; omega))

theorem ld14 (x : Vec Ideal S1872x1024 .bf16) (j : Fin 512) (k : Fin 1024) :
    View.ld x r0_14 (ix2 j k) = x (ix2 (⟨1280 + j.val, by have := j.isLt; omega⟩ : Fin 1872) k) :=
  congrArg x (funext fun a => match a with
    | ⟨0, _⟩ => Fin.ext (by show 1280 + 1 * j.val = 1280 + j.val; omega)
    | ⟨1, _⟩ => Fin.ext (by show 0 + 1 * k.val = k.val; omega))

theorem ld15 (x : Vec Ideal S1872x1024 .bf16) (j : Fin 64) (k : Fin 1024) :
    View.ld x r0_15 (ix2 j k) = x (ix2 (⟨1792 + j.val, by have := j.isLt; omega⟩ : Fin 1872) k) :=
  congrArg x (funext fun a => match a with
    | ⟨0, _⟩ => Fin.ext (by show 1792 + 1 * j.val = 1792 + j.val; omega)
    | ⟨1, _⟩ => Fin.ext (by show 0 + 1 * k.val = k.val; omega))

theorem ld18 (x : Vec Ideal S1872x1024 .bf16) (j : Fin 16) (k : Fin 1024) :
    View.ld x r0_18 (ix2 j k) = x (ix2 (⟨1856 + j.val, by have := j.isLt; omega⟩ : Fin 1872) k) :=
  congrArg x (funext fun a => match a with
    | ⟨0, _⟩ => Fin.ext (by show 1856 + 1 * j.val = 1856 + j.val; omega)
    | ⟨1, _⟩ => Fin.ext (by show 0 + 1 * k.val = k.val; omega))

theorem entry_x (c : Dev nD) (r : Fin 65536) (k : Fin 1024) :
    (Gen.V m c main_v22 (ix2 r k) : EReal) = (args m c).x (ix3 (bat r) (tkn r) k) := by
  entry_read
  refine (shapeCast_apply _ _ _ (ix3 (bat r) (tkn r) k) ?_).trans rfl
  show (Shape.rowMajor (s := S32x2048x1024) (ix3 (bat r) (tkn r) k)).val = (Shape.rowMajor (s := S65536x1024) (ix2 r k)).val
  rw [Shape.rowMajor_val_two, Shape.rowMajor_val_three]
  show (r.val / 2048 * 2048 + r.val % 2048) * 1024 + k.val = r.val * 1024 + k.val
  omega

theorem blk_x (c : Dev nD) (t : Fin cfg0.N) (i : Fin 512) (k : Fin 1024) :
    iblk m c 0 t (ix2 i k) = (args m c).x (ix3 (bat (blkRow t i)) (tkn (blkRow t i)) k) := by
  refine Eq.trans ?_ (entry_x m c (blkRow t i) k)
  show iblk m c 0 t _ = Gen.V m c main_v22 _
  blk_ext [iblk, idx0 t]

theorem blk_g (c : Dev nD) (t : Fin cfg0.N) (k : Fin 1024) :
    iblk m c 1 t (ix2 (0 : Fin 1) k) = (args m c).g (ix2 (0 : Fin 1) k) := by
  show iblk m c 1 t _ = m ((c.tc : Thread nD τ).loc main_arg1) _
  blk_ext! [iblk, V, idx1 t]

/-- `n` columns of the matrix from column `o`. -/
theorem part_apply {n : ℕ} (v : S1x1024x2500.Idx → EReal) (o : ℕ) (h : S1024x2500.Slices ![0, o] (⟨2, ![1024, n]⟩ : Shape))
    (k : Fin 1024) (c : Fin n) (hc : o + n ≤ 2500) :
    extractStridedSlice (⟨2, ![1024, n]⟩ : Shape) ![0, o] (shapeCast S1024x2500 v shapeCasts_S1x1024x2500_S1024x2500) h (ix2 k c)
      = v (ix3 (0 : Fin 1) k (col o hc c)) := by
  refine (extractStridedSlice_apply ![0, o] _ h (ix2 k c) (ix2 k (col o hc c)) fun a => match a with
    | ⟨0, _⟩ => by show k.val = 0 + k.val; omega
    | ⟨1, _⟩ => rfl).trans ?_
  refine shapeCast_apply _ _ _ _ ?_
  rw [Shape.rowMajor_val_two, Shape.rowMajor_val_three]
  show (0 * 1024 + k.val) * 2500 + (o + c.val) = k.val * 2500 + (o + c.val)
  omega

end Cert.ProjIdeal.Hand

end

end
-- ==== Proof.ProjWeights.lean ====
module

public import proofs.«01_k».proof.Proof.ProjBlocks

@[expose] public section

/-! # The input projection: the matrices that a visit is given -/

set_option maxRecDepth 16384

noncomputable section

namespace Cert.ProjIdeal.Hand

open Cert.ProjIdeal Cert.ProjIdeal.Gen Cert.ProjRow Idealize.ShloMosaic.TcCoe Idealize.ShloMosaic.ValueIdx
open Cert.MergeRow (vm norm sum_contr sixteenth)
open Cert.MergeIdeal.Hand (normV normV_apply same_cast)
open Idealize.ShloMosaic hiding ix1 ix2 ix3
open Idealize.SL.Sem Idealize.ShloMosaic.Pipeline

variable (m : (ℓ : Loc nD τ sig) → Buf (Elt Ideal) ℓ)

/-- The matrix. -/
def sheet (w : S1x1024x2500.Idx → EReal) : FVec Ideal S1024x2500 .f32 := shapeCast S1024x2500 w shapeCasts_S1x1024x2500_S1024x2500

abbrev partsN (w : S1x1024x2500.Idx → EReal) : List (Σ s : Shape, FVec Ideal s .f32) :=
  [⟨S1024x512, extractStridedSlice S1024x512 ![0, 512] (sheet w) slices_S1024x2500_S1024x512_0_512⟩,
    ⟨S1024x64, extractStridedSlice S1024x64 ![0, 2048] (sheet w) slices_S1024x2500_S1024x64_0_2048⟩,
    ⟨S1024x64, extractStridedSlice S1024x64 ![0, 2048] (sheet w) slices_S1024x2500_S1024x64_0_2048⟩,
    ⟨S1024x64, extractStridedSlice S1024x64 ![0, 2432] (sheet w) slices_S1024x2500_S1024x64_0_2432⟩,
    ⟨S1024x64, extractStridedSlice S1024x64 ![0, 2432] (sheet w) slices_S1024x2500_S1024x64_0_2432⟩]

abbrev partsT (w : S1x1024x2500.Idx → EReal) : List (Σ s : Shape, FVec Ideal s .f32) :=
  [⟨S1024x512, mulf (extractStridedSlice S1024x512 ![0, 0] (sheet w) slices_S1024x2500_S1024x512_0_0) (broadcastInDim S1024x512 ![] bcast_S_S1024x512 (constant S_ .f32 0x3E38AA3B#32))⟩,
    ⟨S1024x512, mulf (extractStridedSlice S1024x512 ![0, 1536] (sheet w) slices_S1024x2500_S1024x512_0_1536) (broadcastInDim S1024x512 ![] bcast_S_S1024x512 (constant S_ .f32 0x3E38AA3B#32))⟩,
    ⟨S1024x256, extractStridedSlice S1024x256 ![0, 2176] (sheet w) slices_S1024x2500_S1024x256_0_2176⟩,
    ⟨S1024x512, extractStridedSlice S1024x512 ![0, 1024] (sheet w) slices_S1024x2500_S1024x512_0_1024⟩,
    ⟨S1024x64, extractStridedSlice S1024x64 ![0, 2112] (sheet w) slices_S1024x2500_S1024x64_0_2112⟩,
    ⟨S1024x4, mulf (extractStridedSlice S1024x4 ![0, 2496] (sheet w) slices_S1024x2500_S1024x4_0_2496) (broadcastInDim S1024x4 ![] bcast_S_S1024x4 (constant S_ .f32 0x3D800000#32))⟩,
    ⟨S1024x12, broadcastInDim S1024x12 ![] bcast_S_S1024x12 (constant S_ .f32 0x00000000#32)⟩]

/-- The columns that are laid out by rows. -/
def wn (w : S1x1024x2500.Idx → EReal) : FVec Ideal S1024x768 .bf16 :=
  truncf .bf16 (concatenate S1024x768 1 (partsN w) concatenates_S1024x512_S1024x64_S1024x64_S1024x64_S1024x64_S1024x768_d1 : FVec Ideal S1024x768 .f32) bitsLt_bf16_f32

/-- The columns that are laid out by blocks, as rows. -/
def wt (w : S1x1024x2500.Idx → EReal) : FVec Ideal S1872x1024 .bf16 :=
  truncf .bf16 (transpose S1872x1024 [1, 0] (concatenate S1024x1872 1 (partsT w)
    concatenates_S1024x512_S1024x512_S1024x256_S1024x512_S1024x64_S1024x4_S1024x12_S1024x1872_d1) transposes_S1024x1872_S1872x1024_1_0 : FVec Ideal S1872x1024 .f32) bitsLt_bf16_f32

theorem V_wn (c : Dev nD) : (Gen.V m c main_v20 : FVec Ideal S1024x768 .bf16) = wn (args m c).w := by
  rfl

theorem V_wt (c : Dev nD) : (Gen.V m c main_v21 : FVec Ideal S1872x1024 .bf16) = wt (args m c).w := by
  rfl

/-! ## The pieces of the two joined matrices -/

variable {α : Type}

theorem catN0 (a : S1024x512.Idx → α) (b : S1024x64.Idx → α) (c : S1024x64.Idx → α) (d : S1024x64.Idx → α) (e : S1024x64.Idx → α) (k : Fin 1024) (q : Fin 768) (j : Fin 512)
    (hq : 0 + j.val = q.val) : concatenate S1024x768 1 [⟨S1024x512, a⟩, ⟨S1024x64, b⟩, ⟨S1024x64, c⟩, ⟨S1024x64, d⟩, ⟨S1024x64, e⟩] concatenates_S1024x512_S1024x64_S1024x64_S1024x64_S1024x64_S1024x768_d1 (ix2 k q) = a (ix2 k j) :=
  concatenate_apply_piece (t := S1024x768) 1 [⟨S1024x512, a⟩, ⟨S1024x64, b⟩, ⟨S1024x64, c⟩, ⟨S1024x64, d⟩, ⟨S1024x64, e⟩] _ (ix2 k q) 0 (show 0 < 5 by decide) S1024x512 a rfl rfl 0 rfl (ix2 k j)
    (fun b hb => match b with | ⟨0, _⟩ => rfl | ⟨1, _⟩ => absurd rfl hb) hq

theorem catN1 (a : S1024x512.Idx → α) (b : S1024x64.Idx → α) (c : S1024x64.Idx → α) (d : S1024x64.Idx → α) (e : S1024x64.Idx → α) (k : Fin 1024) (q : Fin 768) (j : Fin 64)
    (hq : 512 + j.val = q.val) : concatenate S1024x768 1 [⟨S1024x512, a⟩, ⟨S1024x64, b⟩, ⟨S1024x64, c⟩, ⟨S1024x64, d⟩, ⟨S1024x64, e⟩] concatenates_S1024x512_S1024x64_S1024x64_S1024x64_S1024x64_S1024x768_d1 (ix2 k q) = b (ix2 k j) :=
  concatenate_apply_piece (t := S1024x768) 1 [⟨S1024x512, a⟩, ⟨S1024x64, b⟩, ⟨S1024x64, c⟩, ⟨S1024x64, d⟩, ⟨S1024x64, e⟩] _ (ix2 k q) 1 (show 1 < 5 by decide) S1024x64 b rfl rfl 512 rfl (ix2 k j)
    (fun b hb => match b with | ⟨0, _⟩ => rfl | ⟨1, _⟩ => absurd rfl hb) hq

theorem catN2 (a : S1024x512.Idx → α) (b : S1024x64.Idx → α) (c : S1024x64.Idx → α) (d : S1024x64.Idx → α) (e : S1024x64.Idx → α) (k : Fin 1024) (q : Fin 768) (j : Fin 64)
    (hq : 576 + j.val = q.val) : concatenate S1024x768 1 [⟨S1024x512, a⟩, ⟨S1024x64, b⟩, ⟨S1024x64, c⟩, ⟨S1024x64, d⟩, ⟨S1024x64, e⟩] concatenates_S1024x512_S1024x64_S1024x64_S1024x64_S1024x64_S1024x768_d1 (ix2 k q) = c (ix2 k j) :=
  concatenate_apply_piece (t := S1024x768) 1 [⟨S1024x512, a⟩, ⟨S1024x64, b⟩, ⟨S1024x64, c⟩, ⟨S1024x64, d⟩, ⟨S1024x64, e⟩] _ (ix2 k q) 2 (show 2 < 5 by decide) S1024x64 c rfl rfl 576 rfl (ix2 k j)
    (fun b hb => match b with | ⟨0, _⟩ => rfl | ⟨1, _⟩ => absurd rfl hb) hq

theorem catN3 (a : S1024x512.Idx → α) (b : S1024x64.Idx → α) (c : S1024x64.Idx → α) (d : S1024x64.Idx → α) (e : S1024x64.Idx → α) (k : Fin 1024) (q : Fin 768) (j : Fin 64)
    (hq : 640 + j.val = q.val) : concatenate S1024x768 1 [⟨S1024x512, a⟩, ⟨S1024x64, b⟩, ⟨S1024x64, c⟩, ⟨S1024x64, d⟩, ⟨S1024x64, e⟩] concatenates_S1024x512_S1024x64_S1024x64_S1024x64_S1024x64_S1024x768_d1 (ix2 k q) = d (ix2 k j) :=
  concatenate_apply_piece (t := S1024x768) 1 [⟨S1024x512, a⟩, ⟨S1024x64, b⟩, ⟨S1024x64, c⟩, ⟨S1024x64, d⟩, ⟨S1024x64, e⟩] _ (ix2 k q) 3 (show 3 < 5 by decide) S1024x64 d rfl rfl 640 rfl (ix2 k j)
    (fun b hb => match b with | ⟨0, _⟩ => rfl | ⟨1, _⟩ => absurd rfl hb) hq

theorem catN4 (a : S1024x512.Idx → α) (b : S1024x64.Idx → α) (c : S1024x64.Idx → α) (d : S1024x64.Idx → α) (e : S1024x64.Idx → α) (k : Fin 1024) (q : Fin 768) (j : Fin 64)
    (hq : 704 + j.val = q.val) : concatenate S1024x768 1 [⟨S1024x512, a⟩, ⟨S1024x64, b⟩, ⟨S1024x64, c⟩, ⟨S1024x64, d⟩, ⟨S1024x64, e⟩] concatenates_S1024x512_S1024x64_S1024x64_S1024x64_S1024x64_S1024x768_d1 (ix2 k q) = e (ix2 k j) :=
  concatenate_apply_piece (t := S1024x768) 1 [⟨S1024x512, a⟩, ⟨S1024x64, b⟩, ⟨S1024x64, c⟩, ⟨S1024x64, d⟩, ⟨S1024x64, e⟩] _ (ix2 k q) 4 (show 4 < 5 by decide) S1024x64 e rfl rfl 704 rfl (ix2 k j)
    (fun b hb => match b with | ⟨0, _⟩ => rfl | ⟨1, _⟩ => absurd rfl hb) hq

theorem catT0 (a : S1024x512.Idx → α) (b : S1024x512.Idx → α) (c : S1024x256.Idx → α) (d : S1024x512.Idx → α) (e : S1024x64.Idx → α) (f : S1024x4.Idx → α) (g : S1024x12.Idx → α) (k : Fin 1024) (q : Fin 1872) (j : Fin 512)
    (hq : 0 + j.val = q.val) : concatenate S1024x1872 1 [⟨S1024x512, a⟩, ⟨S1024x512, b⟩, ⟨S1024x256, c⟩, ⟨S1024x512, d⟩, ⟨S1024x64, e⟩, ⟨S1024x4, f⟩, ⟨S1024x12, g⟩] concatenates_S1024x512_S1024x512_S1024x256_S1024x512_S1024x64_S1024x4_S1024x12_S1024x1872_d1 (ix2 k q) = a (ix2 k j) :=
  concatenate_apply_piece (t := S1024x1872) 1 [⟨S1024x512, a⟩, ⟨S1024x512, b⟩, ⟨S1024x256, c⟩, ⟨S1024x512, d⟩, ⟨S1024x64, e⟩, ⟨S1024x4, f⟩, ⟨S1024x12, g⟩] _ (ix2 k q) 0 (show 0 < 7 by decide) S1024x512 a rfl rfl 0 rfl (ix2 k j)
    (fun b hb => match b with | ⟨0, _⟩ => rfl | ⟨1, _⟩ => absurd rfl hb) hq

theorem catT1 (a : S1024x512.Idx → α) (b : S1024x512.Idx → α) (c : S1024x256.Idx → α) (d : S1024x512.Idx → α) (e : S1024x64.Idx → α) (f : S1024x4.Idx → α) (g : S1024x12.Idx → α) (k : Fin 1024) (q : Fin 1872) (j : Fin 512)
    (hq : 512 + j.val = q.val) : concatenate S1024x1872 1 [⟨S1024x512, a⟩, ⟨S1024x512, b⟩, ⟨S1024x256, c⟩, ⟨S1024x512, d⟩, ⟨S1024x64, e⟩, ⟨S1024x4, f⟩, ⟨S1024x12, g⟩] concatenates_S1024x512_S1024x512_S1024x256_S1024x512_S1024x64_S1024x4_S1024x12_S1024x1872_d1 (ix2 k q) = b (ix2 k j) :=
  concatenate_apply_piece (t := S1024x1872) 1 [⟨S1024x512, a⟩, ⟨S1024x512, b⟩, ⟨S1024x256, c⟩, ⟨S1024x512, d⟩, ⟨S1024x64, e⟩, ⟨S1024x4, f⟩, ⟨S1024x12, g⟩] _ (ix2 k q) 1 (show 1 < 7 by decide) S1024x512 b rfl rfl 512 rfl (ix2 k j)
    (fun b hb => match b with | ⟨0, _⟩ => rfl | ⟨1, _⟩ => absurd rfl hb) hq

theorem catT2 (a : S1024x512.Idx → α) (b : S1024x512.Idx → α) (c : S1024x256.Idx → α) (d : S1024x512.Idx → α) (e : S1024x64.Idx → α) (f : S1024x4.Idx → α) (g : S1024x12.Idx → α) (k : Fin 1024) (q : Fin 1872) (j : Fin 256)
    (hq : 1024 + j.val = q.val) : concatenate S1024x1872 1 [⟨S1024x512, a⟩, ⟨S1024x512, b⟩, ⟨S1024x256, c⟩, ⟨S1024x512, d⟩, ⟨S1024x64, e⟩, ⟨S1024x4, f⟩, ⟨S1024x12, g⟩] concatenates_S1024x512_S1024x512_S1024x256_S1024x512_S1024x64_S1024x4_S1024x12_S1024x1872_d1 (ix2 k q) = c (ix2 k j) :=
  concatenate_apply_piece (t := S1024x1872) 1 [⟨S1024x512, a⟩, ⟨S1024x512, b⟩, ⟨S1024x256, c⟩, ⟨S1024x512, d⟩, ⟨S1024x64, e⟩, ⟨S1024x4, f⟩, ⟨S1024x12, g⟩] _ (ix2 k q) 2 (show 2 < 7 by decide) S1024x256 c rfl rfl 1024 rfl (ix2 k j)
    (fun b hb => match b with | ⟨0, _⟩ => rfl | ⟨1, _⟩ => absurd rfl hb) hq

theorem catT3 (a : S1024x512.Idx → α) (b : S1024x512.Idx → α) (c : S1024x256.Idx → α) (d : S1024x512.Idx → α) (e : S1024x64.Idx → α) (f : S1024x4.Idx → α) (g : S1024x12.Idx → α) (k : Fin 1024) (q : Fin 1872) (j : Fin 512)
    (hq : 1280 + j.val = q.val) : concatenate S1024x1872 1 [⟨S1024x512, a⟩, ⟨S1024x512, b⟩, ⟨S1024x256, c⟩, ⟨S1024x512, d⟩, ⟨S1024x64, e⟩, ⟨S1024x4, f⟩, ⟨S1024x12, g⟩] concatenates_S1024x512_S1024x512_S1024x256_S1024x512_S1024x64_S1024x4_S1024x12_S1024x1872_d1 (ix2 k q) = d (ix2 k j) :=
  concatenate_apply_piece (t := S1024x1872) 1 [⟨S1024x512, a⟩, ⟨S1024x512, b⟩, ⟨S1024x256, c⟩, ⟨S1024x512, d⟩, ⟨S1024x64, e⟩, ⟨S1024x4, f⟩, ⟨S1024x12, g⟩] _ (ix2 k q) 3 (show 3 < 7 by decide) S1024x512 d rfl rfl 1280 rfl (ix2 k j)
    (fun b hb => match b with | ⟨0, _⟩ => rfl | ⟨1, _⟩ => absurd rfl hb) hq

theorem catT4 (a : S1024x512.Idx → α) (b : S1024x512.Idx → α) (c : S1024x256.Idx → α) (d : S1024x512.Idx → α) (e : S1024x64.Idx → α) (f : S1024x4.Idx → α) (g : S1024x12.Idx → α) (k : Fin 1024) (q : Fin 1872) (j : Fin 64)
    (hq : 1792 + j.val = q.val) : concatenate S1024x1872 1 [⟨S1024x512, a⟩, ⟨S1024x512, b⟩, ⟨S1024x256, c⟩, ⟨S1024x512, d⟩, ⟨S1024x64, e⟩, ⟨S1024x4, f⟩, ⟨S1024x12, g⟩] concatenates_S1024x512_S1024x512_S1024x256_S1024x512_S1024x64_S1024x4_S1024x12_S1024x1872_d1 (ix2 k q) = e (ix2 k j) :=
  concatenate_apply_piece (t := S1024x1872) 1 [⟨S1024x512, a⟩, ⟨S1024x512, b⟩, ⟨S1024x256, c⟩, ⟨S1024x512, d⟩, ⟨S1024x64, e⟩, ⟨S1024x4, f⟩, ⟨S1024x12, g⟩] _ (ix2 k q) 4 (show 4 < 7 by decide) S1024x64 e rfl rfl 1792 rfl (ix2 k j)
    (fun b hb => match b with | ⟨0, _⟩ => rfl | ⟨1, _⟩ => absurd rfl hb) hq

theorem catT5 (a : S1024x512.Idx → α) (b : S1024x512.Idx → α) (c : S1024x256.Idx → α) (d : S1024x512.Idx → α) (e : S1024x64.Idx → α) (f : S1024x4.Idx → α) (g : S1024x12.Idx → α) (k : Fin 1024) (q : Fin 1872) (j : Fin 4)
    (hq : 1856 + j.val = q.val) : concatenate S1024x1872 1 [⟨S1024x512, a⟩, ⟨S1024x512, b⟩, ⟨S1024x256, c⟩, ⟨S1024x512, d⟩, ⟨S1024x64, e⟩, ⟨S1024x4, f⟩, ⟨S1024x12, g⟩] concatenates_S1024x512_S1024x512_S1024x256_S1024x512_S1024x64_S1024x4_S1024x12_S1024x1872_d1 (ix2 k q) = f (ix2 k j) :=
  concatenate_apply_piece (t := S1024x1872) 1 [⟨S1024x512, a⟩, ⟨S1024x512, b⟩, ⟨S1024x256, c⟩, ⟨S1024x512, d⟩, ⟨S1024x64, e⟩, ⟨S1024x4, f⟩, ⟨S1024x12, g⟩] _ (ix2 k q) 5 (show 5 < 7 by decide) S1024x4 f rfl rfl 1856 rfl (ix2 k j)
    (fun b hb => match b with | ⟨0, _⟩ => rfl | ⟨1, _⟩ => absurd rfl hb) hq

theorem catT6 (a : S1024x512.Idx → α) (b : S1024x512.Idx → α) (c : S1024x256.Idx → α) (d : S1024x512.Idx → α) (e : S1024x64.Idx → α) (f : S1024x4.Idx → α) (g : S1024x12.Idx → α) (k : Fin 1024) (q : Fin 1872) (j : Fin 12)
    (hq : 1860 + j.val = q.val) : concatenate S1024x1872 1 [⟨S1024x512, a⟩, ⟨S1024x512, b⟩, ⟨S1024x256, c⟩, ⟨S1024x512, d⟩, ⟨S1024x64, e⟩, ⟨S1024x4, f⟩, ⟨S1024x12, g⟩] concatenates_S1024x512_S1024x512_S1024x256_S1024x512_S1024x64_S1024x4_S1024x12_S1024x1872_d1 (ix2 k q) = g (ix2 k j) :=
  concatenate_apply_piece (t := S1024x1872) 1 [⟨S1024x512, a⟩, ⟨S1024x512, b⟩, ⟨S1024x256, c⟩, ⟨S1024x512, d⟩, ⟨S1024x64, e⟩, ⟨S1024x4, f⟩, ⟨S1024x12, g⟩] _ (ix2 k q) 6 (show 6 < 7 by decide) S1024x12 g rfl rfl 1860 rfl (ix2 k j)
    (fun b hb => match b with | ⟨0, _⟩ => rfl | ⟨1, _⟩ => absurd rfl hb) hq

theorem wn_ka (w : S1x1024x2500.Idx → EReal) (k : Fin 1024) (j : Fin 512) (q : Fin 768) (hq : q.val = 0 + j.val) :
    wn w (ix2 k q) = w (ix3 (0 : Fin 1) k (col 512 (by decide) j)) := by
  unfold wn partsN
  rw [truncf_apply]
  refine Eq.trans (catN0 _ _ _ _ _ k q j ?_) ?_
  · exact hq.symm
  · exact part_apply w 512 _ k j (by decide)

theorem wn_kb (w : S1x1024x2500.Idx → EReal) (k : Fin 1024) (j : Fin 128) (q : Fin 768) (hq : q.val = 512 + j.val) :
    wn w (ix2 k q) = w (ix3 (0 : Fin 1) k (two 2048 (by decide) j)) := by
  unfold wn partsN
  rw [truncf_apply]
  by_cases h : j.val < 64
  · refine Eq.trans (catN1 _ _ _ _ _ k q (⟨j.val, h⟩ : Fin 64) ?_) ?_
    · exact hq.symm
    · refine (part_apply (n := 64) w 2048 _ k _ (by decide)).trans (congrArg w ?_)
      exact congrArg (ix3 (0 : Fin 1) k) (Fin.ext (show 2048 + j.val = 2048 + j.val % 64 by omega))
  · have h2 := j.isLt
    refine Eq.trans (catN2 _ _ _ _ _ k q (⟨j.val - 64, by omega⟩ : Fin 64) ?_) ?_
    · show 576 + (j.val - 64) = q.val; omega
    · refine (part_apply (n := 64) w 2048 _ k _ (by decide)).trans (congrArg w ?_)
      exact congrArg (ix3 (0 : Fin 1) k) (Fin.ext (show 2048 + (j.val - 64) = 2048 + j.val % 64 by omega))

theorem wn_ki (w : S1x1024x2500.Idx → EReal) (k : Fin 1024) (j : Fin 128) (q : Fin 768) (hq : q.val = 640 + j.val) :
    wn w (ix2 k q) = w (ix3 (0 : Fin 1) k (two 2432 (by decide) j)) := by
  unfold wn partsN
  rw [truncf_apply]
  by_cases h : j.val < 64
  · refine Eq.trans (catN3 _ _ _ _ _ k q (⟨j.val, h⟩ : Fin 64) ?_) ?_
    · exact hq.symm
    · refine (part_apply (n := 64) w 2432 _ k _ (by decide)).trans (congrArg w ?_)
      exact congrArg (ix3 (0 : Fin 1) k) (Fin.ext (show 2432 + j.val = 2432 + j.val % 64 by omega))
  · have h2 := j.isLt
    refine Eq.trans (catN4 _ _ _ _ _ k q (⟨j.val - 64, by omega⟩ : Fin 64) ?_) ?_
    · show 704 + (j.val - 64) = q.val; omega
    · refine (part_apply (n := 64) w 2432 _ k _ (by decide)).trans (congrArg w ?_)
      exact congrArg (ix3 (0 : Fin 1) k) (Fin.ext (show 2432 + (j.val - 64) = 2432 + j.val % 64 by omega))

theorem turn_apply (v : FVec Ideal S1024x1872 .f32) (j : Fin 1872) (k : Fin 1024) :
    transpose S1872x1024 [1, 0] v transposes_S1024x1872_S1872x1024_1_0 (ix2 j k) = v (ix2 k j) :=
  transpose_apply [1, 0] v _ (ix2 j k) (ix2 k j) fun b => match b with | ⟨0, _⟩ => rfl | ⟨1, _⟩ => rfl

theorem wt_qa (w : S1x1024x2500.Idx → EReal) (j : Fin 512) (k : Fin 1024) (q : Fin 1872) (hq : q.val = 0 + j.val) :
    wt w (ix2 q k) = w (ix3 (0 : Fin 1) k (col 0 (by decide) j)) * qs := by
  unfold wt partsT
  rw [truncf_apply, turn_apply]
  refine Eq.trans (catT0 _ _ _ _ _ _ _ k q j ?_) ?_
  · exact hq.symm
  · exact congrArg₂ (α := EReal) (β := EReal) (· * ·) (part_apply w 0 _ k j (by decide)) (broadcastInDim_scalar_apply _ _ _)

theorem wt_qb (w : S1x1024x2500.Idx → EReal) (j : Fin 512) (k : Fin 1024) (q : Fin 1872) (hq : q.val = 512 + j.val) :
    wt w (ix2 q k) = w (ix3 (0 : Fin 1) k (col 1536 (by decide) j)) * qs := by
  unfold wt partsT
  rw [truncf_apply, turn_apply]
  refine Eq.trans (catT1 _ _ _ _ _ _ _ k q j ?_) ?_
  · exact hq.symm
  · exact congrArg₂ (α := EReal) (β := EReal) (· * ·) (part_apply w 1536 _ k j (by decide)) (broadcastInDim_scalar_apply _ _ _)

theorem wt_qi (w : S1x1024x2500.Idx → EReal) (j : Fin 256) (k : Fin 1024) (q : Fin 1872) (hq : q.val = 1024 + j.val) :
    wt w (ix2 q k) = w (ix3 (0 : Fin 1) k (col 2176 (by decide) j)) := by
  unfold wt partsT
  rw [truncf_apply, turn_apply]
  refine Eq.trans (catT2 _ _ _ _ _ _ _ k q j ?_) ?_
  · exact hq.symm
  · exact part_apply w 2176 _ k j (by decide)

theorem wt_va (w : S1x1024x2500.Idx → EReal) (j : Fin 512) (k : Fin 1024) (q : Fin 1872) (hq : q.val = 1280 + j.val) :
    wt w (ix2 q k) = w (ix3 (0 : Fin 1) k (col 1024 (by decide) j)) := by
  unfold wt partsT
  rw [truncf_apply, turn_apply]
  refine Eq.trans (catT3 _ _ _ _ _ _ _ k q j ?_) ?_
  · exact hq.symm
  · exact part_apply w 1024 _ k j (by decide)

theorem wt_vb (w : S1x1024x2500.Idx → EReal) (j : Fin 64) (k : Fin 1024) (q : Fin 1872) (hq : q.val = 1792 + j.val) :
    wt w (ix2 q k) = w (ix3 (0 : Fin 1) k (col 2112 (by decide) j)) := by
  unfold wt partsT
  rw [truncf_apply, turn_apply]
  refine Eq.trans (catT4 _ _ _ _ _ _ _ k q j ?_) ?_
  · exact hq.symm
  · exact part_apply w 2112 _ k j (by decide)

theorem wt_wi (w : S1x1024x2500.Idx → EReal) (j : Fin 16) (k : Fin 1024) (q : Fin 1872) (hq : q.val = 1856 + j.val) :
    wt w (ix2 q k) = if h : j.val < 4 then w (ix3 (0 : Fin 1) k (col (n := 4) 2496 (by decide) ⟨j.val, h⟩)) * sixteenth else 0 := by
  unfold wt partsT
  rw [truncf_apply, turn_apply]
  by_cases h : j.val < 4
  · rw [dif_pos h]
    refine Eq.trans (catT5 _ _ _ _ _ _ _ k q (⟨j.val, h⟩ : Fin 4) ?_) ?_
    · exact hq.symm
    · exact congrArg₂ (α := EReal) (β := EReal) (· * ·) (part_apply (n := 4) w 2496 _ k _ (by decide)) (broadcastInDim_scalar_apply _ _ _)
  · rw [dif_neg h]
    have h2 := j.isLt
    refine Eq.trans (catT6 _ _ _ _ _ _ _ k q (⟨j.val - 4, by omega⟩ : Fin 12) ?_) ?_
    · show 1860 + (j.val - 4) = q.val; omega
    · exact Eq.trans (broadcastInDim_scalar_apply _ _ _) Ideal.ofBits_zero_f32

theorem blk_wn (c : Dev nD) (t : Fin cfg0.N) (k : Fin 1024) (q : Fin 768) :
    iblk m c 2 t (ix2 k q) = wn (args m c).w (ix2 k q) := by
  refine Eq.trans ?_ (congrFun (V_wn m c) (ix2 k q))
  show iblk m c 2 t _ = Gen.V m c main_v20 _
  blk_ext [iblk, idx2 t]

theorem blk_wt (c : Dev nD) (t : Fin cfg0.N) (q : Fin 1872) (k : Fin 1024) :
    iblk m c 3 t (ix2 q k) = wt (args m c).w (ix2 q k) := by
  refine Eq.trans ?_ (congrFun (V_wt m c) (ix2 q k))
  show iblk m c 3 t _ = Gen.V m c main_v21 _
  blk_ext [iblk, idx3 t]

end Cert.ProjIdeal.Hand

end

end
-- ==== Proof.ProjKernel.lean ====
module

public import proofs.«01_k».proof.Proof.ProjWeights

@[expose] public section
/-! # The input projection: the kernel's results -/

set_option maxRecDepth 16384

noncomputable section

namespace Cert.ProjIdeal.Hand

open Cert.ProjIdeal Cert.ProjIdeal.Gen Cert.ProjRow Idealize.ShloMosaic.TcCoe Idealize.ShloMosaic.ValueIdx
open Cert.MergeRow (vm norm sum_contr sixteenth)
open Cert.MergeIdeal.Hand (normV normV_apply same_cast)
open Idealize.ShloMosaic hiding ix1 ix2 ix3
open Idealize.SL.Sem Idealize.ShloMosaic.Pipeline

variable (m : (ℓ : Loc nD τ sig) → Buf (Elt Ideal) ℓ)

abbrev nrm (P0 : Vec Ideal S512x1024 .f32) (P1 : Vec Ideal S1x1024 .f32) : FVec Ideal S512x1024 .bf16 :=
  truncf .bf16 (normV (shapeCast S512x1024 P0 shapeCasts_S512x1024_S512x1024) P1) bitsLt_bf16_f32

/-! ## What a visit computes from what it loads -/

theorem pay3_apply (P0 : Vec Ideal S512x1024 .f32) (P1 : Vec Ideal S1x1024 .f32) (P2 : Vec Ideal S1024x512 .bf16) (i : Fin 512) (j : Fin 512) :
    k0_pay3 P0 P1 P2 (ix2 i j)
      = vm (norm (fun k => P0 (ix2 i k)) (fun k => P1 (ix2 (0 : Fin 1) k))) (fun k c => P2 (ix2 k c)) j := by
  show matmul dot_S512x1024_S1024x512_S512x512_1_0_0_1_n_n none (nrm P0 P1)
    (shapeCast S1024x512 P2 shapeCasts_S1024x512_S1024x512) (constant S512x512 .f32 0x00000000#32) (ix2 i j) = _
  refine (mm512 _ _ i j).trans ?_
  simp only [truncf_apply, normV_apply, same_cast]

theorem pay4_apply (P0 : Vec Ideal S512x1024 .f32) (P1 : Vec Ideal S1x1024 .f32) (P2 : Vec Ideal S1024x128 .bf16) (i : Fin 512) (j : Fin 128) :
    k0_pay4 P0 P1 P2 (ix2 i j)
      = vm (norm (fun k => P0 (ix2 i k)) (fun k => P1 (ix2 (0 : Fin 1) k))) (fun k c => P2 (ix2 k c)) j := by
  show matmul dot_S512x1024_S1024x128_S512x128_1_0_0_1_n_n none (nrm P0 P1)
    (shapeCast S1024x128 P2 shapeCasts_S1024x128_S1024x128) (constant S512x128 .f32 0x00000000#32) (ix2 i j) = _
  refine (mm128 _ _ i j).trans ?_
  simp only [truncf_apply, normV_apply, same_cast]

theorem pay5_apply (P0 : Vec Ideal S512x1024 .f32) (P1 : Vec Ideal S1x1024 .f32) (P2 : Vec Ideal S1024x128 .bf16) (i : Fin 512) (j : Fin 128) :
    k0_pay5 P0 P1 P2 (ix2 i j)
      = vm (norm (fun k => P0 (ix2 i k)) (fun k => P1 (ix2 (0 : Fin 1) k))) (fun k c => P2 (ix2 k c)) j := by
  show matmul dot_S512x1024_S1024x128_S512x128_1_0_0_1_n_n none (nrm P0 P1)
    (shapeCast S1024x128 P2 shapeCasts_S1024x128_S1024x128) (constant S512x128 .f32 0x00000000#32) (ix2 i j) = _
  refine (mm128 _ _ i j).trans ?_
  simp only [truncf_apply, normV_apply, same_cast]

/-- Column `p` of block `b` of the two that a visit writes. -/
abbrev at2 (b : Fin 2) (p : Fin 256) : Fin 512 := ⟨b.val * 256 + p.val, by have := b.isLt; have := p.isLt; omega⟩

theorem e7_apply (P0 : Vec Ideal S512x1024 .f32) (P1 : Vec Ideal S1x1024 .f32) (P2 : Vec Ideal S512x1024 .bf16) (b : Fin 2) (f : Fin 512) (p : Fin 256) :
    Value.E7 P0 P1 P2 (ix3 b f p)
      = ∑ k : Fin 1024, P2 (ix2 f k) * norm (fun k => P0 (ix2 (at2 b p) k)) (fun k => P1 (ix2 (0 : Fin 1) k)) k := by
  have e : Value.ix7_0 (ix3 b f p) = ix2 f (at2 b p) := funext fun a => match a with | ⟨0, _⟩ => rfl | ⟨1, _⟩ => rfl
  show k0_pay6 (nrm P0 P1) P2 (Value.ix7_0 (ix3 b f p)) = _
  rw [e]
  show matmul dot_S512x1024_S512x1024_S512x512_1_1_0_0_n_n none (shapeCast S512x1024 P2 shapeCasts_S512x1024_S512x1024) (nrm P0 P1)
    (constant S512x512 .f32 0x00000000#32) (ix2 f (at2 b p)) = _
  refine (nt512 _ _ f (at2 b p)).trans ?_
  simp only [truncf_apply, normV_apply, same_cast]

theorem e8_apply (P0 : Vec Ideal S512x1024 .f32) (P1 : Vec Ideal S1x1024 .f32) (P2 : Vec Ideal S512x1024 .bf16) (b : Fin 2) (f : Fin 512) (p : Fin 256) :
    Value.E8 P0 P1 P2 (ix3 b f p)
      = ∑ k : Fin 1024, P2 (ix2 f k) * norm (fun k => P0 (ix2 (at2 b p) k)) (fun k => P1 (ix2 (0 : Fin 1) k)) k := by
  have e : Value.ix8_0 (ix3 b f p) = ix2 f (at2 b p) := funext fun a => match a with | ⟨0, _⟩ => rfl | ⟨1, _⟩ => rfl
  show k0_pay9 (nrm P0 P1) P2 (Value.ix8_0 (ix3 b f p)) = _
  rw [e]
  show matmul dot_S512x1024_S512x1024_S512x512_1_1_0_0_n_n none (shapeCast S512x1024 P2 shapeCasts_S512x1024_S512x1024) (nrm P0 P1)
    (constant S512x512 .f32 0x00000000#32) (ix2 f (at2 b p)) = _
  refine (nt512 _ _ f (at2 b p)).trans ?_
  simp only [truncf_apply, normV_apply, same_cast]

theorem e9_apply (P0 : Vec Ideal S512x1024 .f32) (P1 : Vec Ideal S1x1024 .f32) (P2 : Vec Ideal S256x1024 .bf16) (b : Fin 2) (f : Fin 256) (p : Fin 256) :
    Value.E9 P0 P1 P2 (ix3 b f p)
      = ∑ k : Fin 1024, P2 (ix2 f k) * norm (fun k => P0 (ix2 (at2 b p) k)) (fun k => P1 (ix2 (0 : Fin 1) k)) k := by
  have e : Value.ix9_0 (ix3 b f p) = ix2 f (at2 b p) := funext fun a => match a with | ⟨0, _⟩ => rfl | ⟨1, _⟩ => rfl
  show k0_pay12 (nrm P0 P1) P2 (Value.ix9_0 (ix3 b f p)) = _
  rw [e]
  show matmul dot_S256x1024_S512x1024_S256x512_1_1_0_0_n_n none (shapeCast S256x1024 P2 shapeCasts_S256x1024_S256x1024) (nrm P0 P1)
    (constant S256x512 .f32 0x00000000#32) (ix2 f (at2 b p)) = _
  refine (nt256 _ _ f (at2 b p)).trans ?_
  simp only [truncf_apply, normV_apply, same_cast]

theorem e10_apply (P0 : Vec Ideal S512x1024 .f32) (P1 : Vec Ideal S1x1024 .f32) (P2 : Vec Ideal S512x1024 .bf16) (b : Fin 2) (f : Fin 512) (p : Fin 256) :
    Value.E10 P0 P1 P2 (ix3 b f p)
      = ∑ k : Fin 1024, P2 (ix2 f k) * norm (fun k => P0 (ix2 (at2 b p) k)) (fun k => P1 (ix2 (0 : Fin 1) k)) k := by
  have e : Value.ix10_0 (ix3 b f p) = ix2 f (at2 b p) := funext fun a => match a with | ⟨0, _⟩ => rfl | ⟨1, _⟩ => rfl
  show k0_pay15 (nrm P0 P1) P2 (Value.ix10_0 (ix3 b f p)) = _
  rw [e]
  show matmul dot_S512x1024_S512x1024_S512x512_1_1_0_0_n_n none (shapeCast S512x1024 P2 shapeCasts_S512x1024_S512x1024) (nrm P0 P1)
    (constant S512x512 .f32 0x00000000#32) (ix2 f (at2 b p)) = _
  refine (nt512 _ _ f (at2 b p)).trans ?_
  simp only [truncf_apply, normV_apply, same_cast]

theorem e11_apply (P0 : Vec Ideal S512x1024 .f32) (P1 : Vec Ideal S1x1024 .f32) (P2 : Vec Ideal S64x1024 .bf16) (b : Fin 2) (f : Fin 64) (p : Fin 256) :
    Value.E11 P0 P1 P2 (ix3 b f p)
      = ∑ k : Fin 1024, P2 (ix2 f k) * norm (fun k => P0 (ix2 (at2 b p) k)) (fun k => P1 (ix2 (0 : Fin 1) k)) k := by
  have e : Value.ix11_0 (ix3 b f p) = ix2 f (at2 b p) := funext fun a => match a with | ⟨0, _⟩ => rfl | ⟨1, _⟩ => rfl
  show k0_pay18 (nrm P0 P1) P2 (Value.ix11_0 (ix3 b f p)) = _
  rw [e]
  show matmul dot_S64x1024_S512x1024_S64x512_1_1_0_0_n_n none (shapeCast S64x1024 P2 shapeCasts_S64x1024_S64x1024) (nrm P0 P1)
    (constant S64x512 .f32 0x00000000#32) (ix2 f (at2 b p)) = _
  refine (nt64 _ _ f (at2 b p)).trans ?_
  simp only [truncf_apply, normV_apply, same_cast]

theorem pay1_apply (P0 : Vec Ideal S512x1024 .f32) (P1 : Vec Ideal S1x1024 .f32) (P2 : Vec Ideal S16x1024 .bf16) (f : Fin 16) (r : Fin 512) :
    k0_pay1 (k0_pay2 P0 P1) P2 (ix2 f r)
      = ∑ k : Fin 1024, P2 (ix2 f k) * norm (fun k => P0 (ix2 r k)) (fun k => P1 (ix2 (0 : Fin 1) k)) k := by
  show matmul dot_S16x1024_S512x1024_S16x512_1_1_0_0_n_n none (shapeCast S16x1024 P2 shapeCasts_S16x1024_S16x1024) (nrm P0 P1)
    (constant S16x512 .f32 0x00000000#32) (ix2 f r) = _
  refine (nt16 _ _ f r).trans ?_
  simp only [truncf_apply, normV_apply, same_cast]

/-! ## What a visit writes -/

theorem row_blk (c : Dev nD) (t : Fin cfg0.N) (i : Fin 512) :
    norm (fun k => iblk m c 0 t (ix2 i k)) (fun k => iblk m c 1 t (ix2 (0 : Fin 1) k)) = (args m c).row (blkRow t i) := by
  simp only [blk_x, blk_g]
  rfl

/-- Block `b` of the two that visit `t` writes. -/
abbrev blkB (t : Fin cfg0.N) (b : Fin 2) : Fin 256 := ⟨2 * t.val + b.val, by have h : t.val < 128 := t.isLt; have := b.isLt; omega⟩

theorem blkRow_at2 (t : Fin cfg0.N) (b : Fin 2) (p : Fin 256) : blkRow t (at2 b p) = blkTok (blkB t b) p :=
  Fin.ext (by show t.val * 512 + (b.val * 256 + p.val) = 256 * (2 * t.val + b.val) + p.val; omega)

theorem load4 (c : Dev nD) (t : Fin cfg0.N) (k : Fin 1024) (j : Fin 512) :
    View.ld (iblk m c 2 t) r0_2 (ix2 k j) = (args m c).w (ix3 (0 : Fin 1) k (col 512 (by decide) j)) :=
  (ld2 (iblk m c 2 t) k j).trans ((blk_wn m c t k _).trans (wn_ka (args m c).w k j _ rfl))

theorem tile4 (c : Dev nD) (t : Fin cfg0.N) (i : Fin 512) (j : Fin 512) :
    k0_pay3 (iblk m c 0 t) (iblk m c 1 t) (View.ld (iblk m c 2 t) r0_2) (ix2 i j)
      = (args m c).rows 512 (col 512 (by decide)) (ix2 (blkRow t i) j) := by
  refine (pay3_apply _ _ _ i j).trans ?_
  rw [row_blk]
  simp only [load4]
  rfl

theorem result4 (c : Dev nD) : (dats m 0 c).arrAt 4 cfg0.N = fun j => (args m c).rows 512 (col 512 (by decide)) j := by
  refine (dats m 0 c).arrAt_eq_of_covers 4 _ (by decide +kernel) fun t hf y => ?_
  blk_simp
  rw [after0_4]
  unfold_out out0_4
  simp only [ld0, ld1]
  obtain ⟨i, j, hy⟩ : ∃ (i : Fin 512) (j : Fin 512), y = ix2 i j := ⟨y (0 : Fin 2), y (1 : Fin 2), funext fun a => match a with | ⟨0, _⟩ => rfl | ⟨1, _⟩ => rfl⟩
  subst hy
  refine (congrFun (View.canon_cons_unit_lit _ _ _ (by decide)) _).trans ?_
  refine (tile4 m c t i j).trans (congrArg ((args m c).rows 512 (col 512 (by decide))) ?_)
  blk_ext [idx4 t]

theorem load5 (c : Dev nD) (t : Fin cfg0.N) (k : Fin 1024) (j : Fin 128) :
    View.ld (iblk m c 2 t) r0_4 (ix2 k j) = (args m c).w (ix3 (0 : Fin 1) k (two 2048 (by decide) j)) :=
  (ld4 (iblk m c 2 t) k j).trans ((blk_wn m c t k _).trans (wn_kb (args m c).w k j _ rfl))

theorem tile5 (c : Dev nD) (t : Fin cfg0.N) (i : Fin 512) (j : Fin 128) :
    k0_pay4 (iblk m c 0 t) (iblk m c 1 t) (View.ld (iblk m c 2 t) r0_4) (ix2 i j)
      = (args m c).rows 128 (two 2048 (by decide)) (ix2 (blkRow t i) j) := by
  refine (pay4_apply _ _ _ i j).trans ?_
  rw [row_blk]
  simp only [load5]
  rfl

theorem result5 (c : Dev nD) : (dats m 0 c).arrAt 5 cfg0.N = fun j => (args m c).rows 128 (two 2048 (by decide)) j := by
  refine (dats m 0 c).arrAt_eq_of_covers 5 _ (by decide +kernel) fun t hf y => ?_
  blk_simp
  rw [after0_5]
  unfold_out out0_5
  simp only [ld0, ld1]
  obtain ⟨i, j, hy⟩ : ∃ (i : Fin 512) (j : Fin 128), y = ix2 i j := ⟨y (0 : Fin 2), y (1 : Fin 2), funext fun a => match a with | ⟨0, _⟩ => rfl | ⟨1, _⟩ => rfl⟩
  subst hy
  refine (congrFun (View.canon_cons_unit_lit _ _ _ (by decide)) _).trans ?_
  refine (tile5 m c t i j).trans (congrArg ((args m c).rows 128 (two 2048 (by decide))) ?_)
  blk_ext [idx5 t]

theorem load6 (c : Dev nD) (t : Fin cfg0.N) (k : Fin 1024) (j : Fin 128) :
    View.ld (iblk m c 2 t) r0_6 (ix2 k j) = (args m c).w (ix3 (0 : Fin 1) k (two 2432 (by decide) j)) :=
  (ld6 (iblk m c 2 t) k j).trans ((blk_wn m c t k _).trans (wn_ki (args m c).w k j _ rfl))

theorem tile6 (c : Dev nD) (t : Fin cfg0.N) (i : Fin 512) (j : Fin 128) :
    k0_pay5 (iblk m c 0 t) (iblk m c 1 t) (View.ld (iblk m c 2 t) r0_6) (ix2 i j)
      = (args m c).rows 128 (two 2432 (by decide)) (ix2 (blkRow t i) j) := by
  refine (pay5_apply _ _ _ i j).trans ?_
  rw [row_blk]
  simp only [load6]
  rfl

theorem result6 (c : Dev nD) : (dats m 0 c).arrAt 6 cfg0.N = fun j => (args m c).rows 128 (two 2432 (by decide)) j := by
  refine (dats m 0 c).arrAt_eq_of_covers 6 _ (by decide +kernel) fun t hf y => ?_
  blk_simp
  rw [after0_6]
  unfold_out out0_6
  simp only [ld0, ld1]
  obtain ⟨i, j, hy⟩ : ∃ (i : Fin 512) (j : Fin 128), y = ix2 i j := ⟨y (0 : Fin 2), y (1 : Fin 2), funext fun a => match a with | ⟨0, _⟩ => rfl | ⟨1, _⟩ => rfl⟩
  subst hy
  refine (congrFun (View.canon_cons_unit_lit _ _ _ (by decide)) _).trans ?_
  refine (tile6 m c t i j).trans (congrArg ((args m c).rows 128 (two 2432 (by decide))) ?_)
  blk_ext [idx6 t]

theorem load7 (c : Dev nD) (t : Fin cfg0.N) (f : Fin 512) (k : Fin 1024) :
    View.ld (iblk m c 3 t) r0_7 (ix2 f k) = (args m c).w (ix3 (0 : Fin 1) k (col 0 (by decide) f)) * qs :=
  (ld7 (iblk m c 3 t) f k).trans ((blk_wt m c t _ k).trans (wt_qa (args m c).w f k _ rfl))

theorem tile7 (c : Dev nD) (t : Fin cfg0.N) (b : Fin 2) (f : Fin 512) (p : Fin 256) :
    Value.E7 (iblk m c 0 t) (iblk m c 1 t) (View.ld (iblk m c 3 t) r0_7) (ix3 b f p)
      = (args m c).cols 512 (col 0 (by decide)) (· * qs) (ix3 (blkB t b) f p) := by
  refine (e7_apply _ _ _ b f p).trans ?_
  rw [row_blk, blkRow_at2]
  simp only [load7]
  exact scaled_sum ((args m c).row (blkTok (blkB t b) p)) (fun k => (args m c).w (ix3 (0 : Fin 1) k (col 0 (by decide) f))) qs qs_nonneg qs_ne_top

theorem result7 (c : Dev nD) : (dats m 0 c).arrAt 7 cfg0.N = fun j => (args m c).cols 512 (col 0 (by decide)) (· * qs) j := by
  refine (dats m 0 c).arrAt_eq_of_covers 7 _ (by decide +kernel) fun t hf y => ?_
  blk_simp
  rw [after0_7]
  unfold_out out0_7
  simp only [ld0, ld1]
  obtain ⟨b, f, p, hy⟩ : ∃ (b : Fin 2) (f : Fin 512) (p : Fin 256), y = ix3 b f p := ⟨y (0 : Fin 3), y (1 : Fin 3), y (2 : Fin 3), funext fun a => match a with | ⟨0, _⟩ => rfl | ⟨1, _⟩ => rfl | ⟨2, _⟩ => rfl⟩
  subst hy
  refine (Value.canon7_eq (iblk m c 0 t) (iblk m c 1 t) (View.ld (iblk m c 3 t) r0_7) (ix3 b f p)).trans ?_
  refine (tile7 m c t b f p).trans (congrArg ((args m c).cols 512 (col 0 (by decide)) (· * qs)) ?_)
  blk_ext [idx7 t]
  show 2 * t.val + b.val = t.val * 2 + b.val
  omega

theorem load8 (c : Dev nD) (t : Fin cfg0.N) (f : Fin 512) (k : Fin 1024) :
    View.ld (iblk m c 3 t) r0_10 (ix2 f k) = (args m c).w (ix3 (0 : Fin 1) k (col 1536 (by decide) f)) * qs :=
  (ld10 (iblk m c 3 t) f k).trans ((blk_wt m c t _ k).trans (wt_qb (args m c).w f k _ rfl))

theorem tile8 (c : Dev nD) (t : Fin cfg0.N) (b : Fin 2) (f : Fin 512) (p : Fin 256) :
    Value.E8 (iblk m c 0 t) (iblk m c 1 t) (View.ld (iblk m c 3 t) r0_10) (ix3 b f p)
      = (args m c).cols 512 (col 1536 (by decide)) (· * qs) (ix3 (blkB t b) f p) := by
  refine (e8_apply _ _ _ b f p).trans ?_
  rw [row_blk, blkRow_at2]
  simp only [load8]
  exact scaled_sum ((args m c).row (blkTok (blkB t b) p)) (fun k => (args m c).w (ix3 (0 : Fin 1) k (col 1536 (by decide) f))) qs qs_nonneg qs_ne_top

theorem result8 (c : Dev nD) : (dats m 0 c).arrAt 8 cfg0.N = fun j => (args m c).cols 512 (col 1536 (by decide)) (· * qs) j := by
  refine (dats m 0 c).arrAt_eq_of_covers 8 _ (by decide +kernel) fun t hf y => ?_
  blk_simp
  rw [after0_8]
  unfold_out out0_8
  simp only [ld0, ld1]
  obtain ⟨b, f, p, hy⟩ : ∃ (b : Fin 2) (f : Fin 512) (p : Fin 256), y = ix3 b f p := ⟨y (0 : Fin 3), y (1 : Fin 3), y (2 : Fin 3), funext fun a => match a with | ⟨0, _⟩ => rfl | ⟨1, _⟩ => rfl | ⟨2, _⟩ => rfl⟩
  subst hy
  refine (Value.canon8_eq (iblk m c 0 t) (iblk m c 1 t) (View.ld (iblk m c 3 t) r0_10) (ix3 b f p)).trans ?_
  refine (tile8 m c t b f p).trans (congrArg ((args m c).cols 512 (col 1536 (by decide)) (· * qs)) ?_)
  blk_ext [idx8 t]
  show 2 * t.val + b.val = t.val * 2 + b.val
  omega

theorem load9 (c : Dev nD) (t : Fin cfg0.N) (f : Fin 256) (k : Fin 1024) :
    View.ld (iblk m c 3 t) r0_11 (ix2 f k) = (args m c).w (ix3 (0 : Fin 1) k (col 2176 (by decide) f)) :=
  (ld11 (iblk m c 3 t) f k).trans ((blk_wt m c t _ k).trans (wt_qi (args m c).w f k _ rfl))

theorem tile9 (c : Dev nD) (t : Fin cfg0.N) (b : Fin 2) (f : Fin 256) (p : Fin 256) :
    Value.E9 (iblk m c 0 t) (iblk m c 1 t) (View.ld (iblk m c 3 t) r0_11) (ix3 b f p)
      = (args m c).cols 256 (col 2176 (by decide)) id (ix3 (blkB t b) f p) := by
  refine (e9_apply _ _ _ b f p).trans ?_
  rw [row_blk, blkRow_at2]
  simp only [load9]
  exact plain_sum ((args m c).row (blkTok (blkB t b) p)) (fun k => (args m c).w (ix3 (0 : Fin 1) k (col 2176 (by decide) f)))

theorem result9 (c : Dev nD) : (dats m 0 c).arrAt 9 cfg0.N = fun j => (args m c).cols 256 (col 2176 (by decide)) id j := by
  refine (dats m 0 c).arrAt_eq_of_covers 9 _ (by decide +kernel) fun t hf y => ?_
  blk_simp
  rw [after0_9]
  unfold_out out0_9
  simp only [ld0, ld1]
  obtain ⟨b, f, p, hy⟩ : ∃ (b : Fin 2) (f : Fin 256) (p : Fin 256), y = ix3 b f p := ⟨y (0 : Fin 3), y (1 : Fin 3), y (2 : Fin 3), funext fun a => match a with | ⟨0, _⟩ => rfl | ⟨1, _⟩ => rfl | ⟨2, _⟩ => rfl⟩
  subst hy
  refine (Value.canon9_eq (iblk m c 0 t) (iblk m c 1 t) (View.ld (iblk m c 3 t) r0_11) (ix3 b f p)).trans ?_
  refine (tile9 m c t b f p).trans (congrArg ((args m c).cols 256 (col 2176 (by decide)) id) ?_)
  blk_ext [idx9 t]
  show 2 * t.val + b.val = t.val * 2 + b.val
  omega

theorem load10 (c : Dev nD) (t : Fin cfg0.N) (f : Fin 512) (k : Fin 1024) :
    View.ld (iblk m c 3 t) r0_14 (ix2 f k) = (args m c).w (ix3 (0 : Fin 1) k (col 1024 (by decide) f)) :=
  (ld14 (iblk m c 3 t) f k).trans ((blk_wt m c t _ k).trans (wt_va (args m c).w f k _ rfl))

theorem tile10 (c : Dev nD) (t : Fin cfg0.N) (b : Fin 2) (f : Fin 512) (p : Fin 256) :
    Value.E10 (iblk m c 0 t) (iblk m c 1 t) (View.ld (iblk m c 3 t) r0_14) (ix3 b f p)
      = (args m c).cols 512 (col 1024 (by decide)) id (ix3 (blkB t b) f p) := by
  refine (e10_apply _ _ _ b f p).trans ?_
  rw [row_blk, blkRow_at2]
  simp only [load10]
  exact plain_sum ((args m c).row (blkTok (blkB t b) p)) (fun k => (args m c).w (ix3 (0 : Fin 1) k (col 1024 (by decide) f)))

theorem result10 (c : Dev nD) : (dats m 0 c).arrAt 10 cfg0.N = fun j => (args m c).cols 512 (col 1024 (by decide)) id j := by
  refine (dats m 0 c).arrAt_eq_of_covers 10 _ (by decide +kernel) fun t hf y => ?_
  blk_simp
  rw [after0_10]
  unfold_out out0_10
  simp only [ld0, ld1]
  obtain ⟨b, f, p, hy⟩ : ∃ (b : Fin 2) (f : Fin 512) (p : Fin 256), y = ix3 b f p := ⟨y (0 : Fin 3), y (1 : Fin 3), y (2 : Fin 3), funext fun a => match a with | ⟨0, _⟩ => rfl | ⟨1, _⟩ => rfl | ⟨2, _⟩ => rfl⟩
  subst hy
  refine (Value.canon10_eq (iblk m c 0 t) (iblk m c 1 t) (View.ld (iblk m c 3 t) r0_14) (ix3 b f p)).trans ?_
  refine (tile10 m c t b f p).trans (congrArg ((args m c).cols 512 (col 1024 (by decide)) id) ?_)
  blk_ext [idx10 t]
  show 2 * t.val + b.val = t.val * 2 + b.val
  omega

theorem load11 (c : Dev nD) (t : Fin cfg0.N) (f : Fin 64) (k : Fin 1024) :
    View.ld (iblk m c 3 t) r0_15 (ix2 f k) = (args m c).w (ix3 (0 : Fin 1) k (col 2112 (by decide) f)) :=
  (ld15 (iblk m c 3 t) f k).trans ((blk_wt m c t _ k).trans (wt_vb (args m c).w f k _ rfl))

theorem tile11 (c : Dev nD) (t : Fin cfg0.N) (b : Fin 2) (f : Fin 64) (p : Fin 256) :
    Value.E11 (iblk m c 0 t) (iblk m c 1 t) (View.ld (iblk m c 3 t) r0_15) (ix3 b f p)
      = (args m c).cols 64 (col 2112 (by decide)) id (ix3 (blkB t b) f p) := by
  refine (e11_apply _ _ _ b f p).trans ?_
  rw [row_blk, blkRow_at2]
  simp only [load11]
  exact plain_sum ((args m c).row (blkTok (blkB t b) p)) (fun k => (args m c).w (ix3 (0 : Fin 1) k (col 2112 (by decide) f)))

theorem result11 (c : Dev nD) : (dats m 0 c).arrAt 11 cfg0.N = fun j => (args m c).cols 64 (col 2112 (by decide)) id j := by
  refine (dats m 0 c).arrAt_eq_of_covers 11 _ (by decide +kernel) fun t hf y => ?_
  blk_simp
  rw [after0_11]
  unfold_out out0_11
  simp only [ld0, ld1]
  obtain ⟨b, f, p, hy⟩ : ∃ (b : Fin 2) (f : Fin 64) (p : Fin 256), y = ix3 b f p := ⟨y (0 : Fin 3), y (1 : Fin 3), y (2 : Fin 3), funext fun a => match a with | ⟨0, _⟩ => rfl | ⟨1, _⟩ => rfl | ⟨2, _⟩ => rfl⟩
  subst hy
  refine (Value.canon11_eq (iblk m c 0 t) (iblk m c 1 t) (View.ld (iblk m c 3 t) r0_15) (ix3 b f p)).trans ?_
  refine (tile11 m c t b f p).trans (congrArg ((args m c).cols 64 (col 2112 (by decide)) id) ?_)
  blk_ext [idx11 t]
  show 2 * t.val + b.val = t.val * 2 + b.val
  omega

theorem wts_in (A : Args) (f : Fin 16) (r : Fin 65536) (h : f.val < 4) :
    A.wts (ix2 f r) = A.z r (col (n := 4) 2496 (by decide) ⟨f.val, h⟩) * sixteenth := by
  show (if h : f.val < 4 then A.z r (col (n := 4) 2496 (by decide) ⟨f.val, h⟩) * sixteenth else 0) = _
  rw [dif_pos h]

theorem wts_out (A : Args) (f : Fin 16) (r : Fin 65536) (h : ¬f.val < 4) : A.wts (ix2 f r) = 0 := by
  show (if h : f.val < 4 then A.z r (col (n := 4) 2496 (by decide) ⟨f.val, h⟩) * sixteenth else 0) = _
  rw [dif_neg h]

theorem load12 (c : Dev nD) (t : Fin cfg0.N) (f : Fin 16) (k : Fin 1024) :
    View.ld (iblk m c 3 t) r0_18 (ix2 f k)
      = if h : f.val < 4 then (args m c).w (ix3 (0 : Fin 1) k (col (n := 4) 2496 (by decide) ⟨f.val, h⟩)) * sixteenth else 0 :=
  (ld18 (iblk m c 3 t) f k).trans ((blk_wt m c t _ k).trans (wt_wi (args m c).w f k _ rfl))

theorem tile12 (c : Dev nD) (t : Fin cfg0.N) (f : Fin 16) (r : Fin 512) :
    k0_pay1 (k0_pay2 (iblk m c 0 t) (iblk m c 1 t)) (View.ld (iblk m c 3 t) r0_18) (ix2 f r) = (args m c).wts (ix2 f (blkRow t r)) := by
  refine (pay1_apply _ _ _ f r).trans ?_
  rw [row_blk]
  by_cases h : f.val < 4
  · simp only [load12, dif_pos h]
    refine (scaled_sum ((args m c).row (blkRow t r)) (fun k => (args m c).w (ix3 (0 : Fin 1) k (col (n := 4) 2496 (by decide) ⟨f.val, h⟩)))
      sixteenth Cert.MergeRow.sixteenth_nonneg Cert.MergeRow.sixteenth_ne_top).trans ?_
    exact (wts_in (args m c) f (blkRow t r) h).symm
  · simp only [load12, dif_neg h]
    refine (zero_sum _).trans ?_
    exact (wts_out (args m c) f (blkRow t r) h).symm

theorem result12 (c : Dev nD) : (dats m 0 c).arrAt 12 cfg0.N = fun j => (args m c).wts j := by
  refine (dats m 0 c).arrAt_eq_of_covers 12 _ (by decide +kernel) fun t hf y => ?_
  blk_simp
  rw [after0_12]
  unfold_out out0_12
  simp only [ld0, ld1]
  obtain ⟨f, r, hy⟩ : ∃ (f : Fin 16) (r : Fin 512), y = ix2 f r := ⟨y (0 : Fin 2), y (1 : Fin 2), funext fun a => match a with | ⟨0, _⟩ => rfl | ⟨1, _⟩ => rfl⟩
  subst hy
  refine (congrFun (View.canon_cons_unit_lit _ _ _ (by decide)) _).trans ?_
  refine (tile12 m c t f r).trans (congrArg (args m c).wts ?_)
  blk_ext [idx12 t]

end Cert.ProjIdeal.Hand

end

end
-- ==== Proof.ProjClaims.lean ====
module

public import proofs.«01_k».proof.Defs
public import proofs.«01_k».proof.Proof.ProjKernel
public import proofs.«01_k».proof.Proof.Gen.Proj.Frame
public import proofs.«01_k».proof.Proof.Gen.ProjReferenceIdeal.Run
public import Idealize.ShloMosaic.Lib.IdealHost
public import Idealize.ShloMosaic.Lib.KernelVsHost

@[expose] public section

/-! # The input projection: the reference, and the claims -/

set_option maxRecDepth 16384

noncomputable section

namespace Cert.ProjReferenceIdeal.Hand

open Cert.ProjReferenceIdeal Cert.ProjReferenceIdeal.Gen Cert.ProjRow Idealize.ShloMosaic.TcCoe Idealize.ShloMosaic.ValueIdx
open Cert.MergeRow (vm norm sum_contr len eps sixteenth)
open Idealize.ShloMosaic hiding ix0 ix1 ix2 ix3 ix4 ix5
open Idealize.SL.Sem

theorem dg (l : FVec Ideal S32x2048x1024 .f32) (r : FVec Ideal S1024x2500 .f32) (b : Fin 32) (s : Fin 2048) (c : Fin 2500) :
    Host.dotGeneral dot_S32x2048x1024_S1024x2500_S32x2048x2500_2_0_01_1_n_n none l r (ix3 b s c) = vm (fun k => l (ix3 b s k)) (fun k c => r (ix2 k c)) c := by
  simp only [Host.dotGeneral]
  exact (Ideal.dotGeneral_apply _ none _ l r _).trans
    (sum_contr _ 1024 rfl rfl _ (fun k => l (ix3 b s k) * r (ix2 k c)) fun k =>
      congrArg₂ (· * ·)
        (congrArg l (funext fun a => match a with | ⟨0, _⟩ => Fin.ext rfl | ⟨1, _⟩ => Fin.ext rfl | ⟨2, _⟩ => Fin.ext rfl))
        (congrArg r (funext fun a => match a with | ⟨0, _⟩ => Fin.ext rfl | ⟨1, _⟩ => Fin.ext rfl)))

variable {α : Type}

theorem gain_apply (v : S1x1024.Idx → α) (b : Fin 32) (s : Fin 2048) (c : Fin 1024) :
    broadcastInDim S32x2048x1024 ![0, 1, 2] bcast_S1x1x1024_S32x2048x1024_0_1_2
      (broadcastInDim S1x1x1024 ![2] bcast_S1024_S1x1x1024_2 (shapeCast S1024 v shapeCasts_S1x1024_S1024)) (ix3 b s c) = v (ix2 (0 : Fin 1) c) := by
  refine (broadcastInDim_apply _ _ _ _ (ix3 (0 : Fin 1) (0 : Fin 1) c) fun a => match a with | ⟨0, _⟩ => rfl | ⟨1, _⟩ => rfl | ⟨2, _⟩ => rfl).trans ?_
  refine (broadcastInDim_apply _ _ _ _ (ix1 c) fun a => match a with | ⟨0, _⟩ => rfl).trans ?_
  exact shapeCast_apply _ _ _ _ (by rw [Shape.rowMajor_val_two, Shape.rowMajor_val_one]; show 0 * 1024 + c.val = c.val; omega)

theorem spread_apply (v : S32x2048x1.Idx → α) (b : Fin 32) (s : Fin 2048) (c : Fin 1024) :
    broadcastInDim S32x2048x1024 ![0, 1, 2] bcast_S32x2048x1_S32x2048x1024_0_1_2 v (ix3 b s c) = v (ix3 b s (0 : Fin 1)) :=
  broadcastInDim_apply _ _ _ _ _ fun a => match a with | ⟨0, _⟩ => rfl | ⟨1, _⟩ => rfl | ⟨2, _⟩ => rfl

theorem unrow_apply (v : S32x2048.Idx → α) (b : Fin 32) (s : Fin 2048) :
    broadcastInDim S32x2048x1 ![0, 1] bcast_S32x2048_S32x2048x1_0_1 v (ix3 b s (0 : Fin 1)) = v (ix2 b s) :=
  broadcastInDim_apply _ _ _ _ _ fun a => match a with | ⟨0, _⟩ => rfl | ⟨1, _⟩ => rfl

theorem sheet_apply (v : S1x1024x2500.Idx → α) (i : Fin 1024) (j : Fin 2500) :
    shapeCast S1024x2500 v shapeCasts_S1x1024x2500_S1024x2500 (ix2 i j) = v (ix3 (0 : Fin 1) i j) :=
  shapeCast_apply _ _ _ _ (by rw [Shape.rowMajor_val_two, Shape.rowMajor_val_three]; show (0 * 1024 + i.val) * 2500 + j.val = i.val * 2500 + j.val; omega)

theorem join_apply (v : S32x2048x2500.Idx → α) (r : Fin 65536) (c : Fin 2500) :
    shapeCast S65536x2500 v shapeCasts_S32x2048x2500_S65536x2500 (ix2 r c) = v (ix3 (bat r) (tkn r) c) :=
  shapeCast_apply _ _ _ _ (by
    rw [Shape.rowMajor_val_two, Shape.rowMajor_val_three]
    show (r.val / 2048 * 2048 + r.val % 2048) * 2500 + c.val = r.val * 2500 + c.val
    omega)

theorem rowsum_apply (v : FVec Ideal S32x2048x1024 .f32) (b : Fin 32) (s : Fin 2048) :
    Host.reduceAdd v (constant S_ .f32 0x00000000#32) reducesTo_S32x2048x1024_S32x2048_d2 h_S_ (ix2 b s) = ∑ k : Fin 1024, v (ix3 b s k) := by
  have hr : S32x2048x1024.Reduces [2] S32x2048 := by decide
  rw [hostReduceAdd_apply, Ideal.hostReduceAdd_single _ hr]
  refine (congrArg (· + _) Ideal.ofBits_zero_f32).trans ((zero_add _).trans (Finset.sum_congr rfl fun k _ => congrArg v (funext fun a => match a with | ⟨0, _⟩ => Fin.ext rfl | ⟨1, _⟩ => Fin.ext rfl | ⟨2, _⟩ => Fin.ext rfl)))

/-- The stream over its root mean squares, times the gains. -/
def normR (x : FVec Ideal S32x2048x1024 .f32) (g : FVec Ideal S1x1024 .f32) : FVec Ideal S32x2048x1024 .f32 :=
  mulf (mulf x (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf x x) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![2] bcast_S1024_S1x1x1024_2 (shapeCast _ g shapeCasts_S1x1024_S1024)))

theorem normR_apply (x : FVec Ideal S32x2048x1024 .f32) (g : FVec Ideal S1x1024 .f32) (b : Fin 32) (s : Fin 2048) (c : Fin 1024) :
    normR x g (ix3 b s c) = norm (fun k => x (ix3 b s k)) (fun k => g (ix2 (0 : Fin 1) k)) c := by
  refine congrArg₂ (α := EReal) (β := EReal) (· * ·) (congrArg (x (ix3 b s c) * ·) ?_) (gain_apply g b s c)
  refine (spread_apply _ b s c).trans (congrArg Ideal.rsqrt (congrArg₂ (α := EReal) (β := EReal) (· + ·)
    (congrArg₂ Ideal.div ((unrow_apply _ b s).trans (rowsum_apply _ b s)) ?_) ?_))
  · exact broadcastInDim_scalar_apply _ _ _
  · exact broadcastInDim_scalar_apply _ _ _

/-- The stream's projection, all columns. -/
def Z (x : FVec Ideal S32x2048x1024 .f32) (g : FVec Ideal S1x1024 .f32) (w : FVec Ideal S1x1024x2500 .f32) : FVec Ideal S65536x2500 .f32 :=
  shapeCast S65536x2500 (Host.dotGeneral dot_S32x2048x1024_S1024x2500_S32x2048x2500_2_0_01_1_n_n none (normR x g) (shapeCast S1024x2500 w shapeCasts_S1x1024x2500_S1024x2500)) shapeCasts_S32x2048x2500_S65536x2500

theorem Z_apply (x : FVec Ideal S32x2048x1024 .f32) (g : FVec Ideal S1x1024 .f32) (w : FVec Ideal S1x1024x2500 .f32) (r : Fin 65536) (c : Fin 2500) : Z x g w (ix2 r c) = (Args.mk x g w).z r c := by
  unfold Z
  refine (join_apply _ r c).trans ((dg _ _ (bat r) (tkn r) c).trans ?_)
  simp only [normR_apply, sheet_apply]
  rfl

/-! ## The choices of columns -/

theorem cut_apply {n : ℕ} (v : S65536x2500.Idx → α) (o : ℕ) (h : S65536x2500.Slices ![0, o] (⟨2, ![65536, n]⟩ : Shape))
    (r : Fin 65536) (c : Fin n) (hc : o + n ≤ 2500) :
    extractStridedSlice (⟨2, ![65536, n]⟩ : Shape) ![0, o] v h (ix2 r c) = v (ix2 r (col o hc c)) :=
  extractStridedSlice_apply ![0, o] _ h (ix2 r c) (ix2 r (col o hc c)) fun a => match a with
    | ⟨0, _⟩ => by show r.val = 0 + r.val; omega
    | ⟨1, _⟩ => rfl

theorem pair0 (a b : S65536x64.Idx → α) (r : Fin 65536) (q : Fin 128) (j : Fin 64) (hq : 0 + j.val = q.val) :
    concatenate S65536x128 1 [⟨S65536x64, a⟩, ⟨S65536x64, b⟩] concatenates_S65536x64_S65536x64_S65536x128_d1 (ix2 r q) = a (ix2 r j) :=
  concatenate_apply_piece (t := S65536x128) 1 [⟨S65536x64, a⟩, ⟨S65536x64, b⟩] _ (ix2 r q) 0 (show 0 < 2 by decide) S65536x64 a rfl rfl 0 rfl (ix2 r j)
    (fun b hb => match b with | ⟨0, _⟩ => rfl | ⟨1, _⟩ => absurd rfl hb) hq

theorem pair1 (a b : S65536x64.Idx → α) (r : Fin 65536) (q : Fin 128) (j : Fin 64) (hq : 64 + j.val = q.val) :
    concatenate S65536x128 1 [⟨S65536x64, a⟩, ⟨S65536x64, b⟩] concatenates_S65536x64_S65536x64_S65536x128_d1 (ix2 r q) = b (ix2 r j) :=
  concatenate_apply_piece (t := S65536x128) 1 [⟨S65536x64, a⟩, ⟨S65536x64, b⟩] _ (ix2 r q) 1 (show 1 < 2 by decide) S65536x64 b rfl rfl 64 rfl (ix2 r j)
    (fun b hb => match b with | ⟨0, _⟩ => rfl | ⟨1, _⟩ => absurd rfl hb) hq

theorem blocks512 (v : S65536x512.Idx → α) (b : Fin 256) (f : Fin 512) (p : Fin 256) :
    transpose S256x512x256 [0, 2, 1] (shapeCast S256x256x512 v shapeCasts_S65536x512_S256x256x512) transposes_S256x256x512_S256x512x256_0_2_1 (ix3 b f p)
      = v (ix2 (blkTok b p) f) := by
  refine (transpose_apply [0, 2, 1] _ _ (ix3 b f p) (ix3 b p f) fun a => match a with | ⟨0, _⟩ => rfl | ⟨1, _⟩ => rfl | ⟨2, _⟩ => rfl).trans ?_
  refine shapeCast_apply _ _ _ _ ?_
  rw [Shape.rowMajor_val_two, Shape.rowMajor_val_three]
  show (256 * b.val + p.val) * 512 + f.val = (b.val * 256 + p.val) * 512 + f.val
  omega

theorem blocks256 (v : S65536x256.Idx → α) (b : Fin 256) (f : Fin 256) (p : Fin 256) :
    transpose S256x256x256 [0, 2, 1] (shapeCast S256x256x256 v shapeCasts_S65536x256_S256x256x256) transposes_S256x256x256_S256x256x256_0_2_1 (ix3 b f p)
      = v (ix2 (blkTok b p) f) := by
  refine (transpose_apply [0, 2, 1] _ _ (ix3 b f p) (ix3 b p f) fun a => match a with | ⟨0, _⟩ => rfl | ⟨1, _⟩ => rfl | ⟨2, _⟩ => rfl).trans ?_
  refine shapeCast_apply _ _ _ _ ?_
  rw [Shape.rowMajor_val_two, Shape.rowMajor_val_three]
  show (256 * b.val + p.val) * 256 + f.val = (b.val * 256 + p.val) * 256 + f.val
  omega

theorem blocks64 (v : S65536x64.Idx → α) (b : Fin 256) (f : Fin 64) (p : Fin 256) :
    transpose S256x64x256 [0, 2, 1] (shapeCast S256x256x64 v shapeCasts_S65536x64_S256x256x64) transposes_S256x256x64_S256x64x256_0_2_1 (ix3 b f p)
      = v (ix2 (blkTok b p) f) := by
  refine (transpose_apply [0, 2, 1] _ _ (ix3 b f p) (ix3 b p f) fun a => match a with | ⟨0, _⟩ => rfl | ⟨1, _⟩ => rfl | ⟨2, _⟩ => rfl).trans ?_
  refine shapeCast_apply _ _ _ _ ?_
  rw [Shape.rowMajor_val_two, Shape.rowMajor_val_three]
  show (256 * b.val + p.val) * 64 + f.val = (b.val * 256 + p.val) * 64 + f.val
  omega

/-! ## The nine results -/

theorem ref0 (x : FVec Ideal S32x2048x1024 .f32) (g : FVec Ideal S1x1024 .f32) (w : FVec Ideal S1x1024x2500 .f32) :
    (truncf .bf16 (extractStridedSlice S65536x512 ![0, 512] (Z x g w) slices_S65536x2500_S65536x512_0_512) bitsLt_bf16_f32 : FVec Ideal S65536x512 .bf16)
      = fun j => (Args.mk x g w).rows 512 (col 512 (by decide)) j := by
  funext y
  obtain ⟨r, j, rfl⟩ : ∃ (r : Fin 65536) (j : Fin 512), y = ix2 r j := ⟨y 0, y 1, funext fun a => match a with | ⟨0, _⟩ => rfl | ⟨1, _⟩ => rfl⟩
  exact (cut_apply _ 512 slices_S65536x2500_S65536x512_0_512 r j (by decide)).trans (Z_apply x g w r _)

theorem ref1 (x : FVec Ideal S32x2048x1024 .f32) (g : FVec Ideal S1x1024 .f32) (w : FVec Ideal S1x1024x2500 .f32) :
    (truncf .bf16 (concatenate S65536x128 1 [⟨S65536x64, extractStridedSlice S65536x64 ![0, 2048] (Z x g w) slices_S65536x2500_S65536x64_0_2048⟩, ⟨S65536x64, extractStridedSlice S65536x64 ![0, 2048] (Z x g w) slices_S65536x2500_S65536x64_0_2048⟩] concatenates_S65536x64_S65536x64_S65536x128_d1 : FVec Ideal S65536x128 .f32) bitsLt_bf16_f32 : FVec Ideal S65536x128 .bf16)
      = fun j => (Args.mk x g w).rows 128 (two 2048 (by decide)) j := by
  funext y
  obtain ⟨r, j, rfl⟩ : ∃ (r : Fin 65536) (j : Fin 128), y = ix2 r j := ⟨y 0, y 1, funext fun a => match a with | ⟨0, _⟩ => rfl | ⟨1, _⟩ => rfl⟩
  rw [truncf_apply]
  have h2 := j.isLt
  by_cases h : j.val < 64
  · refine (pair0 _ _ r j (⟨j.val, h⟩ : Fin 64) (by show 0 + j.val = j.val; omega)).trans ?_
    refine (cut_apply (n := 64) _ 2048 _ r _ (by decide)).trans ((Z_apply x g w r _).trans (congrArg ((Args.mk x g w).z r) (Fin.ext ?_)))
    show 2048 + j.val = 2048 + j.val % 64
    omega
  · refine (pair1 _ _ r j (⟨j.val - 64, by omega⟩ : Fin 64) (by show 64 + (j.val - 64) = j.val; omega)).trans ?_
    refine (cut_apply (n := 64) _ 2048 _ r _ (by decide)).trans ((Z_apply x g w r _).trans (congrArg ((Args.mk x g w).z r) (Fin.ext ?_)))
    show 2048 + (j.val - 64) = 2048 + j.val % 64
    omega

theorem ref2 (x : FVec Ideal S32x2048x1024 .f32) (g : FVec Ideal S1x1024 .f32) (w : FVec Ideal S1x1024x2500 .f32) :
    (truncf .bf16 (concatenate S65536x128 1 [⟨S65536x64, extractStridedSlice S65536x64 ![0, 2432] (Z x g w) slices_S65536x2500_S65536x64_0_2432⟩, ⟨S65536x64, extractStridedSlice S65536x64 ![0, 2432] (Z x g w) slices_S65536x2500_S65536x64_0_2432⟩] concatenates_S65536x64_S65536x64_S65536x128_d1 : FVec Ideal S65536x128 .f32) bitsLt_bf16_f32 : FVec Ideal S65536x128 .bf16)
      = fun j => (Args.mk x g w).rows 128 (two 2432 (by decide)) j := by
  funext y
  obtain ⟨r, j, rfl⟩ : ∃ (r : Fin 65536) (j : Fin 128), y = ix2 r j := ⟨y 0, y 1, funext fun a => match a with | ⟨0, _⟩ => rfl | ⟨1, _⟩ => rfl⟩
  rw [truncf_apply]
  have h2 := j.isLt
  by_cases h : j.val < 64
  · refine (pair0 _ _ r j (⟨j.val, h⟩ : Fin 64) (by show 0 + j.val = j.val; omega)).trans ?_
    refine (cut_apply (n := 64) _ 2432 _ r _ (by decide)).trans ((Z_apply x g w r _).trans (congrArg ((Args.mk x g w).z r) (Fin.ext ?_)))
    show 2432 + j.val = 2432 + j.val % 64
    omega
  · refine (pair1 _ _ r j (⟨j.val - 64, by omega⟩ : Fin 64) (by show 64 + (j.val - 64) = j.val; omega)).trans ?_
    refine (cut_apply (n := 64) _ 2432 _ r _ (by decide)).trans ((Z_apply x g w r _).trans (congrArg ((Args.mk x g w).z r) (Fin.ext ?_)))
    show 2432 + (j.val - 64) = 2432 + j.val % 64
    omega

theorem ref3 (x : FVec Ideal S32x2048x1024 .f32) (g : FVec Ideal S1x1024 .f32) (w : FVec Ideal S1x1024x2500 .f32) :
    (truncf .bf16 (transpose S256x512x256 [0, 2, 1] (shapeCast S256x256x512 (mulf (extractStridedSlice S65536x512 ![0, 0] (Z x g w) slices_S65536x2500_S65536x512_0_0) (broadcastInDim S65536x512 ![] bcast_S_S65536x512 (constant S_ .f32 0x3E38AA3B#32))) shapeCasts_S65536x512_S256x256x512) transposes_S256x256x512_S256x512x256_0_2_1 : FVec Ideal S256x512x256 .f32) bitsLt_bf16_f32 : FVec Ideal S256x512x256 .bf16)
      = fun j => (Args.mk x g w).cols 512 (col 0 (by decide)) (· * qs) j := by
  funext y
  obtain ⟨b, f, p, rfl⟩ : ∃ (b : Fin 256) (f : Fin 512) (p : Fin 256), y = ix3 b f p :=
    ⟨y 0, y 1, y 2, funext fun a => match a with | ⟨0, _⟩ => rfl | ⟨1, _⟩ => rfl | ⟨2, _⟩ => rfl⟩
  rw [truncf_apply]
  refine (blocks512 _ b f p).trans ?_
  exact congrArg₂ (α := EReal) (β := EReal) (· * ·) ((cut_apply _ 0 _ (blkTok b p) f (by decide)).trans (Z_apply x g w _ _)) (broadcastInDim_scalar_apply _ _ _)

theorem ref4 (x : FVec Ideal S32x2048x1024 .f32) (g : FVec Ideal S1x1024 .f32) (w : FVec Ideal S1x1024x2500 .f32) :
    (truncf .bf16 (transpose S256x512x256 [0, 2, 1] (shapeCast S256x256x512 (mulf (extractStridedSlice S65536x512 ![0, 1536] (Z x g w) slices_S65536x2500_S65536x512_0_1536) (broadcastInDim S65536x512 ![] bcast_S_S65536x512 (constant S_ .f32 0x3E38AA3B#32))) shapeCasts_S65536x512_S256x256x512) transposes_S256x256x512_S256x512x256_0_2_1 : FVec Ideal S256x512x256 .f32) bitsLt_bf16_f32 : FVec Ideal S256x512x256 .bf16)
      = fun j => (Args.mk x g w).cols 512 (col 1536 (by decide)) (· * qs) j := by
  funext y
  obtain ⟨b, f, p, rfl⟩ : ∃ (b : Fin 256) (f : Fin 512) (p : Fin 256), y = ix3 b f p :=
    ⟨y 0, y 1, y 2, funext fun a => match a with | ⟨0, _⟩ => rfl | ⟨1, _⟩ => rfl | ⟨2, _⟩ => rfl⟩
  rw [truncf_apply]
  refine (blocks512 _ b f p).trans ?_
  exact congrArg₂ (α := EReal) (β := EReal) (· * ·) ((cut_apply _ 1536 _ (blkTok b p) f (by decide)).trans (Z_apply x g w _ _)) (broadcastInDim_scalar_apply _ _ _)

theorem ref5 (x : FVec Ideal S32x2048x1024 .f32) (g : FVec Ideal S1x1024 .f32) (w : FVec Ideal S1x1024x2500 .f32) :
    (truncf .bf16 (transpose S256x256x256 [0, 2, 1] (shapeCast S256x256x256 (extractStridedSlice S65536x256 ![0, 2176] (Z x g w) slices_S65536x2500_S65536x256_0_2176) shapeCasts_S65536x256_S256x256x256) transposes_S256x256x256_S256x256x256_0_2_1 : FVec Ideal S256x256x256 .f32) bitsLt_bf16_f32 : FVec Ideal S256x256x256 .bf16)
      = fun j => (Args.mk x g w).cols 256 (col 2176 (by decide)) id j := by
  funext y
  obtain ⟨b, f, p, rfl⟩ : ∃ (b : Fin 256) (f : Fin 256) (p : Fin 256), y = ix3 b f p :=
    ⟨y 0, y 1, y 2, funext fun a => match a with | ⟨0, _⟩ => rfl | ⟨1, _⟩ => rfl | ⟨2, _⟩ => rfl⟩
  rw [truncf_apply]
  refine (blocks256 _ b f p).trans ?_
  exact (cut_apply _ 2176 _ (blkTok b p) f (by decide)).trans (Z_apply x g w _ _)

theorem ref6 (x : FVec Ideal S32x2048x1024 .f32) (g : FVec Ideal S1x1024 .f32) (w : FVec Ideal S1x1024x2500 .f32) :
    (truncf .bf16 (transpose S256x512x256 [0, 2, 1] (shapeCast S256x256x512 (extractStridedSlice S65536x512 ![0, 1024] (Z x g w) slices_S65536x2500_S65536x512_0_1024) shapeCasts_S65536x512_S256x256x512) transposes_S256x256x512_S256x512x256_0_2_1 : FVec Ideal S256x512x256 .f32) bitsLt_bf16_f32 : FVec Ideal S256x512x256 .bf16)
      = fun j => (Args.mk x g w).cols 512 (col 1024 (by decide)) id j := by
  funext y
  obtain ⟨b, f, p, rfl⟩ : ∃ (b : Fin 256) (f : Fin 512) (p : Fin 256), y = ix3 b f p :=
    ⟨y 0, y 1, y 2, funext fun a => match a with | ⟨0, _⟩ => rfl | ⟨1, _⟩ => rfl | ⟨2, _⟩ => rfl⟩
  rw [truncf_apply]
  refine (blocks512 _ b f p).trans ?_
  exact (cut_apply _ 1024 _ (blkTok b p) f (by decide)).trans (Z_apply x g w _ _)

theorem ref7 (x : FVec Ideal S32x2048x1024 .f32) (g : FVec Ideal S1x1024 .f32) (w : FVec Ideal S1x1024x2500 .f32) :
    (truncf .bf16 (transpose S256x64x256 [0, 2, 1] (shapeCast S256x256x64 (extractStridedSlice S65536x64 ![0, 2112] (Z x g w) slices_S65536x2500_S65536x64_0_2112) shapeCasts_S65536x64_S256x256x64) transposes_S256x256x64_S256x64x256_0_2_1 : FVec Ideal S256x64x256 .f32) bitsLt_bf16_f32 : FVec Ideal S256x64x256 .bf16)
      = fun j => (Args.mk x g w).cols 64 (col 2112 (by decide)) id j := by
  funext y
  obtain ⟨b, f, p, rfl⟩ : ∃ (b : Fin 256) (f : Fin 64) (p : Fin 256), y = ix3 b f p :=
    ⟨y 0, y 1, y 2, funext fun a => match a with | ⟨0, _⟩ => rfl | ⟨1, _⟩ => rfl | ⟨2, _⟩ => rfl⟩
  rw [truncf_apply]
  refine (blocks64 _ b f p).trans ?_
  exact (cut_apply _ 2112 _ (blkTok b p) f (by decide)).trans (Z_apply x g w _ _)

theorem ref8 (x : FVec Ideal S32x2048x1024 .f32) (g : FVec Ideal S1x1024 .f32) (w : FVec Ideal S1x1024x2500 .f32) :
    (transpose S16x65536 [1, 0] (pad S65536x16 ![0, 0] ![0, 12] ![0, 0] (mulf (extractStridedSlice S65536x4 ![0, 2496] (Z x g w) slices_S65536x2500_S65536x4_0_2496) (broadcastInDim S65536x4 ![] bcast_S_S65536x4 (constant S_ .f32 0x3D800000#32))) (sitofp .f32 (constantI S_ 32 0#32)) pads_S65536x4_S65536x16_000_0120 h_S_) transposes_S65536x16_S16x65536_1_0 : FVec Ideal S16x65536 .f32)
      = fun j => (Args.mk x g w).wts j := by
  funext y
  obtain ⟨f, r, rfl⟩ : ∃ (f : Fin 16) (r : Fin 65536), y = ix2 f r := ⟨y 0, y 1, funext fun a => match a with | ⟨0, _⟩ => rfl | ⟨1, _⟩ => rfl⟩
  refine (transpose_apply [1, 0] _ _ (ix2 f r) (ix2 r f) fun a => match a with | ⟨0, _⟩ => rfl | ⟨1, _⟩ => rfl).trans ?_
  by_cases h : f.val < 4
  · refine Eq.trans ?_ (dif_pos (c := f.val < 4) h).symm
    refine (pad_apply_of_inside ![0, 0] ![0, 12] ![0, 0] _ _ _ _ (ix2 r f) (ix2 r (⟨f.val, h⟩ : Fin 4)) fun a => match a with
      | ⟨0, _⟩ => by show r.val = 0 + r.val * (0 + 1); omega
      | ⟨1, _⟩ => by show f.val = 0 + f.val * (0 + 1); omega).trans ?_
    exact congrArg₂ (α := EReal) (β := EReal) (· * ·) ((cut_apply (n := 4) _ 2496 _ r _ (by decide)).trans (Z_apply x g w _ _)) (broadcastInDim_scalar_apply _ _ _)
  · refine Eq.trans ?_ (dif_neg (c := f.val < 4) h).symm
    refine (pad_apply_of_not_inside (s := S65536x4) ![0, 0] ![0, 12] ![0, 0] _ _ _ _ (ix2 r f) 1 ?_).trans ?_
    · show ¬ (0 ≤ f.val ∧ (f.val - 0) % (0 + 1) = 0 ∧ (f.val - 0) / (0 + 1) < 4)
      omega
    · show (((0#32 : BitVec 32).toInt : ℝ) : EReal) = 0
      simp

end Cert.ProjReferenceIdeal.Hand

namespace Cert.ProjIdeal.Hand

open Idealize.ShloMosaic Idealize.ShloMosaic.TcCoe Idealize.SL.Sem

theorem frame_proj : Cert.quiescent_Proj := fun m ρ _ => Cert.Proj.Gen.frame m ρ

theorem frame_projIdeal : Cert.quiescent_ProjIdeal := fun m ρ _ => Cert.ProjIdeal.Gen.frame m ρ

theorem frame_projReferenceIdeal : Cert.quiescent_ProjReferenceIdeal := fun m ρ _ =>
  (θ_run Cert.ProjReferenceIdeal.defs _ _).mono (fun r h => ⟨fun c => (h c).2.2.2.2.2.2.2.2.2, sem_eq_zero_of_no_sems (by decide) r.2⟩)
    (Cert.ProjReferenceIdeal.Value.run (F := Ideal) m ρ)

open Cert.ProjRow in
theorem algebraic_proj : Cert.algebraic_ProjIdeal_ProjReferenceIdeal := fun m ρ m' ρ' _ hag => by
  have hA : ∀ c : Dev Cert.ProjIdeal.nD, Cert.ProjRow.Args.mk (m' ((c.tc : Thread Cert.ProjReferenceIdeal.nD Cert.ProjReferenceIdeal.τ).loc Cert.ProjReferenceIdeal.main_arg0)) (m' ((c.tc : Thread Cert.ProjReferenceIdeal.nD Cert.ProjReferenceIdeal.τ).loc Cert.ProjReferenceIdeal.main_arg1)) (m' ((c.tc : Thread Cert.ProjReferenceIdeal.nD Cert.ProjReferenceIdeal.τ).loc Cert.ProjReferenceIdeal.main_arg2)) = args m c := fun c => by
    obtain ⟨h0, h1, h2⟩ := hag c
    exact (Cert.ProjRow.Args.mk.injEq ..).mpr ⟨h0, h1, h2⟩
  refine ⟨fun c => fun j => (args m c).rows 512 (col 512 (by decide)) j,
    fun c => fun j => (args m c).rows 128 (two 2048 (by decide)) j,
    fun c => fun j => (args m c).rows 128 (two 2432 (by decide)) j,
    fun c => fun j => (args m c).cols 512 (col 0 (by decide)) (· * Cert.ProjRow.qs) j,
    fun c => fun j => (args m c).cols 512 (col 1536 (by decide)) (· * Cert.ProjRow.qs) j,
    fun c => fun j => (args m c).cols 256 (col 2176 (by decide)) id j,
    fun c => fun j => (args m c).cols 512 (col 1024 (by decide)) id j,
    fun c => fun j => (args m c).cols 64 (col 2112 (by decide)) id j,
    fun c => fun j => (args m c).wts j,
    (θ_run Cert.ProjIdeal.defs _ _).mono (fun _ h c => ?_) (Cert.ProjIdeal.Value.run_blocks (F := Ideal) m ρ),
    (θ_run Cert.ProjReferenceIdeal.defs _ _).mono (fun _ h c => ?_) (Cert.ProjReferenceIdeal.Value.run (F := Ideal) m' ρ')⟩
  · obtain ⟨h0, h1, h2, h3, h4, h5, h6, h7, h8, hk⟩ := h c
    exact ⟨h0.trans (result4 m c), h1.trans (result5 m c), h2.trans (result6 m c), h3.trans (result7 m c), h4.trans (result8 m c), h5.trans (result9 m c), h6.trans (result10 m c), h7.trans (result11 m c), h8.trans (result12 m c), hk⟩
  · obtain ⟨h0, h1, h2, h3, h4, h5, h6, h7, h8, hk⟩ := h c
    refine ⟨?_, ?_, ?_, ?_, ?_, ?_, ?_, ?_, ?_, hk⟩
    · exact h0.trans ((Cert.ProjReferenceIdeal.Hand.ref0 (m' ((c.tc : Thread Cert.ProjReferenceIdeal.nD Cert.ProjReferenceIdeal.τ).loc Cert.ProjReferenceIdeal.main_arg0)) (m' ((c.tc : Thread Cert.ProjReferenceIdeal.nD Cert.ProjReferenceIdeal.τ).loc Cert.ProjReferenceIdeal.main_arg1)) (m' ((c.tc : Thread Cert.ProjReferenceIdeal.nD Cert.ProjReferenceIdeal.τ).loc Cert.ProjReferenceIdeal.main_arg2))).trans (congrArg (fun A : Cert.ProjRow.Args => fun j => A.rows 512 (col 512 (by decide)) j) (hA c)))
    · exact h1.trans ((Cert.ProjReferenceIdeal.Hand.ref1 (m' ((c.tc : Thread Cert.ProjReferenceIdeal.nD Cert.ProjReferenceIdeal.τ).loc Cert.ProjReferenceIdeal.main_arg0)) (m' ((c.tc : Thread Cert.ProjReferenceIdeal.nD Cert.ProjReferenceIdeal.τ).loc Cert.ProjReferenceIdeal.main_arg1)) (m' ((c.tc : Thread Cert.ProjReferenceIdeal.nD Cert.ProjReferenceIdeal.τ).loc Cert.ProjReferenceIdeal.main_arg2))).trans (congrArg (fun A : Cert.ProjRow.Args => fun j => A.rows 128 (two 2048 (by decide)) j) (hA c)))
    · exact h2.trans ((Cert.ProjReferenceIdeal.Hand.ref2 (m' ((c.tc : Thread Cert.ProjReferenceIdeal.nD Cert.ProjReferenceIdeal.τ).loc Cert.ProjReferenceIdeal.main_arg0)) (m' ((c.tc : Thread Cert.ProjReferenceIdeal.nD Cert.ProjReferenceIdeal.τ).loc Cert.ProjReferenceIdeal.main_arg1)) (m' ((c.tc : Thread Cert.ProjReferenceIdeal.nD Cert.ProjReferenceIdeal.τ).loc Cert.ProjReferenceIdeal.main_arg2))).trans (congrArg (fun A : Cert.ProjRow.Args => fun j => A.rows 128 (two 2432 (by decide)) j) (hA c)))
    · exact h3.trans ((Cert.ProjReferenceIdeal.Hand.ref3 (m' ((c.tc : Thread Cert.ProjReferenceIdeal.nD Cert.ProjReferenceIdeal.τ).loc Cert.ProjReferenceIdeal.main_arg0)) (m' ((c.tc : Thread Cert.ProjReferenceIdeal.nD Cert.ProjReferenceIdeal.τ).loc Cert.ProjReferenceIdeal.main_arg1)) (m' ((c.tc : Thread Cert.ProjReferenceIdeal.nD Cert.ProjReferenceIdeal.τ).loc Cert.ProjReferenceIdeal.main_arg2))).trans (congrArg (fun A : Cert.ProjRow.Args => fun j => A.cols 512 (col 0 (by decide)) (· * Cert.ProjRow.qs) j) (hA c)))
    · exact h4.trans ((Cert.ProjReferenceIdeal.Hand.ref4 (m' ((c.tc : Thread Cert.ProjReferenceIdeal.nD Cert.ProjReferenceIdeal.τ).loc Cert.ProjReferenceIdeal.main_arg0)) (m' ((c.tc : Thread Cert.ProjReferenceIdeal.nD Cert.ProjReferenceIdeal.τ).loc Cert.ProjReferenceIdeal.main_arg1)) (m' ((c.tc : Thread Cert.ProjReferenceIdeal.nD Cert.ProjReferenceIdeal.τ).loc Cert.ProjReferenceIdeal.main_arg2))).trans (congrArg (fun A : Cert.ProjRow.Args => fun j => A.cols 512 (col 1536 (by decide)) (· * Cert.ProjRow.qs) j) (hA c)))
    · exact h5.trans ((Cert.ProjReferenceIdeal.Hand.ref5 (m' ((c.tc : Thread Cert.ProjReferenceIdeal.nD Cert.ProjReferenceIdeal.τ).loc Cert.ProjReferenceIdeal.main_arg0)) (m' ((c.tc : Thread Cert.ProjReferenceIdeal.nD Cert.ProjReferenceIdeal.τ).loc Cert.ProjReferenceIdeal.main_arg1)) (m' ((c.tc : Thread Cert.ProjReferenceIdeal.nD Cert.ProjReferenceIdeal.τ).loc Cert.ProjReferenceIdeal.main_arg2))).trans (congrArg (fun A : Cert.ProjRow.Args => fun j => A.cols 256 (col 2176 (by decide)) id j) (hA c)))
    · exact h6.trans ((Cert.ProjReferenceIdeal.Hand.ref6 (m' ((c.tc : Thread Cert.ProjReferenceIdeal.nD Cert.ProjReferenceIdeal.τ).loc Cert.ProjReferenceIdeal.main_arg0)) (m' ((c.tc : Thread Cert.ProjReferenceIdeal.nD Cert.ProjReferenceIdeal.τ).loc Cert.ProjReferenceIdeal.main_arg1)) (m' ((c.tc : Thread Cert.ProjReferenceIdeal.nD Cert.ProjReferenceIdeal.τ).loc Cert.ProjReferenceIdeal.main_arg2))).trans (congrArg (fun A : Cert.ProjRow.Args => fun j => A.cols 512 (col 1024 (by decide)) id j) (hA c)))
    · exact h7.trans ((Cert.ProjReferenceIdeal.Hand.ref7 (m' ((c.tc : Thread Cert.ProjReferenceIdeal.nD Cert.ProjReferenceIdeal.τ).loc Cert.ProjReferenceIdeal.main_arg0)) (m' ((c.tc : Thread Cert.ProjReferenceIdeal.nD Cert.ProjReferenceIdeal.τ).loc Cert.ProjReferenceIdeal.main_arg1)) (m' ((c.tc : Thread Cert.ProjReferenceIdeal.nD Cert.ProjReferenceIdeal.τ).loc Cert.ProjReferenceIdeal.main_arg2))).trans (congrArg (fun A : Cert.ProjRow.Args => fun j => A.cols 64 (col 2112 (by decide)) id j) (hA c)))
    · exact h8.trans ((Cert.ProjReferenceIdeal.Hand.ref8 (m' ((c.tc : Thread Cert.ProjReferenceIdeal.nD Cert.ProjReferenceIdeal.τ).loc Cert.ProjReferenceIdeal.main_arg0)) (m' ((c.tc : Thread Cert.ProjReferenceIdeal.nD Cert.ProjReferenceIdeal.τ).loc Cert.ProjReferenceIdeal.main_arg1)) (m' ((c.tc : Thread Cert.ProjReferenceIdeal.nD Cert.ProjReferenceIdeal.τ).loc Cert.ProjReferenceIdeal.main_arg2))).trans (congrArg (fun A : Cert.ProjRow.Args => fun j => A.wts j) (hA c)))

end Cert.ProjIdeal.Hand

end

end
-- ==== Proof.lean ====
module

public import proofs.«01_k».proof.Defs
public import proofs.«01_k».proof.Proof.Dispatch
public import proofs.«01_k».proof.Proof.MergeClaims
public import proofs.«01_k».proof.Proof.ExpertsClaims
public import proofs.«01_k».proof.Proof.MemkvClaims
public import proofs.«01_k».proof.Proof.ProjClaims
public import proofs.«01_k».proof.Proof.Gen.Pre_slots_are_one_to_one
public import proofs.«01_k».proof.Proof.Gen.Kernel
public import proofs.«01_k».proof.Proof.Gen.KernelIdeal
public import proofs.«01_k».proof.Proof.Gen.Reference
public import proofs.«01_k».proof.Proof.Gen.Reference.Run
public import proofs.«01_k».proof.Proof.Gen.ReferenceIdeal
public import proofs.«01_k».proof.Proof.Gen.ReferenceIdeal.Run
public import proofs.«01_k».proof.Proof.Gen.Merge
public import proofs.«01_k».proof.Proof.Gen.Merge.Frame
public import proofs.«01_k».proof.Proof.Gen.MergeIdeal
public import proofs.«01_k».proof.Proof.Gen.MergeReferenceIdeal
public import proofs.«01_k».proof.Proof.Gen.MergeReferenceIdeal.Run
public import proofs.«01_k».proof.Proof.Gen.MergeIdeal.Value
public import proofs.«01_k».proof.Proof.Gen.Pre_blocks_have_experts
public import proofs.«01_k».proof.Proof.Gen.Experts
public import proofs.«01_k».proof.Proof.Gen.ExpertsIdeal
public import proofs.«01_k».proof.Proof.Gen.ExpertsReferenceIdeal
public import proofs.«01_k».proof.Proof.Gen.ExpertsReferenceIdeal.Run
public import proofs.«01_k».proof.Proof.Gen.Memkv
public import proofs.«01_k».proof.Proof.Gen.Memkv.Frame
public import proofs.«01_k».proof.Proof.Gen.MemkvIdeal
public import proofs.«01_k».proof.Proof.Gen.MemkvReferenceIdeal
public import proofs.«01_k».proof.Proof.Gen.MemkvReferenceIdeal.Run
public import proofs.«01_k».proof.Proof.Gen.MemkvIdeal.Value
public import proofs.«01_k».proof.Proof.Gen.Proj
public import proofs.«01_k».proof.Proof.Gen.Proj.Frame
public import proofs.«01_k».proof.Proof.Gen.ProjIdeal
public import proofs.«01_k».proof.Proof.Gen.ProjReferenceIdeal
public import proofs.«01_k».proof.Proof.Gen.ProjReferenceIdeal.Run
public import proofs.«01_k».proof.Proof.Gen.ProjIdeal.Value

@[expose] public section

/-! # The claim, from the modules -/

namespace Cert.Proof

open Cert.KernelIdeal.Hand Cert.MergeIdeal.Hand Cert.ExpertsIdeal.Hand Cert.MemkvIdeal.Hand Cert.ProjIdeal.Hand

theorem claim : Cert.Claim :=
  ⟨Cert.Kernel.Gen.facts, Cert.KernelIdeal.Gen.facts, Cert.ReferenceIdeal.Gen.facts, Cert.Reference.Gen.facts,
    Cert.Merge.Gen.facts, Cert.MergeIdeal.Gen.facts, Cert.MergeReferenceIdeal.Gen.facts,
    Cert.Experts.Gen.facts, Cert.ExpertsIdeal.Gen.facts, Cert.ExpertsReferenceIdeal.Gen.facts,
    Cert.Memkv.Gen.facts, Cert.MemkvIdeal.Gen.facts, Cert.MemkvReferenceIdeal.Gen.facts,
    Cert.Proj.Gen.facts, Cert.ProjIdeal.Gen.facts, Cert.ProjReferenceIdeal.Gen.facts,
    Cert.Pre_slots_are_one_to_one.Gen.facts, Cert.Pre_blocks_have_experts.Gen.facts,
    frame_kernel, frame_kernelIdeal, frame_referenceIdeal, frame_referenceIdeal_pre, frame_reference,
    frame_merge, frame_mergeIdeal, frame_mergeReferenceIdeal,
    frame_experts, frame_expertsIdeal, frame_expertsReferenceIdeal, frame_expertsReferenceIdeal_pre,
    frame_memkv, frame_memkvIdeal, frame_memkvReferenceIdeal,
    frame_proj, frame_projIdeal, frame_projReferenceIdeal,
    trivial, algebraic, bitexact, trivial, algebraic_merge, trivial, algebraic_experts, trivial, algebraic_memkv,
    trivial, algebraic_proj⟩

end Cert.Proof

end
